-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDh (m : (ℓ : Loc Cert.ProjDh.nD Cert.ProjDh.τ Cert.ProjDh.sig) → Buf (Elt Bits) ℓ) : Prop :=
  True

def Pre_ProjDhIdeal (m : (ℓ : Loc Cert.ProjDhIdeal.nD Cert.ProjDhIdeal.τ Cert.ProjDhIdeal.sig) → Buf (Elt Ideal) ℓ) : Prop :=
  True

def Pre_ProjDhRefIdeal (m : (ℓ : Loc Cert.ProjDhRefIdeal.nD Cert.ProjDhRefIdeal.τ Cert.ProjDhRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_GateDh (m : (ℓ : Loc Cert.GateDh.nD Cert.GateDh.τ Cert.GateDh.sig) → Buf (Elt Bits) ℓ) : Prop :=
  True

def Pre_GateDhIdeal (m : (ℓ : Loc Cert.GateDhIdeal.nD Cert.GateDhIdeal.τ Cert.GateDhIdeal.sig) → Buf (Elt Ideal) ℓ) : Prop :=
  True

def Pre_GateDhRefIdeal (m : (ℓ : Loc Cert.GateDhRefIdeal.nD Cert.GateDhRefIdeal.τ Cert.GateDhRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BranchDy (m : (ℓ : Loc Cert.BranchDy.nD Cert.BranchDy.τ Cert.BranchDy.sig) → Buf (Elt Bits) ℓ) : Prop :=
  True

def Pre_BranchDyIdeal (m : (ℓ : Loc Cert.BranchDyIdeal.nD Cert.BranchDyIdeal.τ Cert.BranchDyIdeal.sig) → Buf (Elt Ideal) ℓ) : Prop :=
  True

def Pre_BranchDyRefIdeal (m : (ℓ : Loc Cert.BranchDyRefIdeal.nD Cert.BranchDyRefIdeal.τ Cert.BranchDyRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ProjDh [hProjDh : Cert.ProjDh.Facts] : Prop :=
  ∀ (m : (ℓ : Loc Cert.ProjDh.nD Cert.ProjDh.τ Cert.ProjDh.sig) → Buf (Elt Bits) ℓ) (g : Dev Cert.ProjDh.nD → PrngReg), Pre_ProjDh m →
    θ_run (Cert.ProjDh.defs (F := Bits)) (onTc (τ := Cert.ProjDh.τ) (Cert.ProjDh.main (F := Bits))) ⟨m, fun _ => 0, g⟩ (fun r => (∀ c : Dev Cert.ProjDh.nD,
      r.2.mem ((c.tc : Thread Cert.ProjDh.nD Cert.ProjDh.τ).loc Cert.ProjDh.main_arg0) = m ((c.tc : Thread Cert.ProjDh.nD Cert.ProjDh.τ).loc Cert.ProjDh.main_arg0)
      ∧ r.2.mem ((c.tc : Thread Cert.ProjDh.nD Cert.ProjDh.τ).loc Cert.ProjDh.main_arg1) = m ((c.tc : Thread Cert.ProjDh.nD Cert.ProjDh.τ).loc Cert.ProjDh.main_arg1)
      ∧ r.2.mem ((c.tc : Thread Cert.ProjDh.nD Cert.ProjDh.τ).loc Cert.ProjDh.main_arg2) = m ((c.tc : Thread Cert.ProjDh.nD Cert.ProjDh.τ).loc Cert.ProjDh.main_arg2))
      ∧ r.2.sem = fun _ => 0)

def quiescent_ProjDhIdeal [hProjDhIdeal : Cert.ProjDhIdeal.Facts] : Prop :=
  ∀ (m : (ℓ : Loc Cert.ProjDhIdeal.nD Cert.ProjDhIdeal.τ Cert.ProjDhIdeal.sig) → Buf (Elt Ideal) ℓ) (g : Dev Cert.ProjDhIdeal.nD → PrngReg), Pre_ProjDhIdeal m →
    θ_run (Cert.ProjDhIdeal.defs (F := Ideal)) (onTc (τ := Cert.ProjDhIdeal.τ) (Cert.ProjDhIdeal.main (F := Ideal))) ⟨m, fun _ => 0, g⟩ (fun r => (∀ c : Dev Cert.ProjDhIdeal.nD,
      r.2.mem ((c.tc : Thread Cert.ProjDhIdeal.nD Cert.ProjDhIdeal.τ).loc Cert.ProjDhIdeal.main_arg0) = m ((c.tc : Thread Cert.ProjDhIdeal.nD Cert.ProjDhIdeal.τ).loc Cert.ProjDhIdeal.main_arg0)
      ∧ r.2.mem ((c.tc : Thread Cert.ProjDhIdeal.nD Cert.ProjDhIdeal.τ).loc Cert.ProjDhIdeal.main_arg1) = m ((c.tc : Thread Cert.ProjDhIdeal.nD Cert.ProjDhIdeal.τ).loc Cert.ProjDhIdeal.main_arg1)
      ∧ r.2.mem ((c.tc : Thread Cert.ProjDhIdeal.nD Cert.ProjDhIdeal.τ).loc Cert.ProjDhIdeal.main_arg2) = m ((c.tc : Thread Cert.ProjDhIdeal.nD Cert.ProjDhIdeal.τ).loc Cert.ProjDhIdeal.main_arg2))
      ∧ r.2.sem = fun _ => 0)

def quiescent_ProjDhRefIdeal [hProjDhRefIdeal : Cert.ProjDhRefIdeal.Facts] : Prop :=
  ∀ (m : (ℓ : Loc Cert.ProjDhRefIdeal.nD Cert.ProjDhRefIdeal.τ Cert.ProjDhRefIdeal.sig) → Buf (Elt Ideal) ℓ) (g : Dev Cert.ProjDhRefIdeal.nD → PrngReg), Pre_ProjDhRefIdeal m →
    θ_run (Cert.ProjDhRefIdeal.defs (F := Ideal)) (onTc (τ := Cert.ProjDhRefIdeal.τ) (Cert.ProjDhRefIdeal.main (F := Ideal))) ⟨m, fun _ => 0, g⟩ (fun r => (∀ c : Dev Cert.ProjDhRefIdeal.nD,
      r.2.mem ((c.tc : Thread Cert.ProjDhRefIdeal.nD Cert.ProjDhRefIdeal.τ).loc Cert.ProjDhRefIdeal.main_arg0) = m ((c.tc : Thread Cert.ProjDhRefIdeal.nD Cert.ProjDhRefIdeal.τ).loc Cert.ProjDhRefIdeal.main_arg0)
      ∧ r.2.mem ((c.tc : Thread Cert.ProjDhRefIdeal.nD Cert.ProjDhRefIdeal.τ).loc Cert.ProjDhRefIdeal.main_arg1) = m ((c.tc : Thread Cert.ProjDhRefIdeal.nD Cert.ProjDhRefIdeal.τ).loc Cert.ProjDhRefIdeal.main_arg1)
      ∧ r.2.mem ((c.tc : Thread Cert.ProjDhRefIdeal.nD Cert.ProjDhRefIdeal.τ).loc Cert.ProjDhRefIdeal.main_arg2) = m ((c.tc : Thread Cert.ProjDhRefIdeal.nD Cert.ProjDhRefIdeal.τ).loc Cert.ProjDhRefIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_GateDh [hGateDh : Cert.GateDh.Facts] : Prop :=
  ∀ (m : (ℓ : Loc Cert.GateDh.nD Cert.GateDh.τ Cert.GateDh.sig) → Buf (Elt Bits) ℓ) (g : Dev Cert.GateDh.nD → PrngReg), Pre_GateDh m →
    θ_run (Cert.GateDh.defs (F := Bits)) (onTc (τ := Cert.GateDh.τ) (Cert.GateDh.main (F := Bits))) ⟨m, fun _ => 0, g⟩ (fun r => (∀ c : Dev Cert.GateDh.nD,
      r.2.mem ((c.tc : Thread Cert.GateDh.nD Cert.GateDh.τ).loc Cert.GateDh.main_arg0) = m ((c.tc : Thread Cert.GateDh.nD Cert.GateDh.τ).loc Cert.GateDh.main_arg0)
      ∧ r.2.mem ((c.tc : Thread Cert.GateDh.nD Cert.GateDh.τ).loc Cert.GateDh.main_arg1) = m ((c.tc : Thread Cert.GateDh.nD Cert.GateDh.τ).loc Cert.GateDh.main_arg1))
      ∧ r.2.sem = fun _ => 0)

def quiescent_GateDhIdeal [hGateDhIdeal : Cert.GateDhIdeal.Facts] : Prop :=
  ∀ (m : (ℓ : Loc Cert.GateDhIdeal.nD Cert.GateDhIdeal.τ Cert.GateDhIdeal.sig) → Buf (Elt Ideal) ℓ) (g : Dev Cert.GateDhIdeal.nD → PrngReg), Pre_GateDhIdeal m →
    θ_run (Cert.GateDhIdeal.defs (F := Ideal)) (onTc (τ := Cert.GateDhIdeal.τ) (Cert.GateDhIdeal.main (F := Ideal))) ⟨m, fun _ => 0, g⟩ (fun r => (∀ c : Dev Cert.GateDhIdeal.nD,
      r.2.mem ((c.tc : Thread Cert.GateDhIdeal.nD Cert.GateDhIdeal.τ).loc Cert.GateDhIdeal.main_arg0) = m ((c.tc : Thread Cert.GateDhIdeal.nD Cert.GateDhIdeal.τ).loc Cert.GateDhIdeal.main_arg0)
      ∧ r.2.mem ((c.tc : Thread Cert.GateDhIdeal.nD Cert.GateDhIdeal.τ).loc Cert.GateDhIdeal.main_arg1) = m ((c.tc : Thread Cert.GateDhIdeal.nD Cert.GateDhIdeal.τ).loc Cert.GateDhIdeal.main_arg1))
      ∧ r.2.sem = fun _ => 0)

def quiescent_GateDhRefIdeal [hGateDhRefIdeal : Cert.GateDhRefIdeal.Facts] : Prop :=
  ∀ (m : (ℓ : Loc Cert.GateDhRefIdeal.nD Cert.GateDhRefIdeal.τ Cert.GateDhRefIdeal.sig) → Buf (Elt Ideal) ℓ) (g : Dev Cert.GateDhRefIdeal.nD → PrngReg), Pre_GateDhRefIdeal m →
    θ_run (Cert.GateDhRefIdeal.defs (F := Ideal)) (onTc (τ := Cert.GateDhRefIdeal.τ) (Cert.GateDhRefIdeal.main (F := Ideal))) ⟨m, fun _ => 0, g⟩ (fun r => (∀ c : Dev Cert.GateDhRefIdeal.nD,
      r.2.mem ((c.tc : Thread Cert.GateDhRefIdeal.nD Cert.GateDhRefIdeal.τ).loc Cert.GateDhRefIdeal.main_arg0) = m ((c.tc : Thread Cert.GateDhRefIdeal.nD Cert.GateDhRefIdeal.τ).loc Cert.GateDhRefIdeal.main_arg0)
      ∧ r.2.mem ((c.tc : Thread Cert.GateDhRefIdeal.nD Cert.GateDhRefIdeal.τ).loc Cert.GateDhRefIdeal.main_arg1) = m ((c.tc : Thread Cert.GateDhRefIdeal.nD Cert.GateDhRefIdeal.τ).loc Cert.GateDhRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_BranchDy [hBranchDy : Cert.BranchDy.Facts] : Prop :=
  ∀ (m : (ℓ : Loc Cert.BranchDy.nD Cert.BranchDy.τ Cert.BranchDy.sig) → Buf (Elt Bits) ℓ) (g : Dev Cert.BranchDy.nD → PrngReg), Pre_BranchDy m →
    θ_run (Cert.BranchDy.defs (F := Bits)) (onTc (τ := Cert.BranchDy.τ) (Cert.BranchDy.main (F := Bits))) ⟨m, fun _ => 0, g⟩ (fun r => (∀ c : Dev Cert.BranchDy.nD,
      r.2.mem ((c.tc : Thread Cert.BranchDy.nD Cert.BranchDy.τ).loc Cert.BranchDy.main_arg0) = m ((c.tc : Thread Cert.BranchDy.nD Cert.BranchDy.τ).loc Cert.BranchDy.main_arg0)
      ∧ r.2.mem ((c.tc : Thread Cert.BranchDy.nD Cert.BranchDy.τ).loc Cert.BranchDy.main_arg1) = m ((c.tc : Thread Cert.BranchDy.nD Cert.BranchDy.τ).loc Cert.BranchDy.main_arg1))
      ∧ r.2.sem = fun _ => 0)

def quiescent_BranchDyIdeal [hBranchDyIdeal : Cert.BranchDyIdeal.Facts] : Prop :=
  ∀ (m : (ℓ : Loc Cert.BranchDyIdeal.nD Cert.BranchDyIdeal.τ Cert.BranchDyIdeal.sig) → Buf (Elt Ideal) ℓ) (g : Dev Cert.BranchDyIdeal.nD → PrngReg), Pre_BranchDyIdeal m →
    θ_run (Cert.BranchDyIdeal.defs (F := Ideal)) (onTc (τ := Cert.BranchDyIdeal.τ) (Cert.BranchDyIdeal.main (F := Ideal))) ⟨m, fun _ => 0, g⟩ (fun r => (∀ c : Dev Cert.BranchDyIdeal.nD,
      r.2.mem ((c.tc : Thread Cert.BranchDyIdeal.nD Cert.BranchDyIdeal.τ).loc Cert.BranchDyIdeal.main_arg0) = m ((c.tc : Thread Cert.BranchDyIdeal.nD Cert.BranchDyIdeal.τ).loc Cert.BranchDyIdeal.main_arg0)
      ∧ r.2.mem ((c.tc : Thread Cert.BranchDyIdeal.nD Cert.BranchDyIdeal.τ).loc Cert.BranchDyIdeal.main_arg1) = m ((c.tc : Thread Cert.BranchDyIdeal.nD Cert.BranchDyIdeal.τ).loc Cert.BranchDyIdeal.main_arg1))
      ∧ r.2.sem = fun _ => 0)

def quiescent_BranchDyRefIdeal [hBranchDyRefIdeal : Cert.BranchDyRefIdeal.Facts] : Prop :=
  ∀ (m : (ℓ : Loc Cert.BranchDyRefIdeal.nD Cert.BranchDyRefIdeal.τ Cert.BranchDyRefIdeal.sig) → Buf (Elt Ideal) ℓ) (g : Dev Cert.BranchDyRefIdeal.nD → PrngReg), Pre_BranchDyRefIdeal m →
    θ_run (Cert.BranchDyRefIdeal.defs (F := Ideal)) (onTc (τ := Cert.BranchDyRefIdeal.τ) (Cert.BranchDyRefIdeal.main (F := Ideal))) ⟨m, fun _ => 0, g⟩ (fun r => (∀ c : Dev Cert.BranchDyRefIdeal.nD,
      r.2.mem ((c.tc : Thread Cert.BranchDyRefIdeal.nD Cert.BranchDyRefIdeal.τ).loc Cert.BranchDyRefIdeal.main_arg0) = m ((c.tc : Thread Cert.BranchDyRefIdeal.nD Cert.BranchDyRefIdeal.τ).loc Cert.BranchDyRefIdeal.main_arg0)
      ∧ r.2.mem ((c.tc : Thread Cert.BranchDyRefIdeal.nD Cert.BranchDyRefIdeal.τ).loc Cert.BranchDyRefIdeal.main_arg1) = m ((c.tc : Thread Cert.BranchDyRefIdeal.nD Cert.BranchDyRefIdeal.τ).loc Cert.BranchDyRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ProjDh_ProjDhIdeal : Prop :=
  True

def algebraic_ProjDhIdeal_ProjDhRefIdeal [hProjDhIdeal : Cert.ProjDhIdeal.Facts] [hProjDhRefIdeal : Cert.ProjDhRefIdeal.Facts] : Prop :=
  ∀ (m : (ℓ : Loc Cert.ProjDhIdeal.nD Cert.ProjDhIdeal.τ Cert.ProjDhIdeal.sig) → Buf (Elt Ideal) ℓ) (g : Dev Cert.ProjDhIdeal.nD → PrngReg)
    (m' : (ℓ : Loc Cert.ProjDhRefIdeal.nD Cert.ProjDhRefIdeal.τ Cert.ProjDhRefIdeal.sig) → Buf (Elt Ideal) ℓ) (g' : Dev Cert.ProjDhRefIdeal.nD → PrngReg), Pre_ProjDhIdeal m →
    (∀ c : Dev Cert.ProjDhIdeal.nD,
      m' ((c.tc : Thread Cert.ProjDhRefIdeal.nD Cert.ProjDhRefIdeal.τ).loc Cert.ProjDhRefIdeal.main_arg0) = m ((c.tc : Thread Cert.ProjDhIdeal.nD Cert.ProjDhIdeal.τ).loc Cert.ProjDhIdeal.main_arg0)
      ∧ m' ((c.tc : Thread Cert.ProjDhRefIdeal.nD Cert.ProjDhRefIdeal.τ).loc Cert.ProjDhRefIdeal.main_arg1) = m ((c.tc : Thread Cert.ProjDhIdeal.nD Cert.ProjDhIdeal.τ).loc Cert.ProjDhIdeal.main_arg1)
      ∧ m' ((c.tc : Thread Cert.ProjDhRefIdeal.nD Cert.ProjDhRefIdeal.τ).loc Cert.ProjDhRefIdeal.main_arg2) = m ((c.tc : Thread Cert.ProjDhIdeal.nD Cert.ProjDhIdeal.τ).loc Cert.ProjDhIdeal.main_arg2)) →
    ∃ (v0 : (c : Dev Cert.ProjDhIdeal.nD) → Buf (Elt Ideal) ((c.tc : Thread Cert.ProjDhIdeal.nD Cert.ProjDhIdeal.τ).loc Cert.ProjDhIdeal.main_v0)),
      θ_run (Cert.ProjDhIdeal.defs (F := Ideal)) (onTc (τ := Cert.ProjDhIdeal.τ) (Cert.ProjDhIdeal.main (F := Ideal))) ⟨m, fun _ => 0, g⟩ (fun r => ∀ c : Dev Cert.ProjDhIdeal.nD,
          r.2.mem ((c.tc : Thread Cert.ProjDhIdeal.nD Cert.ProjDhIdeal.τ).loc Cert.ProjDhIdeal.main_v0) = v0 c
          ∧ r.2.mem ((c.tc : Thread Cert.ProjDhIdeal.nD Cert.ProjDhIdeal.τ).loc Cert.ProjDhIdeal.main_arg0) = m ((c.tc : Thread Cert.ProjDhIdeal.nD Cert.ProjDhIdeal.τ).loc Cert.ProjDhIdeal.main_arg0)
          ∧ r.2.mem ((c.tc : Thread Cert.ProjDhIdeal.nD Cert.ProjDhIdeal.τ).loc Cert.ProjDhIdeal.main_arg1) = m ((c.tc : Thread Cert.ProjDhIdeal.nD Cert.ProjDhIdeal.τ).loc Cert.ProjDhIdeal.main_arg1)
          ∧ r.2.mem ((c.tc : Thread Cert.ProjDhIdeal.nD Cert.ProjDhIdeal.τ).loc Cert.ProjDhIdeal.main_arg2) = m ((c.tc : Thread Cert.ProjDhIdeal.nD Cert.ProjDhIdeal.τ).loc Cert.ProjDhIdeal.main_arg2))
      ∧ θ_run (Cert.ProjDhRefIdeal.defs (F := Ideal)) (onTc (τ := Cert.ProjDhRefIdeal.τ) (Cert.ProjDhRefIdeal.main (F := Ideal))) ⟨m', fun _ => 0, g'⟩ (fun r => ∀ c : Dev Cert.ProjDhRefIdeal.nD,
          r.2.mem ((c.tc : Thread Cert.ProjDhRefIdeal.nD Cert.ProjDhRefIdeal.τ).loc Cert.ProjDhRefIdeal.main_v5) = v0 c
          ∧ r.2.mem ((c.tc : Thread Cert.ProjDhRefIdeal.nD Cert.ProjDhRefIdeal.τ).loc Cert.ProjDhRefIdeal.main_arg0) = m' ((c.tc : Thread Cert.ProjDhRefIdeal.nD Cert.ProjDhRefIdeal.τ).loc Cert.ProjDhRefIdeal.main_arg0)
          ∧ r.2.mem ((c.tc : Thread Cert.ProjDhRefIdeal.nD Cert.ProjDhRefIdeal.τ).loc Cert.ProjDhRefIdeal.main_arg1) = m' ((c.tc : Thread Cert.ProjDhRefIdeal.nD Cert.ProjDhRefIdeal.τ).loc Cert.ProjDhRefIdeal.main_arg1)
          ∧ r.2.mem ((c.tc : Thread Cert.ProjDhRefIdeal.nD Cert.ProjDhRefIdeal.τ).loc Cert.ProjDhRefIdeal.main_arg2) = m' ((c.tc : Thread Cert.ProjDhRefIdeal.nD Cert.ProjDhRefIdeal.τ).loc Cert.ProjDhRefIdeal.main_arg2))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v6) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_GateDh_GateDhIdeal : Prop :=
  True

def algebraic_GateDhIdeal_GateDhRefIdeal [hGateDhIdeal : Cert.GateDhIdeal.Facts] [hGateDhRefIdeal : Cert.GateDhRefIdeal.Facts] : Prop :=
  ∀ (m : (ℓ : Loc Cert.GateDhIdeal.nD Cert.GateDhIdeal.τ Cert.GateDhIdeal.sig) → Buf (Elt Ideal) ℓ) (g : Dev Cert.GateDhIdeal.nD → PrngReg)
    (m' : (ℓ : Loc Cert.GateDhRefIdeal.nD Cert.GateDhRefIdeal.τ Cert.GateDhRefIdeal.sig) → Buf (Elt Ideal) ℓ) (g' : Dev Cert.GateDhRefIdeal.nD → PrngReg), Pre_GateDhIdeal m →
    (∀ c : Dev Cert.GateDhIdeal.nD,
      m' ((c.tc : Thread Cert.GateDhRefIdeal.nD Cert.GateDhRefIdeal.τ).loc Cert.GateDhRefIdeal.main_arg0) = m ((c.tc : Thread Cert.GateDhIdeal.nD Cert.GateDhIdeal.τ).loc Cert.GateDhIdeal.main_arg0)
      ∧ m' ((c.tc : Thread Cert.GateDhRefIdeal.nD Cert.GateDhRefIdeal.τ).loc Cert.GateDhRefIdeal.main_arg1) = m ((c.tc : Thread Cert.GateDhIdeal.nD Cert.GateDhIdeal.τ).loc Cert.GateDhIdeal.main_arg1)) →
    ∃ (v0 : (c : Dev Cert.GateDhIdeal.nD) → Buf (Elt Ideal) ((c.tc : Thread Cert.GateDhIdeal.nD Cert.GateDhIdeal.τ).loc Cert.GateDhIdeal.main_v0)),
      θ_run (Cert.GateDhIdeal.defs (F := Ideal)) (onTc (τ := Cert.GateDhIdeal.τ) (Cert.GateDhIdeal.main (F := Ideal))) ⟨m, fun _ => 0, g⟩ (fun r => ∀ c : Dev Cert.GateDhIdeal.nD,
          r.2.mem ((c.tc : Thread Cert.GateDhIdeal.nD Cert.GateDhIdeal.τ).loc Cert.GateDhIdeal.main_v0) = v0 c
          ∧ r.2.mem ((c.tc : Thread Cert.GateDhIdeal.nD Cert.GateDhIdeal.τ).loc Cert.GateDhIdeal.main_arg0) = m ((c.tc : Thread Cert.GateDhIdeal.nD Cert.GateDhIdeal.τ).loc Cert.GateDhIdeal.main_arg0)
          ∧ r.2.mem ((c.tc : Thread Cert.GateDhIdeal.nD Cert.GateDhIdeal.τ).loc Cert.GateDhIdeal.main_arg1) = m ((c.tc : Thread Cert.GateDhIdeal.nD Cert.GateDhIdeal.τ).loc Cert.GateDhIdeal.main_arg1))
      ∧ θ_run (Cert.GateDhRefIdeal.defs (F := Ideal)) (onTc (τ := Cert.GateDhRefIdeal.τ) (Cert.GateDhRefIdeal.main (F := Ideal))) ⟨m', fun _ => 0, g'⟩ (fun r => ∀ c : Dev Cert.GateDhRefIdeal.nD,
          r.2.mem ((c.tc : Thread Cert.GateDhRefIdeal.nD Cert.GateDhRefIdeal.τ).loc Cert.GateDhRefIdeal.main_v4) = v0 c
          ∧ r.2.mem ((c.tc : Thread Cert.GateDhRefIdeal.nD Cert.GateDhRefIdeal.τ).loc Cert.GateDhRefIdeal.main_arg0) = m' ((c.tc : Thread Cert.GateDhRefIdeal.nD Cert.GateDhRefIdeal.τ).loc Cert.GateDhRefIdeal.main_arg0)
          ∧ r.2.mem ((c.tc : Thread Cert.GateDhRefIdeal.nD Cert.GateDhRefIdeal.τ).loc Cert.GateDhRefIdeal.main_arg1) = m' ((c.tc : Thread Cert.GateDhRefIdeal.nD Cert.GateDhRefIdeal.τ).loc Cert.GateDhRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v13) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_BranchDy_BranchDyIdeal : Prop :=
  True

def algebraic_BranchDyIdeal_BranchDyRefIdeal [hBranchDyIdeal : Cert.BranchDyIdeal.Facts] [hBranchDyRefIdeal : Cert.BranchDyRefIdeal.Facts] : Prop :=
  ∀ (m : (ℓ : Loc Cert.BranchDyIdeal.nD Cert.BranchDyIdeal.τ Cert.BranchDyIdeal.sig) → Buf (Elt Ideal) ℓ) (g : Dev Cert.BranchDyIdeal.nD → PrngReg)
    (m' : (ℓ : Loc Cert.BranchDyRefIdeal.nD Cert.BranchDyRefIdeal.τ Cert.BranchDyRefIdeal.sig) → Buf (Elt Ideal) ℓ) (g' : Dev Cert.BranchDyRefIdeal.nD → PrngReg), Pre_BranchDyIdeal m →
    (∀ c : Dev Cert.BranchDyIdeal.nD,
      m' ((c.tc : Thread Cert.BranchDyRefIdeal.nD Cert.BranchDyRefIdeal.τ).loc Cert.BranchDyRefIdeal.main_arg0) = m ((c.tc : Thread Cert.BranchDyIdeal.nD Cert.BranchDyIdeal.τ).loc Cert.BranchDyIdeal.main_arg0)
      ∧ m' ((c.tc : Thread Cert.BranchDyRefIdeal.nD Cert.BranchDyRefIdeal.τ).loc Cert.BranchDyRefIdeal.main_arg1) = m ((c.tc : Thread Cert.BranchDyIdeal.nD Cert.BranchDyIdeal.τ).loc Cert.BranchDyIdeal.main_arg1)) →
    ∃ (v0 : (c : Dev Cert.BranchDyIdeal.nD) → Buf (Elt Ideal) ((c.tc : Thread Cert.BranchDyIdeal.nD Cert.BranchDyIdeal.τ).loc Cert.BranchDyIdeal.main_v0)),
      θ_run (Cert.BranchDyIdeal.defs (F := Ideal)) (onTc (τ := Cert.BranchDyIdeal.τ) (Cert.BranchDyIdeal.main (F := Ideal))) ⟨m, fun _ => 0, g⟩ (fun r => ∀ c : Dev Cert.BranchDyIdeal.nD,
          r.2.mem ((c.tc : Thread Cert.BranchDyIdeal.nD Cert.BranchDyIdeal.τ).loc Cert.BranchDyIdeal.main_v0) = v0 c
          ∧ r.2.mem ((c.tc : Thread Cert.BranchDyIdeal.nD Cert.BranchDyIdeal.τ).loc Cert.BranchDyIdeal.main_arg0) = m ((c.tc : Thread Cert.BranchDyIdeal.nD Cert.BranchDyIdeal.τ).loc Cert.BranchDyIdeal.main_arg0)
          ∧ r.2.mem ((c.tc : Thread Cert.BranchDyIdeal.nD Cert.BranchDyIdeal.τ).loc Cert.BranchDyIdeal.main_arg1) = m ((c.tc : Thread Cert.BranchDyIdeal.nD Cert.BranchDyIdeal.τ).loc Cert.BranchDyIdeal.main_arg1))
      ∧ θ_run (Cert.BranchDyRefIdeal.defs (F := Ideal)) (onTc (τ := Cert.BranchDyRefIdeal.τ) (Cert.BranchDyRefIdeal.main (F := Ideal))) ⟨m', fun _ => 0, g'⟩ (fun r => ∀ c : Dev Cert.BranchDyRefIdeal.nD,
          r.2.mem ((c.tc : Thread Cert.BranchDyRefIdeal.nD Cert.BranchDyRefIdeal.τ).loc Cert.BranchDyRefIdeal.main_v4) = v0 c
          ∧ r.2.mem ((c.tc : Thread Cert.BranchDyRefIdeal.nD Cert.BranchDyRefIdeal.τ).loc Cert.BranchDyRefIdeal.main_arg0) = m' ((c.tc : Thread Cert.BranchDyRefIdeal.nD Cert.BranchDyRefIdeal.τ).loc Cert.BranchDyRefIdeal.main_arg0)
          ∧ r.2.mem ((c.tc : Thread Cert.BranchDyRefIdeal.nD Cert.BranchDyRefIdeal.τ).loc Cert.BranchDyRefIdeal.main_arg1) = m' ((c.tc : Thread Cert.BranchDyRefIdeal.nD Cert.BranchDyRefIdeal.τ).loc Cert.BranchDyRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v6) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v6) = v0 c
          ∧ r.2.mem ((c.tc : Thread Cert.MergeRefIdeal.nD Cert.MergeRefIdeal.τ).loc Cert.MergeRefIdeal.main_v9) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v9_0)) (v1 : (c : Dev Cert.MergeBwdIdeal.nD) → Buf (Elt Ideal) ((c.tc : Thread Cert.MergeBwdIdeal.nD Cert.MergeBwdIdeal.τ).loc Cert.MergeBwdIdeal.main_v9_1)) (v2 : (c : Dev Cert.MergeBwdIdeal.nD) → Buf (Elt Ideal) ((c.tc : Thread Cert.MergeBwdIdeal.nD Cert.MergeBwdIdeal.τ).loc Cert.MergeBwdIdeal.main_v9_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v9_0) = v0 c
          ∧ r.2.mem ((c.tc : Thread Cert.MergeBwdIdeal.nD Cert.MergeBwdIdeal.τ).loc Cert.MergeBwdIdeal.main_v9_1) = v1 c
          ∧ r.2.mem ((c.tc : Thread Cert.MergeBwdIdeal.nD Cert.MergeBwdIdeal.τ).loc Cert.MergeBwdIdeal.main_v9_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v27) = v0 c
          ∧ r.2.mem ((c.tc : Thread Cert.MergeBwdRefIdeal.nD Cert.MergeBwdRefIdeal.τ).loc Cert.MergeBwdRefIdeal.main_v28) = v1 c
          ∧ r.2.mem ((c.tc : Thread Cert.MergeBwdRefIdeal.nD Cert.MergeBwdRefIdeal.τ).loc Cert.MergeBwdRefIdeal.main_v30) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)) →
    ∃ (v0 : (c : Dev Cert.CombineIdeal.nD) → Buf (Elt Ideal) ((c.tc : Thread Cert.CombineIdeal.nD Cert.CombineIdeal.τ).loc Cert.CombineIdeal.main_v0_0)) (v1 : (c : Dev Cert.CombineIdeal.nD) → Buf (Elt Ideal) ((c.tc : Thread Cert.CombineIdeal.nD Cert.CombineIdeal.τ).loc Cert.CombineIdeal.main_v0_1)) (v2 : (c : Dev Cert.CombineIdeal.nD) → Buf (Elt Ideal) ((c.tc : Thread Cert.CombineIdeal.nD Cert.CombineIdeal.τ).loc Cert.CombineIdeal.main_v0_2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_0) = v0 c
          ∧ r.2.mem ((c.tc : Thread Cert.CombineIdeal.nD Cert.CombineIdeal.τ).loc Cert.CombineIdeal.main_v0_1) = v1 c
          ∧ r.2.mem ((c.tc : Thread Cert.CombineIdeal.nD Cert.CombineIdeal.τ).loc Cert.CombineIdeal.main_v0_2) = v2 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v20) = v0 c
          ∧ r.2.mem ((c.tc : Thread Cert.CombineRefIdeal.nD Cert.CombineRefIdeal.τ).loc Cert.CombineRefIdeal.main_v28) = v1 c
          ∧ r.2.mem ((c.tc : Thread Cert.CombineRefIdeal.nD Cert.CombineRefIdeal.τ).loc Cert.CombineRefIdeal.main_v35) = v2 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v39) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def Claim : Prop :=
  ∃ (hKernel : Cert.Kernel.Facts) (hKernelIdeal : Cert.KernelIdeal.Facts) (hReferenceIdeal : Cert.ReferenceIdeal.Facts) (hProjDw : Cert.ProjDw.Facts) (hProjDwIdeal : Cert.ProjDwIdeal.Facts) (hProjDwRefIdeal : Cert.ProjDwRefIdeal.Facts) (hProjDh : Cert.ProjDh.Facts) (hProjDhIdeal : Cert.ProjDhIdeal.Facts) (hProjDhRefIdeal : Cert.ProjDhRefIdeal.Facts) (hGateDw : Cert.GateDw.Facts) (hGateDwIdeal : Cert.GateDwIdeal.Facts) (hGateDwRefIdeal : Cert.GateDwRefIdeal.Facts) (hGateDh : Cert.GateDh.Facts) (hGateDhIdeal : Cert.GateDhIdeal.Facts) (hGateDhRefIdeal : Cert.GateDhRefIdeal.Facts) (hProj : Cert.Proj.Facts) (hProjIdeal : Cert.ProjIdeal.Facts) (hProjRefIdeal : Cert.ProjRefIdeal.Facts) (hGates : Cert.Gates.Facts) (hGatesIdeal : Cert.GatesIdeal.Facts) (hGatesRefIdeal : Cert.GatesRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hBranchDy : Cert.BranchDy.Facts) (hBranchDyIdeal : Cert.BranchDyIdeal.Facts) (hBranchDyRefIdeal : Cert.BranchDyRefIdeal.Facts) (hBranchDw : Cert.BranchDw.Facts) (hBranchDwIdeal : Cert.BranchDwIdeal.Facts) (hBranchDwRefIdeal : Cert.BranchDwRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hNorm : Cert.Norm.Facts) (hNormIdeal : Cert.NormIdeal.Facts) (hNormRefIdeal : Cert.NormRefIdeal.Facts) (hCombine : Cert.Combine.Facts) (hCombineIdeal : Cert.CombineIdeal.Facts) (hCombineRefIdeal : Cert.CombineRefIdeal.Facts) (hAdamSmall : Cert.AdamSmall.Facts) (hAdamSmallIdeal : Cert.AdamSmallIdeal.Facts) (hAdamSmallRefIdeal : Cert.AdamSmallRefIdeal.Facts) (hAdamConv : Cert.AdamConv.Facts) (hAdamConvIdeal : Cert.AdamConvIdeal.Facts) (hAdamConvRefIdeal : Cert.AdamConvRefIdeal.Facts) (hNormBwd : Cert.NormBwd.Facts) (hNormBwdIdeal : Cert.NormBwdIdeal.Facts) (hNormBwdRefIdeal : Cert.NormBwdRefIdeal.Facts) (hLossHead : Cert.LossHead.Facts) (hLossHeadIdeal : Cert.LossHeadIdeal.Facts) (hLossHeadRefIdeal : Cert.LossHeadRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDh (hProjDh := hProjDh)
    ∧ quiescent_ProjDhIdeal (hProjDhIdeal := hProjDhIdeal)
    ∧ quiescent_ProjDhRefIdeal (hProjDhRefIdeal := hProjDhRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_GateDh (hGateDh := hGateDh)
    ∧ quiescent_GateDhIdeal (hGateDhIdeal := hGateDhIdeal)
    ∧ quiescent_GateDhRefIdeal (hGateDhRefIdeal := hGateDhRefIdeal)
    ∧ quiescent_Proj (hProj := hProj)
    ∧ quiescent_ProjIdeal (hProjIdeal := hProjIdeal)
    ∧ quiescent_ProjRefIdeal (hProjRefIdeal := hProjRefIdeal)
    ∧ quiescent_Gates (hGates := hGates)
    ∧ quiescent_GatesIdeal (hGatesIdeal := hGatesIdeal)
    ∧ quiescent_GatesRefIdeal (hGatesRefIdeal := hGatesRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BranchDy (hBranchDy := hBranchDy)
    ∧ quiescent_BranchDyIdeal (hBranchDyIdeal := hBranchDyIdeal)
    ∧ quiescent_BranchDyRefIdeal (hBranchDyRefIdeal := hBranchDyRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Norm (hNorm := hNorm)
    ∧ quiescent_NormIdeal (hNormIdeal := hNormIdeal)
    ∧ quiescent_NormRefIdeal (hNormRefIdeal := hNormRefIdeal)
    ∧ quiescent_Combine (hCombine := hCombine)
    ∧ quiescent_CombineIdeal (hCombineIdeal := hCombineIdeal)
    ∧ quiescent_CombineRefIdeal (hCombineRefIdeal := hCombineRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjDw_ProjDwIdeal
    ∧ algebraic_ProjDwIdeal_ProjDwRefIdeal (hProjDwIdeal := hProjDwIdeal) (hProjDwRefIdeal := hProjDwRefIdeal)
    ∧ preserves_ProjDh_ProjDhIdeal
    ∧ algebraic_ProjDhIdeal_ProjDhRefIdeal (hProjDhIdeal := hProjDhIdeal) (hProjDhRefIdeal := hProjDhRefIdeal)
    ∧ preserves_GateDw_GateDwIdeal
    ∧ algebraic_GateDwIdeal_GateDwRefIdeal (hGateDwIdeal := hGateDwIdeal) (hGateDwRefIdeal := hGateDwRefIdeal)
    ∧ preserves_GateDh_GateDhIdeal
    ∧ algebraic_GateDhIdeal_GateDhRefIdeal (hGateDhIdeal := hGateDhIdeal) (hGateDhRefIdeal := hGateDhRefIdeal)
    ∧ preserves_Proj_ProjIdeal
    ∧ algebraic_ProjIdeal_ProjRefIdeal (hProjIdeal := hProjIdeal) (hProjRefIdeal := hProjRefIdeal)
    ∧ preserves_Gates_GatesIdeal
    ∧ algebraic_GatesIdeal_GatesRefIdeal (hGatesIdeal := hGatesIdeal) (hGatesRefIdeal := hGatesRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_BranchDy_BranchDyIdeal
    ∧ algebraic_BranchDyIdeal_BranchDyRefIdeal (hBranchDyIdeal := hBranchDyIdeal) (hBranchDyRefIdeal := hBranchDyRefIdeal)
    ∧ preserves_BranchDw_BranchDwIdeal
    ∧ algebraic_BranchDwIdeal_BranchDwRefIdeal (hBranchDwIdeal := hBranchDwIdeal) (hBranchDwRefIdeal := hBranchDwRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Norm_NormIdeal
    ∧ algebraic_NormIdeal_NormRefIdeal (hNormIdeal := hNormIdeal) (hNormRefIdeal := hNormRefIdeal)
    ∧ preserves_Combine_CombineIdeal
    ∧ algebraic_CombineIdeal_CombineRefIdeal (hCombineIdeal := hCombineIdeal) (hCombineRefIdeal := hCombineRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamConv_AdamConvIdeal
    ∧ algebraic_AdamConvIdeal_AdamConvRefIdeal (hAdamConvIdeal := hAdamConvIdeal) (hAdamConvRefIdeal := hAdamConvRefIdeal)
    ∧ preserves_NormBwd_NormBwdIdeal
    ∧ algebraic_NormBwdIdeal_NormBwdRefIdeal (hNormBwdIdeal := hNormBwdIdeal) (hNormBwdRefIdeal := hNormBwdRefIdeal)
    ∧ preserves_LossHead_LossHeadIdeal
    ∧ algebraic_LossHeadIdeal_LossHeadRefIdeal (hLossHeadIdeal := hLossHeadIdeal) (hLossHeadRefIdeal := hLossHeadRefIdeal)
-- ==== Pre_finite.lean ====
abbrev S8192x18432 : Shape := ⟨2, ![8192, 18432]⟩
abbrev S4x8192x1024 : Shape := ⟨3, ![4, 8192, 1024]⟩
abbrev S_ : Shape := ⟨0, ![]⟩

class Facts : Prop where
  bcast_S_S8192x18432 : S_.BroadcastsInDim S8192x18432 (![] : Fin 0 → Fin S8192x18432.rank)
  reducesTo_S8192x18432_S_d0_1 : S8192x18432.ReducesTo [0, 1] S_
  h_S_ : 0 < S_.numel
  bcast_S_S4x8192x1024 : S_.BroadcastsInDim S4x8192x1024 (![] : Fin 0 → Fin S4x8192x1024.rank)
  reducesTo_S4x8192x1024_S_d0_1_2 : S4x8192x1024.ReducesTo [0, 1, 2] S_

variable [Facts]

def fn {F : FTy → Type} [FloatOps F] (main_arg0 : FVec F S8192x18432 .f32) (main_arg1 : FVec F S4x8192x1024 .f32) : IVec S_ 1 :=
  let main_v0 : FVec F S8192x18432 .f32 := Host.absf main_arg0
  let main_cst : FVec F S_ .f32 := constant S_ .f32 0x7F800000#32
  let main_v1 : FVec F S8192x18432 .f32 := broadcastInDim S8192x18432 ![] bcast_S_S8192x18432 main_cst
  let main_v2 : IVec S8192x18432 1 := cmpf .olt main_v0 main_v1
  let main_c : IVec S_ 1 := constantI S_ 1 1#1
  let main_v3 : IVec S_ 1 := (fun x v => Host.reduce IntOp.andi x v reducesTo_S8192x18432_S_d0_1 h_S_) main_v2 main_c
  let main_v4 : FVec F S4x8192x1024 .f32 := Host.absf main_arg1
  let main_cst_0 : FVec F S_ .f32 := constant S_ .f32 0x7F800000#32
  let main_v5 : FVec F S4x8192x1024 .f32 := broadcastInDim S4x8192x1024 ![] bcast_S_S4x8192x1024 main_cst_0
  let main_v6 : IVec S4x8192x1024 1 := cmpf .olt main_v4 main_v5
  let main_c_1 : IVec S_ 1 := constantI S_ 1 1#1
  let main_v7 : IVec S_ 1 := (fun x v => Host.reduce IntOp.andi x v reducesTo_S4x8192x1024_S_d0_1_2 h_S_) main_v6 main_c_1
  let main_v8 : IVec S_ 1 := andi main_v3 main_v7
  main_v8
-- ==== Kernel.lean ====
abbrev S8192x18432 : Shape := ⟨2, ![8192, 18432]⟩
abbrev S4x8192x1024 : Shape := ⟨3, ![4, 8192, 1024]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x64 : Shape := ⟨3, ![8, 8192, 64]⟩
abbrev S8192x8x64 : Shape := ⟨3, ![8192, 8, 64]⟩
abbrev S512x128 : Shape := ⟨2, ![512, 128]⟩
abbrev S8192x128 : Shape := ⟨2, ![8192, 128]⟩
abbrev S1x512x128 : Shape := ⟨3, ![1, 512, 128]⟩
abbrev S512x1024 : Shape := ⟨2, ![512, 1024]⟩
abbrev S256x256 : Shape := ⟨2, ![256, 256]⟩
abbrev S1024x128 : Shape := ⟨2, ![1024, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 81
  | .vmem => 21
  | .smem => 0
  | _ => 0

abbrev bufTy : (tb : Table) → Fin (tcTables nBuf tb) → BufTy
  | .hbm, ⟨0, _⟩ => ⟨S8192x18432, .f32⟩
  | .hbm, ⟨1, _⟩ => ⟨S4x8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x8x128, .f32⟩
  | .hbm, ⟨6, _⟩ => ⟨S8192x8x128, .f32⟩
  | .hbm, ⟨7, _⟩ => ⟨S8x8192x8192, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S8x8192x8192, .i1⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S_, .f32⟩
  | .hbm, ⟨53, _⟩ => ⟨S8x8192x8192, .i1⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S_, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S_, .f32⟩
  | .hbm, ⟨63, _⟩ => ⟨S_, .f32⟩
  | .hbm, ⟨64, _⟩ => ⟨S8x8192x8192, .i1⟩
  | .hbm, ⟨65, _⟩ => ⟨S8x8192x8192, .f32⟩
  | .hbm, ⟨66, _⟩ => ⟨S8x8192x8192, .f32⟩
  | .hbm, ⟨67, _⟩ => ⟨S8192x8x128, .f32⟩
  | .hbm, ⟨68, _⟩ => ⟨S8x128x8192, .f32⟩
  | .hbm, ⟨69, _⟩ => ⟨S8192x8x128, .f32⟩
  | .hbm, ⟨70, _⟩ => ⟨S8192x1024, .f32⟩
  | .hbm, ⟨71, _⟩ => ⟨S8x8192x64, .f32⟩
  | .hbm, ⟨72, _⟩ => ⟨S8192x8x64, .f32⟩
  | .hbm, ⟨73, _⟩ => ⟨S_, .i32⟩
  | .hbm, ⟨74, _⟩ => ⟨S_, .f32⟩
  | .hbm, ⟨75, _⟩ => ⟨S8192x8x128, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .bf16⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x128, .f32⟩
  | .local _ .vmem, ⟨11, _⟩ => ⟨S1x512x128, .f32⟩
  | .local _ .vmem, ⟨12, _⟩ => ⟨S512x128, .f32⟩
  | .local _ .vmem, ⟨13, _⟩ => ⟨S512x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S512x128, .bf16⟩
  | .local _ .vmem, ⟨19, _⟩ => ⟨S512x128, .bf16⟩
  | .local _ .vmem, ⟨20, _⟩ => ⟨S512x128, .f32⟩
  | _, _ => ⟨S8192x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v17 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v18 : Ref sig .tc := ⟨.hbm, 55, rfl⟩
abbrev main_call3_cst : Ref sig .tc := ⟨.hbm, 56, rfl⟩
abbrev main_call3_v0 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_c : Ref sig .tc := ⟨.hbm, 73, rfl⟩
abbrev main_call5_v0 : Ref sig .tc := ⟨.hbm, 74, rfl⟩
abbrev main_v30 : Ref sig .tc := ⟨.hbm, 75, rfl⟩
abbrev main_v31 : Ref sig .tc := ⟨.hbm, 76, rfl⟩
abbrev main_v32_0 : Ref sig .tc := ⟨.hbm, 77, rfl⟩
abbrev main_v32_1 : Ref sig .tc := ⟨.hbm, 78, rfl⟩
abbrev main_v32_2 : Ref sig .tc := ⟨.hbm, 79, rfl⟩
abbrev main_v32_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_90 : BitVec 32 := 0#32
  let arg1 : BitVec 32 := BitVec.ofNat 32 (i 1).val
  let c1_i32_75 : BitVec 32 := 1#32
  let v227 : BitVec 32 := Scalar.addi arg1 c1_i32_75
  let c512_i32_76 : BitVec 32 := 512#32
  let v228 : BitVec 32 := Scalar.muli v227 c512_i32_76
  let c1024_i32 : BitVec 32 := 1024#32
  let v229 : BitVec 32 := Scalar.addi v228 c1024_i32
  let c1_i32_77 : BitVec 32 := 1#32
  let v230 : BitVec 32 := Scalar.subi v229 c1_i32_77
  let c0_i32_79 : BitVec 32 := 0#32
  let v232 : BitVec 1 := Scalar.cmpi .sgt v230 c0_i32_79
  let v233 : BitVec 32 := Scalar.extui v232
  let c0_i32_80 : BitVec 32 := 0#32
  let v234 : BitVec 1 := Scalar.cmpi .slt v230 c0_i32_80
  let v235 : BitVec 32 := Scalar.extui v234
  let v236 : BitVec 32 := Scalar.subi v233 v235
  let c1024_i32_78 : BitVec 32 := 1024#32
  let c0_i32_81 : BitVec 32 := 0#32
  let v237 : BitVec 1 := Scalar.cmpi .sgt c1024_i32_78 c0_i32_81
  let v238 : BitVec 32 := Scalar.extui v237
  let c0_i32_82 : BitVec 32 := 0#32
  let v239 : BitVec 1 := Scalar.cmpi .slt c1024_i32_78 c0_i32_82
  let v240 : BitVec 32 := Scalar.extui v239
  let v241 : BitVec 32 := Scalar.subi v238 v240
  let v242 : BitVec 1 := Scalar.cmpi .ne v236 v241
  let v243 : BitVec 32 := Scalar.remsi v230 c1024_i32_78
  let c0_i32_83 : BitVec 32 := 0#32
  let v244 : BitVec 1 := Scalar.cmpi .ne v243 c0_i32_83
  let v245 : BitVec 1 := Scalar.andi v242 v244
  let v231 : BitVec 32 := Scalar.divsi v230 c1024_i32_78
  let c1_i32_84 : BitVec 32 := 1#32
  let v246 : BitVec 32 := Scalar.subi v231 c1_i32_84
  let v247 : BitVec 32 := Scalar.select v245 v246 v231
  let c1_i32_85 : BitVec 32 := 1#32
  let v248 : BitVec 32 := Scalar.subi v247 c1_i32_85
  let v253 : BitVec 32 := Scalar.subi v248 c0_i32_90
  let c1_i32_91 : BitVec 32 := 1#32
  let v255 : BitVec 32 := Scalar.divsi v253 c1_i32_91
  let v256 : BitVec 32 := Scalar.muli v255 c1_i32_91
  let v257 : BitVec 32 := Scalar.addi c0_i32_90 v256
  let c1_i32_92 : BitVec 32 := 1#32
  ⟨c0_i32_90, v257, c1_i32_92⟩
def k0_mult1 (i : grid0.Coords) (k0_t1 : Fin (k0_t1_loop i).trips) : BitVec 32 :=
  let c0_i32_90 : BitVec 32 := 0#32
  let c1_i32_92 : BitVec 32 := 1#32
  let arg14 : BitVec 32 := Scf.iv c0_i32_90 c1_i32_92 k0_t1
  let c1024_i32_103 : BitVec 32 := 1024#32
  let v269 : BitVec 32 := Scalar.muli arg14 c1024_i32_103
  v269
def k0_off1 (i : grid0.Coords) (k0_t1 : Fin (k0_t1_loop i).trips) : Fin 2 → Nat :=
  let c0_i32_90 : BitVec 32 := 0#32
  let c1_i32_92 : BitVec 32 := 1#32
  let arg14 : BitVec 32 := Scf.iv c0_i32_90 c1_i32_92 k0_t1
  let c1024_i32_103 : BitVec 32 := 1024#32
  let v269 : BitVec 32 := Scalar.muli arg14 c1024_i32_103
  let v270 : BitVec 32 := v269
  let v271 : Index := Scalar.indexCast v270
  let c0_104 : Index := 0#32
  ![v271.toNat, 0]
@[reducible] def k0_t2_loop (i : grid0.Coords) : Scf.Loop 32 :=
  let c0_i32_90 : BitVec 32 := 0#32
  let arg1 : BitVec 32 := BitVec.ofNat 32 (i 1).val
  let c1_i32_75 : BitVec 32 := 1#32
  let v227 : BitVec 32 := Scalar.addi arg1 c1_i32_75
  let c512_i32_76 : BitVec 32 := 512#32
  let v228 : BitVec 32 := Scalar.muli v227 c512_i32_76
  let c1024_i32 : BitVec 32 := 1024#32
  let v229 : BitVec 32 := Scalar.addi v228 c1024_i32
  let c1_i32_77 : BitVec 32 := 1#32
  let v230 : BitVec 32 := Scalar.subi v229 c1_i32_77
  let c0_i32_79 : BitVec 32 := 0#32
  let v232 : BitVec 1 := Scalar.cmpi .sgt v230 c0_i32_79
  let v233 : BitVec 32 := Scalar.extui v232
  let c0_i32_80 : BitVec 32 := 0#32
  let v234 : BitVec 1 := Scalar.cmpi .slt v230 c0_i32_80
  let v235 : BitVec 32 := Scalar.extui v234
  let v236 : BitVec 32 := Scalar.subi v233 v235
  let c1024_i32_78 : BitVec 32 := 1024#32
  let c0_i32_81 : BitVec 32 := 0#32
  let v237 : BitVec 1 := Scalar.cmpi .sgt c1024_i32_78 c0_i32_81
  let v238 : BitVec 32 := Scalar.extui v237
  let c0_i32_82 : BitVec 32 := 0#32
  let v239 : BitVec 1 := Scalar.cmpi .slt c1024_i32_78 c0_i32_82
  let v240 : BitVec 32 := Scalar.extui v239
  let v241 : BitVec 32 := Scalar.subi v238 v240
  let v242 : BitVec 1 := Scalar.cmpi .ne v236 v241
  let v243 : BitVec 32 := Scalar.remsi v230 c1024_i32_78
  let c0_i32_83 : BitVec 32 := 0#32
  let v244 : BitVec 1 := Scalar.cmpi .ne v243 c0_i32_83
  let v245 : BitVec 1 := Scalar.andi v242 v244
  let v231 : BitVec 32 := Scalar.divsi v230 c1024_i32_78
  let c1_i32_84 : BitVec 32 := 1#32
  let v246 : BitVec 32 := Scalar.subi v231 c1_i32_84
  let v247 : BitVec 32 := Scalar.select v245 v246 v231
  let c1_i32_85 : BitVec 32 := 1#32
  let v248 : BitVec 32 := Scalar.subi v247 c1_i32_85
  let v253 : BitVec 32 := Scalar.subi v248 c0_i32_90
  let c1_i32_91 : BitVec 32 := 1#32
  let v255 : BitVec 32 := Scalar.divsi v253 c1_i32_91
  let v256 : BitVec 32 := Scalar.muli v255 c1_i32_91
  let v257 : BitVec 32 := Scalar.addi c0_i32_90 v256
  let v254 : BitVec 32 := Scalar.addi c0_i32_90 v253
  let c1_i32_93 : BitVec 32 := 1#32
  ⟨v257, v254, c1_i32_93⟩
def k0_mult2 (i : grid0.Coords) (k0_t2 : Fin (k0_t2_loop i).trips) : BitVec 32 :=
  let c0_i32_90 : BitVec 32 := 0#32
  let arg1 : BitVec 32 := BitVec.ofNat 32 (i 1).val
  let c1_i32_75 : BitVec 32 := 1#32
  let v227 : BitVec 32 := Scalar.addi arg1 c1_i32_75
  let c512_i32_76 : BitVec 32 := 512#32
  let v228 : BitVec 32 := Scalar.muli v227 c512_i32_76
  let c1024_i32 : BitVec 32 := 1024#32
  let v229 : BitVec 32 := Scalar.addi v228 c1024_i32
  let c1_i32_77 : BitVec 32 := 1#32
  let v230 : BitVec 32 := Scalar.subi v229 c1_i32_77
  let c0_i32_79 : BitVec 32 := 0#32
  let v232 : BitVec 1 := Scalar.cmpi .sgt v230 c0_i32_79
  let v233 : BitVec 32 := Scalar.extui v232
  let c0_i32_80 : BitVec 32 := 0#32
  let v234 : BitVec 1 := Scalar.cmpi .slt v230 c0_i32_80
  let v235 : BitVec 32 := Scalar.extui v234
  let v236 : BitVec 32 := Scalar.subi v233 v235
  let c1024_i32_78 : BitVec 32 := 1024#32
  let c0_i32_81 : BitVec 32 := 0#32
  let v237 : BitVec 1 := Scalar.cmpi .sgt c1024_i32_78 c0_i32_81
  let v238 : BitVec 32 := Scalar.extui v237
  let c0_i32_82 : BitVec 32 := 0#32
  let v239 : BitVec 1 := Scalar.cmpi .slt c1024_i32_78 c0_i32_82
  let v240 : BitVec 32 := Scalar.extui v239
  let v241 : BitVec 32 := Scalar.subi v238 v240
  let v242 : BitVec 1 := Scalar.cmpi .ne v236 v241
  let v243 : BitVec 32 := Scalar.remsi v230 c1024_i32_78
  let c0_i32_83 : BitVec 32 := 0#32
  let v244 : BitVec 1 := Scalar.cmpi .ne v243 c0_i32_83
  let v245 : BitVec 1 := Scalar.andi v242 v244
  let v231 : BitVec 32 := Scalar.divsi v230 c1024_i32_78
  let c1_i32_84 : BitVec 32 := 1#32
  let v246 : BitVec 32 := Scalar.subi v231 c1_i32_84
  let v247 : BitVec 32 := Scalar.select v245 v246 v231
  let c1_i32_85 : BitVec 32 := 1#32
  let v248 : BitVec 32 := Scalar.subi v247 c1_i32_85
  let v253 : BitVec 32 := Scalar.subi v248 c0_i32_90
  let c1_i32_91 : BitVec 32 := 1#32
  let v255 : BitVec 32 := Scalar.divsi v253 c1_i32_91
  let v256 : BitVec 32 := Scalar.muli v255 c1_i32_91
  let v257 : BitVec 32 := Scalar.addi c0_i32_90 v256
  let c1_i32_93 : BitVec 32 := 1#32
  let arg14 : BitVec 32 := Scf.iv v257 c1_i32_93 k0_t2
  let c1024_i32_103 : BitVec 32 := 1024#32
  let v269 : BitVec 32 := Scalar.muli arg14 c1024_i32_103
  v269
def k0_off2 (i : grid0.Coords) (k0_t2 : Fin (k0_t2_loop i).trips) : Fin 2 → Nat :=
  let c0_i32_90 : BitVec 32 := 0#32
  let arg1 : BitVec 32 := BitVec.ofNat 32 (i 1).val
  let c1_i32_75 : BitVec 32 := 1#32
  let v227 : BitVec 32 := Scalar.addi arg1 c1_i32_75
  let c512_i32_76 : BitVec 32 := 512#32
  let v228 : BitVec 32 := Scalar.muli v227 c512_i32_76
  let c1024_i32 : BitVec 32 := 1024#32
  let v229 : BitVec 32 := Scalar.addi v228 c1024_i32
  let c1_i32_77 : BitVec 32 := 1#32
  let v230 : BitVec 32 := Scalar.subi v229 c1_i32_77
  let c0_i32_79 : BitVec 32 := 0#32
  let v232 : BitVec 1 := Scalar.cmpi .sgt v230 c0_i32_79
  let v233 : BitVec 32 := Scalar.extui v232
  let c0_i32_80 : BitVec 32 := 0#32
  let v234 : BitVec 1 := Scalar.cmpi .slt v230 c0_i32_80
  let v235 : BitVec 32 := Scalar.extui v234
  let v236 : BitVec 32 := Scalar.subi v233 v235
  let c1024_i32_78 : BitVec 32 := 1024#32
  let c0_i32_81 : BitVec 32 := 0#32
  let v237 : BitVec 1 := Scalar.cmpi .sgt c1024_i32_78 c0_i32_81
  let v238 : BitVec 32 := Scalar.extui v237
  let c0_i32_82 : BitVec 32 := 0#32
  let v239 : BitVec 1 := Scalar.cmpi .slt c1024_i32_78 c0_i32_82
  let v240 : BitVec 32 := Scalar.extui v239
  let v241 : BitVec 32 := Scalar.subi v238 v240
  let v242 : BitVec 1 := Scalar.cmpi .ne v236 v241
  let v243 : BitVec 32 := Scalar.remsi v230 c1024_i32_78
  let c0_i32_83 : BitVec 32 := 0#32
  let v244 : BitVec 1 := Scalar.cmpi .ne v243 c0_i32_83
  let v245 : BitVec 1 := Scalar.andi v242 v244
  let v231 : BitVec 32 := Scalar.divsi v230 c1024_i32_78
  let c1_i32_84 : BitVec 32 := 1#32
  let v246 : BitVec 32 := Scalar.subi v231 c1_i32_84
  let v247 : BitVec 32 := Scalar.select v245 v246 v231
  let c1_i32_85 : BitVec 32 := 1#32
  let v248 : BitVec 32 := Scalar.subi v247 c1_i32_85
  let v253 : BitVec 32 := Scalar.subi v248 c0_i32_90
  let c1_i32_91 : BitVec 32 := 1#32
  let v255 : BitVec 32 := Scalar.divsi v253 c1_i32_91
  let v256 : BitVec 32 := Scalar.muli v255 c1_i32_91
  let v257 : BitVec 32 := Scalar.addi c0_i32_90 v256
  let c1_i32_93 : BitVec 32 := 1#32
  let arg14 : BitVec 32 := Scf.iv v257 c1_i32_93 k0_t2
  let c1024_i32_103 : BitVec 32 := 1024#32
  let v269 : BitVec 32 := Scalar.muli arg14 c1024_i32_103
  let v270 : BitVec 32 := v269
  let v271 : Index := Scalar.indexCast v270
  let c0_104 : Index := 0#32
  ![v271.toNat, 0]
def k0_cond2 (i : grid0.Coords) : BitVec 1 :=
  let arg1 : BitVec 32 := BitVec.ofNat 32 (i 1).val
  let c1_i32_86 : BitVec 32 := 1#32
  let v249 : BitVec 32 := Scalar.addi arg1 c1_i32_86
  let c512_i32_87 : BitVec 32 := 512#32
  let v250 : BitVec 32 := Scalar.muli v249 c512_i32_87
  let c1_i32_75 : BitVec 32 := 1#32
  let v227 : BitVec 32 := Scalar.addi arg1 c1_i32_75
  let c512_i32_76 : BitVec 32 := 512#32
  let v228 : BitVec 32 := Scalar.muli v227 c512_i32_76
  let c1024_i32 : BitVec 32 := 1024#32
  let v229 : BitVec 32 := Scalar.addi v228 c1024_i32
  let c1_i32_77 : BitVec 32 := 1#32
  let v230 : BitVec 32 := Scalar.subi v229 c1_i32_77
  let c0_i32_79 : BitVec 32 := 0#32
  let v232 : BitVec 1 := Scalar.cmpi .sgt v230 c0_i32_79
  let v233 : BitVec 32 := Scalar.extui v232
  let c0_i32_80 : BitVec 32 := 0#32
  let v234 : BitVec 1 := Scalar.cmpi .slt v230 c0_i32_80
  let v235 : BitVec 32 := Scalar.extui v234
  let v236 : BitVec 32 := Scalar.subi v233 v235
  let c1024_i32_78 : BitVec 32 := 1024#32
  let c0_i32_81 : BitVec 32 := 0#32
  let v237 : BitVec 1 := Scalar.cmpi .sgt c1024_i32_78 c0_i32_81
  let v238 : BitVec 32 := Scalar.extui v237
  let c0_i32_82 : BitVec 32 := 0#32
  let v239 : BitVec 1 := Scalar.cmpi .slt c1024_i32_78 c0_i32_82
  let v240 : BitVec 32 := Scalar.extui v239
  let v241 : BitVec 32 := Scalar.subi v238 v240
  let v242 : BitVec 1 := Scalar.cmpi .ne v236 v241
  let v243 : BitVec 32 := Scalar.remsi v230 c1024_i32_78
  let c0_i32_83 : BitVec 32 := 0#32
  let v244 : BitVec 1 := Scalar.cmpi .ne v243 c0_i32_83
  let v245 : BitVec 1 := Scalar.andi v242 v244
  let v231 : BitVec 32 := Scalar.divsi v230 c1024_i32_78
  let c1_i32_84 : BitVec 32 := 1#32
  let v246 : BitVec 32 := Scalar.subi v231 c1_i32_84
  let v247 : BitVec 32 := Scalar.select v245 v246 v231
  let c1_i32_85 : BitVec 32 := 1#32
  let v248 : BitVec 32 := Scalar.subi v247 c1_i32_85
  let c1024_i32_88 : BitVec 32 := 1024#32
  let v251 : BitVec 32 := Scalar.muli v248 c1024_i32_88
  let v252 : BitVec 32 := Scalar.subi v250 v251
  let c512_i32_94 : BitVec 32 := 512#32
  let v258 : BitVec 1 := Scalar.cmpi .sle v252 c512_i32_94
  let v259 : BitVec 32 := Scalar.extui v258
  let c0_i32_95 : BitVec 32 := 0#32
  let v260 : BitVec 1 := Scalar.cmpi .ne v259 c0_i32_95
  v260

def k0_mult3 (i : grid0.Coords) : BitVec 32 :=
  let arg1 : BitVec 32 := BitVec.ofNat 32 (i 1).val
  let c1_i32_75 : BitVec 32 := 1#32
  let v227 : BitVec 32 := Scalar.addi arg1 c1_i32_75
  let c512_i32_76 : BitVec 32 := 512#32
  let v228 : BitVec 32 := Scalar.muli v227 c512_i32_76
  let c1024_i32 : BitVec 32 := 1024#32
  let v229 : BitVec 32 := Scalar.addi v228 c1024_i32
  let c1_i32_77 : BitVec 32 := 1#32
  let v230 : BitVec 32 := Scalar.subi v229 c1_i32_77
  let c0_i32_79 : BitVec 32 := 0#32
  let v232 : BitVec 1 := Scalar.cmpi .sgt v230 c0_i32_79
  let v233 : BitVec 32 := Scalar.extui v232
  let c0_i32_80 : BitVec 32 := 0#32
  let v234 : BitVec 1 := Scalar.cmpi .slt v230 c0_i32_80
  let v235 : BitVec 32 := Scalar.extui v234
  let v236 : BitVec 32 := Scalar.subi v233 v235
  let c1024_i32_78 : BitVec 32 := 1024#32
  let c0_i32_81 : BitVec 32 := 0#32
  let v237 : BitVec 1 := Scalar.cmpi .sgt c1024_i32_78 c0_i32_81
  let v238 : BitVec 32 := Scalar.extui v237
  let c0_i32_82 : BitVec 32 := 0#32
  let v239 : BitVec 1 := Scalar.cmpi .slt c1024_i32_78 c0_i32_82
  let v240 : BitVec 32 := Scalar.extui v239
  let v241 : BitVec 32 := Scalar.subi v238 v240
  let v242 : BitVec 1 := Scalar.cmpi .ne v236 v241
  let v243 : BitVec 32 := Scalar.remsi v230 c1024_i32_78
  let c0_i32_83 : BitVec 32 := 0#32
  let v244 : BitVec 1 := Scalar.cmpi .ne v243 c0_i32_83
  let v245 : BitVec 1 := Scalar.andi v242 v244
  let v231 : BitVec 32 := Scalar.divsi v230 c1024_i32_78
  let c1_i32_84 : BitVec 32 := 1#32
  let v246 : BitVec 32 := Scalar.subi v231 c1_i32_84
  let v247 : BitVec 32 := Scalar.select v245 v246 v231
  let c1_i32_85 : BitVec 32 := 1#32
  let v248 : BitVec 32 := Scalar.subi v247 c1_i32_85
  let c1024_i32_103 : BitVec 32 := 1024#32
  let v269 : BitVec 32 := Scalar.muli v248 c1024_i32_103
  v269
def k0_off3 (i : grid0.Coords) : Fin 2 → Nat :=
  let arg1 : BitVec 32 := BitVec.ofNat 32 (i 1).val
  let c1_i32_75 : BitVec 32 := 1#32
  let v227 : BitVec 32 := Scalar.addi arg1 c1_i32_75
  let c512_i32_76 : BitVec 32 := 512#32
  let v228 : BitVec 32 := Scalar.muli v227 c512_i32_76
  let c1024_i32 : BitVec 32 := 1024#32
  let v229 : BitVec 32 := Scalar.addi v228 c1024_i32
  let c1_i32_77 : BitVec 32 := 1#32
  let v230 : BitVec 32 := Scalar.subi v229 c1_i32_77
  let c0_i32_79 : BitVec 32 := 0#32
  let v232 : BitVec 1 := Scalar.cmpi .sgt v230 c0_i32_79
  let v233 : BitVec 32 := Scalar.extui v232
  let c0_i32_80 : BitVec 32 := 0#32
  let v234 : BitVec 1 := Scalar.cmpi .slt v230 c0_i32_80
  let v235 : BitVec 32 := Scalar.extui v234
  let v236 : BitVec 32 := Scalar.subi v233 v235
  let c1024_i32_78 : BitVec 32 := 1024#32
  let c0_i32_81 : BitVec 32 := 0#32
  let v237 : BitVec 1 := Scalar.cmpi .sgt c1024_i32_78 c0_i32_81
  let v238 : BitVec 32 := Scalar.extui v237
  let c0_i32_82 : BitVec 32 := 0#32
  let v239 : BitVec 1 := Scalar.cmpi .slt c1024_i32_78 c0_i32_82
  let v240 : BitVec 32 := Scalar.extui v239
  let v241 : BitVec 32 := Scalar.subi v238 v240
  let v242 : BitVec 1 := Scalar.cmpi .ne v236 v241
  let v243 : BitVec 32 := Scalar.remsi v230 c1024_i32_78
  let c0_i32_83 : BitVec 32 := 0#32
  let v244 : BitVec 1 := Scalar.cmpi .ne v243 c0_i32_83
  let v245 : BitVec 1 := Scalar.andi v242 v244
  let v231 : BitVec 32 := Scalar.divsi v230 c1024_i32_78
  let c1_i32_84 : BitVec 32 := 1#32
  let v246 : BitVec 32 := Scalar.subi v231 c1_i32_84
  let v247 : BitVec 32 := Scalar.select v245 v246 v231
  let c1_i32_85 : BitVec 32 := 1#32
  let v248 : BitVec 32 := Scalar.subi v247 c1_i32_85
  let c1024_i32_103 : BitVec 32 := 1024#32
  let v269 : BitVec 32 := Scalar.muli v248 c1024_i32_103
  let v270 : BitVec 32 := v269
  let v271 : Index := Scalar.indexCast v270
  let c0_104 : Index := 0#32
  ![v271.toNat, 0]
def k0_cond3 (i : grid0.Coords) : BitVec 1 :=
  let arg1 : BitVec 32 := BitVec.ofNat 32 (i 1).val
  let c1_i32_86 : BitVec 32 := 1#32
  let v249 : BitVec 32 := Scalar.addi arg1 c1_i32_86
  let c512_i32_87 : BitVec 32 := 512#32
  let v250 : BitVec 32 := Scalar.muli v249 c512_i32_87
  let c1_i32_75 : BitVec 32 := 1#32
  let v227 : BitVec 32 := Scalar.addi arg1 c1_i32_75
  let c512_i32_76 : BitVec 32 := 512#32
  let v228 : BitVec 32 := Scalar.muli v227 c512_i32_76
  let c1024_i32 : BitVec 32 := 1024#32
  let v229 : BitVec 32 := Scalar.addi v228 c1024_i32
  let c1_i32_77 : BitVec 32 := 1#32
  let v230 : BitVec 32 := Scalar.subi v229 c1_i32_77
  let c0_i32_79 : BitVec 32 := 0#32
  let v232 : BitVec 1 := Scalar.cmpi .sgt v230 c0_i32_79
  let v233 : BitVec 32 := Scalar.extui v232
  let c0_i32_80 : BitVec 32 := 0#32
  let v234 : BitVec 1 := Scalar.cmpi .slt v230 c0_i32_80
  let v235 : BitVec 32 := Scalar.extui v234
  let v236 : BitVec 32 := Scalar.subi v233 v235
  let c1024_i32_78 : BitVec 32 := 1024#32
  let c0_i32_81 : BitVec 32 := 0#32
  let v237 : BitVec 1 := Scalar.cmpi .sgt c1024_i32_78 c0_i32_81
  let v238 : BitVec 32 := Scalar.extui v237
  let c0_i32_82 : BitVec 32 := 0#32
  let v239 : BitVec 1 := Scalar.cmpi .slt c1024_i32_78 c0_i32_82
  let v240 : BitVec 32 := Scalar.extui v239
  let v241 : BitVec 32 := Scalar.subi v238 v240
  let v242 : BitVec 1 := Scalar.cmpi .ne v236 v241
  let v243 : BitVec 32 := Scalar.remsi v230 c1024_i32_78
  let c0_i32_83 : BitVec 32 := 0#32
  let v244 : BitVec 1 := Scalar.cmpi .ne v243 c0_i32_83
  let v245 : BitVec 1 := Scalar.andi v242 v244
  let v231 : BitVec 32 := Scalar.divsi v230 c1024_i32_78
  let c1_i32_84 : BitVec 32 := 1#32
  let v246 : BitVec 32 := Scalar.subi v231 c1_i32_84
  let v247 : BitVec 32 := Scalar.select v245 v246 v231
  let c1_i32_85 : BitVec 32 := 1#32
  let v248 : BitVec 32 := Scalar.subi v247 c1_i32_85
  let c1024_i32_88 : BitVec 32 := 1024#32
  let v251 : BitVec 32 := Scalar.muli v248 c1024_i32_88
  let v252 : BitVec 32 := Scalar.subi v250 v251
  let c512_i32_96 : BitVec 32 := 512#32
  let v261 : BitVec 1 := Scalar.cmpi .sgt v252 c512_i32_96
  let v262 : BitVec 32 := Scalar.extui v261
  let c0_i32_97 : BitVec 32 := 0#32
  let v263 : BitVec 1 := Scalar.cmpi .ne v262 c0_i32_97
  v263

def k0_mult4 (i : grid0.Coords) : BitVec 32 :=
  let arg1 : BitVec 32 := BitVec.ofNat 32 (i 1).val
  let c1_i32_75 : BitVec 32 := 1#32
  let v227 : BitVec 32 := Scalar.addi arg1 c1_i32_75
  let c512_i32_76 : BitVec 32 := 512#32
  let v228 : BitVec 32 := Scalar.muli v227 c512_i32_76
  let c1024_i32 : BitVec 32 := 1024#32
  let v229 : BitVec 32 := Scalar.addi v228 c1024_i32
  let c1_i32_77 : BitVec 32 := 1#32
  let v230 : BitVec 32 := Scalar.subi v229 c1_i32_77
  let c0_i32_79 : BitVec 32 := 0#32
  let v232 : BitVec 1 := Scalar.cmpi .sgt v230 c0_i32_79
  let v233 : BitVec 32 := Scalar.extui v232
  let c0_i32_80 : BitVec 32 := 0#32
  let v234 : BitVec 1 := Scalar.cmpi .slt v230 c0_i32_80
  let v235 : BitVec 32 := Scalar.extui v234
  let v236 : BitVec 32 := Scalar.subi v233 v235
  let c1024_i32_78 : BitVec 32 := 1024#32
  let c0_i32_81 : BitVec 32 := 0#32
  let v237 : BitVec 1 := Scalar.cmpi .sgt c1024_i32_78 c0_i32_81
  let v238 : BitVec 32 := Scalar.extui v237
  let c0_i32_82 : BitVec 32 := 0#32
  let v239 : BitVec 1 := Scalar.cmpi .slt c1024_i32_78 c0_i32_82
  let v240 : BitVec 32 := Scalar.extui v239
  let v241 : BitVec 32 := Scalar.subi v238 v240
  let v242 : BitVec 1 := Scalar.cmpi .ne v236 v241
  let v243 : BitVec 32 := Scalar.remsi v230 c1024_i32_78
  let c0_i32_83 : BitVec 32 := 0#32
  let v244 : BitVec 1 := Scalar.cmpi .ne v243 c0_i32_83
  let v245 : BitVec 1 := Scalar.andi v242 v244
  let v231 : BitVec 32 := Scalar.divsi v230 c1024_i32_78
  let c1_i32_84 : BitVec 32 := 1#32
  let v246 : BitVec 32 := Scalar.subi v231 c1_i32_84
  let v247 : BitVec 32 := Scalar.select v245 v246 v231
  let c1_i32_85 : BitVec 32 := 1#32
  let v248 : BitVec 32 := Scalar.subi v247 c1_i32_85
  let c1024_i32_103 : BitVec 32 := 1024#32
  let v269 : BitVec 32 := Scalar.muli v248 c1024_i32_103
  v269
def k0_off4 (i : grid0.Coords) : Fin 2 → Nat :=
  let arg1 : BitVec 32 := BitVec.ofNat 32 (i 1).val
  let c1_i32_75 : BitVec 32 := 1#32
  let v227 : BitVec 32 := Scalar.addi arg1 c1_i32_75
  let c512_i32_76 : BitVec 32 := 512#32
  let v228 : BitVec 32 := Scalar.muli v227 c512_i32_76
  let c1024_i32 : BitVec 32 := 1024#32
  let v229 : BitVec 32 := Scalar.addi v228 c1024_i32
  let c1_i32_77 : BitVec 32 := 1#32
  let v230 : BitVec 32 := Scalar.subi v229 c1_i32_77
  let c0_i32_79 : BitVec 32 := 0#32
  let v232 : BitVec 1 := Scalar.cmpi .sgt v230 c0_i32_79
  let v233 : BitVec 32 := Scalar.extui v232
  let c0_i32_80 : BitVec 32 := 0#32
  let v234 : BitVec 1 := Scalar.cmpi .slt v230 c0_i32_80
  let v235 : BitVec 32 := Scalar.extui v234
  let v236 : BitVec 32 := Scalar.subi v233 v235
  let c1024_i32_78 : BitVec 32 := 1024#32
  let c0_i32_81 : BitVec 32 := 0#32
  let v237 : BitVec 1 := Scalar.cmpi .sgt c1024_i32_78 c0_i32_81
  let v238 : BitVec 32 := Scalar.extui v237
  let c0_i32_82 : BitVec 32 := 0#32
  let v239 : BitVec 1 := Scalar.cmpi .slt c1024_i32_78 c0_i32_82
  let v240 : BitVec 32 := Scalar.extui v239
  let v241 : BitVec 32 := Scalar.subi v238 v240
  let v242 : BitVec 1 := Scalar.cmpi .ne v236 v241
  let v243 : BitVec 32 := Scalar.remsi v230 c1024_i32_78
  let c0_i32_83 : BitVec 32 := 0#32
  let v244 : BitVec 1 := Scalar.cmpi .ne v243 c0_i32_83
  let v245 : BitVec 1 := Scalar.andi v242 v244
  let v231 : BitVec 32 := Scalar.divsi v230 c1024_i32_78
  let c1_i32_84 : BitVec 32 := 1#32
  let v246 : BitVec 32 := Scalar.subi v231 c1_i32_84
  let v247 : BitVec 32 := Scalar.select v245 v246 v231
  let c1_i32_85 : BitVec 32 := 1#32
  let v248 : BitVec 32 := Scalar.subi v247 c1_i32_85
  let c1024_i32_103 : BitVec 32 := 1024#32
  let v269 : BitVec 32 := Scalar.muli v248 c1024_i32_103
  let v270 : BitVec 32 := v269
  let v271 : Index := Scalar.indexCast v270
  let c0_104 : Index := 0#32
  ![v271.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x18432 : Shape := ⟨2, ![8192, 18432]⟩
abbrev S4x8192x1024 : Shape := ⟨3, ![4, 8192, 1024]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S1x8192x1024 : Shape := ⟨3, ![1, 8192, 1024]⟩
abbrev S8x8192x128 : Shape := ⟨3, ![8, 8192, 128]⟩

abbrev nBuf : Space → Nat
  | .hbm => 198
  | .vmem => 0
  | .smem => 0
  | _ => 0

abbrev hbmTy0_0 (i : Nat) : BufTy := match i % 128 with
  | 0 => ⟨S8192x18432, .f32⟩
  | 1 => ⟨S4x8192x1024, .f32⟩
  | 2 => ⟨S8192x1024, .f32⟩
  | 3 => ⟨S8192x1024, .f32⟩
  | 4 => ⟨S8192x1024, .f32⟩
  | 5 => ⟨S8192x1024, .f32⟩
  | 6 => ⟨S8192x8x128, .f32⟩
  | 7 => ⟨S8192x8x128, .f32⟩
  | 8 => ⟨S8192x8x128, .f32⟩
  | 9 => ⟨S8x8192x8192, .f32⟩
  | 10 => ⟨S_, .f32⟩
  | 11 => ⟨S8x8192x8192, .f32⟩
  | 12 => ⟨S8x8192x8192, .f32⟩
  | 13 => ⟨S8192, .i32⟩
  | 14 => ⟨S1x8192, .i32⟩
  | 15 => ⟨S8192, .i32⟩
  | 16 => ⟨S8192x1, .i32⟩
  | 17 => ⟨S8192x8192, .i32⟩
  | 18 => ⟨S8192x8192, .i32⟩
  | 19 => ⟨S8192x8192, .i1⟩
  | 20 => ⟨S8x8192x8192, .f32⟩
  | 21 => ⟨S_, .f32⟩
  | 22 => ⟨S8x8192x8192, .f32⟩
  | 23 => ⟨S8x8192x8192, .f32⟩
  | 24 => ⟨S8x8192x8192, .f32⟩
  | 25 => ⟨S8x8192x8192, .f32⟩
  | 26 => ⟨S8x8192x8192, .i1⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S_, .f32⟩
  | 36 => ⟨S8x8192x8192, .f32⟩
  | 37 => ⟨S8x8192x8192, .i1⟩
  | 38 => ⟨S_, .f32⟩
  | 39 => ⟨S8x8192x8192, .f32⟩
  | 40 => ⟨S8x8192x8192, .f32⟩
  | 41 => ⟨S_, .f32⟩
  | 42 => ⟨S8x8192x8192, .f32⟩
  | 43 => ⟨S8x8192x8192, .i1⟩
  | 44 => ⟨S_, .f32⟩
  | 45 => ⟨S8x8192x8192, .f32⟩
  | 46 => ⟨S8x8192x8192, .f32⟩
  | 47 => ⟨S8x8192x8192, .f32⟩
  | 48 => ⟨S8x8192x8192, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S8x8192x8192, .f32⟩
  | 57 => ⟨S8x8192x8192, .i1⟩
  | 58 => ⟨S_, .f32⟩
  | 59 => ⟨S8x8192x8192, .f32⟩
  | 60 => ⟨S8x8192x8192, .f32⟩
  | 61 => ⟨S8x8192x8192, .f32⟩
  | 62 => ⟨S8x8192x8192, .f32⟩
  | 63 => ⟨S8x8192x8192, .f32⟩
  | 64 => ⟨S_, .f32⟩
  | 65 => ⟨S8x8192x8192, .f32⟩
  | 66 => ⟨S8x8192x8192, .f32⟩
  | 67 => ⟨S8x8192x8192, .f32⟩
  | 68 => ⟨S8x8192x8192, .f32⟩
  | 69 => ⟨S8x8192x8192, .f32⟩
  | 70 => ⟨S_, .f32⟩
  | 71 => ⟨S8x8192x8192, .f32⟩
  | 72 => ⟨S8x8192x8192, .f32⟩
  | 73 => ⟨S8x8192x8192, .f32⟩
  | 74 => ⟨S8x8192x8192, .f32⟩
  | 75 => ⟨S8x8192x8192, .i1⟩
  | 76 => ⟨S8x8192x8192, .f32⟩
  | 77 => ⟨S8x8192x8192, .f32⟩
  | 78 => ⟨S8x8192x8192, .f32⟩
  | 79 => ⟨S8x8192x8192, .f32⟩
  | 80 => ⟨S8x8192x8192, .f32⟩
  | 81 => ⟨S8x8192x8192, .f32⟩
  | 82 => ⟨S8x8192x8192, .f32⟩
  | 83 => ⟨S8x8192x8192, .f32⟩
  | 84 => ⟨S_, .f32⟩
  | 85 => ⟨S8x8192x8192, .f32⟩
  | 86 => ⟨S8x8192x8192, .i1⟩
  | 87 => ⟨S_, .f32⟩
  | 88 => ⟨S8x8192x8192, .f32⟩
  | 89 => ⟨S8x8192x8192, .f32⟩
  | 90 => ⟨S_, .f32⟩
  | 91 => ⟨S8x8192x8192, .f32⟩
  | 92 => ⟨S8x8192x8192, .i1⟩
  | 93 => ⟨S_, .f32⟩
  | 94 => ⟨S8x8192x8192, .f32⟩
  | 95 => ⟨S8x8192x8192, .f32⟩
  | 96 => ⟨S8x8192x8192, .f32⟩
  | 97 => ⟨S8x8192x8192, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S8x8192x8192, .f32⟩
  | 106 => ⟨S8x8192x8192, .i1⟩
  | 107 => ⟨S_, .f32⟩
  | 108 => ⟨S8x8192x8192, .f32⟩
  | 109 => ⟨S8x8192x8192, .f32⟩
  | 110 => ⟨S8x8192x8192, .f32⟩
  | 111 => ⟨S8x8192x8192, .f32⟩
  | 112 => ⟨S8x8192x8192, .f32⟩
  | 113 => ⟨S_, .f32⟩
  | 114 => ⟨S8x8192x8192, .f32⟩
  | 115 => ⟨S8x8192x8192, .f32⟩
  | 116 => ⟨S8x8192x8192, .f32⟩
  | 117 => ⟨S_, .f32⟩
  | 118 => ⟨S_, .f32⟩
  | 119 => ⟨S8x8192x8192, .i1⟩
  | 120 => ⟨S8x8192x8192, .f32⟩
  | 121 => ⟨S8x8192x8192, .f32⟩
  | 122 => ⟨S_, .f32⟩
  | 123 => ⟨S8x8192x8192, .f32⟩
  | 124 => ⟨S_, .f32⟩
  | 125 => ⟨S_, .f32⟩
  | 126 => ⟨S8x8192x8192, .f32⟩
  | 127 => ⟨S8x8192x8192, .f32⟩
  | _ => ⟨S8192x18432, .f32⟩

abbrev hbmTy0_1 (i : Nat) : BufTy := match i % 128 with
  | 0 => ⟨S8x8192x8192, .f32⟩
  | 1 => ⟨S8x8192x8192, .f32⟩
  | 2 => ⟨S_, .f32⟩
  | 3 => ⟨S_, .f32⟩
  | 4 => ⟨S8x8192x8192, .i1⟩
  | 5 => ⟨S8x8192x8192, .f32⟩
  | 6 => ⟨S8x8192x8192, .f32⟩
  | 7 => ⟨S_, .f32⟩
  | 8 => ⟨S8x8192x8192, .f32⟩
  | 9 => ⟨S8x128x8192, .f32⟩
  | 10 => ⟨S8192x8x128, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S1x8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x8x128, .f32⟩
  | 35 => ⟨S8x128x8192, .f32⟩
  | 36 => ⟨S8x8192x8192, .f32⟩
  | 37 => ⟨S8x128x8192, .f32⟩
  | 38 => ⟨S8192x8x128, .f32⟩
  | 39 => ⟨S_, .f32⟩
  | 40 => ⟨S8x8192x8192, .f32⟩
  | 41 => ⟨S8x8192x8192, .f32⟩
  | 42 => ⟨S8x8192x8192, .f32⟩
  | 43 => ⟨S8x8192x8192, .f32⟩
  | 44 => ⟨S_, .f32⟩
  | 45 => ⟨S_, .f32⟩
  | 46 => ⟨S8x8192x8192, .f32⟩
  | 47 => ⟨S8x8192x8192, .f32⟩
  | 48 => ⟨S_, .f32⟩
  | 49 => ⟨S8x8192x8192, .f32⟩
  | 50 => ⟨S8x8192x8192, .f32⟩
  | 51 => ⟨S8x8192x8192, .f32⟩
  | 52 => ⟨S8x8192x8192, .f32⟩
  | 53 => ⟨S8x8192x8192, .f32⟩
  | 54 => ⟨S8x8192x8192, .f32⟩
  | 55 => ⟨S8x8192x8192, .f32⟩
  | 56 => ⟨S8x8192x8192, .f32⟩
  | 57 => ⟨S8x8192x8192, .f32⟩
  | 58 => ⟨S8x8192x8192, .f32⟩
  | 59 => ⟨S_, .f32⟩
  | 60 => ⟨S8x8192x8192, .f32⟩
  | 61 => ⟨S8x8192x8192, .f32⟩
  | 62 => ⟨S8x8192x128, .f32⟩
  | 63 => ⟨S8192x8x128, .f32⟩
  | 64 => ⟨S8x8192x128, .f32⟩
  | 65 => ⟨S8192x8x128, .f32⟩
  | 66 => ⟨S8192x1024, .f32⟩
  | 67 => ⟨S8192x1024, .f32⟩
  | 68 => ⟨S8192x1024, .f32⟩
  | 69 => ⟨S8192x1024, .bf16⟩
  | _ => ⟨S8192x18432, .f32⟩

abbrev hbmTy (i : Nat) : BufTy := match i / 128 with
  | 0 => hbmTy0_0 i
  | 1 => hbmTy0_1 i
  | _ => ⟨S8192x18432, .f32⟩

abbrev bufTy : (tb : Table) → Fin (tcTables nBuf tb) → BufTy
  | .hbm, ⟨i, _⟩ => hbmTy i
  | _, _ => ⟨S8192x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_v18 : Ref sig .tc := ⟨.hbm, 68, rfl⟩
abbrev main_call1_v0 : Ref sig .tc := ⟨.hbm, 69, rfl⟩
abbrev main_call1_call0_cst : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_v7 : Ref sig .tc := ⟨.hbm, 78, rfl⟩
abbrev main_call1_call0_v8 : Ref sig .tc := ⟨.hbm, 79, rfl⟩
abbrev main_call1_call0_v9 : Ref sig .tc := ⟨.hbm, 80, rfl⟩
abbrev main_call1_call0_v10 : Ref sig .tc := ⟨.hbm, 81, rfl⟩
abbrev main_call1_call0_v11 : Ref sig .tc := ⟨.hbm, 82, rfl⟩
abbrev main_call1_v1_0 : Ref sig .tc := ⟨.hbm, 83, rfl⟩
abbrev main_call1_call0_cst_0 : Ref sig .tc := ⟨.hbm, 84, rfl⟩
abbrev main_call1_call0_v13 : Ref sig .tc := ⟨.hbm, 85, rfl⟩
abbrev main_call1_call0_v14 : Ref sig .tc := ⟨.hbm, 86, rfl⟩
abbrev main_call1_call0_cst_1 : Ref sig .tc := ⟨.hbm, 87, rfl⟩
abbrev main_call1_call0_v15 : Ref sig .tc := ⟨.hbm, 88, rfl⟩
abbrev main_call1_call0_v16 : Ref sig .tc := ⟨.hbm, 89, rfl⟩
abbrev main_call1_call0_cst_2 : Ref sig .tc := ⟨.hbm, 90, rfl⟩
abbrev main_call1_call0_v17 : Ref sig .tc := ⟨.hbm, 91, rfl⟩
abbrev main_call1_call0_v18 : Ref sig .tc := ⟨.hbm, 92, rfl⟩
abbrev main_call1_call0_cst_3 : Ref sig .tc := ⟨.hbm, 93, rfl⟩
abbrev main_call1_call0_v19 : Ref sig .tc := ⟨.hbm, 94, rfl⟩
abbrev main_call1_call0_v20 : Ref sig .tc := ⟨.hbm, 95, rfl⟩
abbrev main_call1_call0_v21 : Ref sig .tc := ⟨.hbm, 96, rfl⟩
abbrev main_v19_1 : Ref sig .tc := ⟨.hbm, 97, rfl⟩
abbrev main_call1_call0_cst_4 : Ref sig .tc := ⟨.hbm, 98, rfl⟩
abbrev main_call1_call0_cst_5 : Ref sig .tc := ⟨.hbm, 99, rfl⟩
abbrev main_call1_call0_v23 : Ref sig .tc := ⟨.hbm, 100, rfl⟩
abbrev main_call1_call0_cst_6 : Ref sig .tc := ⟨.hbm, 101, rfl⟩
abbrev main_call1_call0_cst_7 : Ref sig .tc := ⟨.hbm, 102, rfl⟩
abbrev main_call1_call0_v24 : Ref sig .tc := ⟨.hbm, 103, rfl⟩
abbrev main_call1_call0_cst_8 : Ref sig .tc := ⟨.hbm, 104, rfl⟩
abbrev main_call1_call0_v25 : Ref sig .tc := ⟨.hbm, 105, rfl⟩
abbrev main_call1_call0_v26 : Ref sig .tc := ⟨.hbm, 106, rfl⟩
abbrev main_call1_call0_cst_9 : Ref sig .tc := ⟨.hbm, 107, rfl⟩
abbrev main_call1_call0_v27 : Ref sig .tc := ⟨.hbm, 108, rfl⟩
abbrev main_call1_call0_v28 : Ref sig .tc := ⟨.hbm, 109, rfl⟩
abbrev main_call1_call0_v29 : Ref sig .tc := ⟨.hbm, 110, rfl⟩
abbrev main_call1_call0_v30 : Ref sig .tc := ⟨.hbm, 111, rfl⟩
abbrev main_call1_call0_v31 : Ref sig .tc := ⟨.hbm, 112, rfl⟩
abbrev main_call1_call0_cst_10 : Ref sig .tc := ⟨.hbm, 113, rfl⟩
abbrev main_call1_call0_v32 : Ref sig .tc := ⟨.hbm, 114, rfl⟩
abbrev main_v19_2 : Ref sig .tc := ⟨.hbm, 115, rfl⟩
abbrev main_v19_0 : Ref sig .tc := ⟨.hbm, 116, rfl⟩
abbrev main_cst_0 : Ref sig .tc := ⟨.hbm, 117, rfl⟩
abbrev main_call2_v0 : Ref sig .tc := ⟨.hbm, 118, rfl⟩
abbrev main_v20_1 : Ref sig .tc := ⟨.hbm, 119, rfl⟩
abbrev main_call2_v2 : Ref sig .tc := ⟨.hbm, 120, rfl⟩
abbrev main_v20_0 : Ref sig .tc := ⟨.hbm, 121, rfl⟩
abbrev main_call2_cst : Ref sig .tc := ⟨.hbm, 122, rfl⟩
abbrev main_v20_2 : Ref sig .tc := ⟨.hbm, 123, rfl⟩
abbrev main_call3_cst : Ref sig .tc := ⟨.hbm, 124, rfl⟩
abbrev main_call3_v0 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_cst_1 : Ref sig .tc := ⟨.hbm, 130, rfl⟩
abbrev main_call4_v0 : Ref sig .tc := ⟨.hbm, 131, rfl⟩
abbrev main_v25_1 : Ref sig .tc := ⟨.hbm, 132, rfl⟩
abbrev main_call4_v2 : Ref sig .tc := ⟨.hbm, 133, rfl⟩
abbrev main_v25_0 : Ref sig .tc := ⟨.hbm, 134, rfl⟩
abbrev main_call4_cst : Ref sig .tc := ⟨.hbm, 135, rfl⟩
abbrev main_v25_2 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_call5_v0 : Ref sig .tc := ⟨.hbm, 140, rfl⟩
abbrev main_call5_v1 : Ref sig .tc := ⟨.hbm, 141, rfl⟩
abbrev main_call5_cst : Ref sig .tc := ⟨.hbm, 142, rfl⟩
abbrev main_call5_v2 : Ref sig .tc := ⟨.hbm, 143, rfl⟩
abbrev main_call5_v3 : Ref sig .tc := ⟨.hbm, 144, rfl⟩
abbrev main_call5_cst_0 : Ref sig .tc := ⟨.hbm, 145, rfl⟩
abbrev main_call5_v4 : Ref sig .tc := ⟨.hbm, 146, rfl⟩
abbrev main_v29_2 : Ref sig .tc := ⟨.hbm, 147, rfl⟩
abbrev main_call5_cst_1 : Ref sig .tc := ⟨.hbm, 148, rfl⟩
abbrev main_call5_v6 : Ref sig .tc := ⟨.hbm, 149, rfl⟩
abbrev main_call5_v7 : Ref sig .tc := ⟨.hbm, 150, rfl⟩
abbrev main_v29_1 : Ref sig .tc := ⟨.hbm, 151, rfl⟩
abbrev main_v29_0 : Ref sig .tc := ⟨.hbm, 152, rfl⟩
abbrev main_v30 : Ref sig .tc := ⟨.hbm, 153, rfl⟩
abbrev main_v31 : Ref sig .tc := ⟨.hbm, 154, rfl⟩
abbrev main_v32 : Ref sig .tc := ⟨.hbm, 155, rfl⟩
abbrev main_v33 : Ref sig .tc := ⟨.hbm, 156, rfl⟩
abbrev main_v34 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v35 : Ref sig .tc := ⟨.hbm, 161, rfl⟩
abbrev main_v36 : Ref sig .tc := ⟨.hbm, 162, rfl⟩
abbrev main_v37 : Ref sig .tc := ⟨.hbm, 163, rfl⟩
abbrev main_v38 : Ref sig .tc := ⟨.hbm, 164, rfl⟩
abbrev main_v39 : Ref sig .tc := ⟨.hbm, 165, rfl⟩
abbrev main_v40 : Ref sig .tc := ⟨.hbm, 166, rfl⟩
abbrev main_call7_cst : Ref sig .tc := ⟨.hbm, 167, rfl⟩
abbrev main_call7_v0 : Ref sig .tc := ⟨.hbm, 168, rfl⟩
abbrev main_v41 : Ref sig .tc := ⟨.hbm, 169, rfl⟩
abbrev main_v42 : Ref sig .tc := ⟨.hbm, 170, rfl⟩
abbrev main_v43 : Ref sig .tc := ⟨.hbm, 171, rfl⟩
abbrev main_call8_cst : Ref sig .tc := ⟨.hbm, 172, rfl⟩
abbrev main_call8_v0 : Ref sig .tc := ⟨.hbm, 173, rfl⟩
abbrev main_v44 : Ref sig .tc := ⟨.hbm, 174, rfl⟩
abbrev main_v45 : Ref sig .tc := ⟨.hbm, 175, rfl⟩
abbrev main_call9_cst : Ref sig .tc := ⟨.hbm, 176, rfl⟩
abbrev main_call9_v0 : Ref sig .tc := ⟨.hbm, 177, rfl⟩
abbrev main_v46 : Ref sig .tc := ⟨.hbm, 178, rfl⟩
abbrev main_call10_v0 : Ref sig .tc := ⟨.hbm, 179, rfl⟩
abbrev main_call10_v1 : Ref sig .tc := ⟨.hbm, 180, rfl⟩
abbrev main_v47 : Ref sig .tc := ⟨.hbm, 181, rfl⟩
abbrev main_v48 : Ref sig .tc := ⟨.hbm, 182, rfl⟩
abbrev main_call11_v0 : Ref sig .tc := ⟨.hbm, 183, rfl⟩
abbrev main_call11_v1 : Ref sig .tc := ⟨.hbm, 184, rfl⟩
abbrev main_v49 : Ref sig .tc := ⟨.hbm, 185, rfl⟩
abbrev main_v50 : Ref sig .tc := ⟨.hbm, 186, rfl⟩
abbrev main_cst_2 : Ref sig .tc := ⟨.hbm, 187, rfl⟩
abbrev main_v51 : Ref sig .tc := ⟨.hbm, 188, rfl⟩
abbrev main_v52 : Ref sig .tc := ⟨.hbm, 189, rfl⟩
abbrev main_v53 : Ref sig .tc := ⟨.hbm, 190, rfl⟩
abbrev main_v54 : Ref sig .tc := ⟨.hbm, 191, rfl⟩
abbrev main_v55 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_v59 : Ref sig .tc := ⟨.hbm, 196, rfl⟩
abbrev main_v60 : Ref sig .tc := ⟨.hbm, 197, rfl⟩

abbrev nD : Nat := 1
abbrev τ : Topo := Topo.v7x

variable {F : FTy → Type} [FloatOps F]
-- ==== ProjDw.lean ====
abbrev S8192x2048 : Shape := ⟨2, ![8192, 2048]⟩
abbrev S8192x18432 : Shape := ⟨2, ![8192, 18432]⟩
abbrev S2048x18432 : Shape := ⟨2, ![2048, 18432]⟩
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x18432, .bf16⟩
  | .hbm, ⟨2, _⟩ => ⟨S2048x18432, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 24, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S8192x2048 : Shape := ⟨2, ![8192, 2048]⟩
abbrev S8192x18432 : Shape := ⟨2, ![8192, 18432]⟩
abbrev S_ : Shape := ⟨0, ![]⟩
abbrev S2048x18432 : Shape := ⟨2, ![2048, 18432]⟩
abbrev S18432x2048 : Shape := ⟨2, ![18432, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x18432, .bf16⟩
  | .hbm, ⟨2, _⟩ => ⟨S_, .f32⟩
  | .hbm, ⟨3, _⟩ => ⟨S2048x18432, .f32⟩
  | .hbm, ⟨4, _⟩ => ⟨S8192x2048, .f32⟩
  | .hbm, ⟨5, _⟩ => ⟨S8192x18432, .f32⟩
  | .hbm, ⟨6, _⟩ => ⟨S8192x18432, .f32⟩
  | .hbm, ⟨7, _⟩ => ⟨S18432x2048, .f32⟩
  | .hbm, ⟨8, _⟩ => ⟨S2048x18432, .f32⟩
  | .hbm, ⟨9, _⟩ => ⟨S2048x18432, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDh.lean ====
abbrev S8192x18432 : Shape := ⟨2, ![8192, 18432]⟩
abbrev S2048x18432 : Shape := ⟨2, ![2048, 18432]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x18432, .bf16⟩
  | .hbm, ⟨1, _⟩ => ⟨S2048x18432, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjDhRefIdeal.lean ====
abbrev S8192x18432 : Shape := ⟨2, ![8192, 18432]⟩
abbrev S2048x18432 : Shape := ⟨2, ![2048, 18432]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x18432, .bf16⟩
  | .hbm, ⟨1, _⟩ => ⟨S2048x18432, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x18432, .f32⟩
  | .hbm, ⟨6, _⟩ => ⟨S8192x18432, .f32⟩
  | .hbm, ⟨7, _⟩ => ⟨S8192x18432, .f32⟩
  | .hbm, ⟨8, _⟩ => ⟨S8192x2048, .f32⟩
  | .hbm, ⟨9, _⟩ => ⟨S8192x2048, .f32⟩
  | _, _ => ⟨S8192x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GateDw.lean ====
abbrev S8192x2048 : Shape := ⟨2, ![8192, 2048]⟩
abbrev S8192x8192 : Shape := ⟨2, ![8192, 8192]⟩
abbrev S2048x8192 : Shape := ⟨2, ![2048, 8192]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwRefIdeal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateDh.lean ====
abbrev S8192x8192 : Shape := ⟨2, ![8192, 8192]⟩
abbrev S2048x8192 : Shape := ⟨2, ![2048, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDhRefIdeal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S8192x2048 : Shape := ⟨2, ![8192, 2048]⟩
abbrev S2048x18432 : Shape := ⟨2, ![2048, 18432]⟩
abbrev S8192x18432 : Shape := ⟨2, ![8192, 18432]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x18432, .bf16⟩
  | .hbm, ⟨2, _⟩ => ⟨S8192x18432, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 24, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x2048 : Shape := ⟨2, ![8192, 2048]⟩
abbrev S2048x18432 : Shape := ⟨2, ![2048, 18432]⟩
abbrev S8192x18432 : Shape := ⟨2, ![8192, 18432]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x18432, .bf16⟩
  | .hbm, ⟨2, _⟩ => ⟨S8192x2048, .f32⟩
  | .hbm, ⟨3, _⟩ => ⟨S2048x18432, .f32⟩
  | .hbm, ⟨4, _⟩ => ⟨S8192x18432, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gates.lean ====
abbrev S8192x2048 : Shape := ⟨2, ![8192, 2048]⟩
abbrev S2048x8192 : Shape := ⟨2, ![2048, 8192]⟩
abbrev S1x8192 : Shape := ⟨2, ![1, 8192]⟩
abbrev S8192x8192 : Shape := ⟨2, ![8192, 8192]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S1x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GatesRefIdeal.lean ====
abbrev S8192x2048 : Shape := ⟨2, ![8192, 2048]⟩
abbrev S2048x8192 : Shape := ⟨2, ![2048, 8192]⟩
abbrev S1x8192 : Shape := ⟨2, ![1, 8192]⟩
abbrev S8192x8192 : Shape := ⟨2, ![8192, 8192]⟩
abbrev S8192 : Shape := ⟨1, ![8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S1x8192, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDy.lean ====
abbrev S4x8192x2048 : Shape := ⟨3, ![4, 8192, 2048]⟩
abbrev S4x1024x2048 : Shape := ⟨3, ![4, 1024, 2048]⟩
abbrev S4x8192x1024 : Shape := ⟨3, ![4, 8192, 1024]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x2048, .bf16⟩
  | .hbm, ⟨1, _⟩ => ⟨S4x1024x2048, .bf16⟩
  | .hbm, ⟨2, _⟩ => ⟨S4x8192x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .f32⟩
  | .local _ .vmem, ⟨5, _⟩ => ⟨S1x1024x1024, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchDyRefIdeal.lean ====
abbrev S4x8192x2048 : Shape := ⟨3, ![4, 8192, 2048]⟩
abbrev S4x1024x2048 : Shape := ⟨3, ![4, 1024, 2048]⟩
abbrev S_ : Shape := ⟨0, ![]⟩
abbrev S4x8192x1024 : Shape := ⟨3, ![4, 8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S4x1024x2048, .bf16⟩
  | .hbm, ⟨2, _⟩ => ⟨S_, .f32⟩
  | .hbm, ⟨3, _⟩ => ⟨S4x8192x1024, .f32⟩
  | .hbm, ⟨4, _⟩ => ⟨S4x1024x2048, .f32⟩
  | .hbm, ⟨5, _⟩ => ⟨S4x8192x2048, .f32⟩
  | .hbm, ⟨6, _⟩ => ⟨S4x8192x2048, .f32⟩
  | .hbm, ⟨7, _⟩ => ⟨S4x8192x1024, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDw.lean ====
abbrev S4x8192x1024 : Shape := ⟨3, ![4, 8192, 1024]⟩
abbrev S4x8192x2048 : Shape := ⟨3, ![4, 8192, 2048]⟩
abbrev S4x1024x2048 : Shape := ⟨3, ![4, 1024, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x2048, .bf16⟩
  | .hbm, ⟨2, _⟩ => ⟨S4x1024x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BranchDwRefIdeal.lean ====
abbrev S4x8192x1024 : Shape := ⟨3, ![4, 8192, 1024]⟩
abbrev S4x8192x2048 : Shape := ⟨3, ![4, 8192, 2048]⟩
abbrev S_ : Shape := ⟨0, ![]⟩
abbrev S4x1024x2048 : Shape := ⟨3, ![4, 1024, 2048]⟩
abbrev S4x2048x1024 : Shape := ⟨3, ![4, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x2048, .bf16⟩
  | .hbm, ⟨2, _⟩ => ⟨S_, .f32⟩
  | .hbm, ⟨3, _⟩ => ⟨S4x1024x2048, .f32⟩
  | .hbm, ⟨4, _⟩ => ⟨S4x8192x1024, .f32⟩
  | .hbm, ⟨5, _⟩ => ⟨S4x8192x2048, .f32⟩
  | .hbm, ⟨6, _⟩ => ⟨S4x8192x2048, .f32⟩
  | .hbm, ⟨7, _⟩ => ⟨S4x2048x1024, .f32⟩
  | .hbm, ⟨8, _⟩ => ⟨S4x1024x2048, .f32⟩
  | .hbm, ⟨9, _⟩ => ⟨S4x1024x2048, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Merge.lean ====
abbrev S4x8192x1024 : Shape := ⟨3, ![4, 8192, 1024]⟩
abbrev S4x1024x2048 : Shape := ⟨3, ![4, 1024, 2048]⟩
abbrev S8192x8192 : Shape := ⟨2, ![8192, 8192]⟩
abbrev S4x8192x2048 : Shape := ⟨3, ![4, 8192, 2048]⟩
abbrev S8192x2048 : Shape := ⟨2, ![8192, 2048]⟩
abbrev S1x1024x1024 : Shape := ⟨3, ![1, 1024, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4x8192x1024, .bf16⟩
  | .hbm, ⟨1, _⟩ => ⟨S4x1024x2048, .bf16⟩
  | .hbm, ⟨2, _⟩ => ⟨S8192x8192, .bf16⟩
  | .hbm, ⟨3, _⟩ => ⟨S4x8192x2048, .bf16⟩
  | .hbm, ⟨4, _⟩ => ⟨S8192x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_15 : BitVec 32 := 0#32
  let v22 : BitVec 1 := Scalar.cmpi .ne v21 c0_i32_15
  v22

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![arg0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MergeRefIdeal.lean ====
abbrev S4x8192x1024 : Shape := ⟨3, ![4, 8192, 1024]⟩
abbrev S4x1024x2048 : Shape := ⟨3, ![4, 1024, 2048]⟩
abbrev S8192x8192 : Shape := ⟨2, ![8192, 8192]⟩
abbrev S4x8192x2048 : Shape := ⟨3, ![4, 8192, 2048]⟩
abbrev S8192x4x2048 : Shape := ⟨3, ![8192, 4, 2048]⟩
abbrev S_ : Shape := ⟨0, ![]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x1024x2048, .bf16⟩
  | .hbm, ⟨2, _⟩ => ⟨S8192x8192, .bf16⟩
  | .hbm, ⟨3, _⟩ => ⟨S4x8192x1024, .f32⟩
  | .hbm, ⟨4, _⟩ => ⟨S4x1024x2048, .f32⟩
  | .hbm, ⟨5, _⟩ => ⟨S4x8192x2048, .f32⟩
  | .hbm, ⟨6, _⟩ => ⟨S8192x8192, .f32⟩
  | .hbm, ⟨7, _⟩ => ⟨S8192x4x2048, .f32⟩
  | .hbm, ⟨8, _⟩ => ⟨S4x8192x2048, .f32⟩
  | .hbm, ⟨9, _⟩ => ⟨S4x8192x2048, .bf16⟩
  | .hbm, ⟨10, _⟩ => ⟨S4x8192x2048, .f32⟩
  | .hbm, ⟨11, _⟩ => ⟨S_, .f32⟩
  | .hbm, ⟨12, _⟩ => ⟨S8192x2048, .f32⟩
  | .hbm, ⟨13, _⟩ => ⟨S8192x2048, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== MergeBwd.lean ====
abbrev S8192x8192 : Shape := ⟨2, ![8192, 8192]⟩
abbrev S1x8192 : Shape := ⟨2, ![1, 8192]⟩
abbrev S4x8192x2048 : Shape := ⟨3, ![4, 8192, 2048]⟩
abbrev S8192x2048 : Shape := ⟨2, ![8192, 2048]⟩
abbrev S_ : Shape := ⟨0, ![]⟩
abbrev S8x8192 : Shape := ⟨2, ![8, 8192]⟩
abbrev S256x2048 : Shape := ⟨2, ![256, 2048]⟩
abbrev S1x256x2048 : Shape := ⟨3, ![1, 256, 2048]⟩
abbrev S8x2048 : Shape := ⟨2, ![8, 2048]⟩
abbrev S2048 : Shape := ⟨1, ![2048]⟩
abbrev S1x2048 : Shape := ⟨2, ![1, 2048]⟩

abbrev nBuf : Space → Nat
  | .hbm => 18
  | .vmem => 12
  | .smem => 0
  | _ => 0

abbrev bufTy : (tb : Table) → Fin (tcTables nBuf tb) → BufTy
  | .hbm, ⟨0, _⟩ => ⟨S8192x8192, .f32⟩
  | .hbm, ⟨1, _⟩ => ⟨S1x8192, .f32⟩
  | .hbm, ⟨2, _⟩ => ⟨S4x8192x2048, .bf16⟩
  | .hbm, ⟨3, _⟩ => ⟨S8192x2048, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .bf16⟩
  | .hbm, ⟨15, _⟩ => ⟨S4x8192x2048, .bf16⟩
  | .hbm, ⟨16, _⟩ => ⟨S8192x8192, .bf16⟩
  | .hbm, ⟨17, _⟩ => ⟨S8x8192, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S256x2048, .bf16⟩
  | .local _ .vmem, ⟨9, _⟩ => ⟨S256x2048, .bf16⟩
  | .local _ .vmem, ⟨10, _⟩ => ⟨S8x2048, .f32⟩
  | .local _ .vmem, ⟨11, _⟩ => ⟨S8x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MergeBwdRefIdeal.lean ====
abbrev S8192x8192 : Shape := ⟨2, ![8192, 8192]⟩
abbrev S1x8192 : Shape := ⟨2, ![1, 8192]⟩
abbrev S4x8192x2048 : Shape := ⟨3, ![4, 8192, 2048]⟩
abbrev S8192x2048 : Shape := ⟨2, ![8192, 2048]⟩
abbrev S8192 : Shape := ⟨1, ![8192]⟩
abbrev S_ : Shape := ⟨0, ![]⟩
abbrev S8192x4x2048 : Shape := ⟨3, ![8192, 4, 2048]⟩
abbrev S8x8192 : Shape := ⟨2, ![8, 8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1x8192, .f32⟩
  | .hbm, ⟨2, _⟩ => ⟨S4x8192x2048, .bf16⟩
  | .hbm, ⟨3, _⟩ => ⟨S8192x2048, .f32⟩
  | .hbm, ⟨4, _⟩ => ⟨S8192, .f32⟩
  | .hbm, ⟨5, _⟩ => ⟨S4x8192x2048, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x4x2048, .f32⟩
  | .hbm, ⟨22, _⟩ => ⟨S8192x4x2048, .f32⟩
  | .hbm, ⟨23, _⟩ => ⟨S8192x4x2048, .f32⟩
  | .hbm, ⟨24, _⟩ => ⟨S_, .f32⟩
  | .hbm, ⟨25, _⟩ => ⟨S8192x2048, .f32⟩
  | .hbm, ⟨26, _⟩ => ⟨S8192x4x2048, .f32⟩
  | .hbm, ⟨27, _⟩ => ⟨S8192x4x2048, .f32⟩
  | .hbm, ⟨28, _⟩ => ⟨S8192x4x2048, .f32⟩
  | .hbm, ⟨29, _⟩ => ⟨S4x8192x2048, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S1x8192, .f32⟩
  | .hbm, ⟨35, _⟩ => ⟨S_, .f32⟩
  | .hbm, ⟨36, _⟩ => ⟨S8192, .f32⟩
  | .hbm, ⟨37, _⟩ => ⟨S4x8192x2048, .bf16⟩
  | .hbm, ⟨38, _⟩ => ⟨S8192x8192, .bf16⟩
  | .hbm, ⟨39, _⟩ => ⟨S1x8192, .f32⟩
  | .hbm, ⟨40, _⟩ => ⟨S_, .i32⟩
  | .hbm, ⟨41, _⟩ => ⟨S_, .f32⟩
  | .hbm, ⟨42, _⟩ => ⟨S8x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Combine.lean ====
abbrev S8192x18432 : Shape := ⟨2, ![8192, 18432]⟩
abbrev S8192x1024 : Shape := ⟨2, ![8192, 1024]⟩
abbrev S4x8192x1024 : Shape := ⟨3, ![4, 8192, 1024]⟩
abbrev S256x1024 : Shape := ⟨2, ![256, 1024]⟩
abbrev S1x256x1024 : Shape := ⟨3, ![1, 256, 1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x18432, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S4x8192x1024, .bf16⟩
  | .hbm, ⟨8, _⟩ => ⟨S8192x1024, .f32⟩
  | .hbm, ⟨9, _⟩ => ⟨S8192x1024, .f32⟩
  | .hbm, ⟨10, _⟩ => ⟨S4x8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x256x1024, .bf16⟩
  | .local _ .vmem, ⟨19, _⟩ => ⟨S1x256x1024, .bf16⟩
  | _, _ => ⟨S8192x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CombineRefIdeal.lean ====
abbrev S8192x18432 : Shape := ⟨2, ![8192, 18432]⟩
abbrev S8192x1024 : Shape := ⟨2, ![8192, 1024]⟩
abbrev S4x8192x1024 : Shape := ⟨3, ![4, 8192, 1024]⟩
abbrev S1x8192x1024 : Shape := ⟨3, ![1, 8192, 1024]⟩
abbrev S3x8192x1024 : Shape := ⟨3, ![3, 8192, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x18432, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S4x8192x1024, .bf16⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S3x8192x1024, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S3x8192x1024, .f32⟩
  | .hbm, ⟨16, _⟩ => ⟨S_, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S1x8192x1024, .f32⟩
  | .hbm, ⟨22, _⟩ => ⟨S3x8192x1024, .f32⟩
  | .hbm, ⟨23, _⟩ => ⟨S3x8192x1024, .f32⟩
  | .hbm, ⟨24, _⟩ => ⟨S3x8192x1024, .f32⟩
  | .hbm, ⟨25, _⟩ => ⟨S_, .f32⟩
  | .hbm, ⟨26, _⟩ => ⟨S8192x1024, .f32⟩
  | .hbm, ⟨27, _⟩ => ⟨S1x8192x1024, .f32⟩
  | .hbm, ⟨28, _⟩ => ⟨S3x8192x1024, .f32⟩
  | .hbm, ⟨29, _⟩ => ⟨S3x8192x1024, .f32⟩
  | .hbm, ⟨30, _⟩ => ⟨S3x8192x1024, .f32⟩
  | .hbm, ⟨31, _⟩ => ⟨S_, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S1x8192x1024, .f32⟩
  | .hbm, ⟨36, _⟩ => ⟨S3x8192x1024, .f32⟩
  | .hbm, ⟨37, _⟩ => ⟨S3x8192x1024, .f32⟩
  | .hbm, ⟨38, _⟩ => ⟨S3x8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S3x8192x1024, .bf16⟩
  | .hbm, ⟨56, _⟩ => ⟨S1x8192x1024, .bf16⟩
  | .hbm, ⟨57, _⟩ => ⟨S4x8192x1024, .bf16⟩
  | _, _ => ⟨S8192x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== AdamSmall.lean ====
abbrev S8x5616x128 : Shape := ⟨3, ![8, 5616, 128]⟩
abbrev S5616x128 : Shape := ⟨2, ![5616, 128]⟩
abbrev S8x2808x128 : Shape := ⟨3, ![8, 2808, 128]⟩
abbrev S2808x128 : Shape := ⟨2, ![2808, 128]⟩
abbrev S1x2808x128 : Shape := ⟨3, ![1, 2808, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x5616x128, .f32⟩
  | .hbm, ⟨1, _⟩ => ⟨S5616x128, .f32⟩
  | .hbm, ⟨2, _⟩ => ⟨S5616x128, .f32⟩
  | .hbm, ⟨3, _⟩ => ⟨S5616x128, .f32⟩
  | .hbm, ⟨4, _⟩ => ⟨S5616x128, .f32⟩
  | .hbm, ⟨5, _⟩ => ⟨S5616x128, .f32⟩
  | .hbm, ⟨6, _⟩ => ⟨S5616x128, .f32⟩
  | .hbm, ⟨7, _⟩ => ⟨S5616x128, .f32⟩
  | .local _ .vmem, ⟨0, _⟩ => ⟨S8x2808x128, .f32⟩
  | .local _ .vmem, ⟨1, _⟩ => ⟨S8x2808x128, .f32⟩
  | .local _ .vmem, ⟨2, _⟩ => ⟨S2808x128, .f32⟩
  | .local _ .vmem, ⟨3, _⟩ => ⟨S2808x128, .f32⟩
  | .local _ .vmem, ⟨4, _⟩ => ⟨S2808x128, .f32⟩
  | .local _ .vmem, ⟨5, _⟩ => ⟨S2808x128, .f32⟩
  | .local _ .vmem, ⟨6, _⟩ => ⟨S2808x128, .f32⟩
  | .local _ .vmem, ⟨7, _⟩ => ⟨S2808x128, .f32⟩
  | .local _ .vmem, ⟨8, _⟩ => ⟨S2808x128, .f32⟩
  | .local _ .vmem, ⟨9, _⟩ => ⟨S2808x128, .f32⟩
  | .local _ .vmem, ⟨10, _⟩ => ⟨S2808x128, .f32⟩
  | .local _ .vmem, ⟨11, _⟩ => ⟨S2808x128, .f32⟩
  | .local _ .vmem, ⟨12, _⟩ => ⟨S2808x128, .f32⟩
  | .local _ .vmem, ⟨13, _⟩ => ⟨S2808x128, .f32⟩
  | .local _ .vmem, ⟨14, _⟩ => ⟨S2808x128, .f32⟩
  | .local _ .vmem, ⟨15, _⟩ => ⟨S2808x128, .f32⟩
  | _, _ => ⟨S8x5616x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2808x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2808x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2808x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2808x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2808x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2808x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2808x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2808x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S8x5616x128 : Shape := ⟨3, ![8, 5616, 128]⟩
abbrev S5616x128 : Shape := ⟨2, ![5616, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x5616x128, .f32⟩
  | .hbm, ⟨1, _⟩ => ⟨S5616x128, .f32⟩
  | .hbm, ⟨2, _⟩ => ⟨S5616x128, .f32⟩
  | .hbm, ⟨3, _⟩ => ⟨S5616x128, .f32⟩
  | .hbm, ⟨4, _⟩ => ⟨S_, .f32⟩
  | .hbm, ⟨5, _⟩ => ⟨S5616x128, .f32⟩
  | .hbm, ⟨6, _⟩ => ⟨S_, .f32⟩
  | .hbm, ⟨7, _⟩ => ⟨S5616x128, .f32⟩
  | .hbm, ⟨8, _⟩ => ⟨S5616x128, .f32⟩
  | .hbm, ⟨9, _⟩ => ⟨S_, .f32⟩
  | .hbm, ⟨10, _⟩ => ⟨S5616x128, .f32⟩
  | .hbm, ⟨11, _⟩ => ⟨S5616x128, .f32⟩
  | .hbm, ⟨12, _⟩ => ⟨S5616x128, .f32⟩
  | .hbm, ⟨13, _⟩ => ⟨S_, .f32⟩
  | .hbm, ⟨14, _⟩ => ⟨S5616x128, .f32⟩
  | .hbm, ⟨15, _⟩ => ⟨S5616x128, .f32⟩
  | .hbm, ⟨16, _⟩ => ⟨S5616x128, .f32⟩
  | .hbm, ⟨17, _⟩ => ⟨S_, .f32⟩
  | .hbm, ⟨18, _⟩ => ⟨S5616x128, .f32⟩
  | .hbm, ⟨19, _⟩ => ⟨S5616x128, .f32⟩
  | .hbm, ⟨20, _⟩ => ⟨S5616x128, .f32⟩
  | .hbm, ⟨21, _⟩ => ⟨S_, .f32⟩
  | .hbm, ⟨22, _⟩ => ⟨S5616x128, .f32⟩
  | .hbm, ⟨23, _⟩ => ⟨S5616x128, .f32⟩
  | .hbm, ⟨24, _⟩ => ⟨S_, .f32⟩
  | .hbm, ⟨25, _⟩ => ⟨S5616x128, .f32⟩
  | .hbm, ⟨26, _⟩ => ⟨S5616x128, .f32⟩
  | .hbm, ⟨27, _⟩ => ⟨S5616x128, .f32⟩
  | .hbm, ⟨28, _⟩ => ⟨S_, .f32⟩
  | .hbm, ⟨29, _⟩ => ⟨S5616x128, .f32⟩
  | .hbm, ⟨30, _⟩ => ⟨S5616x128, .f32⟩
  | .hbm, ⟨31, _⟩ => ⟨S5616x128, .f32⟩
  | .hbm, ⟨32, _⟩ => ⟨S_, .f32⟩
  | .hbm, ⟨33, _⟩ => ⟨S5616x128, .f32⟩
  | .hbm, ⟨34, _⟩ => ⟨S5616x128, .f32⟩
  | .hbm, ⟨35, _⟩ => ⟨S5616x128, .f32⟩
  | .hbm, ⟨36, _⟩ => ⟨S_, .f32⟩
  | .hbm, ⟨37, _⟩ => ⟨S5616x128, .f32⟩
  | .hbm, ⟨38, _⟩ => ⟨S5616x128, .f32⟩
  | _, _ => ⟨S8x5616x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S1x124x128 : Shape := ⟨3, ![1, 124, 128]⟩
abbrev S124x128 : Shape := ⟨2, ![124, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x124x128, .f32⟩
  | .hbm, ⟨1, _⟩ => ⟨S124x128, .f32⟩
  | .hbm, ⟨2, _⟩ => ⟨S124x128, .f32⟩
  | .hbm, ⟨3, _⟩ => ⟨S124x128, .f32⟩
  | .hbm, ⟨4, _⟩ => ⟨S124x128, .f32⟩
  | .hbm, ⟨5, _⟩ => ⟨S124x128, .f32⟩
  | .hbm, ⟨6, _⟩ => ⟨S124x128, .f32⟩
  | .hbm, ⟨7, _⟩ => ⟨S124x128, .f32⟩
  | .local _ .vmem, ⟨0, _⟩ => ⟨S1x124x128, .f32⟩
  | .local _ .vmem, ⟨1, _⟩ => ⟨S124x128, .f32⟩
  | .local _ .vmem, ⟨2, _⟩ => ⟨S124x128, .f32⟩
  | .local _ .vmem, ⟨3, _⟩ => ⟨S124x128, .f32⟩
  | .local _ .vmem, ⟨4, _⟩ => ⟨S124x128, .f32⟩
  | .local _ .vmem, ⟨5, _⟩ => ⟨S124x128, .f32⟩
  | .local _ .vmem, ⟨6, _⟩ => ⟨S124x128, .f32⟩
  | .local _ .vmem, ⟨7, _⟩ => ⟨S124x128, .f32⟩
  | _, _ => ⟨S1x124x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x124x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S124x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S1x124x128 : Shape := ⟨3, ![1, 124, 128]⟩
abbrev S124x128 : Shape := ⟨2, ![124, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x124x128, .f32⟩
  | .hbm, ⟨1, _⟩ => ⟨S124x128, .f32⟩
  | .hbm, ⟨2, _⟩ => ⟨S124x128, .f32⟩
  | .hbm, ⟨3, _⟩ => ⟨S124x128, .f32⟩
  | .hbm, ⟨4, _⟩ => ⟨S124x128, .f32⟩
  | .hbm, ⟨5, _⟩ => ⟨S_, .f32⟩
  | .hbm, ⟨6, _⟩ => ⟨S124x128, .f32⟩
  | .hbm, ⟨7, _⟩ => ⟨S124x128, .f32⟩
  | .hbm, ⟨8, _⟩ => ⟨S_, .f32⟩
  | .hbm, ⟨9, _⟩ => ⟨S124x128, .f32⟩
  | .hbm, ⟨10, _⟩ => ⟨S124x128, .f32⟩
  | .hbm, ⟨11, _⟩ => ⟨S124x128, .f32⟩
  | .hbm, ⟨12, _⟩ => ⟨S_, .f32⟩
  | .hbm, ⟨13, _⟩ => ⟨S124x128, .f32⟩
  | .hbm, ⟨14, _⟩ => ⟨S124x128, .f32⟩
  | .hbm, ⟨15, _⟩ => ⟨S124x128, .f32⟩
  | .hbm, ⟨16, _⟩ => ⟨S_, .f32⟩
  | .hbm, ⟨17, _⟩ => ⟨S124x128, .f32⟩
  | .hbm, ⟨18, _⟩ => ⟨S124x128, .f32⟩
  | .hbm, ⟨19, _⟩ => ⟨S124x128, .f32⟩
  | .hbm, ⟨20, _⟩ => ⟨S_, .f32⟩
  | .hbm, ⟨21, _⟩ => ⟨S124x128, .f32⟩
  | .hbm, ⟨22, _⟩ => ⟨S124x128, .f32⟩
  | .hbm, ⟨23, _⟩ => ⟨S_, .f32⟩
  | .hbm, ⟨24, _⟩ => ⟨S124x128, .f32⟩
  | .hbm, ⟨25, _⟩ => ⟨S124x128, .f32⟩
  | .hbm, ⟨26, _⟩ => ⟨S124x128, .f32⟩
  | .hbm, ⟨27, _⟩ => ⟨S_, .f32⟩
  | .hbm, ⟨28, _⟩ => ⟨S124x128, .f32⟩
  | .hbm, ⟨29, _⟩ => ⟨S124x128, .f32⟩
  | .hbm, ⟨30, _⟩ => ⟨S124x128, .f32⟩
  | .hbm, ⟨31, _⟩ => ⟨S_, .f32⟩
  | .hbm, ⟨32, _⟩ => ⟨S124x128, .f32⟩
  | .hbm, ⟨33, _⟩ => ⟨S124x128, .f32⟩
  | .hbm, ⟨34, _⟩ => ⟨S124x128, .f32⟩
  | .hbm, ⟨35, _⟩ => ⟨S_, .f32⟩
  | .hbm, ⟨36, _⟩ => ⟨S124x128, .f32⟩
  | .hbm, ⟨37, _⟩ => ⟨S124x128, .f32⟩
  | _, _ => ⟨S1x124x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== NormBwd.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x2048 : Shape := ⟨2, ![8, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S_, .i32⟩
  | .hbm, ⟨53, _⟩ => ⟨S_, .f32⟩
  | .hbm, ⟨54, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== LossHead.lean ====
abbrev S8192x2048 : Shape := ⟨2, ![8192, 2048]⟩
abbrev S1x2048 : Shape := ⟨2, ![1, 2048]⟩
abbrev S8x2048 : Shape := ⟨2, ![8, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8x2048, .f32⟩
  | .hbm, ⟨5, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S8x2048, .f32⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x2048 : Shape := ⟨2, ![8, 2048]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1x2048, .f32⟩
  | .hbm, ⟨73, _⟩ => ⟨S_, .i32⟩
  | .hbm, ⟨74, _⟩ => ⟨S_, .f32⟩
  | .hbm, ⟨75, _⟩ => ⟨S8x2048, .f32⟩
  | .hbm, ⟨76, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Proof.Head.lean ====
/-
  One head of the stick-breaking attention over the reals: the scores, the stick lengths, the attention weights and the
  gradients, at natural-number positions; and the facts about them and about the extended reals which both programs use.
-/
module

public import Idealize.ShloMosaic.Lib.Pipeline.ValueKit

@[expose] public section

set_option maxRecDepth 16384
noncomputable section
namespace Cert.Head
open Idealize.ShloMosaic
open Finset (range Ioo Ioc)

/-- A finite sum of real numbers is the same sum taken in the extended reals. -/
theorem sum_coe {n : ℕ} (f : ℕ → ℝ) : (∑ x : Fin n, ((f x : ℝ) : EReal)) = ((∑ x ∈ range n, f x : ℝ) : EReal) := by
  rw [← Fin.sum_univ_eq_sum_range (fun x => f x) n]
  exact (map_sum (⟨⟨fun r : ℝ => (r : EReal), EReal.coe_zero⟩, EReal.coe_add⟩ : ℝ →+ EReal) _ _).symm

/-- The rank-two array `x` holds the real numbers `f`. -/
def Rd {n m : ℕ} {φ : FTy} (x : FVec Ideal ⟨2, ![n, m]⟩ φ) (f : ℕ → ℕ → ℝ) : Prop :=
  ∀ (r : Fin n) (s : Fin m), x (ix2 r s) = ((f r s : ℝ) : EReal)

/-- One head: the scaled queries, the keys, the values and the gradient of the attention's output. -/
structure Head where
  /-- the scaled query at a position and a feature -/
  q : ℕ → ℕ → ℝ
  /-- the key -/
  k : ℕ → ℕ → ℝ
  /-- the value -/
  v : ℕ → ℕ → ℝ
  /-- the gradient of the attention's output -/
  e : ℕ → ℕ → ℝ

/-- The logarithm of the logistic function. -/
def lsig (z : ℝ) : ℝ := min z 0 - Real.log (1 + Real.exp (0 - |z|))

namespace Head
variable (H : Head)

/-- The score of query `t` against key `s`. -/
def z (t s : ℕ) : ℝ := ∑ d ∈ range 128, H.q t d * H.k s d
/-- The logarithm of the break fraction. -/
def lb (t s : ℕ) : ℝ := lsig (H.z t s)
/-- The logarithm of the fraction left over. -/
def l1 (t s : ℕ) : ℝ := H.lb t s - H.z t s
/-- The logarithm of what the keys strictly between `s` and `t` leave of the stick. -/
def aft (t s : ℕ) : ℝ := ∑ j ∈ Ioo s t, H.l1 t j
/-- The attention weight. -/
def w (t s : ℕ) : ℝ := if s < t then Real.exp (H.lb t s + H.aft t s) else 0
/-- The gradient of the weight. -/
def gv (t s : ℕ) : ℝ := ∑ d ∈ range 128, H.e t d * H.v s d
/-- The weight times its gradient. -/
def gw (t s : ℕ) : ℝ := H.w t s * H.gv t s
/-- The gradient which the keys before `s` send through their sticks. -/
def bef (t s : ℕ) : ℝ := ∑ j ∈ range s, H.gw t j
/-- The gradient of the score. -/
def dz (t s : ℕ) : ℝ := if s < t then H.gw t s * (1 - Real.exp (H.lb t s)) - H.bef t s * Real.exp (H.lb t s) else 0
/-- The masked logarithm of the fraction left over. -/
def l1m (t s : ℕ) : ℝ := if s < t then H.l1 t s else 0

/-- What the forward pass saves of the sticks: what is left behind the end of each of the 64 tiles of 128 keys. -/
def car (t n : ℕ) : ℝ := if n < 64 then H.aft t (128 * n + 127) else 0

/-- The stick left behind a key, from the stick left behind the end of its tile and the keys between. -/
theorem aft_tile (t off c : ℕ) (hc : c < 128) :
    H.aft t (off + 127) + ∑ j ∈ range 128, (if c < j then H.l1m t (off + j) else 0) = H.aft t (off + c) := by
  have h1 : ∑ j ∈ range 128, (if c < j then H.l1m t (off + j) else 0)
      = ∑ j ∈ Ioc (off + c) (off + 127), H.l1m t j := by
    rw [← Finset.sum_filter]
    refine Finset.sum_bij (fun j _ => off + j) ?_ ?_ ?_ ?_
    · intro j hj; simp only [Finset.mem_filter, Finset.mem_range, Finset.mem_Ioc] at *; omega
    · intro a _ b _ h; omega
    · intro b hb; simp only [Finset.mem_Ioc] at hb
      exact ⟨b - off, by simp only [Finset.mem_filter, Finset.mem_range]; omega, by omega⟩
    · intro j _; rfl
  rw [h1]; unfold aft
  have h2 : ∑ j ∈ Ioc (off + c) (off + 127), H.l1m t j = ∑ j ∈ (Ioc (off + c) (off + 127)).filter (· < t), H.l1 t j := by
    rw [Finset.sum_filter]; rfl
  rw [h2, ← Finset.sum_union]
  · refine Finset.sum_congr ?_ fun _ _ => rfl
    ext j; simp only [Finset.mem_union, Finset.mem_Ioo, Finset.mem_filter, Finset.mem_Ioc]; omega
  · rw [Finset.disjoint_left]; intro j h h'
    simp only [Finset.mem_Ioo, Finset.mem_filter, Finset.mem_Ioc] at *; omega

/-- What is sent through the sticks before a key, from what is sent before its tile and the keys between. -/
theorem bef_tile (t off c : ℕ) (hc : c ≤ 128) :
    H.bef t off + ∑ j ∈ range 128, (if j < c then H.gw t (off + j) else 0) = H.bef t (off + c) := by
  unfold bef
  rw [Finset.sum_range_add, ← Finset.sum_filter]
  congr 1
  refine Finset.sum_congr ?_ fun _ _ => rfl
  ext j; simp only [Finset.mem_filter, Finset.mem_range]; omega

/-- What is sent through the sticks of all the tiles up to the next. -/
theorem bef_next (t off : ℕ) : H.bef t off + ∑ j ∈ range 128, H.gw t (off + j) = H.bef t (off + 128) := by
  unfold bef; rw [Finset.sum_range_add]

end Head

/-- The kernel's logarithm of the logistic at a real number. -/
theorem lsig_coe (z : ℝ) : min (z : EReal) 0 - Ideal.log (1 + Ideal.exp (0 - max (z : EReal) (-(z : EReal)))) = ((lsig z : ℝ) : EReal) := by
  have h : ¬ (1 + Real.exp (0 - |z|) ≤ 0) := by have := Real.exp_pos (0 - |z|); linarith
  have ha : max (z : EReal) (-(z : EReal)) = ((|z| : ℝ) : EReal) := by
    rw [← EReal.coe_neg, abs_eq_max_neg]; exact (EReal.coe_strictMono.monotone.map_max).symm
  have hm : min (z : EReal) 0 = ((min z 0 : ℝ) : EReal) := (EReal.coe_strictMono.monotone.map_min (a := z) (b := 0)).symm
  rw [ha, hm, ← EReal.coe_zero, ← EReal.coe_sub, Ideal.exp_coe, ← EReal.coe_one, ← EReal.coe_add, Ideal.log_coe, if_neg h,
    ← EReal.coe_sub]
  rfl

end Cert.Head
-- ==== Proof.PayCommon.lean ====
/-
  Facts about the words, masks and triangles of the kernel's body which its three step widths share.
-/
module

public import proofs.«01_k».proof.Proof.Gen.KernelIdeal
public import Idealize.ShloMosaic.Lib.WordCmp
public import proofs.«01_k».proof.Proof.Head

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)
open Idealize.ShloMosaic.WordCmp (cmpi_eq_ofNat cmpi_slt_ofNat)

/-- The integer array `x` holds the words of the natural numbers `f`. -/
def Wd {n m : ℕ} (x : IVec ⟨2, ![n, m]⟩ 32) (f : ℕ → ℕ → ℕ) : Prop :=
  ∀ (r : Fin n) (s : Fin m), x (ix2 r s) = BitVec.ofNat 32 (f r s)

/-- The one-bit array `x` holds the truth of `p`. -/
def Mk {n m : ℕ} (x : IVec ⟨2, ![n, m]⟩ 1) (p : ℕ → ℕ → Bool) : Prop :=
  ∀ (r : Fin n) (s : Fin m), x (ix2 r s) = BitVec.ofBool (p r s)

/-- The square matrix `x` is block diagonal with two blocks of the strict triangle `p`. -/
def Tri (x : FVec Ideal S256x256 .bf16) (p : ℕ → ℕ → Bool) : Prop :=
  ∀ (r s : Fin 256), x (ix2 r s) = if r.val / 128 = s.val / 128 ∧ p (r.val % 128) (s.val % 128) then 1 else 0

/-- A selection of two real numbers by a truth value. -/
theorem sel_coe (b : Bool) (x y : ℝ) : Scalar.select (BitVec.ofBool b) (x : EReal) (y : EReal) = ((if b then x else y : ℝ) : EReal) := by
  cases b <;> rfl

/-- The column of a tile's carry, picked out of its row by comparing lane numbers. -/
theorem carry_sum (J τ : ℕ) (hJ : J < 8) (hτ : τ < 8) (f : ℕ → ℝ) (g : Fin 128 → EReal) (hg : ∀ x : Fin 128, g x = ((f x : ℝ) : EReal)) :
    (∑ x : Fin 128, Scalar.select (IntOp.cmpi CmpIPredicate.eq (BitVec.ofNat 32 x.val)
      (Scalar.addi (Scalar.muli (BitVec.ofNat 32 J) 8#32) (BitVec.ofNat 32 τ))) (g x) (0 : EReal)) = ((f (8 * J + τ) : ℝ) : EReal) := by
  have hw : Scalar.addi (Scalar.muli (BitVec.ofNat 32 J) 8#32) (BitVec.ofNat 32 τ) = BitVec.ofNat 32 (8 * J + τ) := by
    apply BitVec.eq_of_toNat_eq
    simp only [Scalar.addi, Scalar.muli, IntOp.addi, IntOp.muli, BitVec.toNat_add, BitVec.toNat_mul, BitVec.toNat_ofNat]; omega
  rw [hw, Finset.sum_eq_single (⟨8 * J + τ, by omega⟩ : Fin 128)]
  · rw [hg, show IntOp.cmpi CmpIPredicate.eq (BitVec.ofNat 32 (8 * J + τ)) (BitVec.ofNat 32 (8 * J + τ)) = 1#1 from by
      rw [cmpi_eq_ofNat (by omega) (by omega)]; simp]; rfl
  · intro b _ hb
    have : b.val ≠ 8 * J + τ := fun h => hb (Fin.ext h)
    rw [cmpi_eq_ofNat (by have := b.isLt; omega) (by omega)]; simp [this]; rfl
  · intro h; exact absurd (Finset.mem_univ _) h

/-- A row of 256 numbers times a column of the block-diagonal triangle: the sum over the column's own tile. -/
theorem tri_sum (T : FVec Ideal S256x256 .bf16) (p : ℕ → ℕ → Bool) (hT : Tri T p) (h c : ℕ) (hh : h < 2) (hc : c < 128)
    (g : Fin 256 → EReal) (f : ℕ → ℝ) (hg : ∀ x : Fin 256, g x = ((f x : ℝ) : EReal)) (y : Fin 256) (hy : y.val = 128 * h + c) :
    (∑ x : Fin 256, g x * T (ix2 x y)) = ((∑ j ∈ range 128, (if p j c then f (128 * h + j) else 0) : ℝ) : EReal) := by
  have h1 : ∀ x : Fin 256, g x * T (ix2 x y) = (((if x.val / 128 = h ∧ p (x.val % 128) c then f x else 0 : ℝ)) : EReal) := by
    intro x; rw [hg, hT, show y.val / 128 = h by omega, show y.val % 128 = c by omega]
    split_ifs <;> simp
  rw [Finset.sum_congr rfl fun x _ => h1 x, sum_coe (fun x => if x / 128 = h ∧ p (x % 128) c then f x else 0)]
  congr 1
  rw [show (256 : ℕ) = 128 + 128 from rfl, Finset.sum_range_add]
  have ha : ∀ j ∈ range 128, (if j / 128 = h ∧ p (j % 128) c then f j else 0) = if h = 0 then (if p j c then f j else 0) else 0 := by
    intro j hj; have := Finset.mem_range.1 hj
    rw [show j / 128 = 0 by omega, show j % 128 = j by omega]
    by_cases h0 : h = 0
    · subst h0; rw [if_pos rfl]; simp only [true_and]
    · rw [if_neg h0, if_neg (fun h' => h0 h'.1.symm)]
  have hb : ∀ j ∈ range 128, (if (128 + j) / 128 = h ∧ p ((128 + j) % 128) c then f (128 + j) else 0) = if h = 1 then (if p j c then f (128 + j) else 0) else 0 := by
    intro j hj; have := Finset.mem_range.1 hj
    rw [show (128 + j) / 128 = 1 by omega, show (128 + j) % 128 = j by omega]
    by_cases h0 : h = 1
    · subst h0; rw [if_pos rfl]; simp only [true_and]
    · rw [if_neg h0, if_neg (fun h' => h0 h'.1.symm)]
  rw [Finset.sum_congr rfl ha, Finset.sum_congr rfl hb]
  rcases (by omega : h = 0 ∨ h = 1) with rfl | rfl <;> simp

/-- The rank-two array `x` holds the real numbers `f` (at any float format's spelling of its type). -/
abbrev Rv {n m : ℕ} (x : (⟨2, ![n, m]⟩ : Shape).Idx → EReal) (f : ℕ → ℕ → ℝ) : Prop :=
  ∀ (r : Fin n) (s : Fin m), x (ix2 r s) = ((f r s : ℝ) : EReal)

/-- The masked weight from its logarithms. -/
theorem w_end (H : Head) (t s : ℕ) (a : ℝ) (ha : a = H.aft t s) :
    Scalar.select (BitVec.ofBool (decide (s < t))) (Ideal.exp ((H.lb t s : ℝ) + (a : EReal))) (0 : EReal) = ((H.w t s : ℝ) : EReal) := by
  rw [← EReal.coe_add, Ideal.exp_coe, ← EReal.coe_zero, sel_coe, ha]; simp [Head.w]

/-- The gradient of the masked score from its parts. -/
theorem dz_end (H : Head) (t s : ℕ) (b : ℝ) (hb : b = H.bef t s) :
    Scalar.select (BitVec.ofBool (decide (s < t)))
      ((H.gw t s : ℝ) * (1 - Ideal.exp (H.lb t s : ℝ)) - (b : EReal) * Ideal.exp (H.lb t s : ℝ)) (0 : EReal) = ((H.dz t s : ℝ) : EReal) := by
  rw [Ideal.exp_coe, ← EReal.coe_one, ← EReal.coe_sub, ← EReal.coe_mul, ← EReal.coe_mul, ← EReal.coe_sub, ← EReal.coe_zero, sel_coe, hb]
  simp [Head.dz]

/-- The weight from its logarithms, at a key before the query. -/
theorem w_end' (H : Head) (t s : ℕ) (a : ℝ) (h : s < t) (ha : a = H.aft t s) :
    Ideal.exp ((H.lb t s : ℝ) + (a : EReal)) = ((H.w t s : ℝ) : EReal) := by
  have := w_end H t s a ha
  rwa [decide_eq_true h] at this

/-- The gradient of the score from its parts, at a key before the query. -/
theorem dz_end' (H : Head) (t s : ℕ) (b : ℝ) (h : s < t) (hb : b = H.bef t s) :
    (H.gw t s : ℝ) * (1 - Ideal.exp (H.lb t s : ℝ)) - (b : EReal) * Ideal.exp (H.lb t s : ℝ) = ((H.dz t s : ℝ) : EReal) := by
  have := dz_end H t s b hb
  rwa [decide_eq_true h] at this

/-- The stick left behind a tile's end and the scan within the tile make the stick left behind a key. -/
theorem car_scan (H : Head) (t off J τ c s : ℕ) (hc : c < 128) (ho : off = 1024 * J) (hs : s = 128 * τ + c) (hn : 8 * J + τ < 64) :
    H.car t (8 * J + τ) + ∑ j ∈ range 128, (if c < j then H.l1m t (off + 128 * τ + j) else 0) = H.aft t (off + s) := by
  have h := H.aft_tile t (off + 128 * τ) c hc
  rw [Head.car, if_pos hn, show 128 * (8 * J + τ) + 127 = off + 128 * τ + 127 by omega, h]; congr 1; omega

/-- What is sent before a tile and the scan within the tile make what is sent before a key. -/
theorem bef_scan (H : Head) (t off τ c s : ℕ) (hc : c < 128) (hs : s = 128 * τ + c) :
    H.bef t (off + 128 * τ) + ∑ j ∈ range 128, (if j < c then H.gw t (off + 128 * τ + j) else 0) = H.bef t (off + s) := by
  rw [H.bef_tile t (off + 128 * τ) c (by omega)]; congr 1; omega

end Cert.KernelIdeal.Pay
-- ==== Proof.PayHalf.lean ====
/-
  The half-width diagonal step of the kernel's body: each printed value, read at an index, is the real number the head
  defines.
-/
module

public import proofs.«01_k».proof.Proof.Gen.KernelIdeal.Skeleton
public import proofs.«01_k».proof.Proof.PayCommon

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)
open Idealize.ShloMosaic.WordCmp (cmpi_eq_ofNat cmpi_slt_ofNat)

variable (H : Head) (t0 off : ℕ)

theorem pay118_at (v38 : FVec Ideal S512x128 .bf16) (v272 : Vec Ideal S512x128 .f32)
    (hq : Rd v38 fun r d => H.q (t0 + r) d) (hk : Rd (φ := .f32) v272 fun s d => H.k (off + s) d) :
    Rd (k0_pay118 v38 v272) fun r s => H.z (t0 + r) (off + s) := by
  intro r s
  pointwise [k0_pay118, k0_pay115]
  simp only [hq _ _, hk _ _, ← EReal.coe_mul]
  exact sum_coe fun d => H.q (t0 + r) d * H.k (off + s) d

theorem pay119_at (v38 : FVec Ideal S512x128 .bf16) (v272 : Vec Ideal S512x128 .f32)
    (hq : Rd v38 fun r d => H.q (t0 + r) d) (hk : Rd (φ := .f32) v272 fun s d => H.k (off + s) d) :
    Rd (k0_pay119 v38 v272) fun r s => H.lb (t0 + r) (off + s) := by
  intro r s
  pointwise [k0_pay119]
  simp only [pay118_at H t0 off v38 v272 hq hk _ _]
  exact lsig_coe _

/-- The causal mask. -/
theorem pay117_at (v42 v43 : IVec S512x1024 32) (v248 : BitVec 32) (J : ℕ) (hJ : J < 8) (ht : t0 < 8192) (h42 : Wd v42 fun r _ => t0 + r) (h43 : Wd v43 fun _ s => s)
    (h248 : v248 = BitVec.ofNat 32 J) (ho : off = 1024 * J) :
    Mk (k0_pay117 v42 v43 v248) fun r s => decide (off + s < t0 + r) := by
  intro r s
  pointwise [k0_pay117]
  simp only [h42 _ _, h43 _ _, h248]
  have hw : IntOp.addi (BitVec.ofNat 32 s.val) (Scalar.muli (BitVec.ofNat 32 J) 1024#32) = BitVec.ofNat 32 (off + s) := by
    apply BitVec.eq_of_toNat_eq
    simp only [Scalar.muli, IntOp.addi, IntOp.muli, BitVec.toNat_add, BitVec.toNat_mul, BitVec.toNat_ofNat]; omega
  rw [hw, cmpi_slt_ofNat (by have := s.isLt; simp; omega) (by have := r.isLt; simp; omega)]

theorem pay120_at (v38 : FVec Ideal S512x128 .bf16) (v272 : Vec Ideal S512x128 .f32) (v42 v43 v248)
    (hq : Rd v38 fun r d => H.q (t0 + r) d) (hk : Rd (φ := .f32) v272 fun s d => H.k (off + s) d)
    (hm : Mk (k0_pay117 v42 v43 v248) fun r s => decide (off + s < t0 + r)) :
    Rd (k0_pay120 v38 v42 v43 v248 v272) fun r s => H.l1m (t0 + r) (off + s) := by
  intro r s
  pointwise [k0_pay120]
  simp only [pay118_at H t0 off v38 v272 hq hk _ _, pay119_at H t0 off v38 v272 hq hk _ _, hm _ _]
  rw [← EReal.coe_zero, ← EReal.coe_sub, sel_coe]
  simp [Head.l1m, Head.l1]

/-- A tile's scan of the masked logarithms. -/
theorem pay123_at (v38 : FVec Ideal S512x128 .bf16) (v272 : Vec Ideal S512x128 .f32) (v42 v43 v132 v248)
    (hl : Rd (k0_pay120 v38 v42 v43 v248 v272) fun r s => H.l1m (t0 + r) (off + s)) (hT : Tri v132 fun a b => decide (b < a)) :
    Rd (k0_pay123 v38 v42 v43 v132 v248 v272) fun r c => ∑ j ∈ range 128, (if c < j then H.l1m (t0 + r) (off + 0 + j) else 0) := by
  intro r c
  pointwise [k0_pay123, k0_pay122]
  rw [tri_sum v132 _ hT 0 c (by omega) c.isLt _ (fun x => H.l1m (t0 + r) (off + (0 + x))) (fun x => by first | exact hl _ _ | exact (hl _ _).trans (by simp)) _ (by simp)]
  simp only [decide_eq_true_eq, ← Nat.add_assoc, Nat.add_zero, Nat.mul_zero, Nat.mul_one, Nat.reduceMul]

/-- A tile's scan of the masked logarithms. -/
theorem pay124_at (v38 : FVec Ideal S512x128 .bf16) (v272 : Vec Ideal S512x128 .f32) (v42 v43 v132 v248)
    (hl : Rd (k0_pay120 v38 v42 v43 v248 v272) fun r s => H.l1m (t0 + r) (off + s)) (hT : Tri v132 fun a b => decide (b < a)) :
    Rd (k0_pay124 v38 v42 v43 v132 v248 v272) fun r c => ∑ j ∈ range 128, (if c < j then H.l1m (t0 + r) (off + 128 + j) else 0) := by
  intro r c
  pointwise [k0_pay124, k0_pay122]
  rw [tri_sum v132 _ hT 1 c (by omega) c.isLt _ (fun x => H.l1m (t0 + r) (off + (0 + x))) (fun x => by first | exact hl _ _ | exact (hl _ _).trans (by simp)) _ (by simp)]
  simp only [decide_eq_true_eq, ← Nat.add_assoc, Nat.add_zero, Nat.mul_zero, Nat.mul_one, Nat.reduceMul]

/-- A tile's scan of the masked logarithms. -/
theorem pay126_at (v38 : FVec Ideal S512x128 .bf16) (v272 : Vec Ideal S512x128 .f32) (v42 v43 v132 v248)
    (hl : Rd (k0_pay120 v38 v42 v43 v248 v272) fun r s => H.l1m (t0 + r) (off + s)) (hT : Tri v132 fun a b => decide (b < a)) :
    Rd (k0_pay126 v38 v42 v43 v132 v248 v272) fun r c => ∑ j ∈ range 128, (if c < j then H.l1m (t0 + r) (off + 256 + j) else 0) := by
  intro r c
  pointwise [k0_pay126, k0_pay125]
  rw [tri_sum v132 _ hT 0 c (by omega) c.isLt _ (fun x => H.l1m (t0 + r) (off + (256 + x))) (fun x => by first | exact hl _ _ | exact (hl _ _).trans (by simp)) _ (by simp)]
  simp only [decide_eq_true_eq, ← Nat.add_assoc, Nat.add_zero, Nat.mul_zero, Nat.mul_one, Nat.reduceMul]

/-- A tile's scan of the masked logarithms. -/
theorem pay127_at (v38 : FVec Ideal S512x128 .bf16) (v272 : Vec Ideal S512x128 .f32) (v42 v43 v132 v248)
    (hl : Rd (k0_pay120 v38 v42 v43 v248 v272) fun r s => H.l1m (t0 + r) (off + s)) (hT : Tri v132 fun a b => decide (b < a)) :
    Rd (k0_pay127 v38 v42 v43 v132 v248 v272) fun r c => ∑ j ∈ range 128, (if c < j then H.l1m (t0 + r) (off + 384 + j) else 0) := by
  intro r c
  pointwise [k0_pay127, k0_pay125]
  rw [tri_sum v132 _ hT 1 c (by omega) c.isLt _ (fun x => H.l1m (t0 + r) (off + (256 + x))) (fun x => by first | exact hl _ _ | exact (hl _ _).trans (by simp)) _ (by simp)]
  simp only [decide_eq_true_eq, ← Nat.add_assoc, Nat.add_zero, Nat.mul_zero, Nat.mul_one, Nat.reduceMul]

/-- The carry of the step's first tile. -/
theorem pay128_at (v44 : IVec S512x128 32) (v248 : BitVec 32) (v296 : Vec Ideal S512x128 .f32) (J : ℕ) (hJ : J < 8)
    (h44 : Wd v44 fun _ c => c) (h248 : v248 = BitVec.ofNat 32 J) (hc : Rd (φ := .f32) v296 fun r n => H.car (t0 + r) n) (r : Fin 512) :
    (∑ x : Fin 128, k0_pay128 v44 v248 v296 (ix2 r x)) = ((H.car (t0 + r) (8 * J + 0) : ℝ) : EReal) := by
  pointwise [k0_pay128, k0_pay121]
  simp only [h44 _ _, h248]
  exact carry_sum J 0 hJ (by omega) (fun n => H.car (t0 + r) n) _ fun x => hc _ _

/-- The attention weights. -/
theorem pay129_at (v44 : IVec S512x128 32) (v248 : BitVec 32) (v281 : IVec S512x512 1) (v292 : FVec Ideal S512x512 .f32)
    (v297 v301 v302 v306 v307 v313 : FVec Ideal S512x128 .f32) (J : ℕ) (hJ : J < 8) (ho : off = 1024 * J)
    (h44 : Wd v44 fun _ c => c) (h248 : v248 = BitVec.ofNat 32 J)
    (hm : Mk v281 fun r s => decide (off + s < t0 + r)) (hl : Rd v292 fun r s => H.lb (t0 + r) (off + s))
    (hc : Rd v297 fun r n => H.car (t0 + r) n)
    (h0 : Rd v301 fun r c => ∑ j ∈ range 128, (if c < j then H.l1m (t0 + r) (off + 0 + j) else 0))
    (h1 : Rd v302 fun r c => ∑ j ∈ range 128, (if c < j then H.l1m (t0 + r) (off + 128 + j) else 0))
    (h2 : Rd v306 fun r c => ∑ j ∈ range 128, (if c < j then H.l1m (t0 + r) (off + 256 + j) else 0))
    (h3 : Rd v307 fun r c => ∑ j ∈ range 128, (if c < j then H.l1m (t0 + r) (off + 384 + j) else 0))
    (h4 : ∀ r : Fin 512, (∑ x : Fin 128, v313 (ix2 r x)) = ((H.car (t0 + r) (8 * J + 0) : ℝ) : EReal)) :
    Rd (k0_pay129 v44 v248 v281 v292 v297 v301 v302 v306 v307 v313) fun r s => H.w (t0 + r) (off + s) := by
  intro r s
  have hs := s.isLt
  pointwise [k0_pay129]
  simp only [hm _ _, hl _ _, h44 _ _, h248]
  by_cases a : s.val < 128
  · rw [dif_pos a, h4, h0 _ _, ← EReal.coe_add]
    exact w_end H _ _ _ (car_scan H _ off J 0 s s (by omega) ho (by omega) (by omega))
  rw [dif_neg a]
  by_cases b : s.val - 128 < 128
  · rw [dif_pos b, carry_sum J 1 hJ (by omega) (fun n => H.car (t0 + r) n) _ (fun x => hc _ _), h1 _ _, ← EReal.coe_add]
    exact w_end H _ _ _ (car_scan H _ off J 1 (s - 128) s (by omega) ho (by omega) (by omega))
  rw [dif_neg b]
  by_cases c : s.val - 128 - 128 < 128
  · rw [dif_pos c, carry_sum J 2 hJ (by omega) (fun n => H.car (t0 + r) n) _ (fun x => hc _ _), h2 _ _, ← EReal.coe_add]
    exact w_end H _ _ _ (car_scan H _ off J 2 (s - 128 - 128) s (by omega) ho (by omega) (by omega))
  · rw [dif_neg c, carry_sum J 3 hJ (by omega) (fun n => H.car (t0 + r) n) _ (fun x => hc _ _), h3 _ _, ← EReal.coe_add]
    exact w_end H _ _ _ (car_scan H _ off J 3 (s - 128 - 128 - 128) s (by omega) ho (by omega) (by omega))

/-- The weights times their gradients. -/
theorem pay130_at (v34 : FVec Ideal S512x128 .bf16) (v276 : FVec Ideal S512x128 .bf16) (v44 : IVec S512x128 32) (v248 : BitVec 32)
    (v281 : IVec S512x512 1) (v292 : FVec Ideal S512x512 .f32) (v297 v301 v302 v306 v307 v313 : FVec Ideal S512x128 .f32)
    (he : Rd v34 fun r d => H.e (t0 + r) d) (hv : Rd v276 fun s d => H.v (off + s) d)
    (hw : Rd (k0_pay129 v44 v248 v281 v292 v297 v301 v302 v306 v307 v313) fun r s => H.w (t0 + r) (off + s)) :
    Rd (k0_pay130 v34 v44 v248 v276 v281 v292 v297 v301 v302 v306 v307 v313) fun r s => H.gw (t0 + r) (off + s) := by
  intro r s
  pointwise [k0_pay130]
  simp only [hw _ _, he _ _, hv _ _, ← EReal.coe_mul]
  rw [sum_coe fun d => H.e (t0 + r) d * H.v (off + s) d, ← EReal.coe_mul]
  rfl

section Run
variable (v354 : FVec Ideal S512x512 .f32) (v355 : Vec Ideal S512x128 .f32)
  (hg : Rd v354 fun r s => H.gw (t0 + r) (off + s)) (hr : Rd (φ := .f32) v355 fun r _ => H.bef (t0 + r) off)
include hg hr

/-- The running sum behind the first tile. -/
theorem pay132_at : Rd (k0_pay132 v354 v355) fun r _ => H.bef (t0 + r) (off + 128) := by
  intro r c
  pointwise [k0_pay132]
  simp only [hg _ _, hr _ _]
  rw [sum_coe fun j => H.gw (t0 + r) (off + j), ← EReal.coe_add, H.bef_next]

/-- The running sum behind the second tile. -/
theorem pay133_at : Rd (k0_pay133 v354 v355) fun r _ => H.bef (t0 + r) (off + 256) := by
  intro r c
  pointwise [k0_pay133]
  simp only [hg _ _, pay132_at H t0 off v354 v355 hg hr _ _, ← Nat.add_assoc]
  rw [sum_coe fun j => H.gw (t0 + r) (off + 128 + j), ← EReal.coe_add, H.bef_next]

/-- The running sum behind the third tile. -/
theorem pay134_at : Rd (k0_pay134 v354 v355) fun r _ => H.bef (t0 + r) (off + 384) := by
  intro r c
  pointwise [k0_pay134]
  simp only [hg _ _, pay133_at H t0 off v354 v355 hg hr _ _, ← Nat.add_assoc]
  rw [sum_coe fun j => H.gw (t0 + r) (off + 256 + j), ← EReal.coe_add, H.bef_next]

/-- The gradients of the masked scores. -/
theorem pay136_at (v220 : FVec Ideal S256x256 .bf16) (v281 : IVec S512x512 1) (v292 : FVec Ideal S512x512 .f32) (v356 : FVec Ideal S512x256 .f32)
    (hT : Tri v220 fun a b => decide (a < b)) (h356 : Rd v356 fun r s => H.gw (t0 + r) (off + s))
    (hm : Mk v281 fun r s => decide (off + s < t0 + r)) (hl : Rd v292 fun r s => H.lb (t0 + r) (off + s)) :
    Rd (k0_pay136 v220 v281 v292 v354 v355 v356) fun r s => H.dz (t0 + r) (off + s) := by
  intro r s
  have hs := s.isLt
  pointwise [k0_pay136]
  simp only [hm _ _, hl _ _, hg _ _]
  by_cases a : s.val < 128
  · rw [dif_pos a, hr _ _, tri_sum v220 _ hT 0 s (by omega) (by omega) _ (fun x => H.gw (t0 + r) (off + x)) (fun x => h356 _ _) _ (by simp), ← EReal.coe_add]
    refine dz_end H _ _ _ (Eq.trans ?_ (bef_scan H (t0 + r) off 0 s s (by omega) (by omega)))
    simp
  rw [dif_neg a]
  by_cases b : s.val - 128 < 128
  · rw [dif_pos b, pay132_at H t0 off v354 v355 hg hr _ _, tri_sum v220 _ hT 1 (s - 128) (by omega) (by omega) _ (fun x => H.gw (t0 + r) (off + x)) (fun x => h356 _ _) _ (by simp), ← EReal.coe_add]
    refine dz_end H _ _ _ (Eq.trans ?_ (bef_scan H (t0 + r) off 1 (s - 128) s (by omega) (by omega)))
    simp [Nat.add_assoc]
  rw [dif_neg b]
  by_cases c : s.val - 128 - 128 < 128
  · rw [dif_pos c, pay133_at H t0 off v354 v355 hg hr _ _, tri_sum v220 _ hT 0 (s - 128 - 128) (by omega) (by omega) _ (fun x => H.gw (t0 + r) (off + (256 + x))) (fun x => rfl) _ (by simp), ← EReal.coe_add]
    refine dz_end H _ _ _ (Eq.trans ?_ (bef_scan H (t0 + r) off 2 (s - 128 - 128) s (by omega) (by omega)))
    simp [Nat.add_assoc]
  · rw [dif_neg c, pay134_at H t0 off v354 v355 hg hr _ _, tri_sum v220 _ hT 1 (s - 128 - 128 - 128) (by omega) (by omega) _ (fun x => H.gw (t0 + r) (off + (256 + x))) (fun x => rfl) _ (by simp), ← EReal.coe_add]
    refine dz_end H _ _ _ (Eq.trans ?_ (bef_scan H (t0 + r) off 3 (s - 128 - 128 - 128) s (by omega) (by omega)))
    have : ∀ j, off + (256 + (128 + j)) = off + (384 + j) := fun j => by omega
    simp [Nat.add_assoc, this]
end Run

/-- The step's addition to the gradient of the queries. -/
theorem pay3_at (v273 : FVec Ideal S512x128 .bf16) (v402 : FVec Ideal S512x512 .bf16) (v403 : Vec Ideal S512x128 .f32) (f : ℕ → ℕ → ℝ)
    (hz : Rd v402 fun r s => H.dz (t0 + r) (off + s)) (hk : Rd v273 fun s d => H.k (off + s) d) (hf : Rd (φ := .f32) v403 f) :
    Rd (k0_pay3 v273 v402 v403) fun r d => f r d + ∑ s ∈ range 512, H.dz (t0 + r) (off + s) * H.k (off + s) d := by
  intro r d
  pointwise [k0_pay3]
  simp only [hz _ _, hk _ _, hf _ _, ← EReal.coe_mul]
  rw [sum_coe fun s => H.dz (t0 + r) (off + s) * H.k (off + s) d, ← EReal.coe_add]

/-- The step's addition to the gradient of the keys. -/
theorem pay4_at (v38 : FVec Ideal S512x128 .bf16) (v402 : FVec Ideal S512x512 .bf16) (v409 : Vec Ideal S512x128 .f32) (f : ℕ → ℕ → ℝ)
    (hz : Rd v402 fun r s => H.dz (t0 + r) (off + s)) (hq : Rd v38 fun r d => H.q (t0 + r) d) (hf : Rd (φ := .f32) v409 f) :
    Rd (k0_pay4 v38 v402 v409) fun s d => f s d + ∑ r ∈ range 512, H.dz (t0 + r) (off + s) * H.q (t0 + r) d := by
  intro s d
  pointwise [k0_pay4]
  simp only [hz _ _, hq _ _, hf _ _, ← EReal.coe_mul]
  rw [sum_coe fun r => H.dz (t0 + r) (off + s) * H.q (t0 + r) d, ← EReal.coe_add]

/-- The step's addition to the gradient of the values. -/
theorem pay5_at (v34 : FVec Ideal S512x128 .bf16) (v352 : FVec Ideal S512x512 .f32) (v416 : Vec Ideal S512x128 .f32) (f : ℕ → ℕ → ℝ)
    (hw : Rd v352 fun r s => H.w (t0 + r) (off + s)) (he : Rd v34 fun r d => H.e (t0 + r) d) (hf : Rd (φ := .f32) v416 f) :
    Rd (k0_pay5 v34 v352 v416) fun s d => f s d + ∑ r ∈ range 512, H.w (t0 + r) (off + s) * H.e (t0 + r) d := by
  intro s d
  pointwise [k0_pay5]
  simp only [hw _ _, he _ _, hf _ _, ← EReal.coe_mul]
  rw [sum_coe fun r => H.w (t0 + r) (off + s) * H.e (t0 + r) d, ← EReal.coe_add]

end Cert.KernelIdeal.Pay
-- ==== Proof.PayFull.lean ====
/-
  The step of the kernel's body on the diagonal at full width: each of its values over the reals.
-/
module

public import proofs.«01_k».proof.Proof.Gen.KernelIdeal.Skeleton
public import proofs.«01_k».proof.Proof.PayCommon

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)
open Idealize.ShloMosaic.WordCmp (cmpi_slt_ofNat)

variable (H : Head) (t0 off : ℕ)

/-- The causal mask. -/
theorem pay139_at (v42 v43 : IVec S512x1024 32) (v248 : BitVec 32) (J : ℕ) (hJ : J < 8) (ht : t0 < 8192) (h42 : Wd v42 fun r _ => t0 + r) (h43 : Wd v43 fun _ s => s)
    (h248 : v248 = BitVec.ofNat 32 J) (ho : off = 1024 * J) :
    Mk (k0_pay139 v42 v43 v248) fun r s => decide (off + s < t0 + r) := by
  intro r s
  pointwise [k0_pay139]
  simp only [h42 _ _, h43 _ _, h248]
  have hw : IntOp.addi (BitVec.ofNat 32 s.val) (Scalar.muli (BitVec.ofNat 32 J) 1024#32) = BitVec.ofNat 32 (off + s) := by
    apply BitVec.eq_of_toNat_eq
    simp only [Scalar.muli, IntOp.addi, IntOp.muli, BitVec.toNat_add, BitVec.toNat_mul, BitVec.toNat_ofNat]; omega
  rw [hw, cmpi_slt_ofNat (by have := s.isLt; simp; omega) (by have := r.isLt; simp; omega)]

/-- The scores. -/
theorem pay140_at (v38 : FVec Ideal S512x128 .bf16) (v272 : Vec Ideal S1024x128 .f32)
    (hv38 : Rd v38 fun r d => H.q (t0 + r) d) (hv272 : Rd (φ := .f32) v272 fun s d => H.k (off + s) d) :
    Rd (k0_pay140 v38 v272) fun r s => H.z (t0 + r) (off + s) := by
  intro r s
  pointwise [k0_pay140, k0_pay137]
  simp only [hv38 _ _, hv272 _ _, ← EReal.coe_mul]
  exact sum_coe fun d => H.q (t0 + r) d * H.k (off + s) d

/-- The logarithms of the break fractions. -/
theorem pay141_at (v38 : FVec Ideal S512x128 .bf16) (v272 : Vec Ideal S1024x128 .f32)
    (hv38 : Rd v38 fun r d => H.q (t0 + r) d) (hv272 : Rd (φ := .f32) v272 fun s d => H.k (off + s) d) :
    Rd (k0_pay141 v38 v272) fun r s => H.lb (t0 + r) (off + s) := by
  intro r s
  pointwise [k0_pay141]
  simp only [pay140_at H t0 off v38 v272 hv38 hv272 _ _]
  exact lsig_coe _

/-- The masked logarithms of the fractions left over. -/
theorem pay142_at (v38 : FVec Ideal S512x128 .bf16) (v42 : IVec S512x1024 32) (v43 : IVec S512x1024 32) (v248 : BitVec 32) (v272 : Vec Ideal S1024x128 .f32)
    (hv38 : Rd v38 fun r d => H.q (t0 + r) d) (hv272 : Rd (φ := .f32) v272 fun s d => H.k (off + s) d) (hm : Mk (k0_pay139 v42 v43 v248) fun r s => decide (off + s < t0 + r)) :
    Rd (k0_pay142 v38 v42 v43 v248 v272) fun r s => H.l1m (t0 + r) (off + s) := by
  intro r s
  pointwise [k0_pay142]
  rw [pay140_at H t0 off v38 v272 hv38 hv272 _ _, pay141_at H t0 off v38 v272 hv38 hv272 _ _, hm _ _, ← EReal.coe_sub, ← EReal.coe_zero, sel_coe]
  simp [Head.l1m, Head.l1]

/-- The saved carries. -/
theorem pay143_at (v294 : Vec Ideal S512x128 .f32)
    (hv294 : Rd (φ := .f32) v294 fun r n => H.car (t0 + r) n) :
    Rd (k0_pay143 v294) fun r n => H.car (t0 + r) n := by
  intro r c
  pointwise [k0_pay143]
  exact hv294 _ _

/-- A tile's scan of the masked logarithms. -/
theorem pay145_at (v38 : FVec Ideal S512x128 .bf16) (v42 : IVec S512x1024 32) (v43 : IVec S512x1024 32) (v132 : FVec Ideal S256x256 .bf16) (v248 : BitVec 32) (v272 : Vec Ideal S1024x128 .f32)
    (hv132 : Tri v132 fun a b => decide (b < a)) (hl : Rd (k0_pay142 v38 v42 v43 v248 v272) fun r s => H.l1m (t0 + r) (off + s)) :
    Rd (k0_pay145 v38 v42 v43 v132 v248 v272) fun r c => ∑ j ∈ range 128, (if c < j then H.l1m (t0 + r) (off + 0 + j) else 0) := by
  intro r c
  pointwise [k0_pay145, k0_pay144]
  rw [tri_sum v132 _ hv132 0 c (by omega) c.isLt _ (fun x => H.l1m (t0 + r) (off + x)) (fun x => by first | exact hl _ _ | exact (hl _ _).trans (by simp)) _ (by simp)]
  refine congrArg _ (Finset.sum_congr rfl fun j _ => ?_)
  simp only [decide_eq_true_eq]
  rw [show off + (128 * 0 + j) = off + 0 + j by omega]
  simp

/-- A tile's scan of the masked logarithms. -/
theorem pay146_at (v38 : FVec Ideal S512x128 .bf16) (v42 : IVec S512x1024 32) (v43 : IVec S512x1024 32) (v132 : FVec Ideal S256x256 .bf16) (v248 : BitVec 32) (v272 : Vec Ideal S1024x128 .f32)
    (hv132 : Tri v132 fun a b => decide (b < a)) (hl : Rd (k0_pay142 v38 v42 v43 v248 v272) fun r s => H.l1m (t0 + r) (off + s)) :
    Rd (k0_pay146 v38 v42 v43 v132 v248 v272) fun r c => ∑ j ∈ range 128, (if c < j then H.l1m (t0 + r) (off + 128 + j) else 0) := by
  intro r c
  pointwise [k0_pay146, k0_pay144]
  rw [tri_sum v132 _ hv132 1 c (by omega) c.isLt _ (fun x => H.l1m (t0 + r) (off + x)) (fun x => by first | exact hl _ _ | exact (hl _ _).trans (by simp)) _ (by simp)]
  refine congrArg _ (Finset.sum_congr rfl fun j _ => ?_)
  simp only [decide_eq_true_eq]
  rw [show off + (128 * 1 + j) = off + 128 + j by omega]

/-- A tile's scan of the masked logarithms. -/
theorem pay148_at (v38 : FVec Ideal S512x128 .bf16) (v42 : IVec S512x1024 32) (v43 : IVec S512x1024 32) (v132 : FVec Ideal S256x256 .bf16) (v248 : BitVec 32) (v272 : Vec Ideal S1024x128 .f32)
    (hv132 : Tri v132 fun a b => decide (b < a)) (hl : Rd (k0_pay142 v38 v42 v43 v248 v272) fun r s => H.l1m (t0 + r) (off + s)) :
    Rd (k0_pay148 v38 v42 v43 v132 v248 v272) fun r c => ∑ j ∈ range 128, (if c < j then H.l1m (t0 + r) (off + 256 + j) else 0) := by
  intro r c
  pointwise [k0_pay148, k0_pay147]
  rw [tri_sum v132 _ hv132 0 c (by omega) c.isLt _ (fun x => H.l1m (t0 + r) (off + (256 + x))) (fun x => by first | exact hl _ _ | exact (hl _ _).trans (by simp)) _ (by simp)]
  refine congrArg _ (Finset.sum_congr rfl fun j _ => ?_)
  simp only [decide_eq_true_eq]
  rw [show off + (256 + (128 * 0 + j)) = off + 256 + j by omega]

/-- A tile's scan of the masked logarithms. -/
theorem pay149_at (v38 : FVec Ideal S512x128 .bf16) (v42 : IVec S512x1024 32) (v43 : IVec S512x1024 32) (v132 : FVec Ideal S256x256 .bf16) (v248 : BitVec 32) (v272 : Vec Ideal S1024x128 .f32)
    (hv132 : Tri v132 fun a b => decide (b < a)) (hl : Rd (k0_pay142 v38 v42 v43 v248 v272) fun r s => H.l1m (t0 + r) (off + s)) :
    Rd (k0_pay149 v38 v42 v43 v132 v248 v272) fun r c => ∑ j ∈ range 128, (if c < j then H.l1m (t0 + r) (off + 384 + j) else 0) := by
  intro r c
  pointwise [k0_pay149, k0_pay147]
  rw [tri_sum v132 _ hv132 1 c (by omega) c.isLt _ (fun x => H.l1m (t0 + r) (off + (256 + x))) (fun x => by first | exact hl _ _ | exact (hl _ _).trans (by simp)) _ (by simp)]
  refine congrArg _ (Finset.sum_congr rfl fun j _ => ?_)
  simp only [decide_eq_true_eq]
  rw [show off + (256 + (128 * 1 + j)) = off + 384 + j by omega]

/-- A tile's scan of the masked logarithms. -/
theorem pay151_at (v38 : FVec Ideal S512x128 .bf16) (v42 : IVec S512x1024 32) (v43 : IVec S512x1024 32) (v132 : FVec Ideal S256x256 .bf16) (v248 : BitVec 32) (v272 : Vec Ideal S1024x128 .f32)
    (hv132 : Tri v132 fun a b => decide (b < a)) (hl : Rd (k0_pay142 v38 v42 v43 v248 v272) fun r s => H.l1m (t0 + r) (off + s)) :
    Rd (k0_pay151 v38 v42 v43 v132 v248 v272) fun r c => ∑ j ∈ range 128, (if c < j then H.l1m (t0 + r) (off + 512 + j) else 0) := by
  intro r c
  pointwise [k0_pay151, k0_pay150]
  rw [tri_sum v132 _ hv132 0 c (by omega) c.isLt _ (fun x => H.l1m (t0 + r) (off + (512 + x))) (fun x => by first | exact hl _ _ | exact (hl _ _).trans (by simp)) _ (by simp)]
  refine congrArg _ (Finset.sum_congr rfl fun j _ => ?_)
  simp only [decide_eq_true_eq]
  rw [show off + (512 + (128 * 0 + j)) = off + 512 + j by omega]

/-- A tile's scan of the masked logarithms. -/
theorem pay152_at (v38 : FVec Ideal S512x128 .bf16) (v42 : IVec S512x1024 32) (v43 : IVec S512x1024 32) (v132 : FVec Ideal S256x256 .bf16) (v248 : BitVec 32) (v272 : Vec Ideal S1024x128 .f32)
    (hv132 : Tri v132 fun a b => decide (b < a)) (hl : Rd (k0_pay142 v38 v42 v43 v248 v272) fun r s => H.l1m (t0 + r) (off + s)) :
    Rd (k0_pay152 v38 v42 v43 v132 v248 v272) fun r c => ∑ j ∈ range 128, (if c < j then H.l1m (t0 + r) (off + 640 + j) else 0) := by
  intro r c
  pointwise [k0_pay152, k0_pay150]
  rw [tri_sum v132 _ hv132 1 c (by omega) c.isLt _ (fun x => H.l1m (t0 + r) (off + (512 + x))) (fun x => by first | exact hl _ _ | exact (hl _ _).trans (by simp)) _ (by simp)]
  refine congrArg _ (Finset.sum_congr rfl fun j _ => ?_)
  simp only [decide_eq_true_eq]
  rw [show off + (512 + (128 * 1 + j)) = off + 640 + j by omega]

/-- A tile's scan of the masked logarithms. -/
theorem pay154_at (v38 : FVec Ideal S512x128 .bf16) (v42 : IVec S512x1024 32) (v43 : IVec S512x1024 32) (v132 : FVec Ideal S256x256 .bf16) (v248 : BitVec 32) (v272 : Vec Ideal S1024x128 .f32)
    (hv132 : Tri v132 fun a b => decide (b < a)) (hl : Rd (k0_pay142 v38 v42 v43 v248 v272) fun r s => H.l1m (t0 + r) (off + s)) :
    Rd (k0_pay154 v38 v42 v43 v132 v248 v272) fun r c => ∑ j ∈ range 128, (if c < j then H.l1m (t0 + r) (off + 768 + j) else 0) := by
  intro r c
  pointwise [k0_pay154, k0_pay153]
  rw [tri_sum v132 _ hv132 0 c (by omega) c.isLt _ (fun x => H.l1m (t0 + r) (off + (768 + x))) (fun x => by first | exact hl _ _ | exact (hl _ _).trans (by simp)) _ (by simp)]
  refine congrArg _ (Finset.sum_congr rfl fun j _ => ?_)
  simp only [decide_eq_true_eq]
  rw [show off + (768 + (128 * 0 + j)) = off + 768 + j by omega]

/-- Two tiles' scans of the masked logarithms. -/
theorem pay153_at (v38 : FVec Ideal S512x128 .bf16) (v42 : IVec S512x1024 32) (v43 : IVec S512x1024 32) (v132 : FVec Ideal S256x256 .bf16) (v248 : BitVec 32) (v272 : Vec Ideal S1024x128 .f32)
    (hv132 : Tri v132 fun a b => decide (b < a)) (hl : Rd (k0_pay142 v38 v42 v43 v248 v272) fun r s => H.l1m (t0 + r) (off + s)) :
    Rd (k0_pay153 v38 v42 v43 v132 v248 v272) fun r y => ∑ j ∈ range 128, (if y % 128 < j then H.l1m (t0 + r) (off + 768 + 128 * (y / 128) + j) else 0) := by
  intro r c
  have hc := c.isLt
  pointwise [k0_pay153]
  rw [tri_sum v132 _ hv132 (c / 128) (c % 128) (by omega) (by omega) _ (fun x => H.l1m (t0 + r) (off + (768 + x))) (fun x => by first | exact hl _ _ | exact (hl _ _).trans (by simp)) _ (by omega)]
  simp only [decide_eq_true_eq, ← Nat.add_assoc, Nat.add_zero, Nat.mul_zero, Nat.mul_one, Nat.reduceMul, Nat.add_assoc, Nat.reduceAdd, Nat.zero_add]

/-- A tile's scan of the masked logarithms. -/
theorem pay155_at (v313 : FVec Ideal S512x256 .f32)
    (hv313 : Rd v313 fun r y => ∑ j ∈ range 128, (if y % 128 < j then H.l1m (t0 + r) (off + 768 + 128 * (y / 128) + j) else 0)) :
    Rd (k0_pay155 v313) fun r c => ∑ j ∈ range 128, (if c < j then H.l1m (t0 + r) (off + 896 + j) else 0) := by
  intro r c
  pointwise [k0_pay155]
  refine (hv313 _ _).trans ?_
  simp [Nat.mod_eq_of_lt c.isLt, Nat.div_eq_of_lt c.isLt, ← Nat.add_assoc]

/-- The sticks left behind the keys of a tile. -/
theorem pay156_at (v44 : IVec S512x128 32) (v248 : BitVec 32) (v295 : FVec Ideal S512x128 .f32) (v299 : FVec Ideal S512x128 .f32)
    (J : ℕ) (hJ : J < 8) (ho : off = 1024 * J) (hv44 : Wd v44 fun _ c => c) (hv248 : v248 = BitVec.ofNat 32 J) (hv295 : Rd v295 fun r n => H.car (t0 + r) n) (hv299 : Rd v299 fun r c => ∑ j ∈ range 128, (if c < j then H.l1m (t0 + r) (off + 0 + j) else 0)) :
    Rd (k0_pay156 v44 v248 v295 v299) fun r c => H.aft (t0 + r) (off + 0 + c) := by
  intro r c
  pointwise [k0_pay156]
  simp only [hv44 _ _, hv248]
  rw [carry_sum J 0 hJ (by omega) (fun n => H.car (t0 + r) n) _ (fun x => hv295 _ _), hv299 _ _, ← EReal.coe_add]
  exact congrArg _ ((car_scan H (t0 + r) off J 0 c (128 * 0 + c) c.isLt ho rfl (by omega)).trans (congrArg (H.aft _) (by omega)))

/-- The sticks left behind the keys of a tile. -/
theorem pay157_at (v44 : IVec S512x128 32) (v248 : BitVec 32) (v295 : FVec Ideal S512x128 .f32) (v300 : FVec Ideal S512x128 .f32)
    (J : ℕ) (hJ : J < 8) (ho : off = 1024 * J) (hv44 : Wd v44 fun _ c => c) (hv248 : v248 = BitVec.ofNat 32 J) (hv295 : Rd v295 fun r n => H.car (t0 + r) n) (hv300 : Rd v300 fun r c => ∑ j ∈ range 128, (if c < j then H.l1m (t0 + r) (off + 128 + j) else 0)) :
    Rd (k0_pay157 v44 v248 v295 v300) fun r c => H.aft (t0 + r) (off + 128 + c) := by
  intro r c
  pointwise [k0_pay157]
  simp only [hv44 _ _, hv248]
  rw [carry_sum J 1 hJ (by omega) (fun n => H.car (t0 + r) n) _ (fun x => hv295 _ _), hv300 _ _, ← EReal.coe_add]
  exact congrArg _ ((car_scan H (t0 + r) off J 1 c (128 * 1 + c) c.isLt ho rfl (by omega)).trans (congrArg (H.aft _) (by omega)))

/-- The sticks left behind the keys of a tile. -/
theorem pay158_at (v44 : IVec S512x128 32) (v248 : BitVec 32) (v295 : FVec Ideal S512x128 .f32) (v304 : FVec Ideal S512x128 .f32)
    (J : ℕ) (hJ : J < 8) (ho : off = 1024 * J) (hv44 : Wd v44 fun _ c => c) (hv248 : v248 = BitVec.ofNat 32 J) (hv295 : Rd v295 fun r n => H.car (t0 + r) n) (hv304 : Rd v304 fun r c => ∑ j ∈ range 128, (if c < j then H.l1m (t0 + r) (off + 256 + j) else 0)) :
    Rd (k0_pay158 v44 v248 v295 v304) fun r c => H.aft (t0 + r) (off + 256 + c) := by
  intro r c
  pointwise [k0_pay158]
  simp only [hv44 _ _, hv248]
  rw [carry_sum J 2 hJ (by omega) (fun n => H.car (t0 + r) n) _ (fun x => hv295 _ _), hv304 _ _, ← EReal.coe_add]
  exact congrArg _ ((car_scan H (t0 + r) off J 2 c (128 * 2 + c) c.isLt ho rfl (by omega)).trans (congrArg (H.aft _) (by omega)))

/-- The sticks left behind the keys of a tile. -/
theorem pay159_at (v44 : IVec S512x128 32) (v248 : BitVec 32) (v295 : FVec Ideal S512x128 .f32) (v305 : FVec Ideal S512x128 .f32)
    (J : ℕ) (hJ : J < 8) (ho : off = 1024 * J) (hv44 : Wd v44 fun _ c => c) (hv248 : v248 = BitVec.ofNat 32 J) (hv295 : Rd v295 fun r n => H.car (t0 + r) n) (hv305 : Rd v305 fun r c => ∑ j ∈ range 128, (if c < j then H.l1m (t0 + r) (off + 384 + j) else 0)) :
    Rd (k0_pay159 v44 v248 v295 v305) fun r c => H.aft (t0 + r) (off + 384 + c) := by
  intro r c
  pointwise [k0_pay159]
  simp only [hv44 _ _, hv248]
  rw [carry_sum J 3 hJ (by omega) (fun n => H.car (t0 + r) n) _ (fun x => hv295 _ _), hv305 _ _, ← EReal.coe_add]
  exact congrArg _ ((car_scan H (t0 + r) off J 3 c (128 * 3 + c) c.isLt ho rfl (by omega)).trans (congrArg (H.aft _) (by omega)))

/-- The attention weights. -/
theorem pay160_at (v44 : IVec S512x128 32) (v248 : BitVec 32) (v279 : IVec S512x1024 1) (v290 : FVec Ideal S512x1024 .f32) (v295 : FVec Ideal S512x128 .f32) (v309 : FVec Ideal S512x128 .f32) (v310 : FVec Ideal S512x128 .f32) (v314 : FVec Ideal S512x128 .f32) (v315 : FVec Ideal S512x128 .f32) (v325 : FVec Ideal S512x128 .f32) (v335 : FVec Ideal S512x128 .f32) (v345 : FVec Ideal S512x128 .f32) (v355 : FVec Ideal S512x128 .f32)
    (J : ℕ) (hJ : J < 8) (ho : off = 1024 * J) (hv44 : Wd v44 fun _ c => c) (hv248 : v248 = BitVec.ofNat 32 J) (hv279 : Mk v279 fun r s => decide (off + s < t0 + r)) (hv290 : Rd v290 fun r s => H.lb (t0 + r) (off + s)) (hv295 : Rd v295 fun r n => H.car (t0 + r) n) (hv309 : Rd v309 fun r c => ∑ j ∈ range 128, (if c < j then H.l1m (t0 + r) (off + 512 + j) else 0)) (hv310 : Rd v310 fun r c => ∑ j ∈ range 128, (if c < j then H.l1m (t0 + r) (off + 640 + j) else 0)) (hv314 : Rd v314 fun r c => ∑ j ∈ range 128, (if c < j then H.l1m (t0 + r) (off + 768 + j) else 0)) (hv315 : Rd v315 fun r c => ∑ j ∈ range 128, (if c < j then H.l1m (t0 + r) (off + 896 + j) else 0)) (hv325 : Rd v325 fun r c => H.aft (t0 + r) (off + 0 + c)) (hv335 : Rd v335 fun r c => H.aft (t0 + r) (off + 128 + c)) (hv345 : Rd v345 fun r c => H.aft (t0 + r) (off + 256 + c)) (hv355 : Rd v355 fun r c => H.aft (t0 + r) (off + 384 + c)) :
    Rd (k0_pay160 v44 v248 v279 v290 v295 v309 v310 v314 v315 v325 v335 v345 v355 (Scalar.muli v248 8#32) 4#32) fun r s => H.w (t0 + r) (off + s) := by
  intro r s
  have hs := s.isLt
  pointwise [k0_pay160]
  simp only [hv279 _ _, hv290 _ _, hv44 _ _, hv248]
  by_cases a0 : s.val < 128
  · rw [dif_pos a0]
    rw [hv325 _ _]
    exact w_end H _ _ _ (by dsimp only; exact congrArg (H.aft _) (by omega))
  rw [dif_neg a0]
  by_cases a1 : s.val - 128 < 128
  · rw [dif_pos a1]
    rw [hv335 _ _]
    exact w_end H _ _ _ (by dsimp only; exact congrArg (H.aft _) (by omega))
  rw [dif_neg a1]
  by_cases a2 : s.val - 128 - 128 < 128
  · rw [dif_pos a2]
    rw [hv345 _ _]
    exact w_end H _ _ _ (by dsimp only; exact congrArg (H.aft _) (by omega))
  rw [dif_neg a2]
  by_cases a3 : s.val - 128 - 128 - 128 < 128
  · rw [dif_pos a3]
    rw [hv355 _ _]
    exact w_end H _ _ _ (by dsimp only; exact congrArg (H.aft _) (by omega))
  rw [dif_neg a3]
  by_cases a4 : s.val - 128 - 128 - 128 - 128 < 128
  · rw [dif_pos a4]
    rw [carry_sum J 4 hJ (by omega) (fun n => H.car (t0 + r) n) _ (fun x => hv295 _ _), hv309 _ _, ← EReal.coe_add]
    exact w_end H _ _ _ (car_scan H _ off J 4 (s.val - 128 - 128 - 128 - 128) s (by omega) ho (by omega) (by omega))
  rw [dif_neg a4]
  by_cases a5 : s.val - 128 - 128 - 128 - 128 - 128 < 128
  · rw [dif_pos a5]
    rw [carry_sum J 5 hJ (by omega) (fun n => H.car (t0 + r) n) _ (fun x => hv295 _ _), hv310 _ _, ← EReal.coe_add]
    exact w_end H _ _ _ (car_scan H _ off J 5 (s.val - 128 - 128 - 128 - 128 - 128) s (by omega) ho (by omega) (by omega))
  rw [dif_neg a5]
  by_cases a6 : s.val - 128 - 128 - 128 - 128 - 128 - 128 < 128
  · rw [dif_pos a6]
    rw [carry_sum J 6 hJ (by omega) (fun n => H.car (t0 + r) n) _ (fun x => hv295 _ _), hv314 _ _, ← EReal.coe_add]
    exact w_end H _ _ _ (car_scan H _ off J 6 (s.val - 128 - 128 - 128 - 128 - 128 - 128) s (by omega) ho (by omega) (by omega))
  rw [dif_neg a6]
  rw [carry_sum J 7 hJ (by omega) (fun n => H.car (t0 + r) n) _ (fun x => hv295 _ _), hv315 _ _, ← EReal.coe_add]
  exact w_end H _ _ _ (car_scan H _ off J 7 (s.val - 128 - 128 - 128 - 128 - 128 - 128 - 128) s (by omega) ho (by omega) (by omega))

/-- The weights times their gradients. -/
theorem pay161_at (v34 : FVec Ideal S512x128 .bf16) (v276 : FVec Ideal S1024x128 .bf16) (v400 : FVec Ideal S512x1024 .f32)
    (hv34 : Rd v34 fun r d => H.e (t0 + r) d) (hv276 : Rd v276 fun s d => H.v (off + s) d) (hv400 : Rd v400 fun r s => H.w (t0 + r) (off + s)) :
    Rd (k0_pay161 v34 v276 v400 (constant S512x1024 .f32 0x00000000#32)) fun r s => H.gw (t0 + r) (off + s) := by
  intro r s
  pointwise [k0_pay161]
  simp only [hv400 _ _, hv34 _ _, hv276 _ _, ← EReal.coe_mul]
  rw [sum_coe fun d => H.e (t0 + r) d * H.v (off + s) d, ← EReal.coe_mul]
  rfl

/-- A tile's scan of the weights times their gradients. -/
theorem pay165_at (v34 : FVec Ideal S512x128 .bf16) (v220 : FVec Ideal S256x256 .bf16) (v276 : FVec Ideal S1024x128 .bf16) (v400 : FVec Ideal S512x1024 .f32)
    (hv220 : Tri v220 fun a b => decide (a < b)) (hg : Rd (k0_pay161 v34 v276 v400 (constant S512x1024 .f32 0x00000000#32)) fun r s => H.gw (t0 + r) (off + s)) :
    Rd (k0_pay165 v34 v220 v276 v400 (constant S512x1024 .f32 0x00000000#32)) fun r c => ∑ j ∈ range 128, (if j < c then H.gw (t0 + r) (off + 640 + j) else 0) := by
  intro r c
  pointwise [k0_pay165, k0_pay164]
  rw [tri_sum v220 _ hv220 1 c (by omega) c.isLt _ (fun x => H.gw (t0 + r) (off + (512 + x))) (fun x => by first | exact hg _ _ | exact (hg _ _).trans (by simp)) _ (by simp)]
  refine congrArg _ (Finset.sum_congr rfl fun j _ => ?_)
  simp only [decide_eq_true_eq]
  rw [show off + (512 + (128 * 1 + j)) = off + 640 + j by omega]

/-- A tile's scan of the weights times their gradients. -/
theorem pay167_at (v34 : FVec Ideal S512x128 .bf16) (v220 : FVec Ideal S256x256 .bf16) (v276 : FVec Ideal S1024x128 .bf16) (v400 : FVec Ideal S512x1024 .f32)
    (hv220 : Tri v220 fun a b => decide (a < b)) (hg : Rd (k0_pay161 v34 v276 v400 (constant S512x1024 .f32 0x00000000#32)) fun r s => H.gw (t0 + r) (off + s)) :
    Rd (k0_pay167 v34 v220 v276 v400 (constant S512x1024 .f32 0x00000000#32)) fun r c => ∑ j ∈ range 128, (if j < c then H.gw (t0 + r) (off + 768 + j) else 0) := by
  intro r c
  pointwise [k0_pay167, k0_pay166]
  rw [tri_sum v220 _ hv220 0 c (by omega) c.isLt _ (fun x => H.gw (t0 + r) (off + (768 + x))) (fun x => by first | exact hg _ _ | exact (hg _ _).trans (by simp)) _ (by simp)]
  refine congrArg _ (Finset.sum_congr rfl fun j _ => ?_)
  simp only [decide_eq_true_eq]
  rw [show off + (768 + (128 * 0 + j)) = off + 768 + j by omega]

/-- A tile's scan of the weights times their gradients. -/
theorem pay168_at (v34 : FVec Ideal S512x128 .bf16) (v220 : FVec Ideal S256x256 .bf16) (v276 : FVec Ideal S1024x128 .bf16) (v400 : FVec Ideal S512x1024 .f32)
    (hv220 : Tri v220 fun a b => decide (a < b)) (hg : Rd (k0_pay161 v34 v276 v400 (constant S512x1024 .f32 0x00000000#32)) fun r s => H.gw (t0 + r) (off + s)) :
    Rd (k0_pay168 v34 v220 v276 v400 (constant S512x1024 .f32 0x00000000#32)) fun r c => ∑ j ∈ range 128, (if j < c then H.gw (t0 + r) (off + 896 + j) else 0) := by
  intro r c
  pointwise [k0_pay168, k0_pay166]
  rw [tri_sum v220 _ hv220 1 c (by omega) c.isLt _ (fun x => H.gw (t0 + r) (off + (768 + x))) (fun x => by first | exact hg _ _ | exact (hg _ _).trans (by simp)) _ (by simp)]
  refine congrArg _ (Finset.sum_congr rfl fun j _ => ?_)
  simp only [decide_eq_true_eq]
  rw [show off + (768 + (128 * 1 + j)) = off + 896 + j by omega]

/-- The running sum behind a tile. -/
theorem pay170_at (v34 : FVec Ideal S512x128 .bf16) (v276 : FVec Ideal S1024x128 .bf16) (v400 : FVec Ideal S512x1024 .f32) (v403 : Vec Ideal S512x128 .f32)
    (hv403 : Rd (φ := .f32) v403 fun r _ => H.bef (t0 + r) off) (hg : Rd (k0_pay161 v34 v276 v400 (constant S512x1024 .f32 0x00000000#32)) fun r s => H.gw (t0 + r) (off + s)) :
    Rd (k0_pay170 v34 v276 v400 (constant S512x1024 .f32 0x00000000#32) v403) fun r _ => H.bef (t0 + r) (off + 128) := by
  intro r c
  pointwise [k0_pay170]
  simp only [hg _ _, hv403 _ _, ← Nat.add_assoc]
  rw [sum_coe fun j => H.gw (t0 + r) (off + j), ← EReal.coe_add, H.bef_next]

/-- The running sum behind a tile. -/
theorem pay172_at (v34 : FVec Ideal S512x128 .bf16) (v276 : FVec Ideal S1024x128 .bf16) (v400 : FVec Ideal S512x1024 .f32) (v403 : Vec Ideal S512x128 .f32)
    (hv403 : Rd (φ := .f32) v403 fun r _ => H.bef (t0 + r) off) (hg : Rd (k0_pay161 v34 v276 v400 (constant S512x1024 .f32 0x00000000#32)) fun r s => H.gw (t0 + r) (off + s)) :
    Rd (k0_pay172 v34 v276 v400 (constant S512x1024 .f32 0x00000000#32) v403) fun r _ => H.bef (t0 + r) (off + 256) := by
  intro r c
  pointwise [k0_pay172]
  simp only [hg _ _, pay170_at H t0 off v34 v276 v400 v403 hv403 hg _ _, ← Nat.add_assoc]
  rw [sum_coe fun j => H.gw (t0 + r) (off + 128 + j), ← EReal.coe_add, H.bef_next]

/-- The running sum behind a tile. -/
theorem pay174_at (v34 : FVec Ideal S512x128 .bf16) (v276 : FVec Ideal S1024x128 .bf16) (v400 : FVec Ideal S512x1024 .f32) (v403 : Vec Ideal S512x128 .f32)
    (hv403 : Rd (φ := .f32) v403 fun r _ => H.bef (t0 + r) off) (hg : Rd (k0_pay161 v34 v276 v400 (constant S512x1024 .f32 0x00000000#32)) fun r s => H.gw (t0 + r) (off + s)) :
    Rd (k0_pay174 v34 v276 v400 (constant S512x1024 .f32 0x00000000#32) v403) fun r _ => H.bef (t0 + r) (off + 384) := by
  intro r c
  pointwise [k0_pay174]
  simp only [hg _ _, pay172_at H t0 off v34 v276 v400 v403 hv403 hg _ _, ← Nat.add_assoc]
  rw [sum_coe fun j => H.gw (t0 + r) (off + 256 + j), ← EReal.coe_add, H.bef_next]

/-- The running sum behind a tile. -/
theorem pay176_at (v34 : FVec Ideal S512x128 .bf16) (v276 : FVec Ideal S1024x128 .bf16) (v400 : FVec Ideal S512x1024 .f32) (v403 : Vec Ideal S512x128 .f32)
    (hv403 : Rd (φ := .f32) v403 fun r _ => H.bef (t0 + r) off) (hg : Rd (k0_pay161 v34 v276 v400 (constant S512x1024 .f32 0x00000000#32)) fun r s => H.gw (t0 + r) (off + s)) :
    Rd (k0_pay176 v34 v276 v400 (constant S512x1024 .f32 0x00000000#32) v403) fun r _ => H.bef (t0 + r) (off + 512) := by
  intro r c
  pointwise [k0_pay176]
  simp only [hg _ _, pay174_at H t0 off v34 v276 v400 v403 hv403 hg _ _, ← Nat.add_assoc]
  rw [sum_coe fun j => H.gw (t0 + r) (off + 384 + j), ← EReal.coe_add, H.bef_next]

/-- What is sent through the sticks before the keys of a tile. -/
theorem pay169_at (v34 : FVec Ideal S512x128 .bf16) (v220 : FVec Ideal S256x256 .bf16) (v276 : FVec Ideal S1024x128 .bf16) (v400 : FVec Ideal S512x1024 .f32) (v403 : Vec Ideal S512x128 .f32)
    (hv220 : Tri v220 fun a b => decide (a < b)) (hv403 : Rd (φ := .f32) v403 fun r _ => H.bef (t0 + r) off) (hg : Rd (k0_pay161 v34 v276 v400 (constant S512x1024 .f32 0x00000000#32)) fun r s => H.gw (t0 + r) (off + s)) :
    Rd (k0_pay169 v34 v220 v276 v400 (constant S512x1024 .f32 0x00000000#32) v403) fun r c => H.bef (t0 + r) (off + 0 + c) := by
  intro r c
  pointwise [k0_pay169, k0_pay162]
  rw [hv403 _ _, tri_sum v220 _ hv220 0 c (by omega) c.isLt _ (fun x => H.gw (t0 + r) (off + x)) (fun x => by first | exact hg _ _ | exact (hg _ _).trans (by simp)) _ (by simp), ← EReal.coe_add]
  refine congrArg _ (Eq.trans (congrArg₂ (· + ·) rfl (Finset.sum_congr rfl fun j _ => ?_)) ((bef_scan H (t0 + r) off 0 c (128 * 0 + c) c.isLt rfl).trans (congrArg (H.bef _) (by omega))))
  simp only [decide_eq_true_eq]
  rw [show off + (128 * 0 + j) = off + 128 * 0 + j by omega]

/-- What is sent through the sticks before the keys of a tile. -/
theorem pay171_at (v34 : FVec Ideal S512x128 .bf16) (v220 : FVec Ideal S256x256 .bf16) (v276 : FVec Ideal S1024x128 .bf16) (v400 : FVec Ideal S512x1024 .f32) (v403 : Vec Ideal S512x128 .f32)
    (hv220 : Tri v220 fun a b => decide (a < b)) (hv403 : Rd (φ := .f32) v403 fun r _ => H.bef (t0 + r) off) (hg : Rd (k0_pay161 v34 v276 v400 (constant S512x1024 .f32 0x00000000#32)) fun r s => H.gw (t0 + r) (off + s)) :
    Rd (k0_pay171 v34 v220 v276 v400 (constant S512x1024 .f32 0x00000000#32) v403) fun r c => H.bef (t0 + r) (off + 128 + c) := by
  intro r c
  pointwise [k0_pay171, k0_pay162]
  rw [pay170_at H t0 off v34 v276 v400 v403 hv403 hg _ _, tri_sum v220 _ hv220 1 c (by omega) c.isLt _ (fun x => H.gw (t0 + r) (off + x)) (fun x => by first | exact hg _ _ | exact (hg _ _).trans (by simp)) _ (by simp), ← EReal.coe_add]
  refine congrArg _ (Eq.trans (congrArg₂ (· + ·) rfl (Finset.sum_congr rfl fun j _ => ?_)) ((bef_scan H (t0 + r) off 1 c (128 * 1 + c) c.isLt rfl).trans (congrArg (H.bef _) (by omega))))
  simp only [decide_eq_true_eq]
  rw [show off + (128 * 1 + j) = off + 128 * 1 + j by omega]

/-- What is sent through the sticks before the keys of a tile. -/
theorem pay173_at (v34 : FVec Ideal S512x128 .bf16) (v220 : FVec Ideal S256x256 .bf16) (v276 : FVec Ideal S1024x128 .bf16) (v400 : FVec Ideal S512x1024 .f32) (v403 : Vec Ideal S512x128 .f32)
    (hv220 : Tri v220 fun a b => decide (a < b)) (hv403 : Rd (φ := .f32) v403 fun r _ => H.bef (t0 + r) off) (hg : Rd (k0_pay161 v34 v276 v400 (constant S512x1024 .f32 0x00000000#32)) fun r s => H.gw (t0 + r) (off + s)) :
    Rd (k0_pay173 v34 v220 v276 v400 (constant S512x1024 .f32 0x00000000#32) v403) fun r c => H.bef (t0 + r) (off + 256 + c) := by
  intro r c
  pointwise [k0_pay173, k0_pay163]
  rw [pay172_at H t0 off v34 v276 v400 v403 hv403 hg _ _, tri_sum v220 _ hv220 0 c (by omega) c.isLt _ (fun x => H.gw (t0 + r) (off + (256 + x))) (fun x => by first | exact hg _ _ | exact (hg _ _).trans (by simp)) _ (by simp), ← EReal.coe_add]
  refine congrArg _ (Eq.trans (congrArg₂ (· + ·) rfl (Finset.sum_congr rfl fun j _ => ?_)) ((bef_scan H (t0 + r) off 2 c (128 * 2 + c) c.isLt rfl).trans (congrArg (H.bef _) (by omega))))
  simp only [decide_eq_true_eq]
  rw [show off + (256 + (128 * 0 + j)) = off + 128 * 2 + j by omega]

/-- What is sent through the sticks before the keys of a tile. -/
theorem pay175_at (v34 : FVec Ideal S512x128 .bf16) (v220 : FVec Ideal S256x256 .bf16) (v276 : FVec Ideal S1024x128 .bf16) (v400 : FVec Ideal S512x1024 .f32) (v403 : Vec Ideal S512x128 .f32)
    (hv220 : Tri v220 fun a b => decide (a < b)) (hv403 : Rd (φ := .f32) v403 fun r _ => H.bef (t0 + r) off) (hg : Rd (k0_pay161 v34 v276 v400 (constant S512x1024 .f32 0x00000000#32)) fun r s => H.gw (t0 + r) (off + s)) :
    Rd (k0_pay175 v34 v220 v276 v400 (constant S512x1024 .f32 0x00000000#32) v403) fun r c => H.bef (t0 + r) (off + 384 + c) := by
  intro r c
  pointwise [k0_pay175, k0_pay163]
  rw [pay174_at H t0 off v34 v276 v400 v403 hv403 hg _ _, tri_sum v220 _ hv220 1 c (by omega) c.isLt _ (fun x => H.gw (t0 + r) (off + (256 + x))) (fun x => by first | exact hg _ _ | exact (hg _ _).trans (by simp)) _ (by simp), ← EReal.coe_add]
  refine congrArg _ (Eq.trans (congrArg₂ (· + ·) rfl (Finset.sum_congr rfl fun j _ => ?_)) ((bef_scan H (t0 + r) off 3 c (128 * 3 + c) c.isLt rfl).trans (congrArg (H.bef _) (by omega))))
  simp only [decide_eq_true_eq]
  rw [show off + (256 + (128 * 1 + j)) = off + 128 * 3 + j by omega]

/-- What is sent through the sticks before the keys of a tile. -/
theorem pay177_at (v34 : FVec Ideal S512x128 .bf16) (v220 : FVec Ideal S256x256 .bf16) (v276 : FVec Ideal S1024x128 .bf16) (v400 : FVec Ideal S512x1024 .f32) (v403 : Vec Ideal S512x128 .f32)
    (hv220 : Tri v220 fun a b => decide (a < b)) (hv403 : Rd (φ := .f32) v403 fun r _ => H.bef (t0 + r) off) (hg : Rd (k0_pay161 v34 v276 v400 (constant S512x1024 .f32 0x00000000#32)) fun r s => H.gw (t0 + r) (off + s)) :
    Rd (k0_pay177 v34 v220 v276 v400 (constant S512x1024 .f32 0x00000000#32) v403) fun r c => H.bef (t0 + r) (off + 512 + c) := by
  intro r c
  pointwise [k0_pay177, k0_pay164]
  rw [pay176_at H t0 off v34 v276 v400 v403 hv403 hg _ _, tri_sum v220 _ hv220 0 c (by omega) c.isLt _ (fun x => H.gw (t0 + r) (off + (512 + x))) (fun x => by first | exact hg _ _ | exact (hg _ _).trans (by simp)) _ (by simp), ← EReal.coe_add]
  refine congrArg _ (Eq.trans (congrArg₂ (· + ·) rfl (Finset.sum_congr rfl fun j _ => ?_)) ((bef_scan H (t0 + r) off 4 c (128 * 4 + c) c.isLt rfl).trans (congrArg (H.bef _) (by omega))))
  simp only [decide_eq_true_eq]
  rw [show off + (512 + (128 * 0 + j)) = off + 128 * 4 + j by omega]

/-- A tile of the weights times their gradients. -/
theorem pay178_at (v34 : FVec Ideal S512x128 .bf16) (v276 : FVec Ideal S1024x128 .bf16) (v400 : FVec Ideal S512x1024 .f32)
    (hg : Rd (k0_pay161 v34 v276 v400 (constant S512x1024 .f32 0x00000000#32)) fun r s => H.gw (t0 + r) (off + s)) :
    Rd (k0_pay178 v34 v276 v400 (constant S512x1024 .f32 0x00000000#32)) fun r c => H.gw (t0 + r) (off + 512 + c) := by
  intro r c
  pointwise [k0_pay178]
  exact (hg _ _).trans (by simp [Nat.add_assoc])

/-- The running sum behind a tile. -/
theorem pay179_at (v447 : FVec Ideal S512x128 .f32) (v449 : FVec Ideal S512x128 .f32)
    (hv447 : Rd v447 fun r _ => H.bef (t0 + r) (off + 512)) (hv449 : Rd v449 fun r c => H.gw (t0 + r) (off + 512 + c)) :
    Rd (k0_pay179 v447 v449) fun r _ => H.bef (t0 + r) (off + 640) := by
  intro r c
  pointwise [k0_pay179]
  simp only [hv449 _ _, hv447 _ _, ← Nat.add_assoc]
  rw [sum_coe fun j => H.gw (t0 + r) (off + 512 + j), ← EReal.coe_add, H.bef_next]

/-- The running sum behind a tile. -/
theorem pay180_at (v402 : FVec Ideal S512x1024 .f32) (v447 : FVec Ideal S512x128 .f32) (v449 : FVec Ideal S512x128 .f32)
    (hv402 : Rd v402 fun r s => H.gw (t0 + r) (off + s)) (hv447 : Rd v447 fun r _ => H.bef (t0 + r) (off + 512)) (hv449 : Rd v449 fun r c => H.gw (t0 + r) (off + 512 + c)) :
    Rd (k0_pay180 v402 v447 v449) fun r _ => H.bef (t0 + r) (off + 768) := by
  intro r c
  pointwise [k0_pay180]
  simp only [hv402 _ _, pay179_at H t0 off v447 v449 hv447 hv449 _ _, ← Nat.add_assoc]
  rw [sum_coe fun j => H.gw (t0 + r) (off + 640 + j), ← EReal.coe_add, H.bef_next]

/-- The running sum behind a tile. -/
theorem pay181_at (v402 : FVec Ideal S512x1024 .f32) (v447 : FVec Ideal S512x128 .f32) (v449 : FVec Ideal S512x128 .f32)
    (hv402 : Rd v402 fun r s => H.gw (t0 + r) (off + s)) (hv447 : Rd v447 fun r _ => H.bef (t0 + r) (off + 512)) (hv449 : Rd v449 fun r c => H.gw (t0 + r) (off + 512 + c)) :
    Rd (k0_pay181 v402 v447 v449) fun r _ => H.bef (t0 + r) (off + 896) := by
  intro r c
  pointwise [k0_pay181]
  simp only [hv402 _ _, pay180_at H t0 off v402 v447 v449 hv402 hv447 hv449 _ _, ← Nat.add_assoc]
  rw [sum_coe fun j => H.gw (t0 + r) (off + 768 + j), ← EReal.coe_add, H.bef_next]

/-- The running sum behind the step. -/
theorem pay182_at (v402 : FVec Ideal S512x1024 .f32) (v447 : FVec Ideal S512x128 .f32) (v449 : FVec Ideal S512x128 .f32)
    (hv402 : Rd v402 fun r s => H.gw (t0 + r) (off + s)) (hv447 : Rd v447 fun r _ => H.bef (t0 + r) (off + 512)) (hv449 : Rd v449 fun r c => H.gw (t0 + r) (off + 512 + c)) :
    Rd (k0_pay182 v402 v447 v449) fun r _ => H.bef (t0 + r) (off + 1024) := by
  intro r c
  pointwise [k0_pay182]
  simp only [hv402 _ _, pay181_at H t0 off v402 v447 v449 hv402 hv447 hv449 _ _, ← Nat.add_assoc]
  rw [sum_coe fun j => H.gw (t0 + r) (off + 896 + j), ← EReal.coe_add, H.bef_next]

/-- The gradients of the masked scores. -/
theorem pay183_at (v279 : IVec S512x1024 1) (v290 : FVec Ideal S512x1024 .f32) (v402 : FVec Ideal S512x1024 .f32) (v418 : FVec Ideal S512x128 .f32) (v422 : FVec Ideal S512x128 .f32) (v423 : FVec Ideal S512x128 .f32) (v424 : FVec Ideal S512x128 .f32) (v430 : FVec Ideal S512x128 .f32) (v436 : FVec Ideal S512x128 .f32) (v442 : FVec Ideal S512x128 .f32) (v447 : FVec Ideal S512x128 .f32) (v448 : FVec Ideal S512x128 .f32) (v449 : FVec Ideal S512x128 .f32)
    (hv279 : Mk v279 fun r s => decide (off + s < t0 + r)) (hv290 : Rd v290 fun r s => H.lb (t0 + r) (off + s)) (hv402 : Rd v402 fun r s => H.gw (t0 + r) (off + s)) (hv418 : Rd v418 fun r c => ∑ j ∈ range 128, (if j < c then H.gw (t0 + r) (off + 640 + j) else 0)) (hv422 : Rd v422 fun r c => ∑ j ∈ range 128, (if j < c then H.gw (t0 + r) (off + 768 + j) else 0)) (hv423 : Rd v423 fun r c => ∑ j ∈ range 128, (if j < c then H.gw (t0 + r) (off + 896 + j) else 0)) (hv424 : Rd v424 fun r c => H.bef (t0 + r) (off + 0 + c)) (hv430 : Rd v430 fun r c => H.bef (t0 + r) (off + 128 + c)) (hv436 : Rd v436 fun r c => H.bef (t0 + r) (off + 256 + c)) (hv442 : Rd v442 fun r c => H.bef (t0 + r) (off + 384 + c)) (hv447 : Rd v447 fun r _ => H.bef (t0 + r) (off + 512)) (hv448 : Rd v448 fun r c => H.bef (t0 + r) (off + 512 + c)) (hv449 : Rd v449 fun r c => H.gw (t0 + r) (off + 512 + c)) :
    Rd (k0_pay183 v279 v290 v402 v418 v422 v423 v424 v430 v436 v442 v447 v448 v449) fun r s => H.dz (t0 + r) (off + s) := by
  intro r s
  have hs := s.isLt
  pointwise [k0_pay183]
  simp only [hv279 _ _, hv290 _ _, hv402 _ _]
  by_cases a0 : s.val < 128
  · rw [dif_pos a0]
    rw [hv424 _ _]
    exact dz_end H _ _ _ (by dsimp only; exact congrArg (H.bef _) (by omega))
  rw [dif_neg a0]
  by_cases a1 : s.val - 128 < 128
  · rw [dif_pos a1]
    rw [hv430 _ _]
    exact dz_end H _ _ _ (by dsimp only; exact congrArg (H.bef _) (by omega))
  rw [dif_neg a1]
  by_cases a2 : s.val - 128 - 128 < 128
  · rw [dif_pos a2]
    rw [hv436 _ _]
    exact dz_end H _ _ _ (by dsimp only; exact congrArg (H.bef _) (by omega))
  rw [dif_neg a2]
  by_cases a3 : s.val - 128 - 128 - 128 < 128
  · rw [dif_pos a3]
    rw [hv442 _ _]
    exact dz_end H _ _ _ (by dsimp only; exact congrArg (H.bef _) (by omega))
  rw [dif_neg a3]
  by_cases a4 : s.val - 128 - 128 - 128 - 128 < 128
  · rw [dif_pos a4]
    rw [hv448 _ _]
    exact dz_end H _ _ _ (by dsimp only; exact congrArg (H.bef _) (by omega))
  rw [dif_neg a4]
  by_cases a5 : s.val - 128 - 128 - 128 - 128 - 128 < 128
  · rw [dif_pos a5]
    rw [pay179_at H t0 off v447 v449 hv447 hv449 _ _, hv418 _ _, ← EReal.coe_add]
    exact dz_end H _ _ _ (bef_scan H (t0 + r) off 5 (s.val - 128 - 128 - 128 - 128 - 128) s (by omega) (by omega))
  rw [dif_neg a5]
  by_cases a6 : s.val - 128 - 128 - 128 - 128 - 128 - 128 < 128
  · rw [dif_pos a6]
    rw [pay180_at H t0 off v402 v447 v449 hv402 hv447 hv449 _ _, hv422 _ _, ← EReal.coe_add]
    exact dz_end H _ _ _ (bef_scan H (t0 + r) off 6 (s.val - 128 - 128 - 128 - 128 - 128 - 128) s (by omega) (by omega))
  rw [dif_neg a6]
  rw [pay181_at H t0 off v402 v447 v449 hv402 hv447 hv449 _ _, hv423 _ _, ← EReal.coe_add]
  exact dz_end H _ _ _ (bef_scan H (t0 + r) off 7 (s.val - 128 - 128 - 128 - 128 - 128 - 128 - 128) s (by omega) (by omega))

/-- The step's addition to the gradient of the queries. -/
theorem pay184_at (f : ℕ → ℕ → ℝ) (v273 : FVec Ideal S1024x128 .bf16) (v279 : IVec S512x1024 1) (v290 : FVec Ideal S512x1024 .f32) (v402 : FVec Ideal S512x1024 .f32) (v418 : FVec Ideal S512x128 .f32) (v422 : FVec Ideal S512x128 .f32) (v423 : FVec Ideal S512x128 .f32) (v424 : FVec Ideal S512x128 .f32) (v430 : FVec Ideal S512x128 .f32) (v436 : FVec Ideal S512x128 .f32) (v442 : FVec Ideal S512x128 .f32) (v447 : FVec Ideal S512x128 .f32) (v448 : FVec Ideal S512x128 .f32) (v449 : FVec Ideal S512x128 .f32) (v485 : Vec Ideal S512x128 .f32)
    (hv273 : Rd v273 fun s d => H.k (off + s) d) (hv485 : Rd (φ := .f32) v485 f) (hz : Rd (k0_pay183 v279 v290 v402 v418 v422 v423 v424 v430 v436 v442 v447 v448 v449) fun r s => H.dz (t0 + r) (off + s)) :
    Rd (k0_pay184 v273 v279 v290 v402 v418 v422 v423 v424 v430 v436 v442 v447 v448 v449 v485) fun r d => f r d + ∑ s ∈ range 1024, H.dz (t0 + r) (off + s) * H.k (off + s) d := by
  intro r d
  pointwise [k0_pay184]
  simp only [hz _ _, hv273 _ _, hv485 _ _, ← EReal.coe_mul]
  rw [sum_coe fun s => H.dz (t0 + r) (off + s) * H.k (off + s) d, ← EReal.coe_add]

/-- The gradient of the keys so far. -/
theorem pay185_at (f : ℕ → ℕ → ℝ) (v491 : Vec Ideal S1024x128 .f32)
    (hv491 : Rd (φ := .f32) v491 f) :
    Rd (k0_pay185 v491) f := by
  intro r c
  pointwise [k0_pay185]
  exact hv491 _ _

/-- The step's part of the gradient of the keys. -/
theorem pay186_at (v38 : FVec Ideal S512x128 .bf16) (v279 : IVec S512x1024 1) (v290 : FVec Ideal S512x1024 .f32) (v402 : FVec Ideal S512x1024 .f32) (v418 : FVec Ideal S512x128 .f32) (v422 : FVec Ideal S512x128 .f32) (v423 : FVec Ideal S512x128 .f32) (v424 : FVec Ideal S512x128 .f32) (v430 : FVec Ideal S512x128 .f32) (v436 : FVec Ideal S512x128 .f32) (v442 : FVec Ideal S512x128 .f32) (v447 : FVec Ideal S512x128 .f32) (v448 : FVec Ideal S512x128 .f32) (v449 : FVec Ideal S512x128 .f32)
    (hv38 : Rd v38 fun r d => H.q (t0 + r) d) (hz : Rd (k0_pay183 v279 v290 v402 v418 v422 v423 v424 v430 v436 v442 v447 v448 v449) fun r s => H.dz (t0 + r) (off + s)) :
    Rd (k0_pay186 v38 v279 v290 v402 v418 v422 v423 v424 v430 v436 v442 v447 v448 v449) fun s d => ∑ r ∈ range 512, H.dz (t0 + r) (off + s) * H.q (t0 + r) d := by
  intro s d
  pointwise [k0_pay186]
  simp only [hz _ _, hv38 _ _, ← EReal.coe_mul]
  exact sum_coe fun r => H.dz (t0 + r) (off + s) * H.q (t0 + r) d

/-- The gradient of the keys after the step. -/
theorem pay6_at (g : ℕ → ℕ → ℝ) (f : ℕ → ℕ → ℝ) (v492 : FVec Ideal S1024x128 .f32) (v493 : FVec Ideal S1024x128 .f32)
    (hv492 : Rd v492 f) (hv493 : Rd v493 g) :
    Rd (k0_pay6 v492 v493) fun s d => f s d + g s d := by
  intro s d
  pointwise [k0_pay6]
  rw [hv492 _ _, hv493 _ _, ← EReal.coe_add]

/-- The step's addition to the gradient of the values. -/
theorem pay7_at (f : ℕ → ℕ → ℝ) (v34 : FVec Ideal S512x128 .bf16) (v400 : FVec Ideal S512x1024 .f32) (v498 : Vec Ideal S1024x128 .f32)
    (hv34 : Rd v34 fun r d => H.e (t0 + r) d) (hv400 : Rd v400 fun r s => H.w (t0 + r) (off + s)) (hv498 : Rd (φ := .f32) v498 f) :
    Rd (k0_pay7 v34 v400 v498) fun s d => f s d + ∑ r ∈ range 512, H.w (t0 + r) (off + s) * H.e (t0 + r) d := by
  intro s d
  pointwise [k0_pay7]
  simp only [hv400 _ _, hv34 _ _, hv498 _ _, ← EReal.coe_mul]
  rw [sum_coe fun r => H.w (t0 + r) (off + s) * H.e (t0 + r) d, ← EReal.coe_add]

end Cert.KernelIdeal.Pay
-- ==== Proof.PayLoop.lean ====
/-
  The step of the kernel's loop over key blocks before the diagonal: each of its values over the reals.
-/
module

public import proofs.«01_k».proof.Proof.Gen.KernelIdeal.Skeleton
public import proofs.«01_k».proof.Proof.PayCommon

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)
open Idealize.ShloMosaic.WordCmp (cmpi_slt_ofNat)

variable (H : Head) (t0 off : ℕ)

/-- The scores. -/
theorem pay11_at (v38 : FVec Ideal S512x128 .bf16) (v272 : Vec Ideal S1024x128 .f32)
    (hv38 : Rd v38 fun r d => H.q (t0 + r) d) (hv272 : Rd (φ := .f32) v272 fun s d => H.k (off + s) d) :
    Rd (k0_pay11 v38 v272) fun r s => H.z (t0 + r) (off + s) := by
  intro r s
  pointwise [k0_pay11, k0_pay9]
  simp only [hv38 _ _, hv272 _ _, ← EReal.coe_mul]
  exact sum_coe fun d => H.q (t0 + r) d * H.k (off + s) d

/-- The logarithms of the break fractions. -/
theorem pay12_at (v38 : FVec Ideal S512x128 .bf16) (v272 : Vec Ideal S1024x128 .f32)
    (hv38 : Rd v38 fun r d => H.q (t0 + r) d) (hv272 : Rd (φ := .f32) v272 fun s d => H.k (off + s) d) :
    Rd (k0_pay12 v38 v272) fun r s => H.lb (t0 + r) (off + s) := by
  intro r s
  pointwise [k0_pay12]
  simp only [pay11_at H t0 off v38 v272 hv38 hv272 _ _]
  exact lsig_coe _

/-- The logarithms of the fractions left over. -/
theorem pay13_at (v38 : FVec Ideal S512x128 .bf16) (v272 : Vec Ideal S1024x128 .f32)
    (hv38 : Rd v38 fun r d => H.q (t0 + r) d) (hv272 : Rd (φ := .f32) v272 fun s d => H.k (off + s) d) (hca : off + 1024 ≤ t0) :
    Rd (k0_pay13 v38 v272) fun r s => H.l1m (t0 + r) (off + s) := by
  intro r s
  have hs := s.isLt
  pointwise [k0_pay13]
  rw [pay11_at H t0 off v38 v272 hv38 hv272 _ _, pay12_at H t0 off v38 v272 hv38 hv272 _ _, ← EReal.coe_sub, Head.l1m, if_pos (by omega)]
  rfl

/-- The saved carries. -/
theorem pay14_at (v289 : Vec Ideal S512x128 .f32)
    (hv289 : Rd (φ := .f32) v289 fun r n => H.car (t0 + r) n) :
    Rd (k0_pay14 v289) fun r n => H.car (t0 + r) n := by
  intro r c
  pointwise [k0_pay14]
  exact hv289 _ _

/-- A tile's scan of the logarithms. -/
theorem pay16_at (v38 : FVec Ideal S512x128 .bf16) (v132 : FVec Ideal S256x256 .bf16) (v272 : Vec Ideal S1024x128 .f32)
    (hv132 : Tri v132 fun a b => decide (b < a)) (hl : Rd (k0_pay13 v38 v272) fun r s => H.l1m (t0 + r) (off + s)) :
    Rd (k0_pay16 v38 v132 v272) fun r c => ∑ j ∈ range 128, (if c < j then H.l1m (t0 + r) (off + 0 + j) else 0) := by
  intro r c
  pointwise [k0_pay16, k0_pay15]
  rw [tri_sum v132 _ hv132 0 c (by omega) c.isLt _ (fun x => H.l1m (t0 + r) (off + x)) (fun x => by first | exact hl _ _ | exact (hl _ _).trans (by simp)) _ (by simp)]
  refine congrArg _ (Finset.sum_congr rfl fun j _ => ?_)
  simp only [decide_eq_true_eq]
  rw [show off + (128 * 0 + j) = off + 0 + j by omega]
  simp

/-- A tile's scan of the logarithms. -/
theorem pay17_at (v38 : FVec Ideal S512x128 .bf16) (v132 : FVec Ideal S256x256 .bf16) (v272 : Vec Ideal S1024x128 .f32)
    (hv132 : Tri v132 fun a b => decide (b < a)) (hl : Rd (k0_pay13 v38 v272) fun r s => H.l1m (t0 + r) (off + s)) :
    Rd (k0_pay17 v38 v132 v272) fun r c => ∑ j ∈ range 128, (if c < j then H.l1m (t0 + r) (off + 128 + j) else 0) := by
  intro r c
  pointwise [k0_pay17, k0_pay15]
  rw [tri_sum v132 _ hv132 1 c (by omega) c.isLt _ (fun x => H.l1m (t0 + r) (off + x)) (fun x => by first | exact hl _ _ | exact (hl _ _).trans (by simp)) _ (by simp)]
  refine congrArg _ (Finset.sum_congr rfl fun j _ => ?_)
  simp only [decide_eq_true_eq]
  rw [show off + (128 * 1 + j) = off + 128 + j by omega]

/-- A tile's scan of the logarithms. -/
theorem pay19_at (v38 : FVec Ideal S512x128 .bf16) (v132 : FVec Ideal S256x256 .bf16) (v272 : Vec Ideal S1024x128 .f32)
    (hv132 : Tri v132 fun a b => decide (b < a)) (hl : Rd (k0_pay13 v38 v272) fun r s => H.l1m (t0 + r) (off + s)) :
    Rd (k0_pay19 v38 v132 v272) fun r c => ∑ j ∈ range 128, (if c < j then H.l1m (t0 + r) (off + 256 + j) else 0) := by
  intro r c
  pointwise [k0_pay19, k0_pay18]
  rw [tri_sum v132 _ hv132 0 c (by omega) c.isLt _ (fun x => H.l1m (t0 + r) (off + (256 + x))) (fun x => by first | exact hl _ _ | exact (hl _ _).trans (by simp)) _ (by simp)]
  refine congrArg _ (Finset.sum_congr rfl fun j _ => ?_)
  simp only [decide_eq_true_eq]
  rw [show off + (256 + (128 * 0 + j)) = off + 256 + j by omega]

/-- A tile's scan of the logarithms. -/
theorem pay20_at (v38 : FVec Ideal S512x128 .bf16) (v132 : FVec Ideal S256x256 .bf16) (v272 : Vec Ideal S1024x128 .f32)
    (hv132 : Tri v132 fun a b => decide (b < a)) (hl : Rd (k0_pay13 v38 v272) fun r s => H.l1m (t0 + r) (off + s)) :
    Rd (k0_pay20 v38 v132 v272) fun r c => ∑ j ∈ range 128, (if c < j then H.l1m (t0 + r) (off + 384 + j) else 0) := by
  intro r c
  pointwise [k0_pay20, k0_pay18]
  rw [tri_sum v132 _ hv132 1 c (by omega) c.isLt _ (fun x => H.l1m (t0 + r) (off + (256 + x))) (fun x => by first | exact hl _ _ | exact (hl _ _).trans (by simp)) _ (by simp)]
  refine congrArg _ (Finset.sum_congr rfl fun j _ => ?_)
  simp only [decide_eq_true_eq]
  rw [show off + (256 + (128 * 1 + j)) = off + 384 + j by omega]

/-- A tile's scan of the logarithms. -/
theorem pay22_at (v38 : FVec Ideal S512x128 .bf16) (v132 : FVec Ideal S256x256 .bf16) (v272 : Vec Ideal S1024x128 .f32)
    (hv132 : Tri v132 fun a b => decide (b < a)) (hl : Rd (k0_pay13 v38 v272) fun r s => H.l1m (t0 + r) (off + s)) :
    Rd (k0_pay22 v38 v132 v272) fun r c => ∑ j ∈ range 128, (if c < j then H.l1m (t0 + r) (off + 512 + j) else 0) := by
  intro r c
  pointwise [k0_pay22, k0_pay21]
  rw [tri_sum v132 _ hv132 0 c (by omega) c.isLt _ (fun x => H.l1m (t0 + r) (off + (512 + x))) (fun x => by first | exact hl _ _ | exact (hl _ _).trans (by simp)) _ (by simp)]
  refine congrArg _ (Finset.sum_congr rfl fun j _ => ?_)
  simp only [decide_eq_true_eq]
  rw [show off + (512 + (128 * 0 + j)) = off + 512 + j by omega]

/-- A tile's scan of the logarithms. -/
theorem pay23_at (v38 : FVec Ideal S512x128 .bf16) (v132 : FVec Ideal S256x256 .bf16) (v272 : Vec Ideal S1024x128 .f32)
    (hv132 : Tri v132 fun a b => decide (b < a)) (hl : Rd (k0_pay13 v38 v272) fun r s => H.l1m (t0 + r) (off + s)) :
    Rd (k0_pay23 v38 v132 v272) fun r c => ∑ j ∈ range 128, (if c < j then H.l1m (t0 + r) (off + 640 + j) else 0) := by
  intro r c
  pointwise [k0_pay23, k0_pay21]
  rw [tri_sum v132 _ hv132 1 c (by omega) c.isLt _ (fun x => H.l1m (t0 + r) (off + (512 + x))) (fun x => by first | exact hl _ _ | exact (hl _ _).trans (by simp)) _ (by simp)]
  refine congrArg _ (Finset.sum_congr rfl fun j _ => ?_)
  simp only [decide_eq_true_eq]
  rw [show off + (512 + (128 * 1 + j)) = off + 640 + j by omega]

/-- A tile's scan of the logarithms. -/
theorem pay25_at (v38 : FVec Ideal S512x128 .bf16) (v132 : FVec Ideal S256x256 .bf16) (v272 : Vec Ideal S1024x128 .f32)
    (hv132 : Tri v132 fun a b => decide (b < a)) (hl : Rd (k0_pay13 v38 v272) fun r s => H.l1m (t0 + r) (off + s)) :
    Rd (k0_pay25 v38 v132 v272) fun r c => ∑ j ∈ range 128, (if c < j then H.l1m (t0 + r) (off + 768 + j) else 0) := by
  intro r c
  pointwise [k0_pay25, k0_pay24]
  rw [tri_sum v132 _ hv132 0 c (by omega) c.isLt _ (fun x => H.l1m (t0 + r) (off + (768 + x))) (fun x => by first | exact hl _ _ | exact (hl _ _).trans (by simp)) _ (by simp)]
  refine congrArg _ (Finset.sum_congr rfl fun j _ => ?_)
  simp only [decide_eq_true_eq]
  rw [show off + (768 + (128 * 0 + j)) = off + 768 + j by omega]

/-- A tile's scan of the logarithms. -/
theorem pay26_at (v38 : FVec Ideal S512x128 .bf16) (v132 : FVec Ideal S256x256 .bf16) (v272 : Vec Ideal S1024x128 .f32)
    (hv132 : Tri v132 fun a b => decide (b < a)) (hl : Rd (k0_pay13 v38 v272) fun r s => H.l1m (t0 + r) (off + s)) :
    Rd (k0_pay26 v38 v132 v272) fun r c => ∑ j ∈ range 128, (if c < j then H.l1m (t0 + r) (off + 896 + j) else 0) := by
  intro r c
  pointwise [k0_pay26, k0_pay24]
  rw [tri_sum v132 _ hv132 1 c (by omega) c.isLt _ (fun x => H.l1m (t0 + r) (off + (768 + x))) (fun x => by first | exact hl _ _ | exact (hl _ _).trans (by simp)) _ (by simp)]
  refine congrArg _ (Finset.sum_congr rfl fun j _ => ?_)
  simp only [decide_eq_true_eq]
  rw [show off + (768 + (128 * 1 + j)) = off + 896 + j by omega]

/-- The sticks left behind the keys of a tile. -/
theorem pay27_at (v44 : IVec S512x128 32) (v290 : FVec Ideal S512x128 .f32) (v294 : FVec Ideal S512x128 .f32)
    (J : ℕ) (hJ : J < 8) (ho : off = 1024 * J) (hv44 : Wd v44 fun _ c => c) (hv290 : Rd v290 fun r n => H.car (t0 + r) n) (hv294 : Rd v294 fun r c => ∑ j ∈ range 128, (if c < j then H.l1m (t0 + r) (off + 0 + j) else 0)) (arg14 : BitVec 32) (J : ℕ) (hJ : J < 8) (ho : off = 1024 * J) (harg14 : arg14 = BitVec.ofNat 32 J) :
    Rd (k0_pay27 v44 v290 v294 (Scalar.addi (Scalar.muli arg14 8#32) 0#32)) fun r c => H.aft (t0 + r) (off + 0 + c) := by
  intro r c
  pointwise [k0_pay27]
  simp only [hv44 _ _, harg14]
  rw [carry_sum J 0 hJ (by omega) (fun n => H.car (t0 + r) n) _ (fun x => hv290 _ _), hv294 _ _, ← EReal.coe_add]
  exact congrArg _ ((car_scan H (t0 + r) off J 0 c (128 * 0 + c) c.isLt ho rfl (by omega)).trans (congrArg (H.aft _) (by omega)))

/-- The sticks left behind the keys of a tile. -/
theorem pay28_at (v44 : IVec S512x128 32) (arg14 : BitVec 32) (v290 : FVec Ideal S512x128 .f32) (v295 : FVec Ideal S512x128 .f32)
    (J : ℕ) (hJ : J < 8) (ho : off = 1024 * J) (hv44 : Wd v44 fun _ c => c) (harg14 : arg14 = BitVec.ofNat 32 J) (hv290 : Rd v290 fun r n => H.car (t0 + r) n) (hv295 : Rd v295 fun r c => ∑ j ∈ range 128, (if c < j then H.l1m (t0 + r) (off + 128 + j) else 0)) :
    Rd (k0_pay28 v44 arg14 v290 v295) fun r c => H.aft (t0 + r) (off + 128 + c) := by
  intro r c
  pointwise [k0_pay28]
  simp only [hv44 _ _, harg14]
  rw [carry_sum J 1 hJ (by omega) (fun n => H.car (t0 + r) n) _ (fun x => hv290 _ _), hv295 _ _, ← EReal.coe_add]
  exact congrArg _ ((car_scan H (t0 + r) off J 1 c (128 * 1 + c) c.isLt ho rfl (by omega)).trans (congrArg (H.aft _) (by omega)))

/-- The sticks left behind the keys of a tile. -/
theorem pay29_at (v44 : IVec S512x128 32) (arg14 : BitVec 32) (v290 : FVec Ideal S512x128 .f32) (v299 : FVec Ideal S512x128 .f32)
    (J : ℕ) (hJ : J < 8) (ho : off = 1024 * J) (hv44 : Wd v44 fun _ c => c) (harg14 : arg14 = BitVec.ofNat 32 J) (hv290 : Rd v290 fun r n => H.car (t0 + r) n) (hv299 : Rd v299 fun r c => ∑ j ∈ range 128, (if c < j then H.l1m (t0 + r) (off + 256 + j) else 0)) :
    Rd (k0_pay29 v44 arg14 v290 v299) fun r c => H.aft (t0 + r) (off + 256 + c) := by
  intro r c
  pointwise [k0_pay29]
  simp only [hv44 _ _, harg14]
  rw [carry_sum J 2 hJ (by omega) (fun n => H.car (t0 + r) n) _ (fun x => hv290 _ _), hv299 _ _, ← EReal.coe_add]
  exact congrArg _ ((car_scan H (t0 + r) off J 2 c (128 * 2 + c) c.isLt ho rfl (by omega)).trans (congrArg (H.aft _) (by omega)))

/-- The sticks left behind the keys of a tile. -/
theorem pay30_at (v44 : IVec S512x128 32) (arg14 : BitVec 32) (v290 : FVec Ideal S512x128 .f32) (v300 : FVec Ideal S512x128 .f32)
    (J : ℕ) (hJ : J < 8) (ho : off = 1024 * J) (hv44 : Wd v44 fun _ c => c) (harg14 : arg14 = BitVec.ofNat 32 J) (hv290 : Rd v290 fun r n => H.car (t0 + r) n) (hv300 : Rd v300 fun r c => ∑ j ∈ range 128, (if c < j then H.l1m (t0 + r) (off + 384 + j) else 0)) :
    Rd (k0_pay30 v44 arg14 v290 v300) fun r c => H.aft (t0 + r) (off + 384 + c) := by
  intro r c
  pointwise [k0_pay30]
  simp only [hv44 _ _, harg14]
  rw [carry_sum J 3 hJ (by omega) (fun n => H.car (t0 + r) n) _ (fun x => hv290 _ _), hv300 _ _, ← EReal.coe_add]
  exact congrArg _ ((car_scan H (t0 + r) off J 3 c (128 * 3 + c) c.isLt ho rfl (by omega)).trans (congrArg (H.aft _) (by omega)))

/-- The attention weights. -/
theorem pay33_at (v44 : IVec S512x128 32) (arg14 : BitVec 32) (v287 : FVec Ideal S512x1024 .f32) (v290 : FVec Ideal S512x128 .f32) (v304 : FVec Ideal S512x128 .f32) (v305 : FVec Ideal S512x128 .f32) (v309 : FVec Ideal S512x128 .f32) (v310 : FVec Ideal S512x128 .f32) (v320 : FVec Ideal S512x128 .f32) (v330 : FVec Ideal S512x128 .f32) (v340 : FVec Ideal S512x128 .f32) (v350 : FVec Ideal S512x128 .f32)
    (J : ℕ) (hJ : J < 8) (ho : off = 1024 * J) (hv44 : Wd v44 fun _ c => c) (harg14 : arg14 = BitVec.ofNat 32 J) (hv287 : Rd v287 fun r s => H.lb (t0 + r) (off + s)) (hv290 : Rd v290 fun r n => H.car (t0 + r) n) (hv304 : Rd v304 fun r c => ∑ j ∈ range 128, (if c < j then H.l1m (t0 + r) (off + 512 + j) else 0)) (hv305 : Rd v305 fun r c => ∑ j ∈ range 128, (if c < j then H.l1m (t0 + r) (off + 640 + j) else 0)) (hv309 : Rd v309 fun r c => ∑ j ∈ range 128, (if c < j then H.l1m (t0 + r) (off + 768 + j) else 0)) (hv310 : Rd v310 fun r c => ∑ j ∈ range 128, (if c < j then H.l1m (t0 + r) (off + 896 + j) else 0)) (hv320 : Rd v320 fun r c => H.aft (t0 + r) (off + 0 + c)) (hv330 : Rd v330 fun r c => H.aft (t0 + r) (off + 128 + c)) (hv340 : Rd v340 fun r c => H.aft (t0 + r) (off + 256 + c)) (hv350 : Rd v350 fun r c => H.aft (t0 + r) (off + 384 + c)) (hca : off + 1024 ≤ t0) :
    Rd (k0_pay33 v44 arg14 v287 v290 v304 v305 v309 v310 v320 v330 v340 v350 (k0_pay31 v44 arg14) k0_pay32) fun r s => H.w (t0 + r) (off + s) := by
  intro r s
  have hs := s.isLt
  pointwise [k0_pay33, k0_pay31, k0_pay32]
  simp only [hv287 _ _, hv44 _ _, harg14]
  by_cases a0 : s.val < 128
  · rw [dif_pos a0]
    rw [hv320 _ _]
    exact w_end' H _ _ _ (by omega) (by dsimp only; exact congrArg (H.aft _) (by omega))
  rw [dif_neg a0]
  by_cases a1 : s.val - 128 < 128
  · rw [dif_pos a1]
    rw [hv330 _ _]
    exact w_end' H _ _ _ (by omega) (by dsimp only; exact congrArg (H.aft _) (by omega))
  rw [dif_neg a1]
  by_cases a2 : s.val - 128 - 128 < 128
  · rw [dif_pos a2]
    rw [hv340 _ _]
    exact w_end' H _ _ _ (by omega) (by dsimp only; exact congrArg (H.aft _) (by omega))
  rw [dif_neg a2]
  by_cases a3 : s.val - 128 - 128 - 128 < 128
  · rw [dif_pos a3]
    rw [hv350 _ _]
    exact w_end' H _ _ _ (by omega) (by dsimp only; exact congrArg (H.aft _) (by omega))
  rw [dif_neg a3]
  by_cases a4 : s.val - 128 - 128 - 128 - 128 < 128
  · rw [dif_pos a4]
    rw [carry_sum J 4 hJ (by omega) (fun n => H.car (t0 + r) n) _ (fun x => hv290 _ _), hv304 _ _, ← EReal.coe_add]
    exact w_end' H _ _ _ (by omega) (car_scan H _ off J 4 (s.val - 128 - 128 - 128 - 128) s (by omega) ho (by omega) (by omega))
  rw [dif_neg a4]
  by_cases a5 : s.val - 128 - 128 - 128 - 128 - 128 < 128
  · rw [dif_pos a5]
    rw [carry_sum J 5 hJ (by omega) (fun n => H.car (t0 + r) n) _ (fun x => hv290 _ _), hv305 _ _, ← EReal.coe_add]
    exact w_end' H _ _ _ (by omega) (car_scan H _ off J 5 (s.val - 128 - 128 - 128 - 128 - 128) s (by omega) ho (by omega) (by omega))
  rw [dif_neg a5]
  by_cases a6 : s.val - 128 - 128 - 128 - 128 - 128 - 128 < 128
  · rw [dif_pos a6]
    rw [carry_sum J 6 hJ (by omega) (fun n => H.car (t0 + r) n) _ (fun x => hv290 _ _), hv309 _ _, ← EReal.coe_add]
    exact w_end' H _ _ _ (by omega) (car_scan H _ off J 6 (s.val - 128 - 128 - 128 - 128 - 128 - 128) s (by omega) ho (by omega) (by omega))
  rw [dif_neg a6]
  rw [carry_sum J 7 hJ (by omega) (fun n => H.car (t0 + r) n) _ (fun x => hv290 _ _), hv310 _ _, ← EReal.coe_add]
  exact w_end' H _ _ _ (by omega) (car_scan H _ off J 7 (s.val - 128 - 128 - 128 - 128 - 128 - 128 - 128) s (by omega) ho (by omega) (by omega))

/-- The weights times their gradients. -/
theorem pay34_at (v34 : FVec Ideal S512x128 .bf16) (v44 : IVec S512x128 32) (arg14 : BitVec 32) (v276 : FVec Ideal S1024x128 .bf16) (v287 : FVec Ideal S512x1024 .f32) (v290 : FVec Ideal S512x128 .f32) (v304 : FVec Ideal S512x128 .f32) (v305 : FVec Ideal S512x128 .f32) (v309 : FVec Ideal S512x128 .f32) (v310 : FVec Ideal S512x128 .f32) (v320 : FVec Ideal S512x128 .f32) (v330 : FVec Ideal S512x128 .f32) (v340 : FVec Ideal S512x128 .f32) (v350 : FVec Ideal S512x128 .f32)
    (hv34 : Rd v34 fun r d => H.e (t0 + r) d) (hv276 : Rd v276 fun s d => H.v (off + s) d) (hw : Rd (k0_pay33 v44 arg14 v287 v290 v304 v305 v309 v310 v320 v330 v340 v350 (k0_pay31 v44 arg14) k0_pay32) fun r s => H.w (t0 + r) (off + s)) :
    Rd (k0_pay34 v34 v44 arg14 v276 v287 v290 v304 v305 v309 v310 v320 v330 v340 v350 (k0_pay31 v44 arg14) k0_pay32) fun r s => H.gw (t0 + r) (off + s) := by
  intro r s
  pointwise [k0_pay34]
  simp only [hw _ _, hv34 _ _, hv276 _ _, ← EReal.coe_mul]
  rw [sum_coe fun d => H.e (t0 + r) d * H.v (off + s) d, ← EReal.coe_mul]
  rfl

/-- Two tiles of the weights times their gradients. -/
theorem pay35_at (v34 : FVec Ideal S512x128 .bf16) (v44 : IVec S512x128 32) (arg14 : BitVec 32) (v276 : FVec Ideal S1024x128 .bf16) (v287 : FVec Ideal S512x1024 .f32) (v290 : FVec Ideal S512x128 .f32) (v304 : FVec Ideal S512x128 .f32) (v305 : FVec Ideal S512x128 .f32) (v309 : FVec Ideal S512x128 .f32) (v310 : FVec Ideal S512x128 .f32) (v320 : FVec Ideal S512x128 .f32) (v330 : FVec Ideal S512x128 .f32) (v340 : FVec Ideal S512x128 .f32) (v350 : FVec Ideal S512x128 .f32)
    (hg : Rd (k0_pay34 v34 v44 arg14 v276 v287 v290 v304 v305 v309 v310 v320 v330 v340 v350 (k0_pay31 v44 arg14) k0_pay32) fun r s => H.gw (t0 + r) (off + s)) :
    Rd (k0_pay35 v34 v44 arg14 v276 v287 v290 v304 v305 v309 v310 v320 v330 v340 v350 (k0_pay31 v44 arg14) k0_pay32) fun r s => H.gw (t0 + r) (off + s) := by
  intro r s
  pointwise [k0_pay35]
  exact (hg _ _).trans (by simp)

/-- A tile's scan of the weights times their gradients. -/
theorem pay40_at (v220 : FVec Ideal S256x256 .bf16) (v395 : FVec Ideal S512x1024 .f32)
    (hv220 : Tri v220 fun a b => decide (a < b)) (hv395 : Rd v395 fun r s => H.gw (t0 + r) (off + s)) :
    Rd (k0_pay40 v220 v395) fun r c => ∑ j ∈ range 128, (if j < c then H.gw (t0 + r) (off + 768 + j) else 0) := by
  intro r c
  pointwise [k0_pay40, k0_pay39]
  rw [tri_sum v220 _ hv220 0 c (by omega) c.isLt _ (fun x => H.gw (t0 + r) (off + (768 + x))) (fun x => by first | exact hv395 _ _ | exact (hv395 _ _).trans (by simp)) _ (by simp)]
  refine congrArg _ (Finset.sum_congr rfl fun j _ => ?_)
  simp only [decide_eq_true_eq]
  rw [show off + (768 + (128 * 0 + j)) = off + 768 + j by omega]

/-- A tile's scan of the weights times their gradients. -/
theorem pay41_at (v220 : FVec Ideal S256x256 .bf16) (v395 : FVec Ideal S512x1024 .f32)
    (hv220 : Tri v220 fun a b => decide (a < b)) (hv395 : Rd v395 fun r s => H.gw (t0 + r) (off + s)) :
    Rd (k0_pay41 v220 v395) fun r c => ∑ j ∈ range 128, (if j < c then H.gw (t0 + r) (off + 896 + j) else 0) := by
  intro r c
  pointwise [k0_pay41, k0_pay39]
  rw [tri_sum v220 _ hv220 1 c (by omega) c.isLt _ (fun x => H.gw (t0 + r) (off + (768 + x))) (fun x => by first | exact hv395 _ _ | exact (hv395 _ _).trans (by simp)) _ (by simp)]
  refine congrArg _ (Finset.sum_congr rfl fun j _ => ?_)
  simp only [decide_eq_true_eq]
  rw [show off + (768 + (128 * 1 + j)) = off + 896 + j by omega]

/-- The running sum behind a tile. -/
theorem pay43_at (v395 : FVec Ideal S512x1024 .f32) (v396 : Vec Ideal S512x128 .f32)
    (hv395 : Rd v395 fun r s => H.gw (t0 + r) (off + s)) (hv396 : Rd (φ := .f32) v396 fun r _ => H.bef (t0 + r) off) :
    Rd (k0_pay43 v395 v396) fun r _ => H.bef (t0 + r) (off + 128) := by
  intro r c
  pointwise [k0_pay43]
  simp only [hv395 _ _, hv396 _ _, ← Nat.add_assoc]
  rw [sum_coe fun j => H.gw (t0 + r) (off + j), ← EReal.coe_add, H.bef_next]

/-- The running sum behind a tile. -/
theorem pay45_at (v395 : FVec Ideal S512x1024 .f32) (v396 : Vec Ideal S512x128 .f32)
    (hv395 : Rd v395 fun r s => H.gw (t0 + r) (off + s)) (hv396 : Rd (φ := .f32) v396 fun r _ => H.bef (t0 + r) off) :
    Rd (k0_pay45 v395 v396) fun r _ => H.bef (t0 + r) (off + 256) := by
  intro r c
  pointwise [k0_pay45]
  simp only [hv395 _ _, pay43_at H t0 off v395 v396 hv395 hv396 _ _, ← Nat.add_assoc]
  rw [sum_coe fun j => H.gw (t0 + r) (off + 128 + j), ← EReal.coe_add, H.bef_next]

/-- The running sum behind a tile. -/
theorem pay47_at (v395 : FVec Ideal S512x1024 .f32) (v396 : Vec Ideal S512x128 .f32)
    (hv395 : Rd v395 fun r s => H.gw (t0 + r) (off + s)) (hv396 : Rd (φ := .f32) v396 fun r _ => H.bef (t0 + r) off) :
    Rd (k0_pay47 v395 v396) fun r _ => H.bef (t0 + r) (off + 384) := by
  intro r c
  pointwise [k0_pay47]
  simp only [hv395 _ _, pay45_at H t0 off v395 v396 hv395 hv396 _ _, ← Nat.add_assoc]
  rw [sum_coe fun j => H.gw (t0 + r) (off + 256 + j), ← EReal.coe_add, H.bef_next]

/-- The running sum behind a tile. -/
theorem pay49_at (v395 : FVec Ideal S512x1024 .f32) (v396 : Vec Ideal S512x128 .f32)
    (hv395 : Rd v395 fun r s => H.gw (t0 + r) (off + s)) (hv396 : Rd (φ := .f32) v396 fun r _ => H.bef (t0 + r) off) :
    Rd (k0_pay49 v395 v396) fun r _ => H.bef (t0 + r) (off + 512) := by
  intro r c
  pointwise [k0_pay49]
  simp only [hv395 _ _, pay47_at H t0 off v395 v396 hv395 hv396 _ _, ← Nat.add_assoc]
  rw [sum_coe fun j => H.gw (t0 + r) (off + 384 + j), ← EReal.coe_add, H.bef_next]

/-- The running sum behind a tile. -/
theorem pay51_at (v395 : FVec Ideal S512x1024 .f32) (v396 : Vec Ideal S512x128 .f32)
    (hv395 : Rd v395 fun r s => H.gw (t0 + r) (off + s)) (hv396 : Rd (φ := .f32) v396 fun r _ => H.bef (t0 + r) off) :
    Rd (k0_pay51 v395 v396) fun r _ => H.bef (t0 + r) (off + 640) := by
  intro r c
  pointwise [k0_pay51]
  simp only [hv395 _ _, pay49_at H t0 off v395 v396 hv395 hv396 _ _, ← Nat.add_assoc]
  rw [sum_coe fun j => H.gw (t0 + r) (off + 512 + j), ← EReal.coe_add, H.bef_next]

/-- What is sent through the sticks before the keys of a tile. -/
theorem pay42_at (v220 : FVec Ideal S256x256 .bf16) (v396 : Vec Ideal S512x128 .f32) (v398 : FVec Ideal S512x256 .bf16)
    (hv220 : Tri v220 fun a b => decide (a < b)) (hv396 : Rd (φ := .f32) v396 fun r _ => H.bef (t0 + r) off) (hv398 : Rd v398 fun r s => H.gw (t0 + r) (off + s)) :
    Rd (k0_pay42 v220 v396 v398 (constant S512x256 .f32 0x00000000#32)) fun r c => H.bef (t0 + r) (off + 0 + c) := by
  intro r c
  pointwise [k0_pay42, k0_pay36]
  rw [hv396 _ _, tri_sum v220 _ hv220 0 c (by omega) c.isLt _ (fun x => H.gw (t0 + r) (off + x)) (fun x => by first | exact hv398 _ _ | exact (hv398 _ _).trans (by simp)) _ (by simp), ← EReal.coe_add]
  refine congrArg _ (Eq.trans (congrArg₂ (· + ·) rfl (Finset.sum_congr rfl fun j _ => ?_)) ((bef_scan H (t0 + r) off 0 c (128 * 0 + c) c.isLt rfl).trans (congrArg (H.bef _) (by omega))))
  simp only [decide_eq_true_eq]
  rw [show off + (128 * 0 + j) = off + 128 * 0 + j by omega]

/-- What is sent through the sticks before the keys of a tile. -/
theorem pay44_at (v220 : FVec Ideal S256x256 .bf16) (v395 : FVec Ideal S512x1024 .f32) (v396 : Vec Ideal S512x128 .f32) (v398 : FVec Ideal S512x256 .bf16)
    (hv220 : Tri v220 fun a b => decide (a < b)) (hv395 : Rd v395 fun r s => H.gw (t0 + r) (off + s)) (hv396 : Rd (φ := .f32) v396 fun r _ => H.bef (t0 + r) off) (hv398 : Rd v398 fun r s => H.gw (t0 + r) (off + s)) :
    Rd (k0_pay44 v220 v395 v396 v398 (constant S512x256 .f32 0x00000000#32)) fun r c => H.bef (t0 + r) (off + 128 + c) := by
  intro r c
  pointwise [k0_pay44, k0_pay36]
  rw [pay43_at H t0 off v395 v396 hv395 hv396 _ _, tri_sum v220 _ hv220 1 c (by omega) c.isLt _ (fun x => H.gw (t0 + r) (off + x)) (fun x => by first | exact hv398 _ _ | exact (hv398 _ _).trans (by simp)) _ (by simp), ← EReal.coe_add]
  refine congrArg _ (Eq.trans (congrArg₂ (· + ·) rfl (Finset.sum_congr rfl fun j _ => ?_)) ((bef_scan H (t0 + r) off 1 c (128 * 1 + c) c.isLt rfl).trans (congrArg (H.bef _) (by omega))))
  simp only [decide_eq_true_eq]
  rw [show off + (128 * 1 + j) = off + 128 * 1 + j by omega]

/-- What is sent through the sticks before the keys of a tile. -/
theorem pay46_at (v220 : FVec Ideal S256x256 .bf16) (v395 : FVec Ideal S512x1024 .f32) (v396 : Vec Ideal S512x128 .f32)
    (hv220 : Tri v220 fun a b => decide (a < b)) (hv395 : Rd v395 fun r s => H.gw (t0 + r) (off + s)) (hv396 : Rd (φ := .f32) v396 fun r _ => H.bef (t0 + r) off) :
    Rd (k0_pay46 v220 v395 v396) fun r c => H.bef (t0 + r) (off + 256 + c) := by
  intro r c
  pointwise [k0_pay46, k0_pay37]
  rw [pay45_at H t0 off v395 v396 hv395 hv396 _ _, tri_sum v220 _ hv220 0 c (by omega) c.isLt _ (fun x => H.gw (t0 + r) (off + (256 + x))) (fun x => by first | exact hv395 _ _ | exact (hv395 _ _).trans (by simp)) _ (by simp), ← EReal.coe_add]
  refine congrArg _ (Eq.trans (congrArg₂ (· + ·) rfl (Finset.sum_congr rfl fun j _ => ?_)) ((bef_scan H (t0 + r) off 2 c (128 * 2 + c) c.isLt rfl).trans (congrArg (H.bef _) (by omega))))
  simp only [decide_eq_true_eq]
  rw [show off + (256 + (128 * 0 + j)) = off + 128 * 2 + j by omega]

/-- What is sent through the sticks before the keys of a tile. -/
theorem pay48_at (v220 : FVec Ideal S256x256 .bf16) (v395 : FVec Ideal S512x1024 .f32) (v396 : Vec Ideal S512x128 .f32)
    (hv220 : Tri v220 fun a b => decide (a < b)) (hv395 : Rd v395 fun r s => H.gw (t0 + r) (off + s)) (hv396 : Rd (φ := .f32) v396 fun r _ => H.bef (t0 + r) off) :
    Rd (k0_pay48 v220 v395 v396) fun r c => H.bef (t0 + r) (off + 384 + c) := by
  intro r c
  pointwise [k0_pay48, k0_pay37]
  rw [pay47_at H t0 off v395 v396 hv395 hv396 _ _, tri_sum v220 _ hv220 1 c (by omega) c.isLt _ (fun x => H.gw (t0 + r) (off + (256 + x))) (fun x => by first | exact hv395 _ _ | exact (hv395 _ _).trans (by simp)) _ (by simp), ← EReal.coe_add]
  refine congrArg _ (Eq.trans (congrArg₂ (· + ·) rfl (Finset.sum_congr rfl fun j _ => ?_)) ((bef_scan H (t0 + r) off 3 c (128 * 3 + c) c.isLt rfl).trans (congrArg (H.bef _) (by omega))))
  simp only [decide_eq_true_eq]
  rw [show off + (256 + (128 * 1 + j)) = off + 128 * 3 + j by omega]

/-- What is sent through the sticks before the keys of a tile. -/
theorem pay50_at (v220 : FVec Ideal S256x256 .bf16) (v395 : FVec Ideal S512x1024 .f32) (v396 : Vec Ideal S512x128 .f32)
    (hv220 : Tri v220 fun a b => decide (a < b)) (hv395 : Rd v395 fun r s => H.gw (t0 + r) (off + s)) (hv396 : Rd (φ := .f32) v396 fun r _ => H.bef (t0 + r) off) :
    Rd (k0_pay50 v220 v395 v396) fun r c => H.bef (t0 + r) (off + 512 + c) := by
  intro r c
  pointwise [k0_pay50, k0_pay38]
  rw [pay49_at H t0 off v395 v396 hv395 hv396 _ _, tri_sum v220 _ hv220 0 c (by omega) c.isLt _ (fun x => H.gw (t0 + r) (off + (512 + x))) (fun x => by first | exact hv395 _ _ | exact (hv395 _ _).trans (by simp)) _ (by simp), ← EReal.coe_add]
  refine congrArg _ (Eq.trans (congrArg₂ (· + ·) rfl (Finset.sum_congr rfl fun j _ => ?_)) ((bef_scan H (t0 + r) off 4 c (128 * 4 + c) c.isLt rfl).trans (congrArg (H.bef _) (by omega))))
  simp only [decide_eq_true_eq]
  rw [show off + (512 + (128 * 0 + j)) = off + 128 * 4 + j by omega]

/-- What is sent through the sticks before the keys of a tile. -/
theorem pay52_at (v220 : FVec Ideal S256x256 .bf16) (v395 : FVec Ideal S512x1024 .f32) (v396 : Vec Ideal S512x128 .f32)
    (hv220 : Tri v220 fun a b => decide (a < b)) (hv395 : Rd v395 fun r s => H.gw (t0 + r) (off + s)) (hv396 : Rd (φ := .f32) v396 fun r _ => H.bef (t0 + r) off) :
    Rd (k0_pay52 v220 v395 v396) fun r c => H.bef (t0 + r) (off + 640 + c) := by
  intro r c
  pointwise [k0_pay52, k0_pay38]
  rw [pay51_at H t0 off v395 v396 hv395 hv396 _ _, tri_sum v220 _ hv220 1 c (by omega) c.isLt _ (fun x => H.gw (t0 + r) (off + (512 + x))) (fun x => by first | exact hv395 _ _ | exact (hv395 _ _).trans (by simp)) _ (by simp), ← EReal.coe_add]
  refine congrArg _ (Eq.trans (congrArg₂ (· + ·) rfl (Finset.sum_congr rfl fun j _ => ?_)) ((bef_scan H (t0 + r) off 5 c (128 * 5 + c) c.isLt rfl).trans (congrArg (H.bef _) (by omega))))
  simp only [decide_eq_true_eq]
  rw [show off + (512 + (128 * 1 + j)) = off + 128 * 5 + j by omega]

/-- The sum of a tile of the weights times their gradients. -/
theorem pay53_at (v395 : FVec Ideal S512x1024 .f32) (hv395 : Rd v395 fun r s => H.gw (t0 + r) (off + s)) (r : Fin 512) :
    k0_pay53 v395 (ix1 r) = ((∑ j ∈ range 128, H.gw (t0 + r) (off + 640 + j) : ℝ) : EReal) := by
  pointwise [k0_pay53]
  simp only [hv395 _ _, ← Nat.add_assoc]
  exact sum_coe fun j => H.gw (t0 + r) (off + 640 + j)

/-- The running sum behind a tile. -/
theorem pay54_at (v446 : FVec Ideal S512x128 .f32) (v449 : FVec Ideal S512 .f32)
    (hv446 : Rd v446 fun r _ => H.bef (t0 + r) (off + 640)) (hv449 : ∀ r : Fin 512, v449 (ix1 r) = ((∑ j ∈ range 128, H.gw (t0 + r) (off + 640 + j) : ℝ) : EReal)) :
    Rd (k0_pay54 v446 v449) fun r _ => H.bef (t0 + r) (off + 768) := by
  intro r c
  pointwise [k0_pay54]
  rw [hv449, hv446 _ _, ← EReal.coe_add, H.bef_next]

/-- The running sum behind a tile. -/
theorem pay55_at (v395 : FVec Ideal S512x1024 .f32) (v446 : FVec Ideal S512x128 .f32) (v449 : FVec Ideal S512 .f32)
    (hv395 : Rd v395 fun r s => H.gw (t0 + r) (off + s)) (hv446 : Rd v446 fun r _ => H.bef (t0 + r) (off + 640)) (hv449 : ∀ r : Fin 512, v449 (ix1 r) = ((∑ j ∈ range 128, H.gw (t0 + r) (off + 640 + j) : ℝ) : EReal)) :
    Rd (k0_pay55 v395 v446 v449) fun r _ => H.bef (t0 + r) (off + 896) := by
  intro r c
  pointwise [k0_pay55]
  simp only [hv395 _ _, pay54_at H t0 off v446 v449 hv446 hv449 _ _, ← Nat.add_assoc]
  rw [sum_coe fun j => H.gw (t0 + r) (off + 768 + j), ← EReal.coe_add, H.bef_next]

/-- The running sum behind the step. -/
theorem pay56_at (v395 : FVec Ideal S512x1024 .f32) (v446 : FVec Ideal S512x128 .f32) (v449 : FVec Ideal S512 .f32)
    (hv395 : Rd v395 fun r s => H.gw (t0 + r) (off + s)) (hv446 : Rd v446 fun r _ => H.bef (t0 + r) (off + 640)) (hv449 : ∀ r : Fin 512, v449 (ix1 r) = ((∑ j ∈ range 128, H.gw (t0 + r) (off + 640 + j) : ℝ) : EReal)) :
    Rd (k0_pay56 v395 v446 v449) fun r _ => H.bef (t0 + r) (off + 1024) := by
  intro r c
  pointwise [k0_pay56]
  simp only [hv395 _ _, pay55_at H t0 off v395 v446 v449 hv395 hv446 hv449 _ _, ← Nat.add_assoc]
  rw [sum_coe fun j => H.gw (t0 + r) (off + 896 + j), ← EReal.coe_add, H.bef_next]

/-- The gradients of the scores. -/
theorem pay57_at (v287 : FVec Ideal S512x1024 .f32) (v395 : FVec Ideal S512x1024 .f32) (v415 : FVec Ideal S512x128 .f32) (v416 : FVec Ideal S512x128 .f32) (v417 : FVec Ideal S512x128 .f32) (v423 : FVec Ideal S512x128 .f32) (v429 : FVec Ideal S512x128 .f32) (v435 : FVec Ideal S512x128 .f32) (v441 : FVec Ideal S512x128 .f32) (v446 : FVec Ideal S512x128 .f32) (v447 : FVec Ideal S512x128 .f32) (v449 : FVec Ideal S512 .f32)
    (hv287 : Rd v287 fun r s => H.lb (t0 + r) (off + s)) (hv395 : Rd v395 fun r s => H.gw (t0 + r) (off + s)) (hv415 : Rd v415 fun r c => ∑ j ∈ range 128, (if j < c then H.gw (t0 + r) (off + 768 + j) else 0)) (hv416 : Rd v416 fun r c => ∑ j ∈ range 128, (if j < c then H.gw (t0 + r) (off + 896 + j) else 0)) (hv417 : Rd v417 fun r c => H.bef (t0 + r) (off + 0 + c)) (hv423 : Rd v423 fun r c => H.bef (t0 + r) (off + 128 + c)) (hv429 : Rd v429 fun r c => H.bef (t0 + r) (off + 256 + c)) (hv435 : Rd v435 fun r c => H.bef (t0 + r) (off + 384 + c)) (hv441 : Rd v441 fun r c => H.bef (t0 + r) (off + 512 + c)) (hv446 : Rd v446 fun r _ => H.bef (t0 + r) (off + 640)) (hv447 : Rd v447 fun r c => H.bef (t0 + r) (off + 640 + c)) (hv449 : ∀ r : Fin 512, v449 (ix1 r) = ((∑ j ∈ range 128, H.gw (t0 + r) (off + 640 + j) : ℝ) : EReal)) (hca : off + 1024 ≤ t0) :
    Rd (k0_pay57 v287 v395 v415 v416 v417 v423 v429 v435 v441 v446 v447 v449) fun r s => H.dz (t0 + r) (off + s) := by
  intro r s
  have hs := s.isLt
  pointwise [k0_pay57]
  simp only [hv287 _ _, hv395 _ _]
  by_cases a0 : s.val < 128
  · rw [dif_pos a0]
    rw [hv417 _ _]
    exact dz_end' H _ _ _ (by omega) (by dsimp only; exact congrArg (H.bef _) (by omega))
  rw [dif_neg a0]
  by_cases a1 : s.val - 128 < 128
  · rw [dif_pos a1]
    rw [hv423 _ _]
    exact dz_end' H _ _ _ (by omega) (by dsimp only; exact congrArg (H.bef _) (by omega))
  rw [dif_neg a1]
  by_cases a2 : s.val - 128 - 128 < 128
  · rw [dif_pos a2]
    rw [hv429 _ _]
    exact dz_end' H _ _ _ (by omega) (by dsimp only; exact congrArg (H.bef _) (by omega))
  rw [dif_neg a2]
  by_cases a3 : s.val - 128 - 128 - 128 < 128
  · rw [dif_pos a3]
    rw [hv435 _ _]
    exact dz_end' H _ _ _ (by omega) (by dsimp only; exact congrArg (H.bef _) (by omega))
  rw [dif_neg a3]
  by_cases a4 : s.val - 128 - 128 - 128 - 128 < 128
  · rw [dif_pos a4]
    rw [hv441 _ _]
    exact dz_end' H _ _ _ (by omega) (by dsimp only; exact congrArg (H.bef _) (by omega))
  rw [dif_neg a4]
  by_cases a5 : s.val - 128 - 128 - 128 - 128 - 128 < 128
  · rw [dif_pos a5]
    rw [hv447 _ _]
    exact dz_end' H _ _ _ (by omega) (by dsimp only; exact congrArg (H.bef _) (by omega))
  rw [dif_neg a5]
  by_cases a6 : s.val - 128 - 128 - 128 - 128 - 128 - 128 < 128
  · rw [dif_pos a6]
    rw [pay54_at H t0 off v446 v449 hv446 hv449 _ _, hv415 _ _, ← EReal.coe_add]
    exact dz_end' H _ _ _ (by omega) (bef_scan H (t0 + r) off 6 (s.val - 128 - 128 - 128 - 128 - 128 - 128) s (by omega) (by omega))
  rw [dif_neg a6]
  rw [pay55_at H t0 off v395 v446 v449 hv395 hv446 hv449 _ _, hv416 _ _, ← EReal.coe_add]
  exact dz_end' H _ _ _ (by omega) (bef_scan H (t0 + r) off 7 (s.val - 128 - 128 - 128 - 128 - 128 - 128 - 128) s (by omega) (by omega))

/-- The step's addition to the gradient of the queries. -/
theorem pay58_at (f : ℕ → ℕ → ℝ) (v273 : FVec Ideal S1024x128 .bf16) (v287 : FVec Ideal S512x1024 .f32) (v395 : FVec Ideal S512x1024 .f32) (v415 : FVec Ideal S512x128 .f32) (v416 : FVec Ideal S512x128 .f32) (v417 : FVec Ideal S512x128 .f32) (v423 : FVec Ideal S512x128 .f32) (v429 : FVec Ideal S512x128 .f32) (v435 : FVec Ideal S512x128 .f32) (v441 : FVec Ideal S512x128 .f32) (v446 : FVec Ideal S512x128 .f32) (v447 : FVec Ideal S512x128 .f32) (v449 : FVec Ideal S512 .f32) (v476 : Vec Ideal S512x128 .f32)
    (hv273 : Rd v273 fun s d => H.k (off + s) d) (hv476 : Rd (φ := .f32) v476 f) (hz : Rd (k0_pay57 v287 v395 v415 v416 v417 v423 v429 v435 v441 v446 v447 v449) fun r s => H.dz (t0 + r) (off + s)) :
    Rd (k0_pay58 v273 v287 v395 v415 v416 v417 v423 v429 v435 v441 v446 v447 v449 v476) fun r d => f r d + ∑ s ∈ range 1024, H.dz (t0 + r) (off + s) * H.k (off + s) d := by
  intro r d
  pointwise [k0_pay58]
  simp only [hz _ _, hv273 _ _, hv476 _ _, ← EReal.coe_mul]
  rw [sum_coe fun s => H.dz (t0 + r) (off + s) * H.k (off + s) d, ← EReal.coe_add]

/-- The step's addition to the gradient of the keys. -/
theorem pay59_at (f : ℕ → ℕ → ℝ) (v38 : FVec Ideal S512x128 .bf16) (v287 : FVec Ideal S512x1024 .f32) (v395 : FVec Ideal S512x1024 .f32) (v415 : FVec Ideal S512x128 .f32) (v416 : FVec Ideal S512x128 .f32) (v417 : FVec Ideal S512x128 .f32) (v423 : FVec Ideal S512x128 .f32) (v429 : FVec Ideal S512x128 .f32) (v435 : FVec Ideal S512x128 .f32) (v441 : FVec Ideal S512x128 .f32) (v446 : FVec Ideal S512x128 .f32) (v447 : FVec Ideal S512x128 .f32) (v449 : FVec Ideal S512 .f32) (v482 : Vec Ideal S1024x128 .f32)
    (hv38 : Rd v38 fun r d => H.q (t0 + r) d) (hv482 : Rd (φ := .f32) v482 f) (hz : Rd (k0_pay57 v287 v395 v415 v416 v417 v423 v429 v435 v441 v446 v447 v449) fun r s => H.dz (t0 + r) (off + s)) :
    Rd (k0_pay59 v38 v287 v395 v415 v416 v417 v423 v429 v435 v441 v446 v447 v449 v482) fun s d => f s d + ∑ r ∈ range 512, H.dz (t0 + r) (off + s) * H.q (t0 + r) d := by
  intro s d
  pointwise [k0_pay59]
  simp only [hz _ _, hv38 _ _, hv482 _ _, ← EReal.coe_mul]
  rw [sum_coe fun r => H.dz (t0 + r) (off + s) * H.q (t0 + r) d, ← EReal.coe_add]

/-- The gradient of the values so far. -/
theorem pay60_at (f : ℕ → ℕ → ℝ) (v489 : Vec Ideal S1024x128 .f32)
    (hv489 : Rd (φ := .f32) v489 f) :
    Rd (k0_pay60 v489) f := by
  intro r c
  pointwise [k0_pay60]
  exact hv489 _ _

/-- The attention weights once more. -/
theorem pay61_at (v393 : FVec Ideal S512x1024 .f32)
    (hv393 : Rd v393 fun r s => H.w (t0 + r) (off + s)) :
    Rd (k0_pay61 v393) fun r s => H.w (t0 + r) (off + s) := by
  intro r c
  pointwise [k0_pay61]
  exact hv393 _ _

/-- The step's addition to the gradient of the values. -/
theorem pay1_at (f : ℕ → ℕ → ℝ) (v34 : FVec Ideal S512x128 .bf16) (v490 : FVec Ideal S1024x128 .f32) (v491 : FVec Ideal S512x1024 .bf16)
    (hv34 : Rd v34 fun r d => H.e (t0 + r) d) (hv490 : Rd v490 f) (hv491 : Rd v491 fun r s => H.w (t0 + r) (off + s)) :
    Rd (k0_pay1 v34 v490 v491 (constant S1024x128 .f32 0x00000000#32)) fun s d => f s d + ∑ r ∈ range 512, H.w (t0 + r) (off + s) * H.e (t0 + r) d := by
  intro s d
  pointwise [k0_pay1]
  simp only [hv491 _ _, hv34 _ _, hv490 _ _, ← EReal.coe_mul]
  rw [sum_coe fun r => H.w (t0 + r) (off + s) * H.e (t0 + r) d, ← EReal.coe_add]

end Cert.KernelIdeal.Pay
-- ==== Proof.Step.lean ====
/-
  One step of the kernel's body at each of its three widths: from the blocks it loads to the weights, the gradients of
  the scores and what it adds to the results, as the real numbers the head defines.
-/
module

public import proofs.«01_k».proof.Proof.PayHalf
public import proofs.«01_k».proof.Proof.PayFull
public import proofs.«01_k».proof.Proof.PayLoop

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)

/-- The half-width diagonal step: the keys, the weights and the gradients of the scores. -/
theorem half_step (H : Head) (t0 off J : ℕ) (hJ : J < 8) (ho : off = 1024 * J) (ht : t0 < 8192)
    (v34 v38 : FVec Ideal S512x128 .bf16) (v42 v43 : IVec S512x1024 32) (v44 : IVec S512x128 32) (v132 v220 : FVec Ideal S256x256 .bf16) (v248 : BitVec 32)
    (K V : Vec Ideal S512x128 .f32) (cr run : Vec Ideal S512x128 .f32)
    (he : Rd v34 fun r d => H.e (t0 + r) d) (hq : Rd v38 fun r d => H.q (t0 + r) d)
    (h42 : Wd v42 fun r _ => t0 + r) (h43 : Wd v43 fun _ s => s) (h44 : Wd v44 fun _ c => c)
    (hT : Tri v132 fun a b => decide (b < a)) (hU : Tri v220 fun a b => decide (a < b)) (h248 : v248 = BitVec.ofNat 32 J)
    (hk : Rd (φ := .f32) K fun s d => H.k (off + s) d) (hv : Rd (φ := .f32) V fun s d => H.v (off + s) d)
    (hc : Rd (φ := .f32) cr fun r n => H.car (t0 + r) n) (hb : Rd (φ := .f32) run fun r _ => H.bef (t0 + r) off)
    (r_6 : FVec Ideal S512x128 .bf16)
    (r_7 : FVec Ideal S512x128 .bf16)
    (r_8 : IVec S512x512 1)
    (r_9 : FVec Ideal S512x512 .f32)
    (r_10 : FVec Ideal S512x128 .f32)
    (r_11 : FVec Ideal S512x128 .f32)
    (r_12 : FVec Ideal S512x128 .f32)
    (r_13 : FVec Ideal S512x128 .f32)
    (r_14 : FVec Ideal S512x128 .f32)
    (r_15 : FVec Ideal S512x128 .f32)
    (r_16 : FVec Ideal S512x512 .f32)
    (r_17 : FVec Ideal S512x512 .f32)
    (r_18 : FVec Ideal S512x256 .f32)
    (r_19 : FVec Ideal S512x512 .bf16)
    (e19 : r_19 = k0_pay136 v220 r_8 r_9 r_17 run r_18)
    (e18 : r_18 = k0_pay131 v34 v44 v248 r_7 r_8 r_9 r_10 r_11 r_12 r_13 r_14 r_15)
    (e17 : r_17 = k0_pay130 v34 v44 v248 r_7 r_8 r_9 r_10 r_11 r_12 r_13 r_14 r_15)
    (e16 : r_16 = k0_pay129 v44 v248 r_8 r_9 r_10 r_11 r_12 r_13 r_14 r_15)
    (e15 : r_15 = k0_pay128 v44 v248 cr)
    (e14 : r_14 = k0_pay127 v38 v42 v43 v132 v248 K)
    (e13 : r_13 = k0_pay126 v38 v42 v43 v132 v248 K)
    (e12 : r_12 = k0_pay124 v38 v42 v43 v132 v248 K)
    (e11 : r_11 = k0_pay123 v38 v42 v43 v132 v248 K)
    (e10 : r_10 = k0_pay121 cr)
    (e9 : r_9 = k0_pay119 v38 K)
    (e8 : r_8 = k0_pay117 v42 v43 v248)
    (e7 : r_7 = k0_pay116 V)
    (e6 : r_6 = k0_pay115 K) :
    (Rd r_6 fun s d => H.k (off + s) d) ∧ (Rd r_16 fun r s => H.w (t0 + r) (off + s)) ∧
      (Rd r_19 fun r s => H.dz (t0 + r) (off + s)) := by
  have h6 : Rd r_6 fun s d => H.k (off + s) d := by rw [e6]; exact hk
  have h7 : Rd r_7 fun s d => H.v (off + s) d := by rw [e7]; exact hv
  have h8 := pay117_at t0 off _ _ _ J hJ ht h42 h43 h248 ho
  rw [← e8] at h8
  have h9 := pay119_at H t0 off _ _ hq hk
  rw [← e9] at h9
  have h10 : Rd r_10 fun r n => H.car (t0 + r) n := by rw [e10]; unfold k0_pay121; pointwise; exact hc
  have hl := pay120_at H t0 off _ _ _ _ _ hq hk (e8▸h8)
  have h11 := pay123_at H t0 off _ _ _ _ _ _ hl hT
  rw [← e11] at h11
  have h12 := pay124_at H t0 off _ _ _ _ _ _ hl hT
  rw [← e12] at h12
  have h13 := pay126_at H t0 off _ _ _ _ _ _ hl hT
  rw [← e13] at h13
  have h14 := pay127_at H t0 off _ _ _ _ _ _ hl hT
  rw [← e14] at h14
  have h15 := pay128_at H t0 _ _ _ J hJ h44 h248 hc
  rw [← e15] at h15
  have h16 := pay129_at H t0 off _ _ _ _ _ _ _ _ _ _ J hJ ho h44 h248 h8 h9 h10 h11 h12 h13 h14 h15
  rw [← e16] at h16
  have h17 := pay130_at H t0 off _ _ _ _ _ _ _ _ _ _ _ _ he h7 (e16▸h16)
  rw [← e17] at h17
  have h18 : Rd r_18 fun r s => H.gw (t0 + r) (off + s) := by
    rw [e18]; intro r s; pointwise [k0_pay131]; rw [e17] at h17; exact h17 _ _
  have h19 := pay136_at H t0 off _ _ h17 hb _ _ _ _ hU h18 h8 h9
  rw [← e19] at h19
  exact ⟨h6, h16, h19⟩

/-- The full-width diagonal step: the keys, the weights and the gradients of the scores. -/
theorem full_step (H : Head) (t0 off J : ℕ) (hJ : J < 8) (ho : off = 1024 * J) (ht : t0 < 8192)
    (v34 v38 : FVec Ideal S512x128 .bf16) (v42 v43 : IVec S512x1024 32) (v44 : IVec S512x128 32) (v132 v220 : FVec Ideal S256x256 .bf16) (v248 : BitVec 32)
    (K V : Vec Ideal S1024x128 .f32) (cr run : Vec Ideal S512x128 .f32)
    (he : Rd v34 fun r d => H.e (t0 + r) d) (hq : Rd v38 fun r d => H.q (t0 + r) d)
    (h42 : Wd v42 fun r _ => t0 + r) (h43 : Wd v43 fun _ s => s) (h44 : Wd v44 fun _ c => c)
    (hT : Tri v132 fun a b => decide (b < a)) (hU : Tri v220 fun a b => decide (a < b)) (h248 : v248 = BitVec.ofNat 32 J)
    (hk : Rd (φ := .f32) K fun s d => H.k (off + s) d) (hv : Rd (φ := .f32) V fun s d => H.v (off + s) d)
    (hc : Rd (φ := .f32) cr fun r n => H.car (t0 + r) n) (hb : Rd (φ := .f32) run fun r _ => H.bef (t0 + r) off)
    (r_6 : FVec Ideal S1024x128 .bf16)
    (r_7 : FVec Ideal S1024x128 .bf16)
    (r_8 : IVec S512x1024 1)
    (r_9 : FVec Ideal S512x1024 .f32)
    (r_10 : FVec Ideal S512x128 .f32)
    (r_11 : FVec Ideal S512x128 .f32)
    (r_12 : FVec Ideal S512x128 .f32)
    (r_13 : FVec Ideal S512x128 .f32)
    (r_14 : FVec Ideal S512x128 .f32)
    (r_15 : FVec Ideal S512x128 .f32)
    (r_16 : FVec Ideal S512x128 .f32)
    (r_17 : FVec Ideal S512x256 .f32)
    (r_18 : FVec Ideal S512x128 .f32)
    (r_19 : FVec Ideal S512x128 .f32)
    (r_20 : FVec Ideal S512x128 .f32)
    (r_21 : FVec Ideal S512x128 .f32)
    (r_22 : FVec Ideal S512x128 .f32)
    (r_23 : FVec Ideal S512x128 .f32)
    (r_24 : FVec Ideal S512x1024 .f32)
    (r_25 : FVec Ideal S512x1024 .f32)
    (r_26 : FVec Ideal S512x128 .f32)
    (r_27 : FVec Ideal S512x128 .f32)
    (r_28 : FVec Ideal S512x128 .f32)
    (r_29 : FVec Ideal S512x128 .f32)
    (r_30 : FVec Ideal S512x128 .f32)
    (r_31 : FVec Ideal S512x128 .f32)
    (r_32 : FVec Ideal S512x128 .f32)
    (r_33 : FVec Ideal S512x128 .f32)
    (r_34 : FVec Ideal S512x128 .f32)
    (r_35 : FVec Ideal S512x128 .f32)
    (e35 : r_35 = k0_pay178 v34 r_7 r_24 (constant S512x1024 .f32 0x00000000#32))
    (e34 : r_34 = k0_pay177 v34 v220 r_7 r_24 (constant S512x1024 .f32 0x00000000#32) run)
    (e33 : r_33 = k0_pay176 v34 r_7 r_24 (constant S512x1024 .f32 0x00000000#32) run)
    (e32 : r_32 = k0_pay175 v34 v220 r_7 r_24 (constant S512x1024 .f32 0x00000000#32) run)
    (e31 : r_31 = k0_pay173 v34 v220 r_7 r_24 (constant S512x1024 .f32 0x00000000#32) run)
    (e30 : r_30 = k0_pay171 v34 v220 r_7 r_24 (constant S512x1024 .f32 0x00000000#32) run)
    (e29 : r_29 = k0_pay169 v34 v220 r_7 r_24 (constant S512x1024 .f32 0x00000000#32) run)
    (e28 : r_28 = k0_pay168 v34 v220 r_7 r_24 (constant S512x1024 .f32 0x00000000#32))
    (e27 : r_27 = k0_pay167 v34 v220 r_7 r_24 (constant S512x1024 .f32 0x00000000#32))
    (e26 : r_26 = k0_pay165 v34 v220 r_7 r_24 (constant S512x1024 .f32 0x00000000#32))
    (e25 : r_25 = k0_pay161 v34 r_7 r_24 (constant S512x1024 .f32 0x00000000#32))
    (e24 : r_24 = k0_pay160 v44 v248 r_8 r_9 r_10 r_15 r_16 r_18 r_19 r_20 r_21 r_22 r_23 (Scalar.muli v248 8#32) 4#32)
    (e23 : r_23 = k0_pay159 v44 v248 r_10 r_14)
    (e22 : r_22 = k0_pay158 v44 v248 r_10 r_13)
    (e21 : r_21 = k0_pay157 v44 v248 r_10 r_12)
    (e20 : r_20 = k0_pay156 v44 v248 r_10 r_11)
    (e19 : r_19 = k0_pay155 r_17)
    (e18 : r_18 = k0_pay154 v38 v42 v43 v132 v248 K)
    (e17 : r_17 = k0_pay153 v38 v42 v43 v132 v248 K)
    (e16 : r_16 = k0_pay152 v38 v42 v43 v132 v248 K)
    (e15 : r_15 = k0_pay151 v38 v42 v43 v132 v248 K)
    (e14 : r_14 = k0_pay149 v38 v42 v43 v132 v248 K)
    (e13 : r_13 = k0_pay148 v38 v42 v43 v132 v248 K)
    (e12 : r_12 = k0_pay146 v38 v42 v43 v132 v248 K)
    (e11 : r_11 = k0_pay145 v38 v42 v43 v132 v248 K)
    (e10 : r_10 = k0_pay143 cr)
    (e9 : r_9 = k0_pay141 v38 K)
    (e8 : r_8 = k0_pay139 v42 v43 v248)
    (e7 : r_7 = k0_pay138 V)
    (e6 : r_6 = k0_pay137 K) :
    (Rd r_6 fun s d => H.k (off + s) d) ∧ (Rd r_24 fun r s => H.w (t0 + r) (off + s)) ∧
      (Rd (k0_pay183 r_8 r_9 r_25 r_26 r_27 r_28 r_29 r_30 r_31 r_32 r_33 r_34 r_35) fun r s => H.dz (t0 + r) (off + s)) := by
  have h6 : Rd r_6 fun s d => H.k (off + s) d := by rw [e6]; exact hk
  have h7 : Rd r_7 fun s d => H.v (off + s) d := by rw [e7]; exact hv
  have h8 := pay139_at t0 off _ _ _ J hJ ht h42 h43 h248 ho
  rw [← e8] at h8
  have h9 := pay141_at H t0 off _ _ hq hk
  rw [← e9] at h9
  have h10 := pay143_at H t0 _ hc
  rw [← e10] at h10
  have hl := pay142_at H t0 off _ _ _ _ _ hq hk (e8▸h8)
  have h11 := pay145_at H t0 off _ _ _ _ _ _ hT hl
  rw [← e11] at h11
  have h12 := pay146_at H t0 off _ _ _ _ _ _ hT hl
  rw [← e12] at h12
  have h13 := pay148_at H t0 off _ _ _ _ _ _ hT hl
  rw [← e13] at h13
  have h14 := pay149_at H t0 off _ _ _ _ _ _ hT hl
  rw [← e14] at h14
  have h15 := pay151_at H t0 off _ _ _ _ _ _ hT hl
  rw [← e15] at h15
  have h16 := pay152_at H t0 off _ _ _ _ _ _ hT hl
  rw [← e16] at h16
  have h17 := pay153_at H t0 off _ _ _ _ _ _ hT hl
  rw [← e17] at h17
  have h18 := pay154_at H t0 off _ _ _ _ _ _ hT hl
  rw [← e18] at h18
  have h19 := pay155_at H t0 off _ h17
  rw [← e19] at h19
  have h20 := pay156_at H t0 off _ _ _ _ J hJ ho h44 h248 h10 h11
  rw [← e20] at h20
  have h21 := pay157_at H t0 off _ _ _ _ J hJ ho h44 h248 h10 h12
  rw [← e21] at h21
  have h22 := pay158_at H t0 off _ _ _ _ J hJ ho h44 h248 h10 h13
  rw [← e22] at h22
  have h23 := pay159_at H t0 off _ _ _ _ J hJ ho h44 h248 h10 h14
  rw [← e23] at h23
  have h24 := pay160_at H t0 off _ _ _ _ _ _ _ _ _ _ _ _ _ J hJ ho h44 h248 h8 h9 h10 h15 h16 h18 h19 h20 h21 h22 h23
  rw [← e24] at h24
  have h25 := pay161_at H t0 off _ _ _ he h7 h24
  rw [← e25] at h25
  have h26 := pay165_at H t0 off _ _ _ _ hU (e25▸h25)
  rw [← e26] at h26
  have h27 := pay167_at H t0 off _ _ _ _ hU (e25▸h25)
  rw [← e27] at h27
  have h28 := pay168_at H t0 off _ _ _ _ hU (e25▸h25)
  rw [← e28] at h28
  have h29 := pay169_at H t0 off _ _ _ _ _ hU hb (e25▸h25)
  rw [← e29] at h29
  have h30 := pay171_at H t0 off _ _ _ _ _ hU hb (e25▸h25)
  rw [← e30] at h30
  have h31 := pay173_at H t0 off _ _ _ _ _ hU hb (e25▸h25)
  rw [← e31] at h31
  have h32 := pay175_at H t0 off _ _ _ _ _ hU hb (e25▸h25)
  rw [← e32] at h32
  have h33 := pay176_at H t0 off _ _ _ _ hb (e25▸h25)
  rw [← e33] at h33
  have h34 := pay177_at H t0 off _ _ _ _ _ hU hb (e25▸h25)
  rw [← e34] at h34
  have h35 := pay178_at H t0 off _ _ _ (e25▸h25)
  rw [← e35] at h35
  have hz := pay183_at H t0 off _ _ _ _ _ _ _ _ _ _ _ _ _ h8 h9 h25 h26 h27 h28 h29 h30 h31 h32 h33 h34 h35
  exact ⟨h6, h24, hz⟩

/-- One step of the loop: the keys, the weights, the gradients of the scores and the next running sum. -/
theorem trip_step (H : Head) (t0 off J : ℕ) (hJ : J < 8) (ho : off = 1024 * J) (hca : off + 1024 ≤ t0)
    (v34 v38 : FVec Ideal S512x128 .bf16)  (v44 : IVec S512x128 32) (v132 v220 : FVec Ideal S256x256 .bf16) (v248 : BitVec 32)
    (K V : Vec Ideal S1024x128 .f32) (cr run : Vec Ideal S512x128 .f32)
    (he : Rd v34 fun r d => H.e (t0 + r) d) (hq : Rd v38 fun r d => H.q (t0 + r) d)
     (h44 : Wd v44 fun _ c => c)
    (hT : Tri v132 fun a b => decide (b < a)) (hU : Tri v220 fun a b => decide (a < b)) (h248 : v248 = BitVec.ofNat 32 J)
    (hk : Rd (φ := .f32) K fun s d => H.k (off + s) d) (hv : Rd (φ := .f32) V fun s d => H.v (off + s) d)
    (hc : Rd (φ := .f32) cr fun r n => H.car (t0 + r) n) (hb : Rd (φ := .f32) run fun r _ => H.bef (t0 + r) off)
    (r : FVec Ideal S1024x128 .bf16)
    (r_1 : FVec Ideal S1024x128 .bf16)
    (r_2 : FVec Ideal S512x1024 .f32)
    (r_3 : FVec Ideal S512x128 .f32)
    (r_4 : FVec Ideal S512x128 .f32)
    (r_5 : FVec Ideal S512x128 .f32)
    (r_6 : FVec Ideal S512x128 .f32)
    (r_7 : FVec Ideal S512x128 .f32)
    (r_8 : FVec Ideal S512x128 .f32)
    (r_9 : FVec Ideal S512x128 .f32)
    (r_10 : FVec Ideal S512x128 .f32)
    (r_11 : FVec Ideal S512x128 .f32)
    (r_12 : FVec Ideal S512x128 .f32)
    (r_13 : FVec Ideal S512x128 .f32)
    (r_14 : FVec Ideal S512x128 .f32)
    (r_15 : FVec Ideal S512x128 .f32)
    (r_17 : FVec Ideal S512x1024 .f32)
    (r_18 : FVec Ideal S512x1024 .f32)
    (r_20 : FVec Ideal S512x256 .bf16)
    (r_21 : FVec Ideal S512x128 .f32)
    (r_22 : FVec Ideal S512x128 .f32)
    (r_23 : FVec Ideal S512x128 .f32)
    (r_24 : FVec Ideal S512x128 .f32)
    (r_25 : FVec Ideal S512x128 .f32)
    (r_26 : FVec Ideal S512x128 .f32)
    (r_27 : FVec Ideal S512x128 .f32)
    (r_28 : FVec Ideal S512x128 .f32)
    (r_29 : FVec Ideal S512x128 .f32)
    (r_30 : FVec Ideal S512 .f32)
    (e30 : r_30 = k0_pay53 r_18)
    (e29 : r_29 = k0_pay52 v220 r_18 run)
    (e28 : r_28 = k0_pay51 r_18 run)
    (e27 : r_27 = k0_pay50 v220 r_18 run)
    (e26 : r_26 = k0_pay48 v220 r_18 run)
    (e25 : r_25 = k0_pay46 v220 r_18 run)
    (e24 : r_24 = k0_pay44 v220 r_18 run r_20 (constant S512x256 .f32 0x00000000#32))
    (e23 : r_23 = k0_pay42 v220 run r_20 (constant S512x256 .f32 0x00000000#32))
    (e22 : r_22 = k0_pay41 v220 r_18)
    (e21 : r_21 = k0_pay40 v220 r_18)
    (e20 : r_20 = k0_pay35 v34 v44 v248 r_1 r_2 r_3 r_8 r_9 r_10 r_11 r_12 r_13 r_14 r_15 (k0_pay31 v44 v248) k0_pay32)
    (e18 : r_18 = k0_pay34 v34 v44 v248 r_1 r_2 r_3 r_8 r_9 r_10 r_11 r_12 r_13 r_14 r_15 (k0_pay31 v44 v248) k0_pay32)
    (e17 : r_17 = k0_pay33 v44 v248 r_2 r_3 r_8 r_9 r_10 r_11 r_12 r_13 r_14 r_15 (k0_pay31 v44 v248) k0_pay32)
    (e15 : r_15 = k0_pay30 v44 v248 r_3 r_7)
    (e14 : r_14 = k0_pay29 v44 v248 r_3 r_6)
    (e13 : r_13 = k0_pay28 v44 v248 r_3 r_5)
    (e12 : r_12 = k0_pay27 v44 r_3 r_4 (Scalar.addi (Scalar.muli v248 8#32) 0#32))
    (e11 : r_11 = k0_pay26 v38 v132 K)
    (e10 : r_10 = k0_pay25 v38 v132 K)
    (e9 : r_9 = k0_pay23 v38 v132 K)
    (e8 : r_8 = k0_pay22 v38 v132 K)
    (e7 : r_7 = k0_pay20 v38 v132 K)
    (e6 : r_6 = k0_pay19 v38 v132 K)
    (e5 : r_5 = k0_pay17 v38 v132 K)
    (e4 : r_4 = k0_pay16 v38 v132 K)
    (e3 : r_3 = k0_pay14 cr)
    (e2 : r_2 = k0_pay12 v38 K)
    (e1 : r_1 = k0_pay10 V)
    (er : r = k0_pay9 K) :
    (Rd r fun s d => H.k (off + s) d) ∧ (Rd r_17 fun r s => H.w (t0 + r) (off + s)) ∧
      (Rd (k0_pay57 r_2 r_18 r_21 r_22 r_23 r_24 r_25 r_26 r_27 r_28 r_29 r_30) fun r s => H.dz (t0 + r) (off + s)) ∧
      (Rd (k0_pay56 r_18 r_28 r_30) fun r _ => H.bef (t0 + r) (off + 1024)) := by
  have hr : Rd r fun s d => H.k (off + s) d := by rw [er]; exact hk
  have h1 : Rd r_1 fun s d => H.v (off + s) d := by rw [e1]; exact hv
  have h2 := pay12_at H t0 off _ _ hq hk
  rw [← e2] at h2
  have h3 := pay14_at H t0 _ hc
  rw [← e3] at h3
  have hl := pay13_at H t0 off _ _ hq hk hca
  have h4 := pay16_at H t0 off _ _ _ hT hl
  rw [← e4] at h4
  have h5 := pay17_at H t0 off _ _ _ hT hl
  rw [← e5] at h5
  have h6 := pay19_at H t0 off _ _ _ hT hl
  rw [← e6] at h6
  have h7 := pay20_at H t0 off _ _ _ hT hl
  rw [← e7] at h7
  have h8 := pay22_at H t0 off _ _ _ hT hl
  rw [← e8] at h8
  have h9 := pay23_at H t0 off _ _ _ hT hl
  rw [← e9] at h9
  have h10 := pay25_at H t0 off _ _ _ hT hl
  rw [← e10] at h10
  have h11 := pay26_at H t0 off _ _ _ hT hl
  rw [← e11] at h11
  have h12 := pay27_at H t0 off _ _ _ J hJ ho h44 h3 h4 _ J hJ ho h248
  rw [← e12] at h12
  have h13 := pay28_at H t0 off _ _ _ _ J hJ ho h44 h248 h3 h5
  rw [← e13] at h13
  have h14 := pay29_at H t0 off _ _ _ _ J hJ ho h44 h248 h3 h6
  rw [← e14] at h14
  have h15 := pay30_at H t0 off _ _ _ _ J hJ ho h44 h248 h3 h7
  rw [← e15] at h15
  have h17 := pay33_at H t0 off _ _ _ _ _ _ _ _ _ _ _ _ J hJ ho h44 h248 h2 h3 h8 h9 h10 h11 h12 h13 h14 h15 hca
  rw [← e17] at h17
  have h18 := pay34_at H t0 off _ _ _ _ _ _ _ _ _ _ _ _ _ _ he h1 (e17▸h17)
  rw [← e18] at h18
  have h20 := pay35_at H t0 off _ _ _ _ _ _ _ _ _ _ _ _ _ _ (e18▸h18)
  rw [← e20] at h20
  have h21 := pay40_at H t0 off _ _ hU h18
  rw [← e21] at h21
  have h22 := pay41_at H t0 off _ _ hU h18
  rw [← e22] at h22
  have h23 := pay42_at H t0 off _ _ _ hU hb h20
  rw [← e23] at h23
  have h24 := pay44_at H t0 off _ _ _ _ hU h18 hb h20
  rw [← e24] at h24
  have h25 := pay46_at H t0 off _ _ _ hU h18 hb
  rw [← e25] at h25
  have h26 := pay48_at H t0 off _ _ _ hU h18 hb
  rw [← e26] at h26
  have h27 := pay50_at H t0 off _ _ _ hU h18 hb
  rw [← e27] at h27
  have h28 := pay51_at H t0 off _ _ h18 hb
  rw [← e28] at h28
  have h29 := pay52_at H t0 off _ _ _ hU h18 hb
  rw [← e29] at h29
  have h30 := pay53_at H t0 off _ h18
  rw [← e30] at h30
  have hz := pay57_at H t0 off _ _ _ _ _ _ _ _ _ _ _ _ h2 h18 h21 h22 h23 h24 h25 h26 h27 h28 h29 h30 hca
  have hn := pay56_at H t0 off _ _ _ h18 h28 h30
  exact ⟨hr, h17, hz, hn⟩

end Cert.KernelIdeal.Pay
-- ==== Proof.Rows.lean ====
/-
  What the body's loads and stores of rows read and leave, as real arrays; and the offsets of the blocks of keys.
-/
module

public import Idealize.ShloMosaic.Lib.VecWindow
public import proofs.«01_k».proof.Proof.PayCommon

@[expose] public section

set_option maxRecDepth 16384
noncomputable section
namespace Cert.Head.Head
open Finset (range)
variable (H : Head)

/-- The gradient of the queries over the first `n` keys. -/
def dqs (n t d : ℕ) : ℝ := ∑ s ∈ range n, H.dz t s * H.k s d
/-- What the block of 512 queries from `t0` adds to the gradient of the keys. -/
def dkb (t0 s d : ℕ) : ℝ := ∑ r ∈ range 512, H.dz (t0 + r) s * H.q (t0 + r) d
/-- What the block of 512 queries from `t0` adds to the gradient of the values. -/
def dvb (t0 s d : ℕ) : ℝ := ∑ r ∈ range 512, H.w (t0 + r) s * H.e (t0 + r) d

theorem dqs_add (n m t d : ℕ) : H.dqs n t d + ∑ s ∈ range m, H.dz t (n + s) * H.k (n + s) d = H.dqs (n + m) t d := by
  unfold dqs; rw [Finset.sum_range_add]

theorem dqs_next (n t d : ℕ) :
    H.dqs (1024 * n) t d + ∑ s ∈ range 1024, H.dz t (1024 * n + s) * H.k (1024 * n + s) d = H.dqs (1024 * (n + 1)) t d := by
  rw [dqs_add]; rfl
end Cert.Head.Head

namespace Cert.KernelIdeal.Pay
open Cert.KernelIdeal Cert.KernelIdeal.Gen Cert.Head
open Idealize.ShloMosaic Idealize.ShloMosaic.TcCoe Idealize.ShloMosaic.Tactic
open Finset (range)

section Rows
variable {sig : RefSig} {κ : Kind} {sp : Space} {N W : ℕ}

/-- A load of everything. -/
theorem rd_full (v : View sig κ sp ⟨2, ![N, 128]⟩ .f32) (f : v.ty.Contents (Elt Ideal)) (g : ℕ → ℕ → ℝ)
    (h : Rd (φ := .f32) (v.read (Elt Ideal) f) g) {off : Fin 2 → ℕ} (inb : ∀ a, off a + (![N, 128] : Fin 2 → ℕ) a ≤ (![N, 128] : Fin 2 → ℕ) a) :
    Rd (n := N) (m := 128) (φ := .f32) (v.readAt (Elt Ideal) (Rect.unit (s := ⟨2, ![N, 128]⟩) off ![N, 128] inb).toLoadRect f) g := by
  have := View.readAt_full (Val := Elt Ideal) v f inb
  intro r s
  exact (congrFun this (ix2 r s)).trans (h r s)

/-- A load of `W` rows from row `o`. -/
theorem rd_rows (v : View sig κ sp ⟨2, ![N, 128]⟩ .f32) (f : v.ty.Contents (Elt Ideal)) (g : ℕ → ℕ → ℝ)
    (h : Rd (φ := .f32) (v.read (Elt Ideal) f) g) {off : Fin 2 → ℕ} {o : ℕ} (hoff : off = ![o, 0])
    (inb : ∀ a, off a + (![W, 128] : Fin 2 → ℕ) a ≤ (![N, 128] : Fin 2 → ℕ) a) :
    Rd (n := W) (m := 128) (φ := .f32) (v.readAt (Elt Ideal) (Rect.unit (s := ⟨2, ![N, 128]⟩) off ![W, 128] inb).toLoadRect f)
      fun r d => g (o + r) d := by
  subst hoff
  intro r s
  have hb : o + W ≤ N := inb 0
  have hr := r.isLt
  have := h ⟨o + r.val, by omega⟩ s
  refine Eq.trans ?_ this
  refine congrArg (v.read (Elt Ideal) f) (funext fun a => Fin.ext ?_)
  match a with
  | ⟨0, _⟩ => show o + 1 * r.val = o + r.val; omega
  | ⟨1, _⟩ => show 0 + 1 * s.val = s.val; omega

/-- A store of `W` rows from row `o`, over what a list of stores left. -/
theorem rd_put (v : View sig κ sp ⟨2, ![N, 128]⟩ .f32) (f : v.ty.Contents (Elt Ideal)) (g : ℕ → ℕ → ℝ)
    {L : List (View.Piece (Elt Ideal) ⟨2, ![N, 128]⟩ .f32)}
    (h : Rd (φ := .f32) (v.read (Elt Ideal) (v.writes (Elt Ideal) f L)) g) {off : Fin 2 → ℕ} {o : ℕ} (hoff : off = ![o, 0])
    (inb : ∀ a, off a + (![W, 128] : Fin 2 → ℕ) a ≤ (![N, 128] : Fin 2 → ℕ) a) {p : ℕ → ℕ → ℝ}
    {w : (Rect.unit (s := ⟨2, ![N, 128]⟩) off ![W, 128] inb).shape.Idx → Elt Ideal .f32} (hw : Rd (n := W) (m := 128) (φ := .f32) w p) :
    Rd (φ := .f32) (v.read (Elt Ideal) (v.writes (Elt Ideal) f (⟨Rect.unit (s := ⟨2, ![N, 128]⟩) off ![W, 128] inb, w⟩ :: L)))
      fun r d => if o ≤ r ∧ r < o + W then p (r - o) d else g r d := by
  intro r s
  dsimp only
  by_cases a : o ≤ r.val ∧ r.val < o + W
  · rw [if_pos a, ← hw ⟨r.val - o, by omega⟩ s]
    exact View.read_writes_cons_rows_of_mem v f inb w L (ix2 r s) (ix2 ⟨r.val - o, by omega⟩ s) hoff
      (by show r.val = o + (r.val - o); omega) rfl
  · rw [if_neg a, ← h r s]
    exact View.read_writes_cons_rows_of_not_mem v f inb w L (ix2 r s) hoff (W := W) rfl (by show r.val < o ∨ o + W ≤ r.val; omega)
end Rows

/-- A block added to the rows of the block's own keys. -/
theorem rd_add {N : ℕ} {x : FVec Ideal ⟨2, ![N, 128]⟩ .f32} {o W : ℕ} {g b : ℕ → ℕ → ℝ}
    (h : Rd x fun r d => if o ≤ r ∧ r < o + W then (g (o + (r - o)) d + if o + (r - o) < o then b (o + (r - o)) d else 0) + b (o + (r - o)) d
      else g r d + if r < o then b r d else 0) :
    Rd x fun r d => g r d + if r < o + W then b r d else 0 := by
  intro r s
  rw [h r s]; congr 1; dsimp only
  by_cases a : o ≤ r.val ∧ r.val < o + W
  · rw [if_pos a, show o + (r.val - o) = r.val by omega, if_neg (by omega), if_pos (by omega), add_zero]
  · rw [if_neg a]
    by_cases a' : r.val < o
    · rw [if_pos a', if_pos (by omega)]
    · rw [if_neg a', if_neg (by omega)]

/-- The loop's counter. -/
theorem iv_eq (k : ℕ) (hk : k < 8) : Scf.iv 0#32 1#32 k = BitVec.ofNat 32 k := by
  unfold Scf.iv; simp

/-- A trip's block of keys begins at row `1024 * k`. -/
theorem off1_eq (i : grid0.Coords) (k : Fin (k0_t1_loop i).trips) (hk : k.val < 8) : k0_off1 i k = ![1024 * k.val, 0] := by
  unfold k0_off1
  dsimp only
  generalize k.val = n at hk
  revert hk; revert n
  decide +kernel

/-- The number of trips. -/
theorem trips1_eq (i : grid0.Coords) : (k0_t1_loop i).trips = (i 1).val / 2 := by
  have h := (i 1).isLt
  unfold k0_t1_loop
  dsimp only [Scf.Loop.trips]
  generalize (i 1).val = n at h
  have h : n < 16 := h
  revert h n
  decide +kernel

end Cert.KernelIdeal.Pay
-- ==== Proof.Loop.lean ====
/-
  The loop of the kernel's body over the blocks of 1024 keys before the diagonal: what each trip leaves in the running
  sum and the three gradients it accumulates, and by induction what the whole loop leaves.
-/
module

public import proofs.«01_k».proof.Proof.Gen.KernelIdeal.Loops
public import proofs.«01_k».proof.Proof.Step
public import proofs.«01_k».proof.Proof.Rows

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)

variable (𝒱 : Variants) (c : Dev nD) (bd : Option 𝒱.V) (i : grid0.Coords) (arg2 : Memref sig .tc .vmem S512x128 .f32)
  (harg2 : arg2.IsWhole) (arg3 : Memref sig .tc .vmem S8192x128 .f32) (harg3 : arg3.IsWhole)
  (arg4 : Memref sig .tc .vmem S8192x128 .f32) (harg4 : arg4.IsWhole) (arg5 : Memref sig .tc .vmem S512x128 .f32)
  (harg5 : arg5.IsWhole) (arg6 : Memref sig .tc .vmem S512x128 .f32) (harg6 : arg6.IsWhole)
  (arg7 : Memref sig .tc .vmem S512x128 .f32) (harg7 : arg7.IsWhole)
  (arg8 : Memref sig .tc .vmem S1x512x128 .f32) (harg8 : arg8.IsWhole)
  (arg9 : Memref sig .tc .vmem S512x128 .f32) (harg9 : arg9.IsWhole)
  (arg10 : Memref sig .tc .vmem S8192x128 .f32) (harg10 : arg10.IsWhole)
  (arg11 : Memref sig .tc .vmem S8192x128 .f32) (harg11 : arg11.IsWhole)
  (arg12 : Memref sig .tc .vmem S512x128 .bf16) (harg12 : arg12.IsWhole)
  (arg13 : Memref sig .tc .vmem S512x128 .f32) (harg13 : arg13.IsWhole)

/-- What the four accumulating buffers hold after `n` trips: the gradient of the queries, of the keys and of the values
    over the keys met so far, and the running sum. -/
def Inv (H : Head) (t0 n : ℕ) (dk dv : ℕ → ℕ → ℝ) (f9 : BufTy.Contents (Elt Ideal) arg9.view.ty)
    (f10 : BufTy.Contents (Elt Ideal) arg10.view.ty) (f11 : BufTy.Contents (Elt Ideal) arg11.view.ty)
    (f13 : BufTy.Contents (Elt Ideal) arg13.view.ty) : Prop :=
  (Rd (φ := .f32) (arg9.view.read (Elt Ideal) f9) fun r d => H.dqs (1024 * n) (t0 + r) d) ∧
  (Rd (φ := .f32) (arg10.view.read (Elt Ideal) f10) fun s d => dk s d + if s < 1024 * n then H.dkb t0 s d else 0) ∧
  (Rd (φ := .f32) (arg11.view.read (Elt Ideal) f11) fun s d => dv s d + if s < 1024 * n then H.dvb t0 s d else 0) ∧
  (Rd (φ := .f32) (arg13.view.read (Elt Ideal) f13) fun r _ => H.bef (t0 + r) (1024 * n))

variable (v34 v38 : FVec Ideal S512x128 .bf16) (v44 : IVec S512x128 32) (v132 v220 : FVec Ideal S256x256 .bf16)
  (X_arg3 : BufTy.Contents (Elt Ideal) arg3.view.ty) (X_arg4 : BufTy.Contents (Elt Ideal) arg4.view.ty)
  (X_arg7 : BufTy.Contents (Elt Ideal) arg7.view.ty)
  (H : Head) (t0 : ℕ) (dk dv : ℕ → ℕ → ℝ)
  (he : Rd v34 fun r d => H.e (t0 + r) d) (hq : Rd v38 fun r d => H.q (t0 + r) d) (h44 : Wd v44 fun _ c => c)
  (hT : Tri v132 fun a b => decide (b < a)) (hU : Tri v220 fun a b => decide (a < b))
  (hk : Rd (φ := .f32) (arg3.view.read (Elt Ideal) X_arg3) H.k) (hv : Rd (φ := .f32) (arg4.view.read (Elt Ideal) X_arg4) H.v)
  (hc : Rd (φ := .f32) (arg7.view.read (Elt Ideal) X_arg7) fun r n => H.car (t0 + r) n)
include he hq h44 hT hU hk hv hc
set_option maxHeartbeats 1000000

/-- One trip takes what the buffers hold after `k` trips to what they hold after the next. -/
theorem trip_inv (k : Fin (k0_t1_loop i).trips) (hk8 : k.val < 8) (hca : 1024 * k.val + 1024 ≤ t0)
    (f9 : BufTy.Contents (Elt Ideal) arg9.view.ty) (f10 : BufTy.Contents (Elt Ideal) arg10.view.ty)
    (f11 : BufTy.Contents (Elt Ideal) arg11.view.ty) (f13 : BufTy.Contents (Elt Ideal) arg13.view.ty)
    (hI : Inv arg9 arg10 arg11 arg13 H t0 k.val dk dv f9 f10 f11 f13) :
    Inv arg9 arg10 arg11 arg13 H t0 (k.val + 1) dk dv
      (arg9.view.writes (Elt Ideal) f9 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v34 v38 v44 v132 v220 0#32 X_arg3 X_arg4 X_arg7 k f9 f10 f11 f13).1)
      (arg10.view.writes (Elt Ideal) f10 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v34 v38 v44 v132 v220 0#32 X_arg3 X_arg4 X_arg7 k f9 f10 f11 f13).2.1)
      (arg11.view.writes (Elt Ideal) f11 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v34 v38 v44 v132 v220 0#32 X_arg3 X_arg4 X_arg7 k f9 f10 f11 f13).2.2.1)
      (arg13.view.writes (Elt Ideal) f13 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v34 v38 v44 v132 v220 0#32 X_arg3 X_arg4 X_arg7 k f9 f10 f11 f13).2.2.2) := by
  obtain ⟨h9, h10, h11, h13⟩ := hI
  have ho := off1_eq i k hk8
  have S := trip_step H t0 (1024 * k.val) k.val hk8 rfl hca v34 v38 v44 v132 v220 (Scf.iv 0#32 1#32 k.val) _ _ _ _ he hq h44 hT hU
    (iv_eq _ hk8) (rd_rows arg3.view _ _ hk ho _) (rd_rows arg4.view _ _ hv ho _) (rd_full arg7.view _ _ hc _) (rd_full arg13.view _ _ h13 _)
    (trip_k0_t1.sl.r (F := Ideal) i arg3 X_arg3 k)
    (trip_k0_t1.sl.r_1 (F := Ideal) i arg4 X_arg4 k)
    (trip_k0_t1.sl.r_2 (F := Ideal) i arg3 v38 X_arg3 k)
    (trip_k0_t1.sl.r_3 (F := Ideal) arg7 X_arg7)
    (trip_k0_t1.sl.r_4 (F := Ideal) i arg3 v38 v132 X_arg3 k)
    (trip_k0_t1.sl.r_5 (F := Ideal) i arg3 v38 v132 X_arg3 k)
    (trip_k0_t1.sl.r_6 (F := Ideal) i arg3 v38 v132 X_arg3 k)
    (trip_k0_t1.sl.r_7 (F := Ideal) i arg3 v38 v132 X_arg3 k)
    (trip_k0_t1.sl.r_8 (F := Ideal) i arg3 v38 v132 X_arg3 k)
    (trip_k0_t1.sl.r_9 (F := Ideal) i arg3 v38 v132 X_arg3 k)
    (trip_k0_t1.sl.r_10 (F := Ideal) i arg3 v38 v132 X_arg3 k)
    (trip_k0_t1.sl.r_11 (F := Ideal) i arg3 v38 v132 X_arg3 k)
    (trip_k0_t1.sl.r_12 (F := Ideal) i arg3 arg7 v38 v44 v132 0#32 X_arg3 X_arg7 k)
    (trip_k0_t1.sl.r_13 (F := Ideal) i arg3 arg7 v38 v44 v132 0#32 X_arg3 X_arg7 k)
    (trip_k0_t1.sl.r_14 (F := Ideal) i arg3 arg7 v38 v44 v132 0#32 X_arg3 X_arg7 k)
    (trip_k0_t1.sl.r_15 (F := Ideal) i arg3 arg7 v38 v44 v132 0#32 X_arg3 X_arg7 k)
    (trip_k0_t1.sl.r_17 (F := Ideal) i arg3 arg7 v38 v44 v132 0#32 X_arg3 X_arg7 k)
    (trip_k0_t1.sl.r_18 (F := Ideal) i arg3 arg4 arg7 v34 v38 v44 v132 0#32 X_arg3 X_arg4 X_arg7 k)
    (trip_k0_t1.sl.r_20 (F := Ideal) i arg3 arg4 arg7 v34 v38 v44 v132 0#32 X_arg3 X_arg4 X_arg7 k)
    (trip_k0_t1.sl.r_21 (F := Ideal) i arg3 arg4 arg7 v34 v38 v44 v132 v220 0#32 X_arg3 X_arg4 X_arg7 k)
    (trip_k0_t1.sl.r_22 (F := Ideal) i arg3 arg4 arg7 v34 v38 v44 v132 v220 0#32 X_arg3 X_arg4 X_arg7 k)
    (trip_k0_t1.sl.r_23 (F := Ideal) i arg3 arg4 arg7 arg13 v34 v38 v44 v132 v220 0#32 X_arg3 X_arg4 X_arg7 k f13)
    (trip_k0_t1.sl.r_24 (F := Ideal) i arg3 arg4 arg7 arg13 v34 v38 v44 v132 v220 0#32 X_arg3 X_arg4 X_arg7 k f13)
    (trip_k0_t1.sl.r_25 (F := Ideal) i arg3 arg4 arg7 arg13 v34 v38 v44 v132 v220 0#32 X_arg3 X_arg4 X_arg7 k f13)
    (trip_k0_t1.sl.r_26 (F := Ideal) i arg3 arg4 arg7 arg13 v34 v38 v44 v132 v220 0#32 X_arg3 X_arg4 X_arg7 k f13)
    (trip_k0_t1.sl.r_27 (F := Ideal) i arg3 arg4 arg7 arg13 v34 v38 v44 v132 v220 0#32 X_arg3 X_arg4 X_arg7 k f13)
    (trip_k0_t1.sl.r_28 (F := Ideal) i arg3 arg4 arg7 arg13 v34 v38 v44 v132 0#32 X_arg3 X_arg4 X_arg7 k f13)
    (trip_k0_t1.sl.r_29 (F := Ideal) i arg3 arg4 arg7 arg13 v34 v38 v44 v132 v220 0#32 X_arg3 X_arg4 X_arg7 k f13)
    (trip_k0_t1.sl.r_30 (F := Ideal) i arg3 arg4 arg7 v34 v38 v44 v132 0#32 X_arg3 X_arg4 X_arg7 k)
    rfl rfl rfl rfl rfl rfl rfl rfl rfl rfl rfl rfl rfl rfl rfl rfl rfl rfl rfl rfl rfl rfl rfl rfl rfl rfl rfl rfl rfl
  unfold tripL_k0_t1 trip_k0_t1
  dsimp only
  refine ⟨?_, ?_, ?_, ?_⟩
  · rw [View.read_writes_full]
    exact fun r d => (pay58_at H t0 (1024 * k.val) _ _ _ _ _ _ _ _ _ _ _ _ _ _ _ S.1 (rd_full arg9.view _ _ h9 _) S.2.2.1 r d).trans
      (congrArg _ (H.dqs_next _ _ _))
  · exact rd_add (rd_put (L := []) arg10.view f10 _ h10 ho _ (pay59_at H t0 (1024 * k.val) _ _ _ _ _ _ _ _ _ _ _ _ _ _ _ hq (rd_rows arg10.view _ _ h10 ho _) S.2.2.1))
  · exact rd_add (rd_put (L := []) arg11.view f11 _ h11 ho _ (pay1_at H t0 (1024 * k.val) _ _ _ _ he (pay60_at _ _ (rd_rows arg11.view _ _ h11 ho _)) (pay61_at H t0 (1024 * k.val) _ S.2.1)))
  · rw [View.read_writes_full]
    exact S.2.2.2

/-- What the buffers hold after any number of trips, from what they hold before the loop. -/
theorem loop_inv (ht : t0 = 512 * (i 1).val) (G9 : BufTy.Contents (Elt Ideal) arg9.view.ty) (G10 : BufTy.Contents (Elt Ideal) arg10.view.ty)
    (G11 : BufTy.Contents (Elt Ideal) arg11.view.ty) (G13 : BufTy.Contents (Elt Ideal) arg13.view.ty)
    (h0 : Inv arg9 arg10 arg11 arg13 H t0 0 dk dv G9 G10 G11 G13) (n : ℕ) (hn : n ≤ (k0_t1_loop i).trips) :
    Inv arg9 arg10 arg11 arg13 H t0 n dk dv
      (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v34 v38 v44 v132 v220 0#32 X_arg3 X_arg4 X_arg7 G9 G10 G11 G13 n).1)
      (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v34 v38 v44 v132 v220 0#32 X_arg3 X_arg4 X_arg7 G9 G10 G11 G13 n).2.1)
      (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v34 v38 v44 v132 v220 0#32 X_arg3 X_arg4 X_arg7 G9 G10 G11 G13 n).2.2.1)
      (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v34 v38 v44 v132 v220 0#32 X_arg3 X_arg4 X_arg7 G9 G10 G11 G13 n).2.2.2) := by
  induction n with
  | zero => exact h0
  | succ n ih =>
    have h16 : (i 1).val < 16 := (i 1).isLt
    have htr := trips1_eq i
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 v34 v38 v44 v132 v220 0#32 X_arg3 X_arg4 X_arg7 G9 G10 G11 G13 ⟨n, hn⟩
    dsimp only at hs
    rw [hs, View.writes_append, View.writes_append, View.writes_append, View.writes_append]
    exact trip_inv (he := he) (hq := hq) (h44 := h44) (hT := hT) (hU := hU) (hk := hk) (hv := hv) (hc := hc) (k := ⟨n, hn⟩)
      (hk8 := by dsimp only; omega) (hca := by dsimp only; omega) (hI := ih (by omega)) ..

end Cert.KernelIdeal.Pay
-- ==== Proof.PayPre.lean ====
/-
  The values which the kernel's body computes before its steps: the scaled queries, the gradient of the attention's output,
  the gradient of the gate, the positions and the two triangles.
-/
module

public import proofs.«01_k».proof.Proof.Gen.KernelIdeal.Skeleton
public import proofs.«01_k».proof.Proof.PayCommon

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)
open Idealize.ShloMosaic.WordCmp (cmpi_eq_ofNat cmpi_slt_ofNat cmpi_sgt_ofNat)

/-- The kernel's logistic function. -/
def sg (x : ℝ) : ℝ := 1 / (1 + Real.exp (0 - x))

/-- The scale of the scores, as the programs spell it. -/
def sc : ℝ := ((0x3DB504F3#32 : BitVec 32) |> fun b => (Scalar.ofBits (F := Ideal) .f32 b : EReal)).toReal

/-- The logistic function at a real number. -/
theorem sg_coe (x : ℝ) : Ideal.div 1 (1 + Ideal.exp (0 - (x : EReal))) = ((sg x : ℝ) : EReal) := by
  have h : (1 + Real.exp (0 - x)) ≠ 0 := by have := Real.exp_pos (0 - x); linarith
  rw [← EReal.coe_zero, ← EReal.coe_sub, Ideal.exp_coe, ← EReal.coe_one, ← EReal.coe_add, Ideal.div_coe h, EReal.coe_one, one_mul]
  rfl

/-- The scale is a real number. -/
theorem sc_coe : (Scalar.ofBits (F := Ideal) .f32 0x3DB504F3#32 : EReal) = ((sc : ℝ) : EReal) := by
  have h : (Scalar.ofBits (F := Ideal) .f32 0x3DB504F3#32 : EReal) = ((11863283 * (2 : ℝ) ^ (-27 : ℤ) : ℝ) : EReal) := by
    show Ideal.ofBits .f32 0x3DB504F3#32 = _
    simp [Ideal.ofBits, Ideal.ieee, -EReal.coe_mul]
  unfold sc
  simp only [h, EReal.toReal_coe]

/-- The scaled queries. -/
theorem pay192_at (v : Vec Ideal S512x128 .f32) (f : ℕ → ℕ → ℝ) (hv : Rd (φ := .f32) v f) :
    Rd (k0_pay192 v) fun r d => f r d * sc := by
  intro r d
  pointwise [k0_pay192]
  rw [hv, EReal.coe_mul, ← sc_coe]
  rfl

/-- The gradient of the attention's output. -/
theorem pay191_at (v3 : Vec Ideal S512x128 .f32) (v4 : Vec Ideal S1x512x128 .f32) (g d : ℕ → ℕ → ℝ)
    (h3 : Rd (φ := .f32) v3 g) (h4 : ∀ (r : Fin 512) (s : Fin 128), v4 (ix3 (0 : Fin 1) r s) = ((d r s : ℝ) : EReal)) :
    Rd (k0_pay191 v3 v4) fun r s => d r s * (g r s * sg (g r s)) := by
  intro r s
  pointwise [k0_pay191, k0_pay189]
  rw [h3, h4, sg_coe, ← EReal.coe_mul, ← EReal.coe_mul]

/-- The gradient of the gate. -/
theorem pay190_at (v3 : Vec Ideal S512x128 .f32) (v4 : Vec Ideal S1x512x128 .f32) (v6 : Vec Ideal S512x128 .f32) (g d o : ℕ → ℕ → ℝ)
    (h3 : Rd (φ := .f32) v3 g) (h4 : ∀ (r : Fin 512) (s : Fin 128), v4 (ix3 (0 : Fin 1) r s) = ((d r s : ℝ) : EReal)) (h6 : Rd (φ := .f32) v6 o) :
    Rd (k0_pay190 v3 v4 v6) fun r s => d r s * o r s * (sg (g r s) * (1 + g r s * (1 - sg (g r s)))) := by
  intro r s
  pointwise [k0_pay190, k0_pay189]
  rw [h3, h4, h6, sg_coe, ← EReal.coe_one, ← EReal.coe_sub, ← EReal.coe_mul, ← EReal.coe_mul, ← EReal.coe_add, ← EReal.coe_mul, ← EReal.coe_mul]

/-- The positions of the block's queries. -/
theorem pay193_at (i : ℕ) (hi : i < 16) : Wd (k0_pay193 (BitVec.ofNat 32 i)) fun r _ => 512 * i + r := by
  intro r s
  pointwise [k0_pay193]
  apply BitVec.eq_of_toNat_eq
  have := r.isLt
  simp only [Scalar.muli, IntOp.addi, IntOp.muli, BitVec.toNat_add, BitVec.toNat_mul, BitVec.toNat_ofNat]; omega

/-- The tile a row of the triangle lies in. -/
theorem pay194_at : Wd k0_pay194 fun r _ => r / 128 := by
  intro r s
  pointwise [k0_pay194]
  revert r; decide +kernel

/-- The same, for the other triangle. -/
theorem pay203_at : Wd k0_pay203 fun r _ => r / 128 := by
  intro r s
  pointwise [k0_pay203]
  revert r; decide +kernel

/-- The columns' numbers. -/
abbrev colw : IVec S256x256 32 := iota .tc S256x256 32 [1] iota_S256x256_d1_w32
/-- The rows' numbers. -/
abbrev roww : IVec S256x256 32 := iota .tc S256x256 32 [0] iota_S256x256_d0_w32

/-- Whether a row and a column lie in the same tile. -/
theorem pay197_at : Mk (k0_pay197 colw k0_pay194 128#32 k0_pay195 k0_pay196 1#32) fun r s => decide (r / 128 = s / 128) := by
  intro r s
  have h := pay194_at r s
  pointwise [k0_pay197, k0_pay195, k0_pay196]
  rw [h]
  dsimp only
  generalize hq : r.val / 128 = q
  have hq2 : q < 2 := by omega
  clear h hq r
  interval_cases q <;> (revert s; decide +kernel)

/-- A row's place in its tile. -/
theorem pay198_at : Wd (k0_pay198 roww) fun r _ => r % 128 := by
  intro r s
  pointwise [k0_pay198]
  revert r; decide +kernel

/-- A column's place in its tile. -/
theorem pay199_at : Wd (select (k0_pay200 colw) (k0_pay201 colw) (k0_pay199 colw)) fun _ s => s % 128 := by
  intro r s
  pointwise [k0_pay199, k0_pay200, k0_pay201]
  revert s; decide +kernel

/-- The tile a column of the second triangle lies in. -/
theorem pay204_at : Wd (select (andi k0_pay205 (cmpi .ne (remsi colw (broadcast S256x256 128#32)) (broadcast S256x256 0#32)))
    (subi k0_pay204 (broadcast S256x256 1#32)) k0_pay204) fun _ s => s / 128 := by
  intro r s
  pointwise [k0_pay204, k0_pay205]
  revert s; decide +kernel

/-- A truth value's word as a real number. -/
theorem bit_coe (b : Bool) : (FloatOps.sitofp (F := Ideal) .f32 ((BitVec.ofBool b).setWidth 32) : EReal) = if b then 1 else 0 := by
  cases b
  · show (((0 : ℤ) : ℝ) : EReal) = _
    simp
  · show (((1 : ℤ) : ℝ) : EReal) = _
    simp

/-- The word of two truth values. -/
theorem and_bit (a b : Bool) : IntOp.andi (BitVec.ofBool a) (BitVec.ofBool b) = BitVec.ofBool (a && b) := by
  cases a <;> cases b <;> rfl

/-- The triangle of the keys behind a key. -/
theorem pay202_at : Tri (k0_pay202 (k0_pay197 colw k0_pay194 128#32 k0_pay195 k0_pay196 1#32) (k0_pay198 roww) (k0_pay199 colw)
    (k0_pay200 colw) (k0_pay201 colw)) fun a b => decide (b < a) := by
  intro r s
  have h1 := pay197_at r s
  have h2 := pay198_at r s
  have h3 : Scalar.select (k0_pay200 colw (ix2 r s)) (k0_pay201 colw (ix2 r s)) (k0_pay199 colw (ix2 r s)) = _ := pay199_at r s
  pointwise [k0_pay202]
  rw [h1, h2, h3, show IntOp.cmpi CmpIPredicate.sgt (BitVec.ofNat 32 (r.val % 128)) (BitVec.ofNat 32 (s.val % 128)) = _ from
    cmpi_sgt_ofNat (by omega) (by omega), and_bit, bit_coe]
  simp

/-- The triangle of the keys before a key. -/
theorem pay206_at : Tri (k0_pay206 roww colw k0_pay203 128#32 k0_pay204 k0_pay205) fun a b => decide (a < b) := by
  intro r s
  have h1 := pay203_at r s
  have h2 := pay198_at r s
  have h3 := pay199_at r s
  have h4 := pay204_at r s
  pointwise [k0_pay198] at h2
  pointwise [k0_pay199, k0_pay200, k0_pay201] at h3
  pointwise [k0_pay204, k0_pay205] at h4
  pointwise [k0_pay206, k0_pay204, k0_pay205]
  rw [h1, h2, h3, h4, show IntOp.cmpi CmpIPredicate.slt (BitVec.ofNat 32 (r.val % 128)) (BitVec.ofNat 32 (s.val % 128)) = _ from
    cmpi_slt_ofNat (by omega) (by omega), show IntOp.cmpi CmpIPredicate.eq (BitVec.ofNat 32 (r.val / 128)) (BitVec.ofNat 32 (s.val / 128)) = _ from
    cmpi_eq_ofNat (by omega) (by omega), and_bit, bit_coe]
  simp

/-- A step's running sum starts at zero. -/
theorem pay208_at : Rd k0_pay208 fun _ _ => 0 := by
  intro r s
  pointwise [k0_pay208]
  simp

/-- The gradient of the queries starts at zero. -/
theorem pay207_at : Rd k0_pay207 fun _ _ => 0 := by
  intro r s
  pointwise [k0_pay207]
  simp

/-- The gradient of the keys starts at zero. -/
theorem pay187_at : Rd k0_pay187 fun _ _ => 0 := by
  intro r s
  pointwise [k0_pay187]
  simp

/-- The gradient of the values starts at zero. -/
theorem pay188_at : Rd k0_pay188 fun _ _ => 0 := by
  intro r s
  pointwise [k0_pay188]
  simp

/-- The gradient of the queries is scaled at the end. -/
theorem pay8_at (v : Vec Ideal S512x128 .f32) (f : ℕ → ℕ → ℝ) (hv : Rd (φ := .f32) v f) : Rd (k0_pay8 v) fun r d => f r d * sc := by
  intro r d
  pointwise [k0_pay8]
  rw [hv, EReal.coe_mul, ← sc_coe]
  rfl

end Cert.KernelIdeal.Pay
-- ==== Proof.RunPre.lean ====
/-
  What the three cases of the kernel's body share: the scalars of the diagonal, the loop which makes no trip, and where
  the sums over keys and queries end.
-/
module

public import proofs.«01_k».proof.Proof.Loop
public import proofs.«01_k».proof.Proof.PayPre

@[expose] public section

set_option maxRecDepth 16384
noncomputable section
namespace Cert.Head.Head
open Finset (range)
variable (H : Head)
theorem dz_zero {t s : ℕ} (h : t ≤ s) : H.dz t s = 0 := by unfold dz; rw [if_neg (by omega)]
theorem w_zero {t s : ℕ} (h : t ≤ s) : H.w t s = 0 := by unfold w; rw [if_neg (by omega)]
/-- Keys at or after the query add nothing. -/
theorem dqs_all {n m t : ℕ} (d : ℕ) (h : t ≤ n) (hm : n ≤ m) : H.dqs n t d = H.dqs m t d := by
  obtain ⟨j, rfl⟩ := Nat.exists_eq_add_of_le hm
  rw [← dqs_add, Finset.sum_eq_zero, add_zero]
  intro s _; rw [dz_zero H (by omega), zero_mul]
theorem dkb_zero {t0 s : ℕ} (d : ℕ) (h : t0 + 512 ≤ s) : H.dkb t0 s d = 0 := by
  unfold dkb; refine Finset.sum_eq_zero fun r hr => ?_
  rw [Finset.mem_range] at hr; rw [dz_zero H (by omega), zero_mul]
theorem dvb_zero {t0 s : ℕ} (d : ℕ) (h : t0 + 512 ≤ s) : H.dvb t0 s d = 0 := by
  unfold dvb; refine Finset.sum_eq_zero fun r hr => ?_
  rw [Finset.mem_range] at hr; rw [w_zero H (by omega), zero_mul]
theorem dkb_end {t0 n s : ℕ} (d : ℕ) (h : t0 + 512 ≤ n) : (if s < n then H.dkb t0 s d else 0) = H.dkb t0 s d := by
  by_cases a : s < n
  · rw [if_pos a]
  · rw [if_neg a, dkb_zero H d (by omega)]
theorem dvb_end {t0 n s : ℕ} (d : ℕ) (h : t0 + 512 ≤ n) : (if s < n then H.dvb t0 s d else 0) = H.dvb t0 s d := by
  by_cases a : s < n
  · rw [if_pos a]
  · rw [if_neg a, dvb_zero H d (by omega)]
theorem bef_zero (t : ℕ) : H.bef t 0 = 0 := by unfold bef; simp
theorem dqs_zero (t d : ℕ) : H.dqs 0 t d = 0 := by unfold dqs; simp
end Cert.Head.Head

namespace Cert.KernelIdeal.Pay
open Cert.KernelIdeal Cert.KernelIdeal.Gen Cert.Head
open Idealize.ShloMosaic Idealize.ShloMosaic.TcCoe Idealize.ShloMosaic.Tactic
open Finset (range)

theorem rd_congr {n m : ℕ} {φ : FTy} {x : FVec Ideal ⟨2, ![n, m]⟩ φ} {f g : ℕ → ℕ → ℝ} (h : Rd x f)
    (e : ∀ r s, r < n → s < m → f r s = g r s) : Rd x g := fun r s => (h r s).trans (congrArg _ (e r s r.isLt s.isLt))

/-- The second loop makes no trip. -/
theorem trips2_eq (i : grid0.Coords) : (Scf.trips (k0_t2_loop i).lb (k0_t2_loop i).ub (k0_t2_loop i).st) = 0 := by
  have h := (i 1).isLt
  unfold k0_t2_loop
  dsimp only
  generalize (i 1).val = n at h
  have h : n < 16 := h
  revert h n
  decide +kernel

theorem off3_eq (i : grid0.Coords) : k0_off3 i = ![1024 * ((i 1).val / 2), 0] := by
  have h := (i 1).isLt
  unfold k0_off3
  dsimp only
  generalize (i 1).val = n at h
  have h : n < 16 := h
  revert h n
  decide +kernel

theorem off4_eq (i : grid0.Coords) : k0_off4 i = ![1024 * ((i 1).val / 2), 0] := by
  have h := (i 1).isLt
  unfold k0_off4
  dsimp only
  generalize (i 1).val = n at h
  have h : n < 16 := h
  revert h n
  decide +kernel

/-- The columns' numbers. -/
theorem v44_at : Wd (iota Kind.tc S512x128 32 [1] iota_S512x128_d1_w32) fun _ c => c := by
  intro r s
  pointwise []
theorem v43_at : Wd (iota Kind.tc S512x1024 32 [1] iota_S512x1024_d1_w32) fun _ c => c := by
  intro r s
  pointwise []

/-- So it stores nothing. -/
theorem t2_nil (𝒱 : Variants) (c : Dev nD) (bd : Option 𝒱.V) (i : grid0.Coords) (arg2 : Memref sig .tc .vmem S512x128 .f32)
    (harg2 : arg2.IsWhole) (arg3 : Memref sig .tc .vmem S8192x128 .f32) (harg3 : arg3.IsWhole)
    (arg4 : Memref sig .tc .vmem S8192x128 .f32) (harg4 : arg4.IsWhole) (arg5 : Memref sig .tc .vmem S512x128 .f32)
    (harg5 : arg5.IsWhole) (arg6 : Memref sig .tc .vmem S512x128 .f32) (harg6 : arg6.IsWhole)
    (arg7 : Memref sig .tc .vmem S512x128 .f32) (harg7 : arg7.IsWhole) (arg8 : Memref sig .tc .vmem S1x512x128 .f32)
    (harg8 : arg8.IsWhole) (arg9 : Memref sig .tc .vmem S512x128 .f32) (harg9 : arg9.IsWhole)
    (arg10 : Memref sig .tc .vmem S8192x128 .f32) (harg10 : arg10.IsWhole) (arg11 : Memref sig .tc .vmem S8192x128 .f32)
    (harg11 : arg11.IsWhole) (arg12 : Memref sig .tc .vmem S512x128 .bf16) (harg12 : arg12.IsWhole)
    (arg13 : Memref sig .tc .vmem S512x128 .f32) (harg13 : arg13.IsWhole) (v34 : FVec Ideal S512x128 .bf16)
    (v38 : FVec Ideal S512x128 .bf16) (v44 : IVec S512x128 32) (v132 : FVec Ideal S256x256 .bf16)
    (v220 : FVec Ideal S256x256 .bf16) (v257 : BitVec 32) (X_arg3 : BufTy.Contents (Elt Ideal) arg3.view.ty)
    (X_arg4 : BufTy.Contents (Elt Ideal) arg4.view.ty) (X_arg7 : BufTy.Contents (Elt Ideal) arg7.view.ty)
    (G_arg9 : BufTy.Contents (Elt Ideal) arg9.view.ty) (G_arg10 : BufTy.Contents (Elt Ideal) arg10.view.ty)
    (G_arg11 : BufTy.Contents (Elt Ideal) arg11.view.ty) (G_arg13 : BufTy.Contents (Elt Ideal) arg13.view.ty) :
    pb_k0_t2 (F := Ideal) 𝒱 c bd i arg2 harg2 arg3 harg3 arg4 harg4 arg5 harg5 arg6 harg6 arg7 harg7 arg8 harg8 arg9 harg9 arg10 harg10 arg11 harg11 arg12 harg12 arg13 harg13 v34 v38 v44 v132 v220 v257 X_arg3 X_arg4 X_arg7 G_arg9 G_arg10 G_arg11 G_arg13 (Scf.trips (k0_t2_loop i).lb (k0_t2_loop i).ub (k0_t2_loop i).st) = ([], [], [], []) := by
  rw [trips2_eq]; rfl

end Cert.KernelIdeal.Pay
-- ==== Proof.RunAV.lean ====
/-
  What the kernel's body leaves in its blocks in case A: the first block of queries of a head.
-/
module

public import proofs.«01_k».proof.Proof.Gen.KernelIdeal.Frame.RunA
public import proofs.«01_k».proof.Proof.RunPre

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)

variable (c : Dev nD) (i : grid0.Coords) (arg2 : Memref sig .tc .vmem S512x128 .f32) (harg2 : arg2.IsWhole)
  (arg3 : Memref sig .tc .vmem S8192x128 .f32) (harg3 : arg3.IsWhole) (arg4 : Memref sig .tc .vmem S8192x128 .f32)
  (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .f32)
  (harg7 : arg7.IsWhole) (arg8 : Memref sig .tc .vmem S1x512x128 .f32) (harg8 : arg8.IsWhole)
  (arg9 : Memref sig .tc .vmem S512x128 .f32) (harg9 : arg9.IsWhole) (arg10 : Memref sig .tc .vmem S8192x128 .f32)
  (harg10 : arg10.IsWhole) (arg11 : Memref sig .tc .vmem S8192x128 .f32) (harg11 : arg11.IsWhole)
  (arg12 : Memref sig .tc .vmem S512x128 .bf16) (harg12 : arg12.IsWhole) (arg13 : Memref sig .tc .vmem S512x128 .f32)
  (harg13 : arg13.IsWhole) (hc0 : cond0_0 i) (hc1 : cond0_1 i) (hc2 : ¬cond0_2 i) (x0 : Vec Ideal S512x128 .f32)
  (x1 : Vec Ideal S8192x128 .f32) (x2 : Vec Ideal S8192x128 .f32) (x3 : Vec Ideal S512x128 .f32)
  (x4 : Vec Ideal S512x128 .f32) (x5 : Vec Ideal S512x128 .f32) (x6 : Vec Ideal S1x512x128 .f32)
  (H : Head) (t0 : ℕ) (fq fg fo fd : ℕ → ℕ → ℝ)
  (ht : t0 = 512 * (i 1).val) (hpar : (i 1).val % 2 = 0)
  (hx0 : Rd (φ := .f32) x0 fq) (hx1 : Rd (φ := .f32) x1 H.k) (hx2 : Rd (φ := .f32) x2 H.v) (hx3 : Rd (φ := .f32) x3 fg)
  (hx4 : Rd (φ := .f32) x4 fo) (hx5 : Rd (φ := .f32) x5 fun r n => H.car (t0 + r) n)
  (hx6 : ∀ (r : Fin 512) (s : Fin 128), x6 (ix3 (0 : Fin 1) r s) = ((fd r s : ℝ) : EReal))
  (hq : ∀ r d, H.q (t0 + r) d = fq r d * sc) (he : ∀ r s, H.e (t0 + r) s = fd r s * (fg r s * sg (fg r s)))

include c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he
set_option maxHeartbeats 2000000

theorem qA : Rd (kernelRun0_A.sl.r_1 (F := Ideal) c arg2 harg2 x0) fun r d => H.q (t0 + r) d := by
  unfold kernelRun0_A.sl.r_1
  exact rd_congr (pay192_at _ _ (rd_full arg2.view _ _ (by rw [harg2.read_unread]; exact hx0) _)) fun r d _ _ => (hq r d).symm

theorem eA : Rd (kernelRun0_A.sl.r (F := Ideal) c arg5 harg5 arg8 harg8 x3 x6) fun r d => H.e (t0 + r) d := by
  unfold kernelRun0_A.sl.r
  refine rd_congr (pay191_at _ _ fg fd (rd_full arg5.view _ _ (by rw [harg5.read_unread]; exact hx3) _) ?_) fun r d _ _ => (he r d).symm
  intro r s
  exact (congrFun (View.readAt_full (Val := Elt Ideal) arg8.view _ _) _).trans (by rw [harg8.read_unread]; exact hx6 r s)

/-- What the buffers hold when the loop is done. -/
theorem loopA : Inv arg9 arg10 arg11 arg13 H t0 ((i 1).val / 2) (fun _ _ => 0) (fun _ _ => 0)
    (arg9.view.writes (Elt Ideal) (arg9.view.writes (Elt Ideal) arg9.view.junk (kernelRun0_A.sl.H7_1 (F := Ideal) )) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_A.sl.r (F := Ideal) c arg5 harg5 arg8 harg8 x3 x6) (kernelRun0_A.sl.r_1 (F := Ideal) c arg2 harg2 x0) (kernelRun0_A.sl.v44 ) (kernelRun0_A.sl.r_4 (F := Ideal) ) (kernelRun0_A.sl.r_5 (F := Ideal) ) 0#32 (harg3.unread x1) (harg4.unread x2) (harg7.unread x5) (arg9.view.writes (Elt Ideal) arg9.view.junk (kernelRun0_A.sl.H7_1 (F := Ideal) )) (arg10.view.writes (Elt Ideal) arg10.view.junk (kernelRun0_A.sl.H8_1 (F := Ideal) )) (arg11.view.writes (Elt Ideal) arg11.view.junk (kernelRun0_A.sl.H9_1 (F := Ideal) )) (arg13.view.writes (Elt Ideal) arg13.view.junk (kernelRun0_A.sl.HS0_1 (F := Ideal) )) (k0_t1_loop i).trips).1)
    (arg10.view.writes (Elt Ideal) (arg10.view.writes (Elt Ideal) arg10.view.junk (kernelRun0_A.sl.H8_1 (F := Ideal) )) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_A.sl.r (F := Ideal) c arg5 harg5 arg8 harg8 x3 x6) (kernelRun0_A.sl.r_1 (F := Ideal) c arg2 harg2 x0) (kernelRun0_A.sl.v44 ) (kernelRun0_A.sl.r_4 (F := Ideal) ) (kernelRun0_A.sl.r_5 (F := Ideal) ) 0#32 (harg3.unread x1) (harg4.unread x2) (harg7.unread x5) (arg9.view.writes (Elt Ideal) arg9.view.junk (kernelRun0_A.sl.H7_1 (F := Ideal) )) (arg10.view.writes (Elt Ideal) arg10.view.junk (kernelRun0_A.sl.H8_1 (F := Ideal) )) (arg11.view.writes (Elt Ideal) arg11.view.junk (kernelRun0_A.sl.H9_1 (F := Ideal) )) (arg13.view.writes (Elt Ideal) arg13.view.junk (kernelRun0_A.sl.HS0_1 (F := Ideal) )) (k0_t1_loop i).trips).2.1)
    (arg11.view.writes (Elt Ideal) (arg11.view.writes (Elt Ideal) arg11.view.junk (kernelRun0_A.sl.H9_1 (F := Ideal) )) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_A.sl.r (F := Ideal) c arg5 harg5 arg8 harg8 x3 x6) (kernelRun0_A.sl.r_1 (F := Ideal) c arg2 harg2 x0) (kernelRun0_A.sl.v44 ) (kernelRun0_A.sl.r_4 (F := Ideal) ) (kernelRun0_A.sl.r_5 (F := Ideal) ) 0#32 (harg3.unread x1) (harg4.unread x2) (harg7.unread x5) (arg9.view.writes (Elt Ideal) arg9.view.junk (kernelRun0_A.sl.H7_1 (F := Ideal) )) (arg10.view.writes (Elt Ideal) arg10.view.junk (kernelRun0_A.sl.H8_1 (F := Ideal) )) (arg11.view.writes (Elt Ideal) arg11.view.junk (kernelRun0_A.sl.H9_1 (F := Ideal) )) (arg13.view.writes (Elt Ideal) arg13.view.junk (kernelRun0_A.sl.HS0_1 (F := Ideal) )) (k0_t1_loop i).trips).2.2.1)
    (arg13.view.writes (Elt Ideal) (arg13.view.writes (Elt Ideal) arg13.view.junk (kernelRun0_A.sl.HS0_1 (F := Ideal) )) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_A.sl.r (F := Ideal) c arg5 harg5 arg8 harg8 x3 x6) (kernelRun0_A.sl.r_1 (F := Ideal) c arg2 harg2 x0) (kernelRun0_A.sl.v44 ) (kernelRun0_A.sl.r_4 (F := Ideal) ) (kernelRun0_A.sl.r_5 (F := Ideal) ) 0#32 (harg3.unread x1) (harg4.unread x2) (harg7.unread x5) (arg9.view.writes (Elt Ideal) arg9.view.junk (kernelRun0_A.sl.H7_1 (F := Ideal) )) (arg10.view.writes (Elt Ideal) arg10.view.junk (kernelRun0_A.sl.H8_1 (F := Ideal) )) (arg11.view.writes (Elt Ideal) arg11.view.junk (kernelRun0_A.sl.H9_1 (F := Ideal) )) (arg13.view.writes (Elt Ideal) arg13.view.junk (kernelRun0_A.sl.HS0_1 (F := Ideal) )) (k0_t1_loop i).trips).2.2.2) := by
  have h := loop_inv (𝒱 := Variants.none) (c := c) (bd := none) (i := i) (H := H) (t0 := t0) (dk := (fun _ _ => 0)) (dv := (fun _ _ => 0))
    (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13)
    (v34 := (kernelRun0_A.sl.r (F := Ideal) c arg5 harg5 arg8 harg8 x3 x6)) (v38 := (kernelRun0_A.sl.r_1 (F := Ideal) c arg2 harg2 x0)) (v44 := (kernelRun0_A.sl.v44 )) (v132 := (kernelRun0_A.sl.r_4 (F := Ideal) )) (v220 := (kernelRun0_A.sl.r_5 (F := Ideal) ))
    (X_arg3 := harg3.unread x1) (X_arg4 := harg4.unread x2) (X_arg7 := harg7.unread x5)
    (he := eA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he)
    (hq := qA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he)
    (h44 := v44_at) (hT := pay202_at) (hU := pay206_at)
    (hk := by rw [harg3.read_unread]; exact hx1) (hv := by rw [harg4.read_unread]; exact hx2) (hc := by rw [harg7.read_unread]; exact hx5)
    (ht := ht) (G9 := (arg9.view.writes (Elt Ideal) arg9.view.junk (kernelRun0_A.sl.H7_1 (F := Ideal) ))) (G10 := (arg10.view.writes (Elt Ideal) arg10.view.junk (kernelRun0_A.sl.H8_1 (F := Ideal) ))) (G11 := (arg11.view.writes (Elt Ideal) arg11.view.junk (kernelRun0_A.sl.H9_1 (F := Ideal) ))) (G13 := (arg13.view.writes (Elt Ideal) arg13.view.junk (kernelRun0_A.sl.HS0_1 (F := Ideal) )))
    (h0 := ?_) (n := (k0_t1_loop i).trips) (hn := le_refl _)
  · rw [← trips1_eq i]
    exact h
  · refine ⟨?_, ?_, ?_, ?_⟩
    · unfold kernelRun0_A.sl.H7_1
      rw [View.read_writes_full]
      exact rd_congr pay207_at fun r d _ _ => (H.dqs_zero _ _).symm
    · unfold kernelRun0_A.sl.H8_1
      rw [View.read_writes_full]
      exact rd_congr pay187_at fun s d _ _ => by simp
    · unfold kernelRun0_A.sl.H9_1
      rw [View.read_writes_full]
      exact rd_congr pay188_at fun s d _ _ => by simp
    · unfold kernelRun0_A.sl.HS0_1
      rw [View.read_writes_full]
      exact rd_congr pay208_at fun r d _ _ => (H.bef_zero _).symm

theorem v248A : (kernelRun0_A.sl.v248 i) = BitVec.ofNat 32 ((i 1).val / 2) := by
  have h := (i 1).isLt
  simp only [kernelRun0_A.sl.v248, kernelRun0_A.sl.v247, kernelRun0_A.sl.v245, kernelRun0_A.sl.v246, kernelRun0_A.sl.v231, kernelRun0_A.sl.v242, kernelRun0_A.sl.v244, kernelRun0_A.sl.v230, kernelRun0_A.sl.v236, kernelRun0_A.sl.v243, kernelRun0_A.sl.v229, kernelRun0_A.sl.v233, kernelRun0_A.sl.v235, kernelRun0_A.sl.v228, kernelRun0_A.sl.v232, kernelRun0_A.sl.v234, kernelRun0_A.sl.v227]
  generalize (i 1).val = n at h
  have h : n < 16 := h
  clear hpar ht
  revert h n
  decide +kernel

theorem lastA : (Rd (kernelRun0_A.sl.r_6 (F := Ideal) i arg3 harg3 hc1 x1) fun s d => H.k (1024 * ((i 1).val / 2) + s) d) ∧
    (Rd (kernelRun0_A.sl.r_16 (F := Ideal) c i arg2 harg2 arg3 harg3 arg7 harg7 hc1 x0 x1 x5) fun r s => H.w (t0 + r) (1024 * ((i 1).val / 2) + s)) ∧
    (Rd (kernelRun0_A.sl.r_19 (F := Ideal) c i arg2 harg2 arg3 harg3 arg4 harg4 arg5 harg5 arg6 harg6 arg7 harg7 arg8 harg8 arg9 harg9 arg10 harg10 arg11 harg11 arg12 harg12 arg13 harg13 hc1 x0 x1 x2 x3 x5 x6) fun r s => H.dz (t0 + r) (1024 * ((i 1).val / 2) + s)) := by
  have hi : (i 1).val < 16 := (i 1).isLt
  have L := loopA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he
  have h13 : Rd (φ := .f32) (kernelRun0_A.sl.v355 (F := Ideal) c i arg2 harg2 arg3 harg3 arg4 harg4 arg5 harg5 arg6 harg6 arg7 harg7 arg8 harg8 arg9 harg9 arg10 harg10 arg11 harg11 arg12 harg12 arg13 harg13 x0 x1 x2 x3 x5 x6) fun r _ => H.bef (t0 + r) (1024 * ((i 1).val / 2)) := by
    unfold kernelRun0_A.sl.v355
    rw [t2_nil, List.nil_append]
    unfold View.readCov
    rw [View.writes_append]
    exact rd_full arg13.view _ _ L.2.2.2 _
  exact half_step H t0 (1024 * ((i 1).val / 2)) ((i 1).val / 2) (by omega) rfl (by omega) (kernelRun0_A.sl.r (F := Ideal) c arg5 harg5 arg8 harg8 x3 x6) (kernelRun0_A.sl.r_1 (F := Ideal) c arg2 harg2 x0)
    (kernelRun0_A.sl.r_2 i) (kernelRun0_A.sl.v43 ) (kernelRun0_A.sl.v44 ) (kernelRun0_A.sl.r_4 (F := Ideal) ) (kernelRun0_A.sl.r_5 (F := Ideal) ) (kernelRun0_A.sl.v248 i) _ _ _ _
    (eA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he) (qA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he) (by rw [ht]; exact pay193_at _ hi) v43_at v44_at pay202_at pay206_at (v248A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he)
    (rd_rows arg3.view _ _ (by rw [harg3.read_unread]; exact hx1) (off3_eq i) _)
    (rd_rows arg4.view _ _ (by rw [harg4.read_unread]; exact hx2) (off3_eq i) _)
    (rd_full arg7.view _ _ (by rw [harg7.read_unread]; exact hx5) _) h13
    (kernelRun0_A.sl.r_6 (F := Ideal) i arg3 harg3 hc1 x1)
    (kernelRun0_A.sl.r_7 (F := Ideal) i arg4 harg4 hc1 x2)
    (kernelRun0_A.sl.r_8 i)
    (kernelRun0_A.sl.r_9 (F := Ideal) c i arg2 harg2 arg3 harg3 hc1 x0 x1)
    (kernelRun0_A.sl.r_10 (F := Ideal) arg7 harg7 x5)
    (kernelRun0_A.sl.r_11 (F := Ideal) c i arg2 harg2 arg3 harg3 hc1 x0 x1)
    (kernelRun0_A.sl.r_12 (F := Ideal) c i arg2 harg2 arg3 harg3 hc1 x0 x1)
    (kernelRun0_A.sl.r_13 (F := Ideal) c i arg2 harg2 arg3 harg3 hc1 x0 x1)
    (kernelRun0_A.sl.r_14 (F := Ideal) c i arg2 harg2 arg3 harg3 hc1 x0 x1)
    (kernelRun0_A.sl.r_15 (F := Ideal) i arg7 harg7 x5)
    (kernelRun0_A.sl.r_16 (F := Ideal) c i arg2 harg2 arg3 harg3 arg7 harg7 hc1 x0 x1 x5)
    (kernelRun0_A.sl.r_17 (F := Ideal) c i arg2 harg2 arg3 harg3 arg4 harg4 arg5 harg5 arg7 harg7 arg8 harg8 hc1 x0 x1 x2 x3 x5 x6)
    (kernelRun0_A.sl.r_18 (F := Ideal) c i arg2 harg2 arg3 harg3 arg4 harg4 arg5 harg5 arg7 harg7 arg8 harg8 hc1 x0 x1 x2 x3 x5 x6)
    (kernelRun0_A.sl.r_19 (F := Ideal) c i arg2 harg2 arg3 harg3 arg4 harg4 arg5 harg5 arg6 harg6 arg7 harg7 arg8 harg8 arg9 harg9 arg10 harg10 arg11 harg11 arg12 harg12 arg13 harg13 hc1 x0 x1 x2 x3 x5 x6)
    rfl rfl rfl rfl rfl rfl rfl rfl rfl rfl rfl rfl rfl rfl

/-- The gradient of the queries of the block. -/
theorem out7A (v : View sig .tc .vmem S512x128 .f32) (f : v.ty.Contents (Elt Ideal)) :
    Rd (φ := .f32) (v.read (Elt Ideal) (v.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1)) fun r d => H.dqs 8192 (t0 + r) d * sc := by
  have hi : (i 1).val < 16 := (i 1).isLt
  have L := loopA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he
  have T := lastA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he
  have h9 : Rd (φ := .f32) (kernelRun0_A.sl.v403 (F := Ideal) c i arg2 harg2 arg3 harg3 arg4 harg4 arg5 harg5 arg6 harg6 arg7 harg7 arg8 harg8 arg9 harg9 arg10 harg10 arg11 harg11 arg12 harg12 arg13 harg13 x0 x1 x2 x3 x5 x6) fun r d => H.dqs (1024 * ((i 1).val / 2)) (t0 + r) d := by
    unfold kernelRun0_A.sl.v403
    rw [t2_nil, List.nil_append]
    unfold View.readCov
    rw [View.writes_append]
    exact rd_full arg9.view _ _ L.1 _
  have h264 : Rd (φ := .f32) (kernelRun0_A.sl.v264 (F := Ideal) c i arg2 harg2 arg3 harg3 arg4 harg4 arg5 harg5 arg6 harg6 arg7 harg7 arg8 harg8 arg9 harg9 arg10 harg10 arg11 harg11 arg12 harg12 arg13 harg13 hc1 x0 x1 x2 x3 x5 x6) fun r d => H.dqs 8192 (t0 + r) d := by
    unfold kernelRun0_A.sl.v264 kernelRun0_A.sl.H7_1_1
    rw [View.readCov_full]
    exact rd_congr (pay3_at H t0 _ _ _ _ _ T.2.2 T.1 h9) fun r d hr _ => by
      rw [Head.dqs_add]; exact Head.dqs_all H d (by omega) (by omega)
  unfold kernelRun0_A
  dsimp only
  rw [View.read_writes_full]
  exact pay8_at _ _ h264

/-- The gradient of the keys so far. -/
theorem out8A : Rd (φ := .f32) (arg10.view.read (Elt Ideal) (arg10.view.writes (Elt Ideal) arg10.view.junk (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.1)) fun s d => (fun _ _ => (0:ℝ)) s d + H.dkb t0 s d := by
  have hi : (i 1).val < 16 := (i 1).isLt
  have L := (loopA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he).2.1
  have T := lastA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he
  have h10 : Rd (φ := .f32) (kernelRun0_A.sl.v409 (F := Ideal) c i arg2 harg2 arg3 harg3 arg4 harg4 arg5 harg5 arg6 harg6 arg7 harg7 arg8 harg8 arg9 harg9 arg10 harg10 arg11 harg11 arg12 harg12 arg13 harg13 hc1 x0 x1 x2 x3 x5 x6) fun s d => (fun _ _ => (0:ℝ)) (1024 * ((i 1).val / 2) + s) d + if 1024 * ((i 1).val / 2) + s < 1024 * ((i 1).val / 2) then H.dkb t0 (1024 * ((i 1).val / 2) + s) d else 0 := by
    unfold kernelRun0_A.sl.v409
    rw [t2_nil, List.nil_append, View.writes_append]
    exact rd_rows arg10.view _ _ L (off3_eq i) _
  unfold kernelRun0_A
  dsimp only
  rw [t2_nil, List.nil_append]
  refine rd_congr (rd_add (rd_put (L := _) arg10.view arg10.view.junk _ (by rw [View.writes_append]; exact L) (off3_eq i) _ (pay4_at H t0 _ _ _ _ _ T.2.2 (qA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he) h10))) fun s d _ _ => ?_
  rw [Head.dkb_end H d (by omega)]

/-- The gradient of the values so far. -/
theorem out9A : Rd (φ := .f32) (arg11.view.read (Elt Ideal) (arg11.view.writes (Elt Ideal) arg11.view.junk (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.1)) fun s d => (fun _ _ => (0:ℝ)) s d + H.dvb t0 s d := by
  have hi : (i 1).val < 16 := (i 1).isLt
  have L := (loopA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he).2.2.1
  have T := lastA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he
  have h11 : Rd (φ := .f32) (kernelRun0_A.sl.v416 (F := Ideal) c i arg2 harg2 arg3 harg3 arg4 harg4 arg5 harg5 arg6 harg6 arg7 harg7 arg8 harg8 arg9 harg9 arg10 harg10 arg11 harg11 arg12 harg12 arg13 harg13 hc1 x0 x1 x2 x3 x5 x6) fun s d => (fun _ _ => (0:ℝ)) (1024 * ((i 1).val / 2) + s) d + if 1024 * ((i 1).val / 2) + s < 1024 * ((i 1).val / 2) then H.dvb t0 (1024 * ((i 1).val / 2) + s) d else 0 := by
    unfold kernelRun0_A.sl.v416
    rw [t2_nil, List.nil_append, View.writes_append]
    exact rd_rows arg11.view _ _ L (off3_eq i) _
  unfold kernelRun0_A
  dsimp only
  rw [t2_nil, List.nil_append]
  refine rd_congr (rd_add (rd_put (L := _) arg11.view arg11.view.junk _ (by rw [View.writes_append]; exact L) (off3_eq i) _ (pay5_at H t0 _ _ _ _ _ T.2.1 (eA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 H t0 fq fg fo fd ht hpar hx0 hx1 hx2 hx3 hx4 hx5 hx6 hq he) h11))) fun s d _ _ => ?_
  rw [Head.dvb_end H d (by omega)]

/-- The gradient of the gate. -/
theorem out10A (v : View sig .tc .vmem S512x128 .bf16) (f : v.ty.Contents (Elt Ideal)) :
    Rd (φ := .bf16) (v.read (Elt Ideal) (v.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.1)) fun r s => fd r s * fo r s * (sg (fg r s) * (1 + fg r s * (1 - sg (fg r s)))) := by
  unfold kernelRun0_A
  dsimp only
  unfold kernelRun0_A.sl.H10_1
  rw [View.read_writes_full]
  refine pay190_at _ _ _ fg fd fo (rd_full arg5.view _ _ (by rw [harg5.read_unread]; exact hx3) _) ?_ (rd_full arg6.view _ _ (by rw [harg6.read_unread]; exact hx4) _)
  intro r s
  exact (congrFun (View.readAt_full (Val := Elt Ideal) arg8.view _ _) _).trans (by rw [harg8.read_unread]; exact hx6 r s)

end Cert.KernelIdeal.Pay
-- ==== Proof.RunBV.lean ====
/-
  What the kernel's body leaves in its blocks in case B: a block of queries whose diagonal fills a block of 1024 keys.
-/
module

public import proofs.«01_k».proof.Proof.Gen.KernelIdeal.Frame.RunB
public import proofs.«01_k».proof.Proof.RunPre

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)

variable (c : Dev nD) (i : grid0.Coords) (arg2 : Memref sig .tc .vmem S512x128 .f32) (harg2 : arg2.IsWhole)
  (arg3 : Memref sig .tc .vmem S8192x128 .f32) (harg3 : arg3.IsWhole) (arg4 : Memref sig .tc .vmem S8192x128 .f32)
  (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .f32)
  (harg7 : arg7.IsWhole) (arg8 : Memref sig .tc .vmem S1x512x128 .f32) (harg8 : arg8.IsWhole)
  (arg9 : Memref sig .tc .vmem S512x128 .f32) (harg9 : arg9.IsWhole) (arg10 : Memref sig .tc .vmem S8192x128 .f32)
  (harg10 : arg10.IsWhole) (arg11 : Memref sig .tc .vmem S8192x128 .f32) (harg11 : arg11.IsWhole)
  (arg12 : Memref sig .tc .vmem S512x128 .bf16) (harg12 : arg12.IsWhole) (arg13 : Memref sig .tc .vmem S512x128 .f32)
  (harg13 : arg13.IsWhole) (hc0 : ¬cond0_0 i) (hc1 : ¬cond0_1 i) (hc2 : cond0_2 i) (x0 : Vec Ideal S512x128 .f32)
  (x1 : Vec Ideal S8192x128 .f32) (x2 : Vec Ideal S8192x128 .f32) (x3 : Vec Ideal S512x128 .f32)
  (x4 : Vec Ideal S512x128 .f32) (x5 : Vec Ideal S512x128 .f32) (x6 : Vec Ideal S1x512x128 .f32)
  (xo8 : Vec Ideal S8192x128 .f32) (xo9 : Vec Ideal S8192x128 .f32)
  (H : Head) (t0 : ℕ) (fq fg fo fd dk dv : ℕ → ℕ → ℝ)
  (ht : t0 = 512 * (i 1).val) (hpar : (i 1).val % 2 = 1)
  (hx0 : Rd (φ := .f32) x0 fq) (hx1 : Rd (φ := .f32) x1 H.k) (hx2 : Rd (φ := .f32) x2 H.v) (hx3 : Rd (φ := .f32) x3 fg)
  (hx4 : Rd (φ := .f32) x4 fo) (hx5 : Rd (φ := .f32) x5 fun r n => H.car (t0 + r) n)
  (hx6 : ∀ (r : Fin 512) (s : Fin 128), x6 (ix3 (0 : Fin 1) r s) = ((fd r s : ℝ) : EReal))
  (hq : ∀ r d, H.q (t0 + r) d = fq r d * sc) (he : ∀ r s, H.e (t0 + r) s = fd r s * (fg r s * sg (fg r s)))
  (hx8 : Rd (φ := .f32) xo8 dk) (hx9 : Rd (φ := .f32) xo9 dv)
include c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
set_option maxHeartbeats 2000000

theorem qB : Rd (kernelRun0_B.sl.r_1 (F := Ideal) c arg2 harg2 x0) fun r d => H.q (t0 + r) d := by
  unfold kernelRun0_B.sl.r_1
  exact rd_congr (pay192_at _ _ (rd_full arg2.view _ _ (by rw [harg2.read_unread]; exact hx0) _)) fun r d _ _ => (hq r d).symm

theorem eB : Rd (kernelRun0_B.sl.r (F := Ideal) c arg5 harg5 arg8 harg8 x3 x6) fun r d => H.e (t0 + r) d := by
  unfold kernelRun0_B.sl.r
  refine rd_congr (pay191_at _ _ fg fd (rd_full arg5.view _ _ (by rw [harg5.read_unread]; exact hx3) _) ?_) fun r d _ _ => (he r d).symm
  intro r s
  exact (congrFun (View.readAt_full (Val := Elt Ideal) arg8.view _ _) _).trans (by rw [harg8.read_unread]; exact hx6 r s)

/-- What the buffers hold when the loop is done. -/
theorem loopB : Inv arg9 arg10 arg11 arg13 H t0 ((i 1).val / 2) dk dv
    (arg9.view.writes (Elt Ideal) (arg9.view.writes (Elt Ideal) arg9.view.junk (kernelRun0_B.sl.H7_1 (F := Ideal) )) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_B.sl.r (F := Ideal) c arg5 harg5 arg8 harg8 x3 x6) (kernelRun0_B.sl.r_1 (F := Ideal) c arg2 harg2 x0) (kernelRun0_B.sl.v44 ) (kernelRun0_B.sl.r_4 (F := Ideal) ) (kernelRun0_B.sl.r_5 (F := Ideal) ) 0#32 (harg3.unread x1) (harg4.unread x2) (harg7.unread x5) (arg9.view.writes (Elt Ideal) arg9.view.junk (kernelRun0_B.sl.H7_1 (F := Ideal) )) (harg10.unread xo8) (harg11.unread xo9) (arg13.view.writes (Elt Ideal) arg13.view.junk (kernelRun0_B.sl.HS0_1 (F := Ideal) )) (k0_t1_loop i).trips).1)
    (arg10.view.writes (Elt Ideal) (harg10.unread xo8) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_B.sl.r (F := Ideal) c arg5 harg5 arg8 harg8 x3 x6) (kernelRun0_B.sl.r_1 (F := Ideal) c arg2 harg2 x0) (kernelRun0_B.sl.v44 ) (kernelRun0_B.sl.r_4 (F := Ideal) ) (kernelRun0_B.sl.r_5 (F := Ideal) ) 0#32 (harg3.unread x1) (harg4.unread x2) (harg7.unread x5) (arg9.view.writes (Elt Ideal) arg9.view.junk (kernelRun0_B.sl.H7_1 (F := Ideal) )) (harg10.unread xo8) (harg11.unread xo9) (arg13.view.writes (Elt Ideal) arg13.view.junk (kernelRun0_B.sl.HS0_1 (F := Ideal) )) (k0_t1_loop i).trips).2.1)
    (arg11.view.writes (Elt Ideal) (harg11.unread xo9) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_B.sl.r (F := Ideal) c arg5 harg5 arg8 harg8 x3 x6) (kernelRun0_B.sl.r_1 (F := Ideal) c arg2 harg2 x0) (kernelRun0_B.sl.v44 ) (kernelRun0_B.sl.r_4 (F := Ideal) ) (kernelRun0_B.sl.r_5 (F := Ideal) ) 0#32 (harg3.unread x1) (harg4.unread x2) (harg7.unread x5) (arg9.view.writes (Elt Ideal) arg9.view.junk (kernelRun0_B.sl.H7_1 (F := Ideal) )) (harg10.unread xo8) (harg11.unread xo9) (arg13.view.writes (Elt Ideal) arg13.view.junk (kernelRun0_B.sl.HS0_1 (F := Ideal) )) (k0_t1_loop i).trips).2.2.1)
    (arg13.view.writes (Elt Ideal) (arg13.view.writes (Elt Ideal) arg13.view.junk (kernelRun0_B.sl.HS0_1 (F := Ideal) )) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_B.sl.r (F := Ideal) c arg5 harg5 arg8 harg8 x3 x6) (kernelRun0_B.sl.r_1 (F := Ideal) c arg2 harg2 x0) (kernelRun0_B.sl.v44 ) (kernelRun0_B.sl.r_4 (F := Ideal) ) (kernelRun0_B.sl.r_5 (F := Ideal) ) 0#32 (harg3.unread x1) (harg4.unread x2) (harg7.unread x5) (arg9.view.writes (Elt Ideal) arg9.view.junk (kernelRun0_B.sl.H7_1 (F := Ideal) )) (harg10.unread xo8) (harg11.unread xo9) (arg13.view.writes (Elt Ideal) arg13.view.junk (kernelRun0_B.sl.HS0_1 (F := Ideal) )) (k0_t1_loop i).trips).2.2.2) := by
  have h := loop_inv (𝒱 := Variants.none) (c := c) (bd := none) (i := i) (H := H) (t0 := t0) (dk := dk) (dv := dv)
    (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13)
    (v34 := (kernelRun0_B.sl.r (F := Ideal) c arg5 harg5 arg8 harg8 x3 x6)) (v38 := (kernelRun0_B.sl.r_1 (F := Ideal) c arg2 harg2 x0)) (v44 := (kernelRun0_B.sl.v44 )) (v132 := (kernelRun0_B.sl.r_4 (F := Ideal) )) (v220 := (kernelRun0_B.sl.r_5 (F := Ideal) ))
    (X_arg3 := harg3.unread x1) (X_arg4 := harg4.unread x2) (X_arg7 := harg7.unread x5)
    (he := eB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9)
    (hq := qB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9)
    (h44 := v44_at) (hT := pay202_at) (hU := pay206_at)
    (hk := by rw [harg3.read_unread]; exact hx1) (hv := by rw [harg4.read_unread]; exact hx2) (hc := by rw [harg7.read_unread]; exact hx5)
    (ht := ht) (G9 := (arg9.view.writes (Elt Ideal) arg9.view.junk (kernelRun0_B.sl.H7_1 (F := Ideal) ))) (G10 := (harg10.unread xo8)) (G11 := (harg11.unread xo9)) (G13 := (arg13.view.writes (Elt Ideal) arg13.view.junk (kernelRun0_B.sl.HS0_1 (F := Ideal) )))
    (h0 := ?_) (n := (k0_t1_loop i).trips) (hn := le_refl _)
  · rw [← trips1_eq i]
    exact h
  · refine ⟨?_, ?_, ?_, ?_⟩
    · unfold kernelRun0_B.sl.H7_1
      rw [View.read_writes_full]
      exact rd_congr pay207_at fun r d _ _ => (H.dqs_zero _ _).symm
    · rw [harg10.read_unread]
      exact rd_congr hx8 fun s d _ _ => by simp
    · rw [harg11.read_unread]
      exact rd_congr hx9 fun s d _ _ => by simp
    · unfold kernelRun0_B.sl.HS0_1
      rw [View.read_writes_full]
      exact rd_congr pay208_at fun r d _ _ => (H.bef_zero _).symm

theorem v248B : (kernelRun0_B.sl.v248 i) = BitVec.ofNat 32 ((i 1).val / 2) := by
  have h := (i 1).isLt
  simp only [kernelRun0_B.sl.v248, kernelRun0_B.sl.v247, kernelRun0_B.sl.v245, kernelRun0_B.sl.v246, kernelRun0_B.sl.v231, kernelRun0_B.sl.v242, kernelRun0_B.sl.v244, kernelRun0_B.sl.v230, kernelRun0_B.sl.v236, kernelRun0_B.sl.v243, kernelRun0_B.sl.v229, kernelRun0_B.sl.v233, kernelRun0_B.sl.v235, kernelRun0_B.sl.v228, kernelRun0_B.sl.v232, kernelRun0_B.sl.v234, kernelRun0_B.sl.v227]
  generalize (i 1).val = n at h
  have h : n < 16 := h
  clear hpar ht
  revert h n
  decide +kernel

theorem lastB : (Rd (kernelRun0_B.sl.r_6 (F := Ideal) i arg3 harg3 hc2 x1) fun s d => H.k (1024 * ((i 1).val / 2) + s) d) ∧
    (Rd (kernelRun0_B.sl.r_24 (F := Ideal) c i arg2 harg2 arg3 harg3 arg7 harg7 hc2 x0 x1 x5) fun r s => H.w (t0 + r) (1024 * ((i 1).val / 2) + s)) ∧
    (Rd (k0_pay183 (kernelRun0_B.sl.r_8 i) (kernelRun0_B.sl.r_9 (F := Ideal) c i arg2 harg2 arg3 harg3 hc2 x0 x1) (kernelRun0_B.sl.r_25 (F := Ideal) c i arg2 harg2 arg3 harg3 arg4 harg4 arg5 harg5 arg7 harg7 arg8 harg8 hc2 x0 x1 x2 x3 x5 x6) (kernelRun0_B.sl.r_26 (F := Ideal) c i arg2 harg2 arg3 harg3 arg4 harg4 arg5 harg5 arg7 harg7 arg8 harg8 hc2 x0 x1 x2 x3 x5 x6) (kernelRun0_B.sl.r_27 (F := Ideal) c i arg2 harg2 arg3 harg3 arg4 harg4 arg5 harg5 arg7 harg7 arg8 harg8 hc2 x0 x1 x2 x3 x5 x6) (kernelRun0_B.sl.r_28 (F := Ideal) c i arg2 harg2 arg3 harg3 arg4 harg4 arg5 harg5 arg7 harg7 arg8 harg8 hc2 x0 x1 x2 x3 x5 x6) (kernelRun0_B.sl.r_29 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9) (kernelRun0_B.sl.r_30 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9) (kernelRun0_B.sl.r_31 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9) (kernelRun0_B.sl.r_32 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9) (kernelRun0_B.sl.r_33 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9) (kernelRun0_B.sl.r_34 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9) (kernelRun0_B.sl.r_35 (F := Ideal) c i arg2 harg2 arg3 harg3 arg4 harg4 arg5 harg5 arg7 harg7 arg8 harg8 hc2 x0 x1 x2 x3 x5 x6)) fun r s => H.dz (t0 + r) (1024 * ((i 1).val / 2) + s)) := by
  have hi : (i 1).val < 16 := (i 1).isLt
  have L := loopB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
  have h13 : Rd (φ := .f32) (kernelRun0_B.sl.v403 (F := Ideal) c i arg2 harg2 arg3 harg3 arg4 harg4 arg5 harg5 arg6 harg6 arg7 harg7 arg8 harg8 arg9 harg9 arg10 harg10 arg11 harg11 arg12 harg12 arg13 harg13 x0 x1 x2 x3 x5 x6 xo8 xo9) fun r _ => H.bef (t0 + r) (1024 * ((i 1).val / 2)) := by
    unfold kernelRun0_B.sl.v403
    rw [t2_nil, List.nil_append]
    unfold View.readCov
    rw [View.writes_append]
    exact rd_full arg13.view _ _ L.2.2.2 _
  exact full_step H t0 (1024 * ((i 1).val / 2)) ((i 1).val / 2) (by omega) rfl (by omega) (kernelRun0_B.sl.r (F := Ideal) c arg5 harg5 arg8 harg8 x3 x6) (kernelRun0_B.sl.r_1 (F := Ideal) c arg2 harg2 x0)
    (kernelRun0_B.sl.r_2 i) (kernelRun0_B.sl.v43 ) (kernelRun0_B.sl.v44 ) (kernelRun0_B.sl.r_4 (F := Ideal) ) (kernelRun0_B.sl.r_5 (F := Ideal) ) (kernelRun0_B.sl.v248 i) _ _ _ _
    (eB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9) (qB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9) (by rw [ht]; exact pay193_at _ hi) v43_at v44_at pay202_at pay206_at (v248B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9)
    (rd_rows arg3.view _ _ (by rw [harg3.read_unread]; exact hx1) (off4_eq i) _)
    (rd_rows arg4.view _ _ (by rw [harg4.read_unread]; exact hx2) (off4_eq i) _)
    (rd_full arg7.view _ _ (by rw [harg7.read_unread]; exact hx5) _) h13
    (kernelRun0_B.sl.r_6 (F := Ideal) i arg3 harg3 hc2 x1)
    (kernelRun0_B.sl.r_7 (F := Ideal) i arg4 harg4 hc2 x2)
    (kernelRun0_B.sl.r_8 i)
    (kernelRun0_B.sl.r_9 (F := Ideal) c i arg2 harg2 arg3 harg3 hc2 x0 x1)
    (kernelRun0_B.sl.r_10 (F := Ideal) arg7 harg7 x5)
    (kernelRun0_B.sl.r_11 (F := Ideal) c i arg2 harg2 arg3 harg3 hc2 x0 x1)
    (kernelRun0_B.sl.r_12 (F := Ideal) c i arg2 harg2 arg3 harg3 hc2 x0 x1)
    (kernelRun0_B.sl.r_13 (F := Ideal) c i arg2 harg2 arg3 harg3 hc2 x0 x1)
    (kernelRun0_B.sl.r_14 (F := Ideal) c i arg2 harg2 arg3 harg3 hc2 x0 x1)
    (kernelRun0_B.sl.r_15 (F := Ideal) c i arg2 harg2 arg3 harg3 hc2 x0 x1)
    (kernelRun0_B.sl.r_16 (F := Ideal) c i arg2 harg2 arg3 harg3 hc2 x0 x1)
    (kernelRun0_B.sl.r_17 (F := Ideal) c i arg2 harg2 arg3 harg3 hc2 x0 x1)
    (kernelRun0_B.sl.r_18 (F := Ideal) c i arg2 harg2 arg3 harg3 hc2 x0 x1)
    (kernelRun0_B.sl.r_19 (F := Ideal) c i arg2 harg2 arg3 harg3 hc2 x0 x1)
    (kernelRun0_B.sl.r_20 (F := Ideal) c i arg2 harg2 arg3 harg3 arg7 harg7 hc2 x0 x1 x5)
    (kernelRun0_B.sl.r_21 (F := Ideal) c i arg2 harg2 arg3 harg3 arg7 harg7 hc2 x0 x1 x5)
    (kernelRun0_B.sl.r_22 (F := Ideal) c i arg2 harg2 arg3 harg3 arg7 harg7 hc2 x0 x1 x5)
    (kernelRun0_B.sl.r_23 (F := Ideal) c i arg2 harg2 arg3 harg3 arg7 harg7 hc2 x0 x1 x5)
    (kernelRun0_B.sl.r_24 (F := Ideal) c i arg2 harg2 arg3 harg3 arg7 harg7 hc2 x0 x1 x5)
    (kernelRun0_B.sl.r_25 (F := Ideal) c i arg2 harg2 arg3 harg3 arg4 harg4 arg5 harg5 arg7 harg7 arg8 harg8 hc2 x0 x1 x2 x3 x5 x6)
    (kernelRun0_B.sl.r_26 (F := Ideal) c i arg2 harg2 arg3 harg3 arg4 harg4 arg5 harg5 arg7 harg7 arg8 harg8 hc2 x0 x1 x2 x3 x5 x6)
    (kernelRun0_B.sl.r_27 (F := Ideal) c i arg2 harg2 arg3 harg3 arg4 harg4 arg5 harg5 arg7 harg7 arg8 harg8 hc2 x0 x1 x2 x3 x5 x6)
    (kernelRun0_B.sl.r_28 (F := Ideal) c i arg2 harg2 arg3 harg3 arg4 harg4 arg5 harg5 arg7 harg7 arg8 harg8 hc2 x0 x1 x2 x3 x5 x6)
    (kernelRun0_B.sl.r_29 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9)
    (kernelRun0_B.sl.r_30 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9)
    (kernelRun0_B.sl.r_31 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9)
    (kernelRun0_B.sl.r_32 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9)
    (kernelRun0_B.sl.r_33 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9)
    (kernelRun0_B.sl.r_34 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9)
    (kernelRun0_B.sl.r_35 (F := Ideal) c i arg2 harg2 arg3 harg3 arg4 harg4 arg5 harg5 arg7 harg7 arg8 harg8 hc2 x0 x1 x2 x3 x5 x6)
    rfl rfl rfl rfl rfl rfl rfl rfl rfl rfl rfl rfl rfl rfl rfl rfl rfl rfl rfl rfl rfl rfl rfl rfl rfl rfl rfl rfl rfl rfl

/-- The gradient of the queries of the block. -/
theorem out7B (v : View sig .tc .vmem S512x128 .f32) (f : v.ty.Contents (Elt Ideal)) :
    Rd (φ := .f32) (v.read (Elt Ideal) (v.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9).1)) fun r d => H.dqs 8192 (t0 + r) d * sc := by
  have hi : (i 1).val < 16 := (i 1).isLt
  have L := loopB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
  have T := lastB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
  have h9 : Rd (φ := .f32) (kernelRun0_B.sl.v485 (F := Ideal) c i arg2 harg2 arg3 harg3 arg4 harg4 arg5 harg5 arg6 harg6 arg7 harg7 arg8 harg8 arg9 harg9 arg10 harg10 arg11 harg11 arg12 harg12 arg13 harg13 x0 x1 x2 x3 x5 x6 xo8 xo9) fun r d => H.dqs (1024 * ((i 1).val / 2)) (t0 + r) d := by
    unfold kernelRun0_B.sl.v485
    rw [t2_nil, List.nil_append]
    unfold View.readCov
    rw [View.writes_append]
    exact rd_full arg9.view _ _ L.1 _
  have h264 : Rd (φ := .f32) (kernelRun0_B.sl.v264 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9) fun r d => H.dqs 8192 (t0 + r) d := by
    unfold kernelRun0_B.sl.v264 kernelRun0_B.sl.H7_1_1
    rw [View.readCov_full]
    exact rd_congr (pay184_at H t0 _ _ _ _ _ _ _ _ _ _ _ _ _ _ _ _ _ T.1 h9 T.2.2) fun r d hr _ => by
      rw [Head.dqs_add]; exact Head.dqs_all H d (by omega) (by omega)
  unfold kernelRun0_B
  dsimp only
  rw [View.read_writes_full]
  exact pay8_at _ _ h264

/-- The gradient of the keys so far. -/
theorem out8B : Rd (φ := .f32) (arg10.view.read (Elt Ideal) (arg10.view.writes (Elt Ideal) (harg10.unread xo8) (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9).2.1)) fun s d => dk s d + H.dkb t0 s d := by
  have hi : (i 1).val < 16 := (i 1).isLt
  have L := (loopB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9).2.1
  have T := lastB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
  have h10 : Rd (φ := .f32) (kernelRun0_B.sl.v491 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9) fun s d => dk (1024 * ((i 1).val / 2) + s) d + if 1024 * ((i 1).val / 2) + s < 1024 * ((i 1).val / 2) then H.dkb t0 (1024 * ((i 1).val / 2) + s) d else 0 := by
    unfold kernelRun0_B.sl.v491
    rw [t2_nil, List.nil_append]
    exact rd_rows arg10.view _ _ L (off4_eq i) _
  unfold kernelRun0_B
  dsimp only
  rw [t2_nil, List.nil_append]
  refine rd_congr (rd_add (rd_put (L := _) arg10.view (harg10.unread xo8) _ L (off4_eq i) _ (pay6_at _ _ _ _ (pay185_at _ _ h10) (pay186_at H t0 _ _ _ _ _ _ _ _ _ _ _ _ _ _ _ (qB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9) T.2.2)))) fun s d _ _ => ?_
  rw [Head.dkb_end H d (by omega)]

/-- The gradient of the values so far. -/
theorem out9B : Rd (φ := .f32) (arg11.view.read (Elt Ideal) (arg11.view.writes (Elt Ideal) (harg11.unread xo9) (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9).2.2.1)) fun s d => dv s d + H.dvb t0 s d := by
  have hi : (i 1).val < 16 := (i 1).isLt
  have L := (loopB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9).2.2.1
  have T := lastB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
  have h11 : Rd (φ := .f32) (kernelRun0_B.sl.v498 (F := Ideal) c i arg2 harg2 arg3 harg3 arg4 harg4 arg5 harg5 arg6 harg6 arg7 harg7 arg8 harg8 arg9 harg9 arg10 harg10 arg11 harg11 arg12 harg12 arg13 harg13 hc2 x0 x1 x2 x3 x5 x6 xo8 xo9) fun s d => dv (1024 * ((i 1).val / 2) + s) d + if 1024 * ((i 1).val / 2) + s < 1024 * ((i 1).val / 2) then H.dvb t0 (1024 * ((i 1).val / 2) + s) d else 0 := by
    unfold kernelRun0_B.sl.v498
    rw [t2_nil, List.nil_append]
    exact rd_rows arg11.view _ _ L (off4_eq i) _
  unfold kernelRun0_B
  dsimp only
  rw [t2_nil, List.nil_append]
  refine rd_congr (rd_add (rd_put (L := _) arg11.view (harg11.unread xo9) _ L (off4_eq i) _ (pay7_at H t0 _ _ _ _ _ (eB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9) T.2.1 h11))) fun s d _ _ => ?_
  rw [Head.dvb_end H d (by omega)]

/-- The gradient of the gate. -/
theorem out10B (v : View sig .tc .vmem S512x128 .bf16) (f : v.ty.Contents (Elt Ideal)) :
    Rd (φ := .bf16) (v.read (Elt Ideal) (v.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9).2.2.2.1)) fun r s => fd r s * fo r s * (sg (fg r s) * (1 + fg r s * (1 - sg (fg r s)))) := by
  unfold kernelRun0_B
  dsimp only
  unfold kernelRun0_B.sl.H10_1
  rw [View.read_writes_full]
  refine pay190_at _ _ _ fg fd fo (rd_full arg5.view _ _ (by rw [harg5.read_unread]; exact hx3) _) ?_ (rd_full arg6.view _ _ (by rw [harg6.read_unread]; exact hx4) _)
  intro r s
  exact (congrFun (View.readAt_full (Val := Elt Ideal) arg8.view _ _) _).trans (by rw [harg8.read_unread]; exact hx6 r s)

end Cert.KernelIdeal.Pay
-- ==== Proof.RunCV.lean ====
/-
  What the kernel's body leaves in its blocks in case C: a later block of queries whose diagonal fills half a block of 1024 keys.
-/
module

public import proofs.«01_k».proof.Proof.Gen.KernelIdeal.Frame.RunC
public import proofs.«01_k».proof.Proof.RunPre

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)

variable (c : Dev nD) (i : grid0.Coords) (arg2 : Memref sig .tc .vmem S512x128 .f32) (harg2 : arg2.IsWhole)
  (arg3 : Memref sig .tc .vmem S8192x128 .f32) (harg3 : arg3.IsWhole) (arg4 : Memref sig .tc .vmem S8192x128 .f32)
  (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .f32)
  (harg7 : arg7.IsWhole) (arg8 : Memref sig .tc .vmem S1x512x128 .f32) (harg8 : arg8.IsWhole)
  (arg9 : Memref sig .tc .vmem S512x128 .f32) (harg9 : arg9.IsWhole) (arg10 : Memref sig .tc .vmem S8192x128 .f32)
  (harg10 : arg10.IsWhole) (arg11 : Memref sig .tc .vmem S8192x128 .f32) (harg11 : arg11.IsWhole)
  (arg12 : Memref sig .tc .vmem S512x128 .bf16) (harg12 : arg12.IsWhole) (arg13 : Memref sig .tc .vmem S512x128 .f32)
  (harg13 : arg13.IsWhole) (hc0 : ¬cond0_0 i) (hc1 : cond0_1 i) (hc2 : ¬cond0_2 i) (x0 : Vec Ideal S512x128 .f32)
  (x1 : Vec Ideal S8192x128 .f32) (x2 : Vec Ideal S8192x128 .f32) (x3 : Vec Ideal S512x128 .f32)
  (x4 : Vec Ideal S512x128 .f32) (x5 : Vec Ideal S512x128 .f32) (x6 : Vec Ideal S1x512x128 .f32)
  (xo8 : Vec Ideal S8192x128 .f32) (xo9 : Vec Ideal S8192x128 .f32)
  (H : Head) (t0 : ℕ) (fq fg fo fd dk dv : ℕ → ℕ → ℝ)
  (ht : t0 = 512 * (i 1).val) (hpar : (i 1).val % 2 = 0)
  (hx0 : Rd (φ := .f32) x0 fq) (hx1 : Rd (φ := .f32) x1 H.k) (hx2 : Rd (φ := .f32) x2 H.v) (hx3 : Rd (φ := .f32) x3 fg)
  (hx4 : Rd (φ := .f32) x4 fo) (hx5 : Rd (φ := .f32) x5 fun r n => H.car (t0 + r) n)
  (hx6 : ∀ (r : Fin 512) (s : Fin 128), x6 (ix3 (0 : Fin 1) r s) = ((fd r s : ℝ) : EReal))
  (hq : ∀ r d, H.q (t0 + r) d = fq r d * sc) (he : ∀ r s, H.e (t0 + r) s = fd r s * (fg r s * sg (fg r s)))
  (hx8 : Rd (φ := .f32) xo8 dk) (hx9 : Rd (φ := .f32) xo9 dv)
include c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
set_option maxHeartbeats 2000000

theorem qC : Rd (kernelRun0_C.sl.r_1 (F := Ideal) c arg2 harg2 x0) fun r d => H.q (t0 + r) d := by
  unfold kernelRun0_C.sl.r_1
  exact rd_congr (pay192_at _ _ (rd_full arg2.view _ _ (by rw [harg2.read_unread]; exact hx0) _)) fun r d _ _ => (hq r d).symm

theorem eC : Rd (kernelRun0_C.sl.r (F := Ideal) c arg5 harg5 arg8 harg8 x3 x6) fun r d => H.e (t0 + r) d := by
  unfold kernelRun0_C.sl.r
  refine rd_congr (pay191_at _ _ fg fd (rd_full arg5.view _ _ (by rw [harg5.read_unread]; exact hx3) _) ?_) fun r d _ _ => (he r d).symm
  intro r s
  exact (congrFun (View.readAt_full (Val := Elt Ideal) arg8.view _ _) _).trans (by rw [harg8.read_unread]; exact hx6 r s)

/-- What the buffers hold when the loop is done. -/
theorem loopC : Inv arg9 arg10 arg11 arg13 H t0 ((i 1).val / 2) dk dv
    (arg9.view.writes (Elt Ideal) (arg9.view.writes (Elt Ideal) arg9.view.junk (kernelRun0_C.sl.H7_1 (F := Ideal) )) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_C.sl.r (F := Ideal) c arg5 harg5 arg8 harg8 x3 x6) (kernelRun0_C.sl.r_1 (F := Ideal) c arg2 harg2 x0) (kernelRun0_C.sl.v44 ) (kernelRun0_C.sl.r_4 (F := Ideal) ) (kernelRun0_C.sl.r_5 (F := Ideal) ) 0#32 (harg3.unread x1) (harg4.unread x2) (harg7.unread x5) (arg9.view.writes (Elt Ideal) arg9.view.junk (kernelRun0_C.sl.H7_1 (F := Ideal) )) (harg10.unread xo8) (harg11.unread xo9) (arg13.view.writes (Elt Ideal) arg13.view.junk (kernelRun0_C.sl.HS0_1 (F := Ideal) )) (k0_t1_loop i).trips).1)
    (arg10.view.writes (Elt Ideal) (harg10.unread xo8) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_C.sl.r (F := Ideal) c arg5 harg5 arg8 harg8 x3 x6) (kernelRun0_C.sl.r_1 (F := Ideal) c arg2 harg2 x0) (kernelRun0_C.sl.v44 ) (kernelRun0_C.sl.r_4 (F := Ideal) ) (kernelRun0_C.sl.r_5 (F := Ideal) ) 0#32 (harg3.unread x1) (harg4.unread x2) (harg7.unread x5) (arg9.view.writes (Elt Ideal) arg9.view.junk (kernelRun0_C.sl.H7_1 (F := Ideal) )) (harg10.unread xo8) (harg11.unread xo9) (arg13.view.writes (Elt Ideal) arg13.view.junk (kernelRun0_C.sl.HS0_1 (F := Ideal) )) (k0_t1_loop i).trips).2.1)
    (arg11.view.writes (Elt Ideal) (harg11.unread xo9) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_C.sl.r (F := Ideal) c arg5 harg5 arg8 harg8 x3 x6) (kernelRun0_C.sl.r_1 (F := Ideal) c arg2 harg2 x0) (kernelRun0_C.sl.v44 ) (kernelRun0_C.sl.r_4 (F := Ideal) ) (kernelRun0_C.sl.r_5 (F := Ideal) ) 0#32 (harg3.unread x1) (harg4.unread x2) (harg7.unread x5) (arg9.view.writes (Elt Ideal) arg9.view.junk (kernelRun0_C.sl.H7_1 (F := Ideal) )) (harg10.unread xo8) (harg11.unread xo9) (arg13.view.writes (Elt Ideal) arg13.view.junk (kernelRun0_C.sl.HS0_1 (F := Ideal) )) (k0_t1_loop i).trips).2.2.1)
    (arg13.view.writes (Elt Ideal) (arg13.view.writes (Elt Ideal) arg13.view.junk (kernelRun0_C.sl.HS0_1 (F := Ideal) )) (pb_k0_t1 (F := Ideal) Variants.none c none i arg2 harg2 arg3 harg3 arg4 harg4 arg5 harg5 arg6 harg6 arg7 harg7 arg8 harg8 arg9 harg9 arg10 harg10 arg11 harg11 arg12 harg12 arg13 harg13 (kernelRun0_C.sl.r (F := Ideal) c arg5 harg5 arg8 harg8 x3 x6) (kernelRun0_C.sl.r_1 (F := Ideal) c arg2 harg2 x0) (kernelRun0_C.sl.v44 ) (kernelRun0_C.sl.r_4 (F := Ideal) ) (kernelRun0_C.sl.r_5 (F := Ideal) ) 0#32 (harg3.unread x1) (harg4.unread x2) (harg7.unread x5) (arg9.view.writes (Elt Ideal) arg9.view.junk (kernelRun0_C.sl.H7_1 (F := Ideal) )) (harg10.unread xo8) (harg11.unread xo9) (arg13.view.writes (Elt Ideal) arg13.view.junk (kernelRun0_C.sl.HS0_1 (F := Ideal) )) (k0_t1_loop i).trips).2.2.2) := by
  have h := loop_inv (𝒱 := Variants.none) (c := c) (bd := none) (i := i) (H := H) (t0 := t0) (dk := dk) (dv := dv)
    (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13)
    (v34 := (kernelRun0_C.sl.r (F := Ideal) c arg5 harg5 arg8 harg8 x3 x6)) (v38 := (kernelRun0_C.sl.r_1 (F := Ideal) c arg2 harg2 x0)) (v44 := (kernelRun0_C.sl.v44 )) (v132 := (kernelRun0_C.sl.r_4 (F := Ideal) )) (v220 := (kernelRun0_C.sl.r_5 (F := Ideal) ))
    (X_arg3 := harg3.unread x1) (X_arg4 := harg4.unread x2) (X_arg7 := harg7.unread x5)
    (he := eC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9)
    (hq := qC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9)
    (h44 := v44_at) (hT := pay202_at) (hU := pay206_at)
    (hk := by rw [harg3.read_unread]; exact hx1) (hv := by rw [harg4.read_unread]; exact hx2) (hc := by rw [harg7.read_unread]; exact hx5)
    (ht := ht) (G9 := (arg9.view.writes (Elt Ideal) arg9.view.junk (kernelRun0_C.sl.H7_1 (F := Ideal) ))) (G10 := (harg10.unread xo8)) (G11 := (harg11.unread xo9)) (G13 := (arg13.view.writes (Elt Ideal) arg13.view.junk (kernelRun0_C.sl.HS0_1 (F := Ideal) )))
    (h0 := ?_) (n := (k0_t1_loop i).trips) (hn := le_refl _)
  · rw [← trips1_eq i]
    exact h
  · refine ⟨?_, ?_, ?_, ?_⟩
    · unfold kernelRun0_C.sl.H7_1
      rw [View.read_writes_full]
      exact rd_congr pay207_at fun r d _ _ => (H.dqs_zero _ _).symm
    · rw [harg10.read_unread]
      exact rd_congr hx8 fun s d _ _ => by simp
    · rw [harg11.read_unread]
      exact rd_congr hx9 fun s d _ _ => by simp
    · unfold kernelRun0_C.sl.HS0_1
      rw [View.read_writes_full]
      exact rd_congr pay208_at fun r d _ _ => (H.bef_zero _).symm

theorem v248C : (kernelRun0_C.sl.v248 i) = BitVec.ofNat 32 ((i 1).val / 2) := by
  have h := (i 1).isLt
  simp only [kernelRun0_C.sl.v248, kernelRun0_C.sl.v247, kernelRun0_C.sl.v245, kernelRun0_C.sl.v246, kernelRun0_C.sl.v231, kernelRun0_C.sl.v242, kernelRun0_C.sl.v244, kernelRun0_C.sl.v230, kernelRun0_C.sl.v236, kernelRun0_C.sl.v243, kernelRun0_C.sl.v229, kernelRun0_C.sl.v233, kernelRun0_C.sl.v235, kernelRun0_C.sl.v228, kernelRun0_C.sl.v232, kernelRun0_C.sl.v234, kernelRun0_C.sl.v227]
  generalize (i 1).val = n at h
  have h : n < 16 := h
  clear hpar ht
  revert h n
  decide +kernel

theorem lastC : (Rd (kernelRun0_C.sl.r_6 (F := Ideal) i arg3 harg3 hc1 x1) fun s d => H.k (1024 * ((i 1).val / 2) + s) d) ∧
    (Rd (kernelRun0_C.sl.r_16 (F := Ideal) c i arg2 harg2 arg3 harg3 arg7 harg7 hc1 x0 x1 x5) fun r s => H.w (t0 + r) (1024 * ((i 1).val / 2) + s)) ∧
    (Rd (kernelRun0_C.sl.r_19 (F := Ideal) c i arg2 harg2 arg3 harg3 arg4 harg4 arg5 harg5 arg6 harg6 arg7 harg7 arg8 harg8 arg9 harg9 arg10 harg10 arg11 harg11 arg12 harg12 arg13 harg13 hc1 x0 x1 x2 x3 x5 x6 xo8 xo9) fun r s => H.dz (t0 + r) (1024 * ((i 1).val / 2) + s)) := by
  have hi : (i 1).val < 16 := (i 1).isLt
  have L := loopC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
  have h13 : Rd (φ := .f32) (kernelRun0_C.sl.v355 (F := Ideal) c i arg2 harg2 arg3 harg3 arg4 harg4 arg5 harg5 arg6 harg6 arg7 harg7 arg8 harg8 arg9 harg9 arg10 harg10 arg11 harg11 arg12 harg12 arg13 harg13 x0 x1 x2 x3 x5 x6 xo8 xo9) fun r _ => H.bef (t0 + r) (1024 * ((i 1).val / 2)) := by
    unfold kernelRun0_C.sl.v355
    rw [t2_nil, List.nil_append]
    unfold View.readCov
    rw [View.writes_append]
    exact rd_full arg13.view _ _ L.2.2.2 _
  exact half_step H t0 (1024 * ((i 1).val / 2)) ((i 1).val / 2) (by omega) rfl (by omega) (kernelRun0_C.sl.r (F := Ideal) c arg5 harg5 arg8 harg8 x3 x6) (kernelRun0_C.sl.r_1 (F := Ideal) c arg2 harg2 x0)
    (kernelRun0_C.sl.r_2 i) (kernelRun0_C.sl.v43 ) (kernelRun0_C.sl.v44 ) (kernelRun0_C.sl.r_4 (F := Ideal) ) (kernelRun0_C.sl.r_5 (F := Ideal) ) (kernelRun0_C.sl.v248 i) _ _ _ _
    (eC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9) (qC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9) (by rw [ht]; exact pay193_at _ hi) v43_at v44_at pay202_at pay206_at (v248C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9)
    (rd_rows arg3.view _ _ (by rw [harg3.read_unread]; exact hx1) (off3_eq i) _)
    (rd_rows arg4.view _ _ (by rw [harg4.read_unread]; exact hx2) (off3_eq i) _)
    (rd_full arg7.view _ _ (by rw [harg7.read_unread]; exact hx5) _) h13
    (kernelRun0_C.sl.r_6 (F := Ideal) i arg3 harg3 hc1 x1)
    (kernelRun0_C.sl.r_7 (F := Ideal) i arg4 harg4 hc1 x2)
    (kernelRun0_C.sl.r_8 i)
    (kernelRun0_C.sl.r_9 (F := Ideal) c i arg2 harg2 arg3 harg3 hc1 x0 x1)
    (kernelRun0_C.sl.r_10 (F := Ideal) arg7 harg7 x5)
    (kernelRun0_C.sl.r_11 (F := Ideal) c i arg2 harg2 arg3 harg3 hc1 x0 x1)
    (kernelRun0_C.sl.r_12 (F := Ideal) c i arg2 harg2 arg3 harg3 hc1 x0 x1)
    (kernelRun0_C.sl.r_13 (F := Ideal) c i arg2 harg2 arg3 harg3 hc1 x0 x1)
    (kernelRun0_C.sl.r_14 (F := Ideal) c i arg2 harg2 arg3 harg3 hc1 x0 x1)
    (kernelRun0_C.sl.r_15 (F := Ideal) i arg7 harg7 x5)
    (kernelRun0_C.sl.r_16 (F := Ideal) c i arg2 harg2 arg3 harg3 arg7 harg7 hc1 x0 x1 x5)
    (kernelRun0_C.sl.r_17 (F := Ideal) c i arg2 harg2 arg3 harg3 arg4 harg4 arg5 harg5 arg7 harg7 arg8 harg8 hc1 x0 x1 x2 x3 x5 x6)
    (kernelRun0_C.sl.r_18 (F := Ideal) c i arg2 harg2 arg3 harg3 arg4 harg4 arg5 harg5 arg7 harg7 arg8 harg8 hc1 x0 x1 x2 x3 x5 x6)
    (kernelRun0_C.sl.r_19 (F := Ideal) c i arg2 harg2 arg3 harg3 arg4 harg4 arg5 harg5 arg6 harg6 arg7 harg7 arg8 harg8 arg9 harg9 arg10 harg10 arg11 harg11 arg12 harg12 arg13 harg13 hc1 x0 x1 x2 x3 x5 x6 xo8 xo9)
    rfl rfl rfl rfl rfl rfl rfl rfl rfl rfl rfl rfl rfl rfl

/-- The gradient of the queries of the block. -/
theorem out7C (v : View sig .tc .vmem S512x128 .f32) (f : v.ty.Contents (Elt Ideal)) :
    Rd (φ := .f32) (v.read (Elt Ideal) (v.writes (Elt Ideal) f (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9).1)) fun r d => H.dqs 8192 (t0 + r) d * sc := by
  have hi : (i 1).val < 16 := (i 1).isLt
  have L := loopC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
  have T := lastC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
  have h9 : Rd (φ := .f32) (kernelRun0_C.sl.v403 (F := Ideal) c i arg2 harg2 arg3 harg3 arg4 harg4 arg5 harg5 arg6 harg6 arg7 harg7 arg8 harg8 arg9 harg9 arg10 harg10 arg11 harg11 arg12 harg12 arg13 harg13 x0 x1 x2 x3 x5 x6 xo8 xo9) fun r d => H.dqs (1024 * ((i 1).val / 2)) (t0 + r) d := by
    unfold kernelRun0_C.sl.v403
    rw [t2_nil, List.nil_append]
    unfold View.readCov
    rw [View.writes_append]
    exact rd_full arg9.view _ _ L.1 _
  have h264 : Rd (φ := .f32) (kernelRun0_C.sl.v264 (F := Ideal) c i arg2 harg2 arg3 harg3 arg4 harg4 arg5 harg5 arg6 harg6 arg7 harg7 arg8 harg8 arg9 harg9 arg10 harg10 arg11 harg11 arg12 harg12 arg13 harg13 hc1 x0 x1 x2 x3 x5 x6 xo8 xo9) fun r d => H.dqs 8192 (t0 + r) d := by
    unfold kernelRun0_C.sl.v264 kernelRun0_C.sl.H7_1_1
    rw [View.readCov_full]
    exact rd_congr (pay3_at H t0 _ _ _ _ _ T.2.2 T.1 h9) fun r d hr _ => by
      rw [Head.dqs_add]; exact Head.dqs_all H d (by omega) (by omega)
  unfold kernelRun0_C
  dsimp only
  rw [View.read_writes_full]
  exact pay8_at _ _ h264

/-- The gradient of the keys so far. -/
theorem out8C : Rd (φ := .f32) (arg10.view.read (Elt Ideal) (arg10.view.writes (Elt Ideal) (harg10.unread xo8) (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9).2.1)) fun s d => dk s d + H.dkb t0 s d := by
  have hi : (i 1).val < 16 := (i 1).isLt
  have L := (loopC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9).2.1
  have T := lastC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
  have h10 : Rd (φ := .f32) (kernelRun0_C.sl.v409 (F := Ideal) c i arg2 harg2 arg3 harg3 arg4 harg4 arg5 harg5 arg6 harg6 arg7 harg7 arg8 harg8 arg9 harg9 arg10 harg10 arg11 harg11 arg12 harg12 arg13 harg13 hc1 x0 x1 x2 x3 x5 x6 xo8 xo9) fun s d => dk (1024 * ((i 1).val / 2) + s) d + if 1024 * ((i 1).val / 2) + s < 1024 * ((i 1).val / 2) then H.dkb t0 (1024 * ((i 1).val / 2) + s) d else 0 := by
    unfold kernelRun0_C.sl.v409
    rw [t2_nil, List.nil_append]
    exact rd_rows arg10.view _ _ L (off3_eq i) _
  unfold kernelRun0_C
  dsimp only
  rw [t2_nil, List.nil_append]
  refine rd_congr (rd_add (rd_put (L := _) arg10.view (harg10.unread xo8) _ L (off3_eq i) _ (pay4_at H t0 _ _ _ _ _ T.2.2 (qC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9) h10))) fun s d _ _ => ?_
  rw [Head.dkb_end H d (by omega)]

/-- The gradient of the values so far. -/
theorem out9C : Rd (φ := .f32) (arg11.view.read (Elt Ideal) (arg11.view.writes (Elt Ideal) (harg11.unread xo9) (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9).2.2.1)) fun s d => dv s d + H.dvb t0 s d := by
  have hi : (i 1).val < 16 := (i 1).isLt
  have L := (loopC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9).2.2.1
  have T := lastC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9
  have h11 : Rd (φ := .f32) (kernelRun0_C.sl.v416 (F := Ideal) c i arg2 harg2 arg3 harg3 arg4 harg4 arg5 harg5 arg6 harg6 arg7 harg7 arg8 harg8 arg9 harg9 arg10 harg10 arg11 harg11 arg12 harg12 arg13 harg13 hc1 x0 x1 x2 x3 x5 x6 xo8 xo9) fun s d => dv (1024 * ((i 1).val / 2) + s) d + if 1024 * ((i 1).val / 2) + s < 1024 * ((i 1).val / 2) then H.dvb t0 (1024 * ((i 1).val / 2) + s) d else 0 := by
    unfold kernelRun0_C.sl.v416
    rw [t2_nil, List.nil_append]
    exact rd_rows arg11.view _ _ L (off3_eq i) _
  unfold kernelRun0_C
  dsimp only
  rw [t2_nil, List.nil_append]
  refine rd_congr (rd_add (rd_put (L := _) arg11.view (harg11.unread xo9) _ L (off3_eq i) _ (pay5_at H t0 _ _ _ _ _ T.2.1 (eC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9 H t0 fq fg fo fd dk dv ht hpar hx0 hx1 hx2 hx3 hx4 hx5 hx6 hq he hx8 hx9) h11))) fun s d _ _ => ?_
  rw [Head.dvb_end H d (by omega)]

/-- The gradient of the gate. -/
theorem out10C (v : View sig .tc .vmem S512x128 .bf16) (f : v.ty.Contents (Elt Ideal)) :
    Rd (φ := .bf16) (v.read (Elt Ideal) (v.writes (Elt Ideal) f (kernelRun0_C (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo8 xo9).2.2.2.1)) fun r s => fd r s * fo r s * (sg (fg r s) * (1 + fg r s * (1 - sg (fg r s)))) := by
  unfold kernelRun0_C
  dsimp only
  unfold kernelRun0_C.sl.H10_1
  rw [View.read_writes_full]
  refine pay190_at _ _ _ fg fd fo (rd_full arg5.view _ _ (by rw [harg5.read_unread]; exact hx3) _) ?_ (rd_full arg6.view _ _ (by rw [harg6.read_unread]; exact hx4) _)
  intro r s
  exact (congrFun (View.readAt_full (Val := Elt Ideal) arg8.view _ _) _).trans (by rw [harg8.read_unread]; exact hx6 r s)

end Cert.KernelIdeal.Pay
-- ==== Proof.Point.lean ====
/-
  What the kernel's four output buffers hold after each grid point, from the arrays the kernel is given: by induction over
  the points, since the gradients of the keys and values are added up over a head's sixteen blocks of queries.
-/
module

public import proofs.«01_k».proof.Proof.Gen.KernelIdeal.Frame
public import proofs.«01_k».proof.Proof.Gen.KernelIdeal.Value
public import proofs.«01_k».proof.Proof.RunAV
public import proofs.«01_k».proof.Proof.RunBV
public import proofs.«01_k».proof.Proof.RunCV

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Finset (range)

/-- Head `h` of the projections `P` and the gradient `D`. -/
def Hd (P D : ℕ → ℕ → ℝ) (h : ℕ) : Head where
  q t d := P t (128 * h + d) * sc
  k s d := P s (1024 + 128 * h + d)
  v s d := P s (2048 + 128 * h + d)
  e t d := D t (128 * h + d) * (P t (3072 + 128 * h + d) * sg (P t (3072 + 128 * h + d)))

/-- The gradient of the gate. -/
def dgate (P D O : ℕ → ℕ → ℝ) (t j : ℕ) : ℝ :=
  D t j * O t j * (sg (P t (3072 + j)) * (1 + P t (3072 + j) * (1 - sg (P t (3072 + j)))))

theorem idx : ∀ t : Fin cfg0.N, win0_0.index t = ![t.val % 16, t.val / 16] ∧ win0_1.index t = ![0, 8 + t.val / 16]
    ∧ win0_2.index t = ![0, 16 + t.val / 16] ∧ win0_3.index t = ![t.val % 16, 24 + t.val / 16]
    ∧ win0_4.index t = ![t.val % 16, t.val / 16] ∧ win0_5.index t = ![t.val % 16, t.val / 16]
    ∧ win0_6.index t = ![0, t.val % 16, t.val / 16] ∧ win0_7.index t = ![t.val % 16, t.val / 16]
    ∧ win0_8.index t = ![0, t.val / 16] ∧ win0_9.index t = ![0, t.val / 16] ∧ win0_10.index t = ![t.val % 16, t.val / 16] :=
  (by decide +kernel : ∀ t : Fin grid0.N, _)

theorem coords_val : ∀ t : Fin cfg0.N, (grid0.coords t 1).val = t.val % 16 :=
  (by decide +kernel : ∀ t : Fin grid0.N, _)

variable (m : (ℓ : Loc nD τ sig) → Buf (Elt Ideal) ℓ) (c : Dev nD) (P D O : ℕ → ℕ → ℝ)
  (hP : ∀ (r : Fin 8192) (j : Fin 18432), m ((c : Thread nD τ).loc main_arg0) (ix2 r j) = ((P r j : ℝ) : EReal))
  (hD : ∀ (r : Fin 8192) (j : Fin 1024), m ((c : Thread nD τ).loc main_arg1) (ix3 (0 : Fin 4) r j) = ((D r j : ℝ) : EReal))
  (hO : ∀ (r : Fin 8192) (j : Fin 1024), V m c main_v27 (ix2 r j) = ((O r j : ℝ) : EReal))
  (hC : ∀ (r : Fin 8192) (j : Fin 1024), V m c main_v31 (ix2 r j) = (((Hd P D (j.val / 128)).car r (j.val % 128) : ℝ) : EReal))

theorem N128 (t : Fin cfg0.N) : t.val < 128 := lt_of_lt_of_eq t.isLt (show cfg0.N = 128 from N_0)

section Blocks
include hP
theorem blk0 (t : Fin cfg0.N) : Rd (n := 512) (m := 128) (φ := .f32) (iblk m c 0 t) fun r d => P (512 * (t.val % 16) + r) (128 * (t.val / 16) + d) := by
  intro r s
  have := N128 t; have := r.isLt; have := s.isLt
  refine Eq.trans ?_ (hP ⟨512 * (t.val % 16) + r.val, by omega⟩ ⟨128 * (t.val / 16) + s.val, by omega⟩)
  blk_ext [iblk, V, idx t]
theorem blk1 (t : Fin cfg0.N) : Rd (n := 8192) (m := 128) (φ := .f32) (iblk m c 1 t) (Hd P D (t.val / 16)).k := by
  intro r s
  have := N128 t; have := r.isLt; have := s.isLt
  refine Eq.trans ?_ (hP ⟨r.val, by omega⟩ ⟨1024 + 128 * (t.val / 16) + s.val, by omega⟩)
  blk_ext [iblk, V, idx t]
theorem blk2 (t : Fin cfg0.N) : Rd (n := 8192) (m := 128) (φ := .f32) (iblk m c 2 t) (Hd P D (t.val / 16)).v := by
  intro r s
  have := N128 t; have := r.isLt; have := s.isLt
  refine Eq.trans ?_ (hP ⟨r.val, by omega⟩ ⟨2048 + 128 * (t.val / 16) + s.val, by omega⟩)
  blk_ext [iblk, V, idx t]
theorem blk3 (t : Fin cfg0.N) : Rd (n := 512) (m := 128) (φ := .f32) (iblk m c 3 t) fun r d => P (512 * (t.val % 16) + r) (3072 + 128 * (t.val / 16) + d) := by
  intro r s
  have := N128 t; have := r.isLt; have := s.isLt
  refine Eq.trans ?_ (hP ⟨512 * (t.val % 16) + r.val, by omega⟩ ⟨3072 + 128 * (t.val / 16) + s.val, by omega⟩)
  blk_ext [iblk, V, idx t]
end Blocks

include hO in
theorem blk4 (t : Fin cfg0.N) : Rd (n := 512) (m := 128) (φ := .f32) (iblk m c 4 t) fun r d => O (512 * (t.val % 16) + r) (128 * (t.val / 16) + d) := by
  intro r s
  have := N128 t; have := r.isLt; have := s.isLt
  refine Eq.trans ?_ (hO ⟨512 * (t.val % 16) + r.val, by omega⟩ ⟨128 * (t.val / 16) + s.val, by omega⟩)
  blk_ext [iblk, idx t]

include hC in
theorem blk5 (t : Fin cfg0.N) : Rd (n := 512) (m := 128) (φ := .f32) (iblk m c 5 t) fun r d => (Hd P D (t.val / 16)).car (512 * (t.val % 16) + r) d := by
  intro r s
  have := N128 t; have := r.isLt; have hs := s.isLt
  have h := hC ⟨512 * (t.val % 16) + r.val, by omega⟩ ⟨128 * (t.val / 16) + s.val, by omega⟩
  rw [show (128 * (t.val / 16) + s.val) / 128 = t.val / 16 by omega, show (128 * (t.val / 16) + s.val) % 128 = s.val by omega] at h
  refine Eq.trans ?_ h
  blk_ext [iblk, idx t]

include hD in
theorem blk6 (t : Fin cfg0.N) (r : Fin 512) (s : Fin 128) :
    iblk m c 6 t (ix3 (0 : Fin 1) r s) = ((D (512 * (t.val % 16) + r) (128 * (t.val / 16) + s) : ℝ) : EReal) := by
  have := N128 t; have := r.isLt; have hs := s.isLt
  refine Eq.trans ?_ (hD ⟨512 * (t.val % 16) + r.val, by omega⟩ ⟨128 * (t.val / 16) + s.val, by omega⟩)
  blk_ext [iblk, V, idx t]

end Cert.KernelIdeal.Pay
-- ==== Proof.Outs.lean ====
/-
  What the four output buffers hold after a grid point, and so what the kernel's four result arrays hold after the run.
-/
module

public import proofs.«01_k».proof.Proof.Point

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Idealize.ShloMosaic.Pipeline (Dat)
open Finset (range)

variable (m : (ℓ : Loc nD τ sig) → Buf (Elt Ideal) ℓ) (c : Dev nD) (P D O : ℕ → ℕ → ℝ)
  (hP : ∀ (r : Fin 8192) (j : Fin 18432), m ((c : Thread nD τ).loc main_arg0) (ix2 r j) = ((P r j : ℝ) : EReal))
  (hD : ∀ (r : Fin 8192) (j : Fin 1024), m ((c : Thread nD τ).loc main_arg1) (ix3 (0 : Fin 4) r j) = ((D r j : ℝ) : EReal))
  (hO : ∀ (r : Fin 8192) (j : Fin 1024), V m c main_v27 (ix2 r j) = ((O r j : ℝ) : EReal))
  (hC : ∀ (r : Fin 8192) (j : Fin 1024), V m c main_v31 (ix2 r j) = (((Hd P D (j.val / 128)).car r (j.val % 128) : ℝ) : EReal))

/-- What the buffers hold after point `t`. -/
def After (t : ℕ) (x : Vec Ideal S512x128 .f32 × Vec Ideal S8192x128 .f32 × Vec Ideal S8192x128 .f32 × Vec Ideal S512x128 .bf16) : Prop :=
  (Rd (φ := .f32) x.1 fun r d => (Hd P D (t / 16)).dqs 8192 (512 * (t % 16) + r) d * sc) ∧
  (Rd (φ := .f32) x.2.1 fun s d => ∑ i ∈ range (t % 16 + 1), (Hd P D (t / 16)).dkb (512 * i) s d) ∧
  (Rd (φ := .f32) x.2.2.1 fun s d => ∑ i ∈ range (t % 16 + 1), (Hd P D (t / 16)).dvb (512 * i) s d) ∧
  (Rd (φ := .bf16) x.2.2.2 fun r d => dgate P D O (512 * (t % 16) + r) (128 * (t / 16) + d))

include hP hD hO hC
attribute [local irreducible] Rd
set_option maxHeartbeats 2000000

/-- A point of case A. -/
theorem afterA (t : Fin cfg0.N) (h0 : t.val % 16 = 0) (h1 : t.val % 2 = 0) (h2 : ¬t.val % 2 = 1) :
    After P D O t.val (outsAt0 m c t.val t.isLt) := by
  rw [outsAt0_A m c t h0 h1 h2]
  refine ⟨?_, ?_, ?_, ?_⟩ <;> dsimp only
  · unfold out0_A_7
    exact out7A (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d))
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..
  · unfold out0_A_8
    rw [View.read_writes_of_cover _ _ (ms0_8 t).view (ms0_8 t).view.junk _ ?_]
    on_goal 2 => exact fun y => cover0_A_8 (y := y) ..
    refine rd_congr (f := fun s d => (fun _ _ => (0 : ℝ)) s d + (Hd P D (t.val / 16)).dkb (512 * (t.val % 16)) s d) ?_ fun s d _ _ => ?_
    · exact out8A (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d))
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..
    · rw [h0]; simp
  · unfold out0_A_9
    rw [View.read_writes_of_cover _ _ (ms0_9 t).view (ms0_9 t).view.junk _ ?_]
    on_goal 2 => exact fun y => cover0_A_9 (y := y) ..
    refine rd_congr (f := fun s d => (fun _ _ => (0 : ℝ)) s d + (Hd P D (t.val / 16)).dvb (512 * (t.val % 16)) s d) ?_ fun s d _ _ => ?_
    · exact out9A (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d))
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..
    · rw [h0]; simp
  · unfold out0_A_10
    unfold dgate
    simp only [show ∀ d, 3072 + (128 * (t.val / 16) + d) = 3072 + 128 * (t.val / 16) + d from fun d => by omega]
    exact out10A (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d))
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..

/-- A point of case B. -/
theorem afterB (t : Fin cfg0.N) (h0 : ¬t.val % 16 = 0) (h1 : ¬t.val % 2 = 0) (h2 : t.val % 2 = 1) (h8 : Rd (φ := .f32) (outsAt0 m c (t.val - 1) (Nat.lt_of_le_of_lt (Nat.sub_le _ _) t.isLt)).2.1 fun s d => ∑ i ∈ range (t.val % 16), (Hd P D (t.val / 16)).dkb (512 * i) s d)
    (h9 : Rd (φ := .f32) (outsAt0 m c (t.val - 1) (Nat.lt_of_le_of_lt (Nat.sub_le _ _) t.isLt)).2.2.1 fun s d => ∑ i ∈ range (t.val % 16), (Hd P D (t.val / 16)).dvb (512 * i) s d) :
    After P D O t.val (outsAt0 m c t.val t.isLt) := by
  rw [outsAt0_B m c t h0 h1 h2]
  refine ⟨?_, ?_, ?_, ?_⟩ <;> dsimp only
  · unfold out0_B_7
    exact out7B (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d)) (dk := fun s d => ∑ i ∈ range (t.val % 16), (Hd P D (t.val / 16)).dkb (512 * i) s d) (dv := fun s d => ∑ i ∈ range (t.val % 16), (Hd P D (t.val / 16)).dvb (512 * i) s d) (hx8 := h8) (hx9 := h9)
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..
  · unfold out0_B_8
    refine rd_congr (f := fun s d => (fun s d => ∑ i ∈ range (t.val % 16), (Hd P D (t.val / 16)).dkb (512 * i) s d) s d + (Hd P D (t.val / 16)).dkb (512 * (t.val % 16)) s d) ?_ fun s d _ _ => ?_
    · exact out8B (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d)) (dk := fun s d => ∑ i ∈ range (t.val % 16), (Hd P D (t.val / 16)).dkb (512 * i) s d) (dv := fun s d => ∑ i ∈ range (t.val % 16), (Hd P D (t.val / 16)).dvb (512 * i) s d) (hx8 := h8) (hx9 := h9)
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..
    · exact (Finset.sum_range_succ _ _).symm
  · unfold out0_B_9
    refine rd_congr (f := fun s d => (fun s d => ∑ i ∈ range (t.val % 16), (Hd P D (t.val / 16)).dvb (512 * i) s d) s d + (Hd P D (t.val / 16)).dvb (512 * (t.val % 16)) s d) ?_ fun s d _ _ => ?_
    · exact out9B (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d)) (dk := fun s d => ∑ i ∈ range (t.val % 16), (Hd P D (t.val / 16)).dkb (512 * i) s d) (dv := fun s d => ∑ i ∈ range (t.val % 16), (Hd P D (t.val / 16)).dvb (512 * i) s d) (hx8 := h8) (hx9 := h9)
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..
    · exact (Finset.sum_range_succ _ _).symm
  · unfold out0_B_10
    unfold dgate
    simp only [show ∀ d, 3072 + (128 * (t.val / 16) + d) = 3072 + 128 * (t.val / 16) + d from fun d => by omega]
    exact out10B (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d)) (dk := fun s d => ∑ i ∈ range (t.val % 16), (Hd P D (t.val / 16)).dkb (512 * i) s d) (dv := fun s d => ∑ i ∈ range (t.val % 16), (Hd P D (t.val / 16)).dvb (512 * i) s d) (hx8 := h8) (hx9 := h9)
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..

/-- A point of case C. -/
theorem afterC (t : Fin cfg0.N) (h0 : ¬t.val % 16 = 0) (h1 : t.val % 2 = 0) (h2 : ¬t.val % 2 = 1) (h8 : Rd (φ := .f32) (outsAt0 m c (t.val - 1) (Nat.lt_of_le_of_lt (Nat.sub_le _ _) t.isLt)).2.1 fun s d => ∑ i ∈ range (t.val % 16), (Hd P D (t.val / 16)).dkb (512 * i) s d)
    (h9 : Rd (φ := .f32) (outsAt0 m c (t.val - 1) (Nat.lt_of_le_of_lt (Nat.sub_le _ _) t.isLt)).2.2.1 fun s d => ∑ i ∈ range (t.val % 16), (Hd P D (t.val / 16)).dvb (512 * i) s d) :
    After P D O t.val (outsAt0 m c t.val t.isLt) := by
  rw [outsAt0_C m c t h0 h1 h2]
  refine ⟨?_, ?_, ?_, ?_⟩ <;> dsimp only
  · unfold out0_C_7
    exact out7C (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d)) (dk := fun s d => ∑ i ∈ range (t.val % 16), (Hd P D (t.val / 16)).dkb (512 * i) s d) (dv := fun s d => ∑ i ∈ range (t.val % 16), (Hd P D (t.val / 16)).dvb (512 * i) s d) (hx8 := h8) (hx9 := h9)
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..
  · unfold out0_C_8
    refine rd_congr (f := fun s d => (fun s d => ∑ i ∈ range (t.val % 16), (Hd P D (t.val / 16)).dkb (512 * i) s d) s d + (Hd P D (t.val / 16)).dkb (512 * (t.val % 16)) s d) ?_ fun s d _ _ => ?_
    · exact out8C (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d)) (dk := fun s d => ∑ i ∈ range (t.val % 16), (Hd P D (t.val / 16)).dkb (512 * i) s d) (dv := fun s d => ∑ i ∈ range (t.val % 16), (Hd P D (t.val / 16)).dvb (512 * i) s d) (hx8 := h8) (hx9 := h9)
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..
    · exact (Finset.sum_range_succ _ _).symm
  · unfold out0_C_9
    refine rd_congr (f := fun s d => (fun s d => ∑ i ∈ range (t.val % 16), (Hd P D (t.val / 16)).dvb (512 * i) s d) s d + (Hd P D (t.val / 16)).dvb (512 * (t.val % 16)) s d) ?_ fun s d _ _ => ?_
    · exact out9C (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d)) (dk := fun s d => ∑ i ∈ range (t.val % 16), (Hd P D (t.val / 16)).dkb (512 * i) s d) (dv := fun s d => ∑ i ∈ range (t.val % 16), (Hd P D (t.val / 16)).dvb (512 * i) s d) (hx8 := h8) (hx9 := h9)
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..
    · exact (Finset.sum_range_succ _ _).symm
  · unfold out0_C_10
    unfold dgate
    simp only [show ∀ d, 3072 + (128 * (t.val / 16) + d) = 3072 + 128 * (t.val / 16) + d from fun d => by omega]
    exact out10C (H := Hd P D (t.val / 16)) (t0 := 512 * (t.val % 16)) (fq := fun r d => P (512 * (t.val % 16) + r) (128 * (t.val / 16) + d))
          (fg := fun r d => P (512 * (t.val % 16) + r) (3072 + 128 * (t.val / 16) + d)) (fo := fun r d => O (512 * (t.val % 16) + r) (128 * (t.val / 16) + d))
          (fd := fun r d => D (512 * (t.val % 16) + r) (128 * (t.val / 16) + d)) (dk := fun s d => ∑ i ∈ range (t.val % 16), (Hd P D (t.val / 16)).dkb (512 * i) s d) (dv := fun s d => ∑ i ∈ range (t.val % 16), (Hd P D (t.val / 16)).dvb (512 * i) s d) (hx8 := h8) (hx9 := h9)
          (ht := by rw [coords_val t]) (hpar := by rw [coords_val t]; omega)
          (hx0 := blk0 m c P hP t) (hx1 := blk1 m c P D hP t) (hx2 := blk2 m c P D hP t) (hx3 := blk3 m c P hP t) (hx4 := blk4 m c O hO t)
          (hx5 := blk5 m c P D hC t) (hx6 := blk6 m c D hD t) (hq := fun _ _ => rfl) (he := fun _ _ => rfl) ..

/-- Every point. -/
theorem after_all (n : ℕ) (hn : n < cfg0.N) : After P D O n (outsAt0 m c n hn) := by
  induction n with
  | zero => exact afterA m c P D O hP hD hO hC ⟨0, hn⟩ rfl rfl (by dsimp only; omega)
  | succ n ih =>
    have IH := ih (Nat.lt_of_succ_lt hn)
    by_cases a : (n + 1) % 16 = 0
    · exact afterA m c P D O hP hD hO hC ⟨n + 1, hn⟩ a (by dsimp only; omega) (by dsimp only; omega)
    · have h8 := IH.2.1
      have h9 := IH.2.2.1
      rw [show n / 16 = (n + 1) / 16 by omega, show n % 16 + 1 = (n + 1) % 16 by omega] at h8 h9
      by_cases b : (n + 1) % 2 = 0
      · exact afterC m c P D O hP hD hO hC ⟨n + 1, hn⟩ a b (by dsimp only; omega) h8 h9
      · exact afterB m c P D O hP hD hO hC ⟨n + 1, hn⟩ a b (by dsimp only; omega) h8 h9

end Cert.KernelIdeal.Pay
-- ==== Proof.Arr.lean ====
/-
  What the kernel's four result arrays hold after the run.
-/
module

public import proofs.«01_k».proof.Proof.Outs

@[expose] public section

set_option maxRecDepth 16384
noncomputable section
namespace Cert.KernelIdeal.Pay
open Cert.KernelIdeal Cert.KernelIdeal.Gen Cert.Head
open Idealize.ShloMosaic Idealize.ShloMosaic.TcCoe Idealize.ShloMosaic.Tactic
open Idealize.ShloMosaic.Pipeline (Dat)
open Finset (range)

variable (m : (ℓ : Loc nD τ sig) → Buf (Elt Ideal) ℓ) (c : Dev nD) (P D O : ℕ → ℕ → ℝ)
  (hP : ∀ (r : Fin 8192) (j : Fin 18432), m ((c : Thread nD τ).loc main_arg0) (ix2 r j) = ((P r j : ℝ) : EReal))
  (hD : ∀ (r : Fin 8192) (j : Fin 1024), m ((c : Thread nD τ).loc main_arg1) (ix3 (0 : Fin 4) r j) = ((D r j : ℝ) : EReal))
  (hO : ∀ (r : Fin 8192) (j : Fin 1024), V m c main_v27 (ix2 r j) = ((O r j : ℝ) : EReal))
  (hC : ∀ (r : Fin 8192) (j : Fin 1024), V m c main_v31 (ix2 r j) = (((Hd P D (j.val / 128)).car r (j.val % 128) : ℝ) : EReal))

/-- A sum cut into blocks. -/
theorem sum_blocks (b : ℕ) (f : ℕ → ℝ) (n : ℕ) : ∑ j ∈ range n, ∑ r ∈ range b, f (b * j + r) = ∑ t ∈ range (b * n), f t := by
  induction n with
  | zero => simp
  | succ n ih => rw [Finset.sum_range_succ, ih, Nat.mul_succ, Finset.sum_range_add]

include hP hD hO hC

/-- The gradient of the queries. -/
theorem arr7 : (dats m 0 c).arrAt 7 cfg0.N = fun i : S8192x1024.Idx =>
    (((Hd P D ((i 1).val / 128)).dqs 8192 (i 0).val ((i 1).val % 128) * sc : ℝ) : EReal) := by
  refine (dats m 0 c).arrAt_eq_of_covers 7 _ (by decide +kernel) fun t hf y => ?_
  blk_simp
  rw [after0_7]
  have h := (after_all m c P D O hP hD hO hC t.val t.isLt).1
  have := N128 t
  have a0 : (y 0).val < 512 := (y 0).isLt
  have a1 : (y 1).val < 128 := (y 1).isLt
  have h := h ⟨(y 0).val, a0⟩ ⟨(y 1).val, a1⟩
  have e : y = ix2 ⟨(y 0).val, a0⟩ ⟨(y 1).val, a1⟩ := by funext a; fin_cases a <;> rfl
  have i := idx t
  have i0 : win0_7.index t 0 = t.val % 16 := by simp only [i]; rfl
  have i1 : win0_7.index t 1 = t.val / 16 := by simp only [i]; rfl
  rw [i0, i1]
  rw [show (t.val / 16 * 128 + (y 1).val) / 128 = t.val / 16 by omega,
    show (t.val / 16 * 128 + (y 1).val) % 128 = (y 1).val by omega]
  refine Eq.trans (congrArg _ e) (h.trans ?_)
  simp only [Nat.mul_comm, Nat.zero_mul, Nat.zero_add, Nat.add_comm]

/-- The gradient of the keys. -/
theorem arr8 : (dats m 0 c).arrAt 8 cfg0.N = fun i : S8192x1024.Idx =>
    ((∑ j ∈ range 16, (Hd P D ((i 1).val / 128)).dkb (512 * j) (i 0).val ((i 1).val % 128) : ℝ) : EReal) := by
  refine (dats m 0 c).arrAt_eq_of_covers 8 _ (by decide +kernel) fun t hf y => ?_
  blk_simp
  rw [after0_8]
  have h := (after_all m c P D O hP hD hO hC t.val t.isLt).2.1
  rw [(flush0_8 t).mp hf] at h
  have := N128 t
  have a0 : (y 0).val < 8192 := (y 0).isLt
  have a1 : (y 1).val < 128 := (y 1).isLt
  have h := h ⟨(y 0).val, a0⟩ ⟨(y 1).val, a1⟩
  have e : y = ix2 ⟨(y 0).val, a0⟩ ⟨(y 1).val, a1⟩ := by funext a; fin_cases a <;> rfl
  have i := idx t
  have i0 : win0_8.index t 0 = 0 := by simp only [i]; rfl
  have i1 : win0_8.index t 1 = t.val / 16 := by simp only [i]; rfl
  rw [i0, i1]
  rw [show (t.val / 16 * 128 + (y 1).val) / 128 = t.val / 16 by omega,
    show (t.val / 16 * 128 + (y 1).val) % 128 = (y 1).val by omega]
  refine Eq.trans (congrArg _ e) (h.trans ?_)
  simp only [Nat.mul_comm, Nat.zero_mul, Nat.zero_add, Nat.add_comm]

/-- The gradient of the values. -/
theorem arr9 : (dats m 0 c).arrAt 9 cfg0.N = fun i : S8192x1024.Idx =>
    ((∑ j ∈ range 16, (Hd P D ((i 1).val / 128)).dvb (512 * j) (i 0).val ((i 1).val % 128) : ℝ) : EReal) := by
  refine (dats m 0 c).arrAt_eq_of_covers 9 _ (by decide +kernel) fun t hf y => ?_
  blk_simp
  rw [after0_9]
  have h := (after_all m c P D O hP hD hO hC t.val t.isLt).2.2.1
  rw [(flush0_9 t).mp hf] at h
  have := N128 t
  have a0 : (y 0).val < 8192 := (y 0).isLt
  have a1 : (y 1).val < 128 := (y 1).isLt
  have h := h ⟨(y 0).val, a0⟩ ⟨(y 1).val, a1⟩
  have e : y = ix2 ⟨(y 0).val, a0⟩ ⟨(y 1).val, a1⟩ := by funext a; fin_cases a <;> rfl
  have i := idx t
  have i0 : win0_9.index t 0 = 0 := by simp only [i]; rfl
  have i1 : win0_9.index t 1 = t.val / 16 := by simp only [i]; rfl
  rw [i0, i1]
  rw [show (t.val / 16 * 128 + (y 1).val) / 128 = t.val / 16 by omega,
    show (t.val / 16 * 128 + (y 1).val) % 128 = (y 1).val by omega]
  refine Eq.trans (congrArg _ e) (h.trans ?_)
  simp only [Nat.mul_comm, Nat.zero_mul, Nat.zero_add, Nat.add_comm]

/-- The gradient of the gate. -/
theorem arr10 : (dats m 0 c).arrAt 10 cfg0.N = fun i : S8192x1024.Idx =>
    ((dgate P D O (i 0).val (i 1).val : ℝ) : EReal) := by
  refine (dats m 0 c).arrAt_eq_of_covers 10 _ (by decide +kernel) fun t hf y => ?_
  blk_simp
  rw [after0_10]
  have h := (after_all m c P D O hP hD hO hC t.val t.isLt).2.2.2
  have := N128 t
  have a0 : (y 0).val < 512 := (y 0).isLt
  have a1 : (y 1).val < 128 := (y 1).isLt
  have h := h ⟨(y 0).val, a0⟩ ⟨(y 1).val, a1⟩
  have e : y = ix2 ⟨(y 0).val, a0⟩ ⟨(y 1).val, a1⟩ := by funext a; fin_cases a <;> rfl
  have i := idx t
  have i0 : win0_10.index t 0 = t.val % 16 := by simp only [i]; rfl
  have i1 : win0_10.index t 1 = t.val / 16 := by simp only [i]; rfl
  rw [i0, i1]

  refine Eq.trans (congrArg _ e) (h.trans ?_)
  simp only [Nat.mul_comm, Nat.zero_mul, Nat.zero_add, Nat.add_comm]

end Cert.KernelIdeal.Pay
-- ==== Proof.HostO.lean ====
/-
  The attention's output, as the kernel's host lines compute it, is the reference's.
-/
module

public import proofs.«01_k».proof.Proof.Gen.KernelIdeal.Value
public import proofs.«01_k».proof.Proof.Gen.ReferenceIdeal.Read
public import Idealize.ShloMosaic.Lib.Claim

@[expose] public section

set_option maxRecDepth 16384
noncomputable section
namespace Cert.KernelIdeal.Pay
open Cert.KernelIdeal Cert.KernelIdeal.Gen
open Idealize.ShloMosaic Idealize.ShloMosaic.TcCoe Idealize.ShloMosaic.Tactic
variable (m : (ℓ : Loc nD τ sig) → Buf (Elt Ideal) ℓ) (c : Dev nD)

/-- The two programs compute the attention's output by the same operations. -/
theorem v27_eq : V m c main_v27 = Cert.ReferenceIdeal.Read.val_main_v28 (F := Ideal) (m ((c : Thread nD τ).loc main_arg0)) := by
  entry_read
  rfl
end Cert.KernelIdeal.Pay
-- ==== Proof.HostC.lean ====
/-
  The decays handed to the kernel, from the decays the reference computes.
-/
module

public import proofs.«01_k».proof.Proof.Gen.KernelIdeal.Value
public import proofs.«01_k».proof.Proof.Gen.ReferenceIdeal.Read
public import Idealize.ShloMosaic.Lib.Claim

@[expose] public section

set_option maxRecDepth 16384
noncomputable section
namespace Cert.KernelIdeal.Pay
open Cert.KernelIdeal Cert.KernelIdeal.Gen
open Idealize.ShloMosaic Idealize.ShloMosaic.TcCoe Idealize.ShloMosaic.Tactic
variable (m : (ℓ : Loc nD τ sig) → Buf (Elt Ideal) ℓ) (c : Dev nD)

/-- The array of decays behind each tile: every 128th column of the reference's decays, padded with zeros. -/
theorem v31_eq : V m c main_v31 = shapeCast S8192x1024 (pad S8192x8x128 ![0, 0, 0] ![0, 0, 64] ![0, 0, 0]
    (transpose S8192x8x64 [1, 0, 2] (Host.slice S8x8192x64 ![0, 0, 127] ![1, 1, 128]
      (Cert.ReferenceIdeal.Read.val_main_v22 (F := Ideal) (m ((c : Thread nD τ).loc main_arg0)))
      slicesBy_S8x8192x8192_S8x8192x64_0s1_0s1_127s128) transposes_S8x8192x64_S8192x8x64_1_0_2)
    (sitofp (F := Ideal) .f32 (constantI S_ 32 0#32)) pads_S8192x8x64_S8192x8x128_000_000_0640 h_S_) shapeCasts_S8192x8x128_S8192x1024 := by
  entry_read
  rfl
end Cert.KernelIdeal.Pay
-- ==== Proof.Cum.lean ====
/-
  Running sums over the last axis of a rank-three array: a window sum over a padded axis, read at an index, and the sums
  after and before a position.
-/
module

public import proofs.«01_k».proof.Proof.Head

@[expose] public section

set_option maxRecDepth 16384
noncomputable section
namespace Cert.Head
open Idealize.ShloMosaic
open Finset (range Ioo)

/-- Adding up a list from the left. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A sum over the positions of a window one wide in its first two axes. -/
theorem sum_window {n : ℕ} (g : (⟨3, ![1, 1, n]⟩ : Shape).Idx → EReal) :
    ∑ i, g i = ∑ k : Fin n, g (ix3 (0 : Fin 1) (0 : Fin 1) k) := by
  refine (Fintype.sum_bijective (fun k : Fin n => (ix3 (0 : Fin 1) (0 : Fin 1) k : (⟨3, ![1, 1, n]⟩ : Shape).Idx)) ?_ _ _ fun _ => rfl).symm
  refine ⟨fun a b h => congrFun h 2, fun i => ⟨i 2, ?_⟩⟩
  funext a
  fin_cases a
  · exact Subsingleton.elim (α := Fin 1) _ _
  · exact Subsingleton.elim (α := Fin 1) _ _
  · rfl

/-- The window sum at an index. -/
theorem window_sum {a b n L U : ℕ} (x : (⟨3, ![a, b, n]⟩ : Shape).Idx → EReal)
    (h : (⟨3, ![a, b, n]⟩ : Shape).ReduceWindows ![1, 1, n] ![1, 1, 1] ![0, 0, L] ![0, 0, U] (⟨3, ![a, b, n]⟩ : Shape))
    (f : ℕ → ℝ) (p : Fin a) (q : Fin b) (s : Fin n) (hx : ∀ j : Fin n, x (ix3 p q j) = ((f j : ℝ) : EReal)) :
    Ideal.hostReduceWindowAdd ![1, 1, n] ![1, 1, 1] ![0, 0, L] ![0, 0, U] h x 0 (ix3 p q s)
      = ((∑ k ∈ range n, if L ≤ s + k ∧ s + k - L < n then f (s + k - L) else 0 : ℝ) : EReal) := by
  unfold Ideal.hostReduceWindowAdd Host.reduceWindow
  dsimp only
  rw [foldl_add, zero_add, ← Fin.sum_univ_def]
  refine (Finset.sum_congr rfl fun i _ => (?_ : _ = (fun w : (⟨3, ![1, 1, n]⟩ : Shape).Idx =>
    (((if L ≤ s.val + (w 2).val ∧ s.val + (w 2).val - L < n then f (s.val + (w 2).val - L) else 0 : ℝ) : ℝ) : EReal))
      ((⟨3, ![1, 1, n]⟩ : Shape).rowMajor.symm i))).trans ?_
  · have w0 : ((⟨3, ![1, 1, n]⟩ : Shape).rowMajor.symm i 0).val < 1 := ((⟨3, ![1, 1, n]⟩ : Shape).rowMajor.symm i 0).isLt
    have w1 : ((⟨3, ![1, 1, n]⟩ : Shape).rowMajor.symm i 1).val < 1 := ((⟨3, ![1, 1, n]⟩ : Shape).rowMajor.symm i 1).isLt
    dsimp only
    by_cases hc : L ≤ s.val + ((⟨3, ![1, 1, n]⟩ : Shape).rowMajor.symm i 2).val ∧ s.val + ((⟨3, ![1, 1, n]⟩ : Shape).rowMajor.symm i 2).val - L < n
    · rw [dif_pos, if_pos hc, ← hx ⟨s.val + ((⟨3, ![1, 1, n]⟩ : Shape).rowMajor.symm i 2).val - L, hc.2⟩]
      · congr 1
        funext c
        fin_cases c
        · exact Fin.ext (show p.val * 1 + ((⟨3, ![1, 1, n]⟩ : Shape).rowMajor.symm i 0).val - 0 = p.val by omega)
        · exact Fin.ext (show q.val * 1 + ((⟨3, ![1, 1, n]⟩ : Shape).rowMajor.symm i 1).val - 0 = q.val by omega)
        · exact Fin.ext (show s.val * 1 + ((⟨3, ![1, 1, n]⟩ : Shape).rowMajor.symm i 2).val - L = s.val + ((⟨3, ![1, 1, n]⟩ : Shape).rowMajor.symm i 2).val - L by omega)
      · intro c
        fin_cases c
        · exact ⟨Nat.zero_le _, by have := p.isLt; show p.val * 1 + ((⟨3, ![1, 1, n]⟩ : Shape).rowMajor.symm i 0).val - 0 < a; omega⟩
        · exact ⟨Nat.zero_le _, by have := q.isLt; show q.val * 1 + ((⟨3, ![1, 1, n]⟩ : Shape).rowMajor.symm i 1).val - 0 < b; omega⟩
        · refine ⟨?_, ?_⟩
          · show L ≤ s.val * 1 + ((⟨3, ![1, 1, n]⟩ : Shape).rowMajor.symm i 2).val; omega
          · show s.val * 1 + ((⟨3, ![1, 1, n]⟩ : Shape).rowMajor.symm i 2).val - L < n; omega
    · rw [dif_neg, if_neg hc, EReal.coe_zero]
      intro hin
      refine hc ?_
      have h2 : L ≤ s.val * 1 + ((⟨3, ![1, 1, n]⟩ : Shape).rowMajor.symm i 2).val ∧ s.val * 1 + ((⟨3, ![1, 1, n]⟩ : Shape).rowMajor.symm i 2).val - L < n := hin 2
      rw [Nat.mul_one] at h2
      exact h2
  · refine (Equiv.sum_comp (⟨3, ![1, 1, n]⟩ : Shape).rowMajor.symm fun w : (⟨3, ![1, 1, n]⟩ : Shape).Idx =>
      (((if L ≤ s.val + (w 2).val ∧ s.val + (w 2).val - L < n then f (s.val + (w 2).val - L) else 0 : ℝ) : ℝ) : EReal)).trans ?_
    rw [sum_window]
    exact sum_coe fun k => if L ≤ s.val + k ∧ s.val + k - L < n then f (s.val + k - L) else 0

/-- The sum of what lies behind a position, itself included. -/
theorem sum_after (n s : ℕ) (hs : s < n) (f : ℕ → ℝ) :
    (∑ k ∈ range n, if 0 ≤ s + k ∧ s + k - 0 < n then f (s + k - 0) else 0) = f s + ∑ j ∈ Ioo s n, f j := by
  rw [← Finset.sum_filter, show f s + ∑ j ∈ Ioo s n, f j = ∑ j ∈ Finset.Ico s n, f j from Finset.add_sum_Ioo_eq_sum_Ico hs]
  refine Finset.sum_bij (fun k _ => s + k) ?_ ?_ ?_ ?_
  · intro k hk; simp only [Finset.mem_filter, Finset.mem_range, Finset.mem_Ico] at *; omega
  · intro x _ y _ hxy; omega
  · intro j hj; simp only [Finset.mem_Ico] at hj
    exact ⟨j - s, by simp only [Finset.mem_filter, Finset.mem_range]; omega, by omega⟩
  · intro k _; rfl

/-- The sum of what lies before a position, itself included. -/
theorem sum_before (n s L : ℕ) (hL : L + 1 = n) (hs : s < n) (f : ℕ → ℝ) :
    (∑ k ∈ range n, if L ≤ s + k ∧ s + k - L < n then f (s + k - L) else 0) = f s + ∑ j ∈ range s, f j := by
  rw [← Finset.sum_filter, add_comm, ← Finset.sum_range_succ]
  refine Finset.sum_bij (fun k _ => s + k - L) ?_ ?_ ?_ ?_
  · intro k hk; simp only [Finset.mem_filter, Finset.mem_range] at *; omega
  · intro x hx y hy hxy; simp only [Finset.mem_filter, Finset.mem_range] at *; omega
  · intro j hj; simp only [Finset.mem_range] at hj
    exact ⟨j + L - s, by simp only [Finset.mem_filter, Finset.mem_range]; omega, by omega⟩
  · intro k _; rfl

end Cert.Head
-- ==== Proof.Ref.lean ====
/-
  The reference read at an index over the real numbers: each of its arrays, head by head, in the terms of `Head`.
-/
module

public import proofs.«01_k».proof.Proof.Point
public import proofs.«01_k».proof.Proof.Cum
public import proofs.«01_k».proof.Proof.Gen.ReferenceIdeal.Read

@[expose] public section

set_option maxRecDepth 16384
noncomputable section
namespace Cert.Head
open Idealize.ShloMosaic

/-- The softplus function. -/
def sp (y : ℝ) : ℝ := max y 0 + Real.log (1 + Real.exp (-|y|))

/-- The reference's spelling of softplus, at a real number. -/
theorem sp_coe (y : ℝ) : Scalar.select (Ideal.cmp .une ((y : EReal) - 0) ((y : EReal) - 0)) ((y : EReal) + 0)
    (max (y : EReal) 0 + Ideal.log1p (Ideal.exp (-(max ((y : EReal) - 0) (-((y : EReal) - 0)))))) = ((sp y : ℝ) : EReal) := by
  have h : ¬ (1 + Real.exp (-|y|) ≤ 0) := by have := Real.exp_pos (-|y|); linarith
  have hc : Ideal.cmp .une ((y : EReal) - 0) ((y : EReal) - 0) = 0#1 := by simp [Ideal.cmp]
  have ha : max (y : EReal) (-(y : EReal)) = ((|y| : ℝ) : EReal) := by
    rw [← EReal.coe_neg, abs_eq_max_neg]; exact (EReal.coe_strictMono.monotone.map_max).symm
  have hm : max (y : EReal) 0 = ((max y 0 : ℝ) : EReal) := (EReal.coe_strictMono.monotone.map_max (a := y) (b := 0)).symm
  rw [hc, sub_zero, ha, hm, ← EReal.coe_neg, Ideal.exp_coe]
  unfold Ideal.log1p
  rw [← EReal.coe_one, ← EReal.coe_add, Ideal.log_coe, if_neg h, ← EReal.coe_add]
  rfl

/-- The slope which the reference saves beside softplus, at a real number. -/
theorem slope_coe (y p : ℝ) : Ideal.exp (Scalar.select (Ideal.cmp .oeq (y : EReal) ⊤) (0 : EReal) (y : EReal)
    - Scalar.select (Ideal.cmp .oeq (p : EReal) ⊤) (0 : EReal) (p : EReal)) = ((Real.exp (y - p) : ℝ) : EReal) := by
  have h (x : ℝ) : Scalar.select (Ideal.cmp .oeq (x : EReal) ⊤) (0 : EReal) (x : EReal) = (x : EReal) := by
    have : Ideal.cmp .oeq (x : EReal) ⊤ = 0#1 := by simp [Ideal.cmp]
    rw [this]; rfl
  rw [h, h, ← EReal.coe_sub, Ideal.exp_coe]

theorem neg_sp_neg (z : ℝ) : -sp (-z) = lsig z := by
  unfold sp lsig
  rw [abs_neg, zero_sub]
  rcases le_total z 0 with h | h
  · rw [max_eq_left (by linarith), min_eq_left h]; ring
  · rw [max_eq_right (by linarith), min_eq_right h]; ring

theorem neg_sp (z : ℝ) : -sp z = lsig z - z := by
  unfold sp lsig
  rw [zero_sub]
  rcases le_total z 0 with h | h
  · rw [max_eq_right h, min_eq_left h]; ring
  · rw [max_eq_left h, min_eq_right h]; ring

/-- The two logistic weights of a score add up to one. -/
theorem exp_lsig (z : ℝ) : Real.exp (lsig z - z) = 1 - Real.exp (lsig z) := by
  have hp : 0 < 1 + Real.exp (0 - |z|) := by have := Real.exp_pos (0 - |z|); linarith
  have e : Real.exp (-Real.log (1 + Real.exp (0 - |z|))) = (1 + Real.exp (0 - |z|))⁻¹ := by rw [Real.exp_neg, Real.exp_log hp]
  unfold lsig
  rcases le_total z 0 with h | h
  · rw [min_eq_left h, show z - Real.log (1 + Real.exp (0 - |z|)) - z = -Real.log (1 + Real.exp (0 - |z|)) by ring,
      sub_eq_add_neg z, Real.exp_add, e, abs_of_nonpos h, zero_sub, neg_neg]
    rw [abs_of_nonpos h, zero_sub, neg_neg] at hp
    field_simp
    ring
  · rw [min_eq_right h, zero_sub, sub_eq_add_neg _ z, Real.exp_add, e, abs_of_nonneg h, zero_sub]
    rw [abs_of_nonneg h, zero_sub] at hp
    field_simp
    ring

/-- The reference's zero. -/
theorem zero_bits : (FloatOps.ofBits (F := Ideal) .f32 0x00000000#32 : EReal) = 0 := by
  show Ideal.ofBits .f32 0x00000000#32 = _
  simp [Ideal.ofBits, Ideal.ieee]
/-- The reference's one. -/
theorem one_bits : (FloatOps.ofBits (F := Ideal) .f32 0x3F800000#32 : EReal) = 1 := by
  show Ideal.ofBits .f32 0x3F800000#32 = _
  simp [Ideal.ofBits, Ideal.ieee, -EReal.coe_mul]
  norm_num
/-- The reference's infinity. -/
theorem inf_bits : (FloatOps.ofBits (F := Ideal) .f32 0x7F800000#32 : EReal) = ⊤ := by
  show Ideal.ofBits .f32 0x7F800000#32 = _
  simp [Ideal.ofBits, Ideal.ieee]

/-- An index of rank two is given by its coordinates. -/
theorem ix2_of {n m : ℕ} (i : (⟨2, ![n, m]⟩ : Shape).Idx) (a : Fin n) (b : Fin m) (h0 : (i 0).val = a) (h1 : (i 1).val = b) : i = ix2 a b :=
  funext fun x => match x with
    | ⟨0, _⟩ => Fin.ext h0
    | ⟨1, _⟩ => Fin.ext h1

/-- An index of rank three is given by its coordinates. -/
theorem ix3_of {n m l : ℕ} (i : (⟨3, ![n, m, l]⟩ : Shape).Idx) (a : Fin n) (b : Fin m) (c : Fin l) (h0 : (i 0).val = a) (h1 : (i 1).val = b)
    (h2 : (i 2).val = c) : i = ix3 a b c :=
  funext fun x => match x with
    | ⟨0, _⟩ => Fin.ext h0
    | ⟨1, _⟩ => Fin.ext h1
    | ⟨2, _⟩ => Fin.ext h2

end Cert.Head

namespace Cert.ReferenceIdeal.Read
open Cert.ReferenceIdeal Cert.ReferenceIdeal.Gen Cert.Head
open Cert.KernelIdeal.Pay (Hd sc sc_coe sg sg_coe dgate)
open Idealize.ShloMosaic Idealize.ShloMosaic.TcCoe
open Finset (range Ioo)

variable (x0 : (⟨S8192x18432, .f32⟩ : BufTy).Contents (Elt Ideal)) (x1 : (⟨S4x8192x1024, .f32⟩ : BufTy).Contents (Elt Ideal))
  (P D : ℕ → ℕ → ℝ)
  (hP : ∀ (r : Fin 8192) (j : Fin 18432), x0 (ix2 r j) = ((P r j : ℝ) : EReal))
  (hD : ∀ (r : Fin 8192) (j : Fin 1024), x1 (ix3 (0 : Fin 4) r j) = ((D r j : ℝ) : EReal))

include hP in
/-- The unscaled queries. -/
theorem r4 (t : Fin 8192) (h : Fin 8) (d : Fin 128) : val_main_v4 (F := Ideal) x0 (ix3 t h d) = ((P t (128 * h + d) : ℝ) : EReal) := by
  rw [val_main_v4_apply, val_main_v0_apply]
  refine (congrArg x0 (?_ : _ = ix2 t ⟨128 * h.val + d.val, by omega⟩)).trans (hP _ _)
  refine ix2_of _ _ _ ?_ ?_
  · show ((t.val * 8 + h.val) * 128 + d.val) / 1024 = t.val
    omega
  · show ((t.val * 8 + h.val) * 128 + d.val) % 1024 = 128 * h.val + d.val
    omega

include hP in
/-- The keys. -/
theorem r5 (t : Fin 8192) (h : Fin 8) (d : Fin 128) : val_main_v5 (F := Ideal) x0 (ix3 t h d) = ((P t (1024 + 128 * h + d) : ℝ) : EReal) := by
  rw [val_main_v5_apply, val_main_v1_apply]
  refine (congrArg x0 (?_ : _ = ix2 t ⟨1024 + 128 * h.val + d.val, by omega⟩)).trans (hP _ _)
  refine ix2_of _ _ _ ?_ ?_
  · show ((t.val * 8 + h.val) * 128 + d.val) / 1024 = t.val
    omega
  · show 1024 + ((t.val * 8 + h.val) * 128 + d.val) % 1024 = 1024 + 128 * h.val + d.val
    omega

include hP in
/-- The values. -/
theorem r6 (t : Fin 8192) (h : Fin 8) (d : Fin 128) : val_main_v6 (F := Ideal) x0 (ix3 t h d) = ((P t (2048 + 128 * h + d) : ℝ) : EReal) := by
  rw [val_main_v6_apply, val_main_v2_apply]
  refine (congrArg x0 (?_ : _ = ix2 t ⟨2048 + 128 * h.val + d.val, by omega⟩)).trans (hP _ _)
  refine ix2_of _ _ _ ?_ ?_
  · show ((t.val * 8 + h.val) * 128 + d.val) / 1024 = t.val
    omega
  · show 2048 + ((t.val * 8 + h.val) * 128 + d.val) % 1024 = 2048 + 128 * h.val + d.val
    omega

include hP in
/-- The gate. -/
theorem r3 (t : Fin 8192) (j : Fin 1024) : val_main_v3 (F := Ideal) x0 (ix2 t j) = ((P t (3072 + j) : ℝ) : EReal) := by
  rw [val_main_v3_apply]
  refine (congrArg x0 (?_ : _ = ix2 t ⟨3072 + j.val, by omega⟩)).trans (hP _ _)
  exact ix2_of _ _ _ rfl rfl

include hD in
/-- The gradient of the gated output. -/
theorem r32 (t : Fin 8192) (j : Fin 1024) : val_main_v32 (F := Ideal) x1 (ix2 t j) = ((D t j : ℝ) : EReal) := by
  rw [val_main_v32_apply, val_main_v31_apply]
  refine (congrArg x1 (?_ : _ = ix3 (0 : Fin 4) t j)).trans (hD _ _)
  refine ix3_of _ _ _ _ ?_ ?_ ?_
  · show 0 = 0
    rfl
  · show (t.val * 1024 + j.val) / 1024 % 8192 = t.val
    omega
  · show (t.val * 1024 + j.val) % 1024 = j.val
    omega

include hP in
/-- The scores. -/
theorem r9 (h : Fin 8) (t s : Fin 8192) : val_main_v9 (F := Ideal) x0 (ix3 h t s) = (((Hd P D h).z t s : ℝ) : EReal) := by
  rw [val_main_v9_apply, val_main_v8_apply, val_main_cst_apply, val_main_v7_apply]
  have e : ∀ d : Fin 128, (val_main_v4 (F := Ideal) x0) (lidx_main_v7 (ix3 h t s) d) * (val_main_v5 (F := Ideal) x0) (ridx_main_v7 (ix3 h t s) d)
      = ((P t (128 * h + d) * P s (1024 + 128 * h + d) : ℝ) : EReal) := fun d => by
    rw [EReal.coe_mul]
    exact congrArg₂ (· * ·) (r4 x0 P hP t h d) (r5 x0 P hP s h d)
  rw [Finset.sum_congr rfl fun d _ => e d, sum_coe fun d => P t (128 * h + d) * P s (1024 + 128 * h + d)]
  show ((_ : ℝ) : EReal) * (Scalar.ofBits (F := Ideal) .f32 0x3DB504F3#32 : EReal) = _
  rw [sc_coe, ← EReal.coe_mul]
  congr 1
  unfold Head.z Hd
  rw [Finset.sum_mul]
  exact Finset.sum_congr rfl fun d _ => by dsimp only; ring

/-- The mask. -/
theorem r16 (t s : Fin 8192) : val_main_v16 (F := Ideal) (ix2 t s) = BitVec.ofBool (decide (s.val < t.val)) := by
  rw [val_main_v16_apply, val_main_v14_apply, val_main_v15_apply, val_main_v11_apply, val_main_v13_apply, val_main_v10_apply, val_main_v12_apply]
  exact WordCmp.cmpi_slt_ofNat (by have := s.isLt; simp; omega) (by have := t.isLt; simp; omega)

/-- The mask of the first choice, head by head. -/
theorem r20_1 (h : Fin 8) (t s : Fin 8192) : val_main_v20_1 (F := Ideal) (ix3 h t s) = BitVec.ofBool (decide (s.val < t.val)) := by
  rw [val_main_v20_1_apply]
  exact (congrArg _ (ix2_of _ t s rfl rfl)).trans (r16 t s)

/-- The mask of the second choice, head by head. -/
theorem r25_1 (h : Fin 8) (t s : Fin 8192) : val_main_v25_1 (F := Ideal) (ix3 h t s) = BitVec.ofBool (decide (s.val < t.val)) := by
  rw [val_main_v25_1_apply]
  exact (congrArg _ (ix2_of _ t s rfl rfl)).trans (r16 t s)

/-- A masked choice between a real number and zero. -/
theorem mask_coe (t s : ℕ) (x : ℝ) : Scalar.select (BitVec.ofBool (decide (s < t))) (x : EReal) 0 = ((if s < t then x else 0 : ℝ) : EReal) := by
  by_cases h : s < t
  · rw [if_pos h, decide_eq_true h]; rfl
  · rw [if_neg h, decide_eq_false h]; rfl

include hP in
/-- Softplus of the negated score. -/
theorem r17_p (h : Fin 8) (t s : Fin 8192) : val_main_call0_v1_0 (F := Ideal) x0 (ix3 h t s) = ((sp (-(Hd P D h).z t s) : ℝ) : EReal) := by
  simp only [val_main_call0_v1_0_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v5_apply, val_main_call0_call0_v2_apply,
    val_main_call0_call0_v0_apply, val_main_call0_call0_cst_apply, val_main_call0_v0_apply, zero_bits, r9 x0 P D hP]
  rw [← sp_coe, EReal.coe_neg]
  rfl

include hP in
/-- The score, twice negated. -/
theorem r18 (h : Fin 8) (t s : Fin 8192) : val_main_call1_v0 (F := Ideal) x0 (ix3 h t s) = (((Hd P D h).z t s : ℝ) : EReal) := by
  rw [val_main_call1_v0_apply, val_main_v18_apply, r9 x0 P D hP]
  exact neg_neg _

include hP in
/-- Softplus of the score. -/
theorem r19_p (h : Fin 8) (t s : Fin 8192) : val_main_call1_v1_0 (F := Ideal) x0 (ix3 h t s) = ((sp ((Hd P D h).z t s) : ℝ) : EReal) := by
  simp only [val_main_call1_v1_0_apply, val_main_call1_call0_v4_apply, val_main_call1_call0_v6_apply, val_main_call1_call0_v11_apply,
    val_main_call1_call0_v1_apply, val_main_call1_call0_v10_apply, val_main_call1_call0_v9_apply, val_main_call1_call0_v8_apply,
    val_main_call1_call0_v7_apply, val_main_call1_call0_v3_apply, val_main_call1_call0_v5_apply, val_main_call1_call0_v2_apply,
    val_main_call1_call0_v0_apply, val_main_call1_call0_cst_apply, r18 x0 P D hP, zero_bits]
  rw [← sp_coe]
  rfl

include hP in
/-- The logarithm of the break fraction. -/
theorem r17_0 (h : Fin 8) (t s : Fin 8192) : val_main_v17_0 (F := Ideal) x0 (ix3 h t s) = (((Hd P D h).lb t s : ℝ) : EReal) := by
  rw [val_main_v17_0_apply, r17_p x0 P D hP, Head.lb, ← neg_sp_neg, EReal.coe_neg]
  rfl

include hP in
/-- The logarithm of the fraction left over. -/
theorem r19_0 (h : Fin 8) (t s : Fin 8192) : val_main_v19_0 (F := Ideal) x0 (ix3 h t s) = (((Hd P D h).l1 t s : ℝ) : EReal) := by
  rw [val_main_v19_0_apply, r19_p x0 P D hP, Head.l1, Head.lb, ← neg_sp, EReal.coe_neg]
  rfl

include hP in
/-- The saved slope of the first softplus. -/
theorem r17_1 (h : Fin 8) (t s : Fin 8192) : val_main_v17_1 (F := Ideal) x0 (ix3 h t s) = ((1 - Real.exp ((Hd P D h).lb t s) : ℝ) : EReal) := by
  simp only [val_main_v17_1_apply, val_main_call0_call0_v21_apply, val_main_call0_call0_v20_apply, val_main_call0_call0_v16_apply,
    val_main_call0_call0_v18_apply, val_main_call0_call0_v14_apply, val_main_call0_call0_v19_apply, val_main_call0_call0_v15_apply,
    val_main_call0_call0_v17_apply, val_main_call0_call0_v13_apply, val_main_call0_call0_cst_0_apply, val_main_call0_call0_cst_1_apply,
    val_main_call0_call0_cst_2_apply, val_main_call0_call0_cst_3_apply, val_main_call0_v0_apply, zero_bits, inf_bits, r9 x0 P D hP, r17_p x0 P D hP]
  rw [Head.lb, ← exp_lsig, ← neg_sp_neg, show -sp (-(Hd P D h).z t s) - (Hd P D h).z t s = -(Hd P D h).z t s - sp (-(Hd P D h).z t s) by ring,
    ← slope_coe, EReal.coe_neg]
  rfl

include hP in
/-- The saved slope of the second softplus. -/
theorem r19_1 (h : Fin 8) (t s : Fin 8192) : val_main_v19_1 (F := Ideal) x0 (ix3 h t s) = ((Real.exp ((Hd P D h).lb t s) : ℝ) : EReal) := by
  simp only [val_main_v19_1_apply, val_main_call1_call0_v21_apply, val_main_call1_call0_v20_apply, val_main_call1_call0_v16_apply,
    val_main_call1_call0_v18_apply, val_main_call1_call0_v14_apply, val_main_call1_call0_v19_apply, val_main_call1_call0_v15_apply,
    val_main_call1_call0_v17_apply, val_main_call1_call0_v13_apply, val_main_call1_call0_cst_0_apply, val_main_call1_call0_cst_1_apply,
    val_main_call1_call0_cst_2_apply, val_main_call1_call0_cst_3_apply, r18 x0 P D hP, zero_bits, inf_bits,
    r19_p x0 P D hP]
  rw [Head.lb, show lsig ((Hd P D h).z t s) = (Hd P D h).z t s - sp ((Hd P D h).z t s) by have := neg_sp ((Hd P D h).z t s); linarith,
    ← slope_coe]
  rfl

include hP in
/-- The masked logarithm of the fraction left over. -/
theorem r20_0 (h : Fin 8) (t s : Fin 8192) : val_main_v20_0 (F := Ideal) x0 (ix3 h t s) = (((Hd P D h).l1m t s : ℝ) : EReal) := by
  rw [val_main_v20_0_apply, r20_1, r19_0 x0 P D hP, val_main_call2_v2_apply, val_main_call2_v0_apply, val_main_cst_0_apply, zero_bits]
  exact mask_coe _ _ _

include hP in
/-- The logarithm of what the keys after a key leave of the stick. -/
theorem r22 (h : Fin 8) (t s : Fin 8192) : val_main_v22 (F := Ideal) x0 (ix3 h t s) = (((Hd P D h).aft t s : ℝ) : EReal) := by
  have hw : val_main_v21 (F := Ideal) x0 (ix3 h t s) = (((Hd P D h).l1m t s + ∑ j ∈ Ioo s.val 8192, (Hd P D h).l1m t j : ℝ) : EReal) := by
    unfold val_main_v21 Host.reduceWindowAdd
    simp only [Ideal.hostReduceWindowAdd_def]
    rw [val_main_call3_v0_apply, val_main_call3_cst_apply, zero_bits]
    rw [← sum_after 8192 s.val s.isLt fun j => (Hd P D h).l1m t j]
    exact window_sum (a := 8) (b := 8192) (n := 8192) (L := 0) (U := 8191) (val_main_v20_0 (F := Ideal) x0) _
      (fun j => (Hd P D h).l1m t j) h t s fun j => r20_0 x0 P D hP h t j
  rw [val_main_v22_apply, hw, r20_0 x0 P D hP]
  rw [Ideal.subf_def, ← EReal.coe_sub, add_sub_cancel_left]
  refine congrArg (fun x : ℝ => (x : EReal)) ?_
  unfold Head.aft Head.l1m
  rw [← Finset.sum_filter]
  refine Finset.sum_congr ?_ fun _ _ => rfl
  have := t.isLt
  ext j; simp only [Finset.mem_filter, Finset.mem_Ioo]; omega

include hP in
/-- The unmasked weight. -/
theorem r24 (h : Fin 8) (t s : Fin 8192) :
    val_main_v24 (F := Ideal) x0 (ix3 h t s) = ((Real.exp ((Hd P D h).lb t s + (Hd P D h).aft t s) : ℝ) : EReal) := by
  rw [val_main_v24_apply, val_main_v23_apply, r22 x0 P D hP, r17_0 x0 P D hP, ← Ideal.exp_coe, EReal.coe_add]
  rfl

include hP in
/-- The weight. -/
theorem r25 (h : Fin 8) (t s : Fin 8192) : val_main_v25_0 (F := Ideal) x0 (ix3 h t s) = (((Hd P D h).w t s : ℝ) : EReal) := by
  rw [val_main_v25_0_apply, r25_1, r24 x0 P D hP, val_main_call4_v2_apply, val_main_call4_v0_apply, val_main_cst_1_apply, zero_bits]
  exact mask_coe _ _ _

end Cert.ReferenceIdeal.Read
-- ==== Proof.RefOut.lean ====
/-
  The reference's attention output and gradients read at an index over the real numbers.
-/
module

public import proofs.«01_k».proof.Proof.Ref

@[expose] public section

set_option maxRecDepth 16384
noncomputable section
namespace Cert.ReferenceIdeal.Read
open Cert.ReferenceIdeal Cert.ReferenceIdeal.Gen Cert.Head
open Cert.KernelIdeal.Pay (Hd sc sc_coe sg sg_coe dgate)
open Idealize.ShloMosaic Idealize.ShloMosaic.TcCoe
open Finset (range Ioo)

variable (x0 : (⟨S8192x18432, .f32⟩ : BufTy).Contents (Elt Ideal)) (x1 : (⟨S4x8192x1024, .f32⟩ : BufTy).Contents (Elt Ideal))
  (P D : ℕ → ℕ → ℝ)
  (hP : ∀ (r : Fin 8192) (j : Fin 18432), x0 (ix2 r j) = ((P r j : ℝ) : EReal))
  (hD : ∀ (r : Fin 8192) (j : Fin 1024), x1 (ix3 (0 : Fin 4) r j) = ((D r j : ℝ) : EReal))

/-- A sum of products of two arrays holding real numbers. -/
theorem dot_coe {n : ℕ} (a b : Fin n → EReal) (f g : ℕ → ℝ) (ha : ∀ k : Fin n, a k = ((f k : ℝ) : EReal)) (hb : ∀ k : Fin n, b k = ((g k : ℝ) : EReal)) :
    ∑ k, a k * b k = ((∑ k ∈ range n, f k * g k : ℝ) : EReal) := by
  rw [← sum_coe fun k => f k * g k]
  exact Finset.sum_congr rfl fun k _ => by rw [ha, hb, ← EReal.coe_mul]

/-- The attention's output. -/
def att (P D : ℕ → ℕ → ℝ) (t j : ℕ) : ℝ := ∑ s ∈ range 8192, (Hd P D (j / 128)).v s (j % 128) * (Hd P D (j / 128)).w t s

/-- The head and the feature of a column. -/
def hd (j : Fin 1024) : Fin 8 := ⟨j.val / 128, by have := j.isLt; omega⟩
def ft (j : Fin 1024) : Fin 128 := ⟨j.val % 128, by omega⟩

/-- The rank-three index of a row and a column. -/
theorem split_ix (t : Fin 8192) (j : Fin 1024) (i : S8192x8x128.Idx) (h0 : (i 0).val = (t.val * 1024 + j.val) / 1024)
    (h1 : (i 1).val = (t.val * 1024 + j.val) / 128 % 8) (h2 : (i 2).val = (t.val * 1024 + j.val) % 128) : i = ix3 t (hd j) (ft j) := by
  have := j.isLt
  refine ix3_of i _ _ _ (h0.trans ?_) (h1.trans ?_) (h2.trans ?_)
  · omega
  · show _ = j.val / 128
    omega
  · show _ = j.val % 128
    omega

include hP in
/-- The attention's output, head by head. -/
theorem r26 (h : Fin 8) (d : Fin 128) (t : Fin 8192) : val_main_v26 (F := Ideal) x0 (ix3 h d t)
    = ((∑ s ∈ range 8192, (Hd P D h).v s d * (Hd P D h).w t s : ℝ) : EReal) := by
  rw [val_main_v26_apply]
  have ha : ∀ s : Fin 8192, (val_main_v6 (F := Ideal) x0) (lidx_main_v26 (ix3 h d t) s) = (((Hd P D h).v s d : ℝ) : EReal) := fun s => by
    rw [ix3_of (lidx_main_v26 (ix3 h d t) s) s h d rfl rfl rfl]
    exact r6 x0 P hP s h d
  have hb : ∀ s : Fin 8192, (val_main_v25_0 (F := Ideal) x0) (ridx_main_v26 (ix3 h d t) s) = (((Hd P D h).w t s : ℝ) : EReal) := fun s => by
    rw [ix3_of (ridx_main_v26 (ix3 h d t) s) h t s rfl rfl rfl]
    exact r25 x0 P D hP h t s
  exact dot_coe _ _ (fun s => (Hd P D h).v s d) (fun s => (Hd P D h).w t s) ha hb

include hP in
/-- The attention's output. -/
theorem r28 (t : Fin 8192) (j : Fin 1024) : val_main_v28 (F := Ideal) x0 (ix2 t j) = ((att P D t j : ℝ) : EReal) := by
  rw [val_main_v28_apply, split_ix t j (idx_main_v28 (ix2 t j)) rfl rfl rfl, val_main_v27_apply,
    ix3_of (idx_main_v27 (ix3 t (hd j) (ft j))) (hd j) (ft j) t rfl rfl rfl, r26 x0 P D hP]
  rfl

include hP in
/-- The logistic of the gate. -/
theorem r29_2 (t : Fin 8192) (j : Fin 1024) : val_main_v29_2 (F := Ideal) x0 (ix2 t j) = ((sg (P t (3072 + j)) : ℝ) : EReal) := by
  rw [val_main_v29_2_apply, val_main_call5_v4_apply, val_main_call5_cst_0_apply, val_main_call5_v3_apply, val_main_call5_v2_apply,
    val_main_call5_cst_apply, val_main_call5_v1_apply, val_main_call5_v0_apply, one_bits, r3 x0 P hP, ← sg_coe, zero_sub]
  rfl

include hP in
/-- The gated unit. -/
theorem r29_0 (t : Fin 8192) (j : Fin 1024) : val_main_v29_0 (F := Ideal) x0 (ix2 t j) = ((P t (3072 + j) * sg (P t (3072 + j)) : ℝ) : EReal) := by
  rw [val_main_v29_0_apply, r3 x0 P hP, r29_2 x0 P hP, Ideal.mulf_def, ← EReal.coe_mul]

include hP hD in
/-- The gradient of the gate. -/
theorem r60 (t : Fin 8192) (j : Fin 1024) : val_main_v60 (F := Ideal) x0 x1 (ix2 t j) = ((dgate P D (att P D) t j : ℝ) : EReal) := by
  rw [val_main_v60_apply, val_main_v35_apply, val_main_call6_v2_apply, val_main_call6_v1_apply, val_main_call6_v0_apply, val_main_v33_apply,
    val_main_v29_1_apply, val_main_call5_v7_apply, val_main_call5_v6_apply, val_main_call5_cst_1_apply, one_bits, r3 x0 P hP, r29_2 x0 P hP,
    r28 x0 P D hP, r32 x1 D hD]
  simp only [Ideal.mulf_def, Ideal.addf_def, Ideal.subf_def, ← EReal.coe_mul, ← EReal.coe_sub, ← EReal.coe_add, ← EReal.coe_one]
  refine congrArg (fun x : ℝ => (x : EReal)) ?_
  unfold dgate
  ring

include hP hD in
/-- The gradient of the attention's output, head by head. -/
theorem r37 (h : Fin 8) (d : Fin 128) (t : Fin 8192) : val_main_v37 (F := Ideal) x0 x1 (ix3 h d t) = (((Hd P D h).e t d : ℝ) : EReal) := by
  have hi : idx_main_v36 (idx_main_v37 (ix3 h d t)) = ix2 t ⟨128 * h.val + d.val, by omega⟩ := by
    refine ix2_of _ _ _ ?_ ?_
    · show ((t.val * 8 + h.val) * 128 + d.val) / 1024 = t.val
      omega
    · show ((t.val * 8 + h.val) * 128 + d.val) % 1024 = 128 * h.val + d.val
      omega
  rw [val_main_v37_apply, val_main_v36_apply, hi, val_main_v34_apply, r32 x1 D hD, r29_0 x0 P hP, Ideal.mulf_def, ← EReal.coe_mul]
  show (((D t (128 * h + d) * (P t (3072 + (128 * h + d)) * sg (P t (3072 + (128 * h + d))))) : ℝ) : EReal) = _
  rw [← add_assoc]
  rfl

include hP hD in
/-- The gradient of the weights, the weights' mask applied. -/
theorem r42 (h : Fin 8) (t s : Fin 8192) : val_main_v42 (F := Ideal) x0 x1 (ix3 h t s) = (((Hd P D h).gw t s : ℝ) : EReal) := by
  have e : val_main_v38 (F := Ideal) x0 x1 (ix3 h t s) = (((Hd P D h).gv t s : ℝ) : EReal) := by
    rw [val_main_v38_apply]
    exact dot_coe _ _ (fun d => (Hd P D h).e t d) (fun d => (Hd P D h).v s d) (fun d => r37 x0 x1 P D hP hD h d t) (fun d => r6 x0 P hP s h d)
  rw [val_main_v42_apply, val_main_v41_apply, r25_1, e, r24 x0 P D hP, val_main_call7_v0_apply, val_main_call7_cst_apply, zero_bits, mask_coe,
    Ideal.mulf_def, ← EReal.coe_mul]
  refine congrArg (fun x : ℝ => (x : EReal)) ?_
  unfold Head.gw Head.w
  split_ifs <;> ring

include hP hD in
/-- The gradient which the keys before a key send through their sticks. -/
theorem r45 (h : Fin 8) (t s : Fin 8192) : val_main_v45 (F := Ideal) x0 x1 (ix3 h t s) = (((Hd P D h).bef t s : ℝ) : EReal) := by
  have hw : val_main_v44 (F := Ideal) x0 x1 (ix3 h t s) = (((Hd P D h).gw t s + ∑ j ∈ range s.val, (Hd P D h).gw t j : ℝ) : EReal) := by
    unfold val_main_v44 Host.reduceWindowAdd
    simp only [Ideal.hostReduceWindowAdd_def]
    rw [val_main_call8_v0_apply, val_main_call8_cst_apply, zero_bits]
    rw [← sum_before 8192 s.val 8191 rfl s.isLt fun j => (Hd P D h).gw t j]
    exact window_sum (a := 8) (b := 8192) (n := 8192) (L := 8191) (U := 0) (val_main_v42 (F := Ideal) x0 x1) _
      (fun j => (Hd P D h).gw t j) h t s fun j => r42 x0 x1 P D hP hD h t j
  rw [val_main_v45_apply, hw, val_main_v43_apply, r42 x0 x1 P D hP hD, Ideal.addf_def, Ideal.hostNegf_def, Ideal.negf_def, ← EReal.coe_neg,
    ← EReal.coe_add]
  refine congrArg (fun x : ℝ => (x : EReal)) ?_
  unfold Head.bef
  ring

include hP hD in
/-- The gradient of the scores. -/
theorem r50 (h : Fin 8) (t s : Fin 8192) : val_main_v50 (F := Ideal) x0 x1 (ix3 h t s) = (((Hd P D h).dz t s : ℝ) : EReal) := by
  rw [val_main_v50_apply, val_main_v49_apply, val_main_v48_apply, val_main_v47_apply, val_main_call11_v1_apply, val_main_call11_v0_apply,
    val_main_call10_v1_apply, val_main_call10_v0_apply, val_main_v46_apply, r20_1, r45 x0 x1 P D hP hD, val_main_call9_v0_apply,
    val_main_call9_cst_apply, zero_bits, mask_coe, r42 x0 x1 P D hP hD, r17_1 x0 P D hP, r19_1 x0 P D hP]
  simp only [Ideal.mulf_def, Ideal.addf_def, Ideal.hostNegf_def, Ideal.negf_def, ← EReal.coe_mul, ← EReal.coe_neg, ← EReal.coe_add]
  refine congrArg (fun x : ℝ => (x : EReal)) ?_
  unfold Head.dz Head.gw Head.w
  split_ifs <;> ring

include hP hD in
/-- The scaled gradient of the scores. -/
theorem r52 (h : Fin 8) (t s : Fin 8192) : val_main_v52 (F := Ideal) x0 x1 (ix3 h t s) = (((Hd P D h).dz t s * sc : ℝ) : EReal) := by
  rw [val_main_v52_apply, r50 x0 x1 P D hP hD, val_main_v51_apply, val_main_cst_2_apply, EReal.coe_mul]
  exact congrArg _ sc_coe

include hP hD in
/-- The gradient of the queries, head by head. -/
theorem r55 (h : Fin 8) (t : Fin 8192) (d : Fin 128) : val_main_v55 (F := Ideal) x0 x1 (ix3 h t d)
    = ((∑ s ∈ range 8192, (Hd P D h).dz t s * sc * P s (1024 + 128 * h + d) : ℝ) : EReal) := by
  rw [val_main_v55_apply]
  have ha : ∀ s : Fin 8192, (val_main_v52 (F := Ideal) x0 x1) (lidx_main_v55 (ix3 h t d) s) = (((Hd P D h).dz t s * sc : ℝ) : EReal) := fun s => by
    rw [ix3_of (lidx_main_v55 (ix3 h t d) s) h t s rfl rfl rfl]
    exact r52 x0 x1 P D hP hD h t s
  have hb : ∀ s : Fin 8192, (val_main_v5 (F := Ideal) x0) (ridx_main_v55 (ix3 h t d) s) = ((P s (1024 + 128 * h + d) : ℝ) : EReal) := fun s => by
    rw [ix3_of (ridx_main_v55 (ix3 h t d) s) s h d rfl rfl rfl]
    exact r5 x0 P hP s h d
  exact dot_coe _ _ (fun s => (Hd P D h).dz t s * sc) (fun s => P s (1024 + 128 * h + d)) ha hb

include hP hD in
/-- The gradient of the keys, head by head. -/
theorem r53 (h : Fin 8) (s : Fin 8192) (d : Fin 128) : val_main_v53 (F := Ideal) x0 x1 (ix3 h s d)
    = ((∑ t ∈ range 8192, (Hd P D h).dz t s * sc * P t (128 * h + d) : ℝ) : EReal) := by
  rw [val_main_v53_apply]
  have ha : ∀ t : Fin 8192, (val_main_v52 (F := Ideal) x0 x1) (lidx_main_v53 (ix3 h s d) t) = (((Hd P D h).dz t s * sc : ℝ) : EReal) := fun t => by
    rw [ix3_of (lidx_main_v53 (ix3 h s d) t) h t s rfl rfl rfl]
    exact r52 x0 x1 P D hP hD h t s
  have hb : ∀ t : Fin 8192, (val_main_v4 (F := Ideal) x0) (ridx_main_v53 (ix3 h s d) t) = ((P t (128 * h + d) : ℝ) : EReal) := fun t => by
    rw [ix3_of (ridx_main_v53 (ix3 h s d) t) t h d rfl rfl rfl]
    exact r4 x0 P hP t h d
  exact dot_coe _ _ (fun t => (Hd P D h).dz t s * sc) (fun t => P t (128 * h + d)) ha hb

include hP hD in
/-- The gradient of the values, head by head. -/
theorem r39 (h : Fin 8) (d : Fin 128) (s : Fin 8192) : val_main_v39 (F := Ideal) x0 x1 (ix3 h d s)
    = ((∑ t ∈ range 8192, (Hd P D h).e t d * (Hd P D h).w t s : ℝ) : EReal) := by
  rw [val_main_v39_apply]
  have ha : ∀ t : Fin 8192, (val_main_v37 (F := Ideal) x0 x1) (lidx_main_v39 (ix3 h d s) t) = (((Hd P D h).e t d : ℝ) : EReal) := fun t => by
    rw [ix3_of (lidx_main_v39 (ix3 h d s) t) h d t rfl rfl rfl]
    exact r37 x0 x1 P D hP hD h d t
  have hb : ∀ t : Fin 8192, (val_main_v25_0 (F := Ideal) x0) (ridx_main_v39 (ix3 h d s) t) = (((Hd P D h).w t s : ℝ) : EReal) := fun t => by
    rw [ix3_of (ridx_main_v39 (ix3 h d s) t) h t s rfl rfl rfl]
    exact r25 x0 P D hP h t s
  exact dot_coe _ _ (fun t => (Hd P D h).e t d) (fun t => (Hd P D h).w t s) ha hb

include hP hD in
/-- The gradient of the queries. -/
theorem r59 (t : Fin 8192) (j : Fin 1024) :
    val_main_v59 (F := Ideal) x0 x1 (ix2 t j) = (((Hd P D (j.val / 128)).dqs 8192 t (j.val % 128) * sc : ℝ) : EReal) := by
  rw [val_main_v59_apply, split_ix t j (idx_main_v59 (ix2 t j)) rfl rfl rfl, val_main_v56_apply,
    ix3_of (idx_main_v56 (ix3 t (hd j) (ft j))) (hd j) t (ft j) rfl rfl rfl, r55 x0 x1 P D hP hD]
  refine congrArg (fun x : ℝ => (x : EReal)) ?_
  unfold Head.dqs
  rw [Finset.sum_mul]
  refine Finset.sum_congr rfl fun s _ => ?_
  show (Hd P D (j.val / 128)).dz t s * sc * (Hd P D (j.val / 128)).k s (j.val % 128) = _
  ring

include hP hD in
/-- The gradient of the keys. -/
theorem r58 (s : Fin 8192) (j : Fin 1024) :
    val_main_v58 (F := Ideal) x0 x1 (ix2 s j)
      = ((∑ t ∈ range 8192, (Hd P D (j.val / 128)).dz t s * (Hd P D (j.val / 128)).q t (j.val % 128) : ℝ) : EReal) := by
  rw [val_main_v58_apply, split_ix s j (idx_main_v58 (ix2 s j)) rfl rfl rfl, val_main_v54_apply,
    ix3_of (idx_main_v54 (ix3 s (hd j) (ft j))) (hd j) s (ft j) rfl rfl rfl, r53 x0 x1 P D hP hD]
  refine congrArg (fun x : ℝ => (x : EReal)) (Finset.sum_congr rfl fun t _ => ?_)
  show (Hd P D (j.val / 128)).dz t s * sc * P t (128 * (j.val / 128) + j.val % 128) = (Hd P D (j.val / 128)).dz t s * (P t (128 * (j.val / 128) + j.val % 128) * sc)
  ring

include hP hD in
/-- The gradient of the values. -/
theorem r57 (s : Fin 8192) (j : Fin 1024) :
    val_main_v57 (F := Ideal) x0 x1 (ix2 s j)
      = ((∑ t ∈ range 8192, (Hd P D (j.val / 128)).w t s * (Hd P D (j.val / 128)).e t (j.val % 128) : ℝ) : EReal) := by
  rw [val_main_v57_apply, split_ix s j (idx_main_v57 (ix2 s j)) rfl rfl rfl, val_main_v40_apply,
    ix3_of (idx_main_v40 (ix3 s (hd j) (ft j))) (hd j) (ft j) s rfl rfl rfl, r39 x0 x1 P D hP hD]
  refine congrArg (fun x : ℝ => (x : EReal)) (Finset.sum_congr rfl fun t _ => ?_)
  exact mul_comm _ _

end Cert.ReferenceIdeal.Read
-- ==== Proof.Carry.lean ====
/-
  The decays handed to the kernel, read at an index over the real numbers; and that the precondition gives real numbers.
-/
module

public import proofs.«01_k».proof.Proof.RefOut
public import proofs.«01_k».proof.Proof.Gen.KernelIdeal
public import proofs.«01_k».proof.Proof.Gen.Pre_finite
public import Idealize.ShloMosaic.Lib.KernelVsHost
public import Idealize.ShloMosaic.Lib.ReduceAll

@[expose] public section

set_option maxRecDepth 16384
noncomputable section
namespace Cert.KernelIdeal.Pay
open Cert.KernelIdeal Cert.KernelIdeal.Gen Cert.Head Cert.ReferenceIdeal.Read
open Idealize.ShloMosaic Idealize.ShloMosaic.TcCoe

/-- Every 128th column of the decays, transposed, padded and reshaped: the decay behind each tile of 128 keys. -/
theorem carries_at (x0 : (⟨S8192x18432, .f32⟩ : BufTy).Contents (Elt Ideal)) (P D : ℕ → ℕ → ℝ)
    (hP : ∀ (r : Fin 8192) (j : Fin 18432), x0 (ix2 r j) = ((P r j : ℝ) : EReal)) (r : Fin 8192) (j : Fin 1024) :
    shapeCast S8192x1024 (pad S8192x8x128 ![0, 0, 0] ![0, 0, 64] ![0, 0, 0]
      (transpose S8192x8x64 [1, 0, 2] (Host.slice S8x8192x64 ![0, 0, 127] ![1, 1, 128] (val_main_v22 (F := Ideal) x0)
        slicesBy_S8x8192x8192_S8x8192x64_0s1_0s1_127s128) transposes_S8x8192x64_S8192x8x64_1_0_2)
      (sitofp (F := Ideal) .f32 (constantI S_ 32 0#32)) pads_S8192x8x64_S8192x8x128_000_000_0640 h_S_) shapeCasts_S8192x8x128_S8192x1024 (ix2 r j)
      = (((Hd P D (j.val / 128)).car r (j.val % 128) : ℝ) : EReal) := by
  have hr := r.isLt
  have hj := j.isLt
  rw [shapeCast_apply _ shapeCasts_S8192x8x128_S8192x1024 (ix2 r j) (ix3 r (hd j) (ft j)) (by
    rw [Shape.rowMajor_val_three, Shape.rowMajor_val_two]
    show (r.val * 8 + j.val / 128) * 128 + j.val % 128 = r.val * 1024 + j.val
    omega)]
  unfold Head.car
  by_cases h : j.val % 128 < 64
  · rw [if_pos h, pad_apply_of_inside _ _ _ _ _ _ _ (ix3 r (hd j) (ft j)) (ix3 r (hd j) (⟨j.val % 128, h⟩ : Fin 64)) (fun a => match a with
      | ⟨0, _⟩ => by show r.val = 0 + r.val * 1; omega
      | ⟨1, _⟩ => by show j.val / 128 = 0 + j.val / 128 * 1; omega
      | ⟨2, _⟩ => by show j.val % 128 = 0 + j.val % 128 * 1; omega)]
    rw [transpose_apply [1, 0, 2] _ _ (ix3 r (hd j) (⟨j.val % 128, h⟩ : Fin 64)) (ix3 (hd j) r (⟨j.val % 128, h⟩ : Fin 64)) (fun b => match b with
      | ⟨0, _⟩ => rfl
      | ⟨1, _⟩ => rfl
      | ⟨2, _⟩ => rfl)]
    rw [Host.slice_apply]
    refine (congrArg _ (ix3_of _ (hd j) r (⟨128 * (j.val % 128) + 127, by omega⟩ : Fin 8192) ?_ ?_ ?_)).trans (r22 x0 P D hP (hd j) r _)
    · show 0 + 1 * (j.val / 128) = j.val / 128
      omega
    · show 0 + 1 * r.val = r.val
      omega
    · show 127 + 128 * (j.val % 128) = 128 * (j.val % 128) + 127
      omega
  · rw [if_neg h, pad_apply_of_not_inside _ _ _ _ _ _ _ (ix3 r (hd j) (ft j)) (2 : Fin 3) (by
      show ¬(0 ≤ j.val % 128 ∧ (j.val % 128 - 0) % 1 = 0 ∧ (j.val % 128 - 0) / 1 < 64)
      omega)]
    show (((0#32 : BitVec 32).toInt : ℝ) : EReal) = ((0 : ℝ) : EReal)
    simp

/-- An extended real whose absolute value is below infinity is a real number. -/
theorem real_of_abs (x : EReal) (h : Ideal.cmp .olt (max x (-x)) ⊤ = 1#1) : x = ((x.toReal : ℝ) : EReal) := by
  have h' : max x (-x) < ⊤ := by
    by_contra hn
    have : Ideal.cmp .olt (max x (-x)) ⊤ = 0#1 := by
      unfold Ideal.cmp
      simp only [decide_eq_false hn]
      rfl
    rw [this] at h
    exact absurd h (by decide)
  refine (EReal.coe_toReal ?_ ?_).symm
  · rintro rfl; exact absurd h' (by simp)
  · rintro rfl; exact absurd h' (by simp)

/-- Arguments which satisfy the precondition are real numbers. -/
theorem finite_real (x0 : (⟨S8192x18432, .f32⟩ : BufTy).Contents (Elt Ideal)) (x1 : (⟨S4x8192x1024, .f32⟩ : BufTy).Contents (Elt Ideal))
    (h : Cert.Pre_finite.fn (F := Ideal) x0 x1 = fun _ => 1#1) :
    (∀ i, x0 i = (((x0 i : EReal).toReal : ℝ) : EReal)) ∧ ∀ i, x1 i = (((x1 i : EReal).toReal : ℝ) : EReal) := by
  have h2 : ∀ a b : BitVec 1, IntOp.andi a b = 1#1 → a = 1#1 ∧ b = 1#1 := by decide
  have hs : Subsingleton Cert.Pre_finite.S_.Idx := ⟨fun a b => funext fun x => x.elim0⟩
  have e := congrFun h (fun a => a.elim0)
  obtain ⟨ea, eb⟩ := h2 _ _ e
  refine ⟨fun i => real_of_abs _ ?_, fun i => real_of_abs _ ?_⟩
  · refine Eq.trans ?_ (Host.reduce_andi_all _ _ _ _ _ ea i)
    rw [← inf_bits]
    rfl
  · refine Eq.trans ?_ (Host.reduce_andi_all _ _ _ _ _ eb i)
    rw [← inf_bits]
    rfl
end Cert.KernelIdeal.Pay
-- ==== Proof.Equal.lean ====
/-
  The kernel's four result arrays are the reference's.
-/
module

public import proofs.«01_k».proof.Proof.Arr
public import proofs.«01_k».proof.Proof.HostO
public import proofs.«01_k».proof.Proof.HostC
public import proofs.«01_k».proof.Proof.Carry

@[expose] public section

set_option maxRecDepth 16384
noncomputable section
namespace Cert.KernelIdeal.Pay
open Cert.KernelIdeal Cert.KernelIdeal.Gen Cert.Head Cert.ReferenceIdeal.Read
open Idealize.ShloMosaic Idealize.ShloMosaic.TcCoe
open Finset (range)

variable (m : (ℓ : Loc nD τ sig) → Buf (Elt Ideal) ℓ) (c : Dev nD)
  (x0 : (⟨S8192x18432, .f32⟩ : BufTy).Contents (Elt Ideal)) (x1 : (⟨S4x8192x1024, .f32⟩ : BufTy).Contents (Elt Ideal))
  (h0 : m ((c : Thread nD τ).loc main_arg0) = x0) (h1 : m ((c : Thread nD τ).loc main_arg1) = x1)
  (r0 : ∀ i, x0 i = (((x0 i : EReal).toReal : ℝ) : EReal)) (r1 : ∀ i, x1 i = (((x1 i : EReal).toReal : ℝ) : EReal))

/-- The first argument's elements as real numbers, at natural-number positions. -/
def PR (x0 : (⟨S8192x18432, .f32⟩ : BufTy).Contents (Elt Ideal)) (t j : ℕ) : ℝ :=
  if h : t < 8192 ∧ j < 18432 then (x0 (ix2 ⟨t, h.1⟩ ⟨j, h.2⟩) : EReal).toReal else 0

/-- The second argument's first part as real numbers, at natural-number positions. -/
def DR (x1 : (⟨S4x8192x1024, .f32⟩ : BufTy).Contents (Elt Ideal)) (t j : ℕ) : ℝ :=
  if h : t < 8192 ∧ j < 1024 then (x1 (ix3 (0 : Fin 4) ⟨t, h.1⟩ ⟨j, h.2⟩) : EReal).toReal else 0

include r0 in
theorem hP' (r : Fin 8192) (j : Fin 18432) : x0 (ix2 r j) = ((PR x0 r j : ℝ) : EReal) := by
  unfold PR
  rw [dif_pos ⟨r.isLt, j.isLt⟩]
  exact r0 _

include r1 in
theorem hD' (r : Fin 8192) (j : Fin 1024) : x1 (ix3 (0 : Fin 4) r j) = ((DR x1 r j : ℝ) : EReal) := by
  unfold DR
  rw [dif_pos ⟨r.isLt, j.isLt⟩]
  exact r1 _

include h0 r0 in
/-- The attention's output handed to the kernel. -/
theorem hO' (r : Fin 8192) (j : Fin 1024) : V m c main_v27 (ix2 r j) = ((att (PR x0) (DR x1) r j : ℝ) : EReal) := by
  rw [v27_eq, h0]
  exact r28 x0 _ _ (hP' x0 r0) r j

include h0 r0 in
/-- The decays handed to the kernel. -/
theorem hC' (r : Fin 8192) (j : Fin 1024) :
    V m c main_v31 (ix2 r j) = (((Hd (PR x0) (DR x1) (j.val / 128)).car r (j.val % 128) : ℝ) : EReal) := by
  rw [v31_eq, h0]
  exact carries_at x0 _ _ (hP' x0 r0) r j

include h0 h1 r0 r1 in
/-- The gradient of the queries. -/
theorem eq7 : (dats m 0 c).arrAt 7 cfg0.N = val_main_v59 (F := Ideal) x0 x1 := by
  rw [arr7 m c (PR x0) (DR x1) (att (PR x0) (DR x1)) (by rw [h0]; exact hP' x0 r0) (by rw [h1]; exact hD' x1 r1)
    (hO' m c x0 x1 h0 r0) (hC' m c x0 x1 h0 r0)]
  funext i
  rw [eq_ix2 i]
  exact (r59 x0 x1 _ _ (hP' x0 r0) (hD' x1 r1) _ _).symm

include h0 h1 r0 r1 in
/-- The gradient of the keys. -/
theorem eq8 : (dats m 0 c).arrAt 8 cfg0.N = val_main_v58 (F := Ideal) x0 x1 := by
  rw [arr8 m c (PR x0) (DR x1) (att (PR x0) (DR x1)) (by rw [h0]; exact hP' x0 r0) (by rw [h1]; exact hD' x1 r1)
    (hO' m c x0 x1 h0 r0) (hC' m c x0 x1 h0 r0)]
  funext i
  rw [eq_ix2 i]
  refine Eq.trans ?_ (r58 x0 x1 _ _ (hP' x0 r0) (hD' x1 r1) _ _).symm
  refine congrArg (fun x : ℝ => (x : EReal)) ?_
  exact sum_blocks 512 (fun t => (Hd (PR x0) (DR x1) ((i 1).val / 128)).dz t (i 0).val * (Hd (PR x0) (DR x1) ((i 1).val / 128)).q t ((i 1).val % 128)) 16

include h0 h1 r0 r1 in
/-- The gradient of the values. -/
theorem eq9 : (dats m 0 c).arrAt 9 cfg0.N = val_main_v57 (F := Ideal) x0 x1 := by
  rw [arr9 m c (PR x0) (DR x1) (att (PR x0) (DR x1)) (by rw [h0]; exact hP' x0 r0) (by rw [h1]; exact hD' x1 r1)
    (hO' m c x0 x1 h0 r0) (hC' m c x0 x1 h0 r0)]
  funext i
  rw [eq_ix2 i]
  refine Eq.trans ?_ (r57 x0 x1 _ _ (hP' x0 r0) (hD' x1 r1) _ _).symm
  refine congrArg (fun x : ℝ => (x : EReal)) ?_
  exact sum_blocks 512 (fun t => (Hd (PR x0) (DR x1) ((i 1).val / 128)).w t (i 0).val * (Hd (PR x0) (DR x1) ((i 1).val / 128)).e t ((i 1).val % 128)) 16

include h0 h1 r0 r1 in
/-- The gradient of the gate. -/
theorem eq10 : (dats m 0 c).arrAt 10 cfg0.N = val_main_v60 (F := Ideal) x0 x1 := by
  rw [arr10 m c (PR x0) (DR x1) (att (PR x0) (DR x1)) (by rw [h0]; exact hP' x0 r0) (by rw [h1]; exact hD' x1 r1)
    (hO' m c x0 x1 h0 r0) (hC' m c x0 x1 h0 r0)]
  funext i
  rw [eq_ix2 i]
  exact (r60 x0 x1 _ _ (hP' x0 r0) (hD' x1 r1) _ _).symm

end Cert.KernelIdeal.Pay
-- ==== Proof.Mat.lean ====
/-
  Facts the matrix products share: arrays read at natural numbers, sums cut into blocks, and the accumulator which a
  contraction's blocks fill one after the other.
-/
module

public import Idealize.ShloMosaic.Lib.ValueIdxCore
public import Idealize.ShloMosaic.PureOps.Ideal.Laws

@[expose] public section

noncomputable section
namespace Cert.Mat
open Idealize.ShloMosaic
open Finset (range)

/-- A matrix read at natural numbers, zero outside. -/
def el {n m : ℕ} (x : (⟨2, ![n, m]⟩ : Shape).Idx → EReal) (r c : ℕ) : EReal :=
  if h : r < n ∧ c < m then x (ValueIdx.ix2 ⟨r, h.1⟩ ⟨c, h.2⟩) else 0

/-- An entry is what stands at its coordinates. -/
theorem el_of {n m : ℕ} (x : (⟨2, ![n, m]⟩ : Shape).Idx → EReal) (i : (⟨2, ![n, m]⟩ : Shape).Idx) (r c : ℕ)
    (h0 : (i 0).val = r) (h1 : (i 1).val = c) : x i = el x r c := by
  subst h0 h1
  have a : (i 0).val < n := (i 0).isLt
  have b : (i 1).val < m := (i 1).isLt
  unfold el
  rw [dif_pos ⟨a, b⟩]
  exact congrArg x (ValueIdx.eq_ix2 i)

/-- A matrix by its rows. -/
abbrev rows {n m : ℕ} (x : (⟨2, ![n, m]⟩ : Shape).Idx → EReal) (r k : ℕ) : EReal := el x r k
/-- A matrix by its columns. -/
abbrev cols {n m : ℕ} (x : (⟨2, ![n, m]⟩ : Shape).Idx → EReal) (r k : ℕ) : EReal := el x k r

/-- A stack of matrices read at natural numbers, zero outside. -/
def pl {b n m : ℕ} (x : (⟨3, ![b, n, m]⟩ : Shape).Idx → EReal) (a r c : ℕ) : EReal :=
  if h : a < b ∧ r < n ∧ c < m then x (ValueIdx.ix3 ⟨a, h.1⟩ ⟨r, h.2.1⟩ ⟨c, h.2.2⟩) else 0

/-- An entry is what stands at its coordinates. -/
theorem pl_of {b n m : ℕ} (x : (⟨3, ![b, n, m]⟩ : Shape).Idx → EReal) (i : (⟨3, ![b, n, m]⟩ : Shape).Idx) (a r c : ℕ)
    (h0 : (i 0).val = a) (h1 : (i 1).val = r) (h2 : (i 2).val = c) : x i = pl x a r c := by
  subst h0 h1 h2
  have k0 : (i 0).val < b := (i 0).isLt
  have k1 : (i 1).val < n := (i 1).isLt
  have k2 : (i 2).val < m := (i 2).isLt
  unfold pl
  rw [dif_pos ⟨k0, k1, k2⟩]
  exact congrArg x (ValueIdx.eq_ix3 i)

/-- The rows of a stack's matrix. -/
abbrev prows {b n m : ℕ} (x : (⟨3, ![b, n, m]⟩ : Shape).Idx → EReal) (a r k : ℕ) : EReal := pl x a r k
/-- The columns of a stack's matrix. -/
abbrev pcols {b n m : ℕ} (x : (⟨3, ![b, n, m]⟩ : Shape).Idx → EReal) (a r k : ℕ) : EReal := pl x a k r
/-- All matrices' columns, one matrix after the other. -/
abbrev acols {b n m : ℕ} (x : (⟨3, ![b, n, m]⟩ : Shape).Idx → EReal) (r k : ℕ) : EReal := pl x (r / m) k (r % m)

/-- The sigmoid, as both programs write it. -/
def sigm (x : EReal) : EReal := Ideal.div 1 (1 + Ideal.exp (-x))

/-- Line `r` of `a` times line `s` of `b`, over the first `n` positions. -/
def dot (a b : ℕ → ℕ → EReal) (n r s : ℕ) : EReal := ∑ k ∈ range n, a r k * b s k

/-- A sum of products is a product of lines when its factors are the lines' entries. -/
theorem dot_of {b : ℕ} (A B : ℕ → ℕ → EReal) (r s : ℕ) (L M : Fin b → EReal) (hL : ∀ k, L k = A r k) (hM : ∀ k, M k = B s k) :
    ∑ k, L k * M k = dot A B b r s := by
  unfold dot
  rw [Finset.sum_range]
  exact Finset.sum_congr rfl fun k _ => congrArg₂ (· * ·) (hL k) (hM k)

/-- An accumulator which starts anew where its count of blocks `J` divides the point's number, and to which each
    point adds its block of `b` terms, holds the terms of the blocks so far. -/
theorem acc_eq {ι : Type} (N J b : ℕ) (S : (n : ℕ) → n < N → ι → EReal) (T : ℕ → ι → ℕ → EReal)
    (hA : ∀ n h x, n % J = 0 → S n h x = ∑ k ∈ range b, T n x k)
    (hB : ∀ n h x, n % J ≠ 0 → S n h x = S (n - 1) (by omega) x + ∑ k ∈ range b, T n x (b * (n % J) + k))
    (hT : ∀ n x k, n % J ≠ 0 → T (n - 1) x k = T n x k) (hJ : 0 < J) :
    ∀ n h x, S n h x = ∑ k ∈ range (b * (n % J + 1)), T n x k := by
  intro n
  induction n with
  | zero => intro h x; rw [hA 0 h x (Nat.zero_mod _), Nat.zero_mod, Nat.zero_add, Nat.mul_one]
  | succ n ih =>
    intro h x
    by_cases e : (n + 1) % J = 0
    · rw [hA _ h x e, e, Nat.zero_add, Nat.mul_one]
    · have q : (n + 1) % J = n % J + 1 := by
        have h1 : n % J < J := Nat.mod_lt _ hJ
        rcases Nat.lt_or_ge (n % J + 1) J with h2 | h2
        · rw [Nat.add_mod, Nat.mod_eq_of_lt (a := 1) (by omega), Nat.mod_eq_of_lt h2]
        · exfalso; apply e
          rw [Nat.add_mod_eq_add_mod_right 1 (Nat.mod_mod n J).symm, show n % J + 1 = J by omega, Nat.mod_self]
      have u := hB _ h x e
      have t : ∀ k, T n x k = T (n + 1) x k := fun k => hT (n + 1) x k e
      have v := ih (by omega) x
      rw [u]
      simp only [Nat.add_sub_cancel]
      rw [v, q, Nat.mul_succ b (n % J + 1), Finset.sum_range_add]
      congr 1
      exact Finset.sum_congr rfl fun k _ => t k

/-- An accumulator to which each point adds the product of two blocks, the blocks of one sum coming one after the
    other and the lines staying the same, holds the product of the lines over the blocks so far. -/
theorem acc_dot {p q b : ℕ} (N J : ℕ) (hJ : 0 < J) (A B : ℕ → ℕ → EReal) (R C : ℕ → ℕ)
    (S : (n : ℕ) → n < N → Fin p → Fin q → EReal) (L : (n : ℕ) → n < N → Fin p → Fin b → EReal) (M : (n : ℕ) → n < N → Fin q → Fin b → EReal)
    (hL : ∀ n h r k, L n h r k = A (R n + r) (b * (n % J) + k)) (hM : ∀ n h s k, M n h s k = B (C n + s) (b * (n % J) + k))
    (hA : ∀ n h r s, n % J = 0 → S n h r s = ∑ k : Fin b, L n h r k * M n h s k)
    (hB : ∀ n h r s, n % J ≠ 0 → S n h r s = S (n - 1) (by omega) r s + ∑ k : Fin b, L n h r k * M n h s k)
    (hRC : ∀ n, n % J ≠ 0 → R (n - 1) = R n ∧ C (n - 1) = C n) (n : ℕ) (h : n < N) (r : Fin p) (s : Fin q) :
    S n h r s = dot A B (b * (n % J + 1)) (R n + r) (C n + s) := by
  have e : ∀ n h (r : Fin p) (s : Fin q), ∑ k : Fin b, L n h r k * M n h s k
      = ∑ k ∈ range b, A (R n + r) (b * (n % J) + k) * B (C n + s) (b * (n % J) + k) := fun n h r s => by
    rw [Finset.sum_range]
    exact Finset.sum_congr rfl fun k _ => by rw [hL, hM]
  refine acc_eq N J b (fun n h (x : Fin p × Fin q) => S n h x.1 x.2) (fun n x k => A (R n + x.1) k * B (C n + x.2) k) ?_ ?_ ?_ hJ n h (r, s)
  · intro n h x z
    exact (hA n h x.1 x.2 z).trans ((e n h x.1 x.2).trans (by simp only [z, Nat.mul_zero, Nat.zero_add]))
  · intro n h x z
    exact (hB n h x.1 x.2 z).trans (congrArg _ (e n h x.1 x.2))
  · intro n x k z
    rw [(hRC n z).1, (hRC n z).2]

end Cert.Mat

end
-- ==== Proof.ProjDw.lean ====
/-
  The gradient of the input projection's weights: the kernel's result array and the reference's hold the same products.
-/
module

public import proofs.«01_k».proof.Proof.Mat
public import proofs.«01_k».proof.Proof.Head
public import Idealize.ShloMosaic.Lib.VecWindow
public import proofs.«01_k».proof.Proof.Gen.ProjDwIdeal.Value
public import proofs.«01_k».proof.Proof.Gen.ProjDwRefIdeal.Read

@[expose] public section

set_option maxRecDepth 16384
noncomputable section
namespace Cert.ProjDwIdeal.Prod
open Cert.ProjDwIdeal Cert.ProjDwIdeal.Gen Cert.Mat
open Idealize.ShloMosaic Idealize.ShloMosaic.TcCoe Idealize.ShloMosaic.Tactic
open Idealize.ShloMosaic.Pipeline (Dat)
open Finset (range)

/-- Which blocks a point reads and writes. -/
theorem idx : ∀ t : Fin cfg0.N, win0_0.index t = ![t.val % 2, t.val / 48] ∧ win0_1.index t = ![t.val % 2, t.val / 2 % 24]
    ∧ win0_2.index t = ![t.val / 48, t.val / 2 % 24] :=
  (by decide +kernel : ∀ t : Fin grid0.N, _)

theorem N96 (t : Fin cfg0.N) : t.val < 96 := lt_of_lt_of_eq t.isLt (show cfg0.N = 96 from N_0)

/-- The stored zeros. -/
theorem pay1_at (r : Fin 1024) (s : Fin 768) : (k0_pay1 (F := Ideal)) (ix2 r s) = 0 := by
  pointwise [k0_pay1]

/-- The product of two blocks is added to the accumulator. -/
theorem pay2_at (x : Vec Ideal S1024x768 .f32) (y : Vec Ideal S4096x1024 .bf16) (z : Vec Ideal S4096x768 .bf16) (r : Fin 1024) (s : Fin 768) :
    k0_pay2 (F := Ideal) x y z (ix2 r s) = x (ix2 r s) + ∑ k : Fin 4096, y (ix2 k r) * z (ix2 k s) := by
  pointwise [k0_pay2]

theorem hz : (![0, 0] : Fin 2 → ℕ) = fun _ => 0 := by funext a; fin_cases a <;> rfl

/-- A first point leaves its blocks' product. -/
theorem soutA (c : Dev nD) (i : grid0.Coords) (arg3 : Memref sig .tc .vmem S4096x1024 .bf16) (harg3 : arg3.IsWhole) (arg4 : Memref sig .tc .vmem S4096x768 .bf16) (harg4 : arg4.IsWhole) (arg5 : Memref sig .tc .vmem S1024x768 .bf16) (harg5 : arg5.IsWhole) (arg6 : Memref sig .tc .vmem S1024x768 .f32) (harg6 : arg6.IsWhole) (hc0 : cond0_0 i) (hc1 : ¬cond0_1 i)
    (x0 : Vec Ideal S4096x1024 .bf16) (x1 : Vec Ideal S4096x768 .bf16) :
    sout0_A_0 c i arg3 harg3 arg4 harg4 arg5 harg5 arg6 harg6 hc0 hc1 x0 x1 = k0_pay2 k0_pay1 x0 x1 := by
  unfold sout0_A_0 kernelRun0_A
  dsimp only
  rw [View.read_writes_full]
  sl_unfold_words
  rw [View.readCov_unit_zero _ hz]
  rw [View.readAt_full, View.readAt_full, harg3.read_unread, harg4.read_unread]

section
variable (c : Dev nD) (i : grid0.Coords) (arg3 : Memref sig .tc .vmem S4096x1024 .bf16) (harg3 : arg3.IsWhole) (arg4 : Memref sig .tc .vmem S4096x768 .bf16) (harg4 : arg4.IsWhole) (arg5 : Memref sig .tc .vmem S1024x768 .bf16) (harg5 : arg5.IsWhole) (arg6 : Memref sig .tc .vmem S1024x768 .f32) (harg6 : arg6.IsWhole) (hc0 : ¬cond0_0 i) (hc1 : cond0_1 i)
    (x0 : Vec Ideal S4096x1024 .bf16) (x1 : Vec Ideal S4096x768 .bf16) (xs0 : Vec Ideal S1024x768 .f32)

/-- A later point adds its blocks' product to what the accumulator held. -/
theorem soutB : sout0_B_0 c i arg3 harg3 arg4 harg4 arg5 harg5 arg6 harg6 hc0 hc1 x0 x1 xs0 = k0_pay2 xs0 x0 x1 := by
  unfold sout0_B_0 kernelRun0_B
  dsimp only
  sl_unfold_words
  rw [View.read_writes_full]
  rw [View.readAt_full, View.readAt_full, View.readAt_full, harg3.read_unread, harg4.read_unread, harg6.read_unread]

/-- The last point writes the accumulator out. -/
theorem outB : out0_B_2 c i arg3 harg3 arg4 harg4 arg5 harg5 arg6 harg6 hc0 hc1 x0 x1 xs0 = k0_pay3 (k0_pay2 xs0 x0 x1) := by
  unfold out0_B_2 kernelRun0_B
  dsimp only
  sl_unfold_words
  rw [View.read_writes_full, View.readCov_unit_zero _ hz]
  rw [View.readAt_full, View.readAt_full, View.readAt_full, harg3.read_unread, harg4.read_unread, harg6.read_unread]
end

variable (m : (ℓ : Loc nD τ sig) → Buf (Elt Ideal) ℓ) (c : Dev nD)

/-- The rows, as the program is given them. -/
abbrev X : S8192x2048.Idx → EReal := m ((c : Thread nD τ).loc main_arg0)
/-- The gradient of the product, as the program is given it. -/
abbrev Y : S8192x18432.Idx → EReal := m ((c : Thread nD τ).loc main_arg1)

/-- The first operand's block. -/
theorem blk0 (t : Fin cfg0.N) (k : Fin 4096) (r : Fin 1024) :
    (iblk m c 0 t : S4096x1024.Idx → EReal) (ix2 k r) = el (X m c) (4096 * (t.val % 2) + k) (1024 * (t.val / 48) + r) := by
  have := N96 t; have := k.isLt; have := r.isLt
  refine Eq.trans ?_ (el_of (X m c) (ix2 ⟨4096 * (t.val % 2) + k.val, by omega⟩ ⟨1024 * (t.val / 48) + r.val, by omega⟩) _ _ rfl rfl)
  blk_ext [iblk, V, idx t]

/-- The second operand's block. -/
theorem blk1 (t : Fin cfg0.N) (k : Fin 4096) (s : Fin 768) :
    (iblk m c 1 t : S4096x768.Idx → EReal) (ix2 k s) = el (Y m c) (4096 * (t.val % 2) + k) (768 * (t.val / 2 % 24) + s) := by
  have := N96 t; have := k.isLt; have := s.isLt
  refine Eq.trans ?_ (el_of (Y m c) (ix2 ⟨4096 * (t.val % 2) + k.val, by omega⟩ ⟨768 * (t.val / 2 % 24) + s.val, by omega⟩) _ _ rfl rfl)
  blk_ext [iblk, V, idx t]

/-- The accumulator after every point. -/
theorem acc (n : ℕ) (h : n < cfg0.N) (r : Fin 1024) (s : Fin 768) : (outsAt0 m c n h).2 (ix2 r s)
    = dot (cols (X m c)) (cols (Y m c)) (4096 * (n % 2 + 1)) (1024 * (n / 48) + r) (768 * (n / 2 % 24) + s) := by
  refine acc_dot cfg0.N 2 (by omega) _ _ (fun n => 1024 * (n / 48)) (fun n => 768 * (n / 2 % 24)) (fun n h r s => (outsAt0 m c n h).2 (ix2 r s))
    (fun n h r k => (iblk m c 0 ⟨n, h⟩ : S4096x1024.Idx → EReal) (ix2 k r)) (fun n h s k => (iblk m c 1 ⟨n, h⟩ : S4096x768.Idx → EReal) (ix2 k s))
    (fun n h r k => blk0 m c ⟨n, h⟩ k r) (fun n h s k => blk1 m c ⟨n, h⟩ k s) ?_ ?_ ?_ n h r s
  · intro n h r s e
    have q := outsAt0_A m c ⟨n, h⟩ e (by dsimp only; omega)
    dsimp only at q ⊢
    rw [q]
    dsimp only
    rw [soutA, pay2_at, pay1_at, zero_add]
  · intro n h r s e
    have q := outsAt0_B m c ⟨n, h⟩ e (by dsimp only; omega)
    dsimp only at q ⊢
    rw [q]
    dsimp only
    rw [soutB, pay2_at]
  · intro n e
    omega

theorem flush2 : ∀ t : Fin cfg0.N, (cfg0.win 2).flush t = true → t.val % 2 = 1 :=
  (by decide +kernel : ∀ t : Fin grid0.N, _)

/-- The kernel's result is the product of the two arrays' columns. -/
theorem result : Value.G2 m c = fun i : S2048x18432.Idx => dot (cols (X m c)) (cols (Y m c)) 8192 (i 0).val (i 1).val := by
  rw [← Value.final2 m c]
  refine (dats m 0 c).arrAt_eq_of_covers 2 _ (by decide +kernel) fun t hf y => ?_
  blk_simp
  rw [after0_2]
  have h1 := flush2 t hf
  have h0 : ¬t.val % 2 = 0 := by omega
  have := N96 t
  have a0 : (y 0).val < 1024 := (y 0).isLt
  have a1 : (y 1).val < 768 := (y 1).isLt
  have e : y = ix2 ⟨(y 0).val, a0⟩ ⟨(y 1).val, a1⟩ := by funext a; fin_cases a <;> rfl
  have h := acc m c t.val t.isLt ⟨(y 0).val, a0⟩ ⟨(y 1).val, a1⟩
  have q : (outsAt0 m c t.val t.isLt).1 = (outsAt0 m c t.val t.isLt).2 := by
    rw [outsAt0_B m c t h0 h1]; dsimp only; rw [outB, soutB]; rfl
  have i := idx t
  have i0 : win0_2.index t 0 = t.val / 48 := by simp only [i]; rfl
  have i1 : win0_2.index t 1 = t.val / 2 % 24 := by simp only [i]; rfl
  rw [i0, i1]
  refine Eq.trans (congrFun q y) (Eq.trans (congrArg _ e) (h.trans ?_))
  rw [h1]
  simp only [Nat.mul_comm, Nat.add_comm]
end Cert.ProjDwIdeal.Prod

namespace Cert.ProjDwRefIdeal.Prod
open Cert.ProjDwRefIdeal Cert.ProjDwRefIdeal.Read Cert.Mat
open Idealize.ShloMosaic

/-- The reference's result is the product of the two arrays' columns. -/
theorem result (x : S8192x2048.Idx → EReal) (y : S8192x18432.Idx → EReal) :
    val_main_v6 (F := Ideal) x y = fun i : S2048x18432.Idx => dot (cols x) (cols y) 8192 (i 0).val (i 1).val := by
  funext i
  refine Eq.trans (b := val_main_v5 (F := Ideal) x y i) rfl ?_
  rw [val_main_v5_apply, val_main_v4_apply]
  unfold dot
  rw [Finset.sum_range]
  refine Finset.sum_congr rfl fun k _ => (mul_comm _ _).trans ?_
  exact congrArg₂ (· * ·) (el_of x _ _ _ rfl rfl) (el_of y _ _ _ rfl rfl)
end Cert.ProjDwRefIdeal.Prod

end
-- ==== Proof.ProjDh.lean ====
/-
  The gradient of the normed rows, the gates' part being given: the kernel's result array and the reference's hold the
  same products, added to the given array.
-/
module

public import proofs.«01_k».proof.Proof.Mat
public import proofs.«01_k».proof.Proof.Head
public import Idealize.ShloMosaic.Lib.VecWindow
public import proofs.«01_k».proof.Proof.Gen.ProjDhIdeal.Value
public import proofs.«01_k».proof.Proof.Gen.ProjDhRefIdeal.Read

@[expose] public section

set_option maxRecDepth 16384
noncomputable section
namespace Cert.ProjDhIdeal.Prod
open Cert.ProjDhIdeal Cert.ProjDhIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val / 18, t.val % 9] ∧ win0_1.index t = ![t.val / 9 % 2, t.val % 9]
    ∧ win0_2.index t = ![t.val / 18, t.val / 9 % 2] ∧ win0_3.index t = ![t.val / 18, t.val / 9 % 2] :=
  (by decide +kernel : ∀ t : Fin grid0.N, _)

theorem N144 (t : Fin cfg0.N) : t.val < 144 := lt_of_lt_of_eq t.isLt (show cfg0.N = 144 from N_0)

/-- The stored zeros. -/
theorem pay1_at (r s : Fin 1024) : (k0_pay1 (F := Ideal)) (ix2 r s) = 0 := by
  pointwise [k0_pay1]

/-- The product of two blocks is added to the accumulator. -/
theorem pay2_at (x : Vec Ideal S1024x1024 .f32) (y z : Vec Ideal S1024x2048 .bf16) (r s : Fin 1024) :
    k0_pay2 (F := Ideal) x y z (ix2 r s) = x (ix2 r s) + ∑ k : Fin 2048, y (ix2 r k) * z (ix2 s k) := by
  pointwise [k0_pay2]

theorem hz : (![0, 0] : Fin 2 → ℕ) = fun _ => 0 := by funext a; fin_cases a <;> rfl

section
variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec Ideal S1024x2048 .bf16) (x2 xs0 : Vec Ideal S1024x1024 .f32)

/-- A first point leaves its blocks' product. -/
theorem soutA (hc0 : cond0_0 i) (hc1 : ¬cond0_1 i) :
    sout0_A_0 c i arg3 harg3 arg4 harg4 arg5 harg5 arg6 harg6 arg7 harg7 hc0 hc1 x0 x1 x2 = k0_pay2 k0_pay1 x0 x1 := by
  unfold sout0_A_0 kernelRun0_A
  dsimp only
  rw [View.read_writes_full]
  sl_unfold_words
  rw [View.readCov_unit_zero _ hz]
  rw [View.readAt_full, View.readAt_full, harg3.read_unread, harg4.read_unread]

/-- A middle point adds its blocks' product to what the accumulator held. -/
theorem soutB (hc0 : ¬cond0_0 i) (hc1 : ¬cond0_1 i) :
    sout0_B_0 c i arg3 harg3 arg4 harg4 arg5 harg5 arg6 harg6 arg7 harg7 hc0 hc1 x0 x1 x2 xs0 = k0_pay2 xs0 x0 x1 := by
  unfold sout0_B_0 kernelRun0_B
  dsimp only
  sl_unfold_words
  rw [View.read_writes_full]
  rw [View.readAt_full, View.readAt_full, View.readAt_full, harg3.read_unread, harg4.read_unread, harg7.read_unread]

/-- The last point adds its blocks' product as well … -/
theorem soutC (hc0 : ¬cond0_0 i) (hc1 : cond0_1 i) :
    sout0_C_0 c i arg3 harg3 arg4 harg4 arg5 harg5 arg6 harg6 arg7 harg7 hc0 hc1 x0 x1 x2 xs0 = k0_pay2 xs0 x0 x1 := by
  unfold sout0_C_0 kernelRun0_C
  dsimp only
  sl_unfold_words
  rw [View.read_writes_full]
  rw [View.readAt_full, View.readAt_full, View.readAt_full, harg3.read_unread, harg4.read_unread, harg7.read_unread]

/-- … and writes the accumulator out, the given array's block added. -/
theorem outC (hc0 : ¬cond0_0 i) (hc1 : cond0_1 i) :
    out0_C_3 c i arg3 harg3 arg4 harg4 arg5 harg5 arg6 harg6 arg7 harg7 hc0 hc1 x0 x1 x2 xs0 = k0_pay3 (k0_pay2 xs0 x0 x1) x2 := by
  unfold out0_C_3 kernelRun0_C
  dsimp only
  sl_unfold_words
  rw [View.read_writes_full, View.readCov_unit_zero _ hz]
  rw [View.readAt_full, View.readAt_full, View.readAt_full, View.readAt_full, harg5.read_unread, harg3.read_unread, harg4.read_unread, harg7.read_unread]
end

variable (m : (ℓ : Loc nD τ sig) → Buf (Elt Ideal) ℓ) (c : Dev nD)

/-- The gradient of the projections, as the program is given it. -/
abbrev X : S8192x18432.Idx → EReal := m ((c : Thread nD τ).loc main_arg0)
/-- The weights, as the program is given them. -/
abbrev Y : S2048x18432.Idx → EReal := m ((c : Thread nD τ).loc main_arg1)

/-- The array the products are added to, as the program is given it. -/
abbrev Z : S8192x2048.Idx → EReal := m ((c : Thread nD τ).loc main_arg2)

/-- The first operand's block. -/
theorem blk0 (t : Fin cfg0.N) (r : Fin 1024) (k : Fin 2048) :
    (iblk m c 0 t : S1024x2048.Idx → EReal) (ix2 r k) = el (X m c) (1024 * (t.val / 18) + r) (2048 * (t.val % 9) + k) := by
  have := N144 t; have := k.isLt; have := r.isLt
  refine Eq.trans ?_ (el_of (X m c) (ix2 ⟨1024 * (t.val / 18) + r.val, by omega⟩ ⟨2048 * (t.val % 9) + k.val, by omega⟩) _ _ rfl rfl)
  blk_ext [iblk, V, idx t]

/-- The second operand's block. -/
theorem blk1 (t : Fin cfg0.N) (s : Fin 1024) (k : Fin 2048) :
    (iblk m c 1 t : S1024x2048.Idx → EReal) (ix2 s k) = el (Y m c) (1024 * (t.val / 9 % 2) + s) (2048 * (t.val % 9) + k) := by
  have := N144 t; have := k.isLt; have := s.isLt
  refine Eq.trans ?_ (el_of (Y m c) (ix2 ⟨1024 * (t.val / 9 % 2) + s.val, by omega⟩ ⟨2048 * (t.val % 9) + k.val, by omega⟩) _ _ rfl rfl)
  blk_ext [iblk, V, idx t]

/-- The given array's block. -/
theorem blk2 (t : Fin cfg0.N) (r s : Fin 1024) :
    (iblk m c 2 t : S1024x1024.Idx → EReal) (ix2 r s) = el (Z m c) (1024 * (t.val / 18) + r) (1024 * (t.val / 9 % 2) + s) := by
  have := N144 t; have := r.isLt; have := s.isLt
  refine Eq.trans ?_ (el_of (Z m c) (ix2 ⟨1024 * (t.val / 18) + r.val, by omega⟩ ⟨1024 * (t.val / 9 % 2) + s.val, by omega⟩) _ _ rfl rfl)
  blk_ext [iblk, V, idx t]

/-- The accumulator after every point. -/
theorem acc (n : ℕ) (h : n < cfg0.N) (r s : Fin 1024) : (outsAt0 m c n h).2 (ix2 r s)
    = dot (rows (X m c)) (rows (Y m c)) (2048 * (n % 9 + 1)) (1024 * (n / 18) + r) (1024 * (n / 9 % 2) + s) := by
  refine acc_dot cfg0.N 9 (by omega) _ _ (fun n => 1024 * (n / 18)) (fun n => 1024 * (n / 9 % 2)) (fun n h r s => (outsAt0 m c n h).2 (ix2 r s))
    (fun n h r k => (iblk m c 0 ⟨n, h⟩ : S1024x2048.Idx → EReal) (ix2 r k)) (fun n h s k => (iblk m c 1 ⟨n, h⟩ : S1024x2048.Idx → EReal) (ix2 s k))
    (fun n h r k => blk0 m c ⟨n, h⟩ r k) (fun n h s k => blk1 m c ⟨n, h⟩ s k) ?_ ?_ ?_ n h r s
  · intro n h r s e
    have q := outsAt0_A m c ⟨n, h⟩ e (by dsimp only; omega)
    dsimp only at q ⊢
    rw [q]
    dsimp only
    rw [soutA, pay2_at, pay1_at, zero_add]
  · intro n h r s e
    by_cases e' : n % 9 = 8
    · have q := outsAt0_C m c ⟨n, h⟩ e e'
      dsimp only at q ⊢
      rw [q]
      dsimp only
      rw [soutC, pay2_at]
    · have q := outsAt0_B m c ⟨n, h⟩ e e'
      dsimp only at q ⊢
      rw [q]
      dsimp only
      rw [soutB, pay2_at]
  · intro n e
    omega

theorem flush3 : ∀ t : Fin cfg0.N, (cfg0.win 3).flush t = true → t.val % 9 = 8 :=
  (by decide +kernel : ∀ t : Fin grid0.N, _)

/-- The kernel's result is the product of the two arrays' rows added to the third array. -/
theorem result : Value.G3 m c = fun i : S8192x2048.Idx =>
    el (Z m c) (i 0).val (i 1).val + dot (rows (X m c)) (rows (Y m c)) 18432 (i 0).val (i 1).val := by
  rw [← Value.final3 m c]
  refine (dats m 0 c).arrAt_eq_of_covers 3 _ (by decide +kernel) fun t hf y => ?_
  blk_simp
  rw [after0_3]
  have h1 := flush3 t hf
  have h0 : ¬t.val % 9 = 0 := by omega
  have := N144 t
  have a0 : (y 0).val < 1024 := (y 0).isLt
  have a1 : (y 1).val < 1024 := (y 1).isLt
  have e : y = ix2 ⟨(y 0).val, a0⟩ ⟨(y 1).val, a1⟩ := by funext a; fin_cases a <;> rfl
  have h := acc m c t.val t.isLt ⟨(y 0).val, a0⟩ ⟨(y 1).val, a1⟩
  have q : (outsAt0 m c t.val t.isLt).1 = k0_pay3 (F := Ideal) (outsAt0 m c t.val t.isLt).2 (iblk m c 2 t) := by
    rw [outsAt0_C m c t h0 h1]; dsimp only; rw [outC, soutC]
  have z := blk2 m c t ⟨(y 0).val, a0⟩ ⟨(y 1).val, a1⟩
  have i := idx t
  have i0 : win0_3.index t 0 = t.val / 18 := by simp only [i]; rfl
  have i1 : win0_3.index t 1 = t.val / 9 % 2 := by simp only [i]; rfl
  rw [i0, i1]
  refine Eq.trans (congrFun q y) (Eq.trans (congrArg _ e) ((congrArg₂ (fun a b : EReal => a + b) h z).trans ((add_comm (G := EReal) _ _).trans ?_)))
  rw [h1]
  simp only [Nat.mul_comm, Nat.add_comm]
end Cert.ProjDhIdeal.Prod

namespace Cert.ProjDhRefIdeal.Prod
open Cert.ProjDhRefIdeal Cert.ProjDhRefIdeal.Read Cert.Mat
open Idealize.ShloMosaic

/-- The reference's result is the product of the two arrays' rows added to the third array. -/
theorem result (x : S8192x18432.Idx → EReal) (y : S2048x18432.Idx → EReal) (z : S8192x2048.Idx → EReal) :
    val_main_v5 (F := Ideal) x y z = fun i : S8192x2048.Idx =>
    el z (i 0).val (i 1).val + dot (rows x) (rows y) 18432 (i 0).val (i 1).val := by
  funext i
  refine congrArg₂ (· + ·) (el_of z i _ _ rfl rfl) ?_
  rw [val_main_v4_apply]
  unfold dot
  rw [Finset.sum_range]
  exact Finset.sum_congr rfl fun k _ => congrArg₂ (· * ·) (el_of x _ _ _ rfl rfl) (el_of y _ _ _ rfl rfl)
end Cert.ProjDhRefIdeal.Prod

end
-- ==== Proof.GateDw.lean ====
/-
  The gradient of the gates' weights: the kernel's result array and the reference's hold the same products.
-/
module

public import proofs.«01_k».proof.Proof.Mat
public import proofs.«01_k».proof.Proof.Head
public import Idealize.ShloMosaic.Lib.VecWindow
public import proofs.«01_k».proof.Proof.Gen.GateDwIdeal.Value
public import proofs.«01_k».proof.Proof.Gen.GateDwRefIdeal.Read

@[expose] public section

set_option maxRecDepth 16384
noncomputable section
namespace Cert.GateDwIdeal.Prod
open Cert.GateDwIdeal Cert.GateDwIdeal.Gen Cert.Mat
open Idealize.ShloMosaic Idealize.ShloMosaic.TcCoe Idealize.ShloMosaic.Tactic
open Idealize.ShloMosaic.Pipeline (Dat)
open Finset (range)

/-- Which blocks a point reads and writes. -/
theorem idx : ∀ t : Fin cfg0.N, win0_0.index t = ![t.val % 2, t.val / 16] ∧ win0_1.index t = ![t.val % 2, t.val / 2 % 8]
    ∧ win0_2.index t = ![t.val / 16, t.val / 2 % 8] :=
  (by decide +kernel : ∀ t : Fin grid0.N, _)

theorem N32 (t : Fin cfg0.N) : t.val < 32 := lt_of_lt_of_eq t.isLt (show cfg0.N = 32 from N_0)

/-- The stored zeros. -/
theorem pay1_at (r : Fin 1024) (s : Fin 1024) : (k0_pay1 (F := Ideal)) (ix2 r s) = 0 := by
  pointwise [k0_pay1]

/-- The product of two blocks is added to the accumulator. -/
theorem pay2_at (x : Vec Ideal S1024x1024 .f32) (y : Vec Ideal S4096x1024 .bf16) (z : Vec Ideal S4096x1024 .bf16) (r : Fin 1024) (s : Fin 1024) :
    k0_pay2 (F := Ideal) x y z (ix2 r s) = x (ix2 r s) + ∑ k : Fin 4096, y (ix2 k r) * z (ix2 k s) := by
  pointwise [k0_pay2]

theorem hz : (![0, 0] : Fin 2 → ℕ) = fun _ => 0 := by funext a; fin_cases a <;> rfl

/-- A first point leaves its blocks' product. -/
theorem soutA (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec Ideal S4096x1024 .bf16) (x1 : Vec Ideal S4096x1024 .bf16) :
    sout0_A_0 c i arg3 harg3 arg4 harg4 arg5 harg5 arg6 harg6 hc0 hc1 x0 x1 = k0_pay2 k0_pay1 x0 x1 := by
  unfold sout0_A_0 kernelRun0_A
  dsimp only
  rw [View.read_writes_full]
  sl_unfold_words
  rw [View.readCov_unit_zero _ hz]
  rw [View.readAt_full, View.readAt_full, harg3.read_unread, harg4.read_unread]

section
variable (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec Ideal S4096x1024 .bf16) (x1 : Vec Ideal S4096x1024 .bf16) (xs0 : Vec Ideal S1024x1024 .f32)

/-- A later point adds its blocks' product to what the accumulator held. -/
theorem soutB : sout0_B_0 c i arg3 harg3 arg4 harg4 arg5 harg5 arg6 harg6 hc0 hc1 x0 x1 xs0 = k0_pay2 xs0 x0 x1 := by
  unfold sout0_B_0 kernelRun0_B
  dsimp only
  sl_unfold_words
  rw [View.read_writes_full]
  rw [View.readAt_full, View.readAt_full, View.readAt_full, harg3.read_unread, harg4.read_unread, harg6.read_unread]

/-- The last point writes the accumulator out. -/
theorem outB : out0_B_2 c i arg3 harg3 arg4 harg4 arg5 harg5 arg6 harg6 hc0 hc1 x0 x1 xs0 = k0_pay3 (k0_pay2 xs0 x0 x1) := by
  unfold out0_B_2 kernelRun0_B
  dsimp only
  sl_unfold_words
  rw [View.read_writes_full, View.readCov_unit_zero _ hz]
  rw [View.readAt_full, View.readAt_full, View.readAt_full, harg3.read_unread, harg4.read_unread, harg6.read_unread]
end

variable (m : (ℓ : Loc nD τ sig) → Buf (Elt Ideal) ℓ) (c : Dev nD)

/-- The rows, as the program is given them. -/
abbrev X : S8192x2048.Idx → EReal := m ((c : Thread nD τ).loc main_arg0)
/-- The gradient of the product, as the program is given it. -/
abbrev Y : S8192x8192.Idx → EReal := m ((c : Thread nD τ).loc main_arg1)

/-- The first operand's block. -/
theorem blk0 (t : Fin cfg0.N) (k : Fin 4096) (r : Fin 1024) :
    (iblk m c 0 t : S4096x1024.Idx → EReal) (ix2 k r) = el (X m c) (4096 * (t.val % 2) + k) (1024 * (t.val / 16) + r) := by
  have := N32 t; have := k.isLt; have := r.isLt
  refine Eq.trans ?_ (el_of (X m c) (ix2 ⟨4096 * (t.val % 2) + k.val, by omega⟩ ⟨1024 * (t.val / 16) + r.val, by omega⟩) _ _ rfl rfl)
  blk_ext [iblk, V, idx t]

/-- The second operand's block. -/
theorem blk1 (t : Fin cfg0.N) (k : Fin 4096) (s : Fin 1024) :
    (iblk m c 1 t : S4096x1024.Idx → EReal) (ix2 k s) = el (Y m c) (4096 * (t.val % 2) + k) (1024 * (t.val / 2 % 8) + s) := by
  have := N32 t; have := k.isLt; have := s.isLt
  refine Eq.trans ?_ (el_of (Y m c) (ix2 ⟨4096 * (t.val % 2) + k.val, by omega⟩ ⟨1024 * (t.val / 2 % 8) + s.val, by omega⟩) _ _ rfl rfl)
  blk_ext [iblk, V, idx t]

/-- The accumulator after every point. -/
theorem acc (n : ℕ) (h : n < cfg0.N) (r : Fin 1024) (s : Fin 1024) : (outsAt0 m c n h).2 (ix2 r s)
    = dot (cols (X m c)) (cols (Y m c)) (4096 * (n % 2 + 1)) (1024 * (n / 16) + r) (1024 * (n / 2 % 8) + s) := by
  refine acc_dot cfg0.N 2 (by omega) _ _ (fun n => 1024 * (n / 16)) (fun n => 1024 * (n / 2 % 8)) (fun n h r s => (outsAt0 m c n h).2 (ix2 r s))
    (fun n h r k => (iblk m c 0 ⟨n, h⟩ : S4096x1024.Idx → EReal) (ix2 k r)) (fun n h s k => (iblk m c 1 ⟨n, h⟩ : S4096x1024.Idx → EReal) (ix2 k s))
    (fun n h r k => blk0 m c ⟨n, h⟩ k r) (fun n h s k => blk1 m c ⟨n, h⟩ k s) ?_ ?_ ?_ n h r s
  · intro n h r s e
    have q := outsAt0_A m c ⟨n, h⟩ e (by dsimp only; omega)
    dsimp only at q ⊢
    rw [q]
    dsimp only
    rw [soutA, pay2_at, pay1_at, zero_add]
  · intro n h r s e
    have q := outsAt0_B m c ⟨n, h⟩ e (by dsimp only; omega)
    dsimp only at q ⊢
    rw [q]
    dsimp only
    rw [soutB, pay2_at]
  · intro n e
    omega

theorem flush2 : ∀ t : Fin cfg0.N, (cfg0.win 2).flush t = true → t.val % 2 = 1 :=
  (by decide +kernel : ∀ t : Fin grid0.N, _)

/-- The kernel's result is the product of the two arrays' columns. -/
theorem result : Value.G2 m c = fun i : S2048x8192.Idx => dot (cols (X m c)) (cols (Y m c)) 8192 (i 0).val (i 1).val := by
  rw [← Value.final2 m c]
  refine (dats m 0 c).arrAt_eq_of_covers 2 _ (by decide +kernel) fun t hf y => ?_
  blk_simp
  rw [after0_2]
  have h1 := flush2 t hf
  have h0 : ¬t.val % 2 = 0 := by omega
  have := N32 t
  have a0 : (y 0).val < 1024 := (y 0).isLt
  have a1 : (y 1).val < 1024 := (y 1).isLt
  have e : y = ix2 ⟨(y 0).val, a0⟩ ⟨(y 1).val, a1⟩ := by funext a; fin_cases a <;> rfl
  have h := acc m c t.val t.isLt ⟨(y 0).val, a0⟩ ⟨(y 1).val, a1⟩
  have q : (outsAt0 m c t.val t.isLt).1 = (outsAt0 m c t.val t.isLt).2 := by
    rw [outsAt0_B m c t h0 h1]; dsimp only; rw [outB, soutB]; rfl
  have i := idx t
  have i0 : win0_2.index t 0 = t.val / 16 := by simp only [i]; rfl
  have i1 : win0_2.index t 1 = t.val / 2 % 8 := by simp only [i]; rfl
  rw [i0, i1]
  refine Eq.trans (congrFun q y) (Eq.trans (congrArg _ e) (h.trans ?_))
  rw [h1]
  simp only [Nat.mul_comm, Nat.add_comm]
end Cert.GateDwIdeal.Prod

namespace Cert.GateDwRefIdeal.Prod
open Cert.GateDwRefIdeal Cert.GateDwRefIdeal.Read Cert.Mat
open Idealize.ShloMosaic

/-- The reference's result is the product of the two arrays' columns. -/
theorem result (x : S8192x2048.Idx → EReal) (y : S8192x8192.Idx → EReal) :
    val_main_v6 (F := Ideal) x y = fun i : S2048x8192.Idx => dot (cols x) (cols y) 8192 (i 0).val (i 1).val := by
  funext i
  refine Eq.trans (b := val_main_v5 (F := Ideal) x y i) rfl ?_
  rw [val_main_v5_apply, val_main_v4_apply]
  unfold dot
  rw [Finset.sum_range]
  refine Finset.sum_congr rfl fun k _ => (mul_comm _ _).trans ?_
  exact congrArg₂ (· * ·) (el_of x _ _ _ rfl rfl) (el_of y _ _ _ rfl rfl)
end Cert.GateDwRefIdeal.Prod

end
-- ==== Proof.GateDh.lean ====
/-
  The part of the gradient of the normed rows which comes through the gates: the kernel's result array and the
  reference's hold the same products.
-/
module

public import proofs.«01_k».proof.Proof.Mat
public import proofs.«01_k».proof.Proof.Head
public import Idealize.ShloMosaic.Lib.VecWindow
public import proofs.«01_k».proof.Proof.Gen.GateDhIdeal.Value
public import proofs.«01_k».proof.Proof.Gen.GateDhRefIdeal.Read

@[expose] public section

set_option maxRecDepth 16384
noncomputable section
namespace Cert.GateDhIdeal.Prod
open Cert.GateDhIdeal Cert.GateDhIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val / 8, t.val % 4] ∧ win0_1.index t = ![t.val / 4 % 2, t.val % 4]
    ∧ win0_2.index t = ![t.val / 8, t.val / 4 % 2] :=
  (by decide +kernel : ∀ t : Fin grid0.N, _)

theorem N64 (t : Fin cfg0.N) : t.val < 64 := lt_of_lt_of_eq t.isLt (show cfg0.N = 64 from N_0)

/-- The stored zeros. -/
theorem pay1_at (r s : Fin 1024) : (k0_pay1 (F := Ideal)) (ix2 r s) = 0 := by
  pointwise [k0_pay1]

/-- The product of two blocks is added to the accumulator. -/
theorem pay2_at (x : Vec Ideal S1024x1024 .f32) (y z : Vec Ideal S1024x2048 .bf16) (r s : Fin 1024) :
    k0_pay2 (F := Ideal) x y z (ix2 r s) = x (ix2 r s) + ∑ k : Fin 2048, y (ix2 r k) * z (ix2 s k) := by
  pointwise [k0_pay2]

theorem hz : (![0, 0] : Fin 2 → ℕ) = fun _ => 0 := by funext a; fin_cases a <;> rfl

section
variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole)
    (x0 x1 : Vec Ideal S1024x2048 .bf16) (xs0 : Vec Ideal S1024x1024 .f32)

/-- A first point leaves its blocks' product. -/
theorem soutA (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0 kernelRun0_A
  dsimp only
  rw [View.read_writes_full]
  sl_unfold_words
  rw [View.readCov_unit_zero _ hz]
  rw [View.readAt_full, View.readAt_full, harg3.read_unread, harg4.read_unread]

/-- A middle point adds its blocks' product to what the accumulator held. -/
theorem soutB (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0 kernelRun0_B
  dsimp only
  sl_unfold_words
  rw [View.read_writes_full]
  rw [View.readAt_full, View.readAt_full, View.readAt_full, harg3.read_unread, harg4.read_unread, harg6.read_unread]

/-- The last point adds its blocks' product as well … -/
theorem soutC (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0 kernelRun0_C
  dsimp only
  sl_unfold_words
  rw [View.read_writes_full]
  rw [View.readAt_full, View.readAt_full, View.readAt_full, harg3.read_unread, harg4.read_unread, harg6.read_unread]

/-- … and writes the accumulator out. -/
theorem outC (hc0 : ¬cond0_0 i) (hc1 : cond0_1 i) :
    out0_C_2 c i arg3 harg3 arg4 harg4 arg5 harg5 arg6 harg6 hc0 hc1 x0 x1 xs0 = k0_pay2 xs0 x0 x1 := by
  unfold out0_C_2 kernelRun0_C
  dsimp only
  sl_unfold_words
  rw [View.read_writes_full, View.readCov_unit_zero _ hz]
  rw [View.readAt_full, View.readAt_full, View.readAt_full, harg3.read_unread, harg4.read_unread, harg6.read_unread]
end

variable (m : (ℓ : Loc nD τ sig) → Buf (Elt Ideal) ℓ) (c : Dev nD)

/-- The gradient of the gates, as the program is given it. -/
abbrev X : S8192x8192.Idx → EReal := m ((c : Thread nD τ).loc main_arg0)
/-- The weights, as the program is given them. -/
abbrev Y : S2048x8192.Idx → EReal := m ((c : Thread nD τ).loc main_arg1)

/-- The first operand's block. -/
theorem blk0 (t : Fin cfg0.N) (r : Fin 1024) (k : Fin 2048) :
    (iblk m c 0 t : S1024x2048.Idx → EReal) (ix2 r k) = el (X m c) (1024 * (t.val / 8) + r) (2048 * (t.val % 4) + k) := by
  have := N64 t; have := k.isLt; have := r.isLt
  refine Eq.trans ?_ (el_of (X m c) (ix2 ⟨1024 * (t.val / 8) + r.val, by omega⟩ ⟨2048 * (t.val % 4) + k.val, by omega⟩) _ _ rfl rfl)
  blk_ext [iblk, V, idx t]

/-- The second operand's block. -/
theorem blk1 (t : Fin cfg0.N) (s : Fin 1024) (k : Fin 2048) :
    (iblk m c 1 t : S1024x2048.Idx → EReal) (ix2 s k) = el (Y m c) (1024 * (t.val / 4 % 2) + s) (2048 * (t.val % 4) + k) := by
  have := N64 t; have := k.isLt; have := s.isLt
  refine Eq.trans ?_ (el_of (Y m c) (ix2 ⟨1024 * (t.val / 4 % 2) + s.val, by omega⟩ ⟨2048 * (t.val % 4) + k.val, by omega⟩) _ _ rfl rfl)
  blk_ext [iblk, V, idx t]

/-- The accumulator after every point. -/
theorem acc (n : ℕ) (h : n < cfg0.N) (r s : Fin 1024) : (outsAt0 m c n h).2 (ix2 r s)
    = dot (rows (X m c)) (rows (Y m c)) (2048 * (n % 4 + 1)) (1024 * (n / 8) + r) (1024 * (n / 4 % 2) + s) := by
  refine acc_dot cfg0.N 4 (by omega) _ _ (fun n => 1024 * (n / 8)) (fun n => 1024 * (n / 4 % 2)) (fun n h r s => (outsAt0 m c n h).2 (ix2 r s))
    (fun n h r k => (iblk m c 0 ⟨n, h⟩ : S1024x2048.Idx → EReal) (ix2 r k)) (fun n h s k => (iblk m c 1 ⟨n, h⟩ : S1024x2048.Idx → EReal) (ix2 s k))
    (fun n h r k => blk0 m c ⟨n, h⟩ r k) (fun n h s k => blk1 m c ⟨n, h⟩ s k) ?_ ?_ ?_ n h r s
  · intro n h r s e
    have q := outsAt0_A m c ⟨n, h⟩ e (by dsimp only; omega)
    dsimp only at q ⊢
    rw [q]
    dsimp only
    rw [soutA, pay2_at, pay1_at, zero_add]
  · intro n h r s e
    by_cases e' : n % 4 = 3
    · have q := outsAt0_C m c ⟨n, h⟩ e e'
      dsimp only at q ⊢
      rw [q]
      dsimp only
      rw [soutC, pay2_at]
    · have q := outsAt0_B m c ⟨n, h⟩ e e'
      dsimp only at q ⊢
      rw [q]
      dsimp only
      rw [soutB, pay2_at]
  · intro n e
    omega

theorem flush2 : ∀ t : Fin cfg0.N, (cfg0.win 2).flush t = true → t.val % 4 = 3 :=
  (by decide +kernel : ∀ t : Fin grid0.N, _)

/-- The kernel's result is the product of the two arrays' rows. -/
theorem result : Value.G2 m c = fun i : S8192x2048.Idx => dot (rows (X m c)) (rows (Y m c)) 8192 (i 0).val (i 1).val := by
  rw [← Value.final2 m c]
  refine (dats m 0 c).arrAt_eq_of_covers 2 _ (by decide +kernel) fun t hf y => ?_
  blk_simp
  rw [after0_2]
  have h1 := flush2 t hf
  have h0 : ¬t.val % 4 = 0 := by omega
  have := N64 t
  have a0 : (y 0).val < 1024 := (y 0).isLt
  have a1 : (y 1).val < 1024 := (y 1).isLt
  have e : y = ix2 ⟨(y 0).val, a0⟩ ⟨(y 1).val, a1⟩ := by funext a; fin_cases a <;> rfl
  have h := acc m c t.val t.isLt ⟨(y 0).val, a0⟩ ⟨(y 1).val, a1⟩
  have q : (outsAt0 m c t.val t.isLt).1 = (outsAt0 m c t.val t.isLt).2 := by
    rw [outsAt0_C m c t h0 h1]; dsimp only; rw [outC, soutC]
  have i := idx t
  have i0 : win0_2.index t 0 = t.val / 8 := by simp only [i]; rfl
  have i1 : win0_2.index t 1 = t.val / 4 % 2 := by simp only [i]; rfl
  rw [i0, i1]
  refine Eq.trans (congrFun q y) (Eq.trans (congrArg _ e) (h.trans ?_))
  rw [h1]
  simp only [Nat.mul_comm, Nat.add_comm]
end Cert.GateDhIdeal.Prod

namespace Cert.GateDhRefIdeal.Prod
open Cert.GateDhRefIdeal Cert.GateDhRefIdeal.Read Cert.Mat
open Idealize.ShloMosaic

/-- The reference's result is the product of the two arrays' rows. -/
theorem result (x : S8192x8192.Idx → EReal) (y : S2048x8192.Idx → EReal) :
    val_main_v4 (F := Ideal) x y = fun i : S8192x2048.Idx => dot (rows x) (rows y) 8192 (i 0).val (i 1).val := by
  funext i
  rw [val_main_v4_apply]
  unfold dot
  rw [Finset.sum_range]
  exact Finset.sum_congr rfl fun k _ => congrArg₂ (· * ·) (el_of x _ _ _ rfl rfl) (el_of y _ _ _ rfl rfl)
end Cert.GateDhRefIdeal.Prod

end
-- ==== Proof.Proj.lean ====
/-
  The input projection: the kernel's result array and the reference's hold the same products.
-/
module

public import proofs.«01_k».proof.Proof.Mat
public import proofs.«01_k».proof.Proof.Head
public import Idealize.ShloMosaic.Lib.VecWindow
public import proofs.«01_k».proof.Proof.Gen.ProjIdeal.Value
public import proofs.«01_k».proof.Proof.Gen.ProjRefIdeal.Read

@[expose] public section

set_option maxRecDepth 16384
noncomputable section
namespace Cert.ProjIdeal.Prod
open Cert.ProjIdeal Cert.ProjIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val / 24, 0] ∧ win0_1.index t = ![0, t.val % 24]
    ∧ win0_2.index t = ![t.val / 24, t.val % 24] :=
  (by decide +kernel : ∀ t : Fin grid0.N, _)

theorem N192 (t : Fin cfg0.N) : t.val < 192 := lt_of_lt_of_eq t.isLt (show cfg0.N = 192 from N_0)

/-- The stored zeros. -/
theorem pay1_at (r : Fin 1024) (s : Fin 768) : (k0_pay1 (F := Ideal)) (ix2 r s) = 0 := by
  pointwise [k0_pay1]

/-- The product of two blocks is added to the accumulator. -/
theorem pay2_at (x : Vec Ideal S1024x768 .f32) (y : Vec Ideal S1024x2048 .bf16) (z : Vec Ideal S2048x768 .bf16) (r : Fin 1024) (s : Fin 768) :
    k0_pay2 (F := Ideal) x y z (ix2 r s) = x (ix2 r s) + ∑ k : Fin 2048, y (ix2 r k) * z (ix2 k s) := by
  pointwise [k0_pay2]

theorem hz : (![0, 0] : Fin 2 → ℕ) = fun _ => 0 := by funext a; fin_cases a <;> rfl

/-- A point writes its blocks' product out. -/
theorem outA (c : Dev nD) (i : grid0.Coords) (arg3 : Memref sig .tc .vmem S1024x2048 .bf16) (harg3 : arg3.IsWhole) (arg4 : Memref sig .tc .vmem S2048x768 .bf16) (harg4 : arg4.IsWhole) (arg5 : Memref sig .tc .vmem S1024x768 .f32) (harg5 : arg5.IsWhole) (arg6 : Memref sig .tc .vmem S1024x768 .f32) (harg6 : arg6.IsWhole) (hc0 : cond0_0 i) (hc1 : cond0_1 i)
    (x0 : Vec Ideal S1024x2048 .bf16) (x1 : Vec Ideal S2048x768 .bf16) :
    out0_A_2 c i arg3 harg3 arg4 harg4 arg5 harg5 arg6 harg6 hc0 hc1 x0 x1 = k0_pay2 k0_pay1 x0 x1 := by
  unfold out0_A_2 kernelRun0_A
  dsimp only
  rw [View.read_writes_full]
  sl_unfold_words
  rw [View.readCov_full arg6.view inb_S1024x768_S1024x768_0_0 inb_S1024x768_S1024x768_0_0]
  rw [View.readAt_full, View.readAt_full, harg3.read_unread, harg4.read_unread, View.readCov_unit_zero _ hz]

variable (m : (ℓ : Loc nD τ sig) → Buf (Elt Ideal) ℓ) (c : Dev nD)

/-- The normed rows, as the program is given them. -/
abbrev X : S8192x2048.Idx → EReal := m ((c : Thread nD τ).loc main_arg0)
/-- The weights, as the program is given them. -/
abbrev Y : S2048x18432.Idx → EReal := m ((c : Thread nD τ).loc main_arg1)

/-- The first operand's block. -/
theorem blk0 (t : Fin cfg0.N) (r : Fin 1024) (k : Fin 2048) :
    (iblk m c 0 t : S1024x2048.Idx → EReal) (ix2 r k) = el (X m c) (1024 * (t.val / 24) + r) k := by
  have := N192 t; have := k.isLt; have := r.isLt
  refine Eq.trans ?_ (el_of (X m c) (ix2 ⟨1024 * (t.val / 24) + r.val, by omega⟩ k) _ _ rfl rfl)
  blk_ext [iblk, V, idx t]

/-- The second operand's block. -/
theorem blk1 (t : Fin cfg0.N) (k : Fin 2048) (s : Fin 768) :
    (iblk m c 1 t : S2048x768.Idx → EReal) (ix2 k s) = el (Y m c) k (768 * (t.val % 24) + s) := by
  have := N192 t; have := k.isLt; have := s.isLt
  refine Eq.trans ?_ (el_of (Y m c) (ix2 k ⟨768 * (t.val % 24) + s.val, by omega⟩) _ _ rfl rfl)
  blk_ext [iblk, V, idx t]

/-- What a point writes out. -/
theorem out_at (t : Fin cfg0.N) (r : Fin 1024) (s : Fin 768) :
    outsAt0 m c t (ix2 r s) = dot (rows (X m c)) (cols (Y m c)) 2048 (1024 * (t.val / 24) + r) (768 * (t.val % 24) + s) := by
  unfold outsAt0
  rw [outA, pay2_at, pay1_at, zero_add]
  exact dot_of (rows (X m c)) (cols (Y m c)) _ _ _ _ (blk0 m c t r) (fun k => blk1 m c t k s)

/-- The kernel's result is the product of the two arrays. -/
theorem result : (dats m 0 c).arrAt 2 cfg0.N = fun i : S8192x18432.Idx => dot (rows (X m c)) (cols (Y m c)) 2048 (i 0).val (i 1).val := by
  refine (dats m 0 c).arrAt_eq_of_covers 2 _ (by decide +kernel) fun t hf y => ?_
  blk_simp
  rw [after0_2]
  have := N192 t
  have a0 : (y 0).val < 1024 := (y 0).isLt
  have a1 : (y 1).val < 768 := (y 1).isLt
  have e : y = ix2 ⟨(y 0).val, a0⟩ ⟨(y 1).val, a1⟩ := by funext a; fin_cases a <;> rfl
  have i := idx t
  have i0 : win0_2.index t 0 = t.val / 24 := by simp only [i]; rfl
  have i1 : win0_2.index t 1 = t.val % 24 := by simp only [i]; rfl
  rw [i0, i1]
  refine Eq.trans (congrArg _ e) ((out_at m c t ⟨(y 0).val, a0⟩ ⟨(y 1).val, a1⟩).trans ?_)
  simp only [Nat.mul_comm, Nat.add_comm]
end Cert.ProjIdeal.Prod

namespace Cert.ProjRefIdeal.Prod
open Cert.ProjRefIdeal Cert.ProjRefIdeal.Read Cert.Mat
open Idealize.ShloMosaic

/-- The reference's result is the product of the two arrays. -/
theorem result (x : S8192x2048.Idx → EReal) (y : S2048x18432.Idx → EReal) :
    val_main_v2 (F := Ideal) x y = fun i : S8192x18432.Idx => dot (rows x) (cols y) 2048 (i 0).val (i 1).val := by
  funext i
  rw [val_main_v2_apply]
  exact dot_of (rows x) (cols y) _ _ _ _ (fun k => el_of x _ _ _ rfl rfl) (fun k => el_of y _ _ _ rfl rfl)
end Cert.ProjRefIdeal.Prod

end
-- ==== Proof.Gates.lean ====
/-
  The gates: the kernel's result array and the reference's hold the same sigmoids of the same products.
-/
module

public import proofs.«01_k».proof.Proof.Mat
public import proofs.«01_k».proof.Proof.Head
public import Idealize.ShloMosaic.Lib.VecWindow
public import proofs.«01_k».proof.Proof.Gen.GatesIdeal.Value
public import proofs.«01_k».proof.Proof.Gen.GatesRefIdeal.Read

@[expose] public section

set_option maxRecDepth 16384
noncomputable section
namespace Cert.GatesIdeal.Prod
open Cert.GatesIdeal Cert.GatesIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val / 8, 0] ∧ win0_1.index t = ![0, t.val % 8]
    ∧ win0_2.index t = ![0, t.val % 8] ∧ win0_3.index t = ![t.val / 8, t.val % 8] :=
  (by decide +kernel : ∀ t : Fin grid0.N, _)

theorem N64 (t : Fin cfg0.N) : t.val < 64 := lt_of_lt_of_eq t.isLt (show cfg0.N = 64 from N_0)

/-- The stored zeros. -/
theorem pay1_at (r : Fin 1024) (s : Fin 1024) : (k0_pay1 (F := Ideal)) (ix2 r s) = 0 := by
  pointwise [k0_pay1]

/-- The product of two blocks is added to the accumulator. -/
theorem pay2_at (x : Vec Ideal S1024x1024 .f32) (y : Vec Ideal S1024x2048 .bf16) (z : Vec Ideal S2048x1024 .bf16) (r : Fin 1024) (s : Fin 1024) :
    k0_pay2 (F := Ideal) x y z (ix2 r s) = x (ix2 r s) + ∑ k : Fin 2048, y (ix2 r k) * z (ix2 k s) := by
  pointwise [k0_pay2]

/-- The sigmoid of a sum. -/
theorem pay3_at (x : Vec Ideal S1024x1024 .f32) (z : Vec Ideal S1x1024 .f32) (r : Fin 1024) (s : Fin 1024) :
    k0_pay3 (F := Ideal) x z (ix2 r s) = sigm (x (ix2 r s) + z (ix2 0 s)) := by
  pointwise [k0_pay3, sigm]
  simp only [zero_sub]

theorem hz : (![0, 0] : Fin 2 → ℕ) = fun _ => 0 := by funext a; fin_cases a <;> rfl

/-- A point writes its blocks' product out. -/
theorem outA (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : cond0_1 i)
    (x0 : Vec Ideal S1024x2048 .bf16) (x1 : Vec Ideal S2048x1024 .bf16) (x2 : Vec Ideal S1x1024 .f32) :
    out0_A_3 c i arg3 harg3 arg4 harg4 arg5 harg5 arg6 harg6 arg7 harg7 hc0 hc1 x0 x1 x2 = k0_pay3 (k0_pay2 k0_pay1 x0 x1) x2 := by
  unfold out0_A_3 kernelRun0_A
  dsimp only
  rw [View.read_writes_full]
  sl_unfold_words
  rw [View.readCov_full arg7.view inb_S1024x1024_S1024x1024_0_0 inb_S1024x1024_S1024x1024_0_0]
  rw [View.readAt_full, View.readAt_full, View.readAt_full, harg5.read_unread, harg3.read_unread, harg4.read_unread, View.readCov_unit_zero _ hz]

variable (m : (ℓ : Loc nD τ sig) → Buf (Elt Ideal) ℓ) (c : Dev nD)

/-- The normed rows, as the program is given them. -/
abbrev X : S8192x2048.Idx → EReal := m ((c : Thread nD τ).loc main_arg0)
/-- The weights, as the program is given them. -/
abbrev Y : S2048x8192.Idx → EReal := m ((c : Thread nD τ).loc main_arg1)

/-- The first operand's block. -/
theorem blk0 (t : Fin cfg0.N) (r : Fin 1024) (k : Fin 2048) :
    (iblk m c 0 t : S1024x2048.Idx → EReal) (ix2 r k) = el (X m c) (1024 * (t.val / 8) + r) k := by
  have := N64 t; have := k.isLt; have := r.isLt
  refine Eq.trans ?_ (el_of (X m c) (ix2 ⟨1024 * (t.val / 8) + r.val, by omega⟩ k) _ _ rfl rfl)
  blk_ext [iblk, V, idx t]

/-- The second operand's block. -/
theorem blk1 (t : Fin cfg0.N) (k : Fin 2048) (s : Fin 1024) :
    (iblk m c 1 t : S2048x1024.Idx → EReal) (ix2 k s) = el (Y m c) k (1024 * (t.val % 8) + s) := by
  have := N64 t; have := k.isLt; have := s.isLt
  refine Eq.trans ?_ (el_of (Y m c) (ix2 k ⟨1024 * (t.val % 8) + s.val, by omega⟩) _ _ rfl rfl)
  blk_ext [iblk, V, idx t]

/-- The bias, as the program is given it. -/
abbrev Z : S1x8192.Idx → EReal := m ((c : Thread nD τ).loc main_arg2)

/-- The bias's block. -/
theorem blk2 (t : Fin cfg0.N) (s : Fin 1024) : (iblk m c 2 t : S1x1024.Idx → EReal) (ix2 0 s) = el (Z m c) 0 (1024 * (t.val % 8) + s) := by
  have := N64 t; have := s.isLt
  refine Eq.trans ?_ (el_of (Z m c) (ix2 0 ⟨1024 * (t.val % 8) + s.val, by omega⟩) _ _ rfl rfl)
  blk_ext [iblk, V, idx t]

/-- What a point writes out. -/
theorem out_at (t : Fin cfg0.N) (r : Fin 1024) (s : Fin 1024) :
    outsAt0 m c t (ix2 r s) = sigm (dot (rows (X m c)) (cols (Y m c)) 2048 (1024 * (t.val / 8) + r) (1024 * (t.val % 8) + s) + el (Z m c) 0 (1024 * (t.val % 8) + s)) := by
  unfold outsAt0
  rw [outA, pay3_at, pay2_at, pay1_at, zero_add, blk2 m c t s]
  refine congrArg (fun v : EReal => sigm (v + _)) ?_
  exact dot_of (rows (X m c)) (cols (Y m c)) _ _ _ _ (blk0 m c t r) (fun k => blk1 m c t k s)

/-- The kernel's result is the sigmoid of the product of the two arrays plus the bias. -/
theorem result : (dats m 0 c).arrAt 3 cfg0.N = fun i : S8192x8192.Idx =>
    sigm (dot (rows (X m c)) (cols (Y m c)) 2048 (i 0).val (i 1).val + el (Z m c) 0 (i 1).val) := by
  refine (dats m 0 c).arrAt_eq_of_covers 3 _ (by decide +kernel) fun t hf y => ?_
  blk_simp
  rw [after0_3]
  have := N64 t
  have a0 : (y 0).val < 1024 := (y 0).isLt
  have a1 : (y 1).val < 1024 := (y 1).isLt
  have e : y = ix2 ⟨(y 0).val, a0⟩ ⟨(y 1).val, a1⟩ := by funext a; fin_cases a <;> rfl
  have i := idx t
  have i0 : win0_3.index t 0 = t.val / 8 := by simp only [i]; rfl
  have i1 : win0_3.index t 1 = t.val % 8 := by simp only [i]; rfl
  rw [i0, i1]
  refine Eq.trans (congrArg _ e) ((out_at m c t ⟨(y 0).val, a0⟩ ⟨(y 1).val, a1⟩).trans ?_)
  simp only [Nat.mul_comm, Nat.add_comm]
end Cert.GatesIdeal.Prod

namespace Cert.GatesRefIdeal.Prod
open Cert.GatesRefIdeal Cert.GatesRefIdeal.Read Cert.Mat
open Idealize.ShloMosaic

/-- The reference's result is the sigmoid of the product of the two arrays plus the bias. -/
theorem result (x : S8192x2048.Idx → EReal) (y : S2048x8192.Idx → EReal) (z : S1x8192.Idx → EReal) :
    val_main_v13 (F := Ideal) x y z = fun i : S8192x8192.Idx =>
      sigm (dot (rows x) (cols y) 2048 (i 0).val (i 1).val + el z 0 (i 1).val) := by
  funext i
  rw [val_main_v13_apply, val_main_v12_apply, val_main_v11_apply, val_main_v10_apply, val_main_v9_apply, val_main_v8_apply, val_main_v7_apply,
    val_main_v6_apply, val_main_v5_apply, val_main_v4_apply, val_main_v3_apply, val_main_v2_apply]
  have h1 : ∀ q, val_main_cst (F := Ideal) q = (1 : EReal) := by intro q; pointwise [val_main_cst]
  have h2 : ∀ q, val_main_cst_0 (F := Ideal) q = (1 : EReal) := by intro q; pointwise [val_main_cst_0]
  rw [h1, h2]
  have hd : (∑ k : Fin 2048, (val_main_v0 (F := Ideal) x) (lidx_main_v2 i k) * (val_main_v1 (F := Ideal) y) (ridx_main_v2 i k) : EReal)
      = dot (rows x) (cols y) 2048 (i 0).val (i 1).val :=
    dot_of (rows x) (cols y) _ _ _ _ (fun k => el_of x _ _ _ rfl rfl) (fun k => el_of y _ _ _ rfl rfl)
  rw [hd, el_of z _ 0 (i 1).val rfl (Nat.mod_eq_of_lt (i 1).isLt)]
  rfl
end Cert.GatesRefIdeal.Prod

end
-- ==== Proof.Out.lean ====
/-
  The output projection: the kernel's result array and the reference's hold the same products, added to the same rows.
-/
module

public import proofs.«01_k».proof.Proof.Mat
public import proofs.«01_k».proof.Proof.Head
public import Idealize.ShloMosaic.Lib.VecWindow
public import proofs.«01_k».proof.Proof.Gen.OutIdeal.Value
public import proofs.«01_k».proof.Proof.Gen.OutRefIdeal.Read

@[expose] public section

set_option maxRecDepth 16384
noncomputable section
namespace Cert.OutIdeal.Prod
open Cert.OutIdeal Cert.OutIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

theorem N16 (t : Fin cfg0.N) : t.val < 16 := lt_of_lt_of_eq t.isLt (show cfg0.N = 16 from N_0)

/-- The stored zeros. -/
theorem pay1_at (r : Fin 1024) (s : Fin 1024) : (k0_pay1 (F := Ideal)) (ix2 r s) = 0 := by
  pointwise [k0_pay1]

/-- The product of two blocks is added to the accumulator. -/
theorem pay2_at (x : Vec Ideal S1024x1024 .f32) (y : Vec Ideal S1024x2048 .bf16) (z : Vec Ideal S2048x1024 .bf16) (r : Fin 1024) (s : Fin 1024) :
    k0_pay2 (F := Ideal) x y z (ix2 r s) = x (ix2 r s) + ∑ k : Fin 2048, y (ix2 r k) * z (ix2 k s) := by
  pointwise [k0_pay2]

/-- The product is added to the given rows. -/
theorem pay3_at (x z : Vec Ideal S1024x1024 .f32) (r : Fin 1024) (s : Fin 1024) :
    k0_pay3 (F := Ideal) x z (ix2 r s) = z (ix2 r s) + x (ix2 r s) := by
  pointwise [k0_pay3]

theorem hz : (![0, 0] : Fin 2 → ℕ) = fun _ => 0 := by funext a; fin_cases a <;> rfl

/-- A point writes its blocks' product out. -/
theorem outA (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : cond0_1 i)
    (x0 : Vec Ideal S1024x2048 .bf16) (x1 : Vec Ideal S2048x1024 .bf16) (x2 : Vec Ideal S1024x1024 .f32) :
    out0_A_3 c i arg3 harg3 arg4 harg4 arg5 harg5 arg6 harg6 arg7 harg7 hc0 hc1 x0 x1 x2 = k0_pay3 (k0_pay2 k0_pay1 x0 x1) x2 := by
  unfold out0_A_3 kernelRun0_A
  dsimp only
  rw [View.read_writes_full]
  sl_unfold_words
  rw [View.readCov_full arg7.view inb_S1024x1024_S1024x1024_0_0 inb_S1024x1024_S1024x1024_0_0]
  rw [View.readAt_full, View.readAt_full, View.readAt_full, harg5.read_unread, harg3.read_unread, harg4.read_unread, View.readCov_unit_zero _ hz]

variable (m : (ℓ : Loc nD τ sig) → Buf (Elt Ideal) ℓ) (c : Dev nD)

/-- The merged rows, as the program is given them. -/
abbrev X : S8192x2048.Idx → EReal := m ((c : Thread nD τ).loc main_arg0)
/-- The weights, as the program is given them. -/
abbrev Y : S2048x2048.Idx → EReal := m ((c : Thread nD τ).loc main_arg1)

/-- The first operand's block. -/
theorem blk0 (t : Fin cfg0.N) (r : Fin 1024) (k : Fin 2048) :
    (iblk m c 0 t : S1024x2048.Idx → EReal) (ix2 r k) = el (X m c) (1024 * (t.val / 2) + r) k := by
  have := N16 t; have := k.isLt; have := r.isLt
  refine Eq.trans ?_ (el_of (X m c) (ix2 ⟨1024 * (t.val / 2) + r.val, by omega⟩ k) _ _ rfl rfl)
  blk_ext [iblk, V, idx t]

/-- The second operand's block. -/
theorem blk1 (t : Fin cfg0.N) (k : Fin 2048) (s : Fin 1024) :
    (iblk m c 1 t : S2048x1024.Idx → EReal) (ix2 k s) = el (Y m c) k (1024 * (t.val % 2) + s) := by
  have := N16 t; have := k.isLt; have := s.isLt
  refine Eq.trans ?_ (el_of (Y m c) (ix2 k ⟨1024 * (t.val % 2) + s.val, by omega⟩) _ _ rfl rfl)
  blk_ext [iblk, V, idx t]

/-- The rows the product is added to, as the program is given them. -/
abbrev Z : S8192x2048.Idx → EReal := m ((c : Thread nD τ).loc main_arg2)

/-- Their block. -/
theorem blk2 (t : Fin cfg0.N) (r : Fin 1024) (s : Fin 1024) :
    (iblk m c 2 t : S1024x1024.Idx → EReal) (ix2 r s) = el (Z m c) (1024 * (t.val / 2) + r) (1024 * (t.val % 2) + s) := by
  have := N16 t; have := r.isLt; have := s.isLt
  refine Eq.trans ?_ (el_of (Z m c) (ix2 ⟨1024 * (t.val / 2) + r.val, by omega⟩ ⟨1024 * (t.val % 2) + s.val, by omega⟩) _ _ rfl rfl)
  blk_ext [iblk, V, idx t]

/-- What a point writes out. -/
theorem out_at (t : Fin cfg0.N) (r : Fin 1024) (s : Fin 1024) :
    outsAt0 m c t (ix2 r s) = el (Z m c) (1024 * (t.val / 2) + r) (1024 * (t.val % 2) + s)
      + dot (rows (X m c)) (cols (Y m c)) 2048 (1024 * (t.val / 2) + r) (1024 * (t.val % 2) + s) := by
  unfold outsAt0
  rw [outA, pay3_at, pay2_at, pay1_at, zero_add, blk2 m c t r s]
  refine congrArg (fun v : EReal => _ + v) ?_
  exact dot_of (rows (X m c)) (cols (Y m c)) _ _ _ _ (blk0 m c t r) (fun k => blk1 m c t k s)

/-- The kernel's result is the product of the two arrays added to the third. -/
theorem result : (dats m 0 c).arrAt 3 cfg0.N = fun i : S8192x2048.Idx =>
    el (Z m c) (i 0).val (i 1).val + dot (rows (X m c)) (cols (Y m c)) 2048 (i 0).val (i 1).val := by
  refine (dats m 0 c).arrAt_eq_of_covers 3 _ (by decide +kernel) fun t hf y => ?_
  blk_simp
  rw [after0_3]
  have := N16 t
  have a0 : (y 0).val < 1024 := (y 0).isLt
  have a1 : (y 1).val < 1024 := (y 1).isLt
  have e : y = ix2 ⟨(y 0).val, a0⟩ ⟨(y 1).val, a1⟩ := by funext a; fin_cases a <;> rfl
  have i := idx t
  have i0 : win0_3.index t 0 = t.val / 2 := by simp only [i]; rfl
  have i1 : win0_3.index t 1 = t.val % 2 := by simp only [i]; rfl
  rw [i0, i1]
  refine Eq.trans (congrArg _ e) ((out_at m c t ⟨(y 0).val, a0⟩ ⟨(y 1).val, a1⟩).trans ?_)
  simp only [Nat.mul_comm, Nat.add_comm]
end Cert.OutIdeal.Prod

namespace Cert.OutRefIdeal.Prod
open Cert.OutRefIdeal Cert.OutRefIdeal.Read Cert.Mat
open Idealize.ShloMosaic

/-- The reference's result is the product of the two arrays added to the third. -/
theorem result (x : S8192x2048.Idx → EReal) (y : S2048x2048.Idx → EReal) (z : S8192x2048.Idx → EReal) :
    val_main_v3 (F := Ideal) x y z = fun i : S8192x2048.Idx =>
      el z (i 0).val (i 1).val + dot (rows x) (cols y) 2048 (i 0).val (i 1).val := by
  funext i
  rw [val_main_v3_apply, val_main_v2_apply]
  exact congrArg₂ (fun a b : EReal => a + b) (el_of z i _ _ rfl rfl)
    (dot_of (rows x) (cols y) _ _ _ _ (fun k => el_of x _ _ _ rfl rfl) (fun k => el_of y _ _ _ rfl rfl))
end Cert.OutRefIdeal.Prod

end
-- ==== Proof.OutDx.lean ====
/-
  The gradient of the merged rows: the kernel's result array and the reference's hold the same products.
-/
module

public import proofs.«01_k».proof.Proof.Mat
public import proofs.«01_k».proof.Proof.Head
public import Idealize.ShloMosaic.Lib.VecWindow
public import proofs.«01_k».proof.Proof.Gen.OutDxIdeal.Value
public import proofs.«01_k».proof.Proof.Gen.OutDxRefIdeal.Read

@[expose] public section

set_option maxRecDepth 16384
noncomputable section
namespace Cert.OutDxIdeal.Prod
open Cert.OutDxIdeal Cert.OutDxIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem N16 (t : Fin cfg0.N) : t.val < 16 := lt_of_lt_of_eq t.isLt (show cfg0.N = 16 from N_0)

/-- The stored zeros. -/
theorem pay1_at (r : Fin 1024) (s : Fin 1024) : (k0_pay1 (F := Ideal)) (ix2 r s) = 0 := by
  pointwise [k0_pay1]

/-- The product of two blocks is added to the accumulator. -/
theorem pay2_at (x : Vec Ideal S1024x1024 .f32) (y : Vec Ideal S1024x2048 .f32) (z : Vec Ideal S1024x2048 .bf16) (r : Fin 1024) (s : Fin 1024) :
    k0_pay2 (F := Ideal) x y z (ix2 r s) = x (ix2 r s) + ∑ k : Fin 2048, y (ix2 r k) * z (ix2 s k) := by
  pointwise [k0_pay2]

theorem hz : (![0, 0] : Fin 2 → ℕ) = fun _ => 0 := by funext a; fin_cases a <;> rfl

/-- A point writes its blocks' product out. -/
theorem outA (c : Dev nD) (i : grid0.Coords) (arg3 : Memref sig .tc .vmem S1024x2048 .f32) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : cond0_1 i)
    (x0 : Vec Ideal S1024x2048 .f32) (x1 : Vec Ideal S1024x2048 .bf16) :
    out0_A_2 c i arg3 harg3 arg4 harg4 arg5 harg5 arg6 harg6 hc0 hc1 x0 x1 = k0_pay2 k0_pay1 x0 x1 := by
  unfold out0_A_2 kernelRun0_A
  dsimp only
  rw [View.read_writes_full]
  sl_unfold_words
  rw [View.readCov_full arg6.view inb_S1024x1024_S1024x1024_0_0 inb_S1024x1024_S1024x1024_0_0]
  rw [View.readAt_full, View.readAt_full, harg3.read_unread, harg4.read_unread, View.readCov_unit_zero _ hz]

variable (m : (ℓ : Loc nD τ sig) → Buf (Elt Ideal) ℓ) (c : Dev nD)

/-- The gradient of the step's result, as the program is given them. -/
abbrev X : S8192x2048.Idx → EReal := m ((c : Thread nD τ).loc main_arg0)
/-- The weights, as the program is given them. -/
abbrev Y : S2048x2048.Idx → EReal := m ((c : Thread nD τ).loc main_arg1)

/-- The first operand's block. -/
theorem blk0 (t : Fin cfg0.N) (r : Fin 1024) (k : Fin 2048) :
    (iblk m c 0 t : S1024x2048.Idx → EReal) (ix2 r k) = el (X m c) (1024 * (t.val / 2) + r) k := by
  have := N16 t; have := k.isLt; have := r.isLt
  refine Eq.trans ?_ (el_of (X m c) (ix2 ⟨1024 * (t.val / 2) + r.val, by omega⟩ k) _ _ rfl rfl)
  blk_ext [iblk, V, idx t]

/-- The second operand's block. -/
theorem blk1 (t : Fin cfg0.N) (s : Fin 1024) (k : Fin 2048) :
    (iblk m c 1 t : S1024x2048.Idx → EReal) (ix2 s k) = el (Y m c) (1024 * (t.val % 2) + s) k := by
  have := N16 t; have := k.isLt; have := s.isLt
  refine Eq.trans ?_ (el_of (Y m c) (ix2 ⟨1024 * (t.val % 2) + s.val, by omega⟩ k) _ _ rfl rfl)
  blk_ext [iblk, V, idx t]

/-- What a point writes out. -/
theorem out_at (t : Fin cfg0.N) (r : Fin 1024) (s : Fin 1024) :
    outsAt0 m c t (ix2 r s) = dot (rows (X m c)) (rows (Y m c)) 2048 (1024 * (t.val / 2) + r) (1024 * (t.val % 2) + s) := by
  unfold outsAt0
  rw [outA, pay2_at, pay1_at, zero_add]
  exact dot_of (rows (X m c)) (rows (Y m c)) _ _ _ _ (blk0 m c t r) (blk1 m c t s)

/-- The kernel's result is the product of the two arrays' rows. -/
theorem result : (dats m 0 c).arrAt 2 cfg0.N = fun i : S8192x2048.Idx => dot (rows (X m c)) (rows (Y m c)) 2048 (i 0).val (i 1).val := by
  refine (dats m 0 c).arrAt_eq_of_covers 2 _ (by decide +kernel) fun t hf y => ?_
  blk_simp
  rw [after0_2]
  have := N16 t
  have a0 : (y 0).val < 1024 := (y 0).isLt
  have a1 : (y 1).val < 1024 := (y 1).isLt
  have e : y = ix2 ⟨(y 0).val, a0⟩ ⟨(y 1).val, a1⟩ := by funext a; fin_cases a <;> rfl
  have i := idx t
  have i0 : win0_2.index t 0 = t.val / 2 := by simp only [i]; rfl
  have i1 : win0_2.index t 1 = t.val % 2 := by simp only [i]; rfl
  rw [i0, i1]
  refine Eq.trans (congrArg _ e) ((out_at m c t ⟨(y 0).val, a0⟩ ⟨(y 1).val, a1⟩).trans ?_)
  simp only [Nat.mul_comm, Nat.add_comm]
end Cert.OutDxIdeal.Prod

namespace Cert.OutDxRefIdeal.Prod
open Cert.OutDxRefIdeal Cert.OutDxRefIdeal.Read Cert.Mat
open Idealize.ShloMosaic

/-- The reference's result is the product of the two arrays' rows. -/
theorem result (x : S8192x2048.Idx → EReal) (y : S2048x2048.Idx → EReal) :
    val_main_v3 (F := Ideal) x y = fun i : S8192x2048.Idx => dot (rows x) (rows y) 2048 (i 0).val (i 1).val := by
  funext i
  rw [val_main_v3_apply]
  exact dot_of (rows x) (rows y) _ _ _ _ (fun k => el_of x _ _ _ rfl rfl) (fun k => el_of y _ _ _ rfl rfl)
end Cert.OutDxRefIdeal.Prod

end
-- ==== Proof.OutDw.lean ====
/-
  The gradient of the output projection's weights: the kernel's result array and the reference's hold the same products.
-/
module

public import proofs.«01_k».proof.Proof.Mat
public import proofs.«01_k».proof.Proof.Head
public import Idealize.ShloMosaic.Lib.VecWindow
public import proofs.«01_k».proof.Proof.Gen.OutDwIdeal.Value
public import proofs.«01_k».proof.Proof.Gen.OutDwRefIdeal.Read

@[expose] public section

set_option maxRecDepth 16384
noncomputable section
namespace Cert.OutDwIdeal.Prod
open Cert.OutDwIdeal Cert.OutDwIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

theorem N16 (t : Fin cfg0.N) : t.val < 16 := lt_of_lt_of_eq t.isLt (show cfg0.N = 16 from N_0)

/-- The stored zeros. -/
theorem pay1_at (r s : Fin 1024) : (k0_pay1 (F := Ideal)) (ix2 r s) = 0 := by
  pointwise [k0_pay1]

/-- The product of two blocks is added to the accumulator. -/
theorem pay2_at (x : Vec Ideal S1024x1024 .f32) (y : Vec Ideal S2048x1024 .bf16) (z : Vec Ideal S2048x1024 .f32) (r s : Fin 1024) :
    k0_pay2 (F := Ideal) x y z (ix2 r s) = x (ix2 r s) + ∑ k : Fin 2048, y (ix2 k r) * z (ix2 k s) := by
  pointwise [k0_pay2]

theorem hz : (![0, 0] : Fin 2 → ℕ) = fun _ => 0 := by funext a; fin_cases a <;> rfl

section
variable (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole)
    (x0 : Vec Ideal S2048x1024 .bf16) (x1 : Vec Ideal S2048x1024 .f32) (xs0 : Vec Ideal S1024x1024 .f32)

/-- A first point leaves its blocks' product. -/
theorem soutA (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0 kernelRun0_A
  dsimp only
  rw [View.read_writes_full]
  sl_unfold_words
  rw [View.readCov_unit_zero _ hz]
  rw [View.readAt_full, View.readAt_full, harg3.read_unread, harg4.read_unread]

/-- A middle point adds its blocks' product to what the accumulator held. -/
theorem soutB (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0 kernelRun0_B
  dsimp only
  sl_unfold_words
  rw [View.read_writes_full]
  rw [View.readAt_full, View.readAt_full, View.readAt_full, harg3.read_unread, harg4.read_unread, harg6.read_unread]

/-- The last point adds its blocks' product as well … -/
theorem soutC (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0 kernelRun0_C
  dsimp only
  sl_unfold_words
  rw [View.read_writes_full]
  rw [View.readAt_full, View.readAt_full, View.readAt_full, harg3.read_unread, harg4.read_unread, harg6.read_unread]

/-- … and writes the accumulator out. -/
theorem outC (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2 kernelRun0_C
  dsimp only
  sl_unfold_words
  rw [View.read_writes_full, View.readCov_unit_zero _ hz]
  rw [View.readAt_full, View.readAt_full, View.readAt_full, harg3.read_unread, harg4.read_unread, harg6.read_unread]
end

variable (m : (ℓ : Loc nD τ sig) → Buf (Elt Ideal) ℓ) (c : Dev nD)

/-- The merged rows, as the program is given them. -/
abbrev X : S8192x2048.Idx → EReal := m ((c : Thread nD τ).loc main_arg0)
/-- The gradient of the step's result, as the program is given it. -/
abbrev Y : S8192x2048.Idx → EReal := m ((c : Thread nD τ).loc main_arg1)

/-- The first operand's block. -/
theorem blk0 (t : Fin cfg0.N) (k : Fin 2048) (r : Fin 1024) :
    (iblk m c 0 t : S2048x1024.Idx → EReal) (ix2 k r) = el (X m c) (2048 * (t.val % 4) + k) (1024 * (t.val / 8) + r) := by
  have := N16 t; have := k.isLt; have := r.isLt
  refine Eq.trans ?_ (el_of (X m c) (ix2 ⟨2048 * (t.val % 4) + k.val, by omega⟩ ⟨1024 * (t.val / 8) + r.val, by omega⟩) _ _ rfl rfl)
  blk_ext [iblk, V, idx t]

/-- The second operand's block. -/
theorem blk1 (t : Fin cfg0.N) (k : Fin 2048) (s : Fin 1024) :
    (iblk m c 1 t : S2048x1024.Idx → EReal) (ix2 k s) = el (Y m c) (2048 * (t.val % 4) + k) (1024 * (t.val / 4 % 2) + s) := by
  have := N16 t; have := k.isLt; have := s.isLt
  refine Eq.trans ?_ (el_of (Y m c) (ix2 ⟨2048 * (t.val % 4) + k.val, by omega⟩ ⟨1024 * (t.val / 4 % 2) + s.val, by omega⟩) _ _ rfl rfl)
  blk_ext [iblk, V, idx t]

/-- The accumulator after every point. -/
theorem acc (n : ℕ) (h : n < cfg0.N) (r s : Fin 1024) : (outsAt0 m c n h).2 (ix2 r s)
    = dot (cols (X m c)) (cols (Y m c)) (2048 * (n % 4 + 1)) (1024 * (n / 8) + r) (1024 * (n / 4 % 2) + s) := by
  refine acc_dot cfg0.N 4 (by omega) _ _ (fun n => 1024 * (n / 8)) (fun n => 1024 * (n / 4 % 2)) (fun n h r s => (outsAt0 m c n h).2 (ix2 r s))
    (fun n h r k => (iblk m c 0 ⟨n, h⟩ : S2048x1024.Idx → EReal) (ix2 k r)) (fun n h s k => (iblk m c 1 ⟨n, h⟩ : S2048x1024.Idx → EReal) (ix2 k s))
    (fun n h r k => blk0 m c ⟨n, h⟩ k r) (fun n h s k => blk1 m c ⟨n, h⟩ k s) ?_ ?_ ?_ n h r s
  · intro n h r s e
    have q := outsAt0_A m c ⟨n, h⟩ e (by dsimp only; omega)
    dsimp only at q ⊢
    rw [q]
    dsimp only
    rw [soutA, pay2_at, pay1_at, zero_add]
  · intro n h r s e
    by_cases e' : n % 4 = 3
    · have q := outsAt0_C m c ⟨n, h⟩ e e'
      dsimp only at q ⊢
      rw [q]
      dsimp only
      rw [soutC, pay2_at]
    · have q := outsAt0_B m c ⟨n, h⟩ e e'
      dsimp only at q ⊢
      rw [q]
      dsimp only
      rw [soutB, pay2_at]
  · intro n e
    omega

theorem flush2 : ∀ t : Fin cfg0.N, (cfg0.win 2).flush t = true → t.val % 4 = 3 :=
  (by decide +kernel : ∀ t : Fin grid0.N, _)

/-- The kernel's result is the product of the two arrays' columns. -/
theorem result : Value.G2 m c = fun i : S2048x2048.Idx => dot (cols (X m c)) (cols (Y m c)) 8192 (i 0).val (i 1).val := by
  rw [← Value.final2 m c]
  refine (dats m 0 c).arrAt_eq_of_covers 2 _ (by decide +kernel) fun t hf y => ?_
  blk_simp
  rw [after0_2]
  have h1 := flush2 t hf
  have h0 : ¬t.val % 4 = 0 := by omega
  have := N16 t
  have a0 : (y 0).val < 1024 := (y 0).isLt
  have a1 : (y 1).val < 1024 := (y 1).isLt
  have e : y = ix2 ⟨(y 0).val, a0⟩ ⟨(y 1).val, a1⟩ := by funext a; fin_cases a <;> rfl
  have h := acc m c t.val t.isLt ⟨(y 0).val, a0⟩ ⟨(y 1).val, a1⟩
  have q : (outsAt0 m c t.val t.isLt).1 = (outsAt0 m c t.val t.isLt).2 := by
    rw [outsAt0_C m c t h0 h1]; dsimp only; rw [outC, soutC]; rfl
  have i := idx t
  have i0 : win0_2.index t 0 = t.val / 8 := by simp only [i]; rfl
  have i1 : win0_2.index t 1 = t.val / 4 % 2 := by simp only [i]; rfl
  rw [i0, i1]
  refine Eq.trans (congrFun q y) (Eq.trans (congrArg _ e) (h.trans ?_))
  rw [h1]
  simp only [Nat.mul_comm, Nat.add_comm]
end Cert.OutDwIdeal.Prod

namespace Cert.OutDwRefIdeal.Prod
open Cert.OutDwRefIdeal Cert.OutDwRefIdeal.Read Cert.Mat
open Idealize.ShloMosaic

/-- The reference's result is the product of the two arrays' columns. -/
theorem result (x : S8192x2048.Idx → EReal) (y : S8192x2048.Idx → EReal) :
    val_main_v5 (F := Ideal) x y = fun i : S2048x2048.Idx => dot (cols x) (cols y) 8192 (i 0).val (i 1).val := by
  funext i
  refine Eq.trans (b := val_main_v4 (F := Ideal) x y i) rfl ?_
  rw [val_main_v4_apply, val_main_v3_apply]
  unfold dot
  rw [Finset.sum_range]
  refine Finset.sum_congr rfl fun k _ => (mul_comm _ _).trans ?_
  exact congrArg₂ (· * ·) (el_of x _ _ _ rfl rfl) (el_of y _ _ _ rfl rfl)
end Cert.OutDwRefIdeal.Prod

end
-- ==== Proof.BranchDy.lean ====
/-
  The gradients of the branches' rows: the kernel's result array and the reference's hold the same products.
-/
module

public import proofs.«01_k».proof.Proof.Mat
public import proofs.«01_k».proof.Proof.Head
public import Idealize.ShloMosaic.Lib.VecWindow
public import proofs.«01_k».proof.Proof.Gen.BranchDyIdeal.Value
public import proofs.«01_k».proof.Proof.Gen.BranchDyRefIdeal.Read

@[expose] public section

set_option maxRecDepth 16384
noncomputable section
namespace Cert.BranchDyIdeal.Prod
open Cert.BranchDyIdeal Cert.BranchDyIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val / 8, t.val % 8, 0] ∧ win0_1.index t = ![t.val / 8, 0, 0]
    ∧ win0_2.index t = ![t.val / 8, t.val % 8, 0] :=
  (by decide +kernel : ∀ t : Fin grid0.N, _)

theorem N32 (t : Fin cfg0.N) : t.val < 32 := lt_of_lt_of_eq t.isLt (show cfg0.N = 32 from N_0)

/-- The product of two blocks. -/
theorem pay1_at (y z : Vec Ideal S1x1024x2048 .bf16) (r s : Fin 1024) :
    k0_pay1 (F := Ideal) y z (ix3 0 r s) = ∑ k : Fin 2048, y (ix3 0 r k) * z (ix3 0 s k) := by
  pointwise [k0_pay1]

theorem hz : (![0, 0, 0] : Fin 3 → ℕ) = fun _ => 0 := by funext a; fin_cases a <;> rfl

/-- A point writes its blocks' product out. -/
theorem out (x0 x1 : Vec Ideal S1x1024x2048 .bf16) : out0_2 (F := Ideal) x0 x1 = k0_pay1 x0 x1 := by
  unfold out0_2
  rw [View.canon_unit_zero hz, View.ld_unit_zero hz, View.ld_unit_zero hz]

variable (m : (ℓ : Loc nD τ sig) → Buf (Elt Ideal) ℓ) (c : Dev nD)

/-- The gradients of the branches' projections, as the program is given them. -/
abbrev X : S4x8192x2048.Idx → EReal := m ((c : Thread nD τ).loc main_arg0)
/-- The branches' weights, as the program is given them. -/
abbrev Y : S4x1024x2048.Idx → EReal := m ((c : Thread nD τ).loc main_arg1)

/-- The first operand's block. -/
theorem blk0 (t : Fin cfg0.N) (r : Fin 1024) (k : Fin 2048) :
    (iblk m c 0 t : S1x1024x2048.Idx → EReal) (ix3 0 r k) = pl (X m c) (t.val / 8) (1024 * (t.val % 8) + r) k := by
  have := N32 t; have := k.isLt; have := r.isLt
  refine Eq.trans ?_ (pl_of (X m c) (ix3 ⟨t.val / 8, by omega⟩ ⟨1024 * (t.val % 8) + r.val, by omega⟩ k) _ _ _ rfl rfl rfl)
  blk_ext [iblk, V, idx t]

/-- The second operand's block. -/
theorem blk1 (t : Fin cfg0.N) (s : Fin 1024) (k : Fin 2048) :
    (iblk m c 1 t : S1x1024x2048.Idx → EReal) (ix3 0 s k) = pl (Y m c) (t.val / 8) s k := by
  have := N32 t; have := k.isLt; have := s.isLt
  refine Eq.trans ?_ (pl_of (Y m c) (ix3 ⟨t.val / 8, by omega⟩ s k) _ _ _ rfl rfl rfl)
  blk_ext [iblk, V, idx t]

/-- What a point writes out. -/
theorem out_at (t : Fin cfg0.N) (r s : Fin 1024) :
    out0_2 (F := Ideal) (iblk m c 0 t) (iblk m c 1 t) (ix3 0 r s)
      = dot (prows (X m c) (t.val / 8)) (prows (Y m c) (t.val / 8)) 2048 (1024 * (t.val % 8) + r) s := by
  rw [out, pay1_at]
  exact dot_of (prows (X m c) (t.val / 8)) (prows (Y m c) (t.val / 8)) _ _ _ _ (blk0 m c t r) (blk1 m c t s)

/-- The kernel's result is the product of the matrices' rows. -/
theorem result : (dats m 0 c).arrAt 2 cfg0.N = fun i : S4x8192x1024.Idx =>
    dot (prows (X m c) (i 0).val) (prows (Y m c) (i 0).val) 2048 (i 1).val (i 2).val := by
  refine (dats m 0 c).arrAt_eq_of_covers 2 _ (by decide +kernel) fun t hf y => ?_
  blk_simp
  rw [after0_2]
  have := N32 t
  have a0 : (y 0).val < 1 := (y 0).isLt
  have a1 : (y 1).val < 1024 := (y 1).isLt
  have a2 : (y 2).val < 1024 := (y 2).isLt
  have z0 : (y 0).val = 0 := by omega
  have e : y = ix3 0 ⟨(y 1).val, a1⟩ ⟨(y 2).val, a2⟩ := by
    funext a; fin_cases a
    · exact Fin.ext z0
    · rfl
    · rfl
  have i := idx t
  have i0 : win0_2.index t 0 = t.val / 8 := by simp only [i]; rfl
  have i1 : win0_2.index t 1 = t.val % 8 := by simp only [i]; rfl
  have i2 : win0_2.index t 2 = 0 := by simp only [i]; rfl
  rw [i0, i1, i2]
  refine Eq.trans (congrArg _ e) ((out_at m c t ⟨(y 1).val, a1⟩ ⟨(y 2).val, a2⟩).trans ?_)
  simp only [z0, Nat.mul_comm, Nat.add_comm, Nat.mul_zero, Nat.zero_mul, Nat.zero_add, Nat.add_zero, Nat.mul_one, Nat.one_mul]
end Cert.BranchDyIdeal.Prod

namespace Cert.BranchDyRefIdeal.Prod
open Cert.BranchDyRefIdeal Cert.BranchDyRefIdeal.Read Cert.Mat
open Idealize.ShloMosaic

/-- The reference's result is the product of the matrices' rows. -/
theorem result (x : S4x8192x2048.Idx → EReal) (y : S4x1024x2048.Idx → EReal) :
    val_main_v4 (F := Ideal) x y = fun i : S4x8192x1024.Idx => dot (prows x (i 0).val) (prows y (i 0).val) 2048 (i 1).val (i 2).val := by
  funext i
  rw [val_main_v4_apply]
  exact dot_of (prows x (i 0).val) (prows y (i 0).val) _ _ _ _ (fun k => pl_of x _ _ _ _ rfl rfl rfl) (fun k => pl_of y _ _ _ _ rfl rfl rfl)
end Cert.BranchDyRefIdeal.Prod

end
-- ==== Proof.BranchDw.lean ====
/-
  The gradients of the branches' weights: the kernel's result array and the reference's hold the same products.
-/
module

public import proofs.«01_k».proof.Proof.Mat
public import proofs.«01_k».proof.Proof.Head
public import Idealize.ShloMosaic.Lib.VecWindow
public import proofs.«01_k».proof.Proof.Gen.BranchDwIdeal.Value
public import proofs.«01_k».proof.Proof.Gen.BranchDwRefIdeal.Read

@[expose] public section

set_option maxRecDepth 16384
noncomputable section
namespace Cert.BranchDwIdeal.Prod
open Cert.BranchDwIdeal Cert.BranchDwIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val / 8, t.val % 4, 0] ∧ win0_1.index t = ![t.val / 8, t.val % 4, t.val / 4 % 2]
    ∧ win0_2.index t = ![t.val / 8, 0, t.val / 4 % 2] :=
  (by decide +kernel : ∀ t : Fin grid0.N, _)

theorem N32 (t : Fin cfg0.N) : t.val < 32 := lt_of_lt_of_eq t.isLt (show cfg0.N = 32 from N_0)

/-- The stored zeros. -/
theorem pay1_at (r s : Fin 1024) : (k0_pay1 (F := Ideal)) (ix2 r s) = 0 := by
  pointwise [k0_pay1]

/-- The product of two blocks is added to the accumulator. -/
theorem pay2_at (x : Vec Ideal S1024x1024 .f32) (y z : Vec Ideal S1x2048x1024 .bf16) (r s : Fin 1024) :
    k0_pay2 (F := Ideal) x y z (ix2 r s) = x (ix2 r s) + ∑ k : Fin 2048, y (ix3 0 k r) * z (ix3 0 k s) := by
  pointwise [k0_pay2]

/-- The accumulator as it is written out. -/
theorem pay3_at (x : Vec Ideal S1024x1024 .f32) (r s : Fin 1024) : k0_pay3 (F := Ideal) x (ix3 0 r s) = x (ix2 r s) := by
  pointwise [k0_pay3]

theorem hz3 : (![0, 0, 0] : Fin 3 → ℕ) = fun _ => 0 := by funext a; fin_cases a <;> rfl
theorem hz : (![0, 0] : Fin 2 → ℕ) = fun _ => 0 := by funext a; fin_cases a <;> rfl

section
variable (c : Dev nD) (i : grid0.Coords) (arg4 : Memref sig .tc .vmem S1x2048x1024 .bf16) (harg4 : arg4.IsWhole) (arg5 : Memref sig .tc .vmem S1x2048x1024 .bf16) (harg5 : arg5.IsWhole) (arg6 : Memref sig .tc .vmem S1x1024x1024 .bf16) (harg6 : arg6.IsWhole) (arg7 : Memref sig .tc .vmem S1024x1024 .f32) (harg7 : arg7.IsWhole)
    (x0 x1 : Vec Ideal S1x2048x1024 .bf16) (xs0 : Vec Ideal S1024x1024 .f32)

/-- A first point leaves its blocks' product. -/
theorem soutA (hc0 : cond0_0 i) (hc1 : ¬cond0_1 i) :
    sout0_A_0 c i arg4 harg4 arg5 harg5 arg6 harg6 arg7 harg7 hc0 hc1 x0 x1 = k0_pay2 k0_pay1 x0 x1 := by
  unfold sout0_A_0 kernelRun0_A
  dsimp only
  rw [View.read_writes_full]
  sl_unfold_words
  rw [View.readCov_unit_zero _ hz]
  rw [View.readAt_full, View.readAt_full, harg4.read_unread, harg5.read_unread]

/-- A middle point adds its blocks' product to what the accumulator held. -/
theorem soutB (hc0 : ¬cond0_0 i) (hc1 : ¬cond0_1 i) :
    sout0_B_0 c i arg4 harg4 arg5 harg5 arg6 harg6 arg7 harg7 hc0 hc1 x0 x1 xs0 = k0_pay2 xs0 x0 x1 := by
  unfold sout0_B_0 kernelRun0_B
  dsimp only
  sl_unfold_words
  rw [View.read_writes_full]
  rw [View.readAt_full, View.readAt_full, View.readAt_full, harg4.read_unread, harg5.read_unread, harg7.read_unread]

/-- The last point adds its blocks' product as well … -/
theorem soutC (hc0 : ¬cond0_0 i) (hc1 : cond0_1 i) :
    sout0_C_0 c i arg4 harg4 arg5 harg5 arg6 harg6 arg7 harg7 hc0 hc1 x0 x1 xs0 = k0_pay2 xs0 x0 x1 := by
  unfold sout0_C_0 kernelRun0_C
  dsimp only
  sl_unfold_words
  rw [View.read_writes_full]
  rw [View.readAt_full, View.readAt_full, View.readAt_full, harg4.read_unread, harg5.read_unread, harg7.read_unread]

/-- … and writes the accumulator out. -/
theorem outC (hc0 : ¬cond0_0 i) (hc1 : cond0_1 i) :
    out0_C_2 c i arg4 harg4 arg5 harg5 arg6 harg6 arg7 harg7 hc0 hc1 x0 x1 xs0 = k0_pay3 (k0_pay2 xs0 x0 x1) := by
  unfold out0_C_2 kernelRun0_C
  dsimp only
  sl_unfold_words
  rw [View.read_writes_full, View.readCov_unit_zero _ hz]
  rw [View.readAt_full, View.readAt_full, View.readAt_full, harg4.read_unread, harg5.read_unread, harg7.read_unread]
end

variable (m : (ℓ : Loc nD τ sig) → Buf (Elt Ideal) ℓ) (c : Dev nD)

/-- The branches' rows, as the program is given them. -/
abbrev X : S4x8192x1024.Idx → EReal := m ((c : Thread nD τ).loc main_arg0)
/-- The gradients of the branches' projections, as the program is given them. -/
abbrev Y : S4x8192x2048.Idx → EReal := m ((c : Thread nD τ).loc main_arg1)

/-- The first operand's block. -/
theorem blk0 (t : Fin cfg0.N) (k : Fin 2048) (r : Fin 1024) :
    (iblk m c 0 t : S1x2048x1024.Idx → EReal) (ix3 0 k r) = pl (X m c) (t.val / 8) (2048 * (t.val % 4) + k) r := by
  have := N32 t; have := k.isLt; have := r.isLt
  refine Eq.trans ?_ (pl_of (X m c) (ix3 ⟨t.val / 8, by omega⟩ ⟨2048 * (t.val % 4) + k.val, by omega⟩ r) _ _ _ rfl rfl rfl)
  blk_ext [iblk, V, idx t]

/-- The second operand's block. -/
theorem blk1 (t : Fin cfg0.N) (k : Fin 2048) (s : Fin 1024) :
    (iblk m c 1 t : S1x2048x1024.Idx → EReal) (ix3 0 k s) = pl (Y m c) (t.val / 8) (2048 * (t.val % 4) + k) (1024 * (t.val / 4 % 2) + s) := by
  have := N32 t; have := k.isLt; have := s.isLt
  refine Eq.trans ?_ (pl_of (Y m c) (ix3 ⟨t.val / 8, by omega⟩ ⟨2048 * (t.val % 4) + k.val, by omega⟩ ⟨1024 * (t.val / 4 % 2) + s.val, by omega⟩) _ _ _ rfl rfl rfl)
  blk_ext [iblk, V, idx t]

/-- A column's place among all matrices' columns. -/
theorem line0 (x : S4x8192x1024.Idx → EReal) (a : ℕ) (r : Fin 1024) (k : ℕ) : pl x a k r = acols x (1024 * a + r) k := by
  have := r.isLt
  show _ = pl x ((1024 * a + r.val) / 1024) k ((1024 * a + r.val) % 1024)
  rw [show (1024 * a + r.val) / 1024 = a by omega, show (1024 * a + r.val) % 1024 = r.val by omega]

/-- The same for the second operand. -/
theorem line1 (y : S4x8192x2048.Idx → EReal) (a e : ℕ) (he : e < 2) (s : Fin 1024) (k : ℕ) :
    pl y a k (1024 * e + s) = acols y (2048 * a + 1024 * e + s) k := by
  have := s.isLt
  show _ = pl y ((2048 * a + 1024 * e + s.val) / 2048) k ((2048 * a + 1024 * e + s.val) % 2048)
  rw [show (2048 * a + 1024 * e + s.val) / 2048 = a by omega, show (2048 * a + 1024 * e + s.val) % 2048 = 1024 * e + s.val by omega]

/-- The accumulator after every point. -/
theorem acc (n : ℕ) (h : n < cfg0.N) (r s : Fin 1024) : (outsAt0 m c n h).2 (ix2 r s)
    = dot (acols (X m c)) (acols (Y m c)) (2048 * (n % 4 + 1)) (1024 * (n / 8) + r) (2048 * (n / 8) + 1024 * (n / 4 % 2) + s) := by
  refine acc_dot cfg0.N 4 (by omega) _ _ (fun n => 1024 * (n / 8)) (fun n => 2048 * (n / 8) + 1024 * (n / 4 % 2)) (fun n h r s => (outsAt0 m c n h).2 (ix2 r s))
    (fun n h r k => (iblk m c 0 ⟨n, h⟩ : S1x2048x1024.Idx → EReal) (ix3 0 k r)) (fun n h s k => (iblk m c 1 ⟨n, h⟩ : S1x2048x1024.Idx → EReal) (ix3 0 k s))
    (fun n h r k => (blk0 m c ⟨n, h⟩ k r).trans (line0 (X m c) _ r _))
    (fun n h s k => (blk1 m c ⟨n, h⟩ k s).trans (line1 (Y m c) _ (n / 4 % 2) (by omega) s _)) ?_ ?_ ?_ n h r s
  · intro n h r s e
    have q := outsAt0_A m c ⟨n, h⟩ e (by dsimp only; omega)
    dsimp only at q ⊢
    rw [q]
    dsimp only
    rw [soutA, pay2_at, pay1_at, zero_add]
  · intro n h r s e
    by_cases e' : n % 4 = 3
    · have q := outsAt0_C m c ⟨n, h⟩ e e'
      dsimp only at q ⊢
      rw [q]
      dsimp only
      rw [soutC, pay2_at]
    · have q := outsAt0_B m c ⟨n, h⟩ e e'
      dsimp only at q ⊢
      rw [q]
      dsimp only
      rw [soutB, pay2_at]
  · intro n e
    omega

theorem flush2 : ∀ t : Fin cfg0.N, (cfg0.win 2).flush t = true → t.val % 4 = 3 :=
  (by decide +kernel : ∀ t : Fin grid0.N, _)

/-- The kernel's result is the product of the matrices' columns. -/
theorem result : Value.G2 m c = fun i : S4x1024x2048.Idx =>
    dot (acols (X m c)) (acols (Y m c)) 8192 (1024 * (i 0).val + (i 1).val) (2048 * (i 0).val + (i 2).val) := by
  rw [← Value.final2 m c]
  refine (dats m 0 c).arrAt_eq_of_covers 2 _ (by decide +kernel) fun t hf y => ?_
  blk_simp
  rw [after0_2]
  have h1 := flush2 t hf
  have h0 : ¬t.val % 4 = 0 := by omega
  have := N32 t
  have a0 : (y 0).val < 1 := (y 0).isLt
  have a1 : (y 1).val < 1024 := (y 1).isLt
  have a2 : (y 2).val < 1024 := (y 2).isLt
  have z0 : (y 0).val = 0 := by omega
  have e : y = ix3 0 ⟨(y 1).val, a1⟩ ⟨(y 2).val, a2⟩ := by
    funext a; fin_cases a
    · exact Fin.ext z0
    · rfl
    · rfl
  have h := acc m c t.val t.isLt ⟨(y 1).val, a1⟩ ⟨(y 2).val, a2⟩
  have q : (outsAt0 m c t.val t.isLt).1 = k0_pay3 (outsAt0 m c t.val t.isLt).2 := by
    rw [outsAt0_C m c t h0 h1]; dsimp only; rw [outC, soutC]
  have i := idx t
  have i0 : win0_2.index t 0 = t.val / 8 := by simp only [i]; rfl
  have i1 : win0_2.index t 1 = 0 := by simp only [i]; rfl
  have i2 : win0_2.index t 2 = t.val / 4 % 2 := by simp only [i]; rfl
  rw [i0, i1, i2]
  refine Eq.trans (congrFun q y) (Eq.trans (congrArg _ e) ((pay3_at _ _ _).trans (h.trans ?_)))
  rw [h1]
  dsimp only
  congr 1 <;> omega
end Cert.BranchDwIdeal.Prod

namespace Cert.BranchDwRefIdeal.Prod
open Cert.BranchDwRefIdeal Cert.BranchDwRefIdeal.Read Cert.Mat
open Idealize.ShloMosaic

/-- The reference's result is the product of the matrices' columns. -/
theorem result (x : S4x8192x1024.Idx → EReal) (y : S4x8192x2048.Idx → EReal) :
    val_main_v6 (F := Ideal) x y = fun i : S4x1024x2048.Idx =>
      dot (acols x) (acols y) 8192 (1024 * (i 0).val + (i 1).val) (2048 * (i 0).val + (i 2).val) := by
  funext i
  refine Eq.trans (b := val_main_v5 (F := Ideal) x y i) rfl ?_
  rw [val_main_v5_apply, val_main_v4_apply]
  have a1 : (i 1).val < 1024 := (i 1).isLt
  have a2 : (i 2).val < 2048 := (i 2).isLt
  refine (Finset.sum_congr rfl fun k _ => mul_comm _ _).trans (dot_of (acols x) (acols y) _ _ _ _ (fun k => ?_) (fun k => ?_))
  · refine pl_of x _ _ _ _ ?_ rfl ?_
    · show (i 0).val = (1024 * (i 0).val + (i 1).val) / 1024; omega
    · show (i 1).val = (1024 * (i 0).val + (i 1).val) % 1024; omega
  · refine pl_of y _ _ _ _ ?_ rfl ?_
    · show (i 0).val = (2048 * (i 0).val + (i 2).val) / 2048; omega
    · show (i 2).val = (2048 * (i 0).val + (i 2).val) % 2048; omega
end Cert.BranchDwRefIdeal.Prod

end
-- ==== Proof.Merge.lean ====
/-
  The branches' projections and their gated sum: the kernel's two result arrays and the reference's hold the same
  products and the same sums over the branches.
-/
module

public import proofs.«01_k».proof.Proof.Mat
public import proofs.«01_k».proof.Proof.Head
public import Idealize.ShloMosaic.Lib.VecWindow
public import proofs.«01_k».proof.Proof.Gen.MergeIdeal.Value
public import proofs.«01_k».proof.Proof.Gen.MergeRefIdeal.Read

@[expose] public section

set_option maxRecDepth 16384
noncomputable section
namespace Cert.MergeIdeal.Prod
open Cert.MergeIdeal Cert.MergeIdeal.Gen Cert.Mat
open Idealize.ShloMosaic Idealize.ShloMosaic.TcCoe Idealize.ShloMosaic.Tactic
open Idealize.ShloMosaic.Pipeline (Dat)
open Finset (range)

/-- Which blocks a point reads and writes. -/
theorem idx : ∀ t : Fin cfg0.N, win0_0.index t = ![t.val % 4, t.val / 8, 0] ∧ win0_1.index t = ![t.val % 4, 0, t.val / 4 % 2]
    ∧ win0_2.index t = ![t.val / 8, t.val % 4 * 2 + t.val / 4 % 2] ∧ win0_3.index t = ![t.val % 4, t.val / 8, t.val / 4 % 2]
    ∧ win0_4.index t = ![t.val / 8, t.val / 4 % 2] :=
  (by decide +kernel : ∀ t : Fin grid0.N, _)

theorem N64 (t : Fin cfg0.N) : t.val < 64 := lt_of_lt_of_eq t.isLt (show cfg0.N = 64 from N_0)

/-- The product of two blocks. -/
theorem pay1_at (y z : Vec Ideal S1x1024x1024 .bf16) (r s : Fin 1024) :
    k0_pay1 (F := Ideal) y z (ix2 r s) = ∑ k : Fin 1024, y (ix3 0 r k) * z (ix3 0 k s) := by
  pointwise [k0_pay1]

/-- The product as it is written out. -/
theorem pay2_at (y z : Vec Ideal S1x1024x1024 .bf16) (r s : Fin 1024) :
    k0_pay2 (F := Ideal) y z (ix3 0 r s) = k0_pay1 (F := Ideal) y z (ix2 r s) := by
  generalize hp : k0_pay1 (F := Ideal) y z = p
  pointwise [k0_pay2]
  rw [hp]

/-- The stored zeros. -/
theorem pay3_at (r s : Fin 1024) : (k0_pay3 (F := Ideal)) (ix2 r s) = 0 := by
  pointwise [k0_pay3]

/-- The gated product is added to the accumulator. -/
theorem pay4_at (y z : Vec Ideal S1x1024x1024 .bf16) (a : Vec Ideal S1024x1024 .f32) (g : Vec Ideal S1024x1024 .bf16) (r s : Fin 1024) :
    k0_pay4 (F := Ideal) y z a g (ix2 r s) = a (ix2 r s) + g (ix2 r s) * k0_pay1 (F := Ideal) y z (ix2 r s) := by
  generalize hp : k0_pay1 (F := Ideal) y z = p
  pointwise [k0_pay4]
  rw [hp]

theorem hz : (![0, 0] : Fin 2 → ℕ) = fun _ => 0 := by funext a; fin_cases a <;> rfl

section
variable (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1024x1024 .bf16) (harg7 : arg7.IsWhole) (arg8 : Memref sig .tc .vmem S1024x1024 .f32) (harg8 : arg8.IsWhole)
    (x0 x1 : Vec Ideal S1x1024x1024 .bf16) (x2 : Vec Ideal S1024x1024 .bf16) (xs0 : Vec Ideal S1024x1024 .f32)

/-- A first point leaves its blocks' gated product. -/
theorem soutA (hc0 : cond0_0 i) (hc1 : ¬cond0_1 i) :
    sout0_A_0 c i arg3 harg3 arg4 harg4 arg5 harg5 arg6 harg6 arg7 harg7 arg8 harg8 hc0 hc1 x0 x1 x2 = k0_pay4 x0 x1 (k0_pay3 (F := Ideal)) x2 := by
  unfold sout0_A_0 kernelRun0_A
  dsimp only
  rw [View.read_writes_full]
  sl_unfold_words
  rw [View.readCov_unit_zero _ hz]
  rw [View.readAt_full, View.readAt_full, View.readAt_full, harg3.read_unread, harg4.read_unread, harg5.read_unread]

/-- A middle point adds its blocks' gated product to what the accumulator held. -/
theorem soutB (hc0 : ¬cond0_0 i) (hc1 : ¬cond0_1 i) :
    sout0_B_0 c i arg3 harg3 arg4 harg4 arg5 harg5 arg6 harg6 arg7 harg7 arg8 harg8 hc0 hc1 x0 x1 x2 xs0 = k0_pay4 x0 x1 xs0 x2 := by
  unfold sout0_B_0 kernelRun0_B
  dsimp only
  sl_unfold_words
  rw [View.read_writes_full]
  rw [View.readAt_full, View.readAt_full, View.readAt_full, View.readAt_full, harg3.read_unread, harg4.read_unread, harg5.read_unread, harg8.read_unread]

/-- The last point adds its blocks' gated product as well … -/
theorem soutC (hc0 : ¬cond0_0 i) (hc1 : cond0_1 i) :
    sout0_C_0 c i arg3 harg3 arg4 harg4 arg5 harg5 arg6 harg6 arg7 harg7 arg8 harg8 hc0 hc1 x0 x1 x2 xs0 = k0_pay4 x0 x1 xs0 x2 := by
  unfold sout0_C_0 kernelRun0_C
  dsimp only
  sl_unfold_words
  rw [View.read_writes_full]
  rw [View.readAt_full, View.readAt_full, View.readAt_full, View.readAt_full, harg3.read_unread, harg4.read_unread, harg5.read_unread, harg8.read_unread]

/-- … and writes the accumulator out. -/
theorem outC (hc0 : ¬cond0_0 i) (hc1 : cond0_1 i) :
    out0_C_4 c i arg3 harg3 arg4 harg4 arg5 harg5 arg6 harg6 arg7 harg7 arg8 harg8 hc0 hc1 x0 x1 x2 xs0 = k0_pay5 (k0_pay4 x0 x1 xs0 x2) := by
  unfold out0_C_4 kernelRun0_C
  dsimp only
  sl_unfold_words
  rw [View.read_writes_full, View.readCov_unit_zero _ hz]
  rw [View.readAt_full, View.readAt_full, View.readAt_full, View.readAt_full, harg3.read_unread, harg4.read_unread, harg5.read_unread, harg8.read_unread]

/-- A first point writes its blocks' product out, … -/
theorem projA (hc0 : cond0_0 i) (hc1 : ¬cond0_1 i) :
    out0_A_3 c i arg3 harg3 arg4 harg4 arg5 harg5 arg6 harg6 arg7 harg7 arg8 harg8 hc0 hc1 x0 x1 x2 = k0_pay2 x0 x1 := by
  unfold out0_A_3 kernelRun0_A
  dsimp only
  sl_unfold_words
  rw [View.read_writes_full]
  rw [View.readAt_full, View.readAt_full, harg3.read_unread, harg4.read_unread]

/-- … a middle point too, … -/
theorem projB (hc0 : ¬cond0_0 i) (hc1 : ¬cond0_1 i) :
    out0_B_3 c i arg3 harg3 arg4 harg4 arg5 harg5 arg6 harg6 arg7 harg7 arg8 harg8 hc0 hc1 x0 x1 x2 xs0 = k0_pay2 x0 x1 := by
  unfold out0_B_3 kernelRun0_B
  dsimp only
  sl_unfold_words
  rw [View.read_writes_full]
  rw [View.readAt_full, View.readAt_full, harg3.read_unread, harg4.read_unread]

/-- … and the last one. -/
theorem projC (hc0 : ¬cond0_0 i) (hc1 : cond0_1 i) :
    out0_C_3 c i arg3 harg3 arg4 harg4 arg5 harg5 arg6 harg6 arg7 harg7 arg8 harg8 hc0 hc1 x0 x1 x2 xs0 = k0_pay2 x0 x1 := by
  unfold out0_C_3 kernelRun0_C
  dsimp only
  sl_unfold_words
  rw [View.read_writes_full]
  rw [View.readAt_full, View.readAt_full, harg3.read_unread, harg4.read_unread]
end

variable (m : (ℓ : Loc nD τ sig) → Buf (Elt Ideal) ℓ) (c : Dev nD)

/-- The branches' rows, as the program is given them. -/
abbrev X : S4x8192x1024.Idx → EReal := m ((c : Thread nD τ).loc main_arg0)
/-- The branches' weights, as the program is given them. -/
abbrev Y : S4x1024x2048.Idx → EReal := m ((c : Thread nD τ).loc main_arg1)
/-- The gates, as the program is given them. -/
abbrev Z : S8192x8192.Idx → EReal := m ((c : Thread nD τ).loc main_arg2)

/-- The rows' block. -/
theorem blk0 (t : Fin cfg0.N) (r k : Fin 1024) :
    (iblk m c 0 t : S1x1024x1024.Idx → EReal) (ix3 0 r k) = pl (X m c) (t.val % 4) (1024 * (t.val / 8) + r) k := by
  have := N64 t; have := k.isLt; have := r.isLt
  refine Eq.trans ?_ (pl_of (X m c) (ix3 ⟨t.val % 4, by omega⟩ ⟨1024 * (t.val / 8) + r.val, by omega⟩ k) _ _ _ rfl rfl rfl)
  blk_ext [iblk, V, idx t]

/-- The weights' block. -/
theorem blk1 (t : Fin cfg0.N) (k s : Fin 1024) :
    (iblk m c 1 t : S1x1024x1024.Idx → EReal) (ix3 0 k s) = pl (Y m c) (t.val % 4) k (1024 * (t.val / 4 % 2) + s) := by
  have := N64 t; have := k.isLt; have := s.isLt
  refine Eq.trans ?_ (pl_of (Y m c) (ix3 ⟨t.val % 4, by omega⟩ k ⟨1024 * (t.val / 4 % 2) + s.val, by omega⟩) _ _ _ rfl rfl rfl)
  blk_ext [iblk, V, idx t]

/-- The gates' block. -/
theorem blk2 (t : Fin cfg0.N) (r s : Fin 1024) : (iblk m c 2 t : S1024x1024.Idx → EReal) (ix2 r s)
    = el (Z m c) (1024 * (t.val / 8) + r) (2048 * (t.val % 4) + (1024 * (t.val / 4 % 2) + s)) := by
  have := N64 t; have := r.isLt; have := s.isLt
  refine Eq.trans ?_ (el_of (Z m c) (ix2 ⟨1024 * (t.val / 8) + r.val, by omega⟩ ⟨2048 * (t.val % 4) + (1024 * (t.val / 4 % 2) + s.val), by omega⟩) _ _ rfl rfl)
  blk_ext [iblk, V, idx t]

/-- A point's product. -/
theorem prod_at (t : Fin cfg0.N) (r s : Fin 1024) :
    k0_pay1 (F := Ideal) (iblk m c 0 t) (iblk m c 1 t) (ix2 r s)
      = dot (prows (X m c) (t.val % 4)) (pcols (Y m c) (t.val % 4)) 1024 (1024 * (t.val / 8) + r) (1024 * (t.val / 4 % 2) + s) :=
  (pay1_at _ _ r s).trans <| dot_of (prows (X m c) (t.val % 4)) (pcols (Y m c) (t.val % 4)) _ _ _ _ (blk0 m c t r) (fun k => blk1 m c t k s)

/-- A branch's part of the gated sum. -/
def part (x : S4x8192x1024.Idx → EReal) (y : S4x1024x2048.Idx → EReal) (z : S8192x8192.Idx → EReal) (r s n : ℕ) : EReal :=
  el z r (2048 * n + s) * dot (prows x n) (pcols y n) 1024 r s

/-- The accumulator after every point: the branches so far. -/
theorem acc (n : ℕ) (h : n < cfg0.N) (r s : Fin 1024) : (outsAt0 m c n h).2.2 (ix2 r s)
    = ∑ b ∈ range (n % 4 + 1), part (X m c) (Y m c) (Z m c) (1024 * (n / 8) + r) (1024 * (n / 4 % 2) + s) b := by
  have key := acc_eq cfg0.N 4 1 (fun n h (p : Fin 1024 × Fin 1024) => (outsAt0 m c n h).2.2 (ix2 p.1 p.2))
    (fun n p b => part (X m c) (Y m c) (Z m c) (1024 * (n / 8) + p.1) (1024 * (n / 4 % 2) + p.2) b) ?_ ?_ ?_ (by omega) n h (r, s)
  · simpa only [Nat.one_mul] using key
  · intro n h p e
    have q := outsAt0_A m c ⟨n, h⟩ e (by dsimp only; omega)
    dsimp only at q ⊢
    rw [q]
    dsimp only
    rw [soutA, pay4_at, pay3_at, zero_add, blk2, prod_at, Finset.sum_range_one]
    dsimp only
    rw [e]
    rfl
  · intro n h p e
    by_cases e' : n % 4 = 3
    · have q := outsAt0_C m c ⟨n, h⟩ e e'
      dsimp only at q ⊢
      rw [q]
      dsimp only
      rw [soutC, pay4_at, blk2, prod_at, Finset.sum_range_one, Nat.one_mul, Nat.add_zero]
      rfl
    · have q := outsAt0_B m c ⟨n, h⟩ e e'
      dsimp only at q ⊢
      rw [q]
      dsimp only
      rw [soutB, pay4_at, blk2, prod_at, Finset.sum_range_one, Nat.one_mul, Nat.add_zero]
      rfl
  · intro n p b e
    rw [show (n - 1) / 8 = n / 8 by omega, show (n - 1) / 4 = n / 4 by omega]

/-- Every point writes its blocks' product out. -/
theorem proj (t : Fin cfg0.N) : (outsAt0 m c t.val t.isLt).1 = k0_pay2 (iblk m c 0 t) (iblk m c 1 t) := by
  by_cases h0 : t.val % 4 = 0
  · rw [outsAt0_A m c t h0 (by omega)]; dsimp only; rw [projA]
  · by_cases h1 : t.val % 4 = 3
    · rw [outsAt0_C m c t h0 h1]; dsimp only; rw [projC]
    · rw [outsAt0_B m c t h0 h1]; dsimp only; rw [projB]

/-- The kernel's first result is the product of the matrices. -/
theorem result3 : (dats m 0 c).arrAt 3 cfg0.N = fun i : S4x8192x2048.Idx =>
    dot (prows (X m c) (i 0).val) (pcols (Y m c) (i 0).val) 1024 (i 1).val (i 2).val := by
  refine (dats m 0 c).arrAt_eq_of_covers 3 _ (by decide +kernel) fun t hf y => ?_
  blk_simp
  rw [after0_3]
  have := N64 t
  have a0 : (y 0).val < 1 := (y 0).isLt
  have a1 : (y 1).val < 1024 := (y 1).isLt
  have a2 : (y 2).val < 1024 := (y 2).isLt
  have z0 : (y 0).val = 0 := by omega
  have e : y = ix3 0 ⟨(y 1).val, a1⟩ ⟨(y 2).val, a2⟩ := by
    funext a; fin_cases a
    · exact Fin.ext z0
    · rfl
    · rfl
  have i := idx t
  have i0 : win0_3.index t 0 = t.val % 4 := by simp only [i]; rfl
  have i1 : win0_3.index t 1 = t.val / 8 := by simp only [i]; rfl
  have i2 : win0_3.index t 2 = t.val / 4 % 2 := by simp only [i]; rfl
  rw [i0, i1, i2]
  refine Eq.trans (congrFun (proj m c t) y) (Eq.trans (congrArg _ e) ((pay2_at _ _ _ _).trans ((prod_at m c t _ _).trans ?_)))
  simp only [z0, Nat.mul_comm, Nat.add_comm, Nat.mul_zero, Nat.zero_mul, Nat.zero_add, Nat.add_zero, Nat.mul_one, Nat.one_mul]

theorem flush4 : ∀ t : Fin cfg0.N, (cfg0.win 4).flush t = true → t.val % 4 = 3 :=
  (by decide +kernel : ∀ t : Fin grid0.N, _)

/-- The kernel's second result is the gated sum over the branches. -/
theorem result4 : (dats m 0 c).arrAt 4 cfg0.N = fun i : S8192x2048.Idx =>
    ∑ b ∈ range 4, part (X m c) (Y m c) (Z m c) (i 0).val (i 1).val b := by
  refine (dats m 0 c).arrAt_eq_of_covers 4 _ (by decide +kernel) fun t hf y => ?_
  blk_simp
  rw [after0_4]
  have h1 := flush4 t hf
  have h0 : ¬t.val % 4 = 0 := by omega
  have := N64 t
  have a0 : (y 0).val < 1024 := (y 0).isLt
  have a1 : (y 1).val < 1024 := (y 1).isLt
  have e : y = ix2 ⟨(y 0).val, a0⟩ ⟨(y 1).val, a1⟩ := by funext a; fin_cases a <;> rfl
  have h := acc m c t.val t.isLt ⟨(y 0).val, a0⟩ ⟨(y 1).val, a1⟩
  have q : (outsAt0 m c t.val t.isLt).2.1 = (outsAt0 m c t.val t.isLt).2.2 := by
    rw [outsAt0_C m c t h0 h1]; dsimp only; rw [outC, soutC]; rfl
  have i := idx t
  have i0 : win0_4.index t 0 = t.val / 8 := by simp only [i]; rfl
  have i1 : win0_4.index t 1 = t.val / 4 % 2 := by simp only [i]; rfl
  rw [i0, i1]
  refine Eq.trans (congrFun q y) (Eq.trans (congrArg _ e) (h.trans ?_))
  rw [h1]
  simp only [Nat.mul_comm, Nat.add_comm]
end Cert.MergeIdeal.Prod

namespace Cert.MergeRefIdeal.Prod
open Cert.MergeRefIdeal Cert.MergeRefIdeal.Read Cert.Mat
open Idealize.ShloMosaic Idealize.ShloMosaic.Tactic
open Finset (range)

/-- The reference's first result is the product of the matrices. -/
theorem result3 (x : S4x8192x1024.Idx → EReal) (y : S4x1024x2048.Idx → EReal) :
    val_main_v2 (F := Ideal) x y = fun i : S4x8192x2048.Idx => dot (prows x (i 0).val) (pcols y (i 0).val) 1024 (i 1).val (i 2).val := by
  funext i
  rw [val_main_v2_apply]
  exact dot_of (prows x (i 0).val) (pcols y (i 0).val) _ _ _ _ (fun k => pl_of x _ _ _ _ rfl rfl rfl) (fun k => pl_of y _ _ _ _ rfl rfl rfl)

/-- The reference's second result is the gated sum over the branches. -/
theorem result4 (x : S4x8192x1024.Idx → EReal) (y : S4x1024x2048.Idx → EReal) (z : S8192x8192.Idx → EReal) :
    val_main_v9 (F := Ideal) x y z = fun i : S8192x2048.Idx => ∑ b ∈ range 4, Cert.MergeIdeal.Prod.part x y z (i 0).val (i 1).val b := by
  funext i
  refine Eq.trans (b := val_main_v8 (F := Ideal) x y z i) rfl ?_
  have hc : ∀ q, val_main_cst (F := Ideal) q = (0 : EReal) := by intro q; pointwise [val_main_cst]
  have a0 : (i 0).val < 8192 := (i 0).isLt
  have a1 : (i 1).val < 2048 := (i 1).isLt
  rw [val_main_v8_apply, hc, zero_add, Finset.sum_range]
  refine Finset.sum_congr rfl fun k _ => ?_
  have hk : k.val < 4 := k.isLt
  rw [val_main_v7_apply, val_main_v5_apply, val_main_v4_apply, result3]
  refine congrArg₂ (fun a b : EReal => a * b) (el_of z _ _ _ ?_ ?_) rfl
  · show (((i 0).val * 4 + k.val) * 2048 + (i 1).val) / 8192 = (i 0).val; omega
  · show (((i 0).val * 4 + k.val) * 2048 + (i 1).val) % 8192 = 2048 * k.val + (i 1).val; omega
end Cert.MergeRefIdeal.Prod

end
-- ==== Proof.MergeBwd.lean ====
/-
  The gradients of the gated sum: the kernel's three result arrays and the reference's hold the same products, and
  the same sum of them over the rows.
-/
module

public import proofs.«01_k».proof.Proof.Mat
public import proofs.«01_k».proof.Proof.Head
public import Idealize.ShloMosaic.Lib.VecWindow
public import Idealize.ShloMosaic.Lib.WritesUnit
public import Idealize.ShloMosaic.Lib.KernelVsHost
public import proofs.«01_k».proof.Proof.Gen.MergeBwdIdeal.Value
public import proofs.«01_k».proof.Proof.Gen.MergeBwdRefIdeal.Read

@[expose] public section

set_option maxRecDepth 16384
noncomputable section
namespace Cert.MergeBwdIdeal.Prod
open Cert.MergeBwdIdeal Cert.MergeBwdIdeal.Gen Cert.Mat
open Idealize.ShloMosaic Idealize.ShloMosaic.TcCoe Idealize.ShloMosaic.Tactic
open Idealize.ShloMosaic.Pipeline (Dat)
open Finset (range)

/-- Which blocks a point reads and writes. -/
theorem idx : ∀ t : Fin cfg0.N, win0_0.index t = ![t.val % 32, 0] ∧ win0_1.index t = ![t.val % 32, t.val / 32]
    ∧ win0_2.index t = ![t.val / 32, t.val % 32, 0] ∧ win0_3.index t = ![t.val / 32, t.val % 32, 0]
    ∧ win0_4.index t = ![t.val % 32, t.val / 32] ∧ win0_5.index t = ![0, t.val / 32] :=
  (by decide +kernel : ∀ t : Fin grid0.N, _)

theorem N128 (t : Fin cfg0.N) : t.val < 128 := lt_of_lt_of_eq t.isLt (show cfg0.N = 128 from N_0)

/-- The gradient of a branch's rows. -/
theorem pay2_at (d : Vec Ideal S256x2048 .f32) (g : Vec Ideal S256x2048 .bf16) (r : Fin 256) (s : Fin 2048) :
    k0_pay2 (F := Ideal) d g (ix3 0 r s) = d (ix2 r s) * g (ix2 r s) := by
  pointwise [k0_pay2, k0_pay1]

/-- The gradient of what the gates are the sigmoid of. -/
theorem pay3_at (d : Vec Ideal S256x2048 .f32) (g : Vec Ideal S256x2048 .bf16) (y : Vec Ideal S1x256x2048 .bf16) (r : Fin 256) (s : Fin 2048) :
    k0_pay3 (F := Ideal) d g y (ix2 r s) = d (ix2 r s) * y (ix3 0 r s) * g (ix2 r s) * (1 - g (ix2 r s)) := by
  pointwise [k0_pay3, k0_pay1]

/-- It is written out as it is. -/
theorem pay4_eq (d : Vec Ideal S256x2048 .f32) (g : Vec Ideal S256x2048 .bf16) (y : Vec Ideal S1x256x2048 .bf16) :
    k0_pay4 (F := Ideal) d g y = k0_pay3 (F := Ideal) d g y := rfl

/-- The stored zeros. -/
theorem pay5_at (r : Fin 8) (s : Fin 2048) : (k0_pay5 (F := Ideal)) (ix2 r s) = 0 := by
  pointwise [k0_pay5]

/-- Its sum over the block's rows is added to the accumulator. -/
theorem pay6_at (d : Vec Ideal S256x2048 .f32) (g : Vec Ideal S256x2048 .bf16) (y : Vec Ideal S1x256x2048 .bf16) (a : Vec Ideal S1x2048 .f32) (s : Fin 2048) :
    k0_pay6 (F := Ideal) d g y a (ix2 0 s) = a (ix2 0 s) + ∑ k : Fin 256, k0_pay3 (F := Ideal) d g y (ix2 k s) := by
  generalize hp : k0_pay3 (F := Ideal) d g y = p
  pointwise [k0_pay6]
  rw [hp]

theorem hz : (![0, 0] : Fin 2 → ℕ) = fun _ => 0 := by funext a; fin_cases a <;> rfl

section
variable (c : Dev nD) (i : grid0.Coords) (arg2 : Memref sig .tc .vmem S256x2048 .f32) (harg2 : arg2.IsWhole) (arg3 : Memref sig .tc .vmem S256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S256x2048 .bf16) (harg6 : arg6.IsWhole) (arg7 : Memref sig .tc .vmem S8x2048 .f32) (harg7 : arg7.IsWhole)
    (x0 : Vec Ideal S256x2048 .f32) (x1 : Vec Ideal S256x2048 .bf16) (x2 : Vec Ideal S1x256x2048 .bf16) (xo5 : Vec Ideal S8x2048 .f32)

/-- A first point writes the branch's gradient out, … -/
theorem dypA (hc0 : cond0_0 i) : out0_A_3 c i arg2 harg2 arg3 harg3 arg4 harg4 arg5 harg5 arg6 harg6 arg7 harg7 hc0 x0 x1 x2 = k0_pay2 x0 x1 := by
  unfold out0_A_3 kernelRun0_A
  dsimp only
  sl_unfold_words
  rw [View.read_writes_full]
  rw [View.readAt_full, View.readAt_full, harg2.read_unread, harg3.read_unread]

/-- … and so does every other one. -/
theorem dypB (hc0 : ¬cond0_0 i) : out0_B_3 c i arg2 harg2 arg3 harg3 arg4 harg4 arg5 harg5 arg6 harg6 arg7 harg7 hc0 x0 x1 x2 xo5 = k0_pay2 x0 x1 := by
  unfold out0_B_3 kernelRun0_B
  dsimp only
  sl_unfold_words
  rw [View.read_writes_full]
  rw [View.readAt_full, View.readAt_full, harg2.read_unread, harg3.read_unread]

/-- A first point writes the gates' gradient out, … -/
theorem dzA (hc0 : cond0_0 i) : out0_A_4 c i arg2 harg2 arg3 harg3 arg4 harg4 arg5 harg5 arg6 harg6 arg7 harg7 hc0 x0 x1 x2 = k0_pay3 x0 x1 x2 := by
  unfold out0_A_4 kernelRun0_A
  dsimp only
  sl_unfold_words
  rw [View.read_writes_full, pay4_eq]
  rw [View.readAt_full, View.readAt_full, View.readAt_full, harg2.read_unread, harg3.read_unread, harg4.read_unread]

/-- … and so does every other one. -/
theorem dzB (hc0 : ¬cond0_0 i) : out0_B_4 c i arg2 harg2 arg3 harg3 arg4 harg4 arg5 harg5 arg6 harg6 arg7 harg7 hc0 x0 x1 x2 xo5 = k0_pay3 x0 x1 x2 := by
  unfold out0_B_4 kernelRun0_B
  dsimp only
  sl_unfold_words
  rw [View.read_writes_full, pay4_eq]
  rw [View.readAt_full, View.readAt_full, View.readAt_full, harg2.read_unread, harg3.read_unread, harg4.read_unread]

/-- A first point leaves its block's sums in the first row, and zeros below. -/
theorem dbA (hc0 : cond0_0 i) (r : Fin 8) (s : Fin 2048) : out0_A_5 c i arg2 harg2 arg3 harg3 arg4 harg4 arg5 harg5 arg6 harg6 arg7 harg7 hc0 x0 x1 x2 (ix2 r s)
    = if r.val = 0 then ∑ k : Fin 256, k0_pay3 (F := Ideal) x0 x1 x2 (ix2 k s) else 0 := by
  unfold out0_A_5 kernelRun0_A
  dsimp only
  sl_unfold_words
  by_cases e : r.val = 0
  · rw [if_pos e]
    refine (View.read_writes_cons_rows_of_mem VO0_5 _ inb_S8x2048_S1x2048_0_0 _ _ (ix2 r s) (ix2 (0 : Fin 1) s) (o := 0) rfl
      (by show r.val = 0 + 0; omega) rfl).trans ?_
    refine (pay6_at _ _ _ _ s).trans ?_
    rw [View.readAt_full, View.readAt_full, View.readAt_full, harg2.read_unread, harg3.read_unread, harg4.read_unread]
    refine (congrArg (fun v : EReal => v + _) ?_).trans (zero_add _)
    refine Eq.trans (congrFun (View.read_writes_full arg7.view _ inb_S8x2048_S8x2048_0_0 _ _) _) (pay5_at 0 s)
  · rw [if_neg e]
    refine (View.read_writes_cons_rows_of_not_mem VO0_5 _ inb_S8x2048_S1x2048_0_0 _ _ (ix2 r s) (o := 0) (W := 1) rfl rfl
      (by show r.val < 0 ∨ 0 + 1 ≤ r.val; omega)).trans ?_
    rw [View.read_writes_full]
    exact pay5_at r s

/-- Every other point adds its block's sums to the first row. -/
theorem dbB (hc0 : ¬cond0_0 i) (r : Fin 8) (s : Fin 2048) : out0_B_5 c i arg2 harg2 arg3 harg3 arg4 harg4 arg5 harg5 arg6 harg6 arg7 harg7 hc0 x0 x1 x2 xo5 (ix2 r s)
    = xo5 (ix2 r s) + if r.val = 0 then ∑ k : Fin 256, k0_pay3 (F := Ideal) x0 x1 x2 (ix2 k s) else 0 := by
  unfold out0_B_5 kernelRun0_B
  dsimp only
  sl_unfold_words
  by_cases e : r.val = 0
  · rw [if_pos e]
    refine (View.read_writes_cons_rows_of_mem arg7.view _ inb_S8x2048_S1x2048_0_0 _ _ (ix2 r s) (ix2 (0 : Fin 1) s) (o := 0) rfl
      (by show r.val = 0 + 0; omega) rfl).trans ?_
    refine (pay6_at _ _ _ _ s).trans ?_
    rw [View.readAt_full, View.readAt_full, View.readAt_full, harg2.read_unread, harg3.read_unread, harg4.read_unread]
    refine congrArg (fun v : EReal => v + _) ?_
    refine Eq.trans ?_ (congrFun (harg7.read_unread xo5) (ix2 r s))
    refine congrArg (arg7.view.read (Elt Ideal) (harg7.unread xo5)) (funext fun a => Fin.ext ?_)
    match a with
    | ⟨0, _⟩ => show 0 + 1 * 0 = r.val; omega
    | ⟨1, _⟩ => show 0 + 1 * s.val = s.val; omega
  · rw [if_neg e, add_zero]
    refine (View.read_writes_cons_rows_of_not_mem arg7.view _ inb_S8x2048_S1x2048_0_0 _ _ (ix2 r s) (o := 0) (W := 1) rfl rfl
      (by show r.val < 0 ∨ 0 + 1 ≤ r.val; omega)).trans ?_
    exact congrFun (harg7.read_unread xo5) (ix2 r s)
end

variable (m : (ℓ : Loc nD τ sig) → Buf (Elt Ideal) ℓ) (c : Dev nD)

/-- The gradient of the gated sum, as the program is given it. -/
abbrev D : S8192x2048.Idx → EReal := m ((c : Thread nD τ).loc main_arg3)
/-- The branches' rows, as the program is given them. -/
abbrev Y : S4x8192x2048.Idx → EReal := m ((c : Thread nD τ).loc main_arg2)
/-- What the gates are the sigmoid of, without the bias, as the program is given it. -/
abbrev Z : S8192x8192.Idx → EReal := m ((c : Thread nD τ).loc main_arg0)
/-- The bias, as the program is given it. -/
abbrev B : S1x8192.Idx → EReal := m ((c : Thread nD τ).loc main_arg1)

/-- A gate. -/
def gate (z : S8192x8192.Idx → EReal) (b : S1x8192.Idx → EReal) (i : S8192x8192.Idx) : EReal := sigm (el z (i 0).val (i 1).val + el b 0 (i 1).val)

/-- The kernel is given the gates. -/
theorem gates_eq : (V m c main_v8 : S8192x8192.Idx → EReal) = gate (Z m c) (B m c) := by
  funext i
  refine Eq.trans (b := sigm (Z m c i + B m c (ix2 0 (i 1)))) ?_
    (congrArg₂ (fun a b : EReal => sigm (a + b)) (el_of _ _ _ _ rfl rfl) (el_of _ _ _ _ rfl rfl))
  entry_read
  pointwise [sigm]

/-- The gradient's block. -/
theorem blk0 (t : Fin cfg0.N) (r : Fin 256) (s : Fin 2048) :
    (iblk m c 0 t : S256x2048.Idx → EReal) (ix2 r s) = el (D m c) (256 * (t.val % 32) + r) s := by
  have := N128 t; have := r.isLt; have := s.isLt
  refine Eq.trans ?_ (el_of (D m c) (ix2 ⟨256 * (t.val % 32) + r.val, by omega⟩ s) _ _ rfl rfl)
  blk_ext [iblk, V, idx t]

/-- The gates' block. -/
theorem blk1 (t : Fin cfg0.N) (r : Fin 256) (s : Fin 2048) :
    (iblk m c 1 t : S256x2048.Idx → EReal) (ix2 r s) = el (gate (Z m c) (B m c)) (256 * (t.val % 32) + r) (2048 * (t.val / 32) + s) := by
  have := N128 t; have := r.isLt; have := s.isLt
  rw [← gates_eq m c]
  refine Eq.trans ?_ (el_of (V m c main_v8 : S8192x8192.Idx → EReal) (ix2 ⟨256 * (t.val % 32) + r.val, by omega⟩ ⟨2048 * (t.val / 32) + s.val, by omega⟩) _ _ rfl rfl)
  unfold iblk
  generalize hV : V m c main_v8 = v
  blk_ext [hV, idx t]

/-- The branch's block. -/
theorem blk2 (t : Fin cfg0.N) (r : Fin 256) (s : Fin 2048) :
    (iblk m c 2 t : S1x256x2048.Idx → EReal) (ix3 0 r s) = pl (Y m c) (t.val / 32) (256 * (t.val % 32) + r) s := by
  have := N128 t; have := r.isLt; have := s.isLt
  refine Eq.trans ?_ (pl_of (Y m c) (ix3 ⟨t.val / 32, by omega⟩ ⟨256 * (t.val % 32) + r.val, by omega⟩ s) _ _ _ rfl rfl rfl)
  blk_ext [iblk, V, idx t]

/-- The gradient of what the gates are the sigmoid of, at a row and a column. -/
def dz (d : S8192x2048.Idx → EReal) (y : S4x8192x2048.Idx → EReal) (g : S8192x8192.Idx → EReal) (r q : ℕ) : EReal :=
  el d r (q % 2048) * pl y (q / 2048) r (q % 2048) * el g r q * (1 - el g r q)

/-- A point's block of it. -/
theorem dz_at (t : Fin cfg0.N) (r : Fin 256) (s : Fin 2048) :
    k0_pay3 (F := Ideal) (iblk m c 0 t) (iblk m c 1 t) (iblk m c 2 t) (ix2 r s)
      = dz (D m c) (Y m c) (gate (Z m c) (B m c)) (256 * (t.val % 32) + r) (2048 * (t.val / 32) + s) := by
  have := s.isLt
  refine (pay3_at _ _ _ r s).trans ?_
  rw [blk0 m c t r s, blk1 m c t r s, blk2 m c t r s]
  unfold dz
  rw [show (2048 * (t.val / 32) + s.val) % 2048 = s.val by omega, show (2048 * (t.val / 32) + s.val) / 2048 = t.val / 32 by omega]

/-- What a row below the first one adds is zero. -/
def term (d : S8192x2048.Idx → EReal) (y : S4x8192x2048.Idx → EReal) (g : S8192x8192.Idx → EReal) (r q k : ℕ) : EReal :=
  if r = 0 then dz d y g k q else 0

/-- A block's sums, term by term. -/
theorem sums_at (t : Fin cfg0.N) (r : Fin 8) (s : Fin 2048) :
    (if r.val = 0 then ∑ k : Fin 256, k0_pay3 (F := Ideal) (iblk m c 0 t) (iblk m c 1 t) (iblk m c 2 t) (ix2 k s) else 0)
      = ∑ k ∈ range 256, term (D m c) (Y m c) (gate (Z m c) (B m c)) r (2048 * (t.val / 32) + s) (256 * (t.val % 32) + k) := by
  rw [Finset.sum_range]
  unfold term
  by_cases e : r.val = 0
  · simp only [if_pos e]
    exact Finset.sum_congr rfl fun k _ => dz_at m c t k s
  · simp only [if_neg e, Finset.sum_const_zero]

/-- The accumulator after every point: the rows so far. -/
theorem acc (n : ℕ) (h : n < cfg0.N) (r : Fin 8) (s : Fin 2048) : (outsAt0 m c n h).2.2 (ix2 r s)
    = ∑ k ∈ range (256 * (n % 32 + 1)), term (D m c) (Y m c) (gate (Z m c) (B m c)) r (2048 * (n / 32) + s) k := by
  have key := acc_eq cfg0.N 32 256 (fun n h (p : Fin 8 × Fin 2048) => (outsAt0 m c n h).2.2 (ix2 p.1 p.2))
    (fun n p k => term (D m c) (Y m c) (gate (Z m c) (B m c)) p.1 (2048 * (n / 32) + p.2) k) ?_ ?_ ?_ (by omega) n h (r, s)
  · exact key
  · intro n h p e
    have q := outsAt0_A m c ⟨n, h⟩ e
    dsimp only at q ⊢
    rw [q]
    dsimp only
    rw [dbA, sums_at]
    simp only [e, Nat.mul_zero, Nat.zero_add]
  · intro n h p e
    have q := outsAt0_B m c ⟨n, h⟩ e
    dsimp only at q ⊢
    rw [q]
    dsimp only
    rw [dbB, sums_at]
  · intro n p k e
    rw [show (n - 1) / 32 = n / 32 by omega]

/-- Every point writes the branch's gradient out. -/
theorem dyp (t : Fin cfg0.N) : (outsAt0 m c t.val t.isLt).1 = k0_pay2 (iblk m c 0 t) (iblk m c 1 t) := by
  by_cases h0 : t.val % 32 = 0
  · rw [outsAt0_A m c t h0]; dsimp only; rw [dypA]
  · rw [outsAt0_B m c t h0]; dsimp only; rw [dypB]

/-- Every point writes the gates' gradient out. -/
theorem dzs (t : Fin cfg0.N) : (outsAt0 m c t.val t.isLt).2.1 = k0_pay3 (F := Ideal) (iblk m c 0 t) (iblk m c 1 t) (iblk m c 2 t) := by
  by_cases h0 : t.val % 32 = 0
  · rw [outsAt0_A m c t h0]; dsimp only; rw [dzA]
  · rw [outsAt0_B m c t h0]; dsimp only; rw [dzB]

/-- The kernel's first result is the gradient of the branches' rows. -/
theorem result3 : (dats m 0 c).arrAt 3 cfg0.N = fun i : S4x8192x2048.Idx =>
    el (D m c) (i 1).val (i 2).val * el (gate (Z m c) (B m c)) (i 1).val (2048 * (i 0).val + (i 2).val) := by
  refine (dats m 0 c).arrAt_eq_of_covers 3 _ (by decide +kernel) fun t hf y => ?_
  blk_simp
  rw [after0_3]
  have := N128 t
  have a0 : (y 0).val < 1 := (y 0).isLt
  have a1 : (y 1).val < 256 := (y 1).isLt
  have a2 : (y 2).val < 2048 := (y 2).isLt
  have z0 : (y 0).val = 0 := by omega
  have e : y = ix3 0 ⟨(y 1).val, a1⟩ ⟨(y 2).val, a2⟩ := by
    funext a; fin_cases a
    · exact Fin.ext z0
    · rfl
    · rfl
  have i := idx t
  have i0 : win0_3.index t 0 = t.val / 32 := by simp only [i]; rfl
  have i1 : win0_3.index t 1 = t.val % 32 := by simp only [i]; rfl
  have i2 : win0_3.index t 2 = 0 := by simp only [i]; rfl
  rw [i0, i1, i2]
  refine Eq.trans (congrFun (dyp m c t) y) (Eq.trans (congrArg _ e) ((pay2_at _ _ _ _).trans
    ((congrArg₂ (fun a b : EReal => a * b) (blk0 m c t _ _) (blk1 m c t _ _)).trans ?_)))
  simp only [z0, Nat.mul_comm, Nat.add_comm, Nat.mul_zero, Nat.zero_mul, Nat.zero_add, Nat.add_zero, Nat.mul_one, Nat.one_mul]

/-- The kernel's second result is the gradient of what the gates are the sigmoid of. -/
theorem result4 : (dats m 0 c).arrAt 4 cfg0.N = fun i : S8192x8192.Idx =>
    dz (D m c) (Y m c) (gate (Z m c) (B m c)) (i 0).val (i 1).val := by
  refine (dats m 0 c).arrAt_eq_of_covers 4 _ (by decide +kernel) fun t hf y => ?_
  blk_simp
  rw [after0_4]
  have := N128 t
  have a0 : (y 0).val < 256 := (y 0).isLt
  have a1 : (y 1).val < 2048 := (y 1).isLt
  have e : y = ix2 ⟨(y 0).val, a0⟩ ⟨(y 1).val, a1⟩ := by funext a; fin_cases a <;> rfl
  have i := idx t
  have i0 : win0_4.index t 0 = t.val % 32 := by simp only [i]; rfl
  have i1 : win0_4.index t 1 = t.val / 32 := by simp only [i]; rfl
  rw [i0, i1]
  refine Eq.trans (congrFun (dzs m c t) y) (Eq.trans (congrArg _ e) ((dz_at m c t _ _).trans ?_))
  simp only [Nat.mul_comm, Nat.add_comm]

theorem flush5 : ∀ t : Fin cfg0.N, (cfg0.win 5).flush t = true → t.val % 32 = 31 :=
  (by decide +kernel : ∀ t : Fin grid0.N, _)

/-- The kernel's third result holds the gradient of the bias in its first row. -/
theorem result5 : (dats m 0 c).arrAt 5 cfg0.N = fun i : S8x8192.Idx =>
    ∑ k ∈ range 8192, term (D m c) (Y m c) (gate (Z m c) (B m c)) (i 0).val (i 1).val k := by
  refine (dats m 0 c).arrAt_eq_of_covers 5 _ (by decide +kernel) fun t hf y => ?_
  blk_simp
  rw [after0_5]
  have h1 := flush5 t hf
  have := N128 t
  have a0 : (y 0).val < 8 := (y 0).isLt
  have a1 : (y 1).val < 2048 := (y 1).isLt
  have e : y = ix2 ⟨(y 0).val, a0⟩ ⟨(y 1).val, a1⟩ := by funext a; fin_cases a <;> rfl
  have h := acc m c t.val t.isLt ⟨(y 0).val, a0⟩ ⟨(y 1).val, a1⟩
  have i := idx t
  have i0 : win0_5.index t 0 = 0 := by simp only [i]; rfl
  have i1 : win0_5.index t 1 = t.val / 32 := by simp only [i]; rfl
  rw [i0, i1]
  refine Eq.trans (congrArg _ e) (h.trans ?_)
  rw [h1]
  simp only [Nat.mul_comm, Nat.add_comm, Nat.mul_zero, Nat.zero_mul, Nat.zero_add, Nat.add_zero]
end Cert.MergeBwdIdeal.Prod

namespace Cert.MergeBwdRefIdeal.Prod
open Cert.MergeBwdRefIdeal Cert.MergeBwdRefIdeal.Read Cert.Mat Cert.MergeBwdIdeal.Prod
open Idealize.ShloMosaic Idealize.ShloMosaic.Tactic
open Finset (range)

variable (z : S8192x8192.Idx → EReal) (b : S1x8192.Idx → EReal) (y : S4x8192x2048.Idx → EReal) (d : S8192x2048.Idx → EReal)

/-- The reference's gates. -/
theorem gates_eq : val_main_v10 (F := Ideal) z b = gate z b := by
  funext i
  have a1 : (i 1).val < 8192 := (i 1).isLt
  refine Eq.trans (b := sigm (z i + b (ValueIdx.ix2 0 ⟨(i 1).val, a1⟩))) ?_
    (congrArg₂ (fun a b : EReal => sigm (a + b)) (el_of _ _ _ _ rfl rfl) (el_of _ _ _ _ rfl rfl))
  have h1 : ∀ q, val_main_cst (F := Ideal) q = (1 : EReal) := by intro q; pointwise [val_main_cst]
  have h2 : ∀ q, val_main_cst_0 (F := Ideal) q = (1 : EReal) := by intro q; pointwise [val_main_cst_0]
  have hb : val_main_v3 (F := Ideal) b i = b (ValueIdx.ix2 0 ⟨(i 1).val, a1⟩) := by
    rw [val_main_v3_apply, val_main_v2_apply, val_main_v0_apply]
    refine congrArg b (funext fun a => Fin.ext ?_)
    match a with
    | ⟨0, _⟩ => rfl
    | ⟨1, _⟩ => show (i 1).val % 8192 = (i 1).val; omega
  rw [val_main_v10_apply, val_main_v9_apply, val_main_v8_apply, val_main_v7_apply, val_main_v6_apply, val_main_v5_apply, val_main_v4_apply, h1, h2, hb]
  rfl

/-- The reference's first result is the gradient of the branches' rows. -/
theorem result3 : val_main_v27 (F := Ideal) z b d = fun i : S4x8192x2048.Idx =>
    el d (i 1).val (i 2).val * el (gate z b) (i 1).val (2048 * (i 0).val + (i 2).val) := by
  funext i
  have a0 : (i 0).val < 4 := (i 0).isLt
  have a1 : (i 1).val < 8192 := (i 1).isLt
  have a2 : (i 2).val < 2048 := (i 2).isLt
  refine Eq.trans (b := val_main_v21 (F := Ideal) z b d i) rfl ?_
  rw [val_main_v21_apply, val_main_v19_apply, val_main_v14_apply, val_main_v18_apply, gates_eq]
  refine Eq.trans (mul_comm (G := EReal) _ _) (congrArg₂ (fun a b : EReal => a * b) (el_of d _ _ _ rfl rfl) (el_of (gate z b) _ _ _ ?_ ?_))
  · show (((i 1).val * 4 + (i 0).val) * 2048 + (i 2).val) / 8192 = (i 1).val; omega
  · show (((i 1).val * 4 + (i 0).val) * 2048 + (i 2).val) % 8192 = 2048 * (i 0).val + (i 2).val; omega

/-- The reference's gradient of what the gates are the sigmoid of. -/
theorem dz_eq (i : S8192x8192.Idx) : val_main_v23 (F := Ideal) z b y d i = dz d y (gate z b) (i 0).val (i 1).val := by
  have a0 : (i 0).val < 8192 := (i 0).isLt
  have a1 : (i 1).val < 8192 := (i 1).isLt
  have h1 : ∀ q, val_main_cst_1 (F := Ideal) q = (1 : EReal) := by intro q; pointwise [val_main_cst_1]
  rw [val_main_v23_apply, val_main_v22_apply, val_main_v20_apply, val_main_v18_apply, val_main_v15_apply, val_main_v13_apply, val_main_v12_apply,
    val_main_v11_apply, h1, gates_eq]
  unfold dz
  refine Eq.trans (congrArg₂ (fun a b : EReal => a * b)
    (congrArg₂ (fun a b : EReal => a * b) (el_of d _ (i 0).val ((i 1).val % 2048) ?_ ?_) (pl_of y _ ((i 1).val / 2048) (i 0).val ((i 1).val % 2048) ?_ ?_ ?_))
    (congrArg (fun a : EReal => a * (1 - a)) (el_of (gate z b) i _ _ rfl rfl))) (mul_assoc (G := EReal) _ _ _).symm
  · show ((i 0).val * 8192 + (i 1).val) / 8192 = (i 0).val; omega
  · show ((i 0).val * 8192 + (i 1).val) % 2048 = (i 1).val % 2048; omega
  · show ((i 0).val * 8192 + (i 1).val) / 2048 % 4 = (i 1).val / 2048; omega
  · show ((i 0).val * 8192 + (i 1).val) / 8192 = (i 0).val; omega
  · show ((i 0).val * 8192 + (i 1).val) % 2048 = (i 1).val % 2048; omega

/-- The reference's second result is the gradient of what the gates are the sigmoid of. -/
theorem result4 : val_main_v28 (F := Ideal) z b y d = fun i : S8192x8192.Idx => dz d y (gate z b) (i 0).val (i 1).val :=
  funext fun i => Eq.trans (b := val_main_v23 (F := Ideal) z b y d i) rfl (dz_eq z b y d i)

/-- The reference's gradient of the bias. -/
theorem db_eq (i : S1x8192.Idx) : val_main_v29 (F := Ideal) z b y d i = ∑ k ∈ range 8192, dz d y (gate z b) k (i 1).val := by
  have h3 : ∀ q, val_main_cst_3 (F := Ideal) q = (0 : EReal) := by intro q; pointwise [val_main_cst_3]
  have h4 : ∀ q, val_main_cst_4 (F := Ideal) q = (0 : EReal) := by intro q; pointwise [val_main_cst_4]
  rw [val_main_v29_apply, val_main_v26_apply, h4, zero_add, Fin.sum_univ_one, val_main_v25_apply, val_main_v24_apply, h3, zero_add, Finset.sum_range]
  refine Finset.sum_congr rfl fun k _ => (dz_eq z b y d _).trans ?_
  refine congrArg₂ (dz d y (gate z b)) rfl ?_
  show 0 * 8192 + (i 1).val = (i 1).val
  omega

/-- The reference's third result holds the gradient of the bias in its first row. -/
theorem result5 : val_main_v30 (F := Ideal) z b y d = fun i : S8x8192.Idx =>
    ∑ k ∈ range 8192, term d y (gate z b) (i 0).val (i 1).val k := by
  funext i
  have a0 : (i 0).val < 8 := (i 0).isLt
  have a1 : (i 1).val < 8192 := (i 1).isLt
  unfold val_main_v30 term
  by_cases e : (i 0).val = 0
  · simp only [if_pos e]
    refine (pad_apply_of_inside _ _ _ _ _ _ _ i (ValueIdx.ix2 (0 : Fin 1) ⟨(i 1).val, a1⟩) fun a => ?_).trans (db_eq z b y d _)
    match a with
    | ⟨0, _⟩ => show (i 0).val = 0 + 0 * (0 + 1); omega
    | ⟨1, _⟩ => show (i 1).val = 0 + (i 1).val * (0 + 1); omega
  · simp only [if_neg e, Finset.sum_const_zero]
    refine (pad_apply_of_not_inside _ _ _ _ _ _ _ i (0 : Fin 2) ?_).trans ?_
    · show ¬(0 ≤ (i 0).val ∧ ((i 0).val - 0) % (0 + 1) = 0 ∧ ((i 0).val - 0) / (0 + 1) < 1)
      omega
    · pointwise [val_main_call0_v0, val_main_c]
      show ((((0#32 : BitVec 32).toInt : ℤ) : ℝ) : EReal) = 0
      simp
end Cert.MergeBwdRefIdeal.Prod

end
-- ==== Proof.Norm.lean ====
/-
  The normalization of the layer's input: the kernel's result and the reference's hold the same rows, each divided by the
  root of the mean of its squares and weighted.
-/
module

public import proofs.«01_k».proof.Proof.Mat
public import proofs.«01_k».proof.Proof.Head
public import Idealize.ShloMosaic.Lib.VecWindow
public import Idealize.ShloMosaic.Lib.WritesUnit
public import Idealize.ShloMosaic.Lib.KernelVsHost
public import proofs.«01_k».proof.Proof.Gen.NormIdeal.Value
public import proofs.«01_k».proof.Proof.Gen.NormRefIdeal.Read

@[expose] public section

set_option maxRecDepth 16384
noncomputable section
namespace Cert.NormIdeal.Prod
open Cert.NormIdeal Cert.NormIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val, 0] ∧ win0_1.index t = ![0, 0] ∧ win0_2.index t = ![t.val, 0] :=
  (by decide +kernel : ∀ t : Fin grid0.N, _)

theorem N16 (t : Fin cfg0.N) : t.val < 16 := lt_of_lt_of_eq t.isLt (show cfg0.N = 16 from N_0)

/-- An entry, from the sum of its row's squares and its weight. -/
def nrm (a s g : EReal) : EReal :=
  a * Ideal.rsqrt (Ideal.div s (Ideal.ofBits .f32 0x45000000#32) + Ideal.ofBits .f32 0x358637BD#32) * g

/-- A block's rows, divided and weighted. -/
theorem pay1_at (x : Vec Ideal S512x2048 .f32) (g : Vec Ideal S1x2048 .f32) (r : Fin 512) (s : Fin 2048) :
    k0_pay1 (F := Ideal) x g (ix2 r s) = nrm (x (ix2 r s)) (∑ k : Fin 2048, x (ix2 r k) * x (ix2 r k)) (g (ix2 0 s)) := by
  pointwise [k0_pay1, nrm]

theorem hz : (![0, 0] : Fin 2 → ℕ) = fun _ => 0 := by funext a; fin_cases a <;> rfl

/-- A point writes its block's rows out. -/
theorem out (x0 : Vec Ideal S512x2048 .f32) (x1 : Vec Ideal S1x2048 .f32) : out0_2 (F := Ideal) x0 x1 = k0_pay1 x0 x1 := by
  unfold out0_2
  rw [View.canon_unit_zero hz, View.ld_unit_zero hz, View.ld_unit_zero hz]

variable (m : (ℓ : Loc nD τ sig) → Buf (Elt Ideal) ℓ) (c : Dev nD)

/-- The layer's input, as the program is given it. -/
abbrev X : S8192x2048.Idx → EReal := m ((c : Thread nD τ).loc main_arg0)
/-- The weights, as the program is given them. -/
abbrev G : S1x2048.Idx → EReal := m ((c : Thread nD τ).loc main_arg1)

/-- The input's block. -/
theorem blk0 (t : Fin cfg0.N) (r : Fin 512) (k : Fin 2048) :
    (iblk m c 0 t : S512x2048.Idx → EReal) (ix2 r k) = el (X m c) (512 * t.val + r) k := by
  have := N16 t; have := k.isLt; have := r.isLt
  refine Eq.trans ?_ (el_of (X m c) (ix2 ⟨512 * t.val + r.val, by omega⟩ k) _ _ rfl rfl)
  blk_ext [iblk, V, idx t]

/-- The weights' block. -/
theorem blk1 (t : Fin cfg0.N) (k : Fin 2048) : (iblk m c 1 t : S1x2048.Idx → EReal) (ix2 0 k) = el (G m c) 0 k := by
  have := N16 t; have := k.isLt
  refine Eq.trans ?_ (el_of (G m c) (ix2 0 k) _ _ rfl rfl)
  blk_ext [iblk, V, idx t]

/-- An entry of the normalized input. -/
def res (x : S8192x2048.Idx → EReal) (g : S1x2048.Idx → EReal) (r q : ℕ) : EReal :=
  nrm (el x r q) (∑ k : Fin 2048, el x r k * el x r k) (el g 0 q)

/-- What a point writes out. -/
theorem out_at (t : Fin cfg0.N) (r : Fin 512) (s : Fin 2048) :
    out0_2 (F := Ideal) (iblk m c 0 t) (iblk m c 1 t) (ix2 r s) = res (X m c) (G m c) (512 * t.val + r) s := by
  rw [out, pay1_at, blk0 m c t r s, blk1 m c t s]
  exact congrArg (fun v : EReal => nrm _ v _) (Finset.sum_congr rfl fun k _ => congrArg (fun v : EReal => v * v) (blk0 m c t r k))

/-- The kernel's result is the normalized input. -/
theorem result : (dats m 0 c).arrAt 2 cfg0.N = fun i : S8192x2048.Idx => res (X m c) (G m c) (i 0).val (i 1).val := by
  refine (dats m 0 c).arrAt_eq_of_covers 2 _ (by decide +kernel) fun t hf y => ?_
  blk_simp
  rw [after0_2]
  have := N16 t
  have a0 : (y 0).val < 512 := (y 0).isLt
  have a1 : (y 1).val < 2048 := (y 1).isLt
  have e : y = ix2 ⟨(y 0).val, a0⟩ ⟨(y 1).val, a1⟩ := by funext a; fin_cases a <;> rfl
  have i := idx t
  have i0 : win0_2.index t 0 = t.val := by simp only [i]; rfl
  have i1 : win0_2.index t 1 = 0 := by simp only [i]; rfl
  rw [i0, i1]
  refine Eq.trans (congrArg _ e) ((out_at m c t _ _).trans ?_)
  simp only [Nat.mul_comm, Nat.zero_mul, Nat.zero_add]
end Cert.NormIdeal.Prod

namespace Cert.NormRefIdeal.Prod
open Cert.NormRefIdeal Cert.NormRefIdeal.Read Cert.Mat Cert.NormIdeal.Prod
open Idealize.ShloMosaic Idealize.ShloMosaic.Tactic

variable (x : S8192x2048.Idx → EReal) (g : S1x2048.Idx → EReal)

/-- The reference's result is the normalized input. -/
theorem result : val_main_v14 (F := Ideal) x g = fun i : S8192x2048.Idx => res x g (i 0).val (i 1).val := by
  funext i
  have a0 : (i 0).val < 8192 := (i 0).isLt
  have a1 : (i 1).val < 2048 := (i 1).isLt
  have h0 : ∀ q, val_main_cst (F := Ideal) q = (0 : EReal) := by intro q; pointwise [val_main_cst]
  rw [val_main_v14_apply, val_main_v13_apply, val_main_v9_apply, val_main_v8_apply, val_main_v7_apply, val_main_v6_apply, val_main_v5_apply,
    val_main_v4_apply, val_main_v3_apply, val_main_v2_apply, val_main_v1_apply, val_main_v12_apply, val_main_v11_apply, val_main_v10_apply, h0, zero_add]
  refine Eq.trans (b := nrm (x i) (∑ k : Fin 2048, val_main_v0 (F := Ideal) x (idx_main_v1 (idx_main_v2 (idx_main_v8 i)) k)) (g (idx_main_v10 (idx_main_v11 (idx_main_v12 i))))) rfl ?_
  unfold res
  refine congr (congrArg₂ nrm (el_of x _ _ _ rfl rfl) (Finset.sum_congr rfl fun k _ => ?_)) (el_of g _ _ _ rfl ?_)
  · rw [val_main_v0_apply]
    exact congrArg (fun v : EReal => v * v) (el_of x _ _ _ rfl rfl)
  · show (i 1).val % 2048 = (i 1).val; omega
end Cert.NormRefIdeal.Prod

end
-- ==== Proof.Combine.lean ====
/-
  The sum of the three attentions, weighted by how much of the keys each saw: the kernel's three result arrays and the
  reference's hold the same sum, the same logarithm of the weights' total, and the same gated output.
-/
module

public import proofs.«01_k».proof.Proof.Mat
public import proofs.«01_k».proof.Proof.Head
public import Idealize.ShloMosaic.Lib.VecWindow
public import Idealize.ShloMosaic.Lib.WritesUnit
public import Idealize.ShloMosaic.Lib.KernelVsHost
public import Idealize.ShloMosaic.Lib.Pipeline.ValueKit.Partial
public import proofs.«01_k».proof.Proof.Gen.CombineIdeal.Value
public import proofs.«01_k».proof.Proof.Gen.CombineRefIdeal.Read

@[expose] public section

set_option maxRecDepth 16384
noncomputable section
namespace Cert.CombineIdeal.Prod
open Cert.CombineIdeal Cert.CombineIdeal.Gen Cert.Mat
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![t.val, 17] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![3, t.val, 0] :=
  (by decide +kernel : ∀ t : Fin grid0.N, _)

theorem N32 (t : Fin cfg0.N) : t.val < 32 := lt_of_lt_of_eq t.isLt (show cfg0.N = 32 from N_0)

/-- The largest of three. -/
def mx (a b d : EReal) : EReal := max (max a b) d
/-- The total of three weights, the largest taken out. -/
def tot (a b d : EReal) : EReal := Ideal.exp (a - mx a b d) + Ideal.exp (b - mx a b d) + Ideal.exp (d - mx a b d)
/-- The weighted sum of three. -/
def wsum (a b d x y z : EReal) : EReal :=
  Ideal.div (Ideal.exp (a - mx a b d)) (tot a b d) * x + Ideal.div (Ideal.exp (b - mx a b d)) (tot a b d) * y
    + Ideal.div (Ideal.exp (d - mx a b d)) (tot a b d) * z
/-- The logarithm of the weights' total. -/
def lsum (a b d : EReal) : EReal := mx a b d + Ideal.log (tot a b d)
/-- What the gate lets through. -/
def gated (o g : EReal) : EReal := o * (g * sigm g)

/-- The largest of the logarithms. -/
theorem pay2_at (a b d : Vec Ideal S256x1024 .f32) (r : Fin 256) (s : Fin 1024) :
    k0_pay2 (F := Ideal) a b d (ix2 r s) = mx (a (ix2 r s)) (b (ix2 r s)) (d (ix2 r s)) := by
  pointwise [k0_pay2, mx]

/-- The weights' total. -/
theorem pay6_at (a b d : Vec Ideal S256x1024 .f32) (r : Fin 256) (s : Fin 1024) :
    k0_pay6 (F := Ideal) a b d (ix2 r s) = tot (a (ix2 r s)) (b (ix2 r s)) (d (ix2 r s)) := by
  pointwise [k0_pay6, k0_pay3, k0_pay4, k0_pay5, pay2_at, tot]

/-- The weighted sum. -/
theorem pay7_at (a b d x y z : Vec Ideal S256x1024 .f32) (r : Fin 256) (s : Fin 1024) :
    k0_pay7 (F := Ideal) a b d x y z (ix2 r s)
      = wsum (a (ix2 r s)) (b (ix2 r s)) (d (ix2 r s)) (x (ix2 r s)) (y (ix2 r s)) (z (ix2 r s)) := by
  pointwise [k0_pay7, k0_pay3, k0_pay4, k0_pay5, pay2_at, pay6_at, wsum]

/-- The logarithm of the weights' total. -/
theorem pay8_at (a b d : Vec Ideal S256x1024 .f32) (r : Fin 256) (s : Fin 1024) :
    k0_pay8 (F := Ideal) a b d (ix2 r s) = lsum (a (ix2 r s)) (b (ix2 r s)) (d (ix2 r s)) := by
  pointwise [k0_pay8, pay2_at, pay6_at, lsum]

/-- The gated output. -/
theorem pay1_at (o g : Vec Ideal S256x1024 .f32) (r : Fin 256) (s : Fin 1024) :
    k0_pay1 (F := Ideal) o g (k0_pay9 g) (ix3 0 r s) = gated (o (ix2 r s)) (g (ix2 r s)) := by
  pointwise [k0_pay1, k0_pay9, gated, sigm]
  rw [sub_eq_add_neg, zero_add]

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (arg9 : Memref sig .tc .vmem S256x1024 .f32) (harg9 : arg9.IsWhole) (arg10 : Memref sig .tc .vmem S256x1024 .f32) (harg10 : arg10.IsWhole) (arg11 : Memref sig .tc .vmem S1x256x1024 .bf16) (harg11 : arg11.IsWhole)
    (x0 x1 x2 x3 x4 x5 x6 : Vec Ideal S256x1024 .f32)

/-- A point writes the weighted sum out. -/
theorem od : out0_A_7 c i arg1 harg1 arg2 harg2 arg3 harg3 arg4 harg4 arg5 harg5 arg6 harg6 arg7 harg7 arg9 harg9 arg10 harg10 arg11 harg11 x0 x1 x2 x3 x4 x5 x6 = k0_pay7 (F := Ideal) x4 x5 x6 x1 x2 x3 := by
  unfold out0_A_7 kernelRun0_A
  dsimp only
  sl_unfold_words
  rw [View.read_writes_full]
  rw [View.readAt_full, View.readAt_full, View.readAt_full, View.readAt_full, View.readAt_full, View.readAt_full, harg5.read_unread, harg6.read_unread, harg7.read_unread, harg2.read_unread, harg3.read_unread, harg4.read_unread]

/-- A point writes the logarithm of the weights' total out. -/
theorem lse : out0_A_8 c i arg1 harg1 arg2 harg2 arg3 harg3 arg4 harg4 arg5 harg5 arg6 harg6 arg7 harg7 arg9 harg9 arg10 harg10 arg11 harg11 x0 x1 x2 x3 x4 x5 x6 = k0_pay8 (F := Ideal) x4 x5 x6 := by
  unfold out0_A_8 kernelRun0_A
  dsimp only
  sl_unfold_words
  rw [View.read_writes_full]
  rw [View.readAt_full, View.readAt_full, View.readAt_full, harg5.read_unread, harg6.read_unread, harg7.read_unread]

/-- A point writes the gated output out. -/
theorem y : out0_A_9 c i arg1 harg1 arg2 harg2 arg3 harg3 arg4 harg4 arg5 harg5 arg6 harg6 arg7 harg7 arg9 harg9 arg10 harg10 arg11 harg11 x0 x1 x2 x3 x4 x5 x6 = k0_pay1 (F := Ideal) (k0_pay7 x4 x5 x6 x1 x2 x3) x0 (k0_pay9 x0) := by
  unfold out0_A_9 kernelRun0_A
  dsimp only
  sl_unfold_words
  rw [View.read_writes_full]
  rw [View.readAt_full, View.readAt_full, View.readAt_full, View.readAt_full, View.readAt_full, View.readAt_full, View.readAt_full, harg5.read_unread, harg6.read_unread, harg7.read_unread, harg2.read_unread, harg3.read_unread, harg4.read_unread, harg1.read_unread]

end

variable (m : (ℓ : Loc nD τ sig) → Buf (Elt Ideal) ℓ) (c : Dev nD)

/-- The projections, as the program is given them. -/
abbrev P : S8192x18432.Idx → EReal := m ((c : Thread nD τ).loc main_arg0)
/-- The branches' rows, as the program is given them. -/
abbrev U : S4x8192x1024.Idx → EReal := m ((c : Thread nD τ).loc main_arg7)

/-- The gate's block. -/
theorem blk0 (t : Fin cfg0.N) (r : Fin 256) (s : Fin 1024) :
    (iblk m c 0 t : S256x1024.Idx → EReal) (ix2 r s) = el (P m c) (256 * t.val + r) (17408 + s) := by
  have := N32 t; have := r.isLt; have := s.isLt
  refine Eq.trans ?_ (el_of (P m c) (ix2 ⟨256 * t.val + r.val, by omega⟩ ⟨17408 + s.val, by omega⟩) _ _ rfl rfl)
  blk_ext [iblk, V, idx t]

theorem blk1 (t : Fin cfg0.N) (r : Fin 256) (s : Fin 1024) :
    (iblk m c 1 t : S256x1024.Idx → EReal) (ix2 r s) = el (n := 8192) (m := 1024) (m ((c : Thread nD τ).loc main_arg1)) (256 * t.val + r) s := by
  have := N32 t; have := r.isLt; have := s.isLt
  refine Eq.trans ?_ (el_of (n := 8192) (m := 1024) (m ((c : Thread nD τ).loc main_arg1)) (ix2 ⟨256 * t.val + r.val, by omega⟩ s) _ _ rfl rfl)
  blk_ext [iblk, V, idx t]

theorem blk2 (t : Fin cfg0.N) (r : Fin 256) (s : Fin 1024) :
    (iblk m c 2 t : S256x1024.Idx → EReal) (ix2 r s) = el (n := 8192) (m := 1024) (m ((c : Thread nD τ).loc main_arg2)) (256 * t.val + r) s := by
  have := N32 t; have := r.isLt; have := s.isLt
  refine Eq.trans ?_ (el_of (n := 8192) (m := 1024) (m ((c : Thread nD τ).loc main_arg2)) (ix2 ⟨256 * t.val + r.val, by omega⟩ s) _ _ rfl rfl)
  blk_ext [iblk, V, idx t]

theorem blk3 (t : Fin cfg0.N) (r : Fin 256) (s : Fin 1024) :
    (iblk m c 3 t : S256x1024.Idx → EReal) (ix2 r s) = el (n := 8192) (m := 1024) (m ((c : Thread nD τ).loc main_arg3)) (256 * t.val + r) s := by
  have := N32 t; have := r.isLt; have := s.isLt
  refine Eq.trans ?_ (el_of (n := 8192) (m := 1024) (m ((c : Thread nD τ).loc main_arg3)) (ix2 ⟨256 * t.val + r.val, by omega⟩ s) _ _ rfl rfl)
  blk_ext [iblk, V, idx t]

theorem blk4 (t : Fin cfg0.N) (r : Fin 256) (s : Fin 1024) :
    (iblk m c 4 t : S256x1024.Idx → EReal) (ix2 r s) = el (n := 8192) (m := 1024) (m ((c : Thread nD τ).loc main_arg4)) (256 * t.val + r) s := by
  have := N32 t; have := r.isLt; have := s.isLt
  refine Eq.trans ?_ (el_of (n := 8192) (m := 1024) (m ((c : Thread nD τ).loc main_arg4)) (ix2 ⟨256 * t.val + r.val, by omega⟩ s) _ _ rfl rfl)
  blk_ext [iblk, V, idx t]

theorem blk5 (t : Fin cfg0.N) (r : Fin 256) (s : Fin 1024) :
    (iblk m c 5 t : S256x1024.Idx → EReal) (ix2 r s) = el (n := 8192) (m := 1024) (m ((c : Thread nD τ).loc main_arg5)) (256 * t.val + r) s := by
  have := N32 t; have := r.isLt; have := s.isLt
  refine Eq.trans ?_ (el_of (n := 8192) (m := 1024) (m ((c : Thread nD τ).loc main_arg5)) (ix2 ⟨256 * t.val + r.val, by omega⟩ s) _ _ rfl rfl)
  blk_ext [iblk, V, idx t]

theorem blk6 (t : Fin cfg0.N) (r : Fin 256) (s : Fin 1024) :
    (iblk m c 6 t : S256x1024.Idx → EReal) (ix2 r s) = el (n := 8192) (m := 1024) (m ((c : Thread nD τ).loc main_arg6)) (256 * t.val + r) s := by
  have := N32 t; have := r.isLt; have := s.isLt
  refine Eq.trans ?_ (el_of (n := 8192) (m := 1024) (m ((c : Thread nD τ).loc main_arg6)) (ix2 ⟨256 * t.val + r.val, by omega⟩ s) _ _ rfl rfl)
  blk_ext [iblk, V, idx t]

/-- The weighted sum, at a row and a column. -/
def odE (x y z a b d : S8192x1024.Idx → EReal) (r q : ℕ) : EReal := wsum (el a r q) (el b r q) (el d r q) (el x r q) (el y r q) (el z r q)
/-- The logarithm of the weights' total, at a row and a column. -/
def lseE (a b d : S8192x1024.Idx → EReal) (r q : ℕ) : EReal := lsum (el a r q) (el b r q) (el d r q)
/-- The gated output, at a row and a column. -/
def yE (p : S8192x18432.Idx → EReal) (x y z a b d : S8192x1024.Idx → EReal) (r q : ℕ) : EReal := gated (odE x y z a b d r q) (el p r (17408 + q))

/-- The kernel's weighted sum. -/
abbrev odK (r q : ℕ) : EReal := odE (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) r q

theorem od_at (t : Fin cfg0.N) (r : Fin 256) (s : Fin 1024) :
    k0_pay7 (F := Ideal) (iblk m c 4 t) (iblk m c 5 t) (iblk m c 6 t) (iblk m c 1 t) (iblk m c 2 t) (iblk m c 3 t) (ix2 r s) = odK m c (256 * t.val + r) s := by
  refine (pay7_at _ _ _ _ _ _ r s).trans ?_
  rw [blk1 m c t r s, blk2 m c t r s, blk3 m c t r s, blk4 m c t r s, blk5 m c t r s, blk6 m c t r s]
  rfl

/-- What a point writes out. -/
theorem out7 (t : Fin cfg0.N) : (outsAt0 m c t).1 = k0_pay7 (F := Ideal) (iblk m c 4 t) (iblk m c 5 t) (iblk m c 6 t) (iblk m c 1 t) (iblk m c 2 t) (iblk m c 3 t) := by
  unfold outsAt0; dsimp only; rw [od]
theorem out8 (t : Fin cfg0.N) : (outsAt0 m c t).2.1 = k0_pay8 (F := Ideal) (iblk m c 4 t) (iblk m c 5 t) (iblk m c 6 t) := by
  unfold outsAt0; dsimp only; rw [lse]
theorem out9 (t : Fin cfg0.N) : (outsAt0 m c t).2.2 = k0_pay1 (F := Ideal) (k0_pay7 (iblk m c 4 t) (iblk m c 5 t) (iblk m c 6 t) (iblk m c 1 t) (iblk m c 2 t) (iblk m c 3 t))
    (iblk m c 0 t) (k0_pay9 (iblk m c 0 t)) := by
  unfold outsAt0; dsimp only; rw [y]

/-- The kernel's logarithm. -/
abbrev lseK (r q : ℕ) : EReal := lseE (m ((c : Thread nD τ).loc main_arg4)) (m ((c : Thread nD τ).loc main_arg5)) (m ((c : Thread nD τ).loc main_arg6)) r q

theorem lse_at (t : Fin cfg0.N) (r : Fin 256) (s : Fin 1024) :
    k0_pay8 (F := Ideal) (iblk m c 4 t) (iblk m c 5 t) (iblk m c 6 t) (ix2 r s) = lseK m c (256 * t.val + r) s := by
  refine (pay8_at _ _ _ r s).trans ?_
  rw [blk4 m c t r s, blk5 m c t r s, blk6 m c t r s]
  rfl

/-- The kernel's gated output. -/
abbrev yK (r q : ℕ) : EReal := gated (odK m c r q) (el (P m c) r (17408 + q))

theorem y_at (t : Fin cfg0.N) (r : Fin 256) (s : Fin 1024) :
    k0_pay1 (F := Ideal) (k0_pay7 (iblk m c 4 t) (iblk m c 5 t) (iblk m c 6 t) (iblk m c 1 t) (iblk m c 2 t) (iblk m c 3 t)) (iblk m c 0 t) (k0_pay9 (iblk m c 0 t)) (ix3 0 r s)
      = yK m c (256 * t.val + r) s := by
  refine (pay1_at _ _ r s).trans ?_
  rw [blk0 m c t r s, od_at m c t r s]

/-- The kernel's first result is the weighted sum. -/
theorem result7 : (dats m 0 c).arrAt 7 cfg0.N = fun i : S8192x1024.Idx => odK m c (i 0).val (i 1).val := by
  refine (dats m 0 c).arrAt_eq_of_covers 7 _ (by decide +kernel) fun t hf y => ?_
  blk_simp
  rw [after0_7]
  have a0 : (y 0).val < 256 := (y 0).isLt
  have a1 : (y 1).val < 1024 := (y 1).isLt
  have e : y = ix2 ⟨(y 0).val, a0⟩ ⟨(y 1).val, a1⟩ := by funext a; fin_cases a <;> rfl
  have i := idx t
  have i0 : win0_7.index t 0 = t.val := by simp only [i]; rfl
  have i1 : win0_7.index t 1 = 0 := by simp only [i]; rfl
  rw [i0, i1]
  refine Eq.trans (congrFun (out7 m c t) y) (Eq.trans (congrArg _ e) ((od_at m c t _ _).trans ?_))
  simp only [Nat.mul_comm, Nat.zero_mul, Nat.zero_add]

/-- The kernel's second result is the logarithm of the weights' total. -/
theorem result8 : (dats m 0 c).arrAt 8 cfg0.N = fun i : S8192x1024.Idx => lseK m c (i 0).val (i 1).val := by
  refine (dats m 0 c).arrAt_eq_of_covers 8 _ (by decide +kernel) fun t hf y => ?_
  blk_simp
  rw [after0_8]
  have a0 : (y 0).val < 256 := (y 0).isLt
  have a1 : (y 1).val < 1024 := (y 1).isLt
  have e : y = ix2 ⟨(y 0).val, a0⟩ ⟨(y 1).val, a1⟩ := by funext a; fin_cases a <;> rfl
  have i := idx t
  have i0 : win0_8.index t 0 = t.val := by simp only [i]; rfl
  have i1 : win0_8.index t 1 = 0 := by simp only [i]; rfl
  rw [i0, i1]
  refine Eq.trans (congrFun (out8 m c t) y) (Eq.trans (congrArg _ e) ((lse_at m c t _ _).trans ?_))
  simp only [Nat.mul_comm, Nat.zero_mul, Nat.zero_add]

/-- The third result starts as the branches' rows. -/
theorem entry : (dats m 0 c).A 9 = U m c := by
  rw [A_eq]
  show V m c main_v0_2 = U m c
  rfl

/-- The kernel's third result: the last branch's rows are the gated output, the others are as they were. -/
theorem result9 : (dats m 0 c).arrAt 9 cfg0.N = fun i : S4x8192x1024.Idx => if 3 ≤ (i 0).val then yK m c (i 1).val (i 2).val else U m c i := by
  rw [← entry]
  refine (dats m 0 c).arrAt_eq_of_coversWhere 9 (fun i : S4x8192x1024.Idx => yK m c (i 1).val (i 2).val) (fun β => 3 ≤ β (0 : Fin _)) (by decide +kernel) (fun t hf y => ?_)
    (fun j => by blk_simp [Pipeline.Window.cell_apply]; omega)
  blk_simp
  rw [after0_9]
  have a0 : (y 0).val < 1 := (y 0).isLt
  have a1 : (y 1).val < 256 := (y 1).isLt
  have a2 : (y 2).val < 1024 := (y 2).isLt
  have z0 : (y 0).val = 0 := by omega
  have e : y = ix3 0 ⟨(y 1).val, a1⟩ ⟨(y 2).val, a2⟩ := by
    funext a; fin_cases a
    · exact Fin.ext z0
    · rfl
    · rfl
  have i := idx t
  have i1 : win0_9.index t 1 = t.val := by simp only [i]; rfl
  have i2 : win0_9.index t 2 = 0 := by simp only [i]; rfl
  rw [i1, i2]
  refine Eq.trans (congrFun (out9 m c t) y) (Eq.trans (congrArg _ e) ((y_at m c t _ _).trans ?_))
  simp only [Nat.mul_comm, Nat.zero_mul, Nat.zero_add]
end Cert.CombineIdeal.Prod

namespace Cert.CombineRefIdeal.Prod
open Cert.CombineRefIdeal Cert.CombineRefIdeal.Read Cert.Mat Cert.CombineIdeal.Prod
open Idealize.ShloMosaic Idealize.ShloMosaic.Tactic

variable (p : S8192x18432.Idx → EReal) (x y z a b d : S8192x1024.Idx → EReal) (u : S4x8192x1024.Idx → EReal)

/-- One of three. -/
def pick (k : Fin 3) (a b d : EReal) : EReal := if k.val < 1 then a else if k.val - 1 < 1 then b else d

/-- The largest of the logarithms. -/
theorem v21_at (r : Fin 8192) (s : Fin 1024) : val_main_v21 (F := Ideal) a b d (ValueIdx.ix2 r s) = mx (a (ValueIdx.ix2 r s)) (b (ValueIdx.ix2 r s)) (d (ValueIdx.ix2 r s)) := by
  pointwise [val_main_v21, val_main_v7, val_main_v4, val_main_v5, val_main_v6, val_main_cst_3, mx]
  rw [show (Finset.univ : Finset (Fin 3)) = {0, 1, 2} by decide]
  have hb : Ideal.ofBits FTy.f32 4286578688#32 = ⊥ := by simp [Ideal.ofBits, Ideal.ieee]
  simp [hb, max_assoc]

/-- It is taken twice. -/
theorem v10_at (r : Fin 8192) (s : Fin 1024) : val_main_v10 (F := Ideal) a b d (ValueIdx.ix2 r s) = mx (a (ValueIdx.ix2 r s)) (b (ValueIdx.ix2 r s)) (d (ValueIdx.ix2 r s)) := by
  have hb : val_main_v9 (F := Ideal) (ValueIdx.ix2 r s) = (⊥ : EReal) := by
    pointwise [val_main_v9, val_main_cst_0]
    simp [Ideal.ofBits, Ideal.ieee]
  rw [val_main_v10_apply, hb]
  exact (bot_sup_eq (α := EReal) _).trans (v21_at a b d r s)

/-- The stacked logarithms. -/
theorem v7_at (k : Fin 3) (r : Fin 8192) (s : Fin 1024) : val_main_v7 (F := Ideal) a b d (ValueIdx.ix3 k r s)
    = pick k (a (ValueIdx.ix2 r s)) (b (ValueIdx.ix2 r s)) (d (ValueIdx.ix2 r s)) := by
  pointwise [val_main_v7, val_main_v4, val_main_v5, val_main_v6, pick]
  rfl

/-- The stacked attentions. -/
theorem v3_at (k : Fin 3) (r : Fin 8192) (s : Fin 1024) : val_main_v3 (F := Ideal) x y z (ValueIdx.ix3 k r s)
    = pick k (x (ValueIdx.ix2 r s)) (y (ValueIdx.ix2 r s)) (z (ValueIdx.ix2 r s)) := by
  pointwise [val_main_v3, val_main_v0, val_main_v1, val_main_v2, pick]
  rfl

/-- A weight, the largest taken out. -/
def wt (k : Fin 3) (a b d : EReal) : EReal := Ideal.exp (pick k a b d - mx a b d)

theorem v14_at (k : Fin 3) (r : Fin 8192) (s : Fin 1024) : val_main_v14 (F := Ideal) a b d (ValueIdx.ix3 k r s)
    = wt k (a (ValueIdx.ix2 r s)) (b (ValueIdx.ix2 r s)) (d (ValueIdx.ix2 r s)) := by
  have e : idx_main_v11 (idx_main_v12 (ValueIdx.ix3 k r s)) = ValueIdx.ix2 r s := by funext e; fin_cases e <;> rfl
  rw [val_main_v14_apply, val_main_v13_apply, v7_at, val_main_v12_apply, val_main_v11_apply, e, v10_at]
  rfl

theorem v25_at (k : Fin 3) (r : Fin 8192) (s : Fin 1024) : val_main_v25 (F := Ideal) a b d (ValueIdx.ix3 k r s)
    = wt k (a (ValueIdx.ix2 r s)) (b (ValueIdx.ix2 r s)) (d (ValueIdx.ix2 r s)) := by
  have e : idx_main_v22 (idx_main_v23 (ValueIdx.ix3 k r s)) = ValueIdx.ix2 r s := by funext e; fin_cases e <;> rfl
  rw [val_main_v25_apply, val_main_v24_apply, v7_at, val_main_v23_apply, val_main_v22_apply, e, v21_at]
  rfl

theorem ix15 (k : Fin 3) (r : Fin 8192) (s : Fin 1024) : idx_main_v15 (ValueIdx.ix2 r s) k = ValueIdx.ix3 k r s := by funext e; fin_cases e <;> rfl
theorem ix20 (k : Fin 3) (r : Fin 8192) (s : Fin 1024) : idx_main_v20 (ValueIdx.ix2 r s) k = ValueIdx.ix3 k r s := by funext e; fin_cases e <;> rfl
theorem ix26 (k : Fin 3) (r : Fin 8192) (s : Fin 1024) : idx_main_v26 (ValueIdx.ix2 r s) k = ValueIdx.ix3 k r s := by funext e; fin_cases e <;> rfl

/-- The weights' total. -/
theorem v15_at (r : Fin 8192) (s : Fin 1024) : val_main_v15 (F := Ideal) a b d (ValueIdx.ix2 r s) = tot (a (ValueIdx.ix2 r s)) (b (ValueIdx.ix2 r s)) (d (ValueIdx.ix2 r s)) := by
  have h0 : ∀ q, val_main_cst_1 (F := Ideal) q = (0 : EReal) := by intro q; pointwise [val_main_cst_1]
  rw [val_main_v15_apply, h0, zero_add, Fin.sum_univ_three, ix15, ix15, ix15, v14_at, v14_at, v14_at]
  rfl

theorem v26_at (r : Fin 8192) (s : Fin 1024) : val_main_v26 (F := Ideal) a b d (ValueIdx.ix2 r s) = tot (a (ValueIdx.ix2 r s)) (b (ValueIdx.ix2 r s)) (d (ValueIdx.ix2 r s)) := by
  have h0 : ∀ q, val_main_cst_4 (F := Ideal) q = (0 : EReal) := by intro q; pointwise [val_main_cst_4]
  rw [val_main_v26_apply, h0, zero_add, Fin.sum_univ_three, ix26, ix26, ix26, v25_at, v25_at, v25_at]
  rfl

/-- A weighted attention. -/
theorem v19_at (k : Fin 3) (r : Fin 8192) (s : Fin 1024) : val_main_v19 (F := Ideal) x y z a b d (ValueIdx.ix3 k r s)
    = Ideal.div (wt k (a (ValueIdx.ix2 r s)) (b (ValueIdx.ix2 r s)) (d (ValueIdx.ix2 r s))) (tot (a (ValueIdx.ix2 r s)) (b (ValueIdx.ix2 r s)) (d (ValueIdx.ix2 r s)))
      * pick k (x (ValueIdx.ix2 r s)) (y (ValueIdx.ix2 r s)) (z (ValueIdx.ix2 r s)) := by
  have e : idx_main_v16 (idx_main_v17 (ValueIdx.ix3 k r s)) = ValueIdx.ix2 r s := by funext e; fin_cases e <;> rfl
  rw [val_main_v19_apply, val_main_v18_apply, v14_at, v3_at, val_main_v17_apply, val_main_v16_apply, e, v15_at]
  rfl

/-- The weighted sum. -/
theorem v20_at (r : Fin 8192) (s : Fin 1024) : val_main_v20 (F := Ideal) x y z a b d (ValueIdx.ix2 r s)
    = wsum (a (ValueIdx.ix2 r s)) (b (ValueIdx.ix2 r s)) (d (ValueIdx.ix2 r s)) (x (ValueIdx.ix2 r s)) (y (ValueIdx.ix2 r s)) (z (ValueIdx.ix2 r s)) := by
  have h0 : ∀ q, val_main_cst_2 (F := Ideal) q = (0 : EReal) := by intro q; pointwise [val_main_cst_2]
  rw [val_main_v20_apply, h0, zero_add, Fin.sum_univ_three, ix20, ix20, ix20, v19_at, v19_at, v19_at]
  rfl

/-- The logarithm of the weights' total. -/
theorem v28_at (r : Fin 8192) (s : Fin 1024) : val_main_v28 (F := Ideal) a b d (ValueIdx.ix2 r s) = lsum (a (ValueIdx.ix2 r s)) (b (ValueIdx.ix2 r s)) (d (ValueIdx.ix2 r s)) := by
  rw [val_main_v28_apply, val_main_v27_apply, v21_at, v26_at]
  rfl

/-- The gated output. -/
theorem v32_at (r : Fin 8192) (s : Fin 1024) : val_main_v32 (F := Ideal) p x y z a b d (ValueIdx.ix2 r s)
    = gated (wsum (a (ValueIdx.ix2 r s)) (b (ValueIdx.ix2 r s)) (d (ValueIdx.ix2 r s)) (x (ValueIdx.ix2 r s)) (y (ValueIdx.ix2 r s)) (z (ValueIdx.ix2 r s)))
      (el p r (17408 + s)) := by
  have h1 : ∀ q, val_main_call0_cst (F := Ideal) q = (1 : EReal) := by intro q; pointwise [val_main_call0_cst]
  have h2 : ∀ q, val_main_call0_cst_0 (F := Ideal) q = (1 : EReal) := by intro q; pointwise [val_main_call0_cst_0]
  rw [val_main_v32_apply, val_main_v31_apply, v20_at, val_main_v30_apply, val_main_call0_v5_apply, val_main_call0_v4_apply, val_main_call0_v3_apply,
    val_main_call0_v2_apply, val_main_call0_v1_apply, val_main_call0_v0_apply, val_main_v29_apply, h1, h2]
  rw [show p (idx_main_v29 (ValueIdx.ix2 r s)) = el p r (17408 + s) from el_of p _ _ _ rfl rfl]
  rfl

/-- The last branch's rows are the gated output, the others are as they were. -/
theorem v35_at (k : Fin 4) (r : Fin 8192) (s : Fin 1024) : val_main_v35 (F := Ideal) p x y z a b d u (ValueIdx.ix3 k r s)
    = if k.val < 3 then u (ValueIdx.ix3 k r s) else val_main_v32 (F := Ideal) p x y z a b d (ValueIdx.ix2 r s) := by
  pointwise [val_main_v35, val_main_v33, val_main_v34]
  rfl

/-- The reference's first result. -/
theorem result_od : val_main_v20 (F := Ideal) x y z a b d = fun i : S8192x1024.Idx => odE x y z a b d (i 0).val (i 1).val := by
  funext i
  have a0 : (i 0).val < 8192 := (i 0).isLt
  have a1 : (i 1).val < 1024 := (i 1).isLt
  have e : i = ValueIdx.ix2 (⟨(i 0).val, a0⟩ : Fin 8192) (⟨(i 1).val, a1⟩ : Fin 1024) := by funext a; fin_cases a <;> rfl
  refine (congrArg _ e).trans ((v20_at x y z a b d ⟨(i 0).val, a0⟩ ⟨(i 1).val, a1⟩).trans ?_)
  unfold odE
  rw [← e, el_of a i _ _ rfl rfl, el_of b i _ _ rfl rfl, el_of d i _ _ rfl rfl, el_of x i _ _ rfl rfl, el_of y i _ _ rfl rfl, el_of z i _ _ rfl rfl]

/-- The reference's second result. -/
theorem result_lse : val_main_v28 (F := Ideal) a b d = fun i : S8192x1024.Idx => lseE a b d (i 0).val (i 1).val := by
  funext i
  have a0 : (i 0).val < 8192 := (i 0).isLt
  have a1 : (i 1).val < 1024 := (i 1).isLt
  have e : i = ValueIdx.ix2 (⟨(i 0).val, a0⟩ : Fin 8192) (⟨(i 1).val, a1⟩ : Fin 1024) := by funext a; fin_cases a <;> rfl
  refine (congrArg _ e).trans ((v28_at a b d ⟨(i 0).val, a0⟩ ⟨(i 1).val, a1⟩).trans ?_)
  unfold lseE
  rw [← e, el_of a i _ _ rfl rfl, el_of b i _ _ rfl rfl, el_of d i _ _ rfl rfl]

/-- The reference's third result. -/
theorem result_y : val_main_v35 (F := Ideal) p x y z a b d u
    = fun i : S4x8192x1024.Idx => if 3 ≤ (i 0).val then gated (odE x y z a b d (i 1).val (i 2).val) (el p (i 1).val (17408 + (i 2).val)) else u i := by
  funext i
  have a0 : (i 0).val < 4 := (i 0).isLt
  have a1 : (i 1).val < 8192 := (i 1).isLt
  have a2 : (i 2).val < 1024 := (i 2).isLt
  have e : i = ValueIdx.ix3 (⟨(i 0).val, a0⟩ : Fin 4) (⟨(i 1).val, a1⟩ : Fin 8192) (⟨(i 2).val, a2⟩ : Fin 1024) := by funext a; fin_cases a <;> rfl
  refine (congrArg _ e).trans ((v35_at p x y z a b d u ⟨(i 0).val, a0⟩ ⟨(i 1).val, a1⟩ ⟨(i 2).val, a2⟩).trans ?_)
  rw [← e]
  dsimp only
  by_cases h : (i 0).val < 3
  · rw [if_pos h, if_neg (by omega)]
  · rw [if_neg h, if_pos (by omega), v32_at, ← v20_at, result_od]
end Cert.CombineRefIdeal.Prod

end
-- ==== Proof.AdamConv.lean ====
/-
  The step of the convolution's weights: the kernel's results and the reference's hold the same means and changes.
-/
module

public import proofs.«01_k».proof.Proof.Mat
public import proofs.«01_k».proof.Proof.Head
public import Idealize.ShloMosaic.Lib.VecWindow
public import Idealize.ShloMosaic.Lib.WritesUnit
public import Idealize.ShloMosaic.Lib.KernelVsHost
public import proofs.«01_k».proof.Proof.Gen.AdamConvIdeal.Value
public import proofs.«01_k».proof.Proof.Gen.AdamConvRefIdeal.Read

@[expose] public section

set_option maxRecDepth 16384
noncomputable section
namespace Cert.Adam
open Idealize.ShloMosaic

/-- The moving mean of the gradient: nine tenths of the old one and a tenth of the gradient. -/
def mean (g m : EReal) : EReal := Ideal.ofBits .f32 0x3F666666#32 * m + Ideal.ofBits .f32 0x3DCCCCCD#32 * g
/-- The moving mean of the gradient's square: 0.999 of the old one and 0.001 of the square. -/
def square (g v : EReal) : EReal := Ideal.ofBits .f32 0x3F7FBE77#32 * v + Ideal.ofBits .f32 0x3A83126F#32 * (g * g)
/-- The weight's change: both means freed from their start, one over the root of the other, and a hundredth of the
    weight, times minus the rate. -/
def change (g w m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)
end Cert.Adam

namespace Cert.AdamConvIdeal.Prod
open Cert.AdamConvIdeal Cert.AdamConvIdeal.Gen Cert.Mat Cert.Adam
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N1 (t : Fin cfg0.N) : t.val < 1 := lt_of_lt_of_eq t.isLt (show cfg0.N = 1 from N_0)

theorem hz : (![0, 0] : Fin 2 → ℕ) = fun _ => 0 := by funext a; fin_cases a <;> rfl

variable (m : (ℓ : Loc nD τ sig) → Buf (Elt Ideal) ℓ) (c : Dev nD)

/-- The devices' gradients, as the program is given them. -/
abbrev G : S1x124x128.Idx → EReal := m ((c : Thread nD τ).loc main_arg0)
/-- The weights, as the program is given them. -/
abbrev W : S124x128.Idx → EReal := m ((c : Thread nD τ).loc main_arg1)
/-- The moving mean of the gradients, as the program is given it. -/
abbrev M : S124x128.Idx → EReal := m ((c : Thread nD τ).loc main_arg2)
/-- The moving mean of their squares, as the program is given it. -/
abbrev Q : S124x128.Idx → EReal := m ((c : Thread nD τ).loc main_arg3)

/-- The gradient. -/
def grad (x : S1x124x128.Idx → EReal) (r s : ℕ) : EReal :=
  pl x 0 r s
/-- The new mean. -/
def meanE (x : S1x124x128.Idx → EReal) (a : S124x128.Idx → EReal) (r s : ℕ) : EReal := mean (grad x r s) (el a r s)
/-- The new mean of the squares. -/
def squareE (x : S1x124x128.Idx → EReal) (b : S124x128.Idx → EReal) (r s : ℕ) : EReal := square (grad x r s) (el b r s)
/-- The change. -/
def changeE (x : S1x124x128.Idx → EReal) (w a b : S124x128.Idx → EReal) (r s : ℕ) : EReal :=
  change (grad x r s) (el w r s) (el a r s) (el b r s)

/-- The gradients' block. -/
theorem blk0 (t : Fin cfg0.N) (k : Fin 1) (r : Fin 124) (s : Fin 128) :
    (iblk m c 0 t : S1x124x128.Idx → EReal) (ix3 k r s) = pl (G m c) k (124 * t.val + r) s := by
  have := N1 t; have := k.isLt; have := r.isLt; have := s.isLt
  refine Eq.trans ?_ (pl_of (G m c) (ix3 k ⟨124 * t.val + r.val, by omega⟩ s) _ _ _ rfl rfl rfl)
  blk_ext [iblk, V, idx t]

/-- The weights' block. -/
theorem blk1 (t : Fin cfg0.N) (r : Fin 124) (s : Fin 128) :
    (iblk m c 1 t : S124x128.Idx → EReal) (ix2 r s) = el (W m c) (124 * t.val + r) s := by
  have := N1 t; have := r.isLt; have := s.isLt
  refine Eq.trans ?_ (el_of (W m c) (ix2 ⟨124 * t.val + r.val, by omega⟩ s) _ _ rfl rfl)
  blk_ext [iblk, V, idx t]

/-- The means' block. -/
theorem blk2 (t : Fin cfg0.N) (r : Fin 124) (s : Fin 128) :
    (iblk m c 2 t : S124x128.Idx → EReal) (ix2 r s) = el (M m c) (124 * t.val + r) s := by
  have := N1 t; have := r.isLt; have := s.isLt
  refine Eq.trans ?_ (el_of (M m c) (ix2 ⟨124 * t.val + r.val, by omega⟩ s) _ _ rfl rfl)
  blk_ext [iblk, V, idx t]

/-- The squares' block. -/
theorem blk3 (t : Fin cfg0.N) (r : Fin 124) (s : Fin 128) :
    (iblk m c 3 t : S124x128.Idx → EReal) (ix2 r s) = el (Q m c) (124 * t.val + r) s := by
  have := N1 t; have := r.isLt; have := s.isLt
  refine Eq.trans ?_ (el_of (Q m c) (ix2 ⟨124 * t.val + r.val, by omega⟩ s) _ _ rfl rfl)
  blk_ext [iblk, V, idx t]

/-- A block's gradients. -/
theorem pay1_at (x : Vec Ideal S1x124x128 .f32) (r : Fin 124) (s : Fin 128) : k0_pay1 (F := Ideal) x (ix2 r s) = x (ix3 0 r s) := by
  pointwise [k0_pay1]

/-- A block's new means. -/
theorem pay2_at (x : Vec Ideal S1x124x128 .f32) (a : Vec Ideal S124x128 .f32) (r : Fin 124) (s : Fin 128) :
    k0_pay2 (F := Ideal) x a (ix2 r s) = mean (x (ix3 0 r s)) (a (ix2 r s)) := by
  unfold k0_pay2
  rw [← pay1_at x r s]
  generalize k0_pay1 (F := Ideal) x = g
  pointwise [mean]

/-- A block's new means of the squares. -/
theorem pay3_at (x : Vec Ideal S1x124x128 .f32) (b : Vec Ideal S124x128 .f32) (r : Fin 124) (s : Fin 128) :
    k0_pay3 (F := Ideal) x b (ix2 r s) = square (x (ix3 0 r s)) (b (ix2 r s)) := by
  unfold k0_pay3
  rw [← pay1_at x r s]
  generalize k0_pay1 (F := Ideal) x = g
  pointwise [square]

/-- A block's changes. -/
theorem pay4_at (x : Vec Ideal S1x124x128 .f32) (a b w : Vec Ideal S124x128 .f32) (r : Fin 124) (s : Fin 128) :
    k0_pay4 (F := Ideal) x a b w (ix2 r s) = change (x (ix3 0 r s)) (w (ix2 r s)) (a (ix2 r s)) (b (ix2 r s)) := by
  unfold k0_pay4 change
  rw [← pay2_at x a r s, ← pay3_at x b r s]
  generalize k0_pay2 (F := Ideal) x a = n
  generalize k0_pay3 (F := Ideal) x b = q
  pointwise []

theorem hz3 : (![0, 0, 0] : Fin 3 → ℕ) = fun _ => 0 := by funext a; fin_cases a <;> rfl

/-- What a point writes of the gradient. -/
theorem out4 (t : Fin cfg0.N) (r : Fin 124) (s : Fin 128) :
    out0_4 (F := Ideal) (iblk m c 0 t) (iblk m c 1 t) (iblk m c 2 t) (iblk m c 3 t) (ix2 r s) = grad (G m c) (124 * t.val + r) s := by
  unfold out0_4
  rw [View.canon_unit_zero hz, View.ld_unit_zero hz3, pay1_at]
  exact blk0 m c t 0 r s

/-- The kernel leaves the gradient. -/
theorem result4 : (dats m 0 c).arrAt 4 cfg0.N = fun i : S124x128.Idx => grad (G m c) (i 0).val (i 1).val := by
  refine (dats m 0 c).arrAt_eq_of_covers 4 _ (by decide +kernel) fun t hf y => ?_
  blk_simp
  rw [after0_4]
  have := N1 t
  have a0 : (y 0).val < 124 := (y 0).isLt
  have a1 : (y 1).val < 128 := (y 1).isLt
  have e : y = ix2 ⟨(y 0).val, a0⟩ ⟨(y 1).val, a1⟩ := by funext a; fin_cases a <;> rfl
  have i := idx t
  have i0 : win0_4.index t 0 = t.val := by simp only [i]; rfl
  have i1 : win0_4.index t 1 = 0 := by simp only [i]; rfl
  rw [i0, i1]
  refine Eq.trans (congrArg _ e) ((out4 m c t _ _).trans ?_)
  simp only [Nat.mul_comm, Nat.zero_mul, Nat.zero_add]

/-- What a point writes of the weights' change. -/
theorem out5 (t : Fin cfg0.N) (r : Fin 124) (s : Fin 128) :
    out0_5 (F := Ideal) (iblk m c 0 t) (iblk m c 1 t) (iblk m c 2 t) (iblk m c 3 t) (ix2 r s) = changeE (G m c) (W m c) (M m c) (Q m c) (124 * t.val + r) s := by
  unfold out0_5
  rw [View.canon_unit_zero hz, View.ld_unit_zero hz3, View.ld_unit_zero hz, View.ld_unit_zero hz, View.ld_unit_zero hz, pay4_at]
  exact congr (congr (congrArg₂ change (blk0 m c t 0 r s) (blk1 m c t r s)) (blk2 m c t r s)) (blk3 m c t r s)

/-- The kernel leaves the weights' change. -/
theorem result5 : (dats m 0 c).arrAt 5 cfg0.N = fun i : S124x128.Idx => changeE (G m c) (W m c) (M m c) (Q m c) (i 0).val (i 1).val := by
  refine (dats m 0 c).arrAt_eq_of_covers 5 _ (by decide +kernel) fun t hf y => ?_
  blk_simp
  rw [after0_5]
  have := N1 t
  have a0 : (y 0).val < 124 := (y 0).isLt
  have a1 : (y 1).val < 128 := (y 1).isLt
  have e : y = ix2 ⟨(y 0).val, a0⟩ ⟨(y 1).val, a1⟩ := by funext a; fin_cases a <;> rfl
  have i := idx t
  have i0 : win0_5.index t 0 = t.val := by simp only [i]; rfl
  have i1 : win0_5.index t 1 = 0 := by simp only [i]; rfl
  rw [i0, i1]
  refine Eq.trans (congrArg _ e) ((out5 m c t _ _).trans ?_)
  simp only [Nat.mul_comm, Nat.zero_mul, Nat.zero_add]

/-- What a point writes of the new mean. -/
theorem out6 (t : Fin cfg0.N) (r : Fin 124) (s : Fin 128) :
    out0_6 (F := Ideal) (iblk m c 0 t) (iblk m c 1 t) (iblk m c 2 t) (iblk m c 3 t) (ix2 r s) = meanE (G m c) (M m c) (124 * t.val + r) s := by
  unfold out0_6
  rw [View.canon_unit_zero hz, View.ld_unit_zero hz3, View.ld_unit_zero hz, pay2_at]
  exact congrArg₂ mean (blk0 m c t 0 r s) (blk2 m c t r s)

/-- The kernel leaves the new mean. -/
theorem result6 : (dats m 0 c).arrAt 6 cfg0.N = fun i : S124x128.Idx => meanE (G m c) (M m c) (i 0).val (i 1).val := by
  refine (dats m 0 c).arrAt_eq_of_covers 6 _ (by decide +kernel) fun t hf y => ?_
  blk_simp
  rw [after0_6]
  have := N1 t
  have a0 : (y 0).val < 124 := (y 0).isLt
  have a1 : (y 1).val < 128 := (y 1).isLt
  have e : y = ix2 ⟨(y 0).val, a0⟩ ⟨(y 1).val, a1⟩ := by funext a; fin_cases a <;> rfl
  have i := idx t
  have i0 : win0_6.index t 0 = t.val := by simp only [i]; rfl
  have i1 : win0_6.index t 1 = 0 := by simp only [i]; rfl
  rw [i0, i1]
  refine Eq.trans (congrArg _ e) ((out6 m c t _ _).trans ?_)
  simp only [Nat.mul_comm, Nat.zero_mul, Nat.zero_add]

/-- What a point writes of the new mean of the squares. -/
theorem out7 (t : Fin cfg0.N) (r : Fin 124) (s : Fin 128) :
    out0_7 (F := Ideal) (iblk m c 0 t) (iblk m c 1 t) (iblk m c 2 t) (iblk m c 3 t) (ix2 r s) = squareE (G m c) (Q m c) (124 * t.val + r) s := by
  unfold out0_7
  rw [View.canon_unit_zero hz, View.ld_unit_zero hz3, View.ld_unit_zero hz, pay3_at]
  exact congrArg₂ square (blk0 m c t 0 r s) (blk3 m c t r s)

/-- The kernel leaves the new mean of the squares. -/
theorem result7 : (dats m 0 c).arrAt 7 cfg0.N = fun i : S124x128.Idx => squareE (G m c) (Q m c) (i 0).val (i 1).val := by
  refine (dats m 0 c).arrAt_eq_of_covers 7 _ (by decide +kernel) fun t hf y => ?_
  blk_simp
  rw [after0_7]
  have := N1 t
  have a0 : (y 0).val < 124 := (y 0).isLt
  have a1 : (y 1).val < 128 := (y 1).isLt
  have e : y = ix2 ⟨(y 0).val, a0⟩ ⟨(y 1).val, a1⟩ := by funext a; fin_cases a <;> rfl
  have i := idx t
  have i0 : win0_7.index t 0 = t.val := by simp only [i]; rfl
  have i1 : win0_7.index t 1 = 0 := by simp only [i]; rfl
  rw [i0, i1]
  refine Eq.trans (congrArg _ e) ((out7 m c t _ _).trans ?_)
  simp only [Nat.mul_comm, Nat.zero_mul, Nat.zero_add]
end Cert.AdamConvIdeal.Prod

namespace Cert.AdamConvRefIdeal.Prod
open Cert.AdamConvRefIdeal Cert.AdamConvRefIdeal.Read Cert.Mat Cert.Adam Cert.AdamConvIdeal.Prod
open Idealize.ShloMosaic Idealize.ShloMosaic.Tactic

variable (x : S1x124x128.Idx → EReal) (w a b : S124x128.Idx → EReal)

/-- The reference's gradient. -/
theorem grad_ref (i : S124x128.Idx) : val_main_v0 (F := Ideal) x i = grad x (i 0).val (i 1).val := by
  have a0 : (i 0).val < 124 := (i 0).isLt
  have a1 : (i 1).val < 128 := (i 1).isLt
  rw [val_main_v0_apply]
  refine pl_of x _ _ _ _ rfl ?_ ?_
  · show ((i 0).val * 128 + (i 1).val) / 128 % 124 = (i 0).val; omega
  · show ((i 0).val * 128 + (i 1).val) % 128 = (i 1).val; omega

/-- The reference's first result is the gradient. -/
theorem result_g : val_main_v0 (F := Ideal) x = fun i : S124x128.Idx => grad x (i 0).val (i 1).val := funext (grad_ref x)

/-- The reference's new mean. -/
theorem result_m : val_main_v5 (F := Ideal) x a = fun i : S124x128.Idx => meanE x a (i 0).val (i 1).val := by
  funext i
  rw [val_main_v5_apply, val_main_v4_apply, val_main_v3_apply, val_main_v2_apply, val_main_v1_apply, grad_ref]
  refine Eq.trans (b := mean (grad x (i 0).val (i 1).val) (a i)) rfl ?_
  exact congrArg (mean _) (el_of a _ _ _ rfl rfl)

/-- The reference's new mean of the squares. -/
theorem result_v : val_main_v11 (F := Ideal) x b = fun i : S124x128.Idx => squareE x b (i 0).val (i 1).val := by
  funext i
  rw [val_main_v11_apply, val_main_v10_apply, val_main_v9_apply, val_main_v8_apply, val_main_v7_apply, val_main_v6_apply, grad_ref]
  refine Eq.trans (b := square (grad x (i 0).val (i 1).val) (b i)) rfl ?_
  exact congrArg (square _) (el_of b _ _ _ rfl rfl)

/-- The reference's change of the weights. -/
theorem result_d : val_main_v24 (F := Ideal) x w a b = fun i : S124x128.Idx => changeE x w a b (i 0).val (i 1).val := by
  funext i
  rw [val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, congrFun (result_m x a) i, congrFun (result_v x b) i]
  unfold changeE change
  rw [← el_of w i _ _ rfl rfl]
  rfl
end Cert.AdamConvRefIdeal.Prod

end
-- ==== Proof.AdamSmall.lean ====
/-
  The step of the small weights: the kernel's results and the reference's hold the same sums over the devices, means and
  changes.
-/
module

public import proofs.«01_k».proof.Proof.Mat
public import proofs.«01_k».proof.Proof.Head
public import proofs.«01_k».proof.Proof.AdamConv
public import Idealize.ShloMosaic.Lib.VecWindow
public import Idealize.ShloMosaic.Lib.WritesUnit
public import Idealize.ShloMosaic.Lib.KernelVsHost
public import proofs.«01_k».proof.Proof.Gen.AdamSmallIdeal.Value
public import proofs.«01_k».proof.Proof.Gen.AdamSmallRefIdeal.Read

@[expose] public section

set_option maxRecDepth 16384
noncomputable section
namespace Cert.AdamSmallIdeal.Prod
open Cert.AdamSmallIdeal Cert.AdamSmallIdeal.Gen Cert.Mat Cert.Adam
open Idealize.ShloMosaic Idealize.ShloMosaic.TcCoe Idealize.ShloMosaic.Tactic
open Idealize.ShloMosaic.Pipeline (Dat)

/-- Which blocks a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N2 (t : Fin cfg0.N) : t.val < 2 := lt_of_lt_of_eq t.isLt (show cfg0.N = 2 from N_0)

theorem hz : (![0, 0] : Fin 2 → ℕ) = fun _ => 0 := by funext a; fin_cases a <;> rfl

variable (m : (ℓ : Loc nD τ sig) → Buf (Elt Ideal) ℓ) (c : Dev nD)

/-- The devices' gradients, as the program is given them. -/
abbrev G : S8x5616x128.Idx → EReal := m ((c : Thread nD τ).loc main_arg0)
/-- The weights, as the program is given them. -/
abbrev W : S5616x128.Idx → EReal := m ((c : Thread nD τ).loc main_arg1)
/-- The moving mean of the gradients, as the program is given it. -/
abbrev M : S5616x128.Idx → EReal := m ((c : Thread nD τ).loc main_arg2)
/-- The moving mean of their squares, as the program is given it. -/
abbrev Q : S5616x128.Idx → EReal := m ((c : Thread nD τ).loc main_arg3)

/-- The sum of the eight devices' gradients. -/
def grad (x : S8x5616x128.Idx → EReal) (r s : ℕ) : EReal :=
  pl x 0 r s + pl x 1 r s + pl x 2 r s + pl x 3 r s + pl x 4 r s + pl x 5 r s + pl x 6 r s + pl x 7 r s
/-- The new mean. -/
def meanE (x : S8x5616x128.Idx → EReal) (a : S5616x128.Idx → EReal) (r s : ℕ) : EReal := mean (grad x r s) (el a r s)
/-- The new mean of the squares. -/
def squareE (x : S8x5616x128.Idx → EReal) (b : S5616x128.Idx → EReal) (r s : ℕ) : EReal := square (grad x r s) (el b r s)
/-- The change. -/
def changeE (x : S8x5616x128.Idx → EReal) (w a b : S5616x128.Idx → EReal) (r s : ℕ) : EReal :=
  change (grad x r s) (el w r s) (el a r s) (el b r s)

/-- The gradients' block. -/
theorem blk0 (t : Fin cfg0.N) (k : Fin 8) (r : Fin 2808) (s : Fin 128) :
    (iblk m c 0 t : S8x2808x128.Idx → EReal) (ix3 k r s) = pl (G m c) k (2808 * t.val + r) s := by
  have := N2 t; have := k.isLt; have := r.isLt; have := s.isLt
  refine Eq.trans ?_ (pl_of (G m c) (ix3 k ⟨2808 * t.val + r.val, by omega⟩ s) _ _ _ rfl rfl rfl)
  blk_ext [iblk, V, idx t]

/-- The weights' block. -/
theorem blk1 (t : Fin cfg0.N) (r : Fin 2808) (s : Fin 128) :
    (iblk m c 1 t : S2808x128.Idx → EReal) (ix2 r s) = el (W m c) (2808 * t.val + r) s := by
  have := N2 t; have := r.isLt; have := s.isLt
  refine Eq.trans ?_ (el_of (W m c) (ix2 ⟨2808 * t.val + r.val, by omega⟩ s) _ _ rfl rfl)
  blk_ext [iblk, V, idx t]

/-- The means' block. -/
theorem blk2 (t : Fin cfg0.N) (r : Fin 2808) (s : Fin 128) :
    (iblk m c 2 t : S2808x128.Idx → EReal) (ix2 r s) = el (M m c) (2808 * t.val + r) s := by
  have := N2 t; have := r.isLt; have := s.isLt
  refine Eq.trans ?_ (el_of (M m c) (ix2 ⟨2808 * t.val + r.val, by omega⟩ s) _ _ rfl rfl)
  blk_ext [iblk, V, idx t]

/-- The squares' block. -/
theorem blk3 (t : Fin cfg0.N) (r : Fin 2808) (s : Fin 128) :
    (iblk m c 3 t : S2808x128.Idx → EReal) (ix2 r s) = el (Q m c) (2808 * t.val + r) s := by
  have := N2 t; have := r.isLt; have := s.isLt
  refine Eq.trans ?_ (el_of (Q m c) (ix2 ⟨2808 * t.val + r.val, by omega⟩ s) _ _ rfl rfl)
  blk_ext [iblk, V, idx t]

/-- A block's sum over the eight devices. -/
theorem pay3_at (v0 v1 v2 v3 v4 v5 v6 v7 : Vec Ideal S1x2808x128 .f32) (r : Fin 2808) (s : Fin 128) :
    k0_pay3 (F := Ideal) v0 v1 v2 v3 v4 v5 v6 v7 (ix2 r s) = v0 (ix3 0 r s) + v1 (ix3 0 r s) + v2 (ix3 0 r s) + v3 (ix3 0 r s) + v4 (ix3 0 r s) + v5 (ix3 0 r s) + v6 (ix3 0 r s) + v7 (ix3 0 r s) := by
  pointwise [k0_pay3]

/-- A block's new means. -/
theorem pay4_at (v0 v1 v2 v3 v4 v5 v6 v7 : Vec Ideal S1x2808x128 .f32) (a : Vec Ideal S2808x128 .f32) (r : Fin 2808) (s : Fin 128) :
    k0_pay4 (F := Ideal) v0 v1 v2 v3 v4 v5 v6 v7 a (ix2 r s) = mean (k0_pay3 (F := Ideal) v0 v1 v2 v3 v4 v5 v6 v7 (ix2 r s)) (a (ix2 r s)) := by
  unfold k0_pay4
  generalize k0_pay3 (F := Ideal) v0 v1 v2 v3 v4 v5 v6 v7 = g
  pointwise [mean]

/-- A block's new means of the squares. -/
theorem pay1_at (g b : Vec Ideal S2808x128 .f32) (r : Fin 2808) (s : Fin 128) :
    k0_pay1 (F := Ideal) g b (ix2 r s) = square (g (ix2 r s)) (b (ix2 r s)) := by
  pointwise [k0_pay1, square]

/-- A block's changes, from the new means. -/
theorem pay2_at (g n b w : Vec Ideal S2808x128 .f32) (y : EReal) (r : Fin 2808) (s : Fin 128)
    (h : n (ix2 r s) = mean (g (ix2 r s)) y) :
    k0_pay2 (F := Ideal) g n b w (ix2 r s) = change (g (ix2 r s)) (w (ix2 r s)) y (b (ix2 r s)) := by
  unfold k0_pay2 change
  rw [← h, ← pay1_at]
  generalize k0_pay1 (F := Ideal) g b = q
  pointwise []

/-- A device's plane of the gradients' block. -/
theorem plane (x : Vec Ideal S8x2808x128 .f32) (k : Fin 8) (h) (r : Fin 2808) (s : Fin 128) :
    View.ld x (Rect.unit (s := S8x2808x128) ![k.val, 0, 0] S1x2808x128.size h) (ix3 0 r s) = x (ix3 k r s) :=
  View.ld_unit_apply_of x _ _ _ _ _ (by intro a; fin_cases a <;> simp)

/-- The sum over the devices, in a point's block. -/
theorem grad_at (t : Fin cfg0.N) (x1 x2 x3 : Vec Ideal S2808x128 .f32) (r : Fin 2808) (s : Fin 128) :
    k0_pay5 (F := Ideal) (iblk m c 0 t) x1 x2 x3 (ix2 r s) = grad (G m c) (2808 * t.val + r) s := by
  unfold k0_pay5 grad
  rw [pay3_at]
  refine congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) ?_ ?_) ?_) ?_) ?_) ?_) ?_) ?_
  · exact (plane _ 0 _ r s).trans (blk0 m c t 0 r s)
  · exact (plane _ 1 _ r s).trans (blk0 m c t 1 r s)
  · exact (plane _ 2 _ r s).trans (blk0 m c t 2 r s)
  · exact (plane _ 3 _ r s).trans (blk0 m c t 3 r s)
  · exact (plane _ 4 _ r s).trans (blk0 m c t 4 r s)
  · exact (plane _ 5 _ r s).trans (blk0 m c t 5 r s)
  · exact (plane _ 6 _ r s).trans (blk0 m c t 6 r s)
  · exact (plane _ 7 _ r s).trans (blk0 m c t 7 r s)

/-- The new means, in a point's block. -/
theorem mean_at (t : Fin cfg0.N) (x1 x3 : Vec Ideal S2808x128 .f32) (r : Fin 2808) (s : Fin 128) :
    k0_pay6 (F := Ideal) (iblk m c 0 t) x1 (iblk m c 2 t) x3 (ix2 r s) = mean (grad (G m c) (2808 * t.val + r) s) (el (M m c) (2808 * t.val + r) s) := by
  unfold k0_pay6
  rw [View.ld_unit_zero hz, pay4_at]
  exact congrArg₂ mean (grad_at m c t x1 x1 x3 r s) (blk2 m c t r s)

/-- What a point writes of the sum of the gradients. -/
theorem out4 (t : Fin cfg0.N) (r : Fin 2808) (s : Fin 128) :
    out0_4 (F := Ideal) (iblk m c 0 t) (iblk m c 1 t) (iblk m c 2 t) (iblk m c 3 t) (ix2 r s) = grad (G m c) (2808 * t.val + r) s := by
  unfold out0_4
  rw [View.canon_unit_zero hz]
  exact grad_at m c t _ _ _ r s

/-- The kernel leaves the sum of the gradients. -/
theorem result4 : (dats m 0 c).arrAt 4 cfg0.N = fun i : S5616x128.Idx => grad (G m c) (i 0).val (i 1).val := by
  refine (dats m 0 c).arrAt_eq_of_covers 4 _ (by decide +kernel) fun t hf y => ?_
  blk_simp
  rw [after0_4]
  have := N2 t
  have a0 : (y 0).val < 2808 := (y 0).isLt
  have a1 : (y 1).val < 128 := (y 1).isLt
  have e : y = ix2 ⟨(y 0).val, a0⟩ ⟨(y 1).val, a1⟩ := by funext a; fin_cases a <;> rfl
  have i := idx t
  have i0 : win0_4.index t 0 = t.val := by simp only [i]; rfl
  have i1 : win0_4.index t 1 = 0 := by simp only [i]; rfl
  rw [i0, i1]
  refine Eq.trans (congrArg _ e) ((out4 m c t _ _).trans ?_)
  simp only [Nat.mul_comm, Nat.zero_mul, Nat.zero_add]

/-- What a point writes of the weights' change. -/
theorem out5 (t : Fin cfg0.N) (r : Fin 2808) (s : Fin 128) :
    out0_5 (F := Ideal) (iblk m c 0 t) (iblk m c 1 t) (iblk m c 2 t) (iblk m c 3 t) (ix2 r s) = changeE (G m c) (W m c) (M m c) (Q m c) (2808 * t.val + r) s := by
  unfold out0_5
  rw [View.canon_unit_zero hz, View.ld_unit_zero hz, View.ld_unit_zero hz]
  refine (pay2_at _ _ _ _ (el (M m c) (2808 * t.val + r) s) r s ?_).trans ?_
  · exact (mean_at m c t _ _ r s).trans (congrArg (fun v : EReal => mean v _) (grad_at m c t _ _ _ r s).symm)
  · exact congr (congrFun (congrArg₂ change (grad_at m c t _ _ _ r s) (blk1 m c t r s)) _) (blk3 m c t r s)

/-- The kernel leaves the weights' change. -/
theorem result5 : (dats m 0 c).arrAt 5 cfg0.N = fun i : S5616x128.Idx => changeE (G m c) (W m c) (M m c) (Q m c) (i 0).val (i 1).val := by
  refine (dats m 0 c).arrAt_eq_of_covers 5 _ (by decide +kernel) fun t hf y => ?_
  blk_simp
  rw [after0_5]
  have := N2 t
  have a0 : (y 0).val < 2808 := (y 0).isLt
  have a1 : (y 1).val < 128 := (y 1).isLt
  have e : y = ix2 ⟨(y 0).val, a0⟩ ⟨(y 1).val, a1⟩ := by funext a; fin_cases a <;> rfl
  have i := idx t
  have i0 : win0_5.index t 0 = t.val := by simp only [i]; rfl
  have i1 : win0_5.index t 1 = 0 := by simp only [i]; rfl
  rw [i0, i1]
  refine Eq.trans (congrArg _ e) ((out5 m c t _ _).trans ?_)
  simp only [Nat.mul_comm, Nat.zero_mul, Nat.zero_add]

/-- What a point writes of the new mean. -/
theorem out6 (t : Fin cfg0.N) (r : Fin 2808) (s : Fin 128) :
    out0_6 (F := Ideal) (iblk m c 0 t) (iblk m c 1 t) (iblk m c 2 t) (iblk m c 3 t) (ix2 r s) = meanE (G m c) (M m c) (2808 * t.val + r) s := by
  unfold out0_6
  rw [View.canon_unit_zero hz]
  exact mean_at m c t _ _ r s

/-- The kernel leaves the new mean. -/
theorem result6 : (dats m 0 c).arrAt 6 cfg0.N = fun i : S5616x128.Idx => meanE (G m c) (M m c) (i 0).val (i 1).val := by
  refine (dats m 0 c).arrAt_eq_of_covers 6 _ (by decide +kernel) fun t hf y => ?_
  blk_simp
  rw [after0_6]
  have := N2 t
  have a0 : (y 0).val < 2808 := (y 0).isLt
  have a1 : (y 1).val < 128 := (y 1).isLt
  have e : y = ix2 ⟨(y 0).val, a0⟩ ⟨(y 1).val, a1⟩ := by funext a; fin_cases a <;> rfl
  have i := idx t
  have i0 : win0_6.index t 0 = t.val := by simp only [i]; rfl
  have i1 : win0_6.index t 1 = 0 := by simp only [i]; rfl
  rw [i0, i1]
  refine Eq.trans (congrArg _ e) ((out6 m c t _ _).trans ?_)
  simp only [Nat.mul_comm, Nat.zero_mul, Nat.zero_add]

/-- What a point writes of the new mean of the squares. -/
theorem out7 (t : Fin cfg0.N) (r : Fin 2808) (s : Fin 128) :
    out0_7 (F := Ideal) (iblk m c 0 t) (iblk m c 1 t) (iblk m c 2 t) (iblk m c 3 t) (ix2 r s) = squareE (G m c) (Q m c) (2808 * t.val + r) s := by
  unfold out0_7
  rw [View.canon_unit_zero hz, View.ld_unit_zero hz, pay1_at]
  exact congrArg₂ square (grad_at m c t _ _ _ r s) (blk3 m c t r s)

/-- The kernel leaves the new mean of the squares. -/
theorem result7 : (dats m 0 c).arrAt 7 cfg0.N = fun i : S5616x128.Idx => squareE (G m c) (Q m c) (i 0).val (i 1).val := by
  refine (dats m 0 c).arrAt_eq_of_covers 7 _ (by decide +kernel) fun t hf y => ?_
  blk_simp
  rw [after0_7]
  have := N2 t
  have a0 : (y 0).val < 2808 := (y 0).isLt
  have a1 : (y 1).val < 128 := (y 1).isLt
  have e : y = ix2 ⟨(y 0).val, a0⟩ ⟨(y 1).val, a1⟩ := by funext a; fin_cases a <;> rfl
  have i := idx t
  have i0 : win0_7.index t 0 = t.val := by simp only [i]; rfl
  have i1 : win0_7.index t 1 = 0 := by simp only [i]; rfl
  rw [i0, i1]
  refine Eq.trans (congrArg _ e) ((out7 m c t _ _).trans ?_)
  simp only [Nat.mul_comm, Nat.zero_mul, Nat.zero_add]
end Cert.AdamSmallIdeal.Prod

namespace Cert.AdamSmallRefIdeal.Prod
open Cert.AdamSmallRefIdeal Cert.AdamSmallRefIdeal.Read Cert.Mat Cert.Adam Cert.AdamSmallIdeal.Prod
open Idealize.ShloMosaic Idealize.ShloMosaic.Tactic

variable (x : S8x5616x128.Idx → EReal) (w a b : S5616x128.Idx → EReal)

/-- The reference's sum of the gradients. -/
theorem grad_ref (i : S5616x128.Idx) : val_main_v0 (F := Ideal) x i = grad x (i 0).val (i 1).val := by
  have h0 : ∀ q, val_main_cst (F := Ideal) q = (0 : EReal) := by intro q; pointwise [val_main_cst]
  have e : ∀ k : Fin 8, x (idx_main_v0 i k) = pl x k (i 0).val (i 1).val := fun k => pl_of x _ _ _ _ rfl rfl rfl
  rw [val_main_v0_apply, h0, zero_add, Fin.sum_univ_eight]
  simp only [e]
  rfl

/-- The reference's first result is the gradient. -/
theorem result_g : val_main_v0 (F := Ideal) x = fun i : S5616x128.Idx => grad x (i 0).val (i 1).val := funext (grad_ref x)

/-- The reference's new mean. -/
theorem result_m : val_main_v5 (F := Ideal) x a = fun i : S5616x128.Idx => meanE x a (i 0).val (i 1).val := by
  funext i
  rw [val_main_v5_apply, val_main_v4_apply, val_main_v3_apply, val_main_v2_apply, val_main_v1_apply, grad_ref]
  refine Eq.trans (b := mean (grad x (i 0).val (i 1).val) (a i)) rfl ?_
  exact congrArg (mean _) (el_of a _ _ _ rfl rfl)

/-- The reference's new mean of the squares. -/
theorem result_v : val_main_v11 (F := Ideal) x b = fun i : S5616x128.Idx => squareE x b (i 0).val (i 1).val := by
  funext i
  rw [val_main_v11_apply, val_main_v10_apply, val_main_v9_apply, val_main_v8_apply, val_main_v7_apply, val_main_v6_apply, grad_ref]
  refine Eq.trans (b := square (grad x (i 0).val (i 1).val) (b i)) rfl ?_
  exact congrArg (square _) (el_of b _ _ _ rfl rfl)

/-- The reference's change of the weights. -/
theorem result_d : val_main_v24 (F := Ideal) x w a b = fun i : S5616x128.Idx => changeE x w a b (i 0).val (i 1).val := by
  funext i
  rw [val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, congrFun (result_m x a) i, congrFun (result_v x b) i]
  unfold changeE change
  rw [← el_of w i _ _ rfl rfl]
  rfl
end Cert.AdamSmallRefIdeal.Prod

end
-- ==== Proof.NormBwd.lean ====
/-
  The gradients of the normalization: the kernel's way to write a row's gradient and the reference's are one number,
  and both sum the weights' gradient over the rows.
-/
module

public import proofs.«01_k».proof.Proof.Mat
public import proofs.«01_k».proof.Proof.Head
public import Idealize.ShloMosaic.Lib.VecWindow
public import Idealize.ShloMosaic.Lib.WritesUnit
public import Idealize.ShloMosaic.Lib.KernelVsHost
public import proofs.«01_k».proof.Proof.Gen.NormBwdIdeal.Value
public import proofs.«01_k».proof.Proof.Gen.NormBwdRefIdeal.Read

@[expose] public section

set_option maxRecDepth 16384
noncomputable section
namespace Cert.NormGrad
open Idealize.ShloMosaic

/-- The length of a row. -/
theorem len : Ideal.ofBits .f32 0x45000000#32 = ((2048 : ℝ) : EReal) := by
  simp [Ideal.ofBits, Ideal.ieee, -EReal.coe_mul]; norm_num

/-- The half the reference takes of the root's derivative. -/
theorem half : Ideal.ofBits .f32 0xBF000000#32 = ((-(1 / 2) : ℝ) : EReal) := by
  simp [Ideal.ofBits, Ideal.ieee, -EReal.coe_mul]; norm_num

/-- What is added to the mean square is a positive number. -/
theorem eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- A square is not negative. -/
theorem sq_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- A number taken out of a sum. -/
theorem sum_mul_real {n : ℕ} (f : Fin n → EReal) (r : ℝ) (h : 0 ≤ r) : ∑ k, f k * (r : EReal) = (∑ k, f k) * (r : EReal) := by
  have key : ∀ s : Finset (Fin n), ∑ k ∈ s, f k * (r : EReal) = (∑ k ∈ s, f k) * (r : EReal) := by
    intro s
    induction s using Finset.induction_on with
    | empty => simp
    | insert a s ha ih =>
      rw [Finset.sum_insert ha, Finset.sum_insert ha, ih,
        EReal.right_distrib_of_nonneg_of_ne_top (by exact_mod_cast h) (EReal.coe_ne_top r)]
  exact key _

/-- Twice a number's half of a product, as one product. -/
theorem mul_twice (z : EReal) (b : ℝ) : z * (b : EReal) + z * (b : EReal) = z * ((2 * b : ℝ) : EReal) := by
  induction z with
  | bot =>
    rcases lt_trichotomy b 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy b 0 with h | h | h
    · rw [EReal.top_mul_coe_of_neg h, EReal.top_mul_coe_of_neg (by linarith)]; rfl
    · subst h; simp
    · rw [EReal.top_mul_coe_of_pos h, EReal.top_mul_coe_of_pos (by linarith)]; rfl
  | coe r => rw [← EReal.coe_mul, ← EReal.coe_add, ← EReal.coe_mul]; congr 1; ring

/-- The mean square and the small number. -/
def vari (s : EReal) : EReal := Ideal.div s (Ideal.ofBits .f32 0x45000000#32) + Ideal.ofBits .f32 0x358637BD#32

/-- It is infinite, or a positive number. -/
theorem vari_cases (s : EReal) (h : 0 ≤ s) : vari s = ⊤ ∨ ∃ v : ℝ, 0 < v ∧ vari s = (v : EReal) := by
  obtain ⟨e, he, q⟩ := eps
  unfold vari
  rw [len, q, Ideal.div_coe (by norm_num)]
  induction s with
  | bot => exact absurd h (by simp)
  | top =>
    left
    rw [EReal.top_mul_coe_of_pos (by norm_num)]
    exact EReal.top_add_coe e
  | coe r =>
    right
    have h' : 0 ≤ r := by exact_mod_cast h
    refine ⟨r * (1 / 2048) + e, by positivity, ?_⟩
    rw [← EReal.coe_mul, ← EReal.coe_add]

/-- The row's gradient as the kernel writes it: `a` the entry, `b` its weighted gradient, `d` the gradient which goes
    past the normalization, `v` the mean square, `q` the sum the row needs. -/
def ker (a b d v q : EReal) : EReal :=
  d + Ideal.rsqrt v * (b - a * Ideal.rsqrt v * Ideal.div q (Ideal.ofBits .f32 0x45000000#32))

/-- What the reference multiplies the entry by. -/
def coef (v q : EReal) : EReal :=
  Ideal.div (q * (Ideal.ofBits .f32 0xBF000000#32 * Ideal.div (Ideal.rsqrt v) v)) (Ideal.ofBits .f32 0x45000000#32)

/-- The row's gradient as the reference writes it. -/
def ref (a b d v q : EReal) : EReal := d + b * Ideal.rsqrt v + a * coef v q + coef v q * a

/-- Both are one number. -/
theorem ker_eq {n : ℕ} (a b d s : EReal) (x c : Fin n → EReal) (h : 0 ≤ s) :
    ker a b d (vari s) (∑ k, c k * (x k * Ideal.rsqrt (vari s))) = ref a b d (vari s) (∑ k, x k * c k) := by
  unfold ker ref coef
  rw [len, half]
  rcases vari_cases s h with q | ⟨v, hv, q⟩
  · rw [q, Ideal.rsqrt_top]
    have z : Ideal.div 0 ⊤ = 0 := by rw [Ideal.div, if_neg (by simp), zero_mul]
    have z' : Ideal.div 0 ((2048 : ℝ) : EReal) = 0 := by rw [Ideal.div_coe (by norm_num), zero_mul]
    simp only [z, z', mul_zero, zero_mul, add_zero]
  · have hs : 0 < Real.sqrt v := Real.sqrt_pos.mpr hv
    set r : ℝ := (Real.sqrt v)⁻¹ with hr
    have r0 : 0 < r := inv_pos.mpr hs
    have rr : Ideal.rsqrt (v : EReal) = (r : EReal) := by
      rw [Ideal.rsqrt_coe, if_neg (not_lt.mpr hv.le), if_neg hv.ne']
    have rv : r * r = 1 / v := by
      rw [hr, ← mul_inv, Real.mul_self_sqrt hv.le, one_div]
    rw [q, rr, Ideal.div_coe hv.ne', Ideal.div_coe (by norm_num), Ideal.div_coe (by norm_num)]
    have e1 : ∑ k, c k * (x k * (r : EReal)) = (∑ k, x k * c k) * (r : EReal) := by
      rw [← sum_mul_real _ r r0.le]
      exact Finset.sum_congr rfl fun k _ => by rw [← mul_assoc, mul_comm (c k)]
    rw [e1]
    generalize ∑ k, x k * c k = S
    have e2 : (r : EReal) * (b - a * r * (S * r * ((1 / 2048 : ℝ) : EReal)))
        = b * (r : EReal) + a * S * ((-(r * r * r * (1 / 2048)) : ℝ) : EReal) := by
      rw [sub_eq_add_neg, EReal.left_distrib_of_nonneg_of_ne_top (by exact_mod_cast r0.le) (EReal.coe_ne_top r), mul_comm (r : EReal) b,
        mul_neg, EReal.coe_neg, mul_neg]
      congr 2
      rw [EReal.coe_mul, EReal.coe_mul, EReal.coe_mul]
      ac_rfl
    have e3 : S * (((-(1 / 2) : ℝ) : EReal) * ((r : EReal) * ((1 / v : ℝ) : EReal))) * ((1 / 2048 : ℝ) : EReal)
        = S * ((-(1 / 2) * (r * (1 / v)) * (1 / 2048) : ℝ) : EReal) := by
      rw [← EReal.coe_mul, ← EReal.coe_mul, mul_assoc, ← EReal.coe_mul]
    rw [e2, e3, mul_comm (S * _) a, ← mul_assoc, add_assoc (d + _), mul_twice, ← add_assoc]
    congr 3
    rw [← rv]
    ring
end Cert.NormGrad

namespace Cert.NormBwdIdeal.Prod
open Cert.NormBwdIdeal Cert.NormBwdIdeal.Gen Cert.Mat Cert.NormGrad
open Idealize.ShloMosaic Idealize.ShloMosaic.TcCoe Idealize.ShloMosaic.Tactic
open Idealize.ShloMosaic.Pipeline (Dat)
open Finset (range)

/-- Which blocks a point reads and writes. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem N32 (t : Fin cfg0.N) : t.val < 32 := lt_of_lt_of_eq t.isLt (show cfg0.N = 32 from N_0)

/-- The root's reciprocal of a block's row. -/
def root (x : Vec Ideal S256x2048 .f32) (r : Fin 256) : EReal := Ideal.rsqrt (vari (∑ k : Fin 2048, x (ix2 r k) * x (ix2 r k)))

/-- A row by its root. -/
theorem pay2_at (x : Vec Ideal S256x2048 .f32) (r : Fin 256) (s : Fin 2048) :
    k0_pay2 (F := Ideal) x (ix2 r s) = x (ix2 r s) * root x r := by
  pointwise [k0_pay2, k0_pay1, root, vari]

/-- A block's gradient. -/
theorem pay3_at (x h : Vec Ideal S256x2048 .f32) (g : Vec Ideal S1x2048 .f32) (d : Vec Ideal S256x2048 .f32) (r : Fin 256) (s : Fin 2048) :
    k0_pay3 (F := Ideal) x h g d (ix2 r s) = ker (x (ix2 r s)) (h (ix2 r s) * g (ix2 0 s)) (d (ix2 r s))
      (vari (∑ k : Fin 2048, x (ix2 r k) * x (ix2 r k))) (∑ k : Fin 2048, h (ix2 r k) * g (ix2 0 k) * (x (ix2 r k) * root x r)) := by
  pointwise [k0_pay3, k0_pay2, k0_pay1, ker, root, vari]

/-- The stored zeros. -/
theorem pay4_at (r : Fin 8) (s : Fin 2048) : (k0_pay4 (F := Ideal)) (ix2 r s) = 0 := by
  pointwise [k0_pay4]

/-- The weights' gradient of a block is added to the accumulator. -/
theorem pay5_at (x h : Vec Ideal S256x2048 .f32) (a : Vec Ideal S1x2048 .f32) (s : Fin 2048) :
    k0_pay5 (F := Ideal) x h a (ix2 0 s) = a (ix2 0 s) + ∑ k : Fin 256, h (ix2 k s) * (x (ix2 k s) * root x k) := by
  refine Eq.trans (b := a (ix2 0 s) + ∑ k : Fin 256, h (ix2 k s) * k0_pay2 (F := Ideal) x (ix2 k s)) ?_
    (congrArg (fun v : EReal => a (ix2 0 s) + v) (Finset.sum_congr rfl fun k _ => congrArg (fun v : EReal => h (ix2 k s) * v) (pay2_at x k s)))
  generalize hp : k0_pay2 (F := Ideal) x = p
  pointwise [k0_pay5]
  rw [hp]

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S8x2048 .f32) (harg6 : arg6.IsWhole)
    (x0 x1 x2 : Vec Ideal S256x2048 .f32) (x3 : Vec Ideal S1x2048 .f32) (xo5 : Vec Ideal S8x2048 .f32)

/-- The first point writes its block's gradient out, … -/
theorem dxA (hc0 : cond0_0 i) : out0_A_4 c i arg1 harg1 arg2 harg2 arg3 harg3 arg4 harg4 arg5 harg5 arg6 harg6 hc0 x0 x1 x2 x3 = k0_pay3 x0 x1 x3 x2 := by
  unfold out0_A_4 kernelRun0_A
  dsimp only
  sl_unfold_words
  rw [View.read_writes_full]
  rw [View.readAt_full, View.readAt_full, View.readAt_full, View.readAt_full, harg1.read_unread, harg2.read_unread, harg3.read_unread, harg4.read_unread]

/-- … and so does every other one. -/
theorem dxB (hc0 : ¬cond0_0 i) : out0_B_4 c i arg1 harg1 arg2 harg2 arg3 harg3 arg4 harg4 arg5 harg5 arg6 harg6 hc0 x0 x1 x2 x3 xo5 = k0_pay3 x0 x1 x3 x2 := by
  unfold out0_B_4 kernelRun0_B
  dsimp only
  sl_unfold_words
  rw [View.read_writes_full]
  rw [View.readAt_full, View.readAt_full, View.readAt_full, View.readAt_full, harg1.read_unread, harg2.read_unread, harg3.read_unread, harg4.read_unread]

/-- The first point leaves its block's sums in the first row, and zeros below. -/
theorem dgA (hc0 : cond0_0 i) (r : Fin 8) (s : Fin 2048) : out0_A_5 c i arg1 harg1 arg2 harg2 arg3 harg3 arg4 harg4 arg5 harg5 arg6 harg6 hc0 x0 x1 x2 x3 (ix2 r s)
    = if r.val = 0 then ∑ k : Fin 256, x1 (ix2 k s) * (x0 (ix2 k s) * root x0 k) else 0 := by
  unfold out0_A_5 kernelRun0_A
  dsimp only
  sl_unfold_words
  by_cases e : r.val = 0
  · rw [if_pos e]
    refine (View.read_writes_cons_rows_of_mem VO0_5 _ inb_S8x2048_S1x2048_0_0 _ _ (ix2 r s) (ix2 (0 : Fin 1) s) (o := 0) rfl
      (by show r.val = 0 + 0; omega) rfl).trans ?_
    refine (pay5_at _ _ _ s).trans ?_
    rw [View.readAt_full, View.readAt_full, harg1.read_unread, harg2.read_unread]
    refine (congrArg (fun v : EReal => v + _) ?_).trans (zero_add _)
    refine Eq.trans (congrFun (View.read_writes_full arg6.view _ inb_S8x2048_S8x2048_0_0 _ _) _) (pay4_at 0 s)
  · rw [if_neg e]
    refine (View.read_writes_cons_rows_of_not_mem VO0_5 _ inb_S8x2048_S1x2048_0_0 _ _ (ix2 r s) (o := 0) (W := 1) rfl rfl
      (by show r.val < 0 ∨ 0 + 1 ≤ r.val; omega)).trans ?_
    rw [View.read_writes_full]
    exact pay4_at r s

/-- Every other point adds its block's sums to the first row. -/
theorem dgB (hc0 : ¬cond0_0 i) (r : Fin 8) (s : Fin 2048) : out0_B_5 c i arg1 harg1 arg2 harg2 arg3 harg3 arg4 harg4 arg5 harg5 arg6 harg6 hc0 x0 x1 x2 x3 xo5 (ix2 r s)
    = xo5 (ix2 r s) + if r.val = 0 then ∑ k : Fin 256, x1 (ix2 k s) * (x0 (ix2 k s) * root x0 k) else 0 := by
  unfold out0_B_5 kernelRun0_B
  dsimp only
  sl_unfold_words
  by_cases e : r.val = 0
  · rw [if_pos e]
    refine (View.read_writes_cons_rows_of_mem arg6.view _ inb_S8x2048_S1x2048_0_0 _ _ (ix2 r s) (ix2 (0 : Fin 1) s) (o := 0) rfl
      (by show r.val = 0 + 0; omega) rfl).trans ?_
    refine (pay5_at _ _ _ s).trans ?_
    rw [View.readAt_full, View.readAt_full, harg1.read_unread, harg2.read_unread]
    refine congrArg (fun v : EReal => v + _) ?_
    refine Eq.trans ?_ (congrFun (harg6.read_unread xo5) (ix2 r s))
    refine congrArg (arg6.view.read (Elt Ideal) (harg6.unread xo5)) (funext fun a => Fin.ext ?_)
    match a with
    | ⟨0, _⟩ => show 0 + 1 * 0 = r.val; omega
    | ⟨1, _⟩ => show 0 + 1 * s.val = s.val; omega
  · rw [if_neg e, add_zero]
    refine (View.read_writes_cons_rows_of_not_mem arg6.view _ inb_S8x2048_S1x2048_0_0 _ _ (ix2 r s) (o := 0) (W := 1) rfl rfl
      (by show r.val < 0 ∨ 0 + 1 ≤ r.val; omega)).trans ?_
    exact congrFun (harg6.read_unread xo5) (ix2 r s)
end

variable (m : (ℓ : Loc nD τ sig) → Buf (Elt Ideal) ℓ) (c : Dev nD)

/-- The layer's input, as the program is given it. -/
abbrev X : S8192x2048.Idx → EReal := m ((c : Thread nD τ).loc main_arg0)
/-- The gradient of the normalized input, as the program is given it. -/
abbrev H : S8192x2048.Idx → EReal := m ((c : Thread nD τ).loc main_arg1)
/-- The gradient which goes past the normalization, as the program is given it. -/
abbrev D : S8192x2048.Idx → EReal := m ((c : Thread nD τ).loc main_arg2)
/-- The weights, as the program is given them. -/
abbrev G : S1x2048.Idx → EReal := m ((c : Thread nD τ).loc main_arg3)

/-- The input's block. -/
theorem blk0 (t : Fin cfg0.N) (r : Fin 256) (k : Fin 2048) :
    (iblk m c 0 t : S256x2048.Idx → EReal) (ix2 r k) = el (X m c) (256 * t.val + r) k := by
  have := N32 t; have := k.isLt; have := r.isLt
  refine Eq.trans ?_ (el_of (X m c) (ix2 ⟨256 * t.val + r.val, by omega⟩ k) _ _ rfl rfl)
  blk_ext [iblk, V, idx t]

/-- The block of the normalized input's gradient. -/
theorem blk1 (t : Fin cfg0.N) (r : Fin 256) (k : Fin 2048) :
    (iblk m c 1 t : S256x2048.Idx → EReal) (ix2 r k) = el (H m c) (256 * t.val + r) k := by
  have := N32 t; have := k.isLt; have := r.isLt
  refine Eq.trans ?_ (el_of (H m c) (ix2 ⟨256 * t.val + r.val, by omega⟩ k) _ _ rfl rfl)
  blk_ext [iblk, V, idx t]

/-- The block of the gradient which goes past the normalization. -/
theorem blk2 (t : Fin cfg0.N) (r : Fin 256) (k : Fin 2048) :
    (iblk m c 2 t : S256x2048.Idx → EReal) (ix2 r k) = el (D m c) (256 * t.val + r) k := by
  have := N32 t; have := k.isLt; have := r.isLt
  refine Eq.trans ?_ (el_of (D m c) (ix2 ⟨256 * t.val + r.val, by omega⟩ k) _ _ rfl rfl)
  blk_ext [iblk, V, idx t]

/-- The weights' block. -/
theorem blk3 (t : Fin cfg0.N) (k : Fin 2048) : (iblk m c 3 t : S1x2048.Idx → EReal) (ix2 0 k) = el (G m c) 0 k := by
  have := N32 t; have := k.isLt
  refine Eq.trans ?_ (el_of (G m c) (ix2 0 k) _ _ rfl rfl)
  blk_ext [iblk, V, idx t]

/-- The sum of a row's squares. -/
def sq (x : S8192x2048.Idx → EReal) (r : ℕ) : EReal := ∑ k : Fin 2048, el x r k * el x r k

/-- It is not negative. -/
theorem sq_pos (x : S8192x2048.Idx → EReal) (r : ℕ) : 0 ≤ sq x r := Finset.sum_nonneg fun k _ => sq_nonneg _

/-- An entry of the input's gradient. -/
def dx (x h d : S8192x2048.Idx → EReal) (g : S1x2048.Idx → EReal) (r q : ℕ) : EReal :=
  ref (el x r q) (el h r q * el g 0 q) (el d r q) (vari (sq x r)) (∑ k : Fin 2048, el x r k * (el h r k * el g 0 k))

/-- What a row adds to an entry of the weights' gradient. -/
def dg (x h : S8192x2048.Idx → EReal) (r q : ℕ) : EReal := el h r q * (el x r q * Ideal.rsqrt (vari (sq x r)))

/-- A block's roots. -/
theorem root_at (t : Fin cfg0.N) (r : Fin 256) : root (iblk m c 0 t) r = Ideal.rsqrt (vari (sq (X m c) (256 * t.val + r))) :=
  congrArg (fun v : EReal => Ideal.rsqrt (vari v)) (Finset.sum_congr rfl fun k _ => congrArg (fun v : EReal => v * v) (blk0 m c t r k))

/-- A point's block of the input's gradient. -/
theorem dx_at (t : Fin cfg0.N) (r : Fin 256) (s : Fin 2048) :
    k0_pay3 (F := Ideal) (iblk m c 0 t) (iblk m c 1 t) (iblk m c 3 t) (iblk m c 2 t) (ix2 r s)
      = dx (X m c) (H m c) (D m c) (G m c) (256 * t.val + r) s := by
  refine (pay3_at _ _ _ _ r s).trans (Eq.trans ?_ (ker_eq _ _ _ _ (fun k : Fin 2048 => el (X m c) (256 * t.val + r) k)
    (fun k : Fin 2048 => el (H m c) (256 * t.val + r) k * el (G m c) 0 k) (sq_pos (X m c) (256 * t.val + r))))
  rw [blk0 m c t r s, blk1 m c t r s, blk2 m c t r s, blk3 m c t s, root_at m c t r]
  refine congrArg₂ (ker _ _ _) ?_ ?_
  · exact congrArg vari (Finset.sum_congr rfl fun k _ => congrArg (fun v : EReal => v * v) (blk0 m c t r k))
  · refine Finset.sum_congr rfl fun k _ => congrArg₂ (fun a b : EReal => a * b) (congrArg₂ (fun a b : EReal => a * b) (blk1 m c t r k) (blk3 m c t k)) ?_
    exact congrArg (fun a : EReal => a * Ideal.rsqrt _) (blk0 m c t r k)

/-- What a row below the first one adds is zero. -/
def term (x h : S8192x2048.Idx → EReal) (r q k : ℕ) : EReal := if r = 0 then dg x h k q else 0

/-- A block's sums, term by term. -/
theorem sums_at (t : Fin cfg0.N) (r : Fin 8) (s : Fin 2048) :
    (if r.val = 0 then ∑ k : Fin 256, (show EReal from (iblk m c 1 t : S256x2048.Idx → EReal) (ix2 k s)) * ((show EReal from (iblk m c 0 t : S256x2048.Idx → EReal) (ix2 k s)) * root (iblk m c 0 t) k) else (0 : EReal))
      = ∑ k ∈ range 256, term (X m c) (H m c) r s (256 * t.val + k) := by
  rw [Finset.sum_range]
  unfold term
  by_cases e : r.val = 0
  · simp only [if_pos e]
    exact Finset.sum_congr rfl fun k _ => congrArg₂ (fun a b : EReal => a * b) (blk1 m c t k s)
      (congrArg₂ (fun a b : EReal => a * b) (blk0 m c t k s) (root_at m c t k))
  · simp only [if_neg e, Finset.sum_const_zero]

/-- The accumulator after every point: the rows so far. -/
theorem acc (n : ℕ) (h : n < cfg0.N) (r : Fin 8) (s : Fin 2048) : (outsAt0 m c n h).2 (ix2 r s)
    = ∑ k ∈ range (256 * (n % 32 + 1)), term (X m c) (H m c) r s k := by
  have key := acc_eq cfg0.N 32 256 (fun n h (p : Fin 8 × Fin 2048) => (outsAt0 m c n h).2 (ix2 p.1 p.2))
    (fun n p k => term (X m c) (H m c) p.1 p.2 k) ?_ ?_ (fun _ _ _ _ => rfl) (by omega) n h (r, s)
  · exact key
  · intro n h p e
    have q := outsAt0_A m c ⟨n, h⟩ e
    have b := N32 ⟨n, h⟩
    dsimp only at q b ⊢
    rw [q]
    dsimp only
    rw [dgA, sums_at]
    dsimp only
    rw [show n = 0 by omega]
    simp only [Nat.mul_zero, Nat.zero_add]
  · intro n h p e
    have q := outsAt0_B m c ⟨n, h⟩ e
    have b := N32 ⟨n, h⟩
    dsimp only at q b ⊢
    rw [q]
    dsimp only
    rw [dgB, sums_at]
    dsimp only
    rw [show n % 32 = n by omega]

/-- Every point writes its block's gradient out. -/
theorem dxs (t : Fin cfg0.N) : (outsAt0 m c t.val t.isLt).1 = k0_pay3 (F := Ideal) (iblk m c 0 t) (iblk m c 1 t) (iblk m c 3 t) (iblk m c 2 t) := by
  by_cases h0 : t.val % 32 = 0
  · rw [outsAt0_A m c t h0]; dsimp only; rw [dxA]
  · rw [outsAt0_B m c t h0]; dsimp only; rw [dxB]

/-- The kernel's first result is the gradient of the input. -/
theorem result4 : (dats m 0 c).arrAt 4 cfg0.N = fun i : S8192x2048.Idx => dx (X m c) (H m c) (D m c) (G m c) (i 0).val (i 1).val := by
  refine (dats m 0 c).arrAt_eq_of_covers 4 _ (by decide +kernel) fun t hf y => ?_
  blk_simp
  rw [after0_4]
  have := N32 t
  have a0 : (y 0).val < 256 := (y 0).isLt
  have a1 : (y 1).val < 2048 := (y 1).isLt
  have e : y = ix2 ⟨(y 0).val, a0⟩ ⟨(y 1).val, a1⟩ := by funext a; fin_cases a <;> rfl
  have i := idx t
  have i0 : win0_4.index t 0 = t.val := by simp only [i]; rfl
  have i1 : win0_4.index t 1 = 0 := by simp only [i]; rfl
  rw [i0, i1]
  refine Eq.trans (congrFun (dxs m c t) y) (Eq.trans (congrArg _ e) ((dx_at m c t _ _).trans ?_))
  simp only [Nat.mul_comm, Nat.zero_mul, Nat.zero_add]

theorem flush5 : ∀ t : Fin cfg0.N, (cfg0.win 5).flush t = true → t.val % 32 = 31 :=
  (by decide +kernel : ∀ t : Fin grid0.N, _)

/-- The kernel's second result holds the gradient of the weights in its first row. -/
theorem result5 : (dats m 0 c).arrAt 5 cfg0.N = fun i : S8x2048.Idx => ∑ k ∈ range 8192, term (X m c) (H m c) (i 0).val (i 1).val k := by
  refine (dats m 0 c).arrAt_eq_of_covers 5 _ (by decide +kernel) fun t hf y => ?_
  blk_simp
  rw [after0_5]
  have h1 := flush5 t hf
  have a0 : (y 0).val < 8 := (y 0).isLt
  have a1 : (y 1).val < 2048 := (y 1).isLt
  have e : y = ix2 ⟨(y 0).val, a0⟩ ⟨(y 1).val, a1⟩ := by funext a; fin_cases a <;> rfl
  have h := acc m c t.val t.isLt ⟨(y 0).val, a0⟩ ⟨(y 1).val, a1⟩
  have i := idx t
  have i0 : win0_5.index t 0 = 0 := by simp only [i]; rfl
  have i1 : win0_5.index t 1 = 0 := by simp only [i]; rfl
  rw [i0, i1]
  refine Eq.trans (congrArg _ e) (h.trans ?_)
  rw [h1]
  simp only [Nat.mul_zero, Nat.zero_mul, Nat.zero_add, Nat.add_zero]
end Cert.NormBwdIdeal.Prod

namespace Cert.NormBwdRefIdeal.Prod
open Cert.NormBwdRefIdeal Cert.NormBwdRefIdeal.Read Cert.Mat Cert.NormGrad Cert.NormBwdIdeal.Prod
open Idealize.ShloMosaic Idealize.ShloMosaic.Tactic
open Finset (range)

variable (x h d : S8192x2048.Idx → EReal) (g : S1x2048.Idx → EReal)

/-- The reference's mean square and small number. -/
theorem vari_eq (i : S8192x1.Idx) : val_main_v7 (F := Ideal) x i = vari (sq x (i 0).val) := by
  have h0 : ∀ q, val_main_cst (F := Ideal) q = (0 : EReal) := by intro q; pointwise [val_main_cst]
  rw [val_main_v7_apply, val_main_v6_apply, val_main_v5_apply, val_main_v4_apply, val_main_v3_apply, val_main_v2_apply, h0, zero_add]
  refine Eq.trans (b := vari (∑ k : Fin 2048, val_main_v1 (F := Ideal) x (idx_main_v2 (idx_main_v3 i) k))) rfl ?_
  refine congrArg vari (Finset.sum_congr rfl fun k _ => ?_)
  rw [val_main_v1_apply]
  exact congrArg (fun v : EReal => v * v) (el_of x _ _ _ rfl rfl)

/-- The reference's root. -/
theorem root_eq (i : S8192x1.Idx) : val_main_v8 (F := Ideal) x i = Ideal.rsqrt (vari (sq x (i 0).val)) := by
  rw [val_main_v8_apply, vari_eq]
  rfl

/-- The reference's weighted gradient. -/
theorem weighted_eq (i : S8192x2048.Idx) : val_main_v21 (F := Ideal) h g i = el h (i 0).val (i 1).val * el g 0 (i 1).val := by
  have a1 : (i 1).val < 2048 := (i 1).isLt
  rw [val_main_v21_apply, val_main_v20_apply, val_main_v14_apply, val_main_v0_apply]
  refine congrArg₂ (fun a b : EReal => a * b) (el_of h _ _ _ rfl rfl) (el_of g _ _ _ rfl ?_)
  show (i 1).val % 2048 = (i 1).val
  omega

/-- What the reference multiplies the entry by. -/
theorem coef_eq (i : S8192x2048.Idx) : val_main_v33 (F := Ideal) x h g i
    = coef (vari (sq x (i 0).val)) (∑ k : Fin 2048, el x (i 0).val k * (el h (i 0).val k * el g 0 k)) := by
  have h5 : ∀ q, val_main_cst_5 (F := Ideal) q = (0 : EReal) := by intro q; pointwise [val_main_cst_5]
  have h7 : ∀ q, val_main_cst_7 (F := Ideal) q = (0 : EReal) := by intro q; pointwise [val_main_cst_7]
  rw [val_main_v33_apply, val_main_v32_apply, h7, zero_add, Fin.sum_univ_one, val_main_v31_apply, val_main_v30_apply, val_main_v29_apply,
    val_main_v25_apply, val_main_v24_apply, h5, zero_add, val_main_v11_apply, val_main_v10_apply, val_main_v9_apply, root_eq, vari_eq]
  unfold coef
  refine congrArg (fun v : EReal => Ideal.div (v * _) _) (Finset.sum_congr rfl fun k _ => ?_)
  rw [val_main_v23_apply, weighted_eq]
  refine congrArg₂ (fun a b : EReal => a * b) (el_of x _ _ _ ?_ rfl) (congrArg₂ (fun a b : EReal => a * b) (congrArg₂ (el h) ?_ rfl) rfl)
  · show (i 0).val * 1 + 0 = (i 0).val; omega
  · show (i 0).val * 1 + 0 = (i 0).val; omega

/-- The reference's first result is the gradient of the input. -/
theorem result4 : val_main_v37 (F := Ideal) x h d g = fun i : S8192x2048.Idx => dx x h d g (i 0).val (i 1).val := by
  funext i
  rw [val_main_v37_apply, val_main_v36_apply, val_main_v35_apply, val_main_v34_apply, val_main_v28_apply, val_main_v27_apply, val_main_v26_apply,
    root_eq, weighted_eq, coef_eq, el_of x i _ _ rfl rfl, el_of d i _ _ rfl rfl]
  rfl

/-- The reference's gradient of the weights. -/
theorem dg_eq (i : S1x2048.Idx) : val_main_v38 (F := Ideal) x h i = ∑ k ∈ range 8192, dg x h k (i 1).val := by
  have h3 : ∀ q, val_main_cst_3 (F := Ideal) q = (0 : EReal) := by intro q; pointwise [val_main_cst_3]
  have h4 : ∀ q, val_main_cst_4 (F := Ideal) q = (0 : EReal) := by intro q; pointwise [val_main_cst_4]
  rw [val_main_v38_apply, val_main_v22_apply, h4, zero_add, Fin.sum_univ_one, val_main_v19_apply, val_main_v18_apply, h3, zero_add, Finset.sum_range]
  refine Finset.sum_congr rfl fun k _ => ?_
  rw [val_main_v17_apply, val_main_v13_apply, val_main_v12_apply, root_eq]
  unfold dg
  refine Eq.trans (mul_comm (G := EReal) _ _) (congrArg₂ (fun a b : EReal => a * b) (el_of h _ _ _ rfl ?_)
    (congrArg₂ (fun a b : EReal => a * b) (el_of x _ _ _ rfl ?_) rfl))
  · show 0 * 2048 + (i 1).val = (i 1).val; omega
  · show 0 * 2048 + (i 1).val = (i 1).val; omega

/-- The reference's second result holds the gradient of the weights in its first row. -/
theorem result5 : val_main_v39 (F := Ideal) x h = fun i : S8x2048.Idx => ∑ k ∈ range 8192, term x h (i 0).val (i 1).val k := by
  funext i
  have a0 : (i 0).val < 8 := (i 0).isLt
  have a1 : (i 1).val < 2048 := (i 1).isLt
  unfold val_main_v39 term
  by_cases e : (i 0).val = 0
  · simp only [if_pos e]
    refine (pad_apply_of_inside _ _ _ _ _ _ _ i (ValueIdx.ix2 (0 : Fin 1) ⟨(i 1).val, a1⟩) fun a => ?_).trans (dg_eq x h _)
    match a with
    | ⟨0, _⟩ => show (i 0).val = 0 + 0 * (0 + 1); omega
    | ⟨1, _⟩ => show (i 1).val = 0 + (i 1).val * (0 + 1); omega
  · simp only [if_neg e, Finset.sum_const_zero]
    refine (pad_apply_of_not_inside _ _ _ _ _ _ _ i (0 : Fin 2) ?_).trans ?_
    · show ¬(0 ≤ (i 0).val ∧ ((i 0).val - 0) % (0 + 1) = 0 ∧ ((i 0).val - 0) / (0 + 1) < 1)
      omega
    · pointwise [val_main_call0_v0, val_main_c]
      show ((((0#32 : BitVec 32).toInt : ℤ) : ℝ) : EReal) = 0
      simp
end Cert.NormBwdRefIdeal.Prod

end
-- ==== Proof.LossHead.lean ====
/-
  The loss, with the gradients of its normalization: both programs write an error's gradient as one number, the row's
  gradient is the normalization's, and the loss and the weights' gradient are sums over the rows.
-/
module

public import proofs.«01_k».proof.Proof.Mat
public import proofs.«01_k».proof.Proof.Head
public import proofs.«01_k».proof.Proof.NormBwd
public import Idealize.ShloMosaic.Lib.VecWindow
public import Idealize.ShloMosaic.Lib.WritesUnit
public import Idealize.ShloMosaic.Lib.KernelVsHost
public import proofs.«01_k».proof.Proof.Gen.LossHeadIdeal.Value
public import proofs.«01_k».proof.Proof.Gen.LossHeadRefIdeal.Read

@[expose] public section

set_option maxRecDepth 16384
noncomputable section
namespace Cert.LossHead
open Idealize.ShloMosaic

/-- The half of the mean error. -/
theorem half : Ideal.ofBits .f32 0x3F000000#32 = ((1 / 2 : ℝ) : EReal) := by
  simp [Ideal.ofBits, Ideal.ieee, -EReal.coe_mul]; norm_num

/-- The square's two. -/
theorem two : Ideal.ofBits .f32 0x40000000#32 = ((2 : ℝ) : EReal) := by
  simp [Ideal.ofBits, Ideal.ieee, -EReal.coe_mul]; norm_num

/-- The one the reference starts its gradient from. -/
theorem one : Ideal.ofBits .f32 0x3F800000#32 = ((1 : ℝ) : EReal) := by
  simp [Ideal.ofBits, Ideal.ieee, -EReal.coe_mul]; norm_num

/-- The reference's gradient of an error is the error by the length of its row. -/
theorem dy_eq (e : EReal) : Ideal.div (Ideal.ofBits .f32 0x3F000000#32 * Ideal.ofBits .f32 0x3F800000#32) (Ideal.ofBits .f32 0x45000000#32)
    * (Ideal.ofBits .f32 0x40000000#32 * e) = Ideal.div e (Ideal.ofBits .f32 0x45000000#32) := by
  rw [half, one, two, NormGrad.len, Ideal.div_coe (by norm_num), Ideal.div_coe (by norm_num), ← EReal.coe_mul, ← EReal.coe_mul, ← mul_assoc,
    ← EReal.coe_mul, mul_comm e]
  congr 2
  norm_num

/-- The half, taken out of a sum. -/
theorem half_sum {n : ℕ} (f : Fin n → EReal) : ∑ k, Ideal.ofBits .f32 0x3F000000#32 * f k = Ideal.ofBits .f32 0x3F000000#32 * ∑ k, f k := by
  rw [half, mul_comm _ (∑ k, f k), ← NormGrad.sum_mul_real f (1 / 2) (by norm_num)]
  exact Finset.sum_congr rfl fun k _ => mul_comm _ _
end Cert.LossHead

namespace Cert.LossHeadIdeal.Prod
open Cert.LossHeadIdeal Cert.LossHeadIdeal.Gen Cert.Mat
open Cert.NormGrad (ker ref coef vari ker_eq sq_nonneg)
open Cert.NormBwdIdeal.Prod (sq sq_pos)
open Cert.LossHead (half_sum)
open Idealize.ShloMosaic Idealize.ShloMosaic.TcCoe Idealize.ShloMosaic.Tactic
open Idealize.ShloMosaic.Pipeline (Dat)
open Finset (range)

/-- Which blocks a point reads and writes. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

theorem N32 (t : Fin cfg0.N) : t.val < 32 := lt_of_lt_of_eq t.isLt (show cfg0.N = 32 from N_0)

/-- The root's reciprocal of a block's row. -/
def root (x : Vec Ideal S256x2048 .f32) (r : Fin 256) : EReal := Ideal.rsqrt (vari (∑ k : Fin 2048, x (ix2 r k) * x (ix2 r k)))

/-- A block's error. -/
def errB (x t : Vec Ideal S256x2048 .f32) (g : Vec Ideal S1x2048 .f32) (r : Fin 256) (s : Fin 2048) : EReal :=
  x (ix2 r s) * root x r * g (ix2 0 s) - t (ix2 r s)

/-- Its gradient. -/
def dyB (x t : Vec Ideal S256x2048 .f32) (g : Vec Ideal S1x2048 .f32) (r : Fin 256) (s : Fin 2048) : EReal :=
  Ideal.div (errB x t g r s) (Ideal.ofBits .f32 0x45000000#32)

/-- The half of a block's mean errors, summed over its rows. -/
def lossB (x t : Vec Ideal S256x2048 .f32) (g : Vec Ideal S1x2048 .f32) : EReal :=
  Ideal.ofBits .f32 0x3F000000#32
    * ∑ r : Fin 256, Ideal.div (∑ k : Fin 2048, errB x t g r k * errB x t g r k) (Ideal.ofBits .f32 0x45000000#32)

/-- A row's root. -/
theorem pay4_at (x : Vec Ideal S256x2048 .f32) (r : Fin 256) : k0_pay4 (F := Ideal) x (ix2 r 0) = root x r := by
  pointwise [k0_pay4, root, vari]

/-- A row by its root. -/
theorem pay5_at (x : Vec Ideal S256x2048 .f32) (r : Fin 256) (s : Fin 2048) :
    k0_pay5 (F := Ideal) x (ix2 r s) = x (ix2 r s) * root x r := by
  pointwise [k0_pay5, k0_pay4, root, vari]

/-- The error. -/
theorem pay6_at (x t : Vec Ideal S256x2048 .f32) (g : Vec Ideal S1x2048 .f32) (r : Fin 256) (s : Fin 2048) :
    k0_pay6 (F := Ideal) x g t (ix2 r s) = errB x t g r s := by
  pointwise [k0_pay6, k0_pay5, k0_pay4, errB, root, vari]

/-- The error's gradient. -/
theorem pay9_at (x t : Vec Ideal S256x2048 .f32) (g : Vec Ideal S1x2048 .f32) (r : Fin 256) (s : Fin 2048) :
    k0_pay9 (F := Ideal) x g t (ix2 r s) = dyB x t g r s := by
  pointwise [k0_pay9, k0_pay6, k0_pay5, k0_pay4, dyB, errB, root, vari]

/-- What a row adds to the weights' gradient. -/
theorem pay10_at (x t : Vec Ideal S256x2048 .f32) (g : Vec Ideal S1x2048 .f32) (r : Fin 256) (s : Fin 2048) :
    k0_pay10 (F := Ideal) x g t (ix2 r s) = dyB x t g r s * (x (ix2 r s) * root x r) :=
  congrArg₂ (fun a b : EReal => a * b) (pay9_at x t g r s) (pay5_at x r s)

/-- A block's gradient, from any gradient of its errors. -/
theorem pay3_gen (x p : Vec Ideal S256x2048 .f32) (g : Vec Ideal S1x2048 .f32) (r : Fin 256) (s : Fin 2048) :
    k0_pay3 (F := Ideal) g (k0_pay4 x) (k0_pay5 x) p (ix2 r s) = root x r * (p (ix2 r s) * g (ix2 0 s)
      - x (ix2 r s) * root x r * Ideal.div (∑ k : Fin 2048, p (ix2 r k) * g (ix2 0 k) * (x (ix2 r k) * root x r)) (Ideal.ofBits .f32 0x45000000#32)) := by
  pointwise [k0_pay3, k0_pay5, k0_pay4, root, vari]

/-- A block's gradient. -/
theorem pay3_at (x t : Vec Ideal S256x2048 .f32) (g : Vec Ideal S1x2048 .f32) (r : Fin 256) (s : Fin 2048) :
    k0_pay3 (F := Ideal) g (k0_pay4 x) (k0_pay5 x) (k0_pay9 x g t) (ix2 r s) = ker (x (ix2 r s)) (dyB x t g r s * g (ix2 0 s)) 0
      (vari (∑ k : Fin 2048, x (ix2 r k) * x (ix2 r k))) (∑ k : Fin 2048, dyB x t g r k * g (ix2 0 k) * (x (ix2 r k) * root x r)) := by
  refine (pay3_gen x _ g r s).trans ?_
  unfold ker
  rw [zero_add]
  simp only [pay9_at]
  rfl

/-- The stored zeros of the weights' gradient. -/
theorem pay1_at (r : Fin 8) (s : Fin 2048) : (k0_pay1 (F := Ideal)) (ix2 r s) = 0 := by
  pointwise [k0_pay1]

/-- The stored zeros of the loss. -/
theorem pay7_at (r : Fin 8) (s : Fin 128) : (k0_pay7 (F := Ideal)) (ix2 r s) = 0 := by
  pointwise [k0_pay7]

/-- The weights' gradient of a block is added to the accumulator. -/
theorem pay2_at (x t : Vec Ideal S256x2048 .f32) (g a : Vec Ideal S1x2048 .f32) (s : Fin 2048) :
    k0_pay2 (F := Ideal) (k0_pay10 x g t) a (ix2 0 s) = a (ix2 0 s) + ∑ k : Fin 256, dyB x t g k s * (x (ix2 k s) * root x k) := by
  refine Eq.trans (b := a (ix2 0 s) + ∑ k : Fin 256, k0_pay10 (F := Ideal) x g t (ix2 k s)) ?_
    (congrArg (fun v : EReal => a (ix2 0 s) + v) (Finset.sum_congr rfl fun k _ => pay10_at x t g k s))
  generalize k0_pay10 (F := Ideal) x g t = p
  pointwise [k0_pay2]

/-- A block's loss is added to the accumulator. -/
theorem pay8_at (x t : Vec Ideal S256x2048 .f32) (g : Vec Ideal S1x2048 .f32) (a : Vec Ideal S8x128 .f32) (r : Fin 8) (s : Fin 128) :
    k0_pay8 (F := Ideal) x g t a (ix2 r s) = a (ix2 r s) + lossB x t g := by
  refine Eq.trans (b := a (ix2 r s) + Ideal.ofBits .f32 0x3F000000#32 * ∑ r : Fin 256, Ideal.div (∑ k : Fin 2048,
    k0_pay6 (F := Ideal) x g t (ix2 r k) * k0_pay6 (F := Ideal) x g t (ix2 r k)) (Ideal.ofBits .f32 0x45000000#32)) ?_ ?_
  · generalize hp : k0_pay6 (F := Ideal) x g t = p
    pointwise [k0_pay8]
    rw [hp]
  · simp only [pay6_at]
    rfl

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S8x2048 .f32) (harg5 : arg5.IsWhole) (arg6 : Memref sig .tc .vmem S8x128 .f32) (harg6 : arg6.IsWhole)
    (x0 x1 : Vec Ideal S256x2048 .f32) (x2 : Vec Ideal S1x2048 .f32) (xo4 : Vec Ideal S8x2048 .f32) (xo5 : Vec Ideal S8x128 .f32)

/-- The first point writes its block's gradient out, … -/
theorem dxA (hc0 : cond0_0 i) (hc1 : cond0_1 i) : out0_A_3 c i arg1 harg1 arg2 harg2 arg3 harg3 arg4 harg4 arg5 harg5 arg6 harg6 hc0 hc1 x0 x1 x2 = k0_pay3 x2 (k0_pay4 x0) (k0_pay5 x0) (k0_pay9 x0 x2 x1) := by
  unfold out0_A_3 kernelRun0_A
  dsimp only
  sl_unfold_words
  rw [View.read_writes_full]
  rw [View.readAt_full, View.readAt_full, View.readAt_full, harg1.read_unread, harg2.read_unread, harg3.read_unread]

/-- … and so does every other one. -/
theorem dxB (hc0 : ¬cond0_0 i) (hc1 : ¬cond0_1 i) : out0_B_3 c i arg1 harg1 arg2 harg2 arg3 harg3 arg4 harg4 arg5 harg5 arg6 harg6 hc0 hc1 x0 x1 x2 xo4 xo5 = k0_pay3 x2 (k0_pay4 x0) (k0_pay5 x0) (k0_pay9 x0 x2 x1) := by
  unfold out0_B_3 kernelRun0_B
  dsimp only
  sl_unfold_words
  rw [View.read_writes_full]
  rw [View.readAt_full, View.readAt_full, View.readAt_full, harg1.read_unread, harg2.read_unread, harg3.read_unread]

/-- The first point leaves its block's sums in the first row, and zeros below. -/
theorem dgA (hc0 : cond0_0 i) (hc1 : cond0_1 i) (r : Fin 8) (s : Fin 2048) : out0_A_4 c i arg1 harg1 arg2 harg2 arg3 harg3 arg4 harg4 arg5 harg5 arg6 harg6 hc0 hc1 x0 x1 x2 (ix2 r s)
    = if r.val = 0 then ∑ k : Fin 256, dyB x0 x1 x2 k s * (x0 (ix2 k s) * root x0 k) else 0 := by
  unfold out0_A_4 kernelRun0_A
  dsimp only
  sl_unfold_words
  by_cases e : r.val = 0
  · rw [if_pos e]
    refine (View.read_writes_cons_rows_of_mem VO0_4 _ inb_S8x2048_S1x2048_0_0 _ _ (ix2 r s) (ix2 (0 : Fin 1) s) (o := 0) rfl
      (by show r.val = 0 + 0; omega) rfl).trans ?_
    refine (pay2_at _ _ _ _ s).trans ?_
    rw [View.readAt_full, View.readAt_full, View.readAt_full, harg1.read_unread, harg2.read_unread, harg3.read_unread]
    refine (congrArg (fun v : EReal => v + _) ?_).trans (zero_add _)
    refine Eq.trans (congrFun (View.read_writes_full arg5.view _ inb_S8x2048_S8x2048_0_0 _ _) _) (pay1_at 0 s)
  · rw [if_neg e]
    refine (View.read_writes_cons_rows_of_not_mem VO0_4 _ inb_S8x2048_S1x2048_0_0 _ _ (ix2 r s) (o := 0) (W := 1) rfl rfl
      (by show r.val < 0 ∨ 0 + 1 ≤ r.val; omega)).trans ?_
    rw [View.read_writes_full]
    exact pay1_at r s

/-- Every other point adds its block's sums to the first row. -/
theorem dgB (hc0 : ¬cond0_0 i) (hc1 : ¬cond0_1 i) (r : Fin 8) (s : Fin 2048) : out0_B_4 c i arg1 harg1 arg2 harg2 arg3 harg3 arg4 harg4 arg5 harg5 arg6 harg6 hc0 hc1 x0 x1 x2 xo4 xo5 (ix2 r s)
    = xo4 (ix2 r s) + if r.val = 0 then ∑ k : Fin 256, dyB x0 x1 x2 k s * (x0 (ix2 k s) * root x0 k) else 0 := by
  unfold out0_B_4 kernelRun0_B
  dsimp only
  sl_unfold_words
  by_cases e : r.val = 0
  · rw [if_pos e]
    refine (View.read_writes_cons_rows_of_mem arg5.view _ inb_S8x2048_S1x2048_0_0 _ _ (ix2 r s) (ix2 (0 : Fin 1) s) (o := 0) rfl
      (by show r.val = 0 + 0; omega) rfl).trans ?_
    refine (pay2_at _ _ _ _ s).trans ?_
    rw [View.readAt_full, View.readAt_full, View.readAt_full, harg1.read_unread, harg2.read_unread, harg3.read_unread]
    refine congrArg (fun v : EReal => v + _) ?_
    refine Eq.trans ?_ (congrFun (harg5.read_unread xo4) (ix2 r s))
    refine congrArg (arg5.view.read (Elt Ideal) (harg5.unread xo4)) (funext fun a => Fin.ext ?_)
    match a with
    | ⟨0, _⟩ => show 0 + 1 * 0 = r.val; omega
    | ⟨1, _⟩ => show 0 + 1 * s.val = s.val; omega
  · rw [if_neg e, add_zero]
    refine (View.read_writes_cons_rows_of_not_mem arg5.view _ inb_S8x2048_S1x2048_0_0 _ _ (ix2 r s) (o := 0) (W := 1) rfl rfl
      (by show r.val < 0 ∨ 0 + 1 ≤ r.val; omega)).trans ?_
    exact congrFun (harg5.read_unread xo4) (ix2 r s)

/-- The first point leaves its block's loss. -/
theorem lossA (hc0 : cond0_0 i) (hc1 : cond0_1 i) (r : Fin 8) (s : Fin 128) : out0_A_5 c i arg1 harg1 arg2 harg2 arg3 harg3 arg4 harg4 arg5 harg5 arg6 harg6 hc0 hc1 x0 x1 x2 (ix2 r s)
    = lossB x0 x1 x2 := by
  unfold out0_A_5 kernelRun0_A
  dsimp only
  sl_unfold_words
  rw [View.read_writes_full]
  refine (pay8_at _ _ _ _ r s).trans ?_
  rw [View.readAt_full, View.readAt_full, View.readAt_full, harg1.read_unread, harg2.read_unread, harg3.read_unread]
  refine (congrArg (fun v : EReal => v + _) ?_).trans (zero_add _)
  rw [View.readCov_full arg6.view inb_S8x128_S8x128_0_0 inb_S8x128_S8x128_0_0]
  exact pay7_at r s

/-- Every other point adds its block's loss. -/
theorem lossN (hc0 : ¬cond0_0 i) (hc1 : ¬cond0_1 i) (r : Fin 8) (s : Fin 128) : out0_B_5 c i arg1 harg1 arg2 harg2 arg3 harg3 arg4 harg4 arg5 harg5 arg6 harg6 hc0 hc1 x0 x1 x2 xo4 xo5 (ix2 r s)
    = xo5 (ix2 r s) + lossB x0 x1 x2 := by
  unfold out0_B_5 kernelRun0_B
  dsimp only
  sl_unfold_words
  rw [View.read_writes_full]
  refine (pay8_at _ _ _ _ r s).trans ?_
  rw [View.readAt_full, View.readAt_full, View.readAt_full, View.readAt_full, harg1.read_unread, harg2.read_unread, harg3.read_unread, harg6.read_unread]
end

variable (m : (ℓ : Loc nD τ sig) → Buf (Elt Ideal) ℓ) (c : Dev nD)

/-- The last layer's result, as the program is given it. -/
abbrev X : S8192x2048.Idx → EReal := m ((c : Thread nD τ).loc main_arg0)
/-- The target, as the program is given it. -/
abbrev T : S8192x2048.Idx → EReal := m ((c : Thread nD τ).loc main_arg1)
/-- The weights, as the program is given them. -/
abbrev G : S1x2048.Idx → EReal := m ((c : Thread nD τ).loc main_arg2)

/-- The input's block. -/
theorem blk0 (t : Fin cfg0.N) (r : Fin 256) (k : Fin 2048) :
    (iblk m c 0 t : S256x2048.Idx → EReal) (ix2 r k) = el (X m c) (256 * t.val + r) k := by
  have := N32 t; have := k.isLt; have := r.isLt
  refine Eq.trans ?_ (el_of (X m c) (ix2 ⟨256 * t.val + r.val, by omega⟩ k) _ _ rfl rfl)
  blk_ext [iblk, V, idx t]

/-- The target's block. -/
theorem blk1 (t : Fin cfg0.N) (r : Fin 256) (k : Fin 2048) :
    (iblk m c 1 t : S256x2048.Idx → EReal) (ix2 r k) = el (T m c) (256 * t.val + r) k := by
  have := N32 t; have := k.isLt; have := r.isLt
  refine Eq.trans ?_ (el_of (T m c) (ix2 ⟨256 * t.val + r.val, by omega⟩ k) _ _ rfl rfl)
  blk_ext [iblk, V, idx t]

/-- The weights' block. -/
theorem blk2 (t : Fin cfg0.N) (k : Fin 2048) : (iblk m c 2 t : S1x2048.Idx → EReal) (ix2 0 k) = el (G m c) 0 k := by
  have := N32 t; have := k.isLt
  refine Eq.trans ?_ (el_of (G m c) (ix2 0 k) _ _ rfl rfl)
  blk_ext [iblk, V, idx t]

/-- An error: the normalized entry with its weight, without the target. -/
def err (x t : S8192x2048.Idx → EReal) (g : S1x2048.Idx → EReal) (r q : ℕ) : EReal :=
  el x r q * Ideal.rsqrt (vari (sq x r)) * el g 0 q - el t r q

/-- Its gradient. -/
def dy (x t : S8192x2048.Idx → EReal) (g : S1x2048.Idx → EReal) (r q : ℕ) : EReal :=
  Ideal.div (err x t g r q) (Ideal.ofBits .f32 0x45000000#32)

/-- An entry of the input's gradient. -/
def dx (x t : S8192x2048.Idx → EReal) (g : S1x2048.Idx → EReal) (r q : ℕ) : EReal :=
  ref (el x r q) (dy x t g r q * el g 0 q) 0 (vari (sq x r)) (∑ k : Fin 2048, el x r k * (dy x t g r k * el g 0 k))

/-- What a row adds to an entry of the weights' gradient, which is zero below the first row. -/
def term (x t : S8192x2048.Idx → EReal) (g : S1x2048.Idx → EReal) (r q k : ℕ) : EReal :=
  if r = 0 then dy x t g k q * (el x k q * Ideal.rsqrt (vari (sq x k))) else 0

/-- The mean error of a row. -/
def mean (x t : S8192x2048.Idx → EReal) (g : S1x2048.Idx → EReal) (r : ℕ) : EReal :=
  Ideal.div (∑ k : Fin 2048, err x t g r k * err x t g r k) (Ideal.ofBits .f32 0x45000000#32)

/-- What a row adds to the loss. -/
def part (x t : S8192x2048.Idx → EReal) (g : S1x2048.Idx → EReal) (r : ℕ) : EReal := Ideal.ofBits .f32 0x3F000000#32 * mean x t g r

/-- A block's roots. -/
theorem root_at (t : Fin cfg0.N) (r : Fin 256) : root (iblk m c 0 t) r = Ideal.rsqrt (vari (sq (X m c) (256 * t.val + r))) :=
  congrArg (fun v : EReal => Ideal.rsqrt (vari v)) (Finset.sum_congr rfl fun k _ => congrArg (fun v : EReal => v * v) (blk0 m c t r k))

/-- A block's errors. -/
theorem err_at (t : Fin cfg0.N) (r : Fin 256) (s : Fin 2048) :
    errB (iblk m c 0 t) (iblk m c 1 t) (iblk m c 2 t) r s = err (X m c) (T m c) (G m c) (256 * t.val + r) s := by
  unfold errB err
  rw [root_at m c t r]
  exact congrArg₂ (fun a b : EReal => a - b) (congrArg₂ (fun a b : EReal => a * b)
    (congrArg (fun a : EReal => a * Ideal.rsqrt _) (blk0 m c t r s)) (blk2 m c t s)) (blk1 m c t r s)

/-- Their gradients. -/
theorem dy_at (t : Fin cfg0.N) (r : Fin 256) (s : Fin 2048) :
    dyB (iblk m c 0 t) (iblk m c 1 t) (iblk m c 2 t) r s = dy (X m c) (T m c) (G m c) (256 * t.val + r) s :=
  congrArg (fun a : EReal => Ideal.div a _) (err_at m c t r s)

/-- A point's block of the input's gradient. -/
theorem dx_at (t : Fin cfg0.N) (r : Fin 256) (s : Fin 2048) :
    k0_pay3 (F := Ideal) (iblk m c 2 t) (k0_pay4 (iblk m c 0 t)) (k0_pay5 (iblk m c 0 t)) (k0_pay9 (iblk m c 0 t) (iblk m c 2 t) (iblk m c 1 t)) (ix2 r s)
      = dx (X m c) (T m c) (G m c) (256 * t.val + r) s := by
  refine (pay3_at _ _ _ r s).trans (Eq.trans ?_ (ker_eq _ _ _ _ (fun k : Fin 2048 => el (X m c) (256 * t.val + r) k)
    (fun k : Fin 2048 => dy (X m c) (T m c) (G m c) (256 * t.val + r) k * el (G m c) 0 k) (sq_pos (X m c) (256 * t.val + r))))
  rw [blk0 m c t r s, blk2 m c t s, root_at m c t r, dy_at m c t r s]
  refine congrArg₂ (ker _ _ _) ?_ ?_
  · exact congrArg vari (Finset.sum_congr rfl fun k _ => congrArg (fun v : EReal => v * v) (blk0 m c t r k))
  · refine Finset.sum_congr rfl fun k _ => congrArg₂ (fun a b : EReal => a * b) (congrArg₂ (fun a b : EReal => a * b) (dy_at m c t r k) (blk2 m c t k)) ?_
    exact congrArg (fun a : EReal => a * Ideal.rsqrt _) (blk0 m c t r k)

/-- A block's sums, term by term. -/
theorem sums_at (t : Fin cfg0.N) (r : Fin 8) (s : Fin 2048) :
    (if r.val = 0 then ∑ k : Fin 256, dyB (iblk m c 0 t) (iblk m c 1 t) (iblk m c 2 t) k s * ((show EReal from (iblk m c 0 t : S256x2048.Idx → EReal) (ix2 k s)) * root (iblk m c 0 t) k) else (0 : EReal))
      = ∑ k ∈ range 256, term (X m c) (T m c) (G m c) r s (256 * t.val + k) := by
  rw [Finset.sum_range]
  unfold term
  by_cases e : r.val = 0
  · simp only [if_pos e]
    exact Finset.sum_congr rfl fun k _ => congrArg₂ (fun a b : EReal => a * b) (dy_at m c t k s)
      (congrArg₂ (fun a b : EReal => a * b) (blk0 m c t k s) (root_at m c t k))
  · simp only [if_neg e, Finset.sum_const_zero]

/-- A block's loss, row by row. -/
theorem loss_at (t : Fin cfg0.N) : lossB (iblk m c 0 t) (iblk m c 1 t) (iblk m c 2 t)
    = ∑ k ∈ range 256, part (X m c) (T m c) (G m c) (256 * t.val + k) := by
  rw [Finset.sum_range]
  unfold lossB part
  rw [half_sum (fun k : Fin 256 => mean (X m c) (T m c) (G m c) (256 * t.val + k))]
  refine congrArg (fun a : EReal => _ * a) (Finset.sum_congr rfl fun r _ => congrArg (fun a : EReal => Ideal.div a _) (Finset.sum_congr rfl fun k _ => ?_))
  rw [err_at m c t r k]

/-- The weights' gradient after every point: the rows so far. -/
theorem accG (n : ℕ) (h : n < cfg0.N) (r : Fin 8) (s : Fin 2048) : (outsAt0 m c n h).2.1 (ix2 r s)
    = ∑ k ∈ range (256 * (n % 32 + 1)), term (X m c) (T m c) (G m c) r s k := by
  have key := acc_eq cfg0.N 32 256 (fun n h (p : Fin 8 × Fin 2048) => (outsAt0 m c n h).2.1 (ix2 p.1 p.2))
    (fun n p k => term (X m c) (T m c) (G m c) p.1 p.2 k) ?_ ?_ (fun _ _ _ _ => rfl) (by omega) n h (r, s)
  · exact key
  · intro n h p e
    have q := outsAt0_A m c ⟨n, h⟩ e e
    have b := N32 ⟨n, h⟩
    dsimp only at q b ⊢
    rw [q]
    dsimp only
    rw [dgA, sums_at]
    dsimp only
    rw [show n = 0 by omega]
    simp only [Nat.mul_zero, Nat.zero_add]
  · intro n h p e
    have q := outsAt0_B m c ⟨n, h⟩ e e
    have b := N32 ⟨n, h⟩
    dsimp only at q b ⊢
    rw [q]
    dsimp only
    rw [dgB, sums_at]
    dsimp only
    rw [show n % 32 = n by omega]

/-- The loss after every point: the rows so far. -/
theorem accL (n : ℕ) (h : n < cfg0.N) (r : Fin 8) (s : Fin 128) : (outsAt0 m c n h).2.2 (ix2 r s)
    = ∑ k ∈ range (256 * (n % 32 + 1)), part (X m c) (T m c) (G m c) k := by
  have key := acc_eq cfg0.N 32 256 (fun n h (p : Fin 8 × Fin 128) => (outsAt0 m c n h).2.2 (ix2 p.1 p.2))
    (fun n p k => part (X m c) (T m c) (G m c) k) ?_ ?_ (fun _ _ _ _ => rfl) (by omega) n h (r, s)
  · exact key
  · intro n h p e
    have q := outsAt0_A m c ⟨n, h⟩ e e
    have b := N32 ⟨n, h⟩
    dsimp only at q b ⊢
    rw [q]
    dsimp only
    rw [lossA, loss_at]
    dsimp only
    rw [show n = 0 by omega]
    simp only [Nat.mul_zero, Nat.zero_add]
  · intro n h p e
    have q := outsAt0_B m c ⟨n, h⟩ e e
    have b := N32 ⟨n, h⟩
    dsimp only at q b ⊢
    rw [q]
    dsimp only
    rw [lossN, loss_at]
    dsimp only
    rw [show n % 32 = n by omega]

/-- Every point writes its block's gradient out. -/
theorem dxs (t : Fin cfg0.N) : (outsAt0 m c t.val t.isLt).1
    = k0_pay3 (F := Ideal) (iblk m c 2 t) (k0_pay4 (iblk m c 0 t)) (k0_pay5 (iblk m c 0 t)) (k0_pay9 (iblk m c 0 t) (iblk m c 2 t) (iblk m c 1 t)) := by
  by_cases h0 : t.val % 32 = 0
  · rw [outsAt0_A m c t h0 h0]; dsimp only; rw [dxA]
  · rw [outsAt0_B m c t h0 h0]; dsimp only; rw [dxB]

/-- The kernel's first result is the gradient of its input. -/
theorem result3 : (dats m 0 c).arrAt 3 cfg0.N = fun i : S8192x2048.Idx => dx (X m c) (T m c) (G m c) (i 0).val (i 1).val := by
  refine (dats m 0 c).arrAt_eq_of_covers 3 _ (by decide +kernel) fun t hf y => ?_
  blk_simp
  rw [after0_3]
  have := N32 t
  have a0 : (y 0).val < 256 := (y 0).isLt
  have a1 : (y 1).val < 2048 := (y 1).isLt
  have e : y = ix2 ⟨(y 0).val, a0⟩ ⟨(y 1).val, a1⟩ := by funext a; fin_cases a <;> rfl
  have i := idx t
  have i0 : win0_3.index t 0 = t.val := by simp only [i]; rfl
  have i1 : win0_3.index t 1 = 0 := by simp only [i]; rfl
  rw [i0, i1]
  refine Eq.trans (congrFun (dxs m c t) y) (Eq.trans (congrArg _ e) ((dx_at m c t _ _).trans ?_))
  simp only [Nat.mul_comm, Nat.zero_mul, Nat.zero_add]

theorem flush4 : ∀ t : Fin cfg0.N, (cfg0.win 4).flush t = true → t.val % 32 = 31 :=
  (by decide +kernel : ∀ t : Fin grid0.N, _)

theorem flush5 : ∀ t : Fin cfg0.N, (cfg0.win 5).flush t = true → t.val % 32 = 31 :=
  (by decide +kernel : ∀ t : Fin grid0.N, _)

/-- The kernel's second result holds the gradient of the weights in its first row. -/
theorem result4 : (dats m 0 c).arrAt 4 cfg0.N = fun i : S8x2048.Idx => ∑ k ∈ range 8192, term (X m c) (T m c) (G m c) (i 0).val (i 1).val k := by
  refine (dats m 0 c).arrAt_eq_of_covers 4 _ (by decide +kernel) fun t hf y => ?_
  blk_simp
  rw [after0_4]
  have h1 := flush4 t hf
  have a0 : (y 0).val < 8 := (y 0).isLt
  have a1 : (y 1).val < 2048 := (y 1).isLt
  have e : y = ix2 ⟨(y 0).val, a0⟩ ⟨(y 1).val, a1⟩ := by funext a; fin_cases a <;> rfl
  have h := accG m c t.val t.isLt ⟨(y 0).val, a0⟩ ⟨(y 1).val, a1⟩
  have i := idx t
  have i0 : win0_4.index t 0 = 0 := by simp only [i]; rfl
  have i1 : win0_4.index t 1 = 0 := by simp only [i]; rfl
  rw [i0, i1]
  refine Eq.trans (congrArg _ e) (h.trans ?_)
  rw [h1]
  simp only [Nat.mul_zero, Nat.zero_mul, Nat.zero_add, Nat.add_zero]

/-- The kernel's third result holds the loss everywhere. -/
theorem result5 : (dats m 0 c).arrAt 5 cfg0.N = fun i : S8x128.Idx => ∑ k ∈ range 8192, part (X m c) (T m c) (G m c) k := by
  refine (dats m 0 c).arrAt_eq_of_covers 5 _ (by decide +kernel) fun t hf y => ?_
  blk_simp
  rw [after0_5]
  have h1 := flush5 t hf
  have a0 : (y 0).val < 8 := (y 0).isLt
  have a1 : (y 1).val < 128 := (y 1).isLt
  have e : y = ix2 ⟨(y 0).val, a0⟩ ⟨(y 1).val, a1⟩ := by funext a; fin_cases a <;> rfl
  have h := accL m c t.val t.isLt ⟨(y 0).val, a0⟩ ⟨(y 1).val, a1⟩
  refine Eq.trans (congrArg _ e) (h.trans ?_)
  rw [h1]
end Cert.LossHeadIdeal.Prod

namespace Cert.LossHeadRefIdeal.Prod
open Cert.LossHeadRefIdeal Cert.LossHeadRefIdeal.Read Cert.Mat
open Cert.NormGrad (ref coef vari)
open Cert.NormBwdIdeal.Prod (sq)
open Cert.LossHead (dy_eq half_sum)
open Cert.LossHeadIdeal.Prod (err dy dx term mean part)
open Idealize.ShloMosaic Idealize.ShloMosaic.Tactic
open Finset (range)

variable (x t : S8192x2048.Idx → EReal) (g : S1x2048.Idx → EReal)

/-- The reference's mean square and small number. -/
theorem vari_eq (i : S8192x1.Idx) : val_main_v7 (F := Ideal) x i = vari (sq x (i 0).val) := by
  have h0 : ∀ q, val_main_cst (F := Ideal) q = (0 : EReal) := by intro q; pointwise [val_main_cst]
  rw [val_main_v7_apply, val_main_v6_apply, val_main_v5_apply, val_main_v4_apply, val_main_v3_apply, val_main_v2_apply, h0, zero_add]
  refine Eq.trans (b := vari (∑ k : Fin 2048, val_main_v1 (F := Ideal) x (idx_main_v2 (idx_main_v3 i) k))) rfl ?_
  refine congrArg vari (Finset.sum_congr rfl fun k _ => ?_)
  rw [val_main_v1_apply]
  exact congrArg (fun v : EReal => v * v) (el_of x _ _ _ rfl rfl)

/-- The reference's root. -/
theorem root_eq (i : S8192x1.Idx) : val_main_v8 (F := Ideal) x i = Ideal.rsqrt (vari (sq x (i 0).val)) := by
  rw [val_main_v8_apply, vari_eq]
  rfl

/-- The reference's normalized entry. -/
theorem normed_eq (i : S8192x2048.Idx) : val_main_v13 (F := Ideal) x i = el x (i 0).val (i 1).val * Ideal.rsqrt (vari (sq x (i 0).val)) := by
  rw [val_main_v13_apply, val_main_v12_apply, root_eq]
  exact congrArg (fun a : EReal => a * Ideal.rsqrt _) (el_of x _ _ _ rfl rfl)

/-- The reference's weights. -/
theorem weight_eq (i : S1x2048.Idx) : val_main_v14 (F := Ideal) g i = el g 0 (i 1).val := by
  have a1 : (i 1).val < 2048 := (i 1).isLt
  rw [val_main_v14_apply, val_main_v0_apply]
  refine el_of g _ _ _ rfl ?_
  show (i 1).val % 2048 = (i 1).val
  omega

/-- The reference's error. -/
theorem err_eq (i : S8192x2048.Idx) : val_main_v17 (F := Ideal) x t g i = err x t g (i 0).val (i 1).val := by
  rw [val_main_v17_apply, val_main_v16_apply, val_main_v15_apply, normed_eq, weight_eq, el_of t i _ _ rfl rfl]
  rfl

/-- The reference's gradient of an error. -/
theorem dy_at (i : S8192x2048.Idx) : val_main_v31 (F := Ideal) x t g i = dy x t g (i 0).val (i 1).val := by
  rw [val_main_v31_apply, val_main_v30_apply, val_main_v29_apply, val_main_v28_apply, val_main_v27_apply, val_main_v26_apply, val_main_v20_apply,
    val_main_v19_apply, err_eq]
  exact dy_eq _

/-- The reference's weighted gradient. -/
theorem weighted_eq (i : S8192x2048.Idx) : val_main_v36 (F := Ideal) x t g i = dy x t g (i 0).val (i 1).val * el g 0 (i 1).val := by
  rw [val_main_v36_apply, val_main_v35_apply, dy_at, weight_eq]
  rfl

/-- What the reference multiplies the entry by. -/
theorem coef_eq (i : S8192x2048.Idx) : val_main_v47 (F := Ideal) x t g i
    = coef (vari (sq x (i 0).val)) (∑ k : Fin 2048, el x (i 0).val k * (dy x t g (i 0).val k * el g 0 k)) := by
  have h5 : ∀ q, val_main_cst_13 (F := Ideal) q = (0 : EReal) := by intro q; pointwise [val_main_cst_13]
  have h7 : ∀ q, val_main_cst_15 (F := Ideal) q = (0 : EReal) := by intro q; pointwise [val_main_cst_15]
  rw [val_main_v47_apply, val_main_v46_apply, h7, zero_add, Fin.sum_univ_one, val_main_v45_apply, val_main_v44_apply, val_main_v43_apply,
    val_main_v40_apply, val_main_v39_apply, h5, zero_add, val_main_v11_apply, val_main_v10_apply, val_main_v9_apply, root_eq, vari_eq]
  unfold coef
  refine congrArg (fun v : EReal => Ideal.div (v * _) _) (Finset.sum_congr rfl fun k _ => ?_)
  rw [val_main_v38_apply, weighted_eq]
  refine congrArg₂ (fun a b : EReal => a * b) (el_of x _ _ _ ?_ rfl) (congrArg₂ (fun a b : EReal => a * b) (congrArg₂ (dy x t g) ?_ rfl) rfl)
  · show (i 0).val * 1 + 0 = (i 0).val; omega
  · show (i 0).val * 1 + 0 = (i 0).val; omega

/-- The reference's first result is the gradient of its input. -/
theorem result3 : val_main_v51 (F := Ideal) x t g = fun i : S8192x2048.Idx => dx x t g (i 0).val (i 1).val := by
  funext i
  rw [val_main_v51_apply, val_main_v50_apply, val_main_v49_apply, val_main_v48_apply, val_main_v42_apply, val_main_v41_apply,
    root_eq, weighted_eq, coef_eq, el_of x i _ _ rfl rfl]
  unfold dx ref
  rw [zero_add]
  rfl

/-- The reference's gradient of the weights. -/
theorem dg_eq (i : S1x2048.Idx) : val_main_v52 (F := Ideal) x t g i
    = ∑ k ∈ range 8192, dy x t g k (i 1).val * (el x k (i 1).val * Ideal.rsqrt (vari (sq x k))) := by
  have h3 : ∀ q, val_main_cst_11 (F := Ideal) q = (0 : EReal) := by intro q; pointwise [val_main_cst_11]
  have h4 : ∀ q, val_main_cst_12 (F := Ideal) q = (0 : EReal) := by intro q; pointwise [val_main_cst_12]
  rw [val_main_v52_apply, val_main_v37_apply, h4, zero_add, Fin.sum_univ_one, val_main_v34_apply, val_main_v33_apply, h3, zero_add, Finset.sum_range]
  refine Finset.sum_congr rfl fun k _ => ?_
  rw [val_main_v32_apply, normed_eq, dy_at]
  have e : 0 * 2048 + (i 1).val = (i 1).val := by omega
  refine Eq.trans (mul_comm (G := EReal) _ _) (congrArg₂ (fun a b : EReal => a * b) (congrArg (dy x t g k.val) e)
    (congrArg (fun a : EReal => a * Ideal.rsqrt (vari (sq x k.val))) (congrArg (el x k.val) e)))

/-- The reference's second result holds the gradient of the weights in its first row. -/
theorem result4 : val_main_v53 (F := Ideal) x t g = fun i : S8x2048.Idx => ∑ k ∈ range 8192, term x t g (i 0).val (i 1).val k := by
  funext i
  have a0 : (i 0).val < 8 := (i 0).isLt
  have a1 : (i 1).val < 2048 := (i 1).isLt
  unfold val_main_v53 term
  by_cases e : (i 0).val = 0
  · simp only [if_pos e]
    refine (pad_apply_of_inside _ _ _ _ _ _ _ i (ValueIdx.ix2 (0 : Fin 1) ⟨(i 1).val, a1⟩) fun a => ?_).trans (dg_eq x t g _)
    match a with
    | ⟨0, _⟩ => show (i 0).val = 0 + 0 * (0 + 1); omega
    | ⟨1, _⟩ => show (i 1).val = 0 + (i 1).val * (0 + 1); omega
  · simp only [if_neg e, Finset.sum_const_zero]
    refine (pad_apply_of_not_inside _ _ _ _ _ _ _ i (0 : Fin 2) ?_).trans ?_
    · show ¬(0 ≤ (i 0).val ∧ ((i 0).val - 0) % (0 + 1) = 0 ∧ ((i 0).val - 0) / (0 + 1) < 1)
      omega
    · pointwise [val_main_call0_v0, val_main_c]
      show ((((0#32 : BitVec 32).toInt : ℤ) : ℝ) : EReal) = 0
      simp

/-- The reference's mean error of a row. -/
theorem mean_eq (i : S8192.Idx) : val_main_v23 (F := Ideal) x t g i = mean x t g (i 0).val := by
  have h4 : ∀ q, val_main_cst_4 (F := Ideal) q = (0 : EReal) := by intro q; pointwise [val_main_cst_4]
  rw [val_main_v23_apply, val_main_v22_apply, val_main_v21_apply, h4, zero_add]
  refine congrArg (fun a : EReal => Ideal.div a (Ideal.ofBits .f32 0x45000000#32)) (Finset.sum_congr rfl fun k _ => ?_)
  rw [val_main_v18_apply, err_eq]
  rfl

/-- The rows, by their numbers. -/
def rows : S8192.Idx ≃ Fin 8192 where
  toFun i := ⟨(i 0).val, (i 0).isLt⟩
  invFun k := fun a => match a with
    | ⟨0, _⟩ => k
  left_inv i := by funext a; fin_cases a; rfl
  right_inv k := rfl

/-- The reference's third result holds the loss everywhere. -/
theorem result5 : val_main_v54 (F := Ideal) x t g = fun i : S8x128.Idx => ∑ k ∈ range 8192, part x t g k := by
  have h6 : ∀ q, val_main_cst_6 (F := Ideal) q = (0 : EReal) := by intro q; pointwise [val_main_cst_6]
  funext i
  rw [val_main_v54_apply, val_main_v25_apply, val_main_v24_apply, h6, zero_add, Finset.sum_range]
  unfold part
  rw [half_sum (fun k : Fin 8192 => mean x t g k)]
  refine congrArg (fun a : EReal => Ideal.ofBits .f32 0x3F000000#32 * a) ?_
  exact Fintype.sum_equiv rows _ _ fun j => mean_eq x t g j
end Cert.LossHeadRefIdeal.Prod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Equal
public import proofs.«01_k».proof.Proof.Gen.ProjDw.Frame
public import proofs.«01_k».proof.Proof.Gen.ProjDwIdeal.Value
public import proofs.«01_k».proof.Proof.Gen.ProjDwRefIdeal.Run
public import proofs.«01_k».proof.Proof.Gen.ProjDwRefIdeal.Read
public import proofs.«01_k».proof.Proof.ProjDw
public import proofs.«01_k».proof.Proof.Gen.ProjDh.Frame
public import proofs.«01_k».proof.Proof.Gen.ProjDhIdeal.Value
public import proofs.«01_k».proof.Proof.Gen.ProjDhRefIdeal.Run
public import proofs.«01_k».proof.Proof.Gen.ProjDhRefIdeal.Read
public import proofs.«01_k».proof.Proof.ProjDh
public import proofs.«01_k».proof.Proof.Gen.GateDw.Frame
public import proofs.«01_k».proof.Proof.Gen.GateDwIdeal.Value
public import proofs.«01_k».proof.Proof.Gen.GateDwRefIdeal.Run
public import proofs.«01_k».proof.Proof.Gen.GateDwRefIdeal.Read
public import proofs.«01_k».proof.Proof.GateDw
public import proofs.«01_k».proof.Proof.Gen.GateDh.Frame
public import proofs.«01_k».proof.Proof.Gen.GateDhIdeal.Value
public import proofs.«01_k».proof.Proof.Gen.GateDhRefIdeal.Run
public import proofs.«01_k».proof.Proof.Gen.GateDhRefIdeal.Read
public import proofs.«01_k».proof.Proof.GateDh
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Proj
public import proofs.«01_k».proof.Proof.Gen.Gates.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gates
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Out
public import proofs.«01_k».proof.Proof.Gen.OutDx.Frame
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.OutDx
public import proofs.«01_k».proof.Proof.Gen.OutDw.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.OutDw
public import proofs.«01_k».proof.Proof.Gen.BranchDy.Frame
public import proofs.«01_k».proof.Proof.Gen.BranchDyIdeal.Value
public import proofs.«01_k».proof.Proof.Gen.BranchDyRefIdeal.Run
public import proofs.«01_k».proof.Proof.Gen.BranchDyRefIdeal.Read
public import proofs.«01_k».proof.Proof.BranchDy
public import proofs.«01_k».proof.Proof.Gen.BranchDw.Frame
public import proofs.«01_k».proof.Proof.Gen.BranchDwIdeal.Value
public import proofs.«01_k».proof.Proof.Gen.BranchDwRefIdeal.Run
public import proofs.«01_k».proof.Proof.Gen.BranchDwRefIdeal.Read
public import proofs.«01_k».proof.Proof.BranchDw
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.MergeBwd
public import proofs.«01_k».proof.Proof.Norm
public import proofs.«01_k».proof.Proof.Combine
public import proofs.«01_k».proof.Proof.AdamSmall
public import proofs.«01_k».proof.Proof.AdamConv
public import proofs.«01_k».proof.Proof.NormBwd
public import proofs.«01_k».proof.Proof.LossHead
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Combine.Frame
public import proofs.«01_k».proof.Proof.Gen.CombineIdeal.Value
public import proofs.«01_k».proof.Proof.Gen.CombineRefIdeal.Run
public import proofs.«01_k».proof.Proof.Gen.CombineRefIdeal.Read
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamConvRefIdeal.Read
public import proofs.«01_k».proof.Proof.Gen.NormBwd.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import Idealize.ShloMosaic.Adequacy
public import Idealize.ShloMosaic.Init

@[expose] public section

noncomputable section

namespace Cert.Proof

open Idealize.ShloMosaic Idealize.ShloMosaic.StableHlo Idealize.SL.Sem

/-- The reference's frame: it runs, its arguments end unchanged, and it declares no semaphore. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.2.2.2.1, (h c).2.2.2.2.2⟩, sem_eq_zero_of_no_sems (by decide) r.2⟩)
    (Cert.ReferenceIdeal.Value.run (F := Ideal) m ρ)

/-- On finite arguments the kernel's four gradients are the reference's. -/
theorem algebraic : Cert.algebraic_KernelIdeal_ReferenceIdeal_pre_finite := by
  intro m ρ m' ρ' hpre hargs
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    ?_, ?_⟩
  · refine (θ_run Cert.KernelIdeal.defs _ _).mono (fun r h c => ?_) (Cert.KernelIdeal.Value.run_blocks (F := Ideal) m ρ)
    have hf := Cert.KernelIdeal.Pay.finite_real _ _ (hpre c)
    obtain ⟨h7, h8, h9, h10, ha, hb⟩ := h c
    exact ⟨h7.trans (Cert.KernelIdeal.Pay.eq7 m c _ _ rfl rfl hf.1 hf.2), h8.trans (Cert.KernelIdeal.Pay.eq8 m c _ _ rfl rfl hf.1 hf.2),
      h9.trans (Cert.KernelIdeal.Pay.eq9 m c _ _ rfl rfl hf.1 hf.2), h10.trans (Cert.KernelIdeal.Pay.eq10 m c _ _ rfl rfl hf.1 hf.2), ha, hb⟩
  · refine (θ_run Cert.ReferenceIdeal.defs _ _).mono (fun r h c => ?_) (Cert.ReferenceIdeal.Value.run (F := Ideal) m' ρ')
    obtain ⟨h59, h58, h57, h60, ha, hb⟩ := h c
    refine ⟨(h59.trans (Cert.ReferenceIdeal.Read.val_main_v59_eq (launchContents m' c))).trans ?_,
      (h58.trans (Cert.ReferenceIdeal.Read.val_main_v58_eq (launchContents m' c))).trans ?_,
      (h57.trans (Cert.ReferenceIdeal.Read.val_main_v57_eq (launchContents m' c))).trans ?_,
      (h60.trans (Cert.ReferenceIdeal.Read.val_main_v60_eq (launchContents m' c))).trans ?_, ha, hb⟩
    · exact congrArg₂ (Cert.ReferenceIdeal.Read.val_main_v59 (F := Ideal)) (hargs c).1 (hargs c).2
    · exact congrArg₂ (Cert.ReferenceIdeal.Read.val_main_v58 (F := Ideal)) (hargs c).1 (hargs c).2
    · exact congrArg₂ (Cert.ReferenceIdeal.Read.val_main_v57 (F := Ideal)) (hargs c).1 (hargs c).2
    · exact congrArg₂ (Cert.ReferenceIdeal.Read.val_main_v60 (F := Ideal)) (hargs c).1 (hargs c).2

/-- What a run ends in, said of arrays that are equal. -/
theorem carried {R C : Type} {T : C → Type} (w : WPT R) {f : R → (c : C) → T c} {a b : (c : C) → T c} {A : R → C → Prop}
    (h : w (fun r => ∀ c, f r c = a c ∧ A r c)) (e : ∀ c, a c = b c) : w (fun r => ∀ c, f r c = b c ∧ A r c) :=
  w.mono (fun _ h c => ⟨(h c).1.trans (e c), (h c).2⟩) h

/-- The same of a run's second array. -/
theorem carried₂ {R C : Type} {T : C → Type} (w : WPT R) {f : R → (c : C) → T c} {a b : (c : C) → T c} {A B : R → C → Prop}
    (h : w (fun r => ∀ c, B r c ∧ f r c = a c ∧ A r c)) (e : ∀ c, a c = b c) : w (fun r => ∀ c, B r c ∧ f r c = b c ∧ A r c) :=
  w.mono (fun _ h c => ⟨(h c).1, (h c).2.1.trans (e c), (h c).2.2⟩) h

/-- The same of a run's third array. -/
theorem carried₃ {R C : Type} {T : C → Type} (w : WPT R) {f : R → (c : C) → T c} {a b : (c : C) → T c} {A B B' : R → C → Prop}
    (h : w (fun r => ∀ c, B r c ∧ B' r c ∧ f r c = a c ∧ A r c)) (e : ∀ c, a c = b c) : w (fun r => ∀ c, B r c ∧ B' r c ∧ f r c = b c ∧ A r c) :=
  w.mono (fun _ h c => ⟨(h c).1, (h c).2.1, (h c).2.2.1.trans (e c), (h c).2.2.2⟩) h

/-- The same of a run's fourth array. -/
theorem carried₄ {R C : Type} {T : C → Type} (w : WPT R) {f : R → (c : C) → T c} {a b : (c : C) → T c} {A B B' B'' : R → C → Prop}
    (h : w (fun r => ∀ c, B r c ∧ B' r c ∧ B'' r c ∧ f r c = a c ∧ A r c)) (e : ∀ c, a c = b c) :
    w (fun r => ∀ c, B r c ∧ B' r c ∧ B'' r c ∧ f r c = b c ∧ A r c) :=
  w.mono (fun _ h c => ⟨(h c).1, (h c).2.1, (h c).2.2.1, (h c).2.2.2.1.trans (e c), (h c).2.2.2.2⟩) h

/-- A run that ends in some arrays and keeps its arguments keeps its arguments. -/
theorem kept {R C : Type} (w : WPT R) {A B : R → C → Prop} {Z : R → Prop} (hz : ∀ r, Z r) (h : w (fun r => ∀ c, A r c ∧ B r c)) :
    w (fun r => (∀ c, B r c) ∧ Z r) :=
  w.mono (fun r h => ⟨fun c => (h c).2, hz r⟩) h

/-- The reference of the gradient of the input projection's weights keeps its arguments, and it declares no semaphore. -/
theorem frame_ProjDw : Cert.quiescent_ProjDwRefIdeal := fun m ρ _ =>
  kept _ (fun r => sem_eq_zero_of_no_sems (by decide) r.2) (Cert.ProjDwRefIdeal.Value.run (F := Ideal) m ρ)

/-- The kernel's result is the reference's: the gradient of the input projection's weights. -/
theorem algebraic_ProjDw : Cert.algebraic_ProjDwIdeal_ProjDwRefIdeal := fun m ρ m' ρ' _ hargs =>
  ⟨fun c => Cert.ProjDwRefIdeal.Read.val_main_v6 (F := Ideal) (m ((c.tc : Thread Cert.ProjDwIdeal.nD Cert.ProjDwIdeal.τ).loc Cert.ProjDwIdeal.main_arg0)) (m ((c.tc : Thread Cert.ProjDwIdeal.nD Cert.ProjDwIdeal.τ).loc Cert.ProjDwIdeal.main_arg1)),
    carried _ (Cert.ProjDwIdeal.Value.run (F := Ideal) m ρ) fun c => (Cert.ProjDwIdeal.Prod.result m c).trans (Cert.ProjDwRefIdeal.Prod.result _ _).symm,
    carried _ (Cert.ProjDwRefIdeal.Value.run (F := Ideal) m' ρ') fun c => (Cert.ProjDwRefIdeal.Read.val_main_v6_eq _ _).trans
      (congrArg₂ (Cert.ProjDwRefIdeal.Read.val_main_v6 (F := Ideal)) (hargs c).1 (hargs c).2)⟩

/-- The reference of the gradient of the normed rows keeps its arguments, and it declares no semaphore. -/
theorem frame_ProjDh : Cert.quiescent_ProjDhRefIdeal := fun m ρ _ =>
  kept _ (fun r => sem_eq_zero_of_no_sems (by decide) r.2) (Cert.ProjDhRefIdeal.Value.run (F := Ideal) m ρ)

/-- The kernel's result is the reference's: the gradient of the normed rows. -/
theorem algebraic_ProjDh : Cert.algebraic_ProjDhIdeal_ProjDhRefIdeal := fun m ρ m' ρ' _ hargs =>
  ⟨fun c => Cert.ProjDhRefIdeal.Read.val_main_v5 (F := Ideal) (m ((c.tc : Thread Cert.ProjDhIdeal.nD Cert.ProjDhIdeal.τ).loc Cert.ProjDhIdeal.main_arg0)) (m ((c.tc : Thread Cert.ProjDhIdeal.nD Cert.ProjDhIdeal.τ).loc Cert.ProjDhIdeal.main_arg1)) (m ((c.tc : Thread Cert.ProjDhIdeal.nD Cert.ProjDhIdeal.τ).loc Cert.ProjDhIdeal.main_arg2)),
    carried _ (Cert.ProjDhIdeal.Value.run (F := Ideal) m ρ) fun c => (Cert.ProjDhIdeal.Prod.result m c).trans (Cert.ProjDhRefIdeal.Prod.result _ _ _).symm,
    carried _ (Cert.ProjDhRefIdeal.Value.run (F := Ideal) m' ρ') fun c => (Cert.ProjDhRefIdeal.Read.val_main_v5_eq _ _ _).trans
      (congr (congrArg₂ (Cert.ProjDhRefIdeal.Read.val_main_v5 (F := Ideal)) (hargs c).1 (hargs c).2.1) (hargs c).2.2)⟩

/-- The reference of the gradient of the gates' weights keeps its arguments, and it declares no semaphore. -/
theorem frame_GateDw : Cert.quiescent_GateDwRefIdeal := fun m ρ _ =>
  kept _ (fun r => sem_eq_zero_of_no_sems (by decide) r.2) (Cert.GateDwRefIdeal.Value.run (F := Ideal) m ρ)

/-- The kernel's result is the reference's: the gradient of the gates' weights. -/
theorem algebraic_GateDw : Cert.algebraic_GateDwIdeal_GateDwRefIdeal := fun m ρ m' ρ' _ hargs =>
  ⟨fun c => Cert.GateDwRefIdeal.Read.val_main_v6 (F := Ideal) (m ((c.tc : Thread Cert.GateDwIdeal.nD Cert.GateDwIdeal.τ).loc Cert.GateDwIdeal.main_arg0)) (m ((c.tc : Thread Cert.GateDwIdeal.nD Cert.GateDwIdeal.τ).loc Cert.GateDwIdeal.main_arg1)),
    carried _ (Cert.GateDwIdeal.Value.run (F := Ideal) m ρ) fun c => (Cert.GateDwIdeal.Prod.result m c).trans (Cert.GateDwRefIdeal.Prod.result _ _).symm,
    carried _ (Cert.GateDwRefIdeal.Value.run (F := Ideal) m' ρ') fun c => (Cert.GateDwRefIdeal.Read.val_main_v6_eq _ _).trans
      (congrArg₂ (Cert.GateDwRefIdeal.Read.val_main_v6 (F := Ideal)) (hargs c).1 (hargs c).2)⟩

/-- The reference of the gates' part of the gradient of the normed rows keeps its arguments, and it declares no semaphore. -/
theorem frame_GateDh : Cert.quiescent_GateDhRefIdeal := fun m ρ _ =>
  kept _ (fun r => sem_eq_zero_of_no_sems (by decide) r.2) (Cert.GateDhRefIdeal.Value.run (F := Ideal) m ρ)

/-- The kernel's result is the reference's: the gates' part of the gradient of the normed rows. -/
theorem algebraic_GateDh : Cert.algebraic_GateDhIdeal_GateDhRefIdeal := fun m ρ m' ρ' _ hargs =>
  ⟨fun c => Cert.GateDhRefIdeal.Read.val_main_v4 (F := Ideal) (m ((c.tc : Thread Cert.GateDhIdeal.nD Cert.GateDhIdeal.τ).loc Cert.GateDhIdeal.main_arg0)) (m ((c.tc : Thread Cert.GateDhIdeal.nD Cert.GateDhIdeal.τ).loc Cert.GateDhIdeal.main_arg1)),
    carried _ (Cert.GateDhIdeal.Value.run (F := Ideal) m ρ) fun c => (Cert.GateDhIdeal.Prod.result m c).trans (Cert.GateDhRefIdeal.Prod.result _ _).symm,
    carried _ (Cert.GateDhRefIdeal.Value.run (F := Ideal) m' ρ') fun c => (Cert.GateDhRefIdeal.Read.val_main_v4_eq _ _).trans
      (congrArg₂ (Cert.GateDhRefIdeal.Read.val_main_v4 (F := Ideal)) (hargs c).1 (hargs c).2)⟩

/-- The reference of the input projection keeps its arguments, and it declares no semaphore. -/
theorem frame_Proj : Cert.quiescent_ProjRefIdeal := fun m ρ _ =>
  kept _ (fun r => sem_eq_zero_of_no_sems (by decide) r.2) (Cert.ProjRefIdeal.Value.run (F := Ideal) m ρ)

/-- The kernel's result is the reference's: the input projection. -/
theorem algebraic_Proj : Cert.algebraic_ProjIdeal_ProjRefIdeal := fun m ρ m' ρ' _ hargs =>
  ⟨fun c => Cert.ProjRefIdeal.Read.val_main_v2 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)),
    carried _ (Cert.ProjIdeal.Value.run_blocks (F := Ideal) m ρ) fun c => (Cert.ProjIdeal.Prod.result m c).trans (Cert.ProjRefIdeal.Prod.result _ _).symm,
    carried _ (Cert.ProjRefIdeal.Value.run (F := Ideal) m' ρ') fun c => (Cert.ProjRefIdeal.Read.val_main_v2_eq _ _).trans
      (congrArg₂ (Cert.ProjRefIdeal.Read.val_main_v2 (F := Ideal)) (hargs c).1 (hargs c).2)⟩

/-- The reference of the gates keeps its arguments, and it declares no semaphore. -/
theorem frame_Gates : Cert.quiescent_GatesRefIdeal := fun m ρ _ =>
  kept _ (fun r => sem_eq_zero_of_no_sems (by decide) r.2) (Cert.GatesRefIdeal.Value.run (F := Ideal) m ρ)

/-- The kernel's result is the reference's: the gates. -/
theorem algebraic_Gates : Cert.algebraic_GatesIdeal_GatesRefIdeal := fun m ρ m' ρ' _ hargs =>
  ⟨fun c => Cert.GatesRefIdeal.Read.val_main_v13 (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)),
    carried _ (Cert.GatesIdeal.Value.run_blocks (F := Ideal) m ρ) fun c => (Cert.GatesIdeal.Prod.result m c).trans (Cert.GatesRefIdeal.Prod.result _ _ _).symm,
    carried _ (Cert.GatesRefIdeal.Value.run (F := Ideal) m' ρ') fun c => (Cert.GatesRefIdeal.Read.val_main_v13_eq _ _ _).trans
      (congr (congrArg₂ (Cert.GatesRefIdeal.Read.val_main_v13 (F := Ideal)) (hargs c).1 (hargs c).2.1) (hargs c).2.2)⟩

/-- The reference of the output projection and the residual keeps its arguments, and it declares no semaphore. -/
theorem frame_Out : Cert.quiescent_OutRefIdeal := fun m ρ _ =>
  kept _ (fun r => sem_eq_zero_of_no_sems (by decide) r.2) (Cert.OutRefIdeal.Value.run (F := Ideal) m ρ)

/-- The kernel's result is the reference's: the output projection and the residual. -/
theorem algebraic_Out : Cert.algebraic_OutIdeal_OutRefIdeal := fun m ρ m' ρ' _ hargs =>
  ⟨fun c => Cert.OutRefIdeal.Read.val_main_v3 (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)),
    carried _ (Cert.OutIdeal.Value.run_blocks (F := Ideal) m ρ) fun c => (Cert.OutIdeal.Prod.result m c).trans (Cert.OutRefIdeal.Prod.result _ _ _).symm,
    carried _ (Cert.OutRefIdeal.Value.run (F := Ideal) m' ρ') fun c => (Cert.OutRefIdeal.Read.val_main_v3_eq _ _ _).trans
      (congr (congrArg₂ (Cert.OutRefIdeal.Read.val_main_v3 (F := Ideal)) (hargs c).1 (hargs c).2.1) (hargs c).2.2)⟩

/-- The reference of the gradient of the merged branches keeps its arguments, and it declares no semaphore. -/
theorem frame_OutDx : Cert.quiescent_OutDxRefIdeal := fun m ρ _ =>
  kept _ (fun r => sem_eq_zero_of_no_sems (by decide) r.2) (Cert.OutDxRefIdeal.Value.run (F := Ideal) m ρ)

/-- The kernel's result is the reference's: the gradient of the merged branches. -/
theorem algebraic_OutDx : Cert.algebraic_OutDxIdeal_OutDxRefIdeal := fun m ρ m' ρ' _ hargs =>
  ⟨fun c => Cert.OutDxRefIdeal.Read.val_main_v3 (F := Ideal) (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)),
    carried _ (Cert.OutDxIdeal.Value.run_blocks (F := Ideal) m ρ) fun c => (Cert.OutDxIdeal.Prod.result m c).trans (Cert.OutDxRefIdeal.Prod.result _ _).symm,
    carried _ (Cert.OutDxRefIdeal.Value.run (F := Ideal) m' ρ') fun c => (Cert.OutDxRefIdeal.Read.val_main_v3_eq _ _).trans
      (congrArg₂ (Cert.OutDxRefIdeal.Read.val_main_v3 (F := Ideal)) (hargs c).1 (hargs c).2)⟩

/-- The reference of the gradient of the output projection's weights keeps its arguments, and it declares no semaphore. -/
theorem frame_OutDw : Cert.quiescent_OutDwRefIdeal := fun m ρ _ =>
  kept _ (fun r => sem_eq_zero_of_no_sems (by decide) r.2) (Cert.OutDwRefIdeal.Value.run (F := Ideal) m ρ)

/-- The kernel's result is the reference's: the gradient of the output projection's weights. -/
theorem algebraic_OutDw : Cert.algebraic_OutDwIdeal_OutDwRefIdeal := fun m ρ m' ρ' _ hargs =>
  ⟨fun c => Cert.OutDwRefIdeal.Read.val_main_v5 (F := Ideal) (m ((c.tc : Thread Cert.OutDwIdeal.nD Cert.OutDwIdeal.τ).loc Cert.OutDwIdeal.main_arg0)) (m ((c.tc : Thread Cert.OutDwIdeal.nD Cert.OutDwIdeal.τ).loc Cert.OutDwIdeal.main_arg1)),
    carried _ (Cert.OutDwIdeal.Value.run (F := Ideal) m ρ) fun c => (Cert.OutDwIdeal.Prod.result m c).trans (Cert.OutDwRefIdeal.Prod.result _ _).symm,
    carried _ (Cert.OutDwRefIdeal.Value.run (F := Ideal) m' ρ') fun c => (Cert.OutDwRefIdeal.Read.val_main_v5_eq _ _).trans
      (congrArg₂ (Cert.OutDwRefIdeal.Read.val_main_v5 (F := Ideal)) (hargs c).1 (hargs c).2)⟩

/-- The reference of the gradient of the branches' rows keeps its arguments, and it declares no semaphore. -/
theorem frame_BranchDy : Cert.quiescent_BranchDyRefIdeal := fun m ρ _ =>
  kept _ (fun r => sem_eq_zero_of_no_sems (by decide) r.2) (Cert.BranchDyRefIdeal.Value.run (F := Ideal) m ρ)

/-- The kernel's result is the reference's: the gradient of the branches' rows. -/
theorem algebraic_BranchDy : Cert.algebraic_BranchDyIdeal_BranchDyRefIdeal := fun m ρ m' ρ' _ hargs =>
  ⟨fun c => Cert.BranchDyRefIdeal.Read.val_main_v4 (F := Ideal) (m ((c.tc : Thread Cert.BranchDyIdeal.nD Cert.BranchDyIdeal.τ).loc Cert.BranchDyIdeal.main_arg0)) (m ((c.tc : Thread Cert.BranchDyIdeal.nD Cert.BranchDyIdeal.τ).loc Cert.BranchDyIdeal.main_arg1)),
    carried _ (Cert.BranchDyIdeal.Value.run_blocks (F := Ideal) m ρ) fun c => (Cert.BranchDyIdeal.Prod.result m c).trans (Cert.BranchDyRefIdeal.Prod.result _ _).symm,
    carried _ (Cert.BranchDyRefIdeal.Value.run (F := Ideal) m' ρ') fun c => (Cert.BranchDyRefIdeal.Read.val_main_v4_eq _ _).trans
      (congrArg₂ (Cert.BranchDyRefIdeal.Read.val_main_v4 (F := Ideal)) (hargs c).1 (hargs c).2)⟩

/-- The reference of the gradient of the branches' weights keeps its arguments, and it declares no semaphore. -/
theorem frame_BranchDw : Cert.quiescent_BranchDwRefIdeal := fun m ρ _ =>
  kept _ (fun r => sem_eq_zero_of_no_sems (by decide) r.2) (Cert.BranchDwRefIdeal.Value.run (F := Ideal) m ρ)

/-- The kernel's result is the reference's: the gradient of the branches' weights. -/
theorem algebraic_BranchDw : Cert.algebraic_BranchDwIdeal_BranchDwRefIdeal := fun m ρ m' ρ' _ hargs =>
  ⟨fun c => Cert.BranchDwRefIdeal.Read.val_main_v6 (F := Ideal) (m ((c.tc : Thread Cert.BranchDwIdeal.nD Cert.BranchDwIdeal.τ).loc Cert.BranchDwIdeal.main_arg0)) (m ((c.tc : Thread Cert.BranchDwIdeal.nD Cert.BranchDwIdeal.τ).loc Cert.BranchDwIdeal.main_arg1)),
    carried _ (Cert.BranchDwIdeal.Value.run (F := Ideal) m ρ) fun c => (Cert.BranchDwIdeal.Prod.result m c).trans (Cert.BranchDwRefIdeal.Prod.result _ _).symm,
    carried _ (Cert.BranchDwRefIdeal.Value.run (F := Ideal) m' ρ') fun c => (Cert.BranchDwRefIdeal.Read.val_main_v6_eq _ _).trans
      (congrArg₂ (Cert.BranchDwRefIdeal.Read.val_main_v6 (F := Ideal)) (hargs c).1 (hargs c).2)⟩

/-- The reference of the branches' projections and their gated sum keeps its arguments, and it declares no semaphore. -/
theorem frame_Merge : Cert.quiescent_MergeRefIdeal := fun m ρ _ =>
  (θ_run Cert.MergeRefIdeal.defs _ _).mono (fun r h => ⟨fun c => (h c).2.2, sem_eq_zero_of_no_sems (by decide) r.2⟩) (Cert.MergeRefIdeal.Value.run (F := Ideal) m ρ)

/-- The kernel's results are the reference's: the branches' projections and their gated sum. -/
theorem algebraic_Merge : Cert.algebraic_MergeIdeal_MergeRefIdeal := fun m ρ m' ρ' _ hargs =>
  ⟨fun c => Cert.MergeRefIdeal.Read.val_main_v2 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)),
    fun c => Cert.MergeRefIdeal.Read.val_main_v9 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)),
    carried₂ _ (carried _ (Cert.MergeIdeal.Value.run_blocks (F := Ideal) m ρ) fun c => (Cert.MergeIdeal.Prod.result3 m c).trans (Cert.MergeRefIdeal.Prod.result3 _ _).symm)
      fun c => (Cert.MergeIdeal.Prod.result4 m c).trans (Cert.MergeRefIdeal.Prod.result4 _ _ _).symm,
    carried₂ _ (carried _ (Cert.MergeRefIdeal.Value.run (F := Ideal) m' ρ') fun c => (Cert.MergeRefIdeal.Read.val_main_v6_eq _ _).trans
        (congrArg₂ (Cert.MergeRefIdeal.Read.val_main_v2 (F := Ideal)) (hargs c).1 (hargs c).2.1))
      fun c => (Cert.MergeRefIdeal.Read.val_main_v9_eq _ _ _).trans
        (congr (congrArg₂ (Cert.MergeRefIdeal.Read.val_main_v9 (F := Ideal)) (hargs c).1 (hargs c).2.1) (hargs c).2.2)⟩

/-- The reference of the gradients of the gated sum keeps its arguments, and it declares no semaphore. -/
theorem frame_MergeBwd : Cert.quiescent_MergeBwdRefIdeal := fun m ρ _ =>
  (θ_run Cert.MergeBwdRefIdeal.defs _ _).mono (fun r h => ⟨fun c => (h c).2.2.2, sem_eq_zero_of_no_sems (by decide) r.2⟩) (Cert.MergeBwdRefIdeal.Value.run (F := Ideal) m ρ)

/-- The kernel's results are the reference's: the gradients of the branches' rows, of what the gates are the sigmoid of, and of the bias. -/
theorem algebraic_MergeBwd : Cert.algebraic_MergeBwdIdeal_MergeBwdRefIdeal := fun m ρ m' ρ' _ hargs =>
  ⟨fun c => Cert.MergeBwdRefIdeal.Read.val_main_v27 (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg3)),
    fun c => Cert.MergeBwdRefIdeal.Read.val_main_v28 (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)),
    fun c => Cert.MergeBwdRefIdeal.Read.val_main_v30 (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)),
    carried₃ _ (carried₂ _ (carried _ (Cert.MergeBwdIdeal.Value.run_blocks (F := Ideal) m ρ)
        fun c => (Cert.MergeBwdIdeal.Prod.result3 m c).trans (Cert.MergeBwdRefIdeal.Prod.result3 _ _ _).symm)
        fun c => (Cert.MergeBwdIdeal.Prod.result4 m c).trans (Cert.MergeBwdRefIdeal.Prod.result4 _ _ _ _).symm)
      fun c => (Cert.MergeBwdIdeal.Prod.result5 m c).trans (Cert.MergeBwdRefIdeal.Prod.result5 _ _ _ _).symm,
    carried₃ _ (carried₂ _ (carried _ (Cert.MergeBwdRefIdeal.Value.run (F := Ideal) m' ρ')
        fun c => (Cert.MergeBwdRefIdeal.Read.val_main_v27_eq _ _ _).trans (congr (congrArg₂ (Cert.MergeBwdRefIdeal.Read.val_main_v27 (F := Ideal)) (hargs c).1 (hargs c).2.1) (hargs c).2.2.2))
        fun c => (Cert.MergeBwdRefIdeal.Read.val_main_v28_eq _ _ _ _).trans (congr (congr (congrArg₂ (Cert.MergeBwdRefIdeal.Read.val_main_v28 (F := Ideal)) (hargs c).1 (hargs c).2.1) (hargs c).2.2.1) (hargs c).2.2.2))
      fun c => (Cert.MergeBwdRefIdeal.Read.val_main_v30_eq _ _ _ _).trans (congr (congr (congrArg₂ (Cert.MergeBwdRefIdeal.Read.val_main_v30 (F := Ideal)) (hargs c).1 (hargs c).2.1) (hargs c).2.2.1) (hargs c).2.2.2)⟩

/-- The reference of the normalization keeps its arguments, and it declares no semaphore. -/
theorem frame_Norm : Cert.quiescent_NormRefIdeal := fun m ρ _ =>
  (θ_run Cert.NormRefIdeal.defs _ _).mono (fun r h => ⟨fun c => (h c).2, sem_eq_zero_of_no_sems (by decide) r.2⟩) (Cert.NormRefIdeal.Value.run (F := Ideal) m ρ)

/-- The kernel's normalized input is the reference's. -/
theorem algebraic_Norm : Cert.algebraic_NormIdeal_NormRefIdeal := fun m ρ m' ρ' _ hargs =>
  ⟨fun c => Cert.NormRefIdeal.Read.val_main_v14 (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)),
    (carried _ (Cert.NormIdeal.Value.run_blocks (F := Ideal) m ρ)
        fun c => (Cert.NormIdeal.Prod.result m c).trans (Cert.NormRefIdeal.Prod.result _ _).symm),
    (carried _ (Cert.NormRefIdeal.Value.run (F := Ideal) m' ρ')
        fun c => (Cert.NormRefIdeal.Read.val_main_v14_eq _ _).trans (congrArg₂ (Cert.NormRefIdeal.Read.val_main_v14 (F := Ideal)) (hargs c).1 (hargs c).2))⟩

/-- The reference of the combination of the dilations keeps its arguments, and it declares no semaphore. -/
theorem frame_Combine : Cert.quiescent_CombineRefIdeal := fun m ρ _ =>
  (θ_run Cert.CombineRefIdeal.defs _ _).mono (fun r h => ⟨fun c => (h c).2.2.2, sem_eq_zero_of_no_sems (by decide) r.2⟩) (Cert.CombineRefIdeal.Value.run (F := Ideal) m ρ)

/-- The kernel's results are the reference's: the combined output, the log of the denominators' sum, and the branches with the gated output in the last. -/
theorem algebraic_Combine : Cert.algebraic_CombineIdeal_CombineRefIdeal := fun m ρ m' ρ' _ hargs =>
  ⟨fun c => Cert.CombineRefIdeal.Read.val_main_v20 (F := Ideal) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6)),
    fun c => Cert.CombineRefIdeal.Read.val_main_v28 (F := Ideal) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6)),
    fun c => Cert.CombineRefIdeal.Read.val_main_v35 (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6)) (m ((c.tc : Thread Cert.CombineIdeal.nD Cert.CombineIdeal.τ).loc Cert.CombineIdeal.main_arg7)),
    (carried₃ _ (carried₂ _ (carried _ (Cert.CombineIdeal.Value.run_blocks (F := Ideal) m ρ)
        fun c => (Cert.CombineIdeal.Prod.result7 m c).trans (Cert.CombineRefIdeal.Prod.result_od _ _ _ _ _ _).symm)
        fun c => (Cert.CombineIdeal.Prod.result8 m c).trans (Cert.CombineRefIdeal.Prod.result_lse _ _ _).symm)
        fun c => (Cert.CombineIdeal.Prod.result9 m c).trans (Cert.CombineRefIdeal.Prod.result_y _ _ _ _ _ _ _ _).symm),
    (carried₃ _ (carried₂ _ (carried _ (Cert.CombineRefIdeal.Value.run (F := Ideal) m' ρ')
        fun c => (Cert.CombineRefIdeal.Read.val_main_v20_eq m' c).trans (congr (congr (congr (congr (congrArg₂ (Cert.CombineRefIdeal.Read.val_main_v20 (F := Ideal)) (hargs c).2.1 (hargs c).2.2.1) (hargs c).2.2.2.1) (hargs c).2.2.2.2.1) (hargs c).2.2.2.2.2.1) (hargs c).2.2.2.2.2.2.1))
        fun c => (Cert.CombineRefIdeal.Read.val_main_v28_eq _ _ _).trans (congr (congrArg₂ (Cert.CombineRefIdeal.Read.val_main_v28 (F := Ideal)) (hargs c).2.2.2.2.1 (hargs c).2.2.2.2.2.1) (hargs c).2.2.2.2.2.2.1))
        fun c => (Cert.CombineRefIdeal.Read.val_main_v35_eq m' c).trans (congr (congr (congr (congr (congr (congr (congrArg₂ (Cert.CombineRefIdeal.Read.val_main_v35 (F := Ideal)) (hargs c).1 (hargs c).2.1) (hargs c).2.2.1) (hargs c).2.2.2.1) (hargs c).2.2.2.2.1) (hargs c).2.2.2.2.2.1) (hargs c).2.2.2.2.2.2.1) (hargs c).2.2.2.2.2.2.2))⟩

/-- The reference of the small weights' step keeps its arguments, and it declares no semaphore. -/
theorem frame_AdamSmall : Cert.quiescent_AdamSmallRefIdeal := fun m ρ _ =>
  (θ_run Cert.AdamSmallRefIdeal.defs _ _).mono (fun r h => ⟨fun c => (h c).2.2.2.2, sem_eq_zero_of_no_sems (by decide) r.2⟩) (Cert.AdamSmallRefIdeal.Value.run (F := Ideal) m ρ)

/-- The kernel's results are the reference's: the gradients' sum, the weights' change, and both means. -/
theorem algebraic_AdamSmall : Cert.algebraic_AdamSmallIdeal_AdamSmallRefIdeal := fun m ρ m' ρ' _ hargs =>
  ⟨fun c => Cert.AdamSmallRefIdeal.Read.val_main_v0 (F := Ideal) (m ((c.tc : Thread Cert.AdamSmallIdeal.nD Cert.AdamSmallIdeal.τ).loc Cert.AdamSmallIdeal.main_arg0)),
    fun c => Cert.AdamSmallRefIdeal.Read.val_main_v24 (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)),
    fun c => Cert.AdamSmallRefIdeal.Read.val_main_v5 (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg2)),
    fun c => Cert.AdamSmallRefIdeal.Read.val_main_v11 (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg3)),
    (carried₄ _ (carried₃ _ (carried₂ _ (carried _ (Cert.AdamSmallIdeal.Value.run_blocks (F := Ideal) m ρ)
        fun c => (Cert.AdamSmallIdeal.Prod.result4 m c).trans (Cert.AdamSmallRefIdeal.Prod.result_g _).symm)
        fun c => (Cert.AdamSmallIdeal.Prod.result5 m c).trans (Cert.AdamSmallRefIdeal.Prod.result_d _ _ _ _).symm)
        fun c => (Cert.AdamSmallIdeal.Prod.result6 m c).trans (Cert.AdamSmallRefIdeal.Prod.result_m _ _).symm)
        fun c => (Cert.AdamSmallIdeal.Prod.result7 m c).trans (Cert.AdamSmallRefIdeal.Prod.result_v _ _).symm),
    (carried₄ _ (carried₃ _ (carried₂ _ (carried _ (Cert.AdamSmallRefIdeal.Value.run (F := Ideal) m' ρ')
        fun c => (Cert.AdamSmallRefIdeal.Read.val_main_v0_eq _).trans (congrArg (Cert.AdamSmallRefIdeal.Read.val_main_v0 (F := Ideal)) (hargs c).1))
        fun c => (Cert.AdamSmallRefIdeal.Read.val_main_v24_eq _ _ _ _).trans (congr (congr (congrArg₂ (Cert.AdamSmallRefIdeal.Read.val_main_v24 (F := Ideal)) (hargs c).1 (hargs c).2.1) (hargs c).2.2.1) (hargs c).2.2.2))
        fun c => (Cert.AdamSmallRefIdeal.Read.val_main_v5_eq _ _).trans (congrArg₂ (Cert.AdamSmallRefIdeal.Read.val_main_v5 (F := Ideal)) (hargs c).1 (hargs c).2.2.1))
        fun c => (Cert.AdamSmallRefIdeal.Read.val_main_v11_eq _ _).trans (congrArg₂ (Cert.AdamSmallRefIdeal.Read.val_main_v11 (F := Ideal)) (hargs c).1 (hargs c).2.2.2))⟩

/-- The reference of the convolution weights' step keeps its arguments, and it declares no semaphore. -/
theorem frame_AdamConv : Cert.quiescent_AdamConvRefIdeal := fun m ρ _ =>
  (θ_run Cert.AdamConvRefIdeal.defs _ _).mono (fun r h => ⟨fun c => (h c).2.2.2.2, sem_eq_zero_of_no_sems (by decide) r.2⟩) (Cert.AdamConvRefIdeal.Value.run (F := Ideal) m ρ)

/-- The kernel's results are the reference's: the gradient, the weights' change, and both means. -/
theorem algebraic_AdamConv : Cert.algebraic_AdamConvIdeal_AdamConvRefIdeal := fun m ρ m' ρ' _ hargs =>
  ⟨fun c => Cert.AdamConvRefIdeal.Read.val_main_v0 (F := Ideal) (m ((c.tc : Thread Cert.AdamConvIdeal.nD Cert.AdamConvIdeal.τ).loc Cert.AdamConvIdeal.main_arg0)),
    fun c => Cert.AdamConvRefIdeal.Read.val_main_v24 (F := Ideal) (m ((c.tc : Thread Cert.AdamConvIdeal.nD Cert.AdamConvIdeal.τ).loc Cert.AdamConvIdeal.main_arg0)) (m ((c.tc : Thread Cert.AdamConvIdeal.nD Cert.AdamConvIdeal.τ).loc Cert.AdamConvIdeal.main_arg1)) (m ((c.tc : Thread Cert.AdamConvIdeal.nD Cert.AdamConvIdeal.τ).loc Cert.AdamConvIdeal.main_arg2)) (m ((c.tc : Thread Cert.AdamConvIdeal.nD Cert.AdamConvIdeal.τ).loc Cert.AdamConvIdeal.main_arg3)),
    fun c => Cert.AdamConvRefIdeal.Read.val_main_v5 (F := Ideal) (m ((c.tc : Thread Cert.AdamConvIdeal.nD Cert.AdamConvIdeal.τ).loc Cert.AdamConvIdeal.main_arg0)) (m ((c.tc : Thread Cert.AdamConvIdeal.nD Cert.AdamConvIdeal.τ).loc Cert.AdamConvIdeal.main_arg2)),
    fun c => Cert.AdamConvRefIdeal.Read.val_main_v11 (F := Ideal) (m ((c.tc : Thread Cert.AdamConvIdeal.nD Cert.AdamConvIdeal.τ).loc Cert.AdamConvIdeal.main_arg0)) (m ((c.tc : Thread Cert.AdamConvIdeal.nD Cert.AdamConvIdeal.τ).loc Cert.AdamConvIdeal.main_arg3)),
    (carried₄ _ (carried₃ _ (carried₂ _ (carried _ (Cert.AdamConvIdeal.Value.run_blocks (F := Ideal) m ρ)
        fun c => (Cert.AdamConvIdeal.Prod.result4 m c).trans (Cert.AdamConvRefIdeal.Prod.result_g _).symm)
        fun c => (Cert.AdamConvIdeal.Prod.result5 m c).trans (Cert.AdamConvRefIdeal.Prod.result_d _ _ _ _).symm)
        fun c => (Cert.AdamConvIdeal.Prod.result6 m c).trans (Cert.AdamConvRefIdeal.Prod.result_m _ _).symm)
        fun c => (Cert.AdamConvIdeal.Prod.result7 m c).trans (Cert.AdamConvRefIdeal.Prod.result_v _ _).symm),
    (carried₄ _ (carried₃ _ (carried₂ _ (carried _ (Cert.AdamConvRefIdeal.Value.run (F := Ideal) m' ρ')
        fun c => (Cert.AdamConvRefIdeal.Read.val_main_v0_eq _).trans (congrArg (Cert.AdamConvRefIdeal.Read.val_main_v0 (F := Ideal)) (hargs c).1))
        fun c => (Cert.AdamConvRefIdeal.Read.val_main_v24_eq _ _ _ _).trans (congr (congr (congrArg₂ (Cert.AdamConvRefIdeal.Read.val_main_v24 (F := Ideal)) (hargs c).1 (hargs c).2.1) (hargs c).2.2.1) (hargs c).2.2.2))
        fun c => (Cert.AdamConvRefIdeal.Read.val_main_v5_eq _ _).trans (congrArg₂ (Cert.AdamConvRefIdeal.Read.val_main_v5 (F := Ideal)) (hargs c).1 (hargs c).2.2.1))
        fun c => (Cert.AdamConvRefIdeal.Read.val_main_v11_eq _ _).trans (congrArg₂ (Cert.AdamConvRefIdeal.Read.val_main_v11 (F := Ideal)) (hargs c).1 (hargs c).2.2.2))⟩

/-- The reference of the normalization's gradients keeps its arguments, and it declares no semaphore. -/
theorem frame_NormBwd : Cert.quiescent_NormBwdRefIdeal := fun m ρ _ =>
  (θ_run Cert.NormBwdRefIdeal.defs _ _).mono (fun r h => ⟨fun c => (h c).2.2, sem_eq_zero_of_no_sems (by decide) r.2⟩) (Cert.NormBwdRefIdeal.Value.run (F := Ideal) m ρ)

/-- The kernel's gradients of the normalization's input and weights are the reference's. -/
theorem algebraic_NormBwd : Cert.algebraic_NormBwdIdeal_NormBwdRefIdeal := fun m ρ m' ρ' _ hargs =>
  ⟨fun c => Cert.NormBwdRefIdeal.Read.val_main_v37 (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)),
    fun c => Cert.NormBwdRefIdeal.Read.val_main_v39 (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)),
    (carried₂ _ (carried _ (Cert.NormBwdIdeal.Value.run_blocks (F := Ideal) m ρ)
        fun c => (Cert.NormBwdIdeal.Prod.result4 m c).trans (Cert.NormBwdRefIdeal.Prod.result4 _ _ _ _).symm)
        fun c => (Cert.NormBwdIdeal.Prod.result5 m c).trans (Cert.NormBwdRefIdeal.Prod.result5 _ _).symm),
    (carried₂ _ (carried _ (Cert.NormBwdRefIdeal.Value.run (F := Ideal) m' ρ')
        fun c => (Cert.NormBwdRefIdeal.Read.val_main_v37_eq m' c).trans (congr (congr (congrArg₂ (Cert.NormBwdRefIdeal.Read.val_main_v37 (F := Ideal)) (hargs c).1 (hargs c).2.1) (hargs c).2.2.1) (hargs c).2.2.2))
        fun c => (Cert.NormBwdRefIdeal.Read.val_main_v39_eq _ _).trans (congrArg₂ (Cert.NormBwdRefIdeal.Read.val_main_v39 (F := Ideal)) (hargs c).1 (hargs c).2.1))⟩

/-- The reference of the loss keeps its arguments, and it declares no semaphore. -/
theorem frame_LossHead : Cert.quiescent_LossHeadRefIdeal := fun m ρ _ =>
  (θ_run Cert.LossHeadRefIdeal.defs _ _).mono (fun r h => ⟨fun c => (h c).2.2.2, sem_eq_zero_of_no_sems (by decide) r.2⟩) (Cert.LossHeadRefIdeal.Value.run (F := Ideal) m ρ)

/-- The kernel's results are the reference's: the gradients of the last layer's result and of the norm's weights, and the loss. -/
theorem algebraic_LossHead : Cert.algebraic_LossHeadIdeal_LossHeadRefIdeal := fun m ρ m' ρ' _ hargs =>
  ⟨fun c => Cert.LossHeadRefIdeal.Read.val_main_v51 (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)),
    fun c => Cert.LossHeadRefIdeal.Read.val_main_v53 (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)),
    fun c => Cert.LossHeadRefIdeal.Read.val_main_v54 (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)),
    (carried₃ _ (carried₂ _ (carried _ (Cert.LossHeadIdeal.Value.run_blocks (F := Ideal) m ρ)
        fun c => (Cert.LossHeadIdeal.Prod.result3 m c).trans (Cert.LossHeadRefIdeal.Prod.result3 _ _ _).symm)
        fun c => (Cert.LossHeadIdeal.Prod.result4 m c).trans (Cert.LossHeadRefIdeal.Prod.result4 _ _ _).symm)
        fun c => (Cert.LossHeadIdeal.Prod.result5 m c).trans (Cert.LossHeadRefIdeal.Prod.result5 _ _ _).symm),
    (carried₃ _ (carried₂ _ (carried _ (Cert.LossHeadRefIdeal.Value.run (F := Ideal) m' ρ')
        fun c => (Cert.LossHeadRefIdeal.Read.val_main_v51_eq m' c).trans (congr (congrArg₂ (Cert.LossHeadRefIdeal.Read.val_main_v51 (F := Ideal)) (hargs c).1 (hargs c).2.1) (hargs c).2.2))
        fun c => (Cert.LossHeadRefIdeal.Read.val_main_v53_eq _ _ _).trans (congr (congrArg₂ (Cert.LossHeadRefIdeal.Read.val_main_v53 (F := Ideal)) (hargs c).1 (hargs c).2.1) (hargs c).2.2))
        fun c => (Cert.LossHeadRefIdeal.Read.val_main_v54_eq _ _ _).trans (congr (congrArg₂ (Cert.LossHeadRefIdeal.Read.val_main_v54 (F := Ideal)) (hargs c).1 (hargs c).2.1) (hargs c).2.2))⟩

/-- Everything the certificate claims. -/
theorem claim : Cert.Claim := ⟨Cert.Kernel.Gen.facts, Cert.KernelIdeal.Gen.facts, Cert.ReferenceIdeal.Gen.facts,
  Cert.ProjDw.Gen.facts, Cert.ProjDwIdeal.Gen.facts, Cert.ProjDwRefIdeal.Gen.facts,
  Cert.ProjDh.Gen.facts, Cert.ProjDhIdeal.Gen.facts, Cert.ProjDhRefIdeal.Gen.facts,
  Cert.GateDw.Gen.facts, Cert.GateDwIdeal.Gen.facts, Cert.GateDwRefIdeal.Gen.facts,
  Cert.GateDh.Gen.facts, Cert.GateDhIdeal.Gen.facts, Cert.GateDhRefIdeal.Gen.facts,
  Cert.Proj.Gen.facts, Cert.ProjIdeal.Gen.facts, Cert.ProjRefIdeal.Gen.facts,
  Cert.Gates.Gen.facts, Cert.GatesIdeal.Gen.facts, Cert.GatesRefIdeal.Gen.facts,
  Cert.Out.Gen.facts, Cert.OutIdeal.Gen.facts, Cert.OutRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.BranchDy.Gen.facts, Cert.BranchDyIdeal.Gen.facts, Cert.BranchDyRefIdeal.Gen.facts,
  Cert.BranchDw.Gen.facts, Cert.BranchDwIdeal.Gen.facts, Cert.BranchDwRefIdeal.Gen.facts,
  Cert.Merge.Gen.facts, Cert.MergeIdeal.Gen.facts, Cert.MergeRefIdeal.Gen.facts,
  Cert.MergeBwd.Gen.facts, Cert.MergeBwdIdeal.Gen.facts, Cert.MergeBwdRefIdeal.Gen.facts,
  Cert.Norm.Gen.facts, Cert.NormIdeal.Gen.facts, Cert.NormRefIdeal.Gen.facts,
  Cert.Combine.Gen.facts, Cert.CombineIdeal.Gen.facts, Cert.CombineRefIdeal.Gen.facts,
  Cert.AdamSmall.Gen.facts, Cert.AdamSmallIdeal.Gen.facts, Cert.AdamSmallRefIdeal.Gen.facts,
  Cert.AdamConv.Gen.facts, Cert.AdamConvIdeal.Gen.facts, Cert.AdamConvRefIdeal.Gen.facts,
  Cert.NormBwd.Gen.facts, Cert.NormBwdIdeal.Gen.facts, Cert.NormBwdRefIdeal.Gen.facts,
  Cert.LossHead.Gen.facts, Cert.LossHeadIdeal.Gen.facts, Cert.LossHeadRefIdeal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_ref m ρ, fun m ρ _ => frame_ref m ρ,
  fun m ρ _ => Cert.ProjDw.Gen.frame m ρ, fun m ρ _ => Cert.ProjDwIdeal.Gen.frame m ρ, frame_ProjDw,
  fun m ρ _ => Cert.ProjDh.Gen.frame m ρ, fun m ρ _ => Cert.ProjDhIdeal.Gen.frame m ρ, frame_ProjDh,
  fun m ρ _ => Cert.GateDw.Gen.frame m ρ, fun m ρ _ => Cert.GateDwIdeal.Gen.frame m ρ, frame_GateDw,
  fun m ρ _ => Cert.GateDh.Gen.frame m ρ, fun m ρ _ => Cert.GateDhIdeal.Gen.frame m ρ, frame_GateDh,
  fun m ρ _ => Cert.Proj.Gen.frame m ρ, fun m ρ _ => Cert.ProjIdeal.Gen.frame m ρ, frame_Proj,
  fun m ρ _ => Cert.Gates.Gen.frame m ρ, fun m ρ _ => Cert.GatesIdeal.Gen.frame m ρ, frame_Gates,
  fun m ρ _ => Cert.Out.Gen.frame m ρ, fun m ρ _ => Cert.OutIdeal.Gen.frame m ρ, frame_Out,
  fun m ρ _ => Cert.OutDx.Gen.frame m ρ, fun m ρ _ => Cert.OutDxIdeal.Gen.frame m ρ, frame_OutDx,
  fun m ρ _ => Cert.OutDw.Gen.frame m ρ, fun m ρ _ => Cert.OutDwIdeal.Gen.frame m ρ, frame_OutDw,
  fun m ρ _ => Cert.BranchDy.Gen.frame m ρ, fun m ρ _ => Cert.BranchDyIdeal.Gen.frame m ρ, frame_BranchDy,
  fun m ρ _ => Cert.BranchDw.Gen.frame m ρ, fun m ρ _ => Cert.BranchDwIdeal.Gen.frame m ρ, frame_BranchDw,
  fun m ρ _ => Cert.Merge.Gen.frame m ρ, fun m ρ _ => Cert.MergeIdeal.Gen.frame m ρ, frame_Merge,
  fun m ρ _ => Cert.MergeBwd.Gen.frame m ρ, fun m ρ _ => Cert.MergeBwdIdeal.Gen.frame m ρ, frame_MergeBwd,
  fun m ρ _ => Cert.Norm.Gen.frame m ρ, fun m ρ _ => Cert.NormIdeal.Gen.frame m ρ, frame_Norm,
  fun m ρ _ => Cert.Combine.Gen.frame m ρ, fun m ρ _ => Cert.CombineIdeal.Gen.frame m ρ, frame_Combine,
  fun m ρ _ => Cert.AdamSmall.Gen.frame m ρ, fun m ρ _ => Cert.AdamSmallIdeal.Gen.frame m ρ, frame_AdamSmall,
  fun m ρ _ => Cert.AdamConv.Gen.frame m ρ, fun m ρ _ => Cert.AdamConvIdeal.Gen.frame m ρ, frame_AdamConv,
  fun m ρ _ => Cert.NormBwd.Gen.frame m ρ, fun m ρ _ => Cert.NormBwdIdeal.Gen.frame m ρ, frame_NormBwd,
  fun m ρ _ => Cert.LossHead.Gen.frame m ρ, fun m ρ _ => Cert.LossHeadIdeal.Gen.frame m ρ, frame_LossHead,
  trivial, algebraic, trivial, algebraic_ProjDw,
  trivial, algebraic_ProjDh,
  trivial, algebraic_GateDw,
  trivial, algebraic_GateDh,
  trivial, algebraic_Proj,
  trivial, algebraic_Gates,
  trivial, algebraic_Out,
  trivial, algebraic_OutDx,
  trivial, algebraic_OutDw,
  trivial, algebraic_BranchDy,
  trivial, algebraic_BranchDw,
  trivial, algebraic_Merge,
  trivial, algebraic_MergeBwd,
  trivial, algebraic_Norm,
  trivial, algebraic_Combine,
  trivial, algebraic_AdamSmall,
  trivial, algebraic_AdamConv,
  trivial, algebraic_NormBwd,
  trivial, algebraic_LossHead⟩

end Cert.Proof

end
